-- ==== Defs.lean ====
def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))) = (fun _ => 1#1)

def Pre_DAct (m : (ℓ : Loc Cert.DAct.nD Cert.DAct.τ Cert.DAct.sig) → Buf (Elt Bits) ℓ) : Prop :=
  True

def Pre_DActIdeal (m : (ℓ : Loc Cert.DActIdeal.nD Cert.DActIdeal.τ Cert.DActIdeal.sig) → Buf (Elt Ideal) ℓ) : Prop :=
  True

def Pre_DActRefIdeal (m : (ℓ : Loc Cert.DActRefIdeal.nD Cert.DActRefIdeal.τ Cert.DActRefIdeal.sig) → Buf (Elt Ideal) ℓ) : Prop :=
  True

def Pre_DH2 (m : (ℓ : Loc Cert.DH2.nD Cert.DH2.τ Cert.DH2.sig) → Buf (Elt Bits) ℓ) : Prop :=
  True

def Pre_DH2Ideal (m : (ℓ : Loc Cert.DH2Ideal.nD Cert.DH2Ideal.τ Cert.DH2Ideal.sig) → Buf (Elt Ideal) ℓ) : Prop :=
  True

def Pre_DH2RefIdeal (m : (ℓ : Loc Cert.DH2RefIdeal.nD Cert.DH2RefIdeal.τ Cert.DH2RefIdeal.sig) → Buf (Elt Ideal) ℓ) : Prop :=
  True

def Pre_DMix (m : (ℓ : Loc Cert.DMix.nD Cert.DMix.τ Cert.DMix.sig) → Buf (Elt Bits) ℓ) : Prop :=
  True

def Pre_DMixIdeal (m : (ℓ : Loc Cert.DMixIdeal.nD Cert.DMixIdeal.τ Cert.DMixIdeal.sig) → Buf (Elt Ideal) ℓ) : Prop :=
  True

def Pre_DMixRefIdeal (m : (ℓ : Loc Cert.DMixRefIdeal.nD Cert.DMixRefIdeal.τ Cert.DMixRefIdeal.sig) → Buf (Elt Ideal) ℓ) : Prop :=
  True

def Pre_DA (m : (ℓ : Loc Cert.DA.nD Cert.DA.τ Cert.DA.sig) → Buf (Elt Bits) ℓ) : Prop :=
  True

def Pre_DAIdeal (m : (ℓ : Loc Cert.DAIdeal.nD Cert.DAIdeal.τ Cert.DAIdeal.sig) → Buf (Elt Ideal) ℓ) : Prop :=
  True

def Pre_DARefIdeal (m : (ℓ : Loc Cert.DARefIdeal.nD Cert.DARefIdeal.τ Cert.DARefIdeal.sig) → Buf (Elt Ideal) ℓ) : Prop :=
  True

def Pre_DO (m : (ℓ : Loc Cert.DO.nD Cert.DO.τ Cert.DO.sig) → Buf (Elt Bits) ℓ) : Prop :=
  True

def Pre_DOIdeal (m : (ℓ : Loc Cert.DOIdeal.nD Cert.DOIdeal.τ Cert.DOIdeal.sig) → Buf (Elt Ideal) ℓ) : Prop :=
  True

def Pre_DORefIdeal (m : (ℓ : Loc Cert.DORefIdeal.nD Cert.DORefIdeal.τ Cert.DORefIdeal.sig) → Buf (Elt Ideal) ℓ) : Prop :=
  True

def Pre_DH (m : (ℓ : Loc Cert.DH.nD Cert.DH.τ Cert.DH.sig) → Buf (Elt Bits) ℓ) : Prop :=
  True

def Pre_DHIdeal (m : (ℓ : Loc Cert.DHIdeal.nD Cert.DHIdeal.τ Cert.DHIdeal.sig) → Buf (Elt Ideal) ℓ) : Prop :=
  True

def Pre_DHRefIdeal (m : (ℓ : Loc Cert.DHRefIdeal.nD Cert.DHRefIdeal.τ Cert.DHRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_OutConv (m : (ℓ : Loc Cert.OutConv.nD Cert.OutConv.τ Cert.OutConv.sig) → Buf (Elt Bits) ℓ) : Prop :=
  True

def Pre_OutConvIdeal (m : (ℓ : Loc Cert.OutConvIdeal.nD Cert.OutConvIdeal.τ Cert.OutConvIdeal.sig) → Buf (Elt Ideal) ℓ) : Prop :=
  True

def Pre_OutConvRefIdeal (m : (ℓ : Loc Cert.OutConvRefIdeal.nD Cert.OutConvRefIdeal.τ Cert.OutConvRefIdeal.sig) → Buf (Elt Ideal) ℓ) : Prop :=
  True

def Pre_OutAttn (m : (ℓ : Loc Cert.OutAttn.nD Cert.OutAttn.τ Cert.OutAttn.sig) → Buf (Elt Bits) ℓ) : Prop :=
  True

def Pre_OutAttnIdeal (m : (ℓ : Loc Cert.OutAttnIdeal.nD Cert.OutAttnIdeal.τ Cert.OutAttnIdeal.sig) → Buf (Elt Ideal) ℓ) : Prop :=
  True

def Pre_OutAttnRefIdeal (m : (ℓ : Loc Cert.OutAttnRefIdeal.nD Cert.OutAttnRefIdeal.τ Cert.OutAttnRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_GUpSend (m : (ℓ : Loc Cert.GUpSend.nD Cert.GUpSend.τ Cert.GUpSend.sig) → Buf (Elt Bits) ℓ) : Prop :=
  True

def Pre_GUpSendIdeal (m : (ℓ : Loc Cert.GUpSendIdeal.nD Cert.GUpSendIdeal.τ Cert.GUpSendIdeal.sig) → Buf (Elt Ideal) ℓ) : Prop :=
  True

def Pre_GUpSendRefIdeal (m : (ℓ : Loc Cert.GUpSendRefIdeal.nD Cert.GUpSendRefIdeal.τ Cert.GUpSendRefIdeal.sig) → Buf (Elt Ideal) ℓ) : Prop :=
  True

def Pre_GUpKeep (m : (ℓ : Loc Cert.GUpKeep.nD Cert.GUpKeep.τ Cert.GUpKeep.sig) → Buf (Elt Bits) ℓ) : Prop :=
  True

def Pre_GUpKeepIdeal (m : (ℓ : Loc Cert.GUpKeepIdeal.nD Cert.GUpKeepIdeal.τ Cert.GUpKeepIdeal.sig) → Buf (Elt Ideal) ℓ) : Prop :=
  True

def Pre_GUpKeepRefIdeal (m : (ℓ : Loc Cert.GUpKeepRefIdeal.nD Cert.GUpKeepRefIdeal.τ Cert.GUpKeepRefIdeal.sig) → Buf (Elt Ideal) ℓ) : Prop :=
  True

def Pre_GDownSend (m : (ℓ : Loc Cert.GDownSend.nD Cert.GDownSend.τ Cert.GDownSend.sig) → Buf (Elt Bits) ℓ) : Prop :=
  True

def Pre_GDownSendIdeal (m : (ℓ : Loc Cert.GDownSendIdeal.nD Cert.GDownSendIdeal.τ Cert.GDownSendIdeal.sig) → Buf (Elt Ideal) ℓ) : Prop :=
  True

def Pre_GDownSendRefIdeal (m : (ℓ : Loc Cert.GDownSendRefIdeal.nD Cert.GDownSendRefIdeal.τ Cert.GDownSendRefIdeal.sig) → Buf (Elt Ideal) ℓ) : Prop :=
  True

def Pre_GDownKeep (m : (ℓ : Loc Cert.GDownKeep.nD Cert.GDownKeep.τ Cert.GDownKeep.sig) → Buf (Elt Bits) ℓ) : Prop :=
  True

def Pre_GDownKeepIdeal (m : (ℓ : Loc Cert.GDownKeepIdeal.nD Cert.GDownKeepIdeal.τ Cert.GDownKeepIdeal.sig) → Buf (Elt Ideal) ℓ) : Prop :=
  True

def Pre_GDownKeepRefIdeal (m : (ℓ : Loc Cert.GDownKeepRefIdeal.nD Cert.GDownKeepRefIdeal.τ Cert.GDownKeepRefIdeal.sig) → Buf (Elt Ideal) ℓ) : Prop :=
  True

def Pre_GOutConvSend (m : (ℓ : Loc Cert.GOutConvSend.nD Cert.GOutConvSend.τ Cert.GOutConvSend.sig) → Buf (Elt Bits) ℓ) : Prop :=
  True

def Pre_GOutConvSendIdeal (m : (ℓ : Loc Cert.GOutConvSendIdeal.nD Cert.GOutConvSendIdeal.τ Cert.GOutConvSendIdeal.sig) → Buf (Elt Ideal) ℓ) : Prop :=
  True

def Pre_GOutConvSendRefIdeal (m : (ℓ : Loc Cert.GOutConvSendRefIdeal.nD Cert.GOutConvSendRefIdeal.τ Cert.GOutConvSendRefIdeal.sig) → Buf (Elt Ideal) ℓ) : Prop :=
  True

def Pre_GOutConvKeep (m : (ℓ : Loc Cert.GOutConvKeep.nD Cert.GOutConvKeep.τ Cert.GOutConvKeep.sig) → Buf (Elt Bits) ℓ) : Prop :=
  True

def Pre_GOutConvKeepIdeal (m : (ℓ : Loc Cert.GOutConvKeepIdeal.nD Cert.GOutConvKeepIdeal.τ Cert.GOutConvKeepIdeal.sig) → Buf (Elt Ideal) ℓ) : Prop :=
  True

def Pre_GOutConvKeepRefIdeal (m : (ℓ : Loc Cert.GOutConvKeepRefIdeal.nD Cert.GOutConvKeepRefIdeal.τ Cert.GOutConvKeepRefIdeal.sig) → Buf (Elt Ideal) ℓ) : Prop :=
  True

def Pre_GOutAttnSend (m : (ℓ : Loc Cert.GOutAttnSend.nD Cert.GOutAttnSend.τ Cert.GOutAttnSend.sig) → Buf (Elt Bits) ℓ) : Prop :=
  True

def Pre_GOutAttnSendIdeal (m : (ℓ : Loc Cert.GOutAttnSendIdeal.nD Cert.GOutAttnSendIdeal.τ Cert.GOutAttnSendIdeal.sig) → Buf (Elt Ideal) ℓ) : Prop :=
  True

def Pre_GOutAttnSendRefIdeal (m : (ℓ : Loc Cert.GOutAttnSendRefIdeal.nD Cert.GOutAttnSendRefIdeal.τ Cert.GOutAttnSendRefIdeal.sig) → Buf (Elt Ideal) ℓ) : Prop :=
  True

def Pre_GOutAttnKeep (m : (ℓ : Loc Cert.GOutAttnKeep.nD Cert.GOutAttnKeep.τ Cert.GOutAttnKeep.sig) → Buf (Elt Bits) ℓ) : Prop :=
  True

def Pre_GOutAttnKeepIdeal (m : (ℓ : Loc Cert.GOutAttnKeepIdeal.nD Cert.GOutAttnKeepIdeal.τ Cert.GOutAttnKeepIdeal.sig) → Buf (Elt Ideal) ℓ) : Prop :=
  True

def Pre_GOutAttnKeepRefIdeal (m : (ℓ : Loc Cert.GOutAttnKeepRefIdeal.nD Cert.GOutAttnKeepRefIdeal.τ Cert.GOutAttnKeepRefIdeal.sig) → Buf (Elt Ideal) ℓ) : Prop :=
  True

def Pre_GMergeSend (m : (ℓ : Loc Cert.GMergeSend.nD Cert.GMergeSend.τ Cert.GMergeSend.sig) → Buf (Elt Bits) ℓ) : Prop :=
  True

def Pre_GMergeSendIdeal (m : (ℓ : Loc Cert.GMergeSendIdeal.nD Cert.GMergeSendIdeal.τ Cert.GMergeSendIdeal.sig) → Buf (Elt Ideal) ℓ) : Prop :=
  True

def Pre_GMergeSendRefIdeal (m : (ℓ : Loc Cert.GMergeSendRefIdeal.nD Cert.GMergeSendRefIdeal.τ Cert.GMergeSendRefIdeal.sig) → Buf (Elt Ideal) ℓ) : Prop :=
  True

def Pre_GMergeKeep (m : (ℓ : Loc Cert.GMergeKeep.nD Cert.GMergeKeep.τ Cert.GMergeKeep.sig) → Buf (Elt Bits) ℓ) : Prop :=
  True

def Pre_GMergeKeepIdeal (m : (ℓ : Loc Cert.GMergeKeepIdeal.nD Cert.GMergeKeepIdeal.τ Cert.GMergeKeepIdeal.sig) → Buf (Elt Ideal) ℓ) : Prop :=
  True

def Pre_GMergeKeepRefIdeal (m : (ℓ : Loc Cert.GMergeKeepRefIdeal.nD Cert.GMergeKeepRefIdeal.τ Cert.GMergeKeepRefIdeal.sig) → Buf (Elt Ideal) ℓ) : Prop :=
  True

def Pre_GInSend (m : (ℓ : Loc Cert.GInSend.nD Cert.GInSend.τ Cert.GInSend.sig) → Buf (Elt Bits) ℓ) : Prop :=
  True

def Pre_GInSendIdeal (m : (ℓ : Loc Cert.GInSendIdeal.nD Cert.GInSendIdeal.τ Cert.GInSendIdeal.sig) → Buf (Elt Ideal) ℓ) : Prop :=
  True

def Pre_GInSendRefIdeal (m : (ℓ : Loc Cert.GInSendRefIdeal.nD Cert.GInSendRefIdeal.τ Cert.GInSendRefIdeal.sig) → Buf (Elt Ideal) ℓ) : Prop :=
  True

def Pre_GInKeep (m : (ℓ : Loc Cert.GInKeep.nD Cert.GInKeep.τ Cert.GInKeep.sig) → Buf (Elt Bits) ℓ) : Prop :=
  True

def Pre_GInKeepIdeal (m : (ℓ : Loc Cert.GInKeepIdeal.nD Cert.GInKeepIdeal.τ Cert.GInKeepIdeal.sig) → Buf (Elt Ideal) ℓ) : Prop :=
  True

def Pre_GInKeepRefIdeal (m : (ℓ : Loc Cert.GInKeepRefIdeal.nD Cert.GInKeepRefIdeal.τ Cert.GInKeepRefIdeal.sig) → Buf (Elt Ideal) ℓ) : Prop :=
  True

def Pre_Small (m : (ℓ : Loc Cert.Small.nD Cert.Small.τ Cert.Small.sig) → Buf (Elt Bits) ℓ) : Prop :=
  True

def Pre_SmallIdeal (m : (ℓ : Loc Cert.SmallIdeal.nD Cert.SmallIdeal.τ Cert.SmallIdeal.sig) → Buf (Elt Ideal) ℓ) : Prop :=
  True

def Pre_SmallRefIdeal (m : (ℓ : Loc Cert.SmallRefIdeal.nD Cert.SmallRefIdeal.τ Cert.SmallRefIdeal.sig) → Buf (Elt Ideal) ℓ) : Prop :=
  True

def Pre_UUp (m : (ℓ : Loc Cert.UUp.nD Cert.UUp.τ Cert.UUp.sig) → Buf (Elt Bits) ℓ) : Prop :=
  True

def Pre_UUpIdeal (m : (ℓ : Loc Cert.UUpIdeal.nD Cert.UUpIdeal.τ Cert.UUpIdeal.sig) → Buf (Elt Ideal) ℓ) : Prop :=
  True

def Pre_UUpRefIdeal (m : (ℓ : Loc Cert.UUpRefIdeal.nD Cert.UUpRefIdeal.τ Cert.UUpRefIdeal.sig) → Buf (Elt Ideal) ℓ) : Prop :=
  True

def Pre_UIn (m : (ℓ : Loc Cert.UIn.nD Cert.UIn.τ Cert.UIn.sig) → Buf (Elt Bits) ℓ) : Prop :=
  True

def Pre_UInIdeal (m : (ℓ : Loc Cert.UInIdeal.nD Cert.UInIdeal.τ Cert.UInIdeal.sig) → Buf (Elt Ideal) ℓ) : Prop :=
  True

def Pre_UInRefIdeal (m : (ℓ : Loc Cert.UInRefIdeal.nD Cert.UInRefIdeal.τ Cert.UInRefIdeal.sig) → Buf (Elt Ideal) ℓ) : Prop :=
  True

def Pre_UMerge (m : (ℓ : Loc Cert.UMerge.nD Cert.UMerge.τ Cert.UMerge.sig) → Buf (Elt Bits) ℓ) : Prop :=
  True

def Pre_UMergeIdeal (m : (ℓ : Loc Cert.UMergeIdeal.nD Cert.UMergeIdeal.τ Cert.UMergeIdeal.sig) → Buf (Elt Ideal) ℓ) : Prop :=
  True

def Pre_UMergeRefIdeal (m : (ℓ : Loc Cert.UMergeRefIdeal.nD Cert.UMergeRefIdeal.τ Cert.UMergeRefIdeal.sig) → Buf (Elt Ideal) ℓ) : Prop :=
  True

def Pre_UOutConv (m : (ℓ : Loc Cert.UOutConv.nD Cert.UOutConv.τ Cert.UOutConv.sig) → Buf (Elt Bits) ℓ) : Prop :=
  True

def Pre_UOutConvIdeal (m : (ℓ : Loc Cert.UOutConvIdeal.nD Cert.UOutConvIdeal.τ Cert.UOutConvIdeal.sig) → Buf (Elt Ideal) ℓ) : Prop :=
  True

def Pre_UOutConvRefIdeal (m : (ℓ : Loc Cert.UOutConvRefIdeal.nD Cert.UOutConvRefIdeal.τ Cert.UOutConvRefIdeal.sig) → Buf (Elt Ideal) ℓ) : Prop :=
  True

def Pre_UOutAttn (m : (ℓ : Loc Cert.UOutAttn.nD Cert.UOutAttn.τ Cert.UOutAttn.sig) → Buf (Elt Bits) ℓ) : Prop :=
  True

def Pre_UOutAttnIdeal (m : (ℓ : Loc Cert.UOutAttnIdeal.nD Cert.UOutAttnIdeal.τ Cert.UOutAttnIdeal.sig) → Buf (Elt Ideal) ℓ) : Prop :=
  True

def Pre_UOutAttnRefIdeal (m : (ℓ : Loc Cert.UOutAttnRefIdeal.nD Cert.UOutAttnRefIdeal.τ Cert.UOutAttnRefIdeal.sig) → Buf (Elt Ideal) ℓ) : Prop :=
  True

def Pre_UDown (m : (ℓ : Loc Cert.UDown.nD Cert.UDown.τ Cert.UDown.sig) → Buf (Elt Bits) ℓ) : Prop :=
  True

def Pre_UDownIdeal (m : (ℓ : Loc Cert.UDownIdeal.nD Cert.UDownIdeal.τ Cert.UDownIdeal.sig) → Buf (Elt Ideal) ℓ) : Prop :=
  True

def Pre_UDownRefIdeal (m : (ℓ : Loc Cert.UDownRefIdeal.nD Cert.UDownRefIdeal.τ Cert.UDownRefIdeal.sig) → Buf (Elt Ideal) ℓ) : Prop :=
  True

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_DAct [hDAct : Cert.DAct.Facts] : Prop :=
  ∀ (m : (ℓ : Loc Cert.DAct.nD Cert.DAct.τ Cert.DAct.sig) → Buf (Elt Bits) ℓ) (g : Dev Cert.DAct.nD → PrngReg), Pre_DAct m →
    θ_run (Cert.DAct.defs (F := Bits)) (onTc (τ := Cert.DAct.τ) (Cert.DAct.main (F := Bits))) ⟨m, fun _ => 0, g⟩ (fun r => (∀ c : Dev Cert.DAct.nD,
      r.2.mem ((c.tc : Thread Cert.DAct.nD Cert.DAct.τ).loc Cert.DAct.main_arg0) = m ((c.tc : Thread Cert.DAct.nD Cert.DAct.τ).loc Cert.DAct.main_arg0)
      ∧ r.2.mem ((c.tc : Thread Cert.DAct.nD Cert.DAct.τ).loc Cert.DAct.main_arg1) = m ((c.tc : Thread Cert.DAct.nD Cert.DAct.τ).loc Cert.DAct.main_arg1)
      ∧ r.2.mem ((c.tc : Thread Cert.DAct.nD Cert.DAct.τ).loc Cert.DAct.main_arg2) = m ((c.tc : Thread Cert.DAct.nD Cert.DAct.τ).loc Cert.DAct.main_arg2))
      ∧ r.2.sem = fun _ => 0)

def quiescent_DActIdeal [hDActIdeal : Cert.DActIdeal.Facts] : Prop :=
  ∀ (m : (ℓ : Loc Cert.DActIdeal.nD Cert.DActIdeal.τ Cert.DActIdeal.sig) → Buf (Elt Ideal) ℓ) (g : Dev Cert.DActIdeal.nD → PrngReg), Pre_DActIdeal m →
    θ_run (Cert.DActIdeal.defs (F := Ideal)) (onTc (τ := Cert.DActIdeal.τ) (Cert.DActIdeal.main (F := Ideal))) ⟨m, fun _ => 0, g⟩ (fun r => (∀ c : Dev Cert.DActIdeal.nD,
      r.2.mem ((c.tc : Thread Cert.DActIdeal.nD Cert.DActIdeal.τ).loc Cert.DActIdeal.main_arg0) = m ((c.tc : Thread Cert.DActIdeal.nD Cert.DActIdeal.τ).loc Cert.DActIdeal.main_arg0)
      ∧ r.2.mem ((c.tc : Thread Cert.DActIdeal.nD Cert.DActIdeal.τ).loc Cert.DActIdeal.main_arg1) = m ((c.tc : Thread Cert.DActIdeal.nD Cert.DActIdeal.τ).loc Cert.DActIdeal.main_arg1)
      ∧ r.2.mem ((c.tc : Thread Cert.DActIdeal.nD Cert.DActIdeal.τ).loc Cert.DActIdeal.main_arg2) = m ((c.tc : Thread Cert.DActIdeal.nD Cert.DActIdeal.τ).loc Cert.DActIdeal.main_arg2))
      ∧ r.2.sem = fun _ => 0)

def quiescent_DActRefIdeal [hDActRefIdeal : Cert.DActRefIdeal.Facts] : Prop :=
  ∀ (m : (ℓ : Loc Cert.DActRefIdeal.nD Cert.DActRefIdeal.τ Cert.DActRefIdeal.sig) → Buf (Elt Ideal) ℓ) (g : Dev Cert.DActRefIdeal.nD → PrngReg), Pre_DActRefIdeal m →
    θ_run (Cert.DActRefIdeal.defs (F := Ideal)) (onTc (τ := Cert.DActRefIdeal.τ) (Cert.DActRefIdeal.main (F := Ideal))) ⟨m, fun _ => 0, g⟩ (fun r => (∀ c : Dev Cert.DActRefIdeal.nD,
      r.2.mem ((c.tc : Thread Cert.DActRefIdeal.nD Cert.DActRefIdeal.τ).loc Cert.DActRefIdeal.main_arg0) = m ((c.tc : Thread Cert.DActRefIdeal.nD Cert.DActRefIdeal.τ).loc Cert.DActRefIdeal.main_arg0)
      ∧ r.2.mem ((c.tc : Thread Cert.DActRefIdeal.nD Cert.DActRefIdeal.τ).loc Cert.DActRefIdeal.main_arg1) = m ((c.tc : Thread Cert.DActRefIdeal.nD Cert.DActRefIdeal.τ).loc Cert.DActRefIdeal.main_arg1)
      ∧ r.2.mem ((c.tc : Thread Cert.DActRefIdeal.nD Cert.DActRefIdeal.τ).loc Cert.DActRefIdeal.main_arg2) = m ((c.tc : Thread Cert.DActRefIdeal.nD Cert.DActRefIdeal.τ).loc Cert.DActRefIdeal.main_arg2))
      ∧ r.2.sem = fun _ => 0)

def quiescent_DH2 [hDH2 : Cert.DH2.Facts] : Prop :=
  ∀ (m : (ℓ : Loc Cert.DH2.nD Cert.DH2.τ Cert.DH2.sig) → Buf (Elt Bits) ℓ) (g : Dev Cert.DH2.nD → PrngReg), Pre_DH2 m →
    θ_run (Cert.DH2.defs (F := Bits)) (onTc (τ := Cert.DH2.τ) (Cert.DH2.main (F := Bits))) ⟨m, fun _ => 0, g⟩ (fun r => (∀ c : Dev Cert.DH2.nD,
      r.2.mem ((c.tc : Thread Cert.DH2.nD Cert.DH2.τ).loc Cert.DH2.main_arg0) = m ((c.tc : Thread Cert.DH2.nD Cert.DH2.τ).loc Cert.DH2.main_arg0)
      ∧ r.2.mem ((c.tc : Thread Cert.DH2.nD Cert.DH2.τ).loc Cert.DH2.main_arg1) = m ((c.tc : Thread Cert.DH2.nD Cert.DH2.τ).loc Cert.DH2.main_arg1))
      ∧ r.2.sem = fun _ => 0)

def quiescent_DH2Ideal [hDH2Ideal : Cert.DH2Ideal.Facts] : Prop :=
  ∀ (m : (ℓ : Loc Cert.DH2Ideal.nD Cert.DH2Ideal.τ Cert.DH2Ideal.sig) → Buf (Elt Ideal) ℓ) (g : Dev Cert.DH2Ideal.nD → PrngReg), Pre_DH2Ideal m →
    θ_run (Cert.DH2Ideal.defs (F := Ideal)) (onTc (τ := Cert.DH2Ideal.τ) (Cert.DH2Ideal.main (F := Ideal))) ⟨m, fun _ => 0, g⟩ (fun r => (∀ c : Dev Cert.DH2Ideal.nD,
      r.2.mem ((c.tc : Thread Cert.DH2Ideal.nD Cert.DH2Ideal.τ).loc Cert.DH2Ideal.main_arg0) = m ((c.tc : Thread Cert.DH2Ideal.nD Cert.DH2Ideal.τ).loc Cert.DH2Ideal.main_arg0)
      ∧ r.2.mem ((c.tc : Thread Cert.DH2Ideal.nD Cert.DH2Ideal.τ).loc Cert.DH2Ideal.main_arg1) = m ((c.tc : Thread Cert.DH2Ideal.nD Cert.DH2Ideal.τ).loc Cert.DH2Ideal.main_arg1))
      ∧ r.2.sem = fun _ => 0)

def quiescent_DH2RefIdeal [hDH2RefIdeal : Cert.DH2RefIdeal.Facts] : Prop :=
  ∀ (m : (ℓ : Loc Cert.DH2RefIdeal.nD Cert.DH2RefIdeal.τ Cert.DH2RefIdeal.sig) → Buf (Elt Ideal) ℓ) (g : Dev Cert.DH2RefIdeal.nD → PrngReg), Pre_DH2RefIdeal m →
    θ_run (Cert.DH2RefIdeal.defs (F := Ideal)) (onTc (τ := Cert.DH2RefIdeal.τ) (Cert.DH2RefIdeal.main (F := Ideal))) ⟨m, fun _ => 0, g⟩ (fun r => (∀ c : Dev Cert.DH2RefIdeal.nD,
      r.2.mem ((c.tc : Thread Cert.DH2RefIdeal.nD Cert.DH2RefIdeal.τ).loc Cert.DH2RefIdeal.main_arg0) = m ((c.tc : Thread Cert.DH2RefIdeal.nD Cert.DH2RefIdeal.τ).loc Cert.DH2RefIdeal.main_arg0)
      ∧ r.2.mem ((c.tc : Thread Cert.DH2RefIdeal.nD Cert.DH2RefIdeal.τ).loc Cert.DH2RefIdeal.main_arg1) = m ((c.tc : Thread Cert.DH2RefIdeal.nD Cert.DH2RefIdeal.τ).loc Cert.DH2RefIdeal.main_arg1))
      ∧ r.2.sem = fun _ => 0)

def quiescent_DMix [hDMix : Cert.DMix.Facts] : Prop :=
  ∀ (m : (ℓ : Loc Cert.DMix.nD Cert.DMix.τ Cert.DMix.sig) → Buf (Elt Bits) ℓ) (g : Dev Cert.DMix.nD → PrngReg), Pre_DMix m →
    θ_run (Cert.DMix.defs (F := Bits)) (onTc (τ := Cert.DMix.τ) (Cert.DMix.main (F := Bits))) ⟨m, fun _ => 0, g⟩ (fun r => (∀ c : Dev Cert.DMix.nD,
      r.2.mem ((c.tc : Thread Cert.DMix.nD Cert.DMix.τ).loc Cert.DMix.main_arg0) = m ((c.tc : Thread Cert.DMix.nD Cert.DMix.τ).loc Cert.DMix.main_arg0)
      ∧ r.2.mem ((c.tc : Thread Cert.DMix.nD Cert.DMix.τ).loc Cert.DMix.main_arg1) = m ((c.tc : Thread Cert.DMix.nD Cert.DMix.τ).loc Cert.DMix.main_arg1))
      ∧ r.2.sem = fun _ => 0)

def quiescent_DMixIdeal [hDMixIdeal : Cert.DMixIdeal.Facts] : Prop :=
  ∀ (m : (ℓ : Loc Cert.DMixIdeal.nD Cert.DMixIdeal.τ Cert.DMixIdeal.sig) → Buf (Elt Ideal) ℓ) (g : Dev Cert.DMixIdeal.nD → PrngReg), Pre_DMixIdeal m →
    θ_run (Cert.DMixIdeal.defs (F := Ideal)) (onTc (τ := Cert.DMixIdeal.τ) (Cert.DMixIdeal.main (F := Ideal))) ⟨m, fun _ => 0, g⟩ (fun r => (∀ c : Dev Cert.DMixIdeal.nD,
      r.2.mem ((c.tc : Thread Cert.DMixIdeal.nD Cert.DMixIdeal.τ).loc Cert.DMixIdeal.main_arg0) = m ((c.tc : Thread Cert.DMixIdeal.nD Cert.DMixIdeal.τ).loc Cert.DMixIdeal.main_arg0)
      ∧ r.2.mem ((c.tc : Thread Cert.DMixIdeal.nD Cert.DMixIdeal.τ).loc Cert.DMixIdeal.main_arg1) = m ((c.tc : Thread Cert.DMixIdeal.nD Cert.DMixIdeal.τ).loc Cert.DMixIdeal.main_arg1))
      ∧ r.2.sem = fun _ => 0)

def quiescent_DMixRefIdeal [hDMixRefIdeal : Cert.DMixRefIdeal.Facts] : Prop :=
  ∀ (m : (ℓ : Loc Cert.DMixRefIdeal.nD Cert.DMixRefIdeal.τ Cert.DMixRefIdeal.sig) → Buf (Elt Ideal) ℓ) (g : Dev Cert.DMixRefIdeal.nD → PrngReg), Pre_DMixRefIdeal m →
    θ_run (Cert.DMixRefIdeal.defs (F := Ideal)) (onTc (τ := Cert.DMixRefIdeal.τ) (Cert.DMixRefIdeal.main (F := Ideal))) ⟨m, fun _ => 0, g⟩ (fun r => (∀ c : Dev Cert.DMixRefIdeal.nD,
      r.2.mem ((c.tc : Thread Cert.DMixRefIdeal.nD Cert.DMixRefIdeal.τ).loc Cert.DMixRefIdeal.main_arg0) = m ((c.tc : Thread Cert.DMixRefIdeal.nD Cert.DMixRefIdeal.τ).loc Cert.DMixRefIdeal.main_arg0)
      ∧ r.2.mem ((c.tc : Thread Cert.DMixRefIdeal.nD Cert.DMixRefIdeal.τ).loc Cert.DMixRefIdeal.main_arg1) = m ((c.tc : Thread Cert.DMixRefIdeal.nD Cert.DMixRefIdeal.τ).loc Cert.DMixRefIdeal.main_arg1))
      ∧ r.2.sem = fun _ => 0)

def quiescent_DA [hDA : Cert.DA.Facts] : Prop :=
  ∀ (m : (ℓ : Loc Cert.DA.nD Cert.DA.τ Cert.DA.sig) → Buf (Elt Bits) ℓ) (g : Dev Cert.DA.nD → PrngReg), Pre_DA m →
    θ_run (Cert.DA.defs (F := Bits)) (onTc (τ := Cert.DA.τ) (Cert.DA.main (F := Bits))) ⟨m, fun _ => 0, g⟩ (fun r => (∀ c : Dev Cert.DA.nD,
      r.2.mem ((c.tc : Thread Cert.DA.nD Cert.DA.τ).loc Cert.DA.main_arg0) = m ((c.tc : Thread Cert.DA.nD Cert.DA.τ).loc Cert.DA.main_arg0)
      ∧ r.2.mem ((c.tc : Thread Cert.DA.nD Cert.DA.τ).loc Cert.DA.main_arg1) = m ((c.tc : Thread Cert.DA.nD Cert.DA.τ).loc Cert.DA.main_arg1))
      ∧ r.2.sem = fun _ => 0)

def quiescent_DAIdeal [hDAIdeal : Cert.DAIdeal.Facts] : Prop :=
  ∀ (m : (ℓ : Loc Cert.DAIdeal.nD Cert.DAIdeal.τ Cert.DAIdeal.sig) → Buf (Elt Ideal) ℓ) (g : Dev Cert.DAIdeal.nD → PrngReg), Pre_DAIdeal m →
    θ_run (Cert.DAIdeal.defs (F := Ideal)) (onTc (τ := Cert.DAIdeal.τ) (Cert.DAIdeal.main (F := Ideal))) ⟨m, fun _ => 0, g⟩ (fun r => (∀ c : Dev Cert.DAIdeal.nD,
      r.2.mem ((c.tc : Thread Cert.DAIdeal.nD Cert.DAIdeal.τ).loc Cert.DAIdeal.main_arg0) = m ((c.tc : Thread Cert.DAIdeal.nD Cert.DAIdeal.τ).loc Cert.DAIdeal.main_arg0)
      ∧ r.2.mem ((c.tc : Thread Cert.DAIdeal.nD Cert.DAIdeal.τ).loc Cert.DAIdeal.main_arg1) = m ((c.tc : Thread Cert.DAIdeal.nD Cert.DAIdeal.τ).loc Cert.DAIdeal.main_arg1))
      ∧ r.2.sem = fun _ => 0)

def quiescent_DARefIdeal [hDARefIdeal : Cert.DARefIdeal.Facts] : Prop :=
  ∀ (m : (ℓ : Loc Cert.DARefIdeal.nD Cert.DARefIdeal.τ Cert.DARefIdeal.sig) → Buf (Elt Ideal) ℓ) (g : Dev Cert.DARefIdeal.nD → PrngReg), Pre_DARefIdeal m →
    θ_run (Cert.DARefIdeal.defs (F := Ideal)) (onTc (τ := Cert.DARefIdeal.τ) (Cert.DARefIdeal.main (F := Ideal))) ⟨m, fun _ => 0, g⟩ (fun r => (∀ c : Dev Cert.DARefIdeal.nD,
      r.2.mem ((c.tc : Thread Cert.DARefIdeal.nD Cert.DARefIdeal.τ).loc Cert.DARefIdeal.main_arg0) = m ((c.tc : Thread Cert.DARefIdeal.nD Cert.DARefIdeal.τ).loc Cert.DARefIdeal.main_arg0)
      ∧ r.2.mem ((c.tc : Thread Cert.DARefIdeal.nD Cert.DARefIdeal.τ).loc Cert.DARefIdeal.main_arg1) = m ((c.tc : Thread Cert.DARefIdeal.nD Cert.DARefIdeal.τ).loc Cert.DARefIdeal.main_arg1))
      ∧ r.2.sem = fun _ => 0)

def quiescent_DO [hDO : Cert.DO.Facts] : Prop :=
  ∀ (m : (ℓ : Loc Cert.DO.nD Cert.DO.τ Cert.DO.sig) → Buf (Elt Bits) ℓ) (g : Dev Cert.DO.nD → PrngReg), Pre_DO m →
    θ_run (Cert.DO.defs (F := Bits)) (onTc (τ := Cert.DO.τ) (Cert.DO.main (F := Bits))) ⟨m, fun _ => 0, g⟩ (fun r => (∀ c : Dev Cert.DO.nD,
      r.2.mem ((c.tc : Thread Cert.DO.nD Cert.DO.τ).loc Cert.DO.main_arg0) = m ((c.tc : Thread Cert.DO.nD Cert.DO.τ).loc Cert.DO.main_arg0)
      ∧ r.2.mem ((c.tc : Thread Cert.DO.nD Cert.DO.τ).loc Cert.DO.main_arg1) = m ((c.tc : Thread Cert.DO.nD Cert.DO.τ).loc Cert.DO.main_arg1))
      ∧ r.2.sem = fun _ => 0)

def quiescent_DOIdeal [hDOIdeal : Cert.DOIdeal.Facts] : Prop :=
  ∀ (m : (ℓ : Loc Cert.DOIdeal.nD Cert.DOIdeal.τ Cert.DOIdeal.sig) → Buf (Elt Ideal) ℓ) (g : Dev Cert.DOIdeal.nD → PrngReg), Pre_DOIdeal m →
    θ_run (Cert.DOIdeal.defs (F := Ideal)) (onTc (τ := Cert.DOIdeal.τ) (Cert.DOIdeal.main (F := Ideal))) ⟨m, fun _ => 0, g⟩ (fun r => (∀ c : Dev Cert.DOIdeal.nD,
      r.2.mem ((c.tc : Thread Cert.DOIdeal.nD Cert.DOIdeal.τ).loc Cert.DOIdeal.main_arg0) = m ((c.tc : Thread Cert.DOIdeal.nD Cert.DOIdeal.τ).loc Cert.DOIdeal.main_arg0)
      ∧ r.2.mem ((c.tc : Thread Cert.DOIdeal.nD Cert.DOIdeal.τ).loc Cert.DOIdeal.main_arg1) = m ((c.tc : Thread Cert.DOIdeal.nD Cert.DOIdeal.τ).loc Cert.DOIdeal.main_arg1))
      ∧ r.2.sem = fun _ => 0)

def quiescent_DORefIdeal [hDORefIdeal : Cert.DORefIdeal.Facts] : Prop :=
  ∀ (m : (ℓ : Loc Cert.DORefIdeal.nD Cert.DORefIdeal.τ Cert.DORefIdeal.sig) → Buf (Elt Ideal) ℓ) (g : Dev Cert.DORefIdeal.nD → PrngReg), Pre_DORefIdeal m →
    θ_run (Cert.DORefIdeal.defs (F := Ideal)) (onTc (τ := Cert.DORefIdeal.τ) (Cert.DORefIdeal.main (F := Ideal))) ⟨m, fun _ => 0, g⟩ (fun r => (∀ c : Dev Cert.DORefIdeal.nD,
      r.2.mem ((c.tc : Thread Cert.DORefIdeal.nD Cert.DORefIdeal.τ).loc Cert.DORefIdeal.main_arg0) = m ((c.tc : Thread Cert.DORefIdeal.nD Cert.DORefIdeal.τ).loc Cert.DORefIdeal.main_arg0)
      ∧ r.2.mem ((c.tc : Thread Cert.DORefIdeal.nD Cert.DORefIdeal.τ).loc Cert.DORefIdeal.main_arg1) = m ((c.tc : Thread Cert.DORefIdeal.nD Cert.DORefIdeal.τ).loc Cert.DORefIdeal.main_arg1))
      ∧ r.2.sem = fun _ => 0)

def quiescent_DH [hDH : Cert.DH.Facts] : Prop :=
  ∀ (m : (ℓ : Loc Cert.DH.nD Cert.DH.τ Cert.DH.sig) → Buf (Elt Bits) ℓ) (g : Dev Cert.DH.nD → PrngReg), Pre_DH m →
    θ_run (Cert.DH.defs (F := Bits)) (onTc (τ := Cert.DH.τ) (Cert.DH.main (F := Bits))) ⟨m, fun _ => 0, g⟩ (fun r => (∀ c : Dev Cert.DH.nD,
      r.2.mem ((c.tc : Thread Cert.DH.nD Cert.DH.τ).loc Cert.DH.main_arg0) = m ((c.tc : Thread Cert.DH.nD Cert.DH.τ).loc Cert.DH.main_arg0)
      ∧ r.2.mem ((c.tc : Thread Cert.DH.nD Cert.DH.τ).loc Cert.DH.main_arg1) = m ((c.tc : Thread Cert.DH.nD Cert.DH.τ).loc Cert.DH.main_arg1))
      ∧ r.2.sem = fun _ => 0)

def quiescent_DHIdeal [hDHIdeal : Cert.DHIdeal.Facts] : Prop :=
  ∀ (m : (ℓ : Loc Cert.DHIdeal.nD Cert.DHIdeal.τ Cert.DHIdeal.sig) → Buf (Elt Ideal) ℓ) (g : Dev Cert.DHIdeal.nD → PrngReg), Pre_DHIdeal m →
    θ_run (Cert.DHIdeal.defs (F := Ideal)) (onTc (τ := Cert.DHIdeal.τ) (Cert.DHIdeal.main (F := Ideal))) ⟨m, fun _ => 0, g⟩ (fun r => (∀ c : Dev Cert.DHIdeal.nD,
      r.2.mem ((c.tc : Thread Cert.DHIdeal.nD Cert.DHIdeal.τ).loc Cert.DHIdeal.main_arg0) = m ((c.tc : Thread Cert.DHIdeal.nD Cert.DHIdeal.τ).loc Cert.DHIdeal.main_arg0)
      ∧ r.2.mem ((c.tc : Thread Cert.DHIdeal.nD Cert.DHIdeal.τ).loc Cert.DHIdeal.main_arg1) = m ((c.tc : Thread Cert.DHIdeal.nD Cert.DHIdeal.τ).loc Cert.DHIdeal.main_arg1))
      ∧ r.2.sem = fun _ => 0)

def quiescent_DHRefIdeal [hDHRefIdeal : Cert.DHRefIdeal.Facts] : Prop :=
  ∀ (m : (ℓ : Loc Cert.DHRefIdeal.nD Cert.DHRefIdeal.τ Cert.DHRefIdeal.sig) → Buf (Elt Ideal) ℓ) (g : Dev Cert.DHRefIdeal.nD → PrngReg), Pre_DHRefIdeal m →
    θ_run (Cert.DHRefIdeal.defs (F := Ideal)) (onTc (τ := Cert.DHRefIdeal.τ) (Cert.DHRefIdeal.main (F := Ideal))) ⟨m, fun _ => 0, g⟩ (fun r => (∀ c : Dev Cert.DHRefIdeal.nD,
      r.2.mem ((c.tc : Thread Cert.DHRefIdeal.nD Cert.DHRefIdeal.τ).loc Cert.DHRefIdeal.main_arg0) = m ((c.tc : Thread Cert.DHRefIdeal.nD Cert.DHRefIdeal.τ).loc Cert.DHRefIdeal.main_arg0)
      ∧ r.2.mem ((c.tc : Thread Cert.DHRefIdeal.nD Cert.DHRefIdeal.τ).loc Cert.DHRefIdeal.main_arg1) = m ((c.tc : Thread Cert.DHRefIdeal.nD Cert.DHRefIdeal.τ).loc Cert.DHRefIdeal.main_arg1))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1))
      ∧ r.2.sem = fun _ => 0)

def quiescent_OutConv [hOutConv : Cert.OutConv.Facts] : Prop :=
  ∀ (m : (ℓ : Loc Cert.OutConv.nD Cert.OutConv.τ Cert.OutConv.sig) → Buf (Elt Bits) ℓ) (g : Dev Cert.OutConv.nD → PrngReg), Pre_OutConv m →
    θ_run (Cert.OutConv.defs (F := Bits)) (onTc (τ := Cert.OutConv.τ) (Cert.OutConv.main (F := Bits))) ⟨m, fun _ => 0, g⟩ (fun r => (∀ c : Dev Cert.OutConv.nD,
      r.2.mem ((c.tc : Thread Cert.OutConv.nD Cert.OutConv.τ).loc Cert.OutConv.main_arg0) = m ((c.tc : Thread Cert.OutConv.nD Cert.OutConv.τ).loc Cert.OutConv.main_arg0)
      ∧ r.2.mem ((c.tc : Thread Cert.OutConv.nD Cert.OutConv.τ).loc Cert.OutConv.main_arg1) = m ((c.tc : Thread Cert.OutConv.nD Cert.OutConv.τ).loc Cert.OutConv.main_arg1))
      ∧ r.2.sem = fun _ => 0)

def quiescent_OutConvIdeal [hOutConvIdeal : Cert.OutConvIdeal.Facts] : Prop :=
  ∀ (m : (ℓ : Loc Cert.OutConvIdeal.nD Cert.OutConvIdeal.τ Cert.OutConvIdeal.sig) → Buf (Elt Ideal) ℓ) (g : Dev Cert.OutConvIdeal.nD → PrngReg), Pre_OutConvIdeal m →
    θ_run (Cert.OutConvIdeal.defs (F := Ideal)) (onTc (τ := Cert.OutConvIdeal.τ) (Cert.OutConvIdeal.main (F := Ideal))) ⟨m, fun _ => 0, g⟩ (fun r => (∀ c : Dev Cert.OutConvIdeal.nD,
      r.2.mem ((c.tc : Thread Cert.OutConvIdeal.nD Cert.OutConvIdeal.τ).loc Cert.OutConvIdeal.main_arg0) = m ((c.tc : Thread Cert.OutConvIdeal.nD Cert.OutConvIdeal.τ).loc Cert.OutConvIdeal.main_arg0)
      ∧ r.2.mem ((c.tc : Thread Cert.OutConvIdeal.nD Cert.OutConvIdeal.τ).loc Cert.OutConvIdeal.main_arg1) = m ((c.tc : Thread Cert.OutConvIdeal.nD Cert.OutConvIdeal.τ).loc Cert.OutConvIdeal.main_arg1))
      ∧ r.2.sem = fun _ => 0)

def quiescent_OutConvRefIdeal [hOutConvRefIdeal : Cert.OutConvRefIdeal.Facts] : Prop :=
  ∀ (m : (ℓ : Loc Cert.OutConvRefIdeal.nD Cert.OutConvRefIdeal.τ Cert.OutConvRefIdeal.sig) → Buf (Elt Ideal) ℓ) (g : Dev Cert.OutConvRefIdeal.nD → PrngReg), Pre_OutConvRefIdeal m →
    θ_run (Cert.OutConvRefIdeal.defs (F := Ideal)) (onTc (τ := Cert.OutConvRefIdeal.τ) (Cert.OutConvRefIdeal.main (F := Ideal))) ⟨m, fun _ => 0, g⟩ (fun r => (∀ c : Dev Cert.OutConvRefIdeal.nD,
      r.2.mem ((c.tc : Thread Cert.OutConvRefIdeal.nD Cert.OutConvRefIdeal.τ).loc Cert.OutConvRefIdeal.main_arg0) = m ((c.tc : Thread Cert.OutConvRefIdeal.nD Cert.OutConvRefIdeal.τ).loc Cert.OutConvRefIdeal.main_arg0)
      ∧ r.2.mem ((c.tc : Thread Cert.OutConvRefIdeal.nD Cert.OutConvRefIdeal.τ).loc Cert.OutConvRefIdeal.main_arg1) = m ((c.tc : Thread Cert.OutConvRefIdeal.nD Cert.OutConvRefIdeal.τ).loc Cert.OutConvRefIdeal.main_arg1))
      ∧ r.2.sem = fun _ => 0)

def quiescent_OutAttn [hOutAttn : Cert.OutAttn.Facts] : Prop :=
  ∀ (m : (ℓ : Loc Cert.OutAttn.nD Cert.OutAttn.τ Cert.OutAttn.sig) → Buf (Elt Bits) ℓ) (g : Dev Cert.OutAttn.nD → PrngReg), Pre_OutAttn m →
    θ_run (Cert.OutAttn.defs (F := Bits)) (onTc (τ := Cert.OutAttn.τ) (Cert.OutAttn.main (F := Bits))) ⟨m, fun _ => 0, g⟩ (fun r => (∀ c : Dev Cert.OutAttn.nD,
      r.2.mem ((c.tc : Thread Cert.OutAttn.nD Cert.OutAttn.τ).loc Cert.OutAttn.main_arg0) = m ((c.tc : Thread Cert.OutAttn.nD Cert.OutAttn.τ).loc Cert.OutAttn.main_arg0)
      ∧ r.2.mem ((c.tc : Thread Cert.OutAttn.nD Cert.OutAttn.τ).loc Cert.OutAttn.main_arg1) = m ((c.tc : Thread Cert.OutAttn.nD Cert.OutAttn.τ).loc Cert.OutAttn.main_arg1))
      ∧ r.2.sem = fun _ => 0)

def quiescent_OutAttnIdeal [hOutAttnIdeal : Cert.OutAttnIdeal.Facts] : Prop :=
  ∀ (m : (ℓ : Loc Cert.OutAttnIdeal.nD Cert.OutAttnIdeal.τ Cert.OutAttnIdeal.sig) → Buf (Elt Ideal) ℓ) (g : Dev Cert.OutAttnIdeal.nD → PrngReg), Pre_OutAttnIdeal m →
    θ_run (Cert.OutAttnIdeal.defs (F := Ideal)) (onTc (τ := Cert.OutAttnIdeal.τ) (Cert.OutAttnIdeal.main (F := Ideal))) ⟨m, fun _ => 0, g⟩ (fun r => (∀ c : Dev Cert.OutAttnIdeal.nD,
      r.2.mem ((c.tc : Thread Cert.OutAttnIdeal.nD Cert.OutAttnIdeal.τ).loc Cert.OutAttnIdeal.main_arg0) = m ((c.tc : Thread Cert.OutAttnIdeal.nD Cert.OutAttnIdeal.τ).loc Cert.OutAttnIdeal.main_arg0)
      ∧ r.2.mem ((c.tc : Thread Cert.OutAttnIdeal.nD Cert.OutAttnIdeal.τ).loc Cert.OutAttnIdeal.main_arg1) = m ((c.tc : Thread Cert.OutAttnIdeal.nD Cert.OutAttnIdeal.τ).loc Cert.OutAttnIdeal.main_arg1))
      ∧ r.2.sem = fun _ => 0)

def quiescent_OutAttnRefIdeal [hOutAttnRefIdeal : Cert.OutAttnRefIdeal.Facts] : Prop :=
  ∀ (m : (ℓ : Loc Cert.OutAttnRefIdeal.nD Cert.OutAttnRefIdeal.τ Cert.OutAttnRefIdeal.sig) → Buf (Elt Ideal) ℓ) (g : Dev Cert.OutAttnRefIdeal.nD → PrngReg), Pre_OutAttnRefIdeal m →
    θ_run (Cert.OutAttnRefIdeal.defs (F := Ideal)) (onTc (τ := Cert.OutAttnRefIdeal.τ) (Cert.OutAttnRefIdeal.main (F := Ideal))) ⟨m, fun _ => 0, g⟩ (fun r => (∀ c : Dev Cert.OutAttnRefIdeal.nD,
      r.2.mem ((c.tc : Thread Cert.OutAttnRefIdeal.nD Cert.OutAttnRefIdeal.τ).loc Cert.OutAttnRefIdeal.main_arg0) = m ((c.tc : Thread Cert.OutAttnRefIdeal.nD Cert.OutAttnRefIdeal.τ).loc Cert.OutAttnRefIdeal.main_arg0)
      ∧ r.2.mem ((c.tc : Thread Cert.OutAttnRefIdeal.nD Cert.OutAttnRefIdeal.τ).loc Cert.OutAttnRefIdeal.main_arg1) = m ((c.tc : Thread Cert.OutAttnRefIdeal.nD Cert.OutAttnRefIdeal.τ).loc Cert.OutAttnRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_GUpSend [hGUpSend : Cert.GUpSend.Facts] : Prop :=
  ∀ (m : (ℓ : Loc Cert.GUpSend.nD Cert.GUpSend.τ Cert.GUpSend.sig) → Buf (Elt Bits) ℓ) (g : Dev Cert.GUpSend.nD → PrngReg), Pre_GUpSend m →
    θ_run (Cert.GUpSend.defs (F := Bits)) (onTc (τ := Cert.GUpSend.τ) (Cert.GUpSend.main (F := Bits))) ⟨m, fun _ => 0, g⟩ (fun r => (∀ c : Dev Cert.GUpSend.nD,
      r.2.mem ((c.tc : Thread Cert.GUpSend.nD Cert.GUpSend.τ).loc Cert.GUpSend.main_arg0) = m ((c.tc : Thread Cert.GUpSend.nD Cert.GUpSend.τ).loc Cert.GUpSend.main_arg0)
      ∧ r.2.mem ((c.tc : Thread Cert.GUpSend.nD Cert.GUpSend.τ).loc Cert.GUpSend.main_arg1) = m ((c.tc : Thread Cert.GUpSend.nD Cert.GUpSend.τ).loc Cert.GUpSend.main_arg1))
      ∧ r.2.sem = fun _ => 0)

def quiescent_GUpSendIdeal [hGUpSendIdeal : Cert.GUpSendIdeal.Facts] : Prop :=
  ∀ (m : (ℓ : Loc Cert.GUpSendIdeal.nD Cert.GUpSendIdeal.τ Cert.GUpSendIdeal.sig) → Buf (Elt Ideal) ℓ) (g : Dev Cert.GUpSendIdeal.nD → PrngReg), Pre_GUpSendIdeal m →
    θ_run (Cert.GUpSendIdeal.defs (F := Ideal)) (onTc (τ := Cert.GUpSendIdeal.τ) (Cert.GUpSendIdeal.main (F := Ideal))) ⟨m, fun _ => 0, g⟩ (fun r => (∀ c : Dev Cert.GUpSendIdeal.nD,
      r.2.mem ((c.tc : Thread Cert.GUpSendIdeal.nD Cert.GUpSendIdeal.τ).loc Cert.GUpSendIdeal.main_arg0) = m ((c.tc : Thread Cert.GUpSendIdeal.nD Cert.GUpSendIdeal.τ).loc Cert.GUpSendIdeal.main_arg0)
      ∧ r.2.mem ((c.tc : Thread Cert.GUpSendIdeal.nD Cert.GUpSendIdeal.τ).loc Cert.GUpSendIdeal.main_arg1) = m ((c.tc : Thread Cert.GUpSendIdeal.nD Cert.GUpSendIdeal.τ).loc Cert.GUpSendIdeal.main_arg1))
      ∧ r.2.sem = fun _ => 0)

def quiescent_GUpSendRefIdeal [hGUpSendRefIdeal : Cert.GUpSendRefIdeal.Facts] : Prop :=
  ∀ (m : (ℓ : Loc Cert.GUpSendRefIdeal.nD Cert.GUpSendRefIdeal.τ Cert.GUpSendRefIdeal.sig) → Buf (Elt Ideal) ℓ) (g : Dev Cert.GUpSendRefIdeal.nD → PrngReg), Pre_GUpSendRefIdeal m →
    θ_run (Cert.GUpSendRefIdeal.defs (F := Ideal)) (onTc (τ := Cert.GUpSendRefIdeal.τ) (Cert.GUpSendRefIdeal.main (F := Ideal))) ⟨m, fun _ => 0, g⟩ (fun r => (∀ c : Dev Cert.GUpSendRefIdeal.nD,
      r.2.mem ((c.tc : Thread Cert.GUpSendRefIdeal.nD Cert.GUpSendRefIdeal.τ).loc Cert.GUpSendRefIdeal.main_arg0) = m ((c.tc : Thread Cert.GUpSendRefIdeal.nD Cert.GUpSendRefIdeal.τ).loc Cert.GUpSendRefIdeal.main_arg0)
      ∧ r.2.mem ((c.tc : Thread Cert.GUpSendRefIdeal.nD Cert.GUpSendRefIdeal.τ).loc Cert.GUpSendRefIdeal.main_arg1) = m ((c.tc : Thread Cert.GUpSendRefIdeal.nD Cert.GUpSendRefIdeal.τ).loc Cert.GUpSendRefIdeal.main_arg1))
      ∧ r.2.sem = fun _ => 0)

def quiescent_GUpKeep [hGUpKeep : Cert.GUpKeep.Facts] : Prop :=
  ∀ (m : (ℓ : Loc Cert.GUpKeep.nD Cert.GUpKeep.τ Cert.GUpKeep.sig) → Buf (Elt Bits) ℓ) (g : Dev Cert.GUpKeep.nD → PrngReg), Pre_GUpKeep m →
    θ_run (Cert.GUpKeep.defs (F := Bits)) (onTc (τ := Cert.GUpKeep.τ) (Cert.GUpKeep.main (F := Bits))) ⟨m, fun _ => 0, g⟩ (fun r => (∀ c : Dev Cert.GUpKeep.nD,
      r.2.mem ((c.tc : Thread Cert.GUpKeep.nD Cert.GUpKeep.τ).loc Cert.GUpKeep.main_arg0) = m ((c.tc : Thread Cert.GUpKeep.nD Cert.GUpKeep.τ).loc Cert.GUpKeep.main_arg0)
      ∧ r.2.mem ((c.tc : Thread Cert.GUpKeep.nD Cert.GUpKeep.τ).loc Cert.GUpKeep.main_arg1) = m ((c.tc : Thread Cert.GUpKeep.nD Cert.GUpKeep.τ).loc Cert.GUpKeep.main_arg1)
      ∧ r.2.mem ((c.tc : Thread Cert.GUpKeep.nD Cert.GUpKeep.τ).loc Cert.GUpKeep.main_arg2) = m ((c.tc : Thread Cert.GUpKeep.nD Cert.GUpKeep.τ).loc Cert.GUpKeep.main_arg2))
      ∧ r.2.sem = fun _ => 0)

def quiescent_GUpKeepIdeal [hGUpKeepIdeal : Cert.GUpKeepIdeal.Facts] : Prop :=
  ∀ (m : (ℓ : Loc Cert.GUpKeepIdeal.nD Cert.GUpKeepIdeal.τ Cert.GUpKeepIdeal.sig) → Buf (Elt Ideal) ℓ) (g : Dev Cert.GUpKeepIdeal.nD → PrngReg), Pre_GUpKeepIdeal m →
    θ_run (Cert.GUpKeepIdeal.defs (F := Ideal)) (onTc (τ := Cert.GUpKeepIdeal.τ) (Cert.GUpKeepIdeal.main (F := Ideal))) ⟨m, fun _ => 0, g⟩ (fun r => (∀ c : Dev Cert.GUpKeepIdeal.nD,
      r.2.mem ((c.tc : Thread Cert.GUpKeepIdeal.nD Cert.GUpKeepIdeal.τ).loc Cert.GUpKeepIdeal.main_arg0) = m ((c.tc : Thread Cert.GUpKeepIdeal.nD Cert.GUpKeepIdeal.τ).loc Cert.GUpKeepIdeal.main_arg0)
      ∧ r.2.mem ((c.tc : Thread Cert.GUpKeepIdeal.nD Cert.GUpKeepIdeal.τ).loc Cert.GUpKeepIdeal.main_arg1) = m ((c.tc : Thread Cert.GUpKeepIdeal.nD Cert.GUpKeepIdeal.τ).loc Cert.GUpKeepIdeal.main_arg1)
      ∧ r.2.mem ((c.tc : Thread Cert.GUpKeepIdeal.nD Cert.GUpKeepIdeal.τ).loc Cert.GUpKeepIdeal.main_arg2) = m ((c.tc : Thread Cert.GUpKeepIdeal.nD Cert.GUpKeepIdeal.τ).loc Cert.GUpKeepIdeal.main_arg2))
      ∧ r.2.sem = fun _ => 0)

def quiescent_GUpKeepRefIdeal [hGUpKeepRefIdeal : Cert.GUpKeepRefIdeal.Facts] : Prop :=
  ∀ (m : (ℓ : Loc Cert.GUpKeepRefIdeal.nD Cert.GUpKeepRefIdeal.τ Cert.GUpKeepRefIdeal.sig) → Buf (Elt Ideal) ℓ) (g : Dev Cert.GUpKeepRefIdeal.nD → PrngReg), Pre_GUpKeepRefIdeal m →
    θ_run (Cert.GUpKeepRefIdeal.defs (F := Ideal)) (onTc (τ := Cert.GUpKeepRefIdeal.τ) (Cert.GUpKeepRefIdeal.main (F := Ideal))) ⟨m, fun _ => 0, g⟩ (fun r => (∀ c : Dev Cert.GUpKeepRefIdeal.nD,
      r.2.mem ((c.tc : Thread Cert.GUpKeepRefIdeal.nD Cert.GUpKeepRefIdeal.τ).loc Cert.GUpKeepRefIdeal.main_arg0) = m ((c.tc : Thread Cert.GUpKeepRefIdeal.nD Cert.GUpKeepRefIdeal.τ).loc Cert.GUpKeepRefIdeal.main_arg0)
      ∧ r.2.mem ((c.tc : Thread Cert.GUpKeepRefIdeal.nD Cert.GUpKeepRefIdeal.τ).loc Cert.GUpKeepRefIdeal.main_arg1) = m ((c.tc : Thread Cert.GUpKeepRefIdeal.nD Cert.GUpKeepRefIdeal.τ).loc Cert.GUpKeepRefIdeal.main_arg1)
      ∧ r.2.mem ((c.tc : Thread Cert.GUpKeepRefIdeal.nD Cert.GUpKeepRefIdeal.τ).loc Cert.GUpKeepRefIdeal.main_arg2) = m ((c.tc : Thread Cert.GUpKeepRefIdeal.nD Cert.GUpKeepRefIdeal.τ).loc Cert.GUpKeepRefIdeal.main_arg2))
      ∧ r.2.sem = fun _ => 0)

def quiescent_GDownSend [hGDownSend : Cert.GDownSend.Facts] : Prop :=
  ∀ (m : (ℓ : Loc Cert.GDownSend.nD Cert.GDownSend.τ Cert.GDownSend.sig) → Buf (Elt Bits) ℓ) (g : Dev Cert.GDownSend.nD → PrngReg), Pre_GDownSend m →
    θ_run (Cert.GDownSend.defs (F := Bits)) (onTc (τ := Cert.GDownSend.τ) (Cert.GDownSend.main (F := Bits))) ⟨m, fun _ => 0, g⟩ (fun r => (∀ c : Dev Cert.GDownSend.nD,
      r.2.mem ((c.tc : Thread Cert.GDownSend.nD Cert.GDownSend.τ).loc Cert.GDownSend.main_arg0) = m ((c.tc : Thread Cert.GDownSend.nD Cert.GDownSend.τ).loc Cert.GDownSend.main_arg0)
      ∧ r.2.mem ((c.tc : Thread Cert.GDownSend.nD Cert.GDownSend.τ).loc Cert.GDownSend.main_arg1) = m ((c.tc : Thread Cert.GDownSend.nD Cert.GDownSend.τ).loc Cert.GDownSend.main_arg1))
      ∧ r.2.sem = fun _ => 0)

def quiescent_GDownSendIdeal [hGDownSendIdeal : Cert.GDownSendIdeal.Facts] : Prop :=
  ∀ (m : (ℓ : Loc Cert.GDownSendIdeal.nD Cert.GDownSendIdeal.τ Cert.GDownSendIdeal.sig) → Buf (Elt Ideal) ℓ) (g : Dev Cert.GDownSendIdeal.nD → PrngReg), Pre_GDownSendIdeal m →
    θ_run (Cert.GDownSendIdeal.defs (F := Ideal)) (onTc (τ := Cert.GDownSendIdeal.τ) (Cert.GDownSendIdeal.main (F := Ideal))) ⟨m, fun _ => 0, g⟩ (fun r => (∀ c : Dev Cert.GDownSendIdeal.nD,
      r.2.mem ((c.tc : Thread Cert.GDownSendIdeal.nD Cert.GDownSendIdeal.τ).loc Cert.GDownSendIdeal.main_arg0) = m ((c.tc : Thread Cert.GDownSendIdeal.nD Cert.GDownSendIdeal.τ).loc Cert.GDownSendIdeal.main_arg0)
      ∧ r.2.mem ((c.tc : Thread Cert.GDownSendIdeal.nD Cert.GDownSendIdeal.τ).loc Cert.GDownSendIdeal.main_arg1) = m ((c.tc : Thread Cert.GDownSendIdeal.nD Cert.GDownSendIdeal.τ).loc Cert.GDownSendIdeal.main_arg1))
      ∧ r.2.sem = fun _ => 0)

def quiescent_GDownSendRefIdeal [hGDownSendRefIdeal : Cert.GDownSendRefIdeal.Facts] : Prop :=
  ∀ (m : (ℓ : Loc Cert.GDownSendRefIdeal.nD Cert.GDownSendRefIdeal.τ Cert.GDownSendRefIdeal.sig) → Buf (Elt Ideal) ℓ) (g : Dev Cert.GDownSendRefIdeal.nD → PrngReg), Pre_GDownSendRefIdeal m →
    θ_run (Cert.GDownSendRefIdeal.defs (F := Ideal)) (onTc (τ := Cert.GDownSendRefIdeal.τ) (Cert.GDownSendRefIdeal.main (F := Ideal))) ⟨m, fun _ => 0, g⟩ (fun r => (∀ c : Dev Cert.GDownSendRefIdeal.nD,
      r.2.mem ((c.tc : Thread Cert.GDownSendRefIdeal.nD Cert.GDownSendRefIdeal.τ).loc Cert.GDownSendRefIdeal.main_arg0) = m ((c.tc : Thread Cert.GDownSendRefIdeal.nD Cert.GDownSendRefIdeal.τ).loc Cert.GDownSendRefIdeal.main_arg0)
      ∧ r.2.mem ((c.tc : Thread Cert.GDownSendRefIdeal.nD Cert.GDownSendRefIdeal.τ).loc Cert.GDownSendRefIdeal.main_arg1) = m ((c.tc : Thread Cert.GDownSendRefIdeal.nD Cert.GDownSendRefIdeal.τ).loc Cert.GDownSendRefIdeal.main_arg1))
      ∧ r.2.sem = fun _ => 0)

def quiescent_GDownKeep [hGDownKeep : Cert.GDownKeep.Facts] : Prop :=
  ∀ (m : (ℓ : Loc Cert.GDownKeep.nD Cert.GDownKeep.τ Cert.GDownKeep.sig) → Buf (Elt Bits) ℓ) (g : Dev Cert.GDownKeep.nD → PrngReg), Pre_GDownKeep m →
    θ_run (Cert.GDownKeep.defs (F := Bits)) (onTc (τ := Cert.GDownKeep.τ) (Cert.GDownKeep.main (F := Bits))) ⟨m, fun _ => 0, g⟩ (fun r => (∀ c : Dev Cert.GDownKeep.nD,
      r.2.mem ((c.tc : Thread Cert.GDownKeep.nD Cert.GDownKeep.τ).loc Cert.GDownKeep.main_arg0) = m ((c.tc : Thread Cert.GDownKeep.nD Cert.GDownKeep.τ).loc Cert.GDownKeep.main_arg0)
      ∧ r.2.mem ((c.tc : Thread Cert.GDownKeep.nD Cert.GDownKeep.τ).loc Cert.GDownKeep.main_arg1) = m ((c.tc : Thread Cert.GDownKeep.nD Cert.GDownKeep.τ).loc Cert.GDownKeep.main_arg1)
      ∧ r.2.mem ((c.tc : Thread Cert.GDownKeep.nD Cert.GDownKeep.τ).loc Cert.GDownKeep.main_arg2) = m ((c.tc : Thread Cert.GDownKeep.nD Cert.GDownKeep.τ).loc Cert.GDownKeep.main_arg2))
      ∧ r.2.sem = fun _ => 0)

def quiescent_GDownKeepIdeal [hGDownKeepIdeal : Cert.GDownKeepIdeal.Facts] : Prop :=
  ∀ (m : (ℓ : Loc Cert.GDownKeepIdeal.nD Cert.GDownKeepIdeal.τ Cert.GDownKeepIdeal.sig) → Buf (Elt Ideal) ℓ) (g : Dev Cert.GDownKeepIdeal.nD → PrngReg), Pre_GDownKeepIdeal m →
    θ_run (Cert.GDownKeepIdeal.defs (F := Ideal)) (onTc (τ := Cert.GDownKeepIdeal.τ) (Cert.GDownKeepIdeal.main (F := Ideal))) ⟨m, fun _ => 0, g⟩ (fun r => (∀ c : Dev Cert.GDownKeepIdeal.nD,
      r.2.mem ((c.tc : Thread Cert.GDownKeepIdeal.nD Cert.GDownKeepIdeal.τ).loc Cert.GDownKeepIdeal.main_arg0) = m ((c.tc : Thread Cert.GDownKeepIdeal.nD Cert.GDownKeepIdeal.τ).loc Cert.GDownKeepIdeal.main_arg0)
      ∧ r.2.mem ((c.tc : Thread Cert.GDownKeepIdeal.nD Cert.GDownKeepIdeal.τ).loc Cert.GDownKeepIdeal.main_arg1) = m ((c.tc : Thread Cert.GDownKeepIdeal.nD Cert.GDownKeepIdeal.τ).loc Cert.GDownKeepIdeal.main_arg1)
      ∧ r.2.mem ((c.tc : Thread Cert.GDownKeepIdeal.nD Cert.GDownKeepIdeal.τ).loc Cert.GDownKeepIdeal.main_arg2) = m ((c.tc : Thread Cert.GDownKeepIdeal.nD Cert.GDownKeepIdeal.τ).loc Cert.GDownKeepIdeal.main_arg2))
      ∧ r.2.sem = fun _ => 0)

def quiescent_GDownKeepRefIdeal [hGDownKeepRefIdeal : Cert.GDownKeepRefIdeal.Facts] : Prop :=
  ∀ (m : (ℓ : Loc Cert.GDownKeepRefIdeal.nD Cert.GDownKeepRefIdeal.τ Cert.GDownKeepRefIdeal.sig) → Buf (Elt Ideal) ℓ) (g : Dev Cert.GDownKeepRefIdeal.nD → PrngReg), Pre_GDownKeepRefIdeal m →
    θ_run (Cert.GDownKeepRefIdeal.defs (F := Ideal)) (onTc (τ := Cert.GDownKeepRefIdeal.τ) (Cert.GDownKeepRefIdeal.main (F := Ideal))) ⟨m, fun _ => 0, g⟩ (fun r => (∀ c : Dev Cert.GDownKeepRefIdeal.nD,
      r.2.mem ((c.tc : Thread Cert.GDownKeepRefIdeal.nD Cert.GDownKeepRefIdeal.τ).loc Cert.GDownKeepRefIdeal.main_arg0) = m ((c.tc : Thread Cert.GDownKeepRefIdeal.nD Cert.GDownKeepRefIdeal.τ).loc Cert.GDownKeepRefIdeal.main_arg0)
      ∧ r.2.mem ((c.tc : Thread Cert.GDownKeepRefIdeal.nD Cert.GDownKeepRefIdeal.τ).loc Cert.GDownKeepRefIdeal.main_arg1) = m ((c.tc : Thread Cert.GDownKeepRefIdeal.nD Cert.GDownKeepRefIdeal.τ).loc Cert.GDownKeepRefIdeal.main_arg1)
      ∧ r.2.mem ((c.tc : Thread Cert.GDownKeepRefIdeal.nD Cert.GDownKeepRefIdeal.τ).loc Cert.GDownKeepRefIdeal.main_arg2) = m ((c.tc : Thread Cert.GDownKeepRefIdeal.nD Cert.GDownKeepRefIdeal.τ).loc Cert.GDownKeepRefIdeal.main_arg2))
      ∧ r.2.sem = fun _ => 0)

def quiescent_GOutConvSend [hGOutConvSend : Cert.GOutConvSend.Facts] : Prop :=
  ∀ (m : (ℓ : Loc Cert.GOutConvSend.nD Cert.GOutConvSend.τ Cert.GOutConvSend.sig) → Buf (Elt Bits) ℓ) (g : Dev Cert.GOutConvSend.nD → PrngReg), Pre_GOutConvSend m →
    θ_run (Cert.GOutConvSend.defs (F := Bits)) (onTc (τ := Cert.GOutConvSend.τ) (Cert.GOutConvSend.main (F := Bits))) ⟨m, fun _ => 0, g⟩ (fun r => (∀ c : Dev Cert.GOutConvSend.nD,
      r.2.mem ((c.tc : Thread Cert.GOutConvSend.nD Cert.GOutConvSend.τ).loc Cert.GOutConvSend.main_arg0) = m ((c.tc : Thread Cert.GOutConvSend.nD Cert.GOutConvSend.τ).loc Cert.GOutConvSend.main_arg0)
      ∧ r.2.mem ((c.tc : Thread Cert.GOutConvSend.nD Cert.GOutConvSend.τ).loc Cert.GOutConvSend.main_arg1) = m ((c.tc : Thread Cert.GOutConvSend.nD Cert.GOutConvSend.τ).loc Cert.GOutConvSend.main_arg1))
      ∧ r.2.sem = fun _ => 0)

def quiescent_GOutConvSendIdeal [hGOutConvSendIdeal : Cert.GOutConvSendIdeal.Facts] : Prop :=
  ∀ (m : (ℓ : Loc Cert.GOutConvSendIdeal.nD Cert.GOutConvSendIdeal.τ Cert.GOutConvSendIdeal.sig) → Buf (Elt Ideal) ℓ) (g : Dev Cert.GOutConvSendIdeal.nD → PrngReg), Pre_GOutConvSendIdeal m →
    θ_run (Cert.GOutConvSendIdeal.defs (F := Ideal)) (onTc (τ := Cert.GOutConvSendIdeal.τ) (Cert.GOutConvSendIdeal.main (F := Ideal))) ⟨m, fun _ => 0, g⟩ (fun r => (∀ c : Dev Cert.GOutConvSendIdeal.nD,
      r.2.mem ((c.tc : Thread Cert.GOutConvSendIdeal.nD Cert.GOutConvSendIdeal.τ).loc Cert.GOutConvSendIdeal.main_arg0) = m ((c.tc : Thread Cert.GOutConvSendIdeal.nD Cert.GOutConvSendIdeal.τ).loc Cert.GOutConvSendIdeal.main_arg0)
      ∧ r.2.mem ((c.tc : Thread Cert.GOutConvSendIdeal.nD Cert.GOutConvSendIdeal.τ).loc Cert.GOutConvSendIdeal.main_arg1) = m ((c.tc : Thread Cert.GOutConvSendIdeal.nD Cert.GOutConvSendIdeal.τ).loc Cert.GOutConvSendIdeal.main_arg1))
      ∧ r.2.sem = fun _ => 0)

def quiescent_GOutConvSendRefIdeal [hGOutConvSendRefIdeal : Cert.GOutConvSendRefIdeal.Facts] : Prop :=
  ∀ (m : (ℓ : Loc Cert.GOutConvSendRefIdeal.nD Cert.GOutConvSendRefIdeal.τ Cert.GOutConvSendRefIdeal.sig) → Buf (Elt Ideal) ℓ) (g : Dev Cert.GOutConvSendRefIdeal.nD → PrngReg), Pre_GOutConvSendRefIdeal m →
    θ_run (Cert.GOutConvSendRefIdeal.defs (F := Ideal)) (onTc (τ := Cert.GOutConvSendRefIdeal.τ) (Cert.GOutConvSendRefIdeal.main (F := Ideal))) ⟨m, fun _ => 0, g⟩ (fun r => (∀ c : Dev Cert.GOutConvSendRefIdeal.nD,
      r.2.mem ((c.tc : Thread Cert.GOutConvSendRefIdeal.nD Cert.GOutConvSendRefIdeal.τ).loc Cert.GOutConvSendRefIdeal.main_arg0) = m ((c.tc : Thread Cert.GOutConvSendRefIdeal.nD Cert.GOutConvSendRefIdeal.τ).loc Cert.GOutConvSendRefIdeal.main_arg0)
      ∧ r.2.mem ((c.tc : Thread Cert.GOutConvSendRefIdeal.nD Cert.GOutConvSendRefIdeal.τ).loc Cert.GOutConvSendRefIdeal.main_arg1) = m ((c.tc : Thread Cert.GOutConvSendRefIdeal.nD Cert.GOutConvSendRefIdeal.τ).loc Cert.GOutConvSendRefIdeal.main_arg1))
      ∧ r.2.sem = fun _ => 0)

def quiescent_GOutConvKeep [hGOutConvKeep : Cert.GOutConvKeep.Facts] : Prop :=
  ∀ (m : (ℓ : Loc Cert.GOutConvKeep.nD Cert.GOutConvKeep.τ Cert.GOutConvKeep.sig) → Buf (Elt Bits) ℓ) (g : Dev Cert.GOutConvKeep.nD → PrngReg), Pre_GOutConvKeep m →
    θ_run (Cert.GOutConvKeep.defs (F := Bits)) (onTc (τ := Cert.GOutConvKeep.τ) (Cert.GOutConvKeep.main (F := Bits))) ⟨m, fun _ => 0, g⟩ (fun r => (∀ c : Dev Cert.GOutConvKeep.nD,
      r.2.mem ((c.tc : Thread Cert.GOutConvKeep.nD Cert.GOutConvKeep.τ).loc Cert.GOutConvKeep.main_arg0) = m ((c.tc : Thread Cert.GOutConvKeep.nD Cert.GOutConvKeep.τ).loc Cert.GOutConvKeep.main_arg0)
      ∧ r.2.mem ((c.tc : Thread Cert.GOutConvKeep.nD Cert.GOutConvKeep.τ).loc Cert.GOutConvKeep.main_arg1) = m ((c.tc : Thread Cert.GOutConvKeep.nD Cert.GOutConvKeep.τ).loc Cert.GOutConvKeep.main_arg1)
      ∧ r.2.mem ((c.tc : Thread Cert.GOutConvKeep.nD Cert.GOutConvKeep.τ).loc Cert.GOutConvKeep.main_arg2) = m ((c.tc : Thread Cert.GOutConvKeep.nD Cert.GOutConvKeep.τ).loc Cert.GOutConvKeep.main_arg2))
      ∧ r.2.sem = fun _ => 0)

def quiescent_GOutConvKeepIdeal [hGOutConvKeepIdeal : Cert.GOutConvKeepIdeal.Facts] : Prop :=
  ∀ (m : (ℓ : Loc Cert.GOutConvKeepIdeal.nD Cert.GOutConvKeepIdeal.τ Cert.GOutConvKeepIdeal.sig) → Buf (Elt Ideal) ℓ) (g : Dev Cert.GOutConvKeepIdeal.nD → PrngReg), Pre_GOutConvKeepIdeal m →
    θ_run (Cert.GOutConvKeepIdeal.defs (F := Ideal)) (onTc (τ := Cert.GOutConvKeepIdeal.τ) (Cert.GOutConvKeepIdeal.main (F := Ideal))) ⟨m, fun _ => 0, g⟩ (fun r => (∀ c : Dev Cert.GOutConvKeepIdeal.nD,
      r.2.mem ((c.tc : Thread Cert.GOutConvKeepIdeal.nD Cert.GOutConvKeepIdeal.τ).loc Cert.GOutConvKeepIdeal.main_arg0) = m ((c.tc : Thread Cert.GOutConvKeepIdeal.nD Cert.GOutConvKeepIdeal.τ).loc Cert.GOutConvKeepIdeal.main_arg0)
      ∧ r.2.mem ((c.tc : Thread Cert.GOutConvKeepIdeal.nD Cert.GOutConvKeepIdeal.τ).loc Cert.GOutConvKeepIdeal.main_arg1) = m ((c.tc : Thread Cert.GOutConvKeepIdeal.nD Cert.GOutConvKeepIdeal.τ).loc Cert.GOutConvKeepIdeal.main_arg1)
      ∧ r.2.mem ((c.tc : Thread Cert.GOutConvKeepIdeal.nD Cert.GOutConvKeepIdeal.τ).loc Cert.GOutConvKeepIdeal.main_arg2) = m ((c.tc : Thread Cert.GOutConvKeepIdeal.nD Cert.GOutConvKeepIdeal.τ).loc Cert.GOutConvKeepIdeal.main_arg2))
      ∧ r.2.sem = fun _ => 0)

def quiescent_GOutConvKeepRefIdeal [hGOutConvKeepRefIdeal : Cert.GOutConvKeepRefIdeal.Facts] : Prop :=
  ∀ (m : (ℓ : Loc Cert.GOutConvKeepRefIdeal.nD Cert.GOutConvKeepRefIdeal.τ Cert.GOutConvKeepRefIdeal.sig) → Buf (Elt Ideal) ℓ) (g : Dev Cert.GOutConvKeepRefIdeal.nD → PrngReg), Pre_GOutConvKeepRefIdeal m →
    θ_run (Cert.GOutConvKeepRefIdeal.defs (F := Ideal)) (onTc (τ := Cert.GOutConvKeepRefIdeal.τ) (Cert.GOutConvKeepRefIdeal.main (F := Ideal))) ⟨m, fun _ => 0, g⟩ (fun r => (∀ c : Dev Cert.GOutConvKeepRefIdeal.nD,
      r.2.mem ((c.tc : Thread Cert.GOutConvKeepRefIdeal.nD Cert.GOutConvKeepRefIdeal.τ).loc Cert.GOutConvKeepRefIdeal.main_arg0) = m ((c.tc : Thread Cert.GOutConvKeepRefIdeal.nD Cert.GOutConvKeepRefIdeal.τ).loc Cert.GOutConvKeepRefIdeal.main_arg0)
      ∧ r.2.mem ((c.tc : Thread Cert.GOutConvKeepRefIdeal.nD Cert.GOutConvKeepRefIdeal.τ).loc Cert.GOutConvKeepRefIdeal.main_arg1) = m ((c.tc : Thread Cert.GOutConvKeepRefIdeal.nD Cert.GOutConvKeepRefIdeal.τ).loc Cert.GOutConvKeepRefIdeal.main_arg1)
      ∧ r.2.mem ((c.tc : Thread Cert.GOutConvKeepRefIdeal.nD Cert.GOutConvKeepRefIdeal.τ).loc Cert.GOutConvKeepRefIdeal.main_arg2) = m ((c.tc : Thread Cert.GOutConvKeepRefIdeal.nD Cert.GOutConvKeepRefIdeal.τ).loc Cert.GOutConvKeepRefIdeal.main_arg2))
      ∧ r.2.sem = fun _ => 0)

def quiescent_GOutAttnSend [hGOutAttnSend : Cert.GOutAttnSend.Facts] : Prop :=
  ∀ (m : (ℓ : Loc Cert.GOutAttnSend.nD Cert.GOutAttnSend.τ Cert.GOutAttnSend.sig) → Buf (Elt Bits) ℓ) (g : Dev Cert.GOutAttnSend.nD → PrngReg), Pre_GOutAttnSend m →
    θ_run (Cert.GOutAttnSend.defs (F := Bits)) (onTc (τ := Cert.GOutAttnSend.τ) (Cert.GOutAttnSend.main (F := Bits))) ⟨m, fun _ => 0, g⟩ (fun r => (∀ c : Dev Cert.GOutAttnSend.nD,
      r.2.mem ((c.tc : Thread Cert.GOutAttnSend.nD Cert.GOutAttnSend.τ).loc Cert.GOutAttnSend.main_arg0) = m ((c.tc : Thread Cert.GOutAttnSend.nD Cert.GOutAttnSend.τ).loc Cert.GOutAttnSend.main_arg0)
      ∧ r.2.mem ((c.tc : Thread Cert.GOutAttnSend.nD Cert.GOutAttnSend.τ).loc Cert.GOutAttnSend.main_arg1) = m ((c.tc : Thread Cert.GOutAttnSend.nD Cert.GOutAttnSend.τ).loc Cert.GOutAttnSend.main_arg1))
      ∧ r.2.sem = fun _ => 0)

def quiescent_GOutAttnSendIdeal [hGOutAttnSendIdeal : Cert.GOutAttnSendIdeal.Facts] : Prop :=
  ∀ (m : (ℓ : Loc Cert.GOutAttnSendIdeal.nD Cert.GOutAttnSendIdeal.τ Cert.GOutAttnSendIdeal.sig) → Buf (Elt Ideal) ℓ) (g : Dev Cert.GOutAttnSendIdeal.nD → PrngReg), Pre_GOutAttnSendIdeal m →
    θ_run (Cert.GOutAttnSendIdeal.defs (F := Ideal)) (onTc (τ := Cert.GOutAttnSendIdeal.τ) (Cert.GOutAttnSendIdeal.main (F := Ideal))) ⟨m, fun _ => 0, g⟩ (fun r => (∀ c : Dev Cert.GOutAttnSendIdeal.nD,
      r.2.mem ((c.tc : Thread Cert.GOutAttnSendIdeal.nD Cert.GOutAttnSendIdeal.τ).loc Cert.GOutAttnSendIdeal.main_arg0) = m ((c.tc : Thread Cert.GOutAttnSendIdeal.nD Cert.GOutAttnSendIdeal.τ).loc Cert.GOutAttnSendIdeal.main_arg0)
      ∧ r.2.mem ((c.tc : Thread Cert.GOutAttnSendIdeal.nD Cert.GOutAttnSendIdeal.τ).loc Cert.GOutAttnSendIdeal.main_arg1) = m ((c.tc : Thread Cert.GOutAttnSendIdeal.nD Cert.GOutAttnSendIdeal.τ).loc Cert.GOutAttnSendIdeal.main_arg1))
      ∧ r.2.sem = fun _ => 0)

def quiescent_GOutAttnSendRefIdeal [hGOutAttnSendRefIdeal : Cert.GOutAttnSendRefIdeal.Facts] : Prop :=
  ∀ (m : (ℓ : Loc Cert.GOutAttnSendRefIdeal.nD Cert.GOutAttnSendRefIdeal.τ Cert.GOutAttnSendRefIdeal.sig) → Buf (Elt Ideal) ℓ) (g : Dev Cert.GOutAttnSendRefIdeal.nD → PrngReg), Pre_GOutAttnSendRefIdeal m →
    θ_run (Cert.GOutAttnSendRefIdeal.defs (F := Ideal)) (onTc (τ := Cert.GOutAttnSendRefIdeal.τ) (Cert.GOutAttnSendRefIdeal.main (F := Ideal))) ⟨m, fun _ => 0, g⟩ (fun r => (∀ c : Dev Cert.GOutAttnSendRefIdeal.nD,
      r.2.mem ((c.tc : Thread Cert.GOutAttnSendRefIdeal.nD Cert.GOutAttnSendRefIdeal.τ).loc Cert.GOutAttnSendRefIdeal.main_arg0) = m ((c.tc : Thread Cert.GOutAttnSendRefIdeal.nD Cert.GOutAttnSendRefIdeal.τ).loc Cert.GOutAttnSendRefIdeal.main_arg0)
      ∧ r.2.mem ((c.tc : Thread Cert.GOutAttnSendRefIdeal.nD Cert.GOutAttnSendRefIdeal.τ).loc Cert.GOutAttnSendRefIdeal.main_arg1) = m ((c.tc : Thread Cert.GOutAttnSendRefIdeal.nD Cert.GOutAttnSendRefIdeal.τ).loc Cert.GOutAttnSendRefIdeal.main_arg1))
      ∧ r.2.sem = fun _ => 0)

def quiescent_GOutAttnKeep [hGOutAttnKeep : Cert.GOutAttnKeep.Facts] : Prop :=
  ∀ (m : (ℓ : Loc Cert.GOutAttnKeep.nD Cert.GOutAttnKeep.τ Cert.GOutAttnKeep.sig) → Buf (Elt Bits) ℓ) (g : Dev Cert.GOutAttnKeep.nD → PrngReg), Pre_GOutAttnKeep m →
    θ_run (Cert.GOutAttnKeep.defs (F := Bits)) (onTc (τ := Cert.GOutAttnKeep.τ) (Cert.GOutAttnKeep.main (F := Bits))) ⟨m, fun _ => 0, g⟩ (fun r => (∀ c : Dev Cert.GOutAttnKeep.nD,
      r.2.mem ((c.tc : Thread Cert.GOutAttnKeep.nD Cert.GOutAttnKeep.τ).loc Cert.GOutAttnKeep.main_arg0) = m ((c.tc : Thread Cert.GOutAttnKeep.nD Cert.GOutAttnKeep.τ).loc Cert.GOutAttnKeep.main_arg0)
      ∧ r.2.mem ((c.tc : Thread Cert.GOutAttnKeep.nD Cert.GOutAttnKeep.τ).loc Cert.GOutAttnKeep.main_arg1) = m ((c.tc : Thread Cert.GOutAttnKeep.nD Cert.GOutAttnKeep.τ).loc Cert.GOutAttnKeep.main_arg1)
      ∧ r.2.mem ((c.tc : Thread Cert.GOutAttnKeep.nD Cert.GOutAttnKeep.τ).loc Cert.GOutAttnKeep.main_arg2) = m ((c.tc : Thread Cert.GOutAttnKeep.nD Cert.GOutAttnKeep.τ).loc Cert.GOutAttnKeep.main_arg2))
      ∧ r.2.sem = fun _ => 0)

def quiescent_GOutAttnKeepIdeal [hGOutAttnKeepIdeal : Cert.GOutAttnKeepIdeal.Facts] : Prop :=
  ∀ (m : (ℓ : Loc Cert.GOutAttnKeepIdeal.nD Cert.GOutAttnKeepIdeal.τ Cert.GOutAttnKeepIdeal.sig) → Buf (Elt Ideal) ℓ) (g : Dev Cert.GOutAttnKeepIdeal.nD → PrngReg), Pre_GOutAttnKeepIdeal m →
    θ_run (Cert.GOutAttnKeepIdeal.defs (F := Ideal)) (onTc (τ := Cert.GOutAttnKeepIdeal.τ) (Cert.GOutAttnKeepIdeal.main (F := Ideal))) ⟨m, fun _ => 0, g⟩ (fun r => (∀ c : Dev Cert.GOutAttnKeepIdeal.nD,
      r.2.mem ((c.tc : Thread Cert.GOutAttnKeepIdeal.nD Cert.GOutAttnKeepIdeal.τ).loc Cert.GOutAttnKeepIdeal.main_arg0) = m ((c.tc : Thread Cert.GOutAttnKeepIdeal.nD Cert.GOutAttnKeepIdeal.τ).loc Cert.GOutAttnKeepIdeal.main_arg0)
      ∧ r.2.mem ((c.tc : Thread Cert.GOutAttnKeepIdeal.nD Cert.GOutAttnKeepIdeal.τ).loc Cert.GOutAttnKeepIdeal.main_arg1) = m ((c.tc : Thread Cert.GOutAttnKeepIdeal.nD Cert.GOutAttnKeepIdeal.τ).loc Cert.GOutAttnKeepIdeal.main_arg1)
      ∧ r.2.mem ((c.tc : Thread Cert.GOutAttnKeepIdeal.nD Cert.GOutAttnKeepIdeal.τ).loc Cert.GOutAttnKeepIdeal.main_arg2) = m ((c.tc : Thread Cert.GOutAttnKeepIdeal.nD Cert.GOutAttnKeepIdeal.τ).loc Cert.GOutAttnKeepIdeal.main_arg2))
      ∧ r.2.sem = fun _ => 0)

def quiescent_GOutAttnKeepRefIdeal [hGOutAttnKeepRefIdeal : Cert.GOutAttnKeepRefIdeal.Facts] : Prop :=
  ∀ (m : (ℓ : Loc Cert.GOutAttnKeepRefIdeal.nD Cert.GOutAttnKeepRefIdeal.τ Cert.GOutAttnKeepRefIdeal.sig) → Buf (Elt Ideal) ℓ) (g : Dev Cert.GOutAttnKeepRefIdeal.nD → PrngReg), Pre_GOutAttnKeepRefIdeal m →
    θ_run (Cert.GOutAttnKeepRefIdeal.defs (F := Ideal)) (onTc (τ := Cert.GOutAttnKeepRefIdeal.τ) (Cert.GOutAttnKeepRefIdeal.main (F := Ideal))) ⟨m, fun _ => 0, g⟩ (fun r => (∀ c : Dev Cert.GOutAttnKeepRefIdeal.nD,
      r.2.mem ((c.tc : Thread Cert.GOutAttnKeepRefIdeal.nD Cert.GOutAttnKeepRefIdeal.τ).loc Cert.GOutAttnKeepRefIdeal.main_arg0) = m ((c.tc : Thread Cert.GOutAttnKeepRefIdeal.nD Cert.GOutAttnKeepRefIdeal.τ).loc Cert.GOutAttnKeepRefIdeal.main_arg0)
      ∧ r.2.mem ((c.tc : Thread Cert.GOutAttnKeepRefIdeal.nD Cert.GOutAttnKeepRefIdeal.τ).loc Cert.GOutAttnKeepRefIdeal.main_arg1) = m ((c.tc : Thread Cert.GOutAttnKeepRefIdeal.nD Cert.GOutAttnKeepRefIdeal.τ).loc Cert.GOutAttnKeepRefIdeal.main_arg1)
      ∧ r.2.mem ((c.tc : Thread Cert.GOutAttnKeepRefIdeal.nD Cert.GOutAttnKeepRefIdeal.τ).loc Cert.GOutAttnKeepRefIdeal.main_arg2) = m ((c.tc : Thread Cert.GOutAttnKeepRefIdeal.nD Cert.GOutAttnKeepRefIdeal.τ).loc Cert.GOutAttnKeepRefIdeal.main_arg2))
      ∧ r.2.sem = fun _ => 0)

def quiescent_GMergeSend [hGMergeSend : Cert.GMergeSend.Facts] : Prop :=
  ∀ (m : (ℓ : Loc Cert.GMergeSend.nD Cert.GMergeSend.τ Cert.GMergeSend.sig) → Buf (Elt Bits) ℓ) (g : Dev Cert.GMergeSend.nD → PrngReg), Pre_GMergeSend m →
    θ_run (Cert.GMergeSend.defs (F := Bits)) (onTc (τ := Cert.GMergeSend.τ) (Cert.GMergeSend.main (F := Bits))) ⟨m, fun _ => 0, g⟩ (fun r => (∀ c : Dev Cert.GMergeSend.nD,
      r.2.mem ((c.tc : Thread Cert.GMergeSend.nD Cert.GMergeSend.τ).loc Cert.GMergeSend.main_arg0) = m ((c.tc : Thread Cert.GMergeSend.nD Cert.GMergeSend.τ).loc Cert.GMergeSend.main_arg0)
      ∧ r.2.mem ((c.tc : Thread Cert.GMergeSend.nD Cert.GMergeSend.τ).loc Cert.GMergeSend.main_arg1) = m ((c.tc : Thread Cert.GMergeSend.nD Cert.GMergeSend.τ).loc Cert.GMergeSend.main_arg1))
      ∧ r.2.sem = fun _ => 0)

def quiescent_GMergeSendIdeal [hGMergeSendIdeal : Cert.GMergeSendIdeal.Facts] : Prop :=
  ∀ (m : (ℓ : Loc Cert.GMergeSendIdeal.nD Cert.GMergeSendIdeal.τ Cert.GMergeSendIdeal.sig) → Buf (Elt Ideal) ℓ) (g : Dev Cert.GMergeSendIdeal.nD → PrngReg), Pre_GMergeSendIdeal m →
    θ_run (Cert.GMergeSendIdeal.defs (F := Ideal)) (onTc (τ := Cert.GMergeSendIdeal.τ) (Cert.GMergeSendIdeal.main (F := Ideal))) ⟨m, fun _ => 0, g⟩ (fun r => (∀ c : Dev Cert.GMergeSendIdeal.nD,
      r.2.mem ((c.tc : Thread Cert.GMergeSendIdeal.nD Cert.GMergeSendIdeal.τ).loc Cert.GMergeSendIdeal.main_arg0) = m ((c.tc : Thread Cert.GMergeSendIdeal.nD Cert.GMergeSendIdeal.τ).loc Cert.GMergeSendIdeal.main_arg0)
      ∧ r.2.mem ((c.tc : Thread Cert.GMergeSendIdeal.nD Cert.GMergeSendIdeal.τ).loc Cert.GMergeSendIdeal.main_arg1) = m ((c.tc : Thread Cert.GMergeSendIdeal.nD Cert.GMergeSendIdeal.τ).loc Cert.GMergeSendIdeal.main_arg1))
      ∧ r.2.sem = fun _ => 0)

def quiescent_GMergeSendRefIdeal [hGMergeSendRefIdeal : Cert.GMergeSendRefIdeal.Facts] : Prop :=
  ∀ (m : (ℓ : Loc Cert.GMergeSendRefIdeal.nD Cert.GMergeSendRefIdeal.τ Cert.GMergeSendRefIdeal.sig) → Buf (Elt Ideal) ℓ) (g : Dev Cert.GMergeSendRefIdeal.nD → PrngReg), Pre_GMergeSendRefIdeal m →
    θ_run (Cert.GMergeSendRefIdeal.defs (F := Ideal)) (onTc (τ := Cert.GMergeSendRefIdeal.τ) (Cert.GMergeSendRefIdeal.main (F := Ideal))) ⟨m, fun _ => 0, g⟩ (fun r => (∀ c : Dev Cert.GMergeSendRefIdeal.nD,
      r.2.mem ((c.tc : Thread Cert.GMergeSendRefIdeal.nD Cert.GMergeSendRefIdeal.τ).loc Cert.GMergeSendRefIdeal.main_arg0) = m ((c.tc : Thread Cert.GMergeSendRefIdeal.nD Cert.GMergeSendRefIdeal.τ).loc Cert.GMergeSendRefIdeal.main_arg0)
      ∧ r.2.mem ((c.tc : Thread Cert.GMergeSendRefIdeal.nD Cert.GMergeSendRefIdeal.τ).loc Cert.GMergeSendRefIdeal.main_arg1) = m ((c.tc : Thread Cert.GMergeSendRefIdeal.nD Cert.GMergeSendRefIdeal.τ).loc Cert.GMergeSendRefIdeal.main_arg1))
      ∧ r.2.sem = fun _ => 0)

def quiescent_GMergeKeep [hGMergeKeep : Cert.GMergeKeep.Facts] : Prop :=
  ∀ (m : (ℓ : Loc Cert.GMergeKeep.nD Cert.GMergeKeep.τ Cert.GMergeKeep.sig) → Buf (Elt Bits) ℓ) (g : Dev Cert.GMergeKeep.nD → PrngReg), Pre_GMergeKeep m →
    θ_run (Cert.GMergeKeep.defs (F := Bits)) (onTc (τ := Cert.GMergeKeep.τ) (Cert.GMergeKeep.main (F := Bits))) ⟨m, fun _ => 0, g⟩ (fun r => (∀ c : Dev Cert.GMergeKeep.nD,
      r.2.mem ((c.tc : Thread Cert.GMergeKeep.nD Cert.GMergeKeep.τ).loc Cert.GMergeKeep.main_arg0) = m ((c.tc : Thread Cert.GMergeKeep.nD Cert.GMergeKeep.τ).loc Cert.GMergeKeep.main_arg0)
      ∧ r.2.mem ((c.tc : Thread Cert.GMergeKeep.nD Cert.GMergeKeep.τ).loc Cert.GMergeKeep.main_arg1) = m ((c.tc : Thread Cert.GMergeKeep.nD Cert.GMergeKeep.τ).loc Cert.GMergeKeep.main_arg1)
      ∧ r.2.mem ((c.tc : Thread Cert.GMergeKeep.nD Cert.GMergeKeep.τ).loc Cert.GMergeKeep.main_arg2) = m ((c.tc : Thread Cert.GMergeKeep.nD Cert.GMergeKeep.τ).loc Cert.GMergeKeep.main_arg2))
      ∧ r.2.sem = fun _ => 0)

def quiescent_GMergeKeepIdeal [hGMergeKeepIdeal : Cert.GMergeKeepIdeal.Facts] : Prop :=
  ∀ (m : (ℓ : Loc Cert.GMergeKeepIdeal.nD Cert.GMergeKeepIdeal.τ Cert.GMergeKeepIdeal.sig) → Buf (Elt Ideal) ℓ) (g : Dev Cert.GMergeKeepIdeal.nD → PrngReg), Pre_GMergeKeepIdeal m →
    θ_run (Cert.GMergeKeepIdeal.defs (F := Ideal)) (onTc (τ := Cert.GMergeKeepIdeal.τ) (Cert.GMergeKeepIdeal.main (F := Ideal))) ⟨m, fun _ => 0, g⟩ (fun r => (∀ c : Dev Cert.GMergeKeepIdeal.nD,
      r.2.mem ((c.tc : Thread Cert.GMergeKeepIdeal.nD Cert.GMergeKeepIdeal.τ).loc Cert.GMergeKeepIdeal.main_arg0) = m ((c.tc : Thread Cert.GMergeKeepIdeal.nD Cert.GMergeKeepIdeal.τ).loc Cert.GMergeKeepIdeal.main_arg0)
      ∧ r.2.mem ((c.tc : Thread Cert.GMergeKeepIdeal.nD Cert.GMergeKeepIdeal.τ).loc Cert.GMergeKeepIdeal.main_arg1) = m ((c.tc : Thread Cert.GMergeKeepIdeal.nD Cert.GMergeKeepIdeal.τ).loc Cert.GMergeKeepIdeal.main_arg1)
      ∧ r.2.mem ((c.tc : Thread Cert.GMergeKeepIdeal.nD Cert.GMergeKeepIdeal.τ).loc Cert.GMergeKeepIdeal.main_arg2) = m ((c.tc : Thread Cert.GMergeKeepIdeal.nD Cert.GMergeKeepIdeal.τ).loc Cert.GMergeKeepIdeal.main_arg2))
      ∧ r.2.sem = fun _ => 0)

def quiescent_GMergeKeepRefIdeal [hGMergeKeepRefIdeal : Cert.GMergeKeepRefIdeal.Facts] : Prop :=
  ∀ (m : (ℓ : Loc Cert.GMergeKeepRefIdeal.nD Cert.GMergeKeepRefIdeal.τ Cert.GMergeKeepRefIdeal.sig) → Buf (Elt Ideal) ℓ) (g : Dev Cert.GMergeKeepRefIdeal.nD → PrngReg), Pre_GMergeKeepRefIdeal m →
    θ_run (Cert.GMergeKeepRefIdeal.defs (F := Ideal)) (onTc (τ := Cert.GMergeKeepRefIdeal.τ) (Cert.GMergeKeepRefIdeal.main (F := Ideal))) ⟨m, fun _ => 0, g⟩ (fun r => (∀ c : Dev Cert.GMergeKeepRefIdeal.nD,
      r.2.mem ((c.tc : Thread Cert.GMergeKeepRefIdeal.nD Cert.GMergeKeepRefIdeal.τ).loc Cert.GMergeKeepRefIdeal.main_arg0) = m ((c.tc : Thread Cert.GMergeKeepRefIdeal.nD Cert.GMergeKeepRefIdeal.τ).loc Cert.GMergeKeepRefIdeal.main_arg0)
      ∧ r.2.mem ((c.tc : Thread Cert.GMergeKeepRefIdeal.nD Cert.GMergeKeepRefIdeal.τ).loc Cert.GMergeKeepRefIdeal.main_arg1) = m ((c.tc : Thread Cert.GMergeKeepRefIdeal.nD Cert.GMergeKeepRefIdeal.τ).loc Cert.GMergeKeepRefIdeal.main_arg1)
      ∧ r.2.mem ((c.tc : Thread Cert.GMergeKeepRefIdeal.nD Cert.GMergeKeepRefIdeal.τ).loc Cert.GMergeKeepRefIdeal.main_arg2) = m ((c.tc : Thread Cert.GMergeKeepRefIdeal.nD Cert.GMergeKeepRefIdeal.τ).loc Cert.GMergeKeepRefIdeal.main_arg2))
      ∧ r.2.sem = fun _ => 0)

def quiescent_GInSend [hGInSend : Cert.GInSend.Facts] : Prop :=
  ∀ (m : (ℓ : Loc Cert.GInSend.nD Cert.GInSend.τ Cert.GInSend.sig) → Buf (Elt Bits) ℓ) (g : Dev Cert.GInSend.nD → PrngReg), Pre_GInSend m →
    θ_run (Cert.GInSend.defs (F := Bits)) (onTc (τ := Cert.GInSend.τ) (Cert.GInSend.main (F := Bits))) ⟨m, fun _ => 0, g⟩ (fun r => (∀ c : Dev Cert.GInSend.nD,
      r.2.mem ((c.tc : Thread Cert.GInSend.nD Cert.GInSend.τ).loc Cert.GInSend.main_arg0) = m ((c.tc : Thread Cert.GInSend.nD Cert.GInSend.τ).loc Cert.GInSend.main_arg0)
      ∧ r.2.mem ((c.tc : Thread Cert.GInSend.nD Cert.GInSend.τ).loc Cert.GInSend.main_arg1) = m ((c.tc : Thread Cert.GInSend.nD Cert.GInSend.τ).loc Cert.GInSend.main_arg1))
      ∧ r.2.sem = fun _ => 0)

def quiescent_GInSendIdeal [hGInSendIdeal : Cert.GInSendIdeal.Facts] : Prop :=
  ∀ (m : (ℓ : Loc Cert.GInSendIdeal.nD Cert.GInSendIdeal.τ Cert.GInSendIdeal.sig) → Buf (Elt Ideal) ℓ) (g : Dev Cert.GInSendIdeal.nD → PrngReg), Pre_GInSendIdeal m →
    θ_run (Cert.GInSendIdeal.defs (F := Ideal)) (onTc (τ := Cert.GInSendIdeal.τ) (Cert.GInSendIdeal.main (F := Ideal))) ⟨m, fun _ => 0, g⟩ (fun r => (∀ c : Dev Cert.GInSendIdeal.nD,
      r.2.mem ((c.tc : Thread Cert.GInSendIdeal.nD Cert.GInSendIdeal.τ).loc Cert.GInSendIdeal.main_arg0) = m ((c.tc : Thread Cert.GInSendIdeal.nD Cert.GInSendIdeal.τ).loc Cert.GInSendIdeal.main_arg0)
      ∧ r.2.mem ((c.tc : Thread Cert.GInSendIdeal.nD Cert.GInSendIdeal.τ).loc Cert.GInSendIdeal.main_arg1) = m ((c.tc : Thread Cert.GInSendIdeal.nD Cert.GInSendIdeal.τ).loc Cert.GInSendIdeal.main_arg1))
      ∧ r.2.sem = fun _ => 0)

def quiescent_GInSendRefIdeal [hGInSendRefIdeal : Cert.GInSendRefIdeal.Facts] : Prop :=
  ∀ (m : (ℓ : Loc Cert.GInSendRefIdeal.nD Cert.GInSendRefIdeal.τ Cert.GInSendRefIdeal.sig) → Buf (Elt Ideal) ℓ) (g : Dev Cert.GInSendRefIdeal.nD → PrngReg), Pre_GInSendRefIdeal m →
    θ_run (Cert.GInSendRefIdeal.defs (F := Ideal)) (onTc (τ := Cert.GInSendRefIdeal.τ) (Cert.GInSendRefIdeal.main (F := Ideal))) ⟨m, fun _ => 0, g⟩ (fun r => (∀ c : Dev Cert.GInSendRefIdeal.nD,
      r.2.mem ((c.tc : Thread Cert.GInSendRefIdeal.nD Cert.GInSendRefIdeal.τ).loc Cert.GInSendRefIdeal.main_arg0) = m ((c.tc : Thread Cert.GInSendRefIdeal.nD Cert.GInSendRefIdeal.τ).loc Cert.GInSendRefIdeal.main_arg0)
      ∧ r.2.mem ((c.tc : Thread Cert.GInSendRefIdeal.nD Cert.GInSendRefIdeal.τ).loc Cert.GInSendRefIdeal.main_arg1) = m ((c.tc : Thread Cert.GInSendRefIdeal.nD Cert.GInSendRefIdeal.τ).loc Cert.GInSendRefIdeal.main_arg1))
      ∧ r.2.sem = fun _ => 0)

def quiescent_GInKeep [hGInKeep : Cert.GInKeep.Facts] : Prop :=
  ∀ (m : (ℓ : Loc Cert.GInKeep.nD Cert.GInKeep.τ Cert.GInKeep.sig) → Buf (Elt Bits) ℓ) (g : Dev Cert.GInKeep.nD → PrngReg), Pre_GInKeep m →
    θ_run (Cert.GInKeep.defs (F := Bits)) (onTc (τ := Cert.GInKeep.τ) (Cert.GInKeep.main (F := Bits))) ⟨m, fun _ => 0, g⟩ (fun r => (∀ c : Dev Cert.GInKeep.nD,
      r.2.mem ((c.tc : Thread Cert.GInKeep.nD Cert.GInKeep.τ).loc Cert.GInKeep.main_arg0) = m ((c.tc : Thread Cert.GInKeep.nD Cert.GInKeep.τ).loc Cert.GInKeep.main_arg0)
      ∧ r.2.mem ((c.tc : Thread Cert.GInKeep.nD Cert.GInKeep.τ).loc Cert.GInKeep.main_arg1) = m ((c.tc : Thread Cert.GInKeep.nD Cert.GInKeep.τ).loc Cert.GInKeep.main_arg1)
      ∧ r.2.mem ((c.tc : Thread Cert.GInKeep.nD Cert.GInKeep.τ).loc Cert.GInKeep.main_arg2) = m ((c.tc : Thread Cert.GInKeep.nD Cert.GInKeep.τ).loc Cert.GInKeep.main_arg2))
      ∧ r.2.sem = fun _ => 0)

def quiescent_GInKeepIdeal [hGInKeepIdeal : Cert.GInKeepIdeal.Facts] : Prop :=
  ∀ (m : (ℓ : Loc Cert.GInKeepIdeal.nD Cert.GInKeepIdeal.τ Cert.GInKeepIdeal.sig) → Buf (Elt Ideal) ℓ) (g : Dev Cert.GInKeepIdeal.nD → PrngReg), Pre_GInKeepIdeal m →
    θ_run (Cert.GInKeepIdeal.defs (F := Ideal)) (onTc (τ := Cert.GInKeepIdeal.τ) (Cert.GInKeepIdeal.main (F := Ideal))) ⟨m, fun _ => 0, g⟩ (fun r => (∀ c : Dev Cert.GInKeepIdeal.nD,
      r.2.mem ((c.tc : Thread Cert.GInKeepIdeal.nD Cert.GInKeepIdeal.τ).loc Cert.GInKeepIdeal.main_arg0) = m ((c.tc : Thread Cert.GInKeepIdeal.nD Cert.GInKeepIdeal.τ).loc Cert.GInKeepIdeal.main_arg0)
      ∧ r.2.mem ((c.tc : Thread Cert.GInKeepIdeal.nD Cert.GInKeepIdeal.τ).loc Cert.GInKeepIdeal.main_arg1) = m ((c.tc : Thread Cert.GInKeepIdeal.nD Cert.GInKeepIdeal.τ).loc Cert.GInKeepIdeal.main_arg1)
      ∧ r.2.mem ((c.tc : Thread Cert.GInKeepIdeal.nD Cert.GInKeepIdeal.τ).loc Cert.GInKeepIdeal.main_arg2) = m ((c.tc : Thread Cert.GInKeepIdeal.nD Cert.GInKeepIdeal.τ).loc Cert.GInKeepIdeal.main_arg2))
      ∧ r.2.sem = fun _ => 0)

def quiescent_GInKeepRefIdeal [hGInKeepRefIdeal : Cert.GInKeepRefIdeal.Facts] : Prop :=
  ∀ (m : (ℓ : Loc Cert.GInKeepRefIdeal.nD Cert.GInKeepRefIdeal.τ Cert.GInKeepRefIdeal.sig) → Buf (Elt Ideal) ℓ) (g : Dev Cert.GInKeepRefIdeal.nD → PrngReg), Pre_GInKeepRefIdeal m →
    θ_run (Cert.GInKeepRefIdeal.defs (F := Ideal)) (onTc (τ := Cert.GInKeepRefIdeal.τ) (Cert.GInKeepRefIdeal.main (F := Ideal))) ⟨m, fun _ => 0, g⟩ (fun r => (∀ c : Dev Cert.GInKeepRefIdeal.nD,
      r.2.mem ((c.tc : Thread Cert.GInKeepRefIdeal.nD Cert.GInKeepRefIdeal.τ).loc Cert.GInKeepRefIdeal.main_arg0) = m ((c.tc : Thread Cert.GInKeepRefIdeal.nD Cert.GInKeepRefIdeal.τ).loc Cert.GInKeepRefIdeal.main_arg0)
      ∧ r.2.mem ((c.tc : Thread Cert.GInKeepRefIdeal.nD Cert.GInKeepRefIdeal.τ).loc Cert.GInKeepRefIdeal.main_arg1) = m ((c.tc : Thread Cert.GInKeepRefIdeal.nD Cert.GInKeepRefIdeal.τ).loc Cert.GInKeepRefIdeal.main_arg1)
      ∧ r.2.mem ((c.tc : Thread Cert.GInKeepRefIdeal.nD Cert.GInKeepRefIdeal.τ).loc Cert.GInKeepRefIdeal.main_arg2) = m ((c.tc : Thread Cert.GInKeepRefIdeal.nD Cert.GInKeepRefIdeal.τ).loc Cert.GInKeepRefIdeal.main_arg2))
      ∧ r.2.sem = fun _ => 0)

def quiescent_Small [hSmall : Cert.Small.Facts] : Prop :=
  ∀ (m : (ℓ : Loc Cert.Small.nD Cert.Small.τ Cert.Small.sig) → Buf (Elt Bits) ℓ) (g : Dev Cert.Small.nD → PrngReg), Pre_Small m →
    θ_run (Cert.Small.defs (F := Bits)) (onTc (τ := Cert.Small.τ) (Cert.Small.main (F := Bits))) ⟨m, fun _ => 0, g⟩ (fun r => (∀ c : Dev Cert.Small.nD,
      r.2.mem ((c.tc : Thread Cert.Small.nD Cert.Small.τ).loc Cert.Small.main_arg0) = m ((c.tc : Thread Cert.Small.nD Cert.Small.τ).loc Cert.Small.main_arg0)
      ∧ r.2.mem ((c.tc : Thread Cert.Small.nD Cert.Small.τ).loc Cert.Small.main_arg1) = m ((c.tc : Thread Cert.Small.nD Cert.Small.τ).loc Cert.Small.main_arg1)
      ∧ r.2.mem ((c.tc : Thread Cert.Small.nD Cert.Small.τ).loc Cert.Small.main_arg2) = m ((c.tc : Thread Cert.Small.nD Cert.Small.τ).loc Cert.Small.main_arg2)
      ∧ r.2.mem ((c.tc : Thread Cert.Small.nD Cert.Small.τ).loc Cert.Small.main_arg3) = m ((c.tc : Thread Cert.Small.nD Cert.Small.τ).loc Cert.Small.main_arg3)
      ∧ r.2.mem ((c.tc : Thread Cert.Small.nD Cert.Small.τ).loc Cert.Small.main_arg4) = m ((c.tc : Thread Cert.Small.nD Cert.Small.τ).loc Cert.Small.main_arg4)
      ∧ r.2.mem ((c.tc : Thread Cert.Small.nD Cert.Small.τ).loc Cert.Small.main_arg5) = m ((c.tc : Thread Cert.Small.nD Cert.Small.τ).loc Cert.Small.main_arg5)
      ∧ r.2.mem ((c.tc : Thread Cert.Small.nD Cert.Small.τ).loc Cert.Small.main_arg6) = m ((c.tc : Thread Cert.Small.nD Cert.Small.τ).loc Cert.Small.main_arg6)
      ∧ r.2.mem ((c.tc : Thread Cert.Small.nD Cert.Small.τ).loc Cert.Small.main_arg7) = m ((c.tc : Thread Cert.Small.nD Cert.Small.τ).loc Cert.Small.main_arg7)
      ∧ r.2.mem ((c.tc : Thread Cert.Small.nD Cert.Small.τ).loc Cert.Small.main_arg8) = m ((c.tc : Thread Cert.Small.nD Cert.Small.τ).loc Cert.Small.main_arg8)
      ∧ r.2.mem ((c.tc : Thread Cert.Small.nD Cert.Small.τ).loc Cert.Small.main_arg9) = m ((c.tc : Thread Cert.Small.nD Cert.Small.τ).loc Cert.Small.main_arg9)
      ∧ r.2.mem ((c.tc : Thread Cert.Small.nD Cert.Small.τ).loc Cert.Small.main_arg10) = m ((c.tc : Thread Cert.Small.nD Cert.Small.τ).loc Cert.Small.main_arg10)
      ∧ r.2.mem ((c.tc : Thread Cert.Small.nD Cert.Small.τ).loc Cert.Small.main_arg11) = m ((c.tc : Thread Cert.Small.nD Cert.Small.τ).loc Cert.Small.main_arg11)
      ∧ r.2.mem ((c.tc : Thread Cert.Small.nD Cert.Small.τ).loc Cert.Small.main_arg12) = m ((c.tc : Thread Cert.Small.nD Cert.Small.τ).loc Cert.Small.main_arg12)
      ∧ r.2.mem ((c.tc : Thread Cert.Small.nD Cert.Small.τ).loc Cert.Small.main_arg13) = m ((c.tc : Thread Cert.Small.nD Cert.Small.τ).loc Cert.Small.main_arg13)
      ∧ r.2.mem ((c.tc : Thread Cert.Small.nD Cert.Small.τ).loc Cert.Small.main_arg14) = m ((c.tc : Thread Cert.Small.nD Cert.Small.τ).loc Cert.Small.main_arg14)
      ∧ r.2.mem ((c.tc : Thread Cert.Small.nD Cert.Small.τ).loc Cert.Small.main_arg15) = m ((c.tc : Thread Cert.Small.nD Cert.Small.τ).loc Cert.Small.main_arg15)
      ∧ r.2.mem ((c.tc : Thread Cert.Small.nD Cert.Small.τ).loc Cert.Small.main_arg16) = m ((c.tc : Thread Cert.Small.nD Cert.Small.τ).loc Cert.Small.main_arg16)
      ∧ r.2.mem ((c.tc : Thread Cert.Small.nD Cert.Small.τ).loc Cert.Small.main_arg17) = m ((c.tc : Thread Cert.Small.nD Cert.Small.τ).loc Cert.Small.main_arg17)
      ∧ r.2.mem ((c.tc : Thread Cert.Small.nD Cert.Small.τ).loc Cert.Small.main_arg18) = m ((c.tc : Thread Cert.Small.nD Cert.Small.τ).loc Cert.Small.main_arg18)
      ∧ r.2.mem ((c.tc : Thread Cert.Small.nD Cert.Small.τ).loc Cert.Small.main_arg19) = m ((c.tc : Thread Cert.Small.nD Cert.Small.τ).loc Cert.Small.main_arg19)
      ∧ r.2.mem ((c.tc : Thread Cert.Small.nD Cert.Small.τ).loc Cert.Small.main_arg20) = m ((c.tc : Thread Cert.Small.nD Cert.Small.τ).loc Cert.Small.main_arg20)
      ∧ r.2.mem ((c.tc : Thread Cert.Small.nD Cert.Small.τ).loc Cert.Small.main_arg21) = m ((c.tc : Thread Cert.Small.nD Cert.Small.τ).loc Cert.Small.main_arg21)
      ∧ r.2.mem ((c.tc : Thread Cert.Small.nD Cert.Small.τ).loc Cert.Small.main_arg22) = m ((c.tc : Thread Cert.Small.nD Cert.Small.τ).loc Cert.Small.main_arg22)
      ∧ r.2.mem ((c.tc : Thread Cert.Small.nD Cert.Small.τ).loc Cert.Small.main_arg23) = m ((c.tc : Thread Cert.Small.nD Cert.Small.τ).loc Cert.Small.main_arg23)
      ∧ r.2.mem ((c.tc : Thread Cert.Small.nD Cert.Small.τ).loc Cert.Small.main_arg24) = m ((c.tc : Thread Cert.Small.nD Cert.Small.τ).loc Cert.Small.main_arg24)
      ∧ r.2.mem ((c.tc : Thread Cert.Small.nD Cert.Small.τ).loc Cert.Small.main_arg25) = m ((c.tc : Thread Cert.Small.nD Cert.Small.τ).loc Cert.Small.main_arg25)
      ∧ r.2.mem ((c.tc : Thread Cert.Small.nD Cert.Small.τ).loc Cert.Small.main_arg26) = m ((c.tc : Thread Cert.Small.nD Cert.Small.τ).loc Cert.Small.main_arg26)
      ∧ r.2.mem ((c.tc : Thread Cert.Small.nD Cert.Small.τ).loc Cert.Small.main_arg27) = m ((c.tc : Thread Cert.Small.nD Cert.Small.τ).loc Cert.Small.main_arg27)
      ∧ r.2.mem ((c.tc : Thread Cert.Small.nD Cert.Small.τ).loc Cert.Small.main_arg28) = m ((c.tc : Thread Cert.Small.nD Cert.Small.τ).loc Cert.Small.main_arg28)
      ∧ r.2.mem ((c.tc : Thread Cert.Small.nD Cert.Small.τ).loc Cert.Small.main_arg29) = m ((c.tc : Thread Cert.Small.nD Cert.Small.τ).loc Cert.Small.main_arg29)
      ∧ r.2.mem ((c.tc : Thread Cert.Small.nD Cert.Small.τ).loc Cert.Small.main_arg30) = m ((c.tc : Thread Cert.Small.nD Cert.Small.τ).loc Cert.Small.main_arg30)
      ∧ r.2.mem ((c.tc : Thread Cert.Small.nD Cert.Small.τ).loc Cert.Small.main_arg31) = m ((c.tc : Thread Cert.Small.nD Cert.Small.τ).loc Cert.Small.main_arg31))
      ∧ r.2.sem = fun _ => 0)

def quiescent_SmallIdeal [hSmallIdeal : Cert.SmallIdeal.Facts] : Prop :=
  ∀ (m : (ℓ : Loc Cert.SmallIdeal.nD Cert.SmallIdeal.τ Cert.SmallIdeal.sig) → Buf (Elt Ideal) ℓ) (g : Dev Cert.SmallIdeal.nD → PrngReg), Pre_SmallIdeal m →
    θ_run (Cert.SmallIdeal.defs (F := Ideal)) (onTc (τ := Cert.SmallIdeal.τ) (Cert.SmallIdeal.main (F := Ideal))) ⟨m, fun _ => 0, g⟩ (fun r => (∀ c : Dev Cert.SmallIdeal.nD,
      r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
      ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
      ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2)
      ∧ r.2.mem ((c.tc : Thread Cert.SmallIdeal.nD Cert.SmallIdeal.τ).loc Cert.SmallIdeal.main_arg3) = m ((c.tc : Thread Cert.SmallIdeal.nD Cert.SmallIdeal.τ).loc Cert.SmallIdeal.main_arg3)
      ∧ r.2.mem ((c.tc : Thread Cert.SmallIdeal.nD Cert.SmallIdeal.τ).loc Cert.SmallIdeal.main_arg4) = m ((c.tc : Thread Cert.SmallIdeal.nD Cert.SmallIdeal.τ).loc Cert.SmallIdeal.main_arg4)
      ∧ r.2.mem ((c.tc : Thread Cert.SmallIdeal.nD Cert.SmallIdeal.τ).loc Cert.SmallIdeal.main_arg5) = m ((c.tc : Thread Cert.SmallIdeal.nD Cert.SmallIdeal.τ).loc Cert.SmallIdeal.main_arg5)
      ∧ r.2.mem ((c.tc : Thread Cert.SmallIdeal.nD Cert.SmallIdeal.τ).loc Cert.SmallIdeal.main_arg6) = m ((c.tc : Thread Cert.SmallIdeal.nD Cert.SmallIdeal.τ).loc Cert.SmallIdeal.main_arg6)
      ∧ r.2.mem ((c.tc : Thread Cert.SmallIdeal.nD Cert.SmallIdeal.τ).loc Cert.SmallIdeal.main_arg7) = m ((c.tc : Thread Cert.SmallIdeal.nD Cert.SmallIdeal.τ).loc Cert.SmallIdeal.main_arg7)
      ∧ r.2.mem ((c.tc : Thread Cert.SmallIdeal.nD Cert.SmallIdeal.τ).loc Cert.SmallIdeal.main_arg8) = m ((c.tc : Thread Cert.SmallIdeal.nD Cert.SmallIdeal.τ).loc Cert.SmallIdeal.main_arg8)
      ∧ r.2.mem ((c.tc : Thread Cert.SmallIdeal.nD Cert.SmallIdeal.τ).loc Cert.SmallIdeal.main_arg9) = m ((c.tc : Thread Cert.SmallIdeal.nD Cert.SmallIdeal.τ).loc Cert.SmallIdeal.main_arg9)
      ∧ r.2.mem ((c.tc : Thread Cert.SmallIdeal.nD Cert.SmallIdeal.τ).loc Cert.SmallIdeal.main_arg10) = m ((c.tc : Thread Cert.SmallIdeal.nD Cert.SmallIdeal.τ).loc Cert.SmallIdeal.main_arg10)
      ∧ r.2.mem ((c.tc : Thread Cert.SmallIdeal.nD Cert.SmallIdeal.τ).loc Cert.SmallIdeal.main_arg11) = m ((c.tc : Thread Cert.SmallIdeal.nD Cert.SmallIdeal.τ).loc Cert.SmallIdeal.main_arg11)
      ∧ r.2.mem ((c.tc : Thread Cert.SmallIdeal.nD Cert.SmallIdeal.τ).loc Cert.SmallIdeal.main_arg12) = m ((c.tc : Thread Cert.SmallIdeal.nD Cert.SmallIdeal.τ).loc Cert.SmallIdeal.main_arg12)
      ∧ r.2.mem ((c.tc : Thread Cert.SmallIdeal.nD Cert.SmallIdeal.τ).loc Cert.SmallIdeal.main_arg13) = m ((c.tc : Thread Cert.SmallIdeal.nD Cert.SmallIdeal.τ).loc Cert.SmallIdeal.main_arg13)
      ∧ r.2.mem ((c.tc : Thread Cert.SmallIdeal.nD Cert.SmallIdeal.τ).loc Cert.SmallIdeal.main_arg14) = m ((c.tc : Thread Cert.SmallIdeal.nD Cert.SmallIdeal.τ).loc Cert.SmallIdeal.main_arg14)
      ∧ r.2.mem ((c.tc : Thread Cert.SmallIdeal.nD Cert.SmallIdeal.τ).loc Cert.SmallIdeal.main_arg15) = m ((c.tc : Thread Cert.SmallIdeal.nD Cert.SmallIdeal.τ).loc Cert.SmallIdeal.main_arg15)
      ∧ r.2.mem ((c.tc : Thread Cert.SmallIdeal.nD Cert.SmallIdeal.τ).loc Cert.SmallIdeal.main_arg16) = m ((c.tc : Thread Cert.SmallIdeal.nD Cert.SmallIdeal.τ).loc Cert.SmallIdeal.main_arg16)
      ∧ r.2.mem ((c.tc : Thread Cert.SmallIdeal.nD Cert.SmallIdeal.τ).loc Cert.SmallIdeal.main_arg17) = m ((c.tc : Thread Cert.SmallIdeal.nD Cert.SmallIdeal.τ).loc Cert.SmallIdeal.main_arg17)
      ∧ r.2.mem ((c.tc : Thread Cert.SmallIdeal.nD Cert.SmallIdeal.τ).loc Cert.SmallIdeal.main_arg18) = m ((c.tc : Thread Cert.SmallIdeal.nD Cert.SmallIdeal.τ).loc Cert.SmallIdeal.main_arg18)
      ∧ r.2.mem ((c.tc : Thread Cert.SmallIdeal.nD Cert.SmallIdeal.τ).loc Cert.SmallIdeal.main_arg19) = m ((c.tc : Thread Cert.SmallIdeal.nD Cert.SmallIdeal.τ).loc Cert.SmallIdeal.main_arg19)
      ∧ r.2.mem ((c.tc : Thread Cert.SmallIdeal.nD Cert.SmallIdeal.τ).loc Cert.SmallIdeal.main_arg20) = m ((c.tc : Thread Cert.SmallIdeal.nD Cert.SmallIdeal.τ).loc Cert.SmallIdeal.main_arg20)
      ∧ r.2.mem ((c.tc : Thread Cert.SmallIdeal.nD Cert.SmallIdeal.τ).loc Cert.SmallIdeal.main_arg21) = m ((c.tc : Thread Cert.SmallIdeal.nD Cert.SmallIdeal.τ).loc Cert.SmallIdeal.main_arg21)
      ∧ r.2.mem ((c.tc : Thread Cert.SmallIdeal.nD Cert.SmallIdeal.τ).loc Cert.SmallIdeal.main_arg22) = m ((c.tc : Thread Cert.SmallIdeal.nD Cert.SmallIdeal.τ).loc Cert.SmallIdeal.main_arg22)
      ∧ r.2.mem ((c.tc : Thread Cert.SmallIdeal.nD Cert.SmallIdeal.τ).loc Cert.SmallIdeal.main_arg23) = m ((c.tc : Thread Cert.SmallIdeal.nD Cert.SmallIdeal.τ).loc Cert.SmallIdeal.main_arg23)
      ∧ r.2.mem ((c.tc : Thread Cert.SmallIdeal.nD Cert.SmallIdeal.τ).loc Cert.SmallIdeal.main_arg24) = m ((c.tc : Thread Cert.SmallIdeal.nD Cert.SmallIdeal.τ).loc Cert.SmallIdeal.main_arg24)
      ∧ r.2.mem ((c.tc : Thread Cert.SmallIdeal.nD Cert.SmallIdeal.τ).loc Cert.SmallIdeal.main_arg25) = m ((c.tc : Thread Cert.SmallIdeal.nD Cert.SmallIdeal.τ).loc Cert.SmallIdeal.main_arg25)
      ∧ r.2.mem ((c.tc : Thread Cert.SmallIdeal.nD Cert.SmallIdeal.τ).loc Cert.SmallIdeal.main_arg26) = m ((c.tc : Thread Cert.SmallIdeal.nD Cert.SmallIdeal.τ).loc Cert.SmallIdeal.main_arg26)
      ∧ r.2.mem ((c.tc : Thread Cert.SmallIdeal.nD Cert.SmallIdeal.τ).loc Cert.SmallIdeal.main_arg27) = m ((c.tc : Thread Cert.SmallIdeal.nD Cert.SmallIdeal.τ).loc Cert.SmallIdeal.main_arg27)
      ∧ r.2.mem ((c.tc : Thread Cert.SmallIdeal.nD Cert.SmallIdeal.τ).loc Cert.SmallIdeal.main_arg28) = m ((c.tc : Thread Cert.SmallIdeal.nD Cert.SmallIdeal.τ).loc Cert.SmallIdeal.main_arg28)
      ∧ r.2.mem ((c.tc : Thread Cert.SmallIdeal.nD Cert.SmallIdeal.τ).loc Cert.SmallIdeal.main_arg29) = m ((c.tc : Thread Cert.SmallIdeal.nD Cert.SmallIdeal.τ).loc Cert.SmallIdeal.main_arg29)
      ∧ r.2.mem ((c.tc : Thread Cert.SmallIdeal.nD Cert.SmallIdeal.τ).loc Cert.SmallIdeal.main_arg30) = m ((c.tc : Thread Cert.SmallIdeal.nD Cert.SmallIdeal.τ).loc Cert.SmallIdeal.main_arg30)
      ∧ r.2.mem ((c.tc : Thread Cert.SmallIdeal.nD Cert.SmallIdeal.τ).loc Cert.SmallIdeal.main_arg31) = m ((c.tc : Thread Cert.SmallIdeal.nD Cert.SmallIdeal.τ).loc Cert.SmallIdeal.main_arg31))
      ∧ r.2.sem = fun _ => 0)

def quiescent_SmallRefIdeal [hSmallRefIdeal : Cert.SmallRefIdeal.Facts] : Prop :=
  ∀ (m : (ℓ : Loc Cert.SmallRefIdeal.nD Cert.SmallRefIdeal.τ Cert.SmallRefIdeal.sig) → Buf (Elt Ideal) ℓ) (g : Dev Cert.SmallRefIdeal.nD → PrngReg), Pre_SmallRefIdeal m →
    θ_run (Cert.SmallRefIdeal.defs (F := Ideal)) (onTc (τ := Cert.SmallRefIdeal.τ) (Cert.SmallRefIdeal.main (F := Ideal))) ⟨m, fun _ => 0, g⟩ (fun r => (∀ c : Dev Cert.SmallRefIdeal.nD,
      r.2.mem ((c.tc : Thread Cert.SmallRefIdeal.nD Cert.SmallRefIdeal.τ).loc Cert.SmallRefIdeal.main_arg0) = m ((c.tc : Thread Cert.SmallRefIdeal.nD Cert.SmallRefIdeal.τ).loc Cert.SmallRefIdeal.main_arg0)
      ∧ r.2.mem ((c.tc : Thread Cert.SmallRefIdeal.nD Cert.SmallRefIdeal.τ).loc Cert.SmallRefIdeal.main_arg1) = m ((c.tc : Thread Cert.SmallRefIdeal.nD Cert.SmallRefIdeal.τ).loc Cert.SmallRefIdeal.main_arg1)
      ∧ r.2.mem ((c.tc : Thread Cert.SmallRefIdeal.nD Cert.SmallRefIdeal.τ).loc Cert.SmallRefIdeal.main_arg2) = m ((c.tc : Thread Cert.SmallRefIdeal.nD Cert.SmallRefIdeal.τ).loc Cert.SmallRefIdeal.main_arg2)
      ∧ r.2.mem ((c.tc : Thread Cert.SmallRefIdeal.nD Cert.SmallRefIdeal.τ).loc Cert.SmallRefIdeal.main_arg3) = m ((c.tc : Thread Cert.SmallRefIdeal.nD Cert.SmallRefIdeal.τ).loc Cert.SmallRefIdeal.main_arg3)
      ∧ r.2.mem ((c.tc : Thread Cert.SmallRefIdeal.nD Cert.SmallRefIdeal.τ).loc Cert.SmallRefIdeal.main_arg4) = m ((c.tc : Thread Cert.SmallRefIdeal.nD Cert.SmallRefIdeal.τ).loc Cert.SmallRefIdeal.main_arg4)
      ∧ r.2.mem ((c.tc : Thread Cert.SmallRefIdeal.nD Cert.SmallRefIdeal.τ).loc Cert.SmallRefIdeal.main_arg5) = m ((c.tc : Thread Cert.SmallRefIdeal.nD Cert.SmallRefIdeal.τ).loc Cert.SmallRefIdeal.main_arg5)
      ∧ r.2.mem ((c.tc : Thread Cert.SmallRefIdeal.nD Cert.SmallRefIdeal.τ).loc Cert.SmallRefIdeal.main_arg6) = m ((c.tc : Thread Cert.SmallRefIdeal.nD Cert.SmallRefIdeal.τ).loc Cert.SmallRefIdeal.main_arg6)
      ∧ r.2.mem ((c.tc : Thread Cert.SmallRefIdeal.nD Cert.SmallRefIdeal.τ).loc Cert.SmallRefIdeal.main_arg7) = m ((c.tc : Thread Cert.SmallRefIdeal.nD Cert.SmallRefIdeal.τ).loc Cert.SmallRefIdeal.main_arg7)
      ∧ r.2.mem ((c.tc : Thread Cert.SmallRefIdeal.nD Cert.SmallRefIdeal.τ).loc Cert.SmallRefIdeal.main_arg8) = m ((c.tc : Thread Cert.SmallRefIdeal.nD Cert.SmallRefIdeal.τ).loc Cert.SmallRefIdeal.main_arg8)
      ∧ r.2.mem ((c.tc : Thread Cert.SmallRefIdeal.nD Cert.SmallRefIdeal.τ).loc Cert.SmallRefIdeal.main_arg9) = m ((c.tc : Thread Cert.SmallRefIdeal.nD Cert.SmallRefIdeal.τ).loc Cert.SmallRefIdeal.main_arg9)
      ∧ r.2.mem ((c.tc : Thread Cert.SmallRefIdeal.nD Cert.SmallRefIdeal.τ).loc Cert.SmallRefIdeal.main_arg10) = m ((c.tc : Thread Cert.SmallRefIdeal.nD Cert.SmallRefIdeal.τ).loc Cert.SmallRefIdeal.main_arg10)
      ∧ r.2.mem ((c.tc : Thread Cert.SmallRefIdeal.nD Cert.SmallRefIdeal.τ).loc Cert.SmallRefIdeal.main_arg11) = m ((c.tc : Thread Cert.SmallRefIdeal.nD Cert.SmallRefIdeal.τ).loc Cert.SmallRefIdeal.main_arg11)
      ∧ r.2.mem ((c.tc : Thread Cert.SmallRefIdeal.nD Cert.SmallRefIdeal.τ).loc Cert.SmallRefIdeal.main_arg12) = m ((c.tc : Thread Cert.SmallRefIdeal.nD Cert.SmallRefIdeal.τ).loc Cert.SmallRefIdeal.main_arg12)
      ∧ r.2.mem ((c.tc : Thread Cert.SmallRefIdeal.nD Cert.SmallRefIdeal.τ).loc Cert.SmallRefIdeal.main_arg13) = m ((c.tc : Thread Cert.SmallRefIdeal.nD Cert.SmallRefIdeal.τ).loc Cert.SmallRefIdeal.main_arg13)
      ∧ r.2.mem ((c.tc : Thread Cert.SmallRefIdeal.nD Cert.SmallRefIdeal.τ).loc Cert.SmallRefIdeal.main_arg14) = m ((c.tc : Thread Cert.SmallRefIdeal.nD Cert.SmallRefIdeal.τ).loc Cert.SmallRefIdeal.main_arg14)
      ∧ r.2.mem ((c.tc : Thread Cert.SmallRefIdeal.nD Cert.SmallRefIdeal.τ).loc Cert.SmallRefIdeal.main_arg15) = m ((c.tc : Thread Cert.SmallRefIdeal.nD Cert.SmallRefIdeal.τ).loc Cert.SmallRefIdeal.main_arg15)
      ∧ r.2.mem ((c.tc : Thread Cert.SmallRefIdeal.nD Cert.SmallRefIdeal.τ).loc Cert.SmallRefIdeal.main_arg16) = m ((c.tc : Thread Cert.SmallRefIdeal.nD Cert.SmallRefIdeal.τ).loc Cert.SmallRefIdeal.main_arg16)
      ∧ r.2.mem ((c.tc : Thread Cert.SmallRefIdeal.nD Cert.SmallRefIdeal.τ).loc Cert.SmallRefIdeal.main_arg17) = m ((c.tc : Thread Cert.SmallRefIdeal.nD Cert.SmallRefIdeal.τ).loc Cert.SmallRefIdeal.main_arg17)
      ∧ r.2.mem ((c.tc : Thread Cert.SmallRefIdeal.nD Cert.SmallRefIdeal.τ).loc Cert.SmallRefIdeal.main_arg18) = m ((c.tc : Thread Cert.SmallRefIdeal.nD Cert.SmallRefIdeal.τ).loc Cert.SmallRefIdeal.main_arg18)
      ∧ r.2.mem ((c.tc : Thread Cert.SmallRefIdeal.nD Cert.SmallRefIdeal.τ).loc Cert.SmallRefIdeal.main_arg19) = m ((c.tc : Thread Cert.SmallRefIdeal.nD Cert.SmallRefIdeal.τ).loc Cert.SmallRefIdeal.main_arg19)
      ∧ r.2.mem ((c.tc : Thread Cert.SmallRefIdeal.nD Cert.SmallRefIdeal.τ).loc Cert.SmallRefIdeal.main_arg20) = m ((c.tc : Thread Cert.SmallRefIdeal.nD Cert.SmallRefIdeal.τ).loc Cert.SmallRefIdeal.main_arg20)
      ∧ r.2.mem ((c.tc : Thread Cert.SmallRefIdeal.nD Cert.SmallRefIdeal.τ).loc Cert.SmallRefIdeal.main_arg21) = m ((c.tc : Thread Cert.SmallRefIdeal.nD Cert.SmallRefIdeal.τ).loc Cert.SmallRefIdeal.main_arg21)
      ∧ r.2.mem ((c.tc : Thread Cert.SmallRefIdeal.nD Cert.SmallRefIdeal.τ).loc Cert.SmallRefIdeal.main_arg22) = m ((c.tc : Thread Cert.SmallRefIdeal.nD Cert.SmallRefIdeal.τ).loc Cert.SmallRefIdeal.main_arg22)
      ∧ r.2.mem ((c.tc : Thread Cert.SmallRefIdeal.nD Cert.SmallRefIdeal.τ).loc Cert.SmallRefIdeal.main_arg23) = m ((c.tc : Thread Cert.SmallRefIdeal.nD Cert.SmallRefIdeal.τ).loc Cert.SmallRefIdeal.main_arg23)
      ∧ r.2.mem ((c.tc : Thread Cert.SmallRefIdeal.nD Cert.SmallRefIdeal.τ).loc Cert.SmallRefIdeal.main_arg24) = m ((c.tc : Thread Cert.SmallRefIdeal.nD Cert.SmallRefIdeal.τ).loc Cert.SmallRefIdeal.main_arg24)
      ∧ r.2.mem ((c.tc : Thread Cert.SmallRefIdeal.nD Cert.SmallRefIdeal.τ).loc Cert.SmallRefIdeal.main_arg25) = m ((c.tc : Thread Cert.SmallRefIdeal.nD Cert.SmallRefIdeal.τ).loc Cert.SmallRefIdeal.main_arg25)
      ∧ r.2.mem ((c.tc : Thread Cert.SmallRefIdeal.nD Cert.SmallRefIdeal.τ).loc Cert.SmallRefIdeal.main_arg26) = m ((c.tc : Thread Cert.SmallRefIdeal.nD Cert.SmallRefIdeal.τ).loc Cert.SmallRefIdeal.main_arg26)
      ∧ r.2.mem ((c.tc : Thread Cert.SmallRefIdeal.nD Cert.SmallRefIdeal.τ).loc Cert.SmallRefIdeal.main_arg27) = m ((c.tc : Thread Cert.SmallRefIdeal.nD Cert.SmallRefIdeal.τ).loc Cert.SmallRefIdeal.main_arg27)
      ∧ r.2.mem ((c.tc : Thread Cert.SmallRefIdeal.nD Cert.SmallRefIdeal.τ).loc Cert.SmallRefIdeal.main_arg28) = m ((c.tc : Thread Cert.SmallRefIdeal.nD Cert.SmallRefIdeal.τ).loc Cert.SmallRefIdeal.main_arg28)
      ∧ r.2.mem ((c.tc : Thread Cert.SmallRefIdeal.nD Cert.SmallRefIdeal.τ).loc Cert.SmallRefIdeal.main_arg29) = m ((c.tc : Thread Cert.SmallRefIdeal.nD Cert.SmallRefIdeal.τ).loc Cert.SmallRefIdeal.main_arg29)
      ∧ r.2.mem ((c.tc : Thread Cert.SmallRefIdeal.nD Cert.SmallRefIdeal.τ).loc Cert.SmallRefIdeal.main_arg30) = m ((c.tc : Thread Cert.SmallRefIdeal.nD Cert.SmallRefIdeal.τ).loc Cert.SmallRefIdeal.main_arg30)
      ∧ r.2.mem ((c.tc : Thread Cert.SmallRefIdeal.nD Cert.SmallRefIdeal.τ).loc Cert.SmallRefIdeal.main_arg31) = m ((c.tc : Thread Cert.SmallRefIdeal.nD Cert.SmallRefIdeal.τ).loc Cert.SmallRefIdeal.main_arg31))
      ∧ r.2.sem = fun _ => 0)

def quiescent_UUp [hUUp : Cert.UUp.Facts] : Prop :=
  ∀ (m : (ℓ : Loc Cert.UUp.nD Cert.UUp.τ Cert.UUp.sig) → Buf (Elt Bits) ℓ) (g : Dev Cert.UUp.nD → PrngReg), Pre_UUp m →
    θ_run (Cert.UUp.defs (F := Bits)) (onTc (τ := Cert.UUp.τ) (Cert.UUp.main (F := Bits))) ⟨m, fun _ => 0, g⟩ (fun r => (∀ c : Dev Cert.UUp.nD,
      r.2.mem ((c.tc : Thread Cert.UUp.nD Cert.UUp.τ).loc Cert.UUp.main_arg0) = m ((c.tc : Thread Cert.UUp.nD Cert.UUp.τ).loc Cert.UUp.main_arg0)
      ∧ r.2.mem ((c.tc : Thread Cert.UUp.nD Cert.UUp.τ).loc Cert.UUp.main_arg1) = m ((c.tc : Thread Cert.UUp.nD Cert.UUp.τ).loc Cert.UUp.main_arg1)
      ∧ r.2.mem ((c.tc : Thread Cert.UUp.nD Cert.UUp.τ).loc Cert.UUp.main_arg2) = m ((c.tc : Thread Cert.UUp.nD Cert.UUp.τ).loc Cert.UUp.main_arg2)
      ∧ r.2.mem ((c.tc : Thread Cert.UUp.nD Cert.UUp.τ).loc Cert.UUp.main_arg3) = m ((c.tc : Thread Cert.UUp.nD Cert.UUp.τ).loc Cert.UUp.main_arg3)
      ∧ r.2.mem ((c.tc : Thread Cert.UUp.nD Cert.UUp.τ).loc Cert.UUp.main_arg4) = m ((c.tc : Thread Cert.UUp.nD Cert.UUp.τ).loc Cert.UUp.main_arg4)
      ∧ r.2.mem ((c.tc : Thread Cert.UUp.nD Cert.UUp.τ).loc Cert.UUp.main_arg5) = m ((c.tc : Thread Cert.UUp.nD Cert.UUp.τ).loc Cert.UUp.main_arg5)
      ∧ r.2.mem ((c.tc : Thread Cert.UUp.nD Cert.UUp.τ).loc Cert.UUp.main_arg6) = m ((c.tc : Thread Cert.UUp.nD Cert.UUp.τ).loc Cert.UUp.main_arg6)
      ∧ r.2.mem ((c.tc : Thread Cert.UUp.nD Cert.UUp.τ).loc Cert.UUp.main_arg7) = m ((c.tc : Thread Cert.UUp.nD Cert.UUp.τ).loc Cert.UUp.main_arg7)
      ∧ r.2.mem ((c.tc : Thread Cert.UUp.nD Cert.UUp.τ).loc Cert.UUp.main_arg8) = m ((c.tc : Thread Cert.UUp.nD Cert.UUp.τ).loc Cert.UUp.main_arg8))
      ∧ r.2.sem = fun _ => 0)

def quiescent_UUpIdeal [hUUpIdeal : Cert.UUpIdeal.Facts] : Prop :=
  ∀ (m : (ℓ : Loc Cert.UUpIdeal.nD Cert.UUpIdeal.τ Cert.UUpIdeal.sig) → Buf (Elt Ideal) ℓ) (g : Dev Cert.UUpIdeal.nD → PrngReg), Pre_UUpIdeal m →
    θ_run (Cert.UUpIdeal.defs (F := Ideal)) (onTc (τ := Cert.UUpIdeal.τ) (Cert.UUpIdeal.main (F := Ideal))) ⟨m, fun _ => 0, g⟩ (fun r => (∀ c : Dev Cert.UUpIdeal.nD,
      r.2.mem ((c.tc : Thread Cert.UUpIdeal.nD Cert.UUpIdeal.τ).loc Cert.UUpIdeal.main_arg0) = m ((c.tc : Thread Cert.UUpIdeal.nD Cert.UUpIdeal.τ).loc Cert.UUpIdeal.main_arg0)
      ∧ r.2.mem ((c.tc : Thread Cert.UUpIdeal.nD Cert.UUpIdeal.τ).loc Cert.UUpIdeal.main_arg1) = m ((c.tc : Thread Cert.UUpIdeal.nD Cert.UUpIdeal.τ).loc Cert.UUpIdeal.main_arg1)
      ∧ r.2.mem ((c.tc : Thread Cert.UUpIdeal.nD Cert.UUpIdeal.τ).loc Cert.UUpIdeal.main_arg2) = m ((c.tc : Thread Cert.UUpIdeal.nD Cert.UUpIdeal.τ).loc Cert.UUpIdeal.main_arg2)
      ∧ r.2.mem ((c.tc : Thread Cert.UUpIdeal.nD Cert.UUpIdeal.τ).loc Cert.UUpIdeal.main_arg3) = m ((c.tc : Thread Cert.UUpIdeal.nD Cert.UUpIdeal.τ).loc Cert.UUpIdeal.main_arg3)
      ∧ r.2.mem ((c.tc : Thread Cert.UUpIdeal.nD Cert.UUpIdeal.τ).loc Cert.UUpIdeal.main_arg4) = m ((c.tc : Thread Cert.UUpIdeal.nD Cert.UUpIdeal.τ).loc Cert.UUpIdeal.main_arg4)
      ∧ r.2.mem ((c.tc : Thread Cert.UUpIdeal.nD Cert.UUpIdeal.τ).loc Cert.UUpIdeal.main_arg5) = m ((c.tc : Thread Cert.UUpIdeal.nD Cert.UUpIdeal.τ).loc Cert.UUpIdeal.main_arg5)
      ∧ r.2.mem ((c.tc : Thread Cert.UUpIdeal.nD Cert.UUpIdeal.τ).loc Cert.UUpIdeal.main_arg6) = m ((c.tc : Thread Cert.UUpIdeal.nD Cert.UUpIdeal.τ).loc Cert.UUpIdeal.main_arg6)
      ∧ r.2.mem ((c.tc : Thread Cert.UUpIdeal.nD Cert.UUpIdeal.τ).loc Cert.UUpIdeal.main_arg7) = m ((c.tc : Thread Cert.UUpIdeal.nD Cert.UUpIdeal.τ).loc Cert.UUpIdeal.main_arg7)
      ∧ r.2.mem ((c.tc : Thread Cert.UUpIdeal.nD Cert.UUpIdeal.τ).loc Cert.UUpIdeal.main_arg8) = m ((c.tc : Thread Cert.UUpIdeal.nD Cert.UUpIdeal.τ).loc Cert.UUpIdeal.main_arg8))
      ∧ r.2.sem = fun _ => 0)

def quiescent_UUpRefIdeal [hUUpRefIdeal : Cert.UUpRefIdeal.Facts] : Prop :=
  ∀ (m : (ℓ : Loc Cert.UUpRefIdeal.nD Cert.UUpRefIdeal.τ Cert.UUpRefIdeal.sig) → Buf (Elt Ideal) ℓ) (g : Dev Cert.UUpRefIdeal.nD → PrngReg), Pre_UUpRefIdeal m →
    θ_run (Cert.UUpRefIdeal.defs (F := Ideal)) (onTc (τ := Cert.UUpRefIdeal.τ) (Cert.UUpRefIdeal.main (F := Ideal))) ⟨m, fun _ => 0, g⟩ (fun r => (∀ c : Dev Cert.UUpRefIdeal.nD,
      r.2.mem ((c.tc : Thread Cert.UUpRefIdeal.nD Cert.UUpRefIdeal.τ).loc Cert.UUpRefIdeal.main_arg0) = m ((c.tc : Thread Cert.UUpRefIdeal.nD Cert.UUpRefIdeal.τ).loc Cert.UUpRefIdeal.main_arg0)
      ∧ r.2.mem ((c.tc : Thread Cert.UUpRefIdeal.nD Cert.UUpRefIdeal.τ).loc Cert.UUpRefIdeal.main_arg1) = m ((c.tc : Thread Cert.UUpRefIdeal.nD Cert.UUpRefIdeal.τ).loc Cert.UUpRefIdeal.main_arg1)
      ∧ r.2.mem ((c.tc : Thread Cert.UUpRefIdeal.nD Cert.UUpRefIdeal.τ).loc Cert.UUpRefIdeal.main_arg2) = m ((c.tc : Thread Cert.UUpRefIdeal.nD Cert.UUpRefIdeal.τ).loc Cert.UUpRefIdeal.main_arg2)
      ∧ r.2.mem ((c.tc : Thread Cert.UUpRefIdeal.nD Cert.UUpRefIdeal.τ).loc Cert.UUpRefIdeal.main_arg3) = m ((c.tc : Thread Cert.UUpRefIdeal.nD Cert.UUpRefIdeal.τ).loc Cert.UUpRefIdeal.main_arg3)
      ∧ r.2.mem ((c.tc : Thread Cert.UUpRefIdeal.nD Cert.UUpRefIdeal.τ).loc Cert.UUpRefIdeal.main_arg4) = m ((c.tc : Thread Cert.UUpRefIdeal.nD Cert.UUpRefIdeal.τ).loc Cert.UUpRefIdeal.main_arg4)
      ∧ r.2.mem ((c.tc : Thread Cert.UUpRefIdeal.nD Cert.UUpRefIdeal.τ).loc Cert.UUpRefIdeal.main_arg5) = m ((c.tc : Thread Cert.UUpRefIdeal.nD Cert.UUpRefIdeal.τ).loc Cert.UUpRefIdeal.main_arg5)
      ∧ r.2.mem ((c.tc : Thread Cert.UUpRefIdeal.nD Cert.UUpRefIdeal.τ).loc Cert.UUpRefIdeal.main_arg6) = m ((c.tc : Thread Cert.UUpRefIdeal.nD Cert.UUpRefIdeal.τ).loc Cert.UUpRefIdeal.main_arg6)
      ∧ r.2.mem ((c.tc : Thread Cert.UUpRefIdeal.nD Cert.UUpRefIdeal.τ).loc Cert.UUpRefIdeal.main_arg7) = m ((c.tc : Thread Cert.UUpRefIdeal.nD Cert.UUpRefIdeal.τ).loc Cert.UUpRefIdeal.main_arg7)
      ∧ r.2.mem ((c.tc : Thread Cert.UUpRefIdeal.nD Cert.UUpRefIdeal.τ).loc Cert.UUpRefIdeal.main_arg8) = m ((c.tc : Thread Cert.UUpRefIdeal.nD Cert.UUpRefIdeal.τ).loc Cert.UUpRefIdeal.main_arg8))
      ∧ r.2.sem = fun _ => 0)

def quiescent_UIn [hUIn : Cert.UIn.Facts] : Prop :=
  ∀ (m : (ℓ : Loc Cert.UIn.nD Cert.UIn.τ Cert.UIn.sig) → Buf (Elt Bits) ℓ) (g : Dev Cert.UIn.nD → PrngReg), Pre_UIn m →
    θ_run (Cert.UIn.defs (F := Bits)) (onTc (τ := Cert.UIn.τ) (Cert.UIn.main (F := Bits))) ⟨m, fun _ => 0, g⟩ (fun r => (∀ c : Dev Cert.UIn.nD,
      r.2.mem ((c.tc : Thread Cert.UIn.nD Cert.UIn.τ).loc Cert.UIn.main_arg0) = m ((c.tc : Thread Cert.UIn.nD Cert.UIn.τ).loc Cert.UIn.main_arg0)
      ∧ r.2.mem ((c.tc : Thread Cert.UIn.nD Cert.UIn.τ).loc Cert.UIn.main_arg1) = m ((c.tc : Thread Cert.UIn.nD Cert.UIn.τ).loc Cert.UIn.main_arg1)
      ∧ r.2.mem ((c.tc : Thread Cert.UIn.nD Cert.UIn.τ).loc Cert.UIn.main_arg2) = m ((c.tc : Thread Cert.UIn.nD Cert.UIn.τ).loc Cert.UIn.main_arg2)
      ∧ r.2.mem ((c.tc : Thread Cert.UIn.nD Cert.UIn.τ).loc Cert.UIn.main_arg3) = m ((c.tc : Thread Cert.UIn.nD Cert.UIn.τ).loc Cert.UIn.main_arg3)
      ∧ r.2.mem ((c.tc : Thread Cert.UIn.nD Cert.UIn.τ).loc Cert.UIn.main_arg4) = m ((c.tc : Thread Cert.UIn.nD Cert.UIn.τ).loc Cert.UIn.main_arg4)
      ∧ r.2.mem ((c.tc : Thread Cert.UIn.nD Cert.UIn.τ).loc Cert.UIn.main_arg5) = m ((c.tc : Thread Cert.UIn.nD Cert.UIn.τ).loc Cert.UIn.main_arg5)
      ∧ r.2.mem ((c.tc : Thread Cert.UIn.nD Cert.UIn.τ).loc Cert.UIn.main_arg6) = m ((c.tc : Thread Cert.UIn.nD Cert.UIn.τ).loc Cert.UIn.main_arg6)
      ∧ r.2.mem ((c.tc : Thread Cert.UIn.nD Cert.UIn.τ).loc Cert.UIn.main_arg7) = m ((c.tc : Thread Cert.UIn.nD Cert.UIn.τ).loc Cert.UIn.main_arg7)
      ∧ r.2.mem ((c.tc : Thread Cert.UIn.nD Cert.UIn.τ).loc Cert.UIn.main_arg8) = m ((c.tc : Thread Cert.UIn.nD Cert.UIn.τ).loc Cert.UIn.main_arg8))
      ∧ r.2.sem = fun _ => 0)

def quiescent_UInIdeal [hUInIdeal : Cert.UInIdeal.Facts] : Prop :=
  ∀ (m : (ℓ : Loc Cert.UInIdeal.nD Cert.UInIdeal.τ Cert.UInIdeal.sig) → Buf (Elt Ideal) ℓ) (g : Dev Cert.UInIdeal.nD → PrngReg), Pre_UInIdeal m →
    θ_run (Cert.UInIdeal.defs (F := Ideal)) (onTc (τ := Cert.UInIdeal.τ) (Cert.UInIdeal.main (F := Ideal))) ⟨m, fun _ => 0, g⟩ (fun r => (∀ c : Dev Cert.UInIdeal.nD,
      r.2.mem ((c.tc : Thread Cert.UInIdeal.nD Cert.UInIdeal.τ).loc Cert.UInIdeal.main_arg0) = m ((c.tc : Thread Cert.UInIdeal.nD Cert.UInIdeal.τ).loc Cert.UInIdeal.main_arg0)
      ∧ r.2.mem ((c.tc : Thread Cert.UInIdeal.nD Cert.UInIdeal.τ).loc Cert.UInIdeal.main_arg1) = m ((c.tc : Thread Cert.UInIdeal.nD Cert.UInIdeal.τ).loc Cert.UInIdeal.main_arg1)
      ∧ r.2.mem ((c.tc : Thread Cert.UInIdeal.nD Cert.UInIdeal.τ).loc Cert.UInIdeal.main_arg2) = m ((c.tc : Thread Cert.UInIdeal.nD Cert.UInIdeal.τ).loc Cert.UInIdeal.main_arg2)
      ∧ r.2.mem ((c.tc : Thread Cert.UInIdeal.nD Cert.UInIdeal.τ).loc Cert.UInIdeal.main_arg3) = m ((c.tc : Thread Cert.UInIdeal.nD Cert.UInIdeal.τ).loc Cert.UInIdeal.main_arg3)
      ∧ r.2.mem ((c.tc : Thread Cert.UInIdeal.nD Cert.UInIdeal.τ).loc Cert.UInIdeal.main_arg4) = m ((c.tc : Thread Cert.UInIdeal.nD Cert.UInIdeal.τ).loc Cert.UInIdeal.main_arg4)
      ∧ r.2.mem ((c.tc : Thread Cert.UInIdeal.nD Cert.UInIdeal.τ).loc Cert.UInIdeal.main_arg5) = m ((c.tc : Thread Cert.UInIdeal.nD Cert.UInIdeal.τ).loc Cert.UInIdeal.main_arg5)
      ∧ r.2.mem ((c.tc : Thread Cert.UInIdeal.nD Cert.UInIdeal.τ).loc Cert.UInIdeal.main_arg6) = m ((c.tc : Thread Cert.UInIdeal.nD Cert.UInIdeal.τ).loc Cert.UInIdeal.main_arg6)
      ∧ r.2.mem ((c.tc : Thread Cert.UInIdeal.nD Cert.UInIdeal.τ).loc Cert.UInIdeal.main_arg7) = m ((c.tc : Thread Cert.UInIdeal.nD Cert.UInIdeal.τ).loc Cert.UInIdeal.main_arg7)
      ∧ r.2.mem ((c.tc : Thread Cert.UInIdeal.nD Cert.UInIdeal.τ).loc Cert.UInIdeal.main_arg8) = m ((c.tc : Thread Cert.UInIdeal.nD Cert.UInIdeal.τ).loc Cert.UInIdeal.main_arg8))
      ∧ r.2.sem = fun _ => 0)

def quiescent_UInRefIdeal [hUInRefIdeal : Cert.UInRefIdeal.Facts] : Prop :=
  ∀ (m : (ℓ : Loc Cert.UInRefIdeal.nD Cert.UInRefIdeal.τ Cert.UInRefIdeal.sig) → Buf (Elt Ideal) ℓ) (g : Dev Cert.UInRefIdeal.nD → PrngReg), Pre_UInRefIdeal m →
    θ_run (Cert.UInRefIdeal.defs (F := Ideal)) (onTc (τ := Cert.UInRefIdeal.τ) (Cert.UInRefIdeal.main (F := Ideal))) ⟨m, fun _ => 0, g⟩ (fun r => (∀ c : Dev Cert.UInRefIdeal.nD,
      r.2.mem ((c.tc : Thread Cert.UInRefIdeal.nD Cert.UInRefIdeal.τ).loc Cert.UInRefIdeal.main_arg0) = m ((c.tc : Thread Cert.UInRefIdeal.nD Cert.UInRefIdeal.τ).loc Cert.UInRefIdeal.main_arg0)
      ∧ r.2.mem ((c.tc : Thread Cert.UInRefIdeal.nD Cert.UInRefIdeal.τ).loc Cert.UInRefIdeal.main_arg1) = m ((c.tc : Thread Cert.UInRefIdeal.nD Cert.UInRefIdeal.τ).loc Cert.UInRefIdeal.main_arg1)
      ∧ r.2.mem ((c.tc : Thread Cert.UInRefIdeal.nD Cert.UInRefIdeal.τ).loc Cert.UInRefIdeal.main_arg2) = m ((c.tc : Thread Cert.UInRefIdeal.nD Cert.UInRefIdeal.τ).loc Cert.UInRefIdeal.main_arg2)
      ∧ r.2.mem ((c.tc : Thread Cert.UInRefIdeal.nD Cert.UInRefIdeal.τ).loc Cert.UInRefIdeal.main_arg3) = m ((c.tc : Thread Cert.UInRefIdeal.nD Cert.UInRefIdeal.τ).loc Cert.UInRefIdeal.main_arg3)
      ∧ r.2.mem ((c.tc : Thread Cert.UInRefIdeal.nD Cert.UInRefIdeal.τ).loc Cert.UInRefIdeal.main_arg4) = m ((c.tc : Thread Cert.UInRefIdeal.nD Cert.UInRefIdeal.τ).loc Cert.UInRefIdeal.main_arg4)
      ∧ r.2.mem ((c.tc : Thread Cert.UInRefIdeal.nD Cert.UInRefIdeal.τ).loc Cert.UInRefIdeal.main_arg5) = m ((c.tc : Thread Cert.UInRefIdeal.nD Cert.UInRefIdeal.τ).loc Cert.UInRefIdeal.main_arg5)
      ∧ r.2.mem ((c.tc : Thread Cert.UInRefIdeal.nD Cert.UInRefIdeal.τ).loc Cert.UInRefIdeal.main_arg6) = m ((c.tc : Thread Cert.UInRefIdeal.nD Cert.UInRefIdeal.τ).loc Cert.UInRefIdeal.main_arg6)
      ∧ r.2.mem ((c.tc : Thread Cert.UInRefIdeal.nD Cert.UInRefIdeal.τ).loc Cert.UInRefIdeal.main_arg7) = m ((c.tc : Thread Cert.UInRefIdeal.nD Cert.UInRefIdeal.τ).loc Cert.UInRefIdeal.main_arg7)
      ∧ r.2.mem ((c.tc : Thread Cert.UInRefIdeal.nD Cert.UInRefIdeal.τ).loc Cert.UInRefIdeal.main_arg8) = m ((c.tc : Thread Cert.UInRefIdeal.nD Cert.UInRefIdeal.τ).loc Cert.UInRefIdeal.main_arg8))
      ∧ r.2.sem = fun _ => 0)

def quiescent_UMerge [hUMerge : Cert.UMerge.Facts] : Prop :=
  ∀ (m : (ℓ : Loc Cert.UMerge.nD Cert.UMerge.τ Cert.UMerge.sig) → Buf (Elt Bits) ℓ) (g : Dev Cert.UMerge.nD → PrngReg), Pre_UMerge m →
    θ_run (Cert.UMerge.defs (F := Bits)) (onTc (τ := Cert.UMerge.τ) (Cert.UMerge.main (F := Bits))) ⟨m, fun _ => 0, g⟩ (fun r => (∀ c : Dev Cert.UMerge.nD,
      r.2.mem ((c.tc : Thread Cert.UMerge.nD Cert.UMerge.τ).loc Cert.UMerge.main_arg0) = m ((c.tc : Thread Cert.UMerge.nD Cert.UMerge.τ).loc Cert.UMerge.main_arg0)
      ∧ r.2.mem ((c.tc : Thread Cert.UMerge.nD Cert.UMerge.τ).loc Cert.UMerge.main_arg1) = m ((c.tc : Thread Cert.UMerge.nD Cert.UMerge.τ).loc Cert.UMerge.main_arg1)
      ∧ r.2.mem ((c.tc : Thread Cert.UMerge.nD Cert.UMerge.τ).loc Cert.UMerge.main_arg2) = m ((c.tc : Thread Cert.UMerge.nD Cert.UMerge.τ).loc Cert.UMerge.main_arg2)
      ∧ r.2.mem ((c.tc : Thread Cert.UMerge.nD Cert.UMerge.τ).loc Cert.UMerge.main_arg3) = m ((c.tc : Thread Cert.UMerge.nD Cert.UMerge.τ).loc Cert.UMerge.main_arg3)
      ∧ r.2.mem ((c.tc : Thread Cert.UMerge.nD Cert.UMerge.τ).loc Cert.UMerge.main_arg4) = m ((c.tc : Thread Cert.UMerge.nD Cert.UMerge.τ).loc Cert.UMerge.main_arg4)
      ∧ r.2.mem ((c.tc : Thread Cert.UMerge.nD Cert.UMerge.τ).loc Cert.UMerge.main_arg5) = m ((c.tc : Thread Cert.UMerge.nD Cert.UMerge.τ).loc Cert.UMerge.main_arg5)
      ∧ r.2.mem ((c.tc : Thread Cert.UMerge.nD Cert.UMerge.τ).loc Cert.UMerge.main_arg6) = m ((c.tc : Thread Cert.UMerge.nD Cert.UMerge.τ).loc Cert.UMerge.main_arg6)
      ∧ r.2.mem ((c.tc : Thread Cert.UMerge.nD Cert.UMerge.τ).loc Cert.UMerge.main_arg7) = m ((c.tc : Thread Cert.UMerge.nD Cert.UMerge.τ).loc Cert.UMerge.main_arg7)
      ∧ r.2.mem ((c.tc : Thread Cert.UMerge.nD Cert.UMerge.τ).loc Cert.UMerge.main_arg8) = m ((c.tc : Thread Cert.UMerge.nD Cert.UMerge.τ).loc Cert.UMerge.main_arg8))
      ∧ r.2.sem = fun _ => 0)

def quiescent_UMergeIdeal [hUMergeIdeal : Cert.UMergeIdeal.Facts] : Prop :=
  ∀ (m : (ℓ : Loc Cert.UMergeIdeal.nD Cert.UMergeIdeal.τ Cert.UMergeIdeal.sig) → Buf (Elt Ideal) ℓ) (g : Dev Cert.UMergeIdeal.nD → PrngReg), Pre_UMergeIdeal m →
    θ_run (Cert.UMergeIdeal.defs (F := Ideal)) (onTc (τ := Cert.UMergeIdeal.τ) (Cert.UMergeIdeal.main (F := Ideal))) ⟨m, fun _ => 0, g⟩ (fun r => (∀ c : Dev Cert.UMergeIdeal.nD,
      r.2.mem ((c.tc : Thread Cert.UMergeIdeal.nD Cert.UMergeIdeal.τ).loc Cert.UMergeIdeal.main_arg0) = m ((c.tc : Thread Cert.UMergeIdeal.nD Cert.UMergeIdeal.τ).loc Cert.UMergeIdeal.main_arg0)
      ∧ r.2.mem ((c.tc : Thread Cert.UMergeIdeal.nD Cert.UMergeIdeal.τ).loc Cert.UMergeIdeal.main_arg1) = m ((c.tc : Thread Cert.UMergeIdeal.nD Cert.UMergeIdeal.τ).loc Cert.UMergeIdeal.main_arg1)
      ∧ r.2.mem ((c.tc : Thread Cert.UMergeIdeal.nD Cert.UMergeIdeal.τ).loc Cert.UMergeIdeal.main_arg2) = m ((c.tc : Thread Cert.UMergeIdeal.nD Cert.UMergeIdeal.τ).loc Cert.UMergeIdeal.main_arg2)
      ∧ r.2.mem ((c.tc : Thread Cert.UMergeIdeal.nD Cert.UMergeIdeal.τ).loc Cert.UMergeIdeal.main_arg3) = m ((c.tc : Thread Cert.UMergeIdeal.nD Cert.UMergeIdeal.τ).loc Cert.UMergeIdeal.main_arg3)
      ∧ r.2.mem ((c.tc : Thread Cert.UMergeIdeal.nD Cert.UMergeIdeal.τ).loc Cert.UMergeIdeal.main_arg4) = m ((c.tc : Thread Cert.UMergeIdeal.nD Cert.UMergeIdeal.τ).loc Cert.UMergeIdeal.main_arg4)
      ∧ r.2.mem ((c.tc : Thread Cert.UMergeIdeal.nD Cert.UMergeIdeal.τ).loc Cert.UMergeIdeal.main_arg5) = m ((c.tc : Thread Cert.UMergeIdeal.nD Cert.UMergeIdeal.τ).loc Cert.UMergeIdeal.main_arg5)
      ∧ r.2.mem ((c.tc : Thread Cert.UMergeIdeal.nD Cert.UMergeIdeal.τ).loc Cert.UMergeIdeal.main_arg6) = m ((c.tc : Thread Cert.UMergeIdeal.nD Cert.UMergeIdeal.τ).loc Cert.UMergeIdeal.main_arg6)
      ∧ r.2.mem ((c.tc : Thread Cert.UMergeIdeal.nD Cert.UMergeIdeal.τ).loc Cert.UMergeIdeal.main_arg7) = m ((c.tc : Thread Cert.UMergeIdeal.nD Cert.UMergeIdeal.τ).loc Cert.UMergeIdeal.main_arg7)
      ∧ r.2.mem ((c.tc : Thread Cert.UMergeIdeal.nD Cert.UMergeIdeal.τ).loc Cert.UMergeIdeal.main_arg8) = m ((c.tc : Thread Cert.UMergeIdeal.nD Cert.UMergeIdeal.τ).loc Cert.UMergeIdeal.main_arg8))
      ∧ r.2.sem = fun _ => 0)

def quiescent_UMergeRefIdeal [hUMergeRefIdeal : Cert.UMergeRefIdeal.Facts] : Prop :=
  ∀ (m : (ℓ : Loc Cert.UMergeRefIdeal.nD Cert.UMergeRefIdeal.τ Cert.UMergeRefIdeal.sig) → Buf (Elt Ideal) ℓ) (g : Dev Cert.UMergeRefIdeal.nD → PrngReg), Pre_UMergeRefIdeal m →
    θ_run (Cert.UMergeRefIdeal.defs (F := Ideal)) (onTc (τ := Cert.UMergeRefIdeal.τ) (Cert.UMergeRefIdeal.main (F := Ideal))) ⟨m, fun _ => 0, g⟩ (fun r => (∀ c : Dev Cert.UMergeRefIdeal.nD,
      r.2.mem ((c.tc : Thread Cert.UMergeRefIdeal.nD Cert.UMergeRefIdeal.τ).loc Cert.UMergeRefIdeal.main_arg0) = m ((c.tc : Thread Cert.UMergeRefIdeal.nD Cert.UMergeRefIdeal.τ).loc Cert.UMergeRefIdeal.main_arg0)
      ∧ r.2.mem ((c.tc : Thread Cert.UMergeRefIdeal.nD Cert.UMergeRefIdeal.τ).loc Cert.UMergeRefIdeal.main_arg1) = m ((c.tc : Thread Cert.UMergeRefIdeal.nD Cert.UMergeRefIdeal.τ).loc Cert.UMergeRefIdeal.main_arg1)
      ∧ r.2.mem ((c.tc : Thread Cert.UMergeRefIdeal.nD Cert.UMergeRefIdeal.τ).loc Cert.UMergeRefIdeal.main_arg2) = m ((c.tc : Thread Cert.UMergeRefIdeal.nD Cert.UMergeRefIdeal.τ).loc Cert.UMergeRefIdeal.main_arg2)
      ∧ r.2.mem ((c.tc : Thread Cert.UMergeRefIdeal.nD Cert.UMergeRefIdeal.τ).loc Cert.UMergeRefIdeal.main_arg3) = m ((c.tc : Thread Cert.UMergeRefIdeal.nD Cert.UMergeRefIdeal.τ).loc Cert.UMergeRefIdeal.main_arg3)
      ∧ r.2.mem ((c.tc : Thread Cert.UMergeRefIdeal.nD Cert.UMergeRefIdeal.τ).loc Cert.UMergeRefIdeal.main_arg4) = m ((c.tc : Thread Cert.UMergeRefIdeal.nD Cert.UMergeRefIdeal.τ).loc Cert.UMergeRefIdeal.main_arg4)
      ∧ r.2.mem ((c.tc : Thread Cert.UMergeRefIdeal.nD Cert.UMergeRefIdeal.τ).loc Cert.UMergeRefIdeal.main_arg5) = m ((c.tc : Thread Cert.UMergeRefIdeal.nD Cert.UMergeRefIdeal.τ).loc Cert.UMergeRefIdeal.main_arg5)
      ∧ r.2.mem ((c.tc : Thread Cert.UMergeRefIdeal.nD Cert.UMergeRefIdeal.τ).loc Cert.UMergeRefIdeal.main_arg6) = m ((c.tc : Thread Cert.UMergeRefIdeal.nD Cert.UMergeRefIdeal.τ).loc Cert.UMergeRefIdeal.main_arg6)
      ∧ r.2.mem ((c.tc : Thread Cert.UMergeRefIdeal.nD Cert.UMergeRefIdeal.τ).loc Cert.UMergeRefIdeal.main_arg7) = m ((c.tc : Thread Cert.UMergeRefIdeal.nD Cert.UMergeRefIdeal.τ).loc Cert.UMergeRefIdeal.main_arg7)
      ∧ r.2.mem ((c.tc : Thread Cert.UMergeRefIdeal.nD Cert.UMergeRefIdeal.τ).loc Cert.UMergeRefIdeal.main_arg8) = m ((c.tc : Thread Cert.UMergeRefIdeal.nD Cert.UMergeRefIdeal.τ).loc Cert.UMergeRefIdeal.main_arg8))
      ∧ r.2.sem = fun _ => 0)

def quiescent_UOutConv [hUOutConv : Cert.UOutConv.Facts] : Prop :=
  ∀ (m : (ℓ : Loc Cert.UOutConv.nD Cert.UOutConv.τ Cert.UOutConv.sig) → Buf (Elt Bits) ℓ) (g : Dev Cert.UOutConv.nD → PrngReg), Pre_UOutConv m →
    θ_run (Cert.UOutConv.defs (F := Bits)) (onTc (τ := Cert.UOutConv.τ) (Cert.UOutConv.main (F := Bits))) ⟨m, fun _ => 0, g⟩ (fun r => (∀ c : Dev Cert.UOutConv.nD,
      r.2.mem ((c.tc : Thread Cert.UOutConv.nD Cert.UOutConv.τ).loc Cert.UOutConv.main_arg0) = m ((c.tc : Thread Cert.UOutConv.nD Cert.UOutConv.τ).loc Cert.UOutConv.main_arg0)
      ∧ r.2.mem ((c.tc : Thread Cert.UOutConv.nD Cert.UOutConv.τ).loc Cert.UOutConv.main_arg1) = m ((c.tc : Thread Cert.UOutConv.nD Cert.UOutConv.τ).loc Cert.UOutConv.main_arg1)
      ∧ r.2.mem ((c.tc : Thread Cert.UOutConv.nD Cert.UOutConv.τ).loc Cert.UOutConv.main_arg2) = m ((c.tc : Thread Cert.UOutConv.nD Cert.UOutConv.τ).loc Cert.UOutConv.main_arg2)
      ∧ r.2.mem ((c.tc : Thread Cert.UOutConv.nD Cert.UOutConv.τ).loc Cert.UOutConv.main_arg3) = m ((c.tc : Thread Cert.UOutConv.nD Cert.UOutConv.τ).loc Cert.UOutConv.main_arg3)
      ∧ r.2.mem ((c.tc : Thread Cert.UOutConv.nD Cert.UOutConv.τ).loc Cert.UOutConv.main_arg4) = m ((c.tc : Thread Cert.UOutConv.nD Cert.UOutConv.τ).loc Cert.UOutConv.main_arg4)
      ∧ r.2.mem ((c.tc : Thread Cert.UOutConv.nD Cert.UOutConv.τ).loc Cert.UOutConv.main_arg5) = m ((c.tc : Thread Cert.UOutConv.nD Cert.UOutConv.τ).loc Cert.UOutConv.main_arg5)
      ∧ r.2.mem ((c.tc : Thread Cert.UOutConv.nD Cert.UOutConv.τ).loc Cert.UOutConv.main_arg6) = m ((c.tc : Thread Cert.UOutConv.nD Cert.UOutConv.τ).loc Cert.UOutConv.main_arg6)
      ∧ r.2.mem ((c.tc : Thread Cert.UOutConv.nD Cert.UOutConv.τ).loc Cert.UOutConv.main_arg7) = m ((c.tc : Thread Cert.UOutConv.nD Cert.UOutConv.τ).loc Cert.UOutConv.main_arg7)
      ∧ r.2.mem ((c.tc : Thread Cert.UOutConv.nD Cert.UOutConv.τ).loc Cert.UOutConv.main_arg8) = m ((c.tc : Thread Cert.UOutConv.nD Cert.UOutConv.τ).loc Cert.UOutConv.main_arg8))
      ∧ r.2.sem = fun _ => 0)

def quiescent_UOutConvIdeal [hUOutConvIdeal : Cert.UOutConvIdeal.Facts] : Prop :=
  ∀ (m : (ℓ : Loc Cert.UOutConvIdeal.nD Cert.UOutConvIdeal.τ Cert.UOutConvIdeal.sig) → Buf (Elt Ideal) ℓ) (g : Dev Cert.UOutConvIdeal.nD → PrngReg), Pre_UOutConvIdeal m →
    θ_run (Cert.UOutConvIdeal.defs (F := Ideal)) (onTc (τ := Cert.UOutConvIdeal.τ) (Cert.UOutConvIdeal.main (F := Ideal))) ⟨m, fun _ => 0, g⟩ (fun r => (∀ c : Dev Cert.UOutConvIdeal.nD,
      r.2.mem ((c.tc : Thread Cert.UOutConvIdeal.nD Cert.UOutConvIdeal.τ).loc Cert.UOutConvIdeal.main_arg0) = m ((c.tc : Thread Cert.UOutConvIdeal.nD Cert.UOutConvIdeal.τ).loc Cert.UOutConvIdeal.main_arg0)
      ∧ r.2.mem ((c.tc : Thread Cert.UOutConvIdeal.nD Cert.UOutConvIdeal.τ).loc Cert.UOutConvIdeal.main_arg1) = m ((c.tc : Thread Cert.UOutConvIdeal.nD Cert.UOutConvIdeal.τ).loc Cert.UOutConvIdeal.main_arg1)
      ∧ r.2.mem ((c.tc : Thread Cert.UOutConvIdeal.nD Cert.UOutConvIdeal.τ).loc Cert.UOutConvIdeal.main_arg2) = m ((c.tc : Thread Cert.UOutConvIdeal.nD Cert.UOutConvIdeal.τ).loc Cert.UOutConvIdeal.main_arg2)
      ∧ r.2.mem ((c.tc : Thread Cert.UOutConvIdeal.nD Cert.UOutConvIdeal.τ).loc Cert.UOutConvIdeal.main_arg3) = m ((c.tc : Thread Cert.UOutConvIdeal.nD Cert.UOutConvIdeal.τ).loc Cert.UOutConvIdeal.main_arg3)
      ∧ r.2.mem ((c.tc : Thread Cert.UOutConvIdeal.nD Cert.UOutConvIdeal.τ).loc Cert.UOutConvIdeal.main_arg4) = m ((c.tc : Thread Cert.UOutConvIdeal.nD Cert.UOutConvIdeal.τ).loc Cert.UOutConvIdeal.main_arg4)
      ∧ r.2.mem ((c.tc : Thread Cert.UOutConvIdeal.nD Cert.UOutConvIdeal.τ).loc Cert.UOutConvIdeal.main_arg5) = m ((c.tc : Thread Cert.UOutConvIdeal.nD Cert.UOutConvIdeal.τ).loc Cert.UOutConvIdeal.main_arg5)
      ∧ r.2.mem ((c.tc : Thread Cert.UOutConvIdeal.nD Cert.UOutConvIdeal.τ).loc Cert.UOutConvIdeal.main_arg6) = m ((c.tc : Thread Cert.UOutConvIdeal.nD Cert.UOutConvIdeal.τ).loc Cert.UOutConvIdeal.main_arg6)
      ∧ r.2.mem ((c.tc : Thread Cert.UOutConvIdeal.nD Cert.UOutConvIdeal.τ).loc Cert.UOutConvIdeal.main_arg7) = m ((c.tc : Thread Cert.UOutConvIdeal.nD Cert.UOutConvIdeal.τ).loc Cert.UOutConvIdeal.main_arg7)
      ∧ r.2.mem ((c.tc : Thread Cert.UOutConvIdeal.nD Cert.UOutConvIdeal.τ).loc Cert.UOutConvIdeal.main_arg8) = m ((c.tc : Thread Cert.UOutConvIdeal.nD Cert.UOutConvIdeal.τ).loc Cert.UOutConvIdeal.main_arg8))
      ∧ r.2.sem = fun _ => 0)

def quiescent_UOutConvRefIdeal [hUOutConvRefIdeal : Cert.UOutConvRefIdeal.Facts] : Prop :=
  ∀ (m : (ℓ : Loc Cert.UOutConvRefIdeal.nD Cert.UOutConvRefIdeal.τ Cert.UOutConvRefIdeal.sig) → Buf (Elt Ideal) ℓ) (g : Dev Cert.UOutConvRefIdeal.nD → PrngReg), Pre_UOutConvRefIdeal m →
    θ_run (Cert.UOutConvRefIdeal.defs (F := Ideal)) (onTc (τ := Cert.UOutConvRefIdeal.τ) (Cert.UOutConvRefIdeal.main (F := Ideal))) ⟨m, fun _ => 0, g⟩ (fun r => (∀ c : Dev Cert.UOutConvRefIdeal.nD,
      r.2.mem ((c.tc : Thread Cert.UOutConvRefIdeal.nD Cert.UOutConvRefIdeal.τ).loc Cert.UOutConvRefIdeal.main_arg0) = m ((c.tc : Thread Cert.UOutConvRefIdeal.nD Cert.UOutConvRefIdeal.τ).loc Cert.UOutConvRefIdeal.main_arg0)
      ∧ r.2.mem ((c.tc : Thread Cert.UOutConvRefIdeal.nD Cert.UOutConvRefIdeal.τ).loc Cert.UOutConvRefIdeal.main_arg1) = m ((c.tc : Thread Cert.UOutConvRefIdeal.nD Cert.UOutConvRefIdeal.τ).loc Cert.UOutConvRefIdeal.main_arg1)
      ∧ r.2.mem ((c.tc : Thread Cert.UOutConvRefIdeal.nD Cert.UOutConvRefIdeal.τ).loc Cert.UOutConvRefIdeal.main_arg2) = m ((c.tc : Thread Cert.UOutConvRefIdeal.nD Cert.UOutConvRefIdeal.τ).loc Cert.UOutConvRefIdeal.main_arg2)
      ∧ r.2.mem ((c.tc : Thread Cert.UOutConvRefIdeal.nD Cert.UOutConvRefIdeal.τ).loc Cert.UOutConvRefIdeal.main_arg3) = m ((c.tc : Thread Cert.UOutConvRefIdeal.nD Cert.UOutConvRefIdeal.τ).loc Cert.UOutConvRefIdeal.main_arg3)
      ∧ r.2.mem ((c.tc : Thread Cert.UOutConvRefIdeal.nD Cert.UOutConvRefIdeal.τ).loc Cert.UOutConvRefIdeal.main_arg4) = m ((c.tc : Thread Cert.UOutConvRefIdeal.nD Cert.UOutConvRefIdeal.τ).loc Cert.UOutConvRefIdeal.main_arg4)
      ∧ r.2.mem ((c.tc : Thread Cert.UOutConvRefIdeal.nD Cert.UOutConvRefIdeal.τ).loc Cert.UOutConvRefIdeal.main_arg5) = m ((c.tc : Thread Cert.UOutConvRefIdeal.nD Cert.UOutConvRefIdeal.τ).loc Cert.UOutConvRefIdeal.main_arg5)
      ∧ r.2.mem ((c.tc : Thread Cert.UOutConvRefIdeal.nD Cert.UOutConvRefIdeal.τ).loc Cert.UOutConvRefIdeal.main_arg6) = m ((c.tc : Thread Cert.UOutConvRefIdeal.nD Cert.UOutConvRefIdeal.τ).loc Cert.UOutConvRefIdeal.main_arg6)
      ∧ r.2.mem ((c.tc : Thread Cert.UOutConvRefIdeal.nD Cert.UOutConvRefIdeal.τ).loc Cert.UOutConvRefIdeal.main_arg7) = m ((c.tc : Thread Cert.UOutConvRefIdeal.nD Cert.UOutConvRefIdeal.τ).loc Cert.UOutConvRefIdeal.main_arg7)
      ∧ r.2.mem ((c.tc : Thread Cert.UOutConvRefIdeal.nD Cert.UOutConvRefIdeal.τ).loc Cert.UOutConvRefIdeal.main_arg8) = m ((c.tc : Thread Cert.UOutConvRefIdeal.nD Cert.UOutConvRefIdeal.τ).loc Cert.UOutConvRefIdeal.main_arg8))
      ∧ r.2.sem = fun _ => 0)

def quiescent_UOutAttn [hUOutAttn : Cert.UOutAttn.Facts] : Prop :=
  ∀ (m : (ℓ : Loc Cert.UOutAttn.nD Cert.UOutAttn.τ Cert.UOutAttn.sig) → Buf (Elt Bits) ℓ) (g : Dev Cert.UOutAttn.nD → PrngReg), Pre_UOutAttn m →
    θ_run (Cert.UOutAttn.defs (F := Bits)) (onTc (τ := Cert.UOutAttn.τ) (Cert.UOutAttn.main (F := Bits))) ⟨m, fun _ => 0, g⟩ (fun r => (∀ c : Dev Cert.UOutAttn.nD,
      r.2.mem ((c.tc : Thread Cert.UOutAttn.nD Cert.UOutAttn.τ).loc Cert.UOutAttn.main_arg0) = m ((c.tc : Thread Cert.UOutAttn.nD Cert.UOutAttn.τ).loc Cert.UOutAttn.main_arg0)
      ∧ r.2.mem ((c.tc : Thread Cert.UOutAttn.nD Cert.UOutAttn.τ).loc Cert.UOutAttn.main_arg1) = m ((c.tc : Thread Cert.UOutAttn.nD Cert.UOutAttn.τ).loc Cert.UOutAttn.main_arg1)
      ∧ r.2.mem ((c.tc : Thread Cert.UOutAttn.nD Cert.UOutAttn.τ).loc Cert.UOutAttn.main_arg2) = m ((c.tc : Thread Cert.UOutAttn.nD Cert.UOutAttn.τ).loc Cert.UOutAttn.main_arg2)
      ∧ r.2.mem ((c.tc : Thread Cert.UOutAttn.nD Cert.UOutAttn.τ).loc Cert.UOutAttn.main_arg3) = m ((c.tc : Thread Cert.UOutAttn.nD Cert.UOutAttn.τ).loc Cert.UOutAttn.main_arg3)
      ∧ r.2.mem ((c.tc : Thread Cert.UOutAttn.nD Cert.UOutAttn.τ).loc Cert.UOutAttn.main_arg4) = m ((c.tc : Thread Cert.UOutAttn.nD Cert.UOutAttn.τ).loc Cert.UOutAttn.main_arg4)
      ∧ r.2.mem ((c.tc : Thread Cert.UOutAttn.nD Cert.UOutAttn.τ).loc Cert.UOutAttn.main_arg5) = m ((c.tc : Thread Cert.UOutAttn.nD Cert.UOutAttn.τ).loc Cert.UOutAttn.main_arg5)
      ∧ r.2.mem ((c.tc : Thread Cert.UOutAttn.nD Cert.UOutAttn.τ).loc Cert.UOutAttn.main_arg6) = m ((c.tc : Thread Cert.UOutAttn.nD Cert.UOutAttn.τ).loc Cert.UOutAttn.main_arg6)
      ∧ r.2.mem ((c.tc : Thread Cert.UOutAttn.nD Cert.UOutAttn.τ).loc Cert.UOutAttn.main_arg7) = m ((c.tc : Thread Cert.UOutAttn.nD Cert.UOutAttn.τ).loc Cert.UOutAttn.main_arg7)
      ∧ r.2.mem ((c.tc : Thread Cert.UOutAttn.nD Cert.UOutAttn.τ).loc Cert.UOutAttn.main_arg8) = m ((c.tc : Thread Cert.UOutAttn.nD Cert.UOutAttn.τ).loc Cert.UOutAttn.main_arg8))
      ∧ r.2.sem = fun _ => 0)

def quiescent_UOutAttnIdeal [hUOutAttnIdeal : Cert.UOutAttnIdeal.Facts] : Prop :=
  ∀ (m : (ℓ : Loc Cert.UOutAttnIdeal.nD Cert.UOutAttnIdeal.τ Cert.UOutAttnIdeal.sig) → Buf (Elt Ideal) ℓ) (g : Dev Cert.UOutAttnIdeal.nD → PrngReg), Pre_UOutAttnIdeal m →
    θ_run (Cert.UOutAttnIdeal.defs (F := Ideal)) (onTc (τ := Cert.UOutAttnIdeal.τ) (Cert.UOutAttnIdeal.main (F := Ideal))) ⟨m, fun _ => 0, g⟩ (fun r => (∀ c : Dev Cert.UOutAttnIdeal.nD,
      r.2.mem ((c.tc : Thread Cert.UOutAttnIdeal.nD Cert.UOutAttnIdeal.τ).loc Cert.UOutAttnIdeal.main_arg0) = m ((c.tc : Thread Cert.UOutAttnIdeal.nD Cert.UOutAttnIdeal.τ).loc Cert.UOutAttnIdeal.main_arg0)
      ∧ r.2.mem ((c.tc : Thread Cert.UOutAttnIdeal.nD Cert.UOutAttnIdeal.τ).loc Cert.UOutAttnIdeal.main_arg1) = m ((c.tc : Thread Cert.UOutAttnIdeal.nD Cert.UOutAttnIdeal.τ).loc Cert.UOutAttnIdeal.main_arg1)
      ∧ r.2.mem ((c.tc : Thread Cert.UOutAttnIdeal.nD Cert.UOutAttnIdeal.τ).loc Cert.UOutAttnIdeal.main_arg2) = m ((c.tc : Thread Cert.UOutAttnIdeal.nD Cert.UOutAttnIdeal.τ).loc Cert.UOutAttnIdeal.main_arg2)
      ∧ r.2.mem ((c.tc : Thread Cert.UOutAttnIdeal.nD Cert.UOutAttnIdeal.τ).loc Cert.UOutAttnIdeal.main_arg3) = m ((c.tc : Thread Cert.UOutAttnIdeal.nD Cert.UOutAttnIdeal.τ).loc Cert.UOutAttnIdeal.main_arg3)
      ∧ r.2.mem ((c.tc : Thread Cert.UOutAttnIdeal.nD Cert.UOutAttnIdeal.τ).loc Cert.UOutAttnIdeal.main_arg4) = m ((c.tc : Thread Cert.UOutAttnIdeal.nD Cert.UOutAttnIdeal.τ).loc Cert.UOutAttnIdeal.main_arg4)
      ∧ r.2.mem ((c.tc : Thread Cert.UOutAttnIdeal.nD Cert.UOutAttnIdeal.τ).loc Cert.UOutAttnIdeal.main_arg5) = m ((c.tc : Thread Cert.UOutAttnIdeal.nD Cert.UOutAttnIdeal.τ).loc Cert.UOutAttnIdeal.main_arg5)
      ∧ r.2.mem ((c.tc : Thread Cert.UOutAttnIdeal.nD Cert.UOutAttnIdeal.τ).loc Cert.UOutAttnIdeal.main_arg6) = m ((c.tc : Thread Cert.UOutAttnIdeal.nD Cert.UOutAttnIdeal.τ).loc Cert.UOutAttnIdeal.main_arg6)
      ∧ r.2.mem ((c.tc : Thread Cert.UOutAttnIdeal.nD Cert.UOutAttnIdeal.τ).loc Cert.UOutAttnIdeal.main_arg7) = m ((c.tc : Thread Cert.UOutAttnIdeal.nD Cert.UOutAttnIdeal.τ).loc Cert.UOutAttnIdeal.main_arg7)
      ∧ r.2.mem ((c.tc : Thread Cert.UOutAttnIdeal.nD Cert.UOutAttnIdeal.τ).loc Cert.UOutAttnIdeal.main_arg8) = m ((c.tc : Thread Cert.UOutAttnIdeal.nD Cert.UOutAttnIdeal.τ).loc Cert.UOutAttnIdeal.main_arg8))
      ∧ r.2.sem = fun _ => 0)

def quiescent_UOutAttnRefIdeal [hUOutAttnRefIdeal : Cert.UOutAttnRefIdeal.Facts] : Prop :=
  ∀ (m : (ℓ : Loc Cert.UOutAttnRefIdeal.nD Cert.UOutAttnRefIdeal.τ Cert.UOutAttnRefIdeal.sig) → Buf (Elt Ideal) ℓ) (g : Dev Cert.UOutAttnRefIdeal.nD → PrngReg), Pre_UOutAttnRefIdeal m →
    θ_run (Cert.UOutAttnRefIdeal.defs (F := Ideal)) (onTc (τ := Cert.UOutAttnRefIdeal.τ) (Cert.UOutAttnRefIdeal.main (F := Ideal))) ⟨m, fun _ => 0, g⟩ (fun r => (∀ c : Dev Cert.UOutAttnRefIdeal.nD,
      r.2.mem ((c.tc : Thread Cert.UOutAttnRefIdeal.nD Cert.UOutAttnRefIdeal.τ).loc Cert.UOutAttnRefIdeal.main_arg0) = m ((c.tc : Thread Cert.UOutAttnRefIdeal.nD Cert.UOutAttnRefIdeal.τ).loc Cert.UOutAttnRefIdeal.main_arg0)
      ∧ r.2.mem ((c.tc : Thread Cert.UOutAttnRefIdeal.nD Cert.UOutAttnRefIdeal.τ).loc Cert.UOutAttnRefIdeal.main_arg1) = m ((c.tc : Thread Cert.UOutAttnRefIdeal.nD Cert.UOutAttnRefIdeal.τ).loc Cert.UOutAttnRefIdeal.main_arg1)
      ∧ r.2.mem ((c.tc : Thread Cert.UOutAttnRefIdeal.nD Cert.UOutAttnRefIdeal.τ).loc Cert.UOutAttnRefIdeal.main_arg2) = m ((c.tc : Thread Cert.UOutAttnRefIdeal.nD Cert.UOutAttnRefIdeal.τ).loc Cert.UOutAttnRefIdeal.main_arg2)
      ∧ r.2.mem ((c.tc : Thread Cert.UOutAttnRefIdeal.nD Cert.UOutAttnRefIdeal.τ).loc Cert.UOutAttnRefIdeal.main_arg3) = m ((c.tc : Thread Cert.UOutAttnRefIdeal.nD Cert.UOutAttnRefIdeal.τ).loc Cert.UOutAttnRefIdeal.main_arg3)
      ∧ r.2.mem ((c.tc : Thread Cert.UOutAttnRefIdeal.nD Cert.UOutAttnRefIdeal.τ).loc Cert.UOutAttnRefIdeal.main_arg4) = m ((c.tc : Thread Cert.UOutAttnRefIdeal.nD Cert.UOutAttnRefIdeal.τ).loc Cert.UOutAttnRefIdeal.main_arg4)
      ∧ r.2.mem ((c.tc : Thread Cert.UOutAttnRefIdeal.nD Cert.UOutAttnRefIdeal.τ).loc Cert.UOutAttnRefIdeal.main_arg5) = m ((c.tc : Thread Cert.UOutAttnRefIdeal.nD Cert.UOutAttnRefIdeal.τ).loc Cert.UOutAttnRefIdeal.main_arg5)
      ∧ r.2.mem ((c.tc : Thread Cert.UOutAttnRefIdeal.nD Cert.UOutAttnRefIdeal.τ).loc Cert.UOutAttnRefIdeal.main_arg6) = m ((c.tc : Thread Cert.UOutAttnRefIdeal.nD Cert.UOutAttnRefIdeal.τ).loc Cert.UOutAttnRefIdeal.main_arg6)
      ∧ r.2.mem ((c.tc : Thread Cert.UOutAttnRefIdeal.nD Cert.UOutAttnRefIdeal.τ).loc Cert.UOutAttnRefIdeal.main_arg7) = m ((c.tc : Thread Cert.UOutAttnRefIdeal.nD Cert.UOutAttnRefIdeal.τ).loc Cert.UOutAttnRefIdeal.main_arg7)
      ∧ r.2.mem ((c.tc : Thread Cert.UOutAttnRefIdeal.nD Cert.UOutAttnRefIdeal.τ).loc Cert.UOutAttnRefIdeal.main_arg8) = m ((c.tc : Thread Cert.UOutAttnRefIdeal.nD Cert.UOutAttnRefIdeal.τ).loc Cert.UOutAttnRefIdeal.main_arg8))
      ∧ r.2.sem = fun _ => 0)

def quiescent_UDown [hUDown : Cert.UDown.Facts] : Prop :=
  ∀ (m : (ℓ : Loc Cert.UDown.nD Cert.UDown.τ Cert.UDown.sig) → Buf (Elt Bits) ℓ) (g : Dev Cert.UDown.nD → PrngReg), Pre_UDown m →
    θ_run (Cert.UDown.defs (F := Bits)) (onTc (τ := Cert.UDown.τ) (Cert.UDown.main (F := Bits))) ⟨m, fun _ => 0, g⟩ (fun r => (∀ c : Dev Cert.UDown.nD,
      r.2.mem ((c.tc : Thread Cert.UDown.nD Cert.UDown.τ).loc Cert.UDown.main_arg0) = m ((c.tc : Thread Cert.UDown.nD Cert.UDown.τ).loc Cert.UDown.main_arg0)
      ∧ r.2.mem ((c.tc : Thread Cert.UDown.nD Cert.UDown.τ).loc Cert.UDown.main_arg1) = m ((c.tc : Thread Cert.UDown.nD Cert.UDown.τ).loc Cert.UDown.main_arg1)
      ∧ r.2.mem ((c.tc : Thread Cert.UDown.nD Cert.UDown.τ).loc Cert.UDown.main_arg2) = m ((c.tc : Thread Cert.UDown.nD Cert.UDown.τ).loc Cert.UDown.main_arg2)
      ∧ r.2.mem ((c.tc : Thread Cert.UDown.nD Cert.UDown.τ).loc Cert.UDown.main_arg3) = m ((c.tc : Thread Cert.UDown.nD Cert.UDown.τ).loc Cert.UDown.main_arg3)
      ∧ r.2.mem ((c.tc : Thread Cert.UDown.nD Cert.UDown.τ).loc Cert.UDown.main_arg4) = m ((c.tc : Thread Cert.UDown.nD Cert.UDown.τ).loc Cert.UDown.main_arg4)
      ∧ r.2.mem ((c.tc : Thread Cert.UDown.nD Cert.UDown.τ).loc Cert.UDown.main_arg5) = m ((c.tc : Thread Cert.UDown.nD Cert.UDown.τ).loc Cert.UDown.main_arg5)
      ∧ r.2.mem ((c.tc : Thread Cert.UDown.nD Cert.UDown.τ).loc Cert.UDown.main_arg6) = m ((c.tc : Thread Cert.UDown.nD Cert.UDown.τ).loc Cert.UDown.main_arg6)
      ∧ r.2.mem ((c.tc : Thread Cert.UDown.nD Cert.UDown.τ).loc Cert.UDown.main_arg7) = m ((c.tc : Thread Cert.UDown.nD Cert.UDown.τ).loc Cert.UDown.main_arg7)
      ∧ r.2.mem ((c.tc : Thread Cert.UDown.nD Cert.UDown.τ).loc Cert.UDown.main_arg8) = m ((c.tc : Thread Cert.UDown.nD Cert.UDown.τ).loc Cert.UDown.main_arg8))
      ∧ r.2.sem = fun _ => 0)

def quiescent_UDownIdeal [hUDownIdeal : Cert.UDownIdeal.Facts] : Prop :=
  ∀ (m : (ℓ : Loc Cert.UDownIdeal.nD Cert.UDownIdeal.τ Cert.UDownIdeal.sig) → Buf (Elt Ideal) ℓ) (g : Dev Cert.UDownIdeal.nD → PrngReg), Pre_UDownIdeal m →
    θ_run (Cert.UDownIdeal.defs (F := Ideal)) (onTc (τ := Cert.UDownIdeal.τ) (Cert.UDownIdeal.main (F := Ideal))) ⟨m, fun _ => 0, g⟩ (fun r => (∀ c : Dev Cert.UDownIdeal.nD,
      r.2.mem ((c.tc : Thread Cert.UDownIdeal.nD Cert.UDownIdeal.τ).loc Cert.UDownIdeal.main_arg0) = m ((c.tc : Thread Cert.UDownIdeal.nD Cert.UDownIdeal.τ).loc Cert.UDownIdeal.main_arg0)
      ∧ r.2.mem ((c.tc : Thread Cert.UDownIdeal.nD Cert.UDownIdeal.τ).loc Cert.UDownIdeal.main_arg1) = m ((c.tc : Thread Cert.UDownIdeal.nD Cert.UDownIdeal.τ).loc Cert.UDownIdeal.main_arg1)
      ∧ r.2.mem ((c.tc : Thread Cert.UDownIdeal.nD Cert.UDownIdeal.τ).loc Cert.UDownIdeal.main_arg2) = m ((c.tc : Thread Cert.UDownIdeal.nD Cert.UDownIdeal.τ).loc Cert.UDownIdeal.main_arg2)
      ∧ r.2.mem ((c.tc : Thread Cert.UDownIdeal.nD Cert.UDownIdeal.τ).loc Cert.UDownIdeal.main_arg3) = m ((c.tc : Thread Cert.UDownIdeal.nD Cert.UDownIdeal.τ).loc Cert.UDownIdeal.main_arg3)
      ∧ r.2.mem ((c.tc : Thread Cert.UDownIdeal.nD Cert.UDownIdeal.τ).loc Cert.UDownIdeal.main_arg4) = m ((c.tc : Thread Cert.UDownIdeal.nD Cert.UDownIdeal.τ).loc Cert.UDownIdeal.main_arg4)
      ∧ r.2.mem ((c.tc : Thread Cert.UDownIdeal.nD Cert.UDownIdeal.τ).loc Cert.UDownIdeal.main_arg5) = m ((c.tc : Thread Cert.UDownIdeal.nD Cert.UDownIdeal.τ).loc Cert.UDownIdeal.main_arg5)
      ∧ r.2.mem ((c.tc : Thread Cert.UDownIdeal.nD Cert.UDownIdeal.τ).loc Cert.UDownIdeal.main_arg6) = m ((c.tc : Thread Cert.UDownIdeal.nD Cert.UDownIdeal.τ).loc Cert.UDownIdeal.main_arg6)
      ∧ r.2.mem ((c.tc : Thread Cert.UDownIdeal.nD Cert.UDownIdeal.τ).loc Cert.UDownIdeal.main_arg7) = m ((c.tc : Thread Cert.UDownIdeal.nD Cert.UDownIdeal.τ).loc Cert.UDownIdeal.main_arg7)
      ∧ r.2.mem ((c.tc : Thread Cert.UDownIdeal.nD Cert.UDownIdeal.τ).loc Cert.UDownIdeal.main_arg8) = m ((c.tc : Thread Cert.UDownIdeal.nD Cert.UDownIdeal.τ).loc Cert.UDownIdeal.main_arg8))
      ∧ r.2.sem = fun _ => 0)

def quiescent_UDownRefIdeal [hUDownRefIdeal : Cert.UDownRefIdeal.Facts] : Prop :=
  ∀ (m : (ℓ : Loc Cert.UDownRefIdeal.nD Cert.UDownRefIdeal.τ Cert.UDownRefIdeal.sig) → Buf (Elt Ideal) ℓ) (g : Dev Cert.UDownRefIdeal.nD → PrngReg), Pre_UDownRefIdeal m →
    θ_run (Cert.UDownRefIdeal.defs (F := Ideal)) (onTc (τ := Cert.UDownRefIdeal.τ) (Cert.UDownRefIdeal.main (F := Ideal))) ⟨m, fun _ => 0, g⟩ (fun r => (∀ c : Dev Cert.UDownRefIdeal.nD,
      r.2.mem ((c.tc : Thread Cert.UDownRefIdeal.nD Cert.UDownRefIdeal.τ).loc Cert.UDownRefIdeal.main_arg0) = m ((c.tc : Thread Cert.UDownRefIdeal.nD Cert.UDownRefIdeal.τ).loc Cert.UDownRefIdeal.main_arg0)
      ∧ r.2.mem ((c.tc : Thread Cert.UDownRefIdeal.nD Cert.UDownRefIdeal.τ).loc Cert.UDownRefIdeal.main_arg1) = m ((c.tc : Thread Cert.UDownRefIdeal.nD Cert.UDownRefIdeal.τ).loc Cert.UDownRefIdeal.main_arg1)
      ∧ r.2.mem ((c.tc : Thread Cert.UDownRefIdeal.nD Cert.UDownRefIdeal.τ).loc Cert.UDownRefIdeal.main_arg2) = m ((c.tc : Thread Cert.UDownRefIdeal.nD Cert.UDownRefIdeal.τ).loc Cert.UDownRefIdeal.main_arg2)
      ∧ r.2.mem ((c.tc : Thread Cert.UDownRefIdeal.nD Cert.UDownRefIdeal.τ).loc Cert.UDownRefIdeal.main_arg3) = m ((c.tc : Thread Cert.UDownRefIdeal.nD Cert.UDownRefIdeal.τ).loc Cert.UDownRefIdeal.main_arg3)
      ∧ r.2.mem ((c.tc : Thread Cert.UDownRefIdeal.nD Cert.UDownRefIdeal.τ).loc Cert.UDownRefIdeal.main_arg4) = m ((c.tc : Thread Cert.UDownRefIdeal.nD Cert.UDownRefIdeal.τ).loc Cert.UDownRefIdeal.main_arg4)
      ∧ r.2.mem ((c.tc : Thread Cert.UDownRefIdeal.nD Cert.UDownRefIdeal.τ).loc Cert.UDownRefIdeal.main_arg5) = m ((c.tc : Thread Cert.UDownRefIdeal.nD Cert.UDownRefIdeal.τ).loc Cert.UDownRefIdeal.main_arg5)
      ∧ r.2.mem ((c.tc : Thread Cert.UDownRefIdeal.nD Cert.UDownRefIdeal.τ).loc Cert.UDownRefIdeal.main_arg6) = m ((c.tc : Thread Cert.UDownRefIdeal.nD Cert.UDownRefIdeal.τ).loc Cert.UDownRefIdeal.main_arg6)
      ∧ r.2.mem ((c.tc : Thread Cert.UDownRefIdeal.nD Cert.UDownRefIdeal.τ).loc Cert.UDownRefIdeal.main_arg7) = m ((c.tc : Thread Cert.UDownRefIdeal.nD Cert.UDownRefIdeal.τ).loc Cert.UDownRefIdeal.main_arg7)
      ∧ r.2.mem ((c.tc : Thread Cert.UDownRefIdeal.nD Cert.UDownRefIdeal.τ).loc Cert.UDownRefIdeal.main_arg8) = m ((c.tc : Thread Cert.UDownRefIdeal.nD Cert.UDownRefIdeal.τ).loc Cert.UDownRefIdeal.main_arg8))
      ∧ r.2.sem = fun _ => 0)

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v0_0)) (v1 : (c : Dev Cert.ConvIdeal.nD) → Buf (Elt Ideal) ((c.tc : Thread Cert.ConvIdeal.nD Cert.ConvIdeal.τ).loc Cert.ConvIdeal.main_v0_1)) (v2 : (c : Dev Cert.ConvIdeal.nD) → Buf (Elt Ideal) ((c.tc : Thread Cert.ConvIdeal.nD Cert.ConvIdeal.τ).loc Cert.ConvIdeal.main_v0_2)) (v3 : (c : Dev Cert.ConvIdeal.nD) → Buf (Elt Ideal) ((c.tc : Thread Cert.ConvIdeal.nD Cert.ConvIdeal.τ).loc Cert.ConvIdeal.main_v0_3)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v0_0) = v0 c
          ∧ r.2.mem ((c.tc : Thread Cert.ConvIdeal.nD Cert.ConvIdeal.τ).loc Cert.ConvIdeal.main_v0_1) = v1 c
          ∧ r.2.mem ((c.tc : Thread Cert.ConvIdeal.nD Cert.ConvIdeal.τ).loc Cert.ConvIdeal.main_v0_2) = v2 c
          ∧ r.2.mem ((c.tc : Thread Cert.ConvIdeal.nD Cert.ConvIdeal.τ).loc Cert.ConvIdeal.main_v0_3) = v3 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v69) = v0 c
          ∧ r.2.mem ((c.tc : Thread Cert.ConvRefIdeal.nD Cert.ConvRefIdeal.τ).loc Cert.ConvRefIdeal.main_v70) = v1 c
          ∧ r.2.mem ((c.tc : Thread Cert.ConvRefIdeal.nD Cert.ConvRefIdeal.τ).loc Cert.ConvRefIdeal.main_v71) = v2 c
          ∧ r.2.mem ((c.tc : Thread Cert.ConvRefIdeal.nD Cert.ConvRefIdeal.τ).loc Cert.ConvRefIdeal.main_v63) = v3 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2))

def preserves_Attn_AttnIdeal : Prop :=
  IdealRules.named_const.Statement Cert.AttnIdeal.κ "log2e" .f32 0x3FB8AA3B#32 (((Real.log 2)⁻¹ : ℝ) : EReal)

def algebraic_AttnIdeal_AttnRefIdeal_pre_attn_finite [hAttnIdeal : Cert.AttnIdeal.Facts] [hAttnRefIdeal : Cert.AttnRefIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v9_0)) (v1 : (c : Dev Cert.AttnIdeal.nD) → Buf (Elt Ideal) ((c.tc : Thread Cert.AttnIdeal.nD Cert.AttnIdeal.τ).loc Cert.AttnIdeal.main_v10_0)) (v2 : (c : Dev Cert.AttnIdeal.nD) → Buf (Elt Ideal) ((c.tc : Thread Cert.AttnIdeal.nD Cert.AttnIdeal.τ).loc Cert.AttnIdeal.main_v10_1)) (v3 : (c : Dev Cert.AttnIdeal.nD) → Buf (Elt Ideal) ((c.tc : Thread Cert.AttnIdeal.nD Cert.AttnIdeal.τ).loc Cert.AttnIdeal.main_v10_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v9_0) = v0 c
          ∧ r.2.mem ((c.tc : Thread Cert.AttnIdeal.nD Cert.AttnIdeal.τ).loc Cert.AttnIdeal.main_v10_0) = v1 c
          ∧ r.2.mem ((c.tc : Thread Cert.AttnIdeal.nD Cert.AttnIdeal.τ).loc Cert.AttnIdeal.main_v10_1) = v2 c
          ∧ r.2.mem ((c.tc : Thread Cert.AttnIdeal.nD Cert.AttnIdeal.τ).loc Cert.AttnIdeal.main_v10_2) = v3 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v64) = v0 c
          ∧ r.2.mem ((c.tc : Thread Cert.AttnRefIdeal.nD Cert.AttnRefIdeal.τ).loc Cert.AttnRefIdeal.main_v65) = v1 c
          ∧ r.2.mem ((c.tc : Thread Cert.AttnRefIdeal.nD Cert.AttnRefIdeal.τ).loc Cert.AttnRefIdeal.main_v69) = v2 c
          ∧ r.2.mem ((c.tc : Thread Cert.AttnRefIdeal.nD Cert.AttnRefIdeal.τ).loc Cert.AttnRefIdeal.main_v70) = v3 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_DAct_DActIdeal : Prop :=
  True

def algebraic_DActIdeal_DActRefIdeal [hDActIdeal : Cert.DActIdeal.Facts] [hDActRefIdeal : Cert.DActRefIdeal.Facts] : Prop :=
  ∀ (m : (ℓ : Loc Cert.DActIdeal.nD Cert.DActIdeal.τ Cert.DActIdeal.sig) → Buf (Elt Ideal) ℓ) (g : Dev Cert.DActIdeal.nD → PrngReg)
    (m' : (ℓ : Loc Cert.DActRefIdeal.nD Cert.DActRefIdeal.τ Cert.DActRefIdeal.sig) → Buf (Elt Ideal) ℓ) (g' : Dev Cert.DActRefIdeal.nD → PrngReg), Pre_DActIdeal m →
    (∀ c : Dev Cert.DActIdeal.nD,
      m' ((c.tc : Thread Cert.DActRefIdeal.nD Cert.DActRefIdeal.τ).loc Cert.DActRefIdeal.main_arg0) = m ((c.tc : Thread Cert.DActIdeal.nD Cert.DActIdeal.τ).loc Cert.DActIdeal.main_arg0)
      ∧ m' ((c.tc : Thread Cert.DActRefIdeal.nD Cert.DActRefIdeal.τ).loc Cert.DActRefIdeal.main_arg1) = m ((c.tc : Thread Cert.DActIdeal.nD Cert.DActIdeal.τ).loc Cert.DActIdeal.main_arg1)
      ∧ m' ((c.tc : Thread Cert.DActRefIdeal.nD Cert.DActRefIdeal.τ).loc Cert.DActRefIdeal.main_arg2) = m ((c.tc : Thread Cert.DActIdeal.nD Cert.DActIdeal.τ).loc Cert.DActIdeal.main_arg2)) →
    ∃ (v0 : (c : Dev Cert.DActIdeal.nD) → Buf (Elt Ideal) ((c.tc : Thread Cert.DActIdeal.nD Cert.DActIdeal.τ).loc Cert.DActIdeal.main_v0)),
      θ_run (Cert.DActIdeal.defs (F := Ideal)) (onTc (τ := Cert.DActIdeal.τ) (Cert.DActIdeal.main (F := Ideal))) ⟨m, fun _ => 0, g⟩ (fun r => ∀ c : Dev Cert.DActIdeal.nD,
          r.2.mem ((c.tc : Thread Cert.DActIdeal.nD Cert.DActIdeal.τ).loc Cert.DActIdeal.main_v0) = v0 c
          ∧ r.2.mem ((c.tc : Thread Cert.DActIdeal.nD Cert.DActIdeal.τ).loc Cert.DActIdeal.main_arg0) = m ((c.tc : Thread Cert.DActIdeal.nD Cert.DActIdeal.τ).loc Cert.DActIdeal.main_arg0)
          ∧ r.2.mem ((c.tc : Thread Cert.DActIdeal.nD Cert.DActIdeal.τ).loc Cert.DActIdeal.main_arg1) = m ((c.tc : Thread Cert.DActIdeal.nD Cert.DActIdeal.τ).loc Cert.DActIdeal.main_arg1)
          ∧ r.2.mem ((c.tc : Thread Cert.DActIdeal.nD Cert.DActIdeal.τ).loc Cert.DActIdeal.main_arg2) = m ((c.tc : Thread Cert.DActIdeal.nD Cert.DActIdeal.τ).loc Cert.DActIdeal.main_arg2))
      ∧ θ_run (Cert.DActRefIdeal.defs (F := Ideal)) (onTc (τ := Cert.DActRefIdeal.τ) (Cert.DActRefIdeal.main (F := Ideal))) ⟨m', fun _ => 0, g'⟩ (fun r => ∀ c : Dev Cert.DActRefIdeal.nD,
          r.2.mem ((c.tc : Thread Cert.DActRefIdeal.nD Cert.DActRefIdeal.τ).loc Cert.DActRefIdeal.main_v15) = v0 c
          ∧ r.2.mem ((c.tc : Thread Cert.DActRefIdeal.nD Cert.DActRefIdeal.τ).loc Cert.DActRefIdeal.main_arg0) = m' ((c.tc : Thread Cert.DActRefIdeal.nD Cert.DActRefIdeal.τ).loc Cert.DActRefIdeal.main_arg0)
          ∧ r.2.mem ((c.tc : Thread Cert.DActRefIdeal.nD Cert.DActRefIdeal.τ).loc Cert.DActRefIdeal.main_arg1) = m' ((c.tc : Thread Cert.DActRefIdeal.nD Cert.DActRefIdeal.τ).loc Cert.DActRefIdeal.main_arg1)
          ∧ r.2.mem ((c.tc : Thread Cert.DActRefIdeal.nD Cert.DActRefIdeal.τ).loc Cert.DActRefIdeal.main_arg2) = m' ((c.tc : Thread Cert.DActRefIdeal.nD Cert.DActRefIdeal.τ).loc Cert.DActRefIdeal.main_arg2))

def preserves_DH2_DH2Ideal : Prop :=
  True

def algebraic_DH2Ideal_DH2RefIdeal [hDH2Ideal : Cert.DH2Ideal.Facts] [hDH2RefIdeal : Cert.DH2RefIdeal.Facts] : Prop :=
  ∀ (m : (ℓ : Loc Cert.DH2Ideal.nD Cert.DH2Ideal.τ Cert.DH2Ideal.sig) → Buf (Elt Ideal) ℓ) (g : Dev Cert.DH2Ideal.nD → PrngReg)
    (m' : (ℓ : Loc Cert.DH2RefIdeal.nD Cert.DH2RefIdeal.τ Cert.DH2RefIdeal.sig) → Buf (Elt Ideal) ℓ) (g' : Dev Cert.DH2RefIdeal.nD → PrngReg), Pre_DH2Ideal m →
    (∀ c : Dev Cert.DH2Ideal.nD,
      m' ((c.tc : Thread Cert.DH2RefIdeal.nD Cert.DH2RefIdeal.τ).loc Cert.DH2RefIdeal.main_arg0) = m ((c.tc : Thread Cert.DH2Ideal.nD Cert.DH2Ideal.τ).loc Cert.DH2Ideal.main_arg0)
      ∧ m' ((c.tc : Thread Cert.DH2RefIdeal.nD Cert.DH2RefIdeal.τ).loc Cert.DH2RefIdeal.main_arg1) = m ((c.tc : Thread Cert.DH2Ideal.nD Cert.DH2Ideal.τ).loc Cert.DH2Ideal.main_arg1)) →
    ∃ (v0 : (c : Dev Cert.DH2Ideal.nD) → Buf (Elt Ideal) ((c.tc : Thread Cert.DH2Ideal.nD Cert.DH2Ideal.τ).loc Cert.DH2Ideal.main_v0)),
      θ_run (Cert.DH2Ideal.defs (F := Ideal)) (onTc (τ := Cert.DH2Ideal.τ) (Cert.DH2Ideal.main (F := Ideal))) ⟨m, fun _ => 0, g⟩ (fun r => ∀ c : Dev Cert.DH2Ideal.nD,
          r.2.mem ((c.tc : Thread Cert.DH2Ideal.nD Cert.DH2Ideal.τ).loc Cert.DH2Ideal.main_v0) = v0 c
          ∧ r.2.mem ((c.tc : Thread Cert.DH2Ideal.nD Cert.DH2Ideal.τ).loc Cert.DH2Ideal.main_arg0) = m ((c.tc : Thread Cert.DH2Ideal.nD Cert.DH2Ideal.τ).loc Cert.DH2Ideal.main_arg0)
          ∧ r.2.mem ((c.tc : Thread Cert.DH2Ideal.nD Cert.DH2Ideal.τ).loc Cert.DH2Ideal.main_arg1) = m ((c.tc : Thread Cert.DH2Ideal.nD Cert.DH2Ideal.τ).loc Cert.DH2Ideal.main_arg1))
      ∧ θ_run (Cert.DH2RefIdeal.defs (F := Ideal)) (onTc (τ := Cert.DH2RefIdeal.τ) (Cert.DH2RefIdeal.main (F := Ideal))) ⟨m', fun _ => 0, g'⟩ (fun r => ∀ c : Dev Cert.DH2RefIdeal.nD,
          r.2.mem ((c.tc : Thread Cert.DH2RefIdeal.nD Cert.DH2RefIdeal.τ).loc Cert.DH2RefIdeal.main_v5) = v0 c
          ∧ r.2.mem ((c.tc : Thread Cert.DH2RefIdeal.nD Cert.DH2RefIdeal.τ).loc Cert.DH2RefIdeal.main_arg0) = m' ((c.tc : Thread Cert.DH2RefIdeal.nD Cert.DH2RefIdeal.τ).loc Cert.DH2RefIdeal.main_arg0)
          ∧ r.2.mem ((c.tc : Thread Cert.DH2RefIdeal.nD Cert.DH2RefIdeal.τ).loc Cert.DH2RefIdeal.main_arg1) = m' ((c.tc : Thread Cert.DH2RefIdeal.nD Cert.DH2RefIdeal.τ).loc Cert.DH2RefIdeal.main_arg1))

def preserves_DMix_DMixIdeal : Prop :=
  True

def algebraic_DMixIdeal_DMixRefIdeal [hDMixIdeal : Cert.DMixIdeal.Facts] [hDMixRefIdeal : Cert.DMixRefIdeal.Facts] : Prop :=
  ∀ (m : (ℓ : Loc Cert.DMixIdeal.nD Cert.DMixIdeal.τ Cert.DMixIdeal.sig) → Buf (Elt Ideal) ℓ) (g : Dev Cert.DMixIdeal.nD → PrngReg)
    (m' : (ℓ : Loc Cert.DMixRefIdeal.nD Cert.DMixRefIdeal.τ Cert.DMixRefIdeal.sig) → Buf (Elt Ideal) ℓ) (g' : Dev Cert.DMixRefIdeal.nD → PrngReg), Pre_DMixIdeal m →
    (∀ c : Dev Cert.DMixIdeal.nD,
      m' ((c.tc : Thread Cert.DMixRefIdeal.nD Cert.DMixRefIdeal.τ).loc Cert.DMixRefIdeal.main_arg0) = m ((c.tc : Thread Cert.DMixIdeal.nD Cert.DMixIdeal.τ).loc Cert.DMixIdeal.main_arg0)
      ∧ m' ((c.tc : Thread Cert.DMixRefIdeal.nD Cert.DMixRefIdeal.τ).loc Cert.DMixRefIdeal.main_arg1) = m ((c.tc : Thread Cert.DMixIdeal.nD Cert.DMixIdeal.τ).loc Cert.DMixIdeal.main_arg1)) →
    ∃ (v0 : (c : Dev Cert.DMixIdeal.nD) → Buf (Elt Ideal) ((c.tc : Thread Cert.DMixIdeal.nD Cert.DMixIdeal.τ).loc Cert.DMixIdeal.main_v0)),
      θ_run (Cert.DMixIdeal.defs (F := Ideal)) (onTc (τ := Cert.DMixIdeal.τ) (Cert.DMixIdeal.main (F := Ideal))) ⟨m, fun _ => 0, g⟩ (fun r => ∀ c : Dev Cert.DMixIdeal.nD,
          r.2.mem ((c.tc : Thread Cert.DMixIdeal.nD Cert.DMixIdeal.τ).loc Cert.DMixIdeal.main_v0) = v0 c
          ∧ r.2.mem ((c.tc : Thread Cert.DMixIdeal.nD Cert.DMixIdeal.τ).loc Cert.DMixIdeal.main_arg0) = m ((c.tc : Thread Cert.DMixIdeal.nD Cert.DMixIdeal.τ).loc Cert.DMixIdeal.main_arg0)
          ∧ r.2.mem ((c.tc : Thread Cert.DMixIdeal.nD Cert.DMixIdeal.τ).loc Cert.DMixIdeal.main_arg1) = m ((c.tc : Thread Cert.DMixIdeal.nD Cert.DMixIdeal.τ).loc Cert.DMixIdeal.main_arg1))
      ∧ θ_run (Cert.DMixRefIdeal.defs (F := Ideal)) (onTc (τ := Cert.DMixRefIdeal.τ) (Cert.DMixRefIdeal.main (F := Ideal))) ⟨m', fun _ => 0, g'⟩ (fun r => ∀ c : Dev Cert.DMixRefIdeal.nD,
          r.2.mem ((c.tc : Thread Cert.DMixRefIdeal.nD Cert.DMixRefIdeal.τ).loc Cert.DMixRefIdeal.main_v5) = v0 c
          ∧ r.2.mem ((c.tc : Thread Cert.DMixRefIdeal.nD Cert.DMixRefIdeal.τ).loc Cert.DMixRefIdeal.main_arg0) = m' ((c.tc : Thread Cert.DMixRefIdeal.nD Cert.DMixRefIdeal.τ).loc Cert.DMixRefIdeal.main_arg0)
          ∧ r.2.mem ((c.tc : Thread Cert.DMixRefIdeal.nD Cert.DMixRefIdeal.τ).loc Cert.DMixRefIdeal.main_arg1) = m' ((c.tc : Thread Cert.DMixRefIdeal.nD Cert.DMixRefIdeal.τ).loc Cert.DMixRefIdeal.main_arg1))

def preserves_DA_DAIdeal : Prop :=
  True

def algebraic_DAIdeal_DARefIdeal [hDAIdeal : Cert.DAIdeal.Facts] [hDARefIdeal : Cert.DARefIdeal.Facts] : Prop :=
  ∀ (m : (ℓ : Loc Cert.DAIdeal.nD Cert.DAIdeal.τ Cert.DAIdeal.sig) → Buf (Elt Ideal) ℓ) (g : Dev Cert.DAIdeal.nD → PrngReg)
    (m' : (ℓ : Loc Cert.DARefIdeal.nD Cert.DARefIdeal.τ Cert.DARefIdeal.sig) → Buf (Elt Ideal) ℓ) (g' : Dev Cert.DARefIdeal.nD → PrngReg), Pre_DAIdeal m →
    (∀ c : Dev Cert.DAIdeal.nD,
      m' ((c.tc : Thread Cert.DARefIdeal.nD Cert.DARefIdeal.τ).loc Cert.DARefIdeal.main_arg0) = m ((c.tc : Thread Cert.DAIdeal.nD Cert.DAIdeal.τ).loc Cert.DAIdeal.main_arg0)
      ∧ m' ((c.tc : Thread Cert.DARefIdeal.nD Cert.DARefIdeal.τ).loc Cert.DARefIdeal.main_arg1) = m ((c.tc : Thread Cert.DAIdeal.nD Cert.DAIdeal.τ).loc Cert.DAIdeal.main_arg1)) →
    ∃ (v0 : (c : Dev Cert.DAIdeal.nD) → Buf (Elt Ideal) ((c.tc : Thread Cert.DAIdeal.nD Cert.DAIdeal.τ).loc Cert.DAIdeal.main_v0)),
      θ_run (Cert.DAIdeal.defs (F := Ideal)) (onTc (τ := Cert.DAIdeal.τ) (Cert.DAIdeal.main (F := Ideal))) ⟨m, fun _ => 0, g⟩ (fun r => ∀ c : Dev Cert.DAIdeal.nD,
          r.2.mem ((c.tc : Thread Cert.DAIdeal.nD Cert.DAIdeal.τ).loc Cert.DAIdeal.main_v0) = v0 c
          ∧ r.2.mem ((c.tc : Thread Cert.DAIdeal.nD Cert.DAIdeal.τ).loc Cert.DAIdeal.main_arg0) = m ((c.tc : Thread Cert.DAIdeal.nD Cert.DAIdeal.τ).loc Cert.DAIdeal.main_arg0)
          ∧ r.2.mem ((c.tc : Thread Cert.DAIdeal.nD Cert.DAIdeal.τ).loc Cert.DAIdeal.main_arg1) = m ((c.tc : Thread Cert.DAIdeal.nD Cert.DAIdeal.τ).loc Cert.DAIdeal.main_arg1))
      ∧ θ_run (Cert.DARefIdeal.defs (F := Ideal)) (onTc (τ := Cert.DARefIdeal.τ) (Cert.DARefIdeal.main (F := Ideal))) ⟨m', fun _ => 0, g'⟩ (fun r => ∀ c : Dev Cert.DARefIdeal.nD,
          r.2.mem ((c.tc : Thread Cert.DARefIdeal.nD Cert.DARefIdeal.τ).loc Cert.DARefIdeal.main_v5) = v0 c
          ∧ r.2.mem ((c.tc : Thread Cert.DARefIdeal.nD Cert.DARefIdeal.τ).loc Cert.DARefIdeal.main_arg0) = m' ((c.tc : Thread Cert.DARefIdeal.nD Cert.DARefIdeal.τ).loc Cert.DARefIdeal.main_arg0)
          ∧ r.2.mem ((c.tc : Thread Cert.DARefIdeal.nD Cert.DARefIdeal.τ).loc Cert.DARefIdeal.main_arg1) = m' ((c.tc : Thread Cert.DARefIdeal.nD Cert.DARefIdeal.τ).loc Cert.DARefIdeal.main_arg1))

def preserves_DO_DOIdeal : Prop :=
  True

def algebraic_DOIdeal_DORefIdeal [hDOIdeal : Cert.DOIdeal.Facts] [hDORefIdeal : Cert.DORefIdeal.Facts] : Prop :=
  ∀ (m : (ℓ : Loc Cert.DOIdeal.nD Cert.DOIdeal.τ Cert.DOIdeal.sig) → Buf (Elt Ideal) ℓ) (g : Dev Cert.DOIdeal.nD → PrngReg)
    (m' : (ℓ : Loc Cert.DORefIdeal.nD Cert.DORefIdeal.τ Cert.DORefIdeal.sig) → Buf (Elt Ideal) ℓ) (g' : Dev Cert.DORefIdeal.nD → PrngReg), Pre_DOIdeal m →
    (∀ c : Dev Cert.DOIdeal.nD,
      m' ((c.tc : Thread Cert.DORefIdeal.nD Cert.DORefIdeal.τ).loc Cert.DORefIdeal.main_arg0) = m ((c.tc : Thread Cert.DOIdeal.nD Cert.DOIdeal.τ).loc Cert.DOIdeal.main_arg0)
      ∧ m' ((c.tc : Thread Cert.DORefIdeal.nD Cert.DORefIdeal.τ).loc Cert.DORefIdeal.main_arg1) = m ((c.tc : Thread Cert.DOIdeal.nD Cert.DOIdeal.τ).loc Cert.DOIdeal.main_arg1)) →
    ∃ (v0 : (c : Dev Cert.DOIdeal.nD) → Buf (Elt Ideal) ((c.tc : Thread Cert.DOIdeal.nD Cert.DOIdeal.τ).loc Cert.DOIdeal.main_v0)),
      θ_run (Cert.DOIdeal.defs (F := Ideal)) (onTc (τ := Cert.DOIdeal.τ) (Cert.DOIdeal.main (F := Ideal))) ⟨m, fun _ => 0, g⟩ (fun r => ∀ c : Dev Cert.DOIdeal.nD,
          r.2.mem ((c.tc : Thread Cert.DOIdeal.nD Cert.DOIdeal.τ).loc Cert.DOIdeal.main_v0) = v0 c
          ∧ r.2.mem ((c.tc : Thread Cert.DOIdeal.nD Cert.DOIdeal.τ).loc Cert.DOIdeal.main_arg0) = m ((c.tc : Thread Cert.DOIdeal.nD Cert.DOIdeal.τ).loc Cert.DOIdeal.main_arg0)
          ∧ r.2.mem ((c.tc : Thread Cert.DOIdeal.nD Cert.DOIdeal.τ).loc Cert.DOIdeal.main_arg1) = m ((c.tc : Thread Cert.DOIdeal.nD Cert.DOIdeal.τ).loc Cert.DOIdeal.main_arg1))
      ∧ θ_run (Cert.DORefIdeal.defs (F := Ideal)) (onTc (τ := Cert.DORefIdeal.τ) (Cert.DORefIdeal.main (F := Ideal))) ⟨m', fun _ => 0, g'⟩ (fun r => ∀ c : Dev Cert.DORefIdeal.nD,
          r.2.mem ((c.tc : Thread Cert.DORefIdeal.nD Cert.DORefIdeal.τ).loc Cert.DORefIdeal.main_v5) = v0 c
          ∧ r.2.mem ((c.tc : Thread Cert.DORefIdeal.nD Cert.DORefIdeal.τ).loc Cert.DORefIdeal.main_arg0) = m' ((c.tc : Thread Cert.DORefIdeal.nD Cert.DORefIdeal.τ).loc Cert.DORefIdeal.main_arg0)
          ∧ r.2.mem ((c.tc : Thread Cert.DORefIdeal.nD Cert.DORefIdeal.τ).loc Cert.DORefIdeal.main_arg1) = m' ((c.tc : Thread Cert.DORefIdeal.nD Cert.DORefIdeal.τ).loc Cert.DORefIdeal.main_arg1))

def preserves_DH_DHIdeal : Prop :=
  True

def algebraic_DHIdeal_DHRefIdeal [hDHIdeal : Cert.DHIdeal.Facts] [hDHRefIdeal : Cert.DHRefIdeal.Facts] : Prop :=
  ∀ (m : (ℓ : Loc Cert.DHIdeal.nD Cert.DHIdeal.τ Cert.DHIdeal.sig) → Buf (Elt Ideal) ℓ) (g : Dev Cert.DHIdeal.nD → PrngReg)
    (m' : (ℓ : Loc Cert.DHRefIdeal.nD Cert.DHRefIdeal.τ Cert.DHRefIdeal.sig) → Buf (Elt Ideal) ℓ) (g' : Dev Cert.DHRefIdeal.nD → PrngReg), Pre_DHIdeal m →
    (∀ c : Dev Cert.DHIdeal.nD,
      m' ((c.tc : Thread Cert.DHRefIdeal.nD Cert.DHRefIdeal.τ).loc Cert.DHRefIdeal.main_arg0) = m ((c.tc : Thread Cert.DHIdeal.nD Cert.DHIdeal.τ).loc Cert.DHIdeal.main_arg0)
      ∧ m' ((c.tc : Thread Cert.DHRefIdeal.nD Cert.DHRefIdeal.τ).loc Cert.DHRefIdeal.main_arg1) = m ((c.tc : Thread Cert.DHIdeal.nD Cert.DHIdeal.τ).loc Cert.DHIdeal.main_arg1)) →
    ∃ (v0 : (c : Dev Cert.DHIdeal.nD) → Buf (Elt Ideal) ((c.tc : Thread Cert.DHIdeal.nD Cert.DHIdeal.τ).loc Cert.DHIdeal.main_v0)),
      θ_run (Cert.DHIdeal.defs (F := Ideal)) (onTc (τ := Cert.DHIdeal.τ) (Cert.DHIdeal.main (F := Ideal))) ⟨m, fun _ => 0, g⟩ (fun r => ∀ c : Dev Cert.DHIdeal.nD,
          r.2.mem ((c.tc : Thread Cert.DHIdeal.nD Cert.DHIdeal.τ).loc Cert.DHIdeal.main_v0) = v0 c
          ∧ r.2.mem ((c.tc : Thread Cert.DHIdeal.nD Cert.DHIdeal.τ).loc Cert.DHIdeal.main_arg0) = m ((c.tc : Thread Cert.DHIdeal.nD Cert.DHIdeal.τ).loc Cert.DHIdeal.main_arg0)
          ∧ r.2.mem ((c.tc : Thread Cert.DHIdeal.nD Cert.DHIdeal.τ).loc Cert.DHIdeal.main_arg1) = m ((c.tc : Thread Cert.DHIdeal.nD Cert.DHIdeal.τ).loc Cert.DHIdeal.main_arg1))
      ∧ θ_run (Cert.DHRefIdeal.defs (F := Ideal)) (onTc (τ := Cert.DHRefIdeal.τ) (Cert.DHRefIdeal.main (F := Ideal))) ⟨m', fun _ => 0, g'⟩ (fun r => ∀ c : Dev Cert.DHRefIdeal.nD,
          r.2.mem ((c.tc : Thread Cert.DHRefIdeal.nD Cert.DHRefIdeal.τ).loc Cert.DHRefIdeal.main_v5) = v0 c
          ∧ r.2.mem ((c.tc : Thread Cert.DHRefIdeal.nD Cert.DHRefIdeal.τ).loc Cert.DHRefIdeal.main_arg0) = m' ((c.tc : Thread Cert.DHRefIdeal.nD Cert.DHRefIdeal.τ).loc Cert.DHRefIdeal.main_arg0)
          ∧ r.2.mem ((c.tc : Thread Cert.DHRefIdeal.nD Cert.DHRefIdeal.τ).loc Cert.DHRefIdeal.main_arg1) = m' ((c.tc : Thread Cert.DHRefIdeal.nD Cert.DHRefIdeal.τ).loc Cert.DHRefIdeal.main_arg1))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)) →
    ∃ (v0 : (c : Dev Cert.InIdeal.nD) → Buf (Elt Ideal) ((c.tc : Thread Cert.InIdeal.nD Cert.InIdeal.τ).loc Cert.InIdeal.main_v0)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v0) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v3) = v0 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1))

def preserves_OutConv_OutConvIdeal : Prop :=
  True

def algebraic_OutConvIdeal_OutConvRefIdeal [hOutConvIdeal : Cert.OutConvIdeal.Facts] [hOutConvRefIdeal : Cert.OutConvRefIdeal.Facts] : Prop :=
  ∀ (m : (ℓ : Loc Cert.OutConvIdeal.nD Cert.OutConvIdeal.τ Cert.OutConvIdeal.sig) → Buf (Elt Ideal) ℓ) (g : Dev Cert.OutConvIdeal.nD → PrngReg)
    (m' : (ℓ : Loc Cert.OutConvRefIdeal.nD Cert.OutConvRefIdeal.τ Cert.OutConvRefIdeal.sig) → Buf (Elt Ideal) ℓ) (g' : Dev Cert.OutConvRefIdeal.nD → PrngReg), Pre_OutConvIdeal m →
    (∀ c : Dev Cert.OutConvIdeal.nD,
      m' ((c.tc : Thread Cert.OutConvRefIdeal.nD Cert.OutConvRefIdeal.τ).loc Cert.OutConvRefIdeal.main_arg0) = m ((c.tc : Thread Cert.OutConvIdeal.nD Cert.OutConvIdeal.τ).loc Cert.OutConvIdeal.main_arg0)
      ∧ m' ((c.tc : Thread Cert.OutConvRefIdeal.nD Cert.OutConvRefIdeal.τ).loc Cert.OutConvRefIdeal.main_arg1) = m ((c.tc : Thread Cert.OutConvIdeal.nD Cert.OutConvIdeal.τ).loc Cert.OutConvIdeal.main_arg1)) →
    ∃ (v0 : (c : Dev Cert.OutConvIdeal.nD) → Buf (Elt Ideal) ((c.tc : Thread Cert.OutConvIdeal.nD Cert.OutConvIdeal.τ).loc Cert.OutConvIdeal.main_v0)),
      θ_run (Cert.OutConvIdeal.defs (F := Ideal)) (onTc (τ := Cert.OutConvIdeal.τ) (Cert.OutConvIdeal.main (F := Ideal))) ⟨m, fun _ => 0, g⟩ (fun r => ∀ c : Dev Cert.OutConvIdeal.nD,
          r.2.mem ((c.tc : Thread Cert.OutConvIdeal.nD Cert.OutConvIdeal.τ).loc Cert.OutConvIdeal.main_v0) = v0 c
          ∧ r.2.mem ((c.tc : Thread Cert.OutConvIdeal.nD Cert.OutConvIdeal.τ).loc Cert.OutConvIdeal.main_arg0) = m ((c.tc : Thread Cert.OutConvIdeal.nD Cert.OutConvIdeal.τ).loc Cert.OutConvIdeal.main_arg0)
          ∧ r.2.mem ((c.tc : Thread Cert.OutConvIdeal.nD Cert.OutConvIdeal.τ).loc Cert.OutConvIdeal.main_arg1) = m ((c.tc : Thread Cert.OutConvIdeal.nD Cert.OutConvIdeal.τ).loc Cert.OutConvIdeal.main_arg1))
      ∧ θ_run (Cert.OutConvRefIdeal.defs (F := Ideal)) (onTc (τ := Cert.OutConvRefIdeal.τ) (Cert.OutConvRefIdeal.main (F := Ideal))) ⟨m', fun _ => 0, g'⟩ (fun r => ∀ c : Dev Cert.OutConvRefIdeal.nD,
          r.2.mem ((c.tc : Thread Cert.OutConvRefIdeal.nD Cert.OutConvRefIdeal.τ).loc Cert.OutConvRefIdeal.main_v3) = v0 c
          ∧ r.2.mem ((c.tc : Thread Cert.OutConvRefIdeal.nD Cert.OutConvRefIdeal.τ).loc Cert.OutConvRefIdeal.main_arg0) = m' ((c.tc : Thread Cert.OutConvRefIdeal.nD Cert.OutConvRefIdeal.τ).loc Cert.OutConvRefIdeal.main_arg0)
          ∧ r.2.mem ((c.tc : Thread Cert.OutConvRefIdeal.nD Cert.OutConvRefIdeal.τ).loc Cert.OutConvRefIdeal.main_arg1) = m' ((c.tc : Thread Cert.OutConvRefIdeal.nD Cert.OutConvRefIdeal.τ).loc Cert.OutConvRefIdeal.main_arg1))

def preserves_OutAttn_OutAttnIdeal : Prop :=
  True

def algebraic_OutAttnIdeal_OutAttnRefIdeal [hOutAttnIdeal : Cert.OutAttnIdeal.Facts] [hOutAttnRefIdeal : Cert.OutAttnRefIdeal.Facts] : Prop :=
  ∀ (m : (ℓ : Loc Cert.OutAttnIdeal.nD Cert.OutAttnIdeal.τ Cert.OutAttnIdeal.sig) → Buf (Elt Ideal) ℓ) (g : Dev Cert.OutAttnIdeal.nD → PrngReg)
    (m' : (ℓ : Loc Cert.OutAttnRefIdeal.nD Cert.OutAttnRefIdeal.τ Cert.OutAttnRefIdeal.sig) → Buf (Elt Ideal) ℓ) (g' : Dev Cert.OutAttnRefIdeal.nD → PrngReg), Pre_OutAttnIdeal m →
    (∀ c : Dev Cert.OutAttnIdeal.nD,
      m' ((c.tc : Thread Cert.OutAttnRefIdeal.nD Cert.OutAttnRefIdeal.τ).loc Cert.OutAttnRefIdeal.main_arg0) = m ((c.tc : Thread Cert.OutAttnIdeal.nD Cert.OutAttnIdeal.τ).loc Cert.OutAttnIdeal.main_arg0)
      ∧ m' ((c.tc : Thread Cert.OutAttnRefIdeal.nD Cert.OutAttnRefIdeal.τ).loc Cert.OutAttnRefIdeal.main_arg1) = m ((c.tc : Thread Cert.OutAttnIdeal.nD Cert.OutAttnIdeal.τ).loc Cert.OutAttnIdeal.main_arg1)) →
    ∃ (v0 : (c : Dev Cert.OutAttnIdeal.nD) → Buf (Elt Ideal) ((c.tc : Thread Cert.OutAttnIdeal.nD Cert.OutAttnIdeal.τ).loc Cert.OutAttnIdeal.main_v0)),
      θ_run (Cert.OutAttnIdeal.defs (F := Ideal)) (onTc (τ := Cert.OutAttnIdeal.τ) (Cert.OutAttnIdeal.main (F := Ideal))) ⟨m, fun _ => 0, g⟩ (fun r => ∀ c : Dev Cert.OutAttnIdeal.nD,
          r.2.mem ((c.tc : Thread Cert.OutAttnIdeal.nD Cert.OutAttnIdeal.τ).loc Cert.OutAttnIdeal.main_v0) = v0 c
          ∧ r.2.mem ((c.tc : Thread Cert.OutAttnIdeal.nD Cert.OutAttnIdeal.τ).loc Cert.OutAttnIdeal.main_arg0) = m ((c.tc : Thread Cert.OutAttnIdeal.nD Cert.OutAttnIdeal.τ).loc Cert.OutAttnIdeal.main_arg0)
          ∧ r.2.mem ((c.tc : Thread Cert.OutAttnIdeal.nD Cert.OutAttnIdeal.τ).loc Cert.OutAttnIdeal.main_arg1) = m ((c.tc : Thread Cert.OutAttnIdeal.nD Cert.OutAttnIdeal.τ).loc Cert.OutAttnIdeal.main_arg1))
      ∧ θ_run (Cert.OutAttnRefIdeal.defs (F := Ideal)) (onTc (τ := Cert.OutAttnRefIdeal.τ) (Cert.OutAttnRefIdeal.main (F := Ideal))) ⟨m', fun _ => 0, g'⟩ (fun r => ∀ c : Dev Cert.OutAttnRefIdeal.nD,
          r.2.mem ((c.tc : Thread Cert.OutAttnRefIdeal.nD Cert.OutAttnRefIdeal.τ).loc Cert.OutAttnRefIdeal.main_v3) = v0 c
          ∧ r.2.mem ((c.tc : Thread Cert.OutAttnRefIdeal.nD Cert.OutAttnRefIdeal.τ).loc Cert.OutAttnRefIdeal.main_arg0) = m' ((c.tc : Thread Cert.OutAttnRefIdeal.nD Cert.OutAttnRefIdeal.τ).loc Cert.OutAttnRefIdeal.main_arg0)
          ∧ r.2.mem ((c.tc : Thread Cert.OutAttnRefIdeal.nD Cert.OutAttnRefIdeal.τ).loc Cert.OutAttnRefIdeal.main_arg1) = m' ((c.tc : Thread Cert.OutAttnRefIdeal.nD Cert.OutAttnRefIdeal.τ).loc Cert.OutAttnRefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v3) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0_0)) (v1 : (c : Dev Cert.UpIdeal.nD) → Buf (Elt Ideal) ((c.tc : Thread Cert.UpIdeal.nD Cert.UpIdeal.τ).loc Cert.UpIdeal.main_v0_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0_0) = v0 c
          ∧ r.2.mem ((c.tc : Thread Cert.UpIdeal.nD Cert.UpIdeal.τ).loc Cert.UpIdeal.main_v0_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v3) = v0 c
          ∧ r.2.mem ((c.tc : Thread Cert.UpRefIdeal.nD Cert.UpRefIdeal.τ).loc Cert.UpRefIdeal.main_v6) = v1 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v3) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_GUpSend_GUpSendIdeal : Prop :=
  True

def algebraic_GUpSendIdeal_GUpSendRefIdeal [hGUpSendIdeal : Cert.GUpSendIdeal.Facts] [hGUpSendRefIdeal : Cert.GUpSendRefIdeal.Facts] : Prop :=
  ∀ (m : (ℓ : Loc Cert.GUpSendIdeal.nD Cert.GUpSendIdeal.τ Cert.GUpSendIdeal.sig) → Buf (Elt Ideal) ℓ) (g : Dev Cert.GUpSendIdeal.nD → PrngReg)
    (m' : (ℓ : Loc Cert.GUpSendRefIdeal.nD Cert.GUpSendRefIdeal.τ Cert.GUpSendRefIdeal.sig) → Buf (Elt Ideal) ℓ) (g' : Dev Cert.GUpSendRefIdeal.nD → PrngReg), Pre_GUpSendIdeal m →
    (∀ c : Dev Cert.GUpSendIdeal.nD,
      m' ((c.tc : Thread Cert.GUpSendRefIdeal.nD Cert.GUpSendRefIdeal.τ).loc Cert.GUpSendRefIdeal.main_arg0) = m ((c.tc : Thread Cert.GUpSendIdeal.nD Cert.GUpSendIdeal.τ).loc Cert.GUpSendIdeal.main_arg0)
      ∧ m' ((c.tc : Thread Cert.GUpSendRefIdeal.nD Cert.GUpSendRefIdeal.τ).loc Cert.GUpSendRefIdeal.main_arg1) = m ((c.tc : Thread Cert.GUpSendIdeal.nD Cert.GUpSendIdeal.τ).loc Cert.GUpSendIdeal.main_arg1)) →
    ∃ (v0 : (c : Dev Cert.GUpSendIdeal.nD) → Buf (Elt Ideal) ((c.tc : Thread Cert.GUpSendIdeal.nD Cert.GUpSendIdeal.τ).loc Cert.GUpSendIdeal.main_v3)),
      θ_run (Cert.GUpSendIdeal.defs (F := Ideal)) (onTc (τ := Cert.GUpSendIdeal.τ) (Cert.GUpSendIdeal.main (F := Ideal))) ⟨m, fun _ => 0, g⟩ (fun r => ∀ c : Dev Cert.GUpSendIdeal.nD,
          r.2.mem ((c.tc : Thread Cert.GUpSendIdeal.nD Cert.GUpSendIdeal.τ).loc Cert.GUpSendIdeal.main_v3) = v0 c
          ∧ r.2.mem ((c.tc : Thread Cert.GUpSendIdeal.nD Cert.GUpSendIdeal.τ).loc Cert.GUpSendIdeal.main_arg0) = m ((c.tc : Thread Cert.GUpSendIdeal.nD Cert.GUpSendIdeal.τ).loc Cert.GUpSendIdeal.main_arg0)
          ∧ r.2.mem ((c.tc : Thread Cert.GUpSendIdeal.nD Cert.GUpSendIdeal.τ).loc Cert.GUpSendIdeal.main_arg1) = m ((c.tc : Thread Cert.GUpSendIdeal.nD Cert.GUpSendIdeal.τ).loc Cert.GUpSendIdeal.main_arg1))
      ∧ θ_run (Cert.GUpSendRefIdeal.defs (F := Ideal)) (onTc (τ := Cert.GUpSendRefIdeal.τ) (Cert.GUpSendRefIdeal.main (F := Ideal))) ⟨m', fun _ => 0, g'⟩ (fun r => ∀ c : Dev Cert.GUpSendRefIdeal.nD,
          r.2.mem ((c.tc : Thread Cert.GUpSendRefIdeal.nD Cert.GUpSendRefIdeal.τ).loc Cert.GUpSendRefIdeal.main_v6) = v0 c
          ∧ r.2.mem ((c.tc : Thread Cert.GUpSendRefIdeal.nD Cert.GUpSendRefIdeal.τ).loc Cert.GUpSendRefIdeal.main_arg0) = m' ((c.tc : Thread Cert.GUpSendRefIdeal.nD Cert.GUpSendRefIdeal.τ).loc Cert.GUpSendRefIdeal.main_arg0)
          ∧ r.2.mem ((c.tc : Thread Cert.GUpSendRefIdeal.nD Cert.GUpSendRefIdeal.τ).loc Cert.GUpSendRefIdeal.main_arg1) = m' ((c.tc : Thread Cert.GUpSendRefIdeal.nD Cert.GUpSendRefIdeal.τ).loc Cert.GUpSendRefIdeal.main_arg1))

def preserves_GUpKeep_GUpKeepIdeal : Prop :=
  True

def algebraic_GUpKeepIdeal_GUpKeepRefIdeal [hGUpKeepIdeal : Cert.GUpKeepIdeal.Facts] [hGUpKeepRefIdeal : Cert.GUpKeepRefIdeal.Facts] : Prop :=
  ∀ (m : (ℓ : Loc Cert.GUpKeepIdeal.nD Cert.GUpKeepIdeal.τ Cert.GUpKeepIdeal.sig) → Buf (Elt Ideal) ℓ) (g : Dev Cert.GUpKeepIdeal.nD → PrngReg)
    (m' : (ℓ : Loc Cert.GUpKeepRefIdeal.nD Cert.GUpKeepRefIdeal.τ Cert.GUpKeepRefIdeal.sig) → Buf (Elt Ideal) ℓ) (g' : Dev Cert.GUpKeepRefIdeal.nD → PrngReg), Pre_GUpKeepIdeal m →
    (∀ c : Dev Cert.GUpKeepIdeal.nD,
      m' ((c.tc : Thread Cert.GUpKeepRefIdeal.nD Cert.GUpKeepRefIdeal.τ).loc Cert.GUpKeepRefIdeal.main_arg0) = m ((c.tc : Thread Cert.GUpKeepIdeal.nD Cert.GUpKeepIdeal.τ).loc Cert.GUpKeepIdeal.main_arg0)
      ∧ m' ((c.tc : Thread Cert.GUpKeepRefIdeal.nD Cert.GUpKeepRefIdeal.τ).loc Cert.GUpKeepRefIdeal.main_arg1) = m ((c.tc : Thread Cert.GUpKeepIdeal.nD Cert.GUpKeepIdeal.τ).loc Cert.GUpKeepIdeal.main_arg1)
      ∧ m' ((c.tc : Thread Cert.GUpKeepRefIdeal.nD Cert.GUpKeepRefIdeal.τ).loc Cert.GUpKeepRefIdeal.main_arg2) = m ((c.tc : Thread Cert.GUpKeepIdeal.nD Cert.GUpKeepIdeal.τ).loc Cert.GUpKeepIdeal.main_arg2)) →
    ∃ (v0 : (c : Dev Cert.GUpKeepIdeal.nD) → Buf (Elt Ideal) ((c.tc : Thread Cert.GUpKeepIdeal.nD Cert.GUpKeepIdeal.τ).loc Cert.GUpKeepIdeal.main_v3)),
      θ_run (Cert.GUpKeepIdeal.defs (F := Ideal)) (onTc (τ := Cert.GUpKeepIdeal.τ) (Cert.GUpKeepIdeal.main (F := Ideal))) ⟨m, fun _ => 0, g⟩ (fun r => ∀ c : Dev Cert.GUpKeepIdeal.nD,
          r.2.mem ((c.tc : Thread Cert.GUpKeepIdeal.nD Cert.GUpKeepIdeal.τ).loc Cert.GUpKeepIdeal.main_v3) = v0 c
          ∧ r.2.mem ((c.tc : Thread Cert.GUpKeepIdeal.nD Cert.GUpKeepIdeal.τ).loc Cert.GUpKeepIdeal.main_arg0) = m ((c.tc : Thread Cert.GUpKeepIdeal.nD Cert.GUpKeepIdeal.τ).loc Cert.GUpKeepIdeal.main_arg0)
          ∧ r.2.mem ((c.tc : Thread Cert.GUpKeepIdeal.nD Cert.GUpKeepIdeal.τ).loc Cert.GUpKeepIdeal.main_arg1) = m ((c.tc : Thread Cert.GUpKeepIdeal.nD Cert.GUpKeepIdeal.τ).loc Cert.GUpKeepIdeal.main_arg1)
          ∧ r.2.mem ((c.tc : Thread Cert.GUpKeepIdeal.nD Cert.GUpKeepIdeal.τ).loc Cert.GUpKeepIdeal.main_arg2) = m ((c.tc : Thread Cert.GUpKeepIdeal.nD Cert.GUpKeepIdeal.τ).loc Cert.GUpKeepIdeal.main_arg2))
      ∧ θ_run (Cert.GUpKeepRefIdeal.defs (F := Ideal)) (onTc (τ := Cert.GUpKeepRefIdeal.τ) (Cert.GUpKeepRefIdeal.main (F := Ideal))) ⟨m', fun _ => 0, g'⟩ (fun r => ∀ c : Dev Cert.GUpKeepRefIdeal.nD,
          r.2.mem ((c.tc : Thread Cert.GUpKeepRefIdeal.nD Cert.GUpKeepRefIdeal.τ).loc Cert.GUpKeepRefIdeal.main_v8) = v0 c
          ∧ r.2.mem ((c.tc : Thread Cert.GUpKeepRefIdeal.nD Cert.GUpKeepRefIdeal.τ).loc Cert.GUpKeepRefIdeal.main_arg0) = m' ((c.tc : Thread Cert.GUpKeepRefIdeal.nD Cert.GUpKeepRefIdeal.τ).loc Cert.GUpKeepRefIdeal.main_arg0)
          ∧ r.2.mem ((c.tc : Thread Cert.GUpKeepRefIdeal.nD Cert.GUpKeepRefIdeal.τ).loc Cert.GUpKeepRefIdeal.main_arg1) = m' ((c.tc : Thread Cert.GUpKeepRefIdeal.nD Cert.GUpKeepRefIdeal.τ).loc Cert.GUpKeepRefIdeal.main_arg1)
          ∧ r.2.mem ((c.tc : Thread Cert.GUpKeepRefIdeal.nD Cert.GUpKeepRefIdeal.τ).loc Cert.GUpKeepRefIdeal.main_arg2) = m' ((c.tc : Thread Cert.GUpKeepRefIdeal.nD Cert.GUpKeepRefIdeal.τ).loc Cert.GUpKeepRefIdeal.main_arg2))

def preserves_GDownSend_GDownSendIdeal : Prop :=
  True

def algebraic_GDownSendIdeal_GDownSendRefIdeal [hGDownSendIdeal : Cert.GDownSendIdeal.Facts] [hGDownSendRefIdeal : Cert.GDownSendRefIdeal.Facts] : Prop :=
  ∀ (m : (ℓ : Loc Cert.GDownSendIdeal.nD Cert.GDownSendIdeal.τ Cert.GDownSendIdeal.sig) → Buf (Elt Ideal) ℓ) (g : Dev Cert.GDownSendIdeal.nD → PrngReg)
    (m' : (ℓ : Loc Cert.GDownSendRefIdeal.nD Cert.GDownSendRefIdeal.τ Cert.GDownSendRefIdeal.sig) → Buf (Elt Ideal) ℓ) (g' : Dev Cert.GDownSendRefIdeal.nD → PrngReg), Pre_GDownSendIdeal m →
    (∀ c : Dev Cert.GDownSendIdeal.nD,
      m' ((c.tc : Thread Cert.GDownSendRefIdeal.nD Cert.GDownSendRefIdeal.τ).loc Cert.GDownSendRefIdeal.main_arg0) = m ((c.tc : Thread Cert.GDownSendIdeal.nD Cert.GDownSendIdeal.τ).loc Cert.GDownSendIdeal.main_arg0)
      ∧ m' ((c.tc : Thread Cert.GDownSendRefIdeal.nD Cert.GDownSendRefIdeal.τ).loc Cert.GDownSendRefIdeal.main_arg1) = m ((c.tc : Thread Cert.GDownSendIdeal.nD Cert.GDownSendIdeal.τ).loc Cert.GDownSendIdeal.main_arg1)) →
    ∃ (v0 : (c : Dev Cert.GDownSendIdeal.nD) → Buf (Elt Ideal) ((c.tc : Thread Cert.GDownSendIdeal.nD Cert.GDownSendIdeal.τ).loc Cert.GDownSendIdeal.main_v3)),
      θ_run (Cert.GDownSendIdeal.defs (F := Ideal)) (onTc (τ := Cert.GDownSendIdeal.τ) (Cert.GDownSendIdeal.main (F := Ideal))) ⟨m, fun _ => 0, g⟩ (fun r => ∀ c : Dev Cert.GDownSendIdeal.nD,
          r.2.mem ((c.tc : Thread Cert.GDownSendIdeal.nD Cert.GDownSendIdeal.τ).loc Cert.GDownSendIdeal.main_v3) = v0 c
          ∧ r.2.mem ((c.tc : Thread Cert.GDownSendIdeal.nD Cert.GDownSendIdeal.τ).loc Cert.GDownSendIdeal.main_arg0) = m ((c.tc : Thread Cert.GDownSendIdeal.nD Cert.GDownSendIdeal.τ).loc Cert.GDownSendIdeal.main_arg0)
          ∧ r.2.mem ((c.tc : Thread Cert.GDownSendIdeal.nD Cert.GDownSendIdeal.τ).loc Cert.GDownSendIdeal.main_arg1) = m ((c.tc : Thread Cert.GDownSendIdeal.nD Cert.GDownSendIdeal.τ).loc Cert.GDownSendIdeal.main_arg1))
      ∧ θ_run (Cert.GDownSendRefIdeal.defs (F := Ideal)) (onTc (τ := Cert.GDownSendRefIdeal.τ) (Cert.GDownSendRefIdeal.main (F := Ideal))) ⟨m', fun _ => 0, g'⟩ (fun r => ∀ c : Dev Cert.GDownSendRefIdeal.nD,
          r.2.mem ((c.tc : Thread Cert.GDownSendRefIdeal.nD Cert.GDownSendRefIdeal.τ).loc Cert.GDownSendRefIdeal.main_v6) = v0 c
          ∧ r.2.mem ((c.tc : Thread Cert.GDownSendRefIdeal.nD Cert.GDownSendRefIdeal.τ).loc Cert.GDownSendRefIdeal.main_arg0) = m' ((c.tc : Thread Cert.GDownSendRefIdeal.nD Cert.GDownSendRefIdeal.τ).loc Cert.GDownSendRefIdeal.main_arg0)
          ∧ r.2.mem ((c.tc : Thread Cert.GDownSendRefIdeal.nD Cert.GDownSendRefIdeal.τ).loc Cert.GDownSendRefIdeal.main_arg1) = m' ((c.tc : Thread Cert.GDownSendRefIdeal.nD Cert.GDownSendRefIdeal.τ).loc Cert.GDownSendRefIdeal.main_arg1))

def preserves_GDownKeep_GDownKeepIdeal : Prop :=
  True

def algebraic_GDownKeepIdeal_GDownKeepRefIdeal [hGDownKeepIdeal : Cert.GDownKeepIdeal.Facts] [hGDownKeepRefIdeal : Cert.GDownKeepRefIdeal.Facts] : Prop :=
  ∀ (m : (ℓ : Loc Cert.GDownKeepIdeal.nD Cert.GDownKeepIdeal.τ Cert.GDownKeepIdeal.sig) → Buf (Elt Ideal) ℓ) (g : Dev Cert.GDownKeepIdeal.nD → PrngReg)
    (m' : (ℓ : Loc Cert.GDownKeepRefIdeal.nD Cert.GDownKeepRefIdeal.τ Cert.GDownKeepRefIdeal.sig) → Buf (Elt Ideal) ℓ) (g' : Dev Cert.GDownKeepRefIdeal.nD → PrngReg), Pre_GDownKeepIdeal m →
    (∀ c : Dev Cert.GDownKeepIdeal.nD,
      m' ((c.tc : Thread Cert.GDownKeepRefIdeal.nD Cert.GDownKeepRefIdeal.τ).loc Cert.GDownKeepRefIdeal.main_arg0) = m ((c.tc : Thread Cert.GDownKeepIdeal.nD Cert.GDownKeepIdeal.τ).loc Cert.GDownKeepIdeal.main_arg0)
      ∧ m' ((c.tc : Thread Cert.GDownKeepRefIdeal.nD Cert.GDownKeepRefIdeal.τ).loc Cert.GDownKeepRefIdeal.main_arg1) = m ((c.tc : Thread Cert.GDownKeepIdeal.nD Cert.GDownKeepIdeal.τ).loc Cert.GDownKeepIdeal.main_arg1)
      ∧ m' ((c.tc : Thread Cert.GDownKeepRefIdeal.nD Cert.GDownKeepRefIdeal.τ).loc Cert.GDownKeepRefIdeal.main_arg2) = m ((c.tc : Thread Cert.GDownKeepIdeal.nD Cert.GDownKeepIdeal.τ).loc Cert.GDownKeepIdeal.main_arg2)) →
    ∃ (v0 : (c : Dev Cert.GDownKeepIdeal.nD) → Buf (Elt Ideal) ((c.tc : Thread Cert.GDownKeepIdeal.nD Cert.GDownKeepIdeal.τ).loc Cert.GDownKeepIdeal.main_v3)),
      θ_run (Cert.GDownKeepIdeal.defs (F := Ideal)) (onTc (τ := Cert.GDownKeepIdeal.τ) (Cert.GDownKeepIdeal.main (F := Ideal))) ⟨m, fun _ => 0, g⟩ (fun r => ∀ c : Dev Cert.GDownKeepIdeal.nD,
          r.2.mem ((c.tc : Thread Cert.GDownKeepIdeal.nD Cert.GDownKeepIdeal.τ).loc Cert.GDownKeepIdeal.main_v3) = v0 c
          ∧ r.2.mem ((c.tc : Thread Cert.GDownKeepIdeal.nD Cert.GDownKeepIdeal.τ).loc Cert.GDownKeepIdeal.main_arg0) = m ((c.tc : Thread Cert.GDownKeepIdeal.nD Cert.GDownKeepIdeal.τ).loc Cert.GDownKeepIdeal.main_arg0)
          ∧ r.2.mem ((c.tc : Thread Cert.GDownKeepIdeal.nD Cert.GDownKeepIdeal.τ).loc Cert.GDownKeepIdeal.main_arg1) = m ((c.tc : Thread Cert.GDownKeepIdeal.nD Cert.GDownKeepIdeal.τ).loc Cert.GDownKeepIdeal.main_arg1)
          ∧ r.2.mem ((c.tc : Thread Cert.GDownKeepIdeal.nD Cert.GDownKeepIdeal.τ).loc Cert.GDownKeepIdeal.main_arg2) = m ((c.tc : Thread Cert.GDownKeepIdeal.nD Cert.GDownKeepIdeal.τ).loc Cert.GDownKeepIdeal.main_arg2))
      ∧ θ_run (Cert.GDownKeepRefIdeal.defs (F := Ideal)) (onTc (τ := Cert.GDownKeepRefIdeal.τ) (Cert.GDownKeepRefIdeal.main (F := Ideal))) ⟨m', fun _ => 0, g'⟩ (fun r => ∀ c : Dev Cert.GDownKeepRefIdeal.nD,
          r.2.mem ((c.tc : Thread Cert.GDownKeepRefIdeal.nD Cert.GDownKeepRefIdeal.τ).loc Cert.GDownKeepRefIdeal.main_v8) = v0 c
          ∧ r.2.mem ((c.tc : Thread Cert.GDownKeepRefIdeal.nD Cert.GDownKeepRefIdeal.τ).loc Cert.GDownKeepRefIdeal.main_arg0) = m' ((c.tc : Thread Cert.GDownKeepRefIdeal.nD Cert.GDownKeepRefIdeal.τ).loc Cert.GDownKeepRefIdeal.main_arg0)
          ∧ r.2.mem ((c.tc : Thread Cert.GDownKeepRefIdeal.nD Cert.GDownKeepRefIdeal.τ).loc Cert.GDownKeepRefIdeal.main_arg1) = m' ((c.tc : Thread Cert.GDownKeepRefIdeal.nD Cert.GDownKeepRefIdeal.τ).loc Cert.GDownKeepRefIdeal.main_arg1)
          ∧ r.2.mem ((c.tc : Thread Cert.GDownKeepRefIdeal.nD Cert.GDownKeepRefIdeal.τ).loc Cert.GDownKeepRefIdeal.main_arg2) = m' ((c.tc : Thread Cert.GDownKeepRefIdeal.nD Cert.GDownKeepRefIdeal.τ).loc Cert.GDownKeepRefIdeal.main_arg2))

def preserves_GOutConvSend_GOutConvSendIdeal : Prop :=
  True

def algebraic_GOutConvSendIdeal_GOutConvSendRefIdeal [hGOutConvSendIdeal : Cert.GOutConvSendIdeal.Facts] [hGOutConvSendRefIdeal : Cert.GOutConvSendRefIdeal.Facts] : Prop :=
  ∀ (m : (ℓ : Loc Cert.GOutConvSendIdeal.nD Cert.GOutConvSendIdeal.τ Cert.GOutConvSendIdeal.sig) → Buf (Elt Ideal) ℓ) (g : Dev Cert.GOutConvSendIdeal.nD → PrngReg)
    (m' : (ℓ : Loc Cert.GOutConvSendRefIdeal.nD Cert.GOutConvSendRefIdeal.τ Cert.GOutConvSendRefIdeal.sig) → Buf (Elt Ideal) ℓ) (g' : Dev Cert.GOutConvSendRefIdeal.nD → PrngReg), Pre_GOutConvSendIdeal m →
    (∀ c : Dev Cert.GOutConvSendIdeal.nD,
      m' ((c.tc : Thread Cert.GOutConvSendRefIdeal.nD Cert.GOutConvSendRefIdeal.τ).loc Cert.GOutConvSendRefIdeal.main_arg0) = m ((c.tc : Thread Cert.GOutConvSendIdeal.nD Cert.GOutConvSendIdeal.τ).loc Cert.GOutConvSendIdeal.main_arg0)
      ∧ m' ((c.tc : Thread Cert.GOutConvSendRefIdeal.nD Cert.GOutConvSendRefIdeal.τ).loc Cert.GOutConvSendRefIdeal.main_arg1) = m ((c.tc : Thread Cert.GOutConvSendIdeal.nD Cert.GOutConvSendIdeal.τ).loc Cert.GOutConvSendIdeal.main_arg1)) →
    ∃ (v0 : (c : Dev Cert.GOutConvSendIdeal.nD) → Buf (Elt Ideal) ((c.tc : Thread Cert.GOutConvSendIdeal.nD Cert.GOutConvSendIdeal.τ).loc Cert.GOutConvSendIdeal.main_v3)),
      θ_run (Cert.GOutConvSendIdeal.defs (F := Ideal)) (onTc (τ := Cert.GOutConvSendIdeal.τ) (Cert.GOutConvSendIdeal.main (F := Ideal))) ⟨m, fun _ => 0, g⟩ (fun r => ∀ c : Dev Cert.GOutConvSendIdeal.nD,
          r.2.mem ((c.tc : Thread Cert.GOutConvSendIdeal.nD Cert.GOutConvSendIdeal.τ).loc Cert.GOutConvSendIdeal.main_v3) = v0 c
          ∧ r.2.mem ((c.tc : Thread Cert.GOutConvSendIdeal.nD Cert.GOutConvSendIdeal.τ).loc Cert.GOutConvSendIdeal.main_arg0) = m ((c.tc : Thread Cert.GOutConvSendIdeal.nD Cert.GOutConvSendIdeal.τ).loc Cert.GOutConvSendIdeal.main_arg0)
          ∧ r.2.mem ((c.tc : Thread Cert.GOutConvSendIdeal.nD Cert.GOutConvSendIdeal.τ).loc Cert.GOutConvSendIdeal.main_arg1) = m ((c.tc : Thread Cert.GOutConvSendIdeal.nD Cert.GOutConvSendIdeal.τ).loc Cert.GOutConvSendIdeal.main_arg1))
      ∧ θ_run (Cert.GOutConvSendRefIdeal.defs (F := Ideal)) (onTc (τ := Cert.GOutConvSendRefIdeal.τ) (Cert.GOutConvSendRefIdeal.main (F := Ideal))) ⟨m', fun _ => 0, g'⟩ (fun r => ∀ c : Dev Cert.GOutConvSendRefIdeal.nD,
          r.2.mem ((c.tc : Thread Cert.GOutConvSendRefIdeal.nD Cert.GOutConvSendRefIdeal.τ).loc Cert.GOutConvSendRefIdeal.main_v6) = v0 c
          ∧ r.2.mem ((c.tc : Thread Cert.GOutConvSendRefIdeal.nD Cert.GOutConvSendRefIdeal.τ).loc Cert.GOutConvSendRefIdeal.main_arg0) = m' ((c.tc : Thread Cert.GOutConvSendRefIdeal.nD Cert.GOutConvSendRefIdeal.τ).loc Cert.GOutConvSendRefIdeal.main_arg0)
          ∧ r.2.mem ((c.tc : Thread Cert.GOutConvSendRefIdeal.nD Cert.GOutConvSendRefIdeal.τ).loc Cert.GOutConvSendRefIdeal.main_arg1) = m' ((c.tc : Thread Cert.GOutConvSendRefIdeal.nD Cert.GOutConvSendRefIdeal.τ).loc Cert.GOutConvSendRefIdeal.main_arg1))

def preserves_GOutConvKeep_GOutConvKeepIdeal : Prop :=
  True

def algebraic_GOutConvKeepIdeal_GOutConvKeepRefIdeal [hGOutConvKeepIdeal : Cert.GOutConvKeepIdeal.Facts] [hGOutConvKeepRefIdeal : Cert.GOutConvKeepRefIdeal.Facts] : Prop :=
  ∀ (m : (ℓ : Loc Cert.GOutConvKeepIdeal.nD Cert.GOutConvKeepIdeal.τ Cert.GOutConvKeepIdeal.sig) → Buf (Elt Ideal) ℓ) (g : Dev Cert.GOutConvKeepIdeal.nD → PrngReg)
    (m' : (ℓ : Loc Cert.GOutConvKeepRefIdeal.nD Cert.GOutConvKeepRefIdeal.τ Cert.GOutConvKeepRefIdeal.sig) → Buf (Elt Ideal) ℓ) (g' : Dev Cert.GOutConvKeepRefIdeal.nD → PrngReg), Pre_GOutConvKeepIdeal m →
    (∀ c : Dev Cert.GOutConvKeepIdeal.nD,
      m' ((c.tc : Thread Cert.GOutConvKeepRefIdeal.nD Cert.GOutConvKeepRefIdeal.τ).loc Cert.GOutConvKeepRefIdeal.main_arg0) = m ((c.tc : Thread Cert.GOutConvKeepIdeal.nD Cert.GOutConvKeepIdeal.τ).loc Cert.GOutConvKeepIdeal.main_arg0)
      ∧ m' ((c.tc : Thread Cert.GOutConvKeepRefIdeal.nD Cert.GOutConvKeepRefIdeal.τ).loc Cert.GOutConvKeepRefIdeal.main_arg1) = m ((c.tc : Thread Cert.GOutConvKeepIdeal.nD Cert.GOutConvKeepIdeal.τ).loc Cert.GOutConvKeepIdeal.main_arg1)
      ∧ m' ((c.tc : Thread Cert.GOutConvKeepRefIdeal.nD Cert.GOutConvKeepRefIdeal.τ).loc Cert.GOutConvKeepRefIdeal.main_arg2) = m ((c.tc : Thread Cert.GOutConvKeepIdeal.nD Cert.GOutConvKeepIdeal.τ).loc Cert.GOutConvKeepIdeal.main_arg2)) →
    ∃ (v0 : (c : Dev Cert.GOutConvKeepIdeal.nD) → Buf (Elt Ideal) ((c.tc : Thread Cert.GOutConvKeepIdeal.nD Cert.GOutConvKeepIdeal.τ).loc Cert.GOutConvKeepIdeal.main_v3)),
      θ_run (Cert.GOutConvKeepIdeal.defs (F := Ideal)) (onTc (τ := Cert.GOutConvKeepIdeal.τ) (Cert.GOutConvKeepIdeal.main (F := Ideal))) ⟨m, fun _ => 0, g⟩ (fun r => ∀ c : Dev Cert.GOutConvKeepIdeal.nD,
          r.2.mem ((c.tc : Thread Cert.GOutConvKeepIdeal.nD Cert.GOutConvKeepIdeal.τ).loc Cert.GOutConvKeepIdeal.main_v3) = v0 c
          ∧ r.2.mem ((c.tc : Thread Cert.GOutConvKeepIdeal.nD Cert.GOutConvKeepIdeal.τ).loc Cert.GOutConvKeepIdeal.main_arg0) = m ((c.tc : Thread Cert.GOutConvKeepIdeal.nD Cert.GOutConvKeepIdeal.τ).loc Cert.GOutConvKeepIdeal.main_arg0)
          ∧ r.2.mem ((c.tc : Thread Cert.GOutConvKeepIdeal.nD Cert.GOutConvKeepIdeal.τ).loc Cert.GOutConvKeepIdeal.main_arg1) = m ((c.tc : Thread Cert.GOutConvKeepIdeal.nD Cert.GOutConvKeepIdeal.τ).loc Cert.GOutConvKeepIdeal.main_arg1)
          ∧ r.2.mem ((c.tc : Thread Cert.GOutConvKeepIdeal.nD Cert.GOutConvKeepIdeal.τ).loc Cert.GOutConvKeepIdeal.main_arg2) = m ((c.tc : Thread Cert.GOutConvKeepIdeal.nD Cert.GOutConvKeepIdeal.τ).loc Cert.GOutConvKeepIdeal.main_arg2))
      ∧ θ_run (Cert.GOutConvKeepRefIdeal.defs (F := Ideal)) (onTc (τ := Cert.GOutConvKeepRefIdeal.τ) (Cert.GOutConvKeepRefIdeal.main (F := Ideal))) ⟨m', fun _ => 0, g'⟩ (fun r => ∀ c : Dev Cert.GOutConvKeepRefIdeal.nD,
          r.2.mem ((c.tc : Thread Cert.GOutConvKeepRefIdeal.nD Cert.GOutConvKeepRefIdeal.τ).loc Cert.GOutConvKeepRefIdeal.main_v8) = v0 c
          ∧ r.2.mem ((c.tc : Thread Cert.GOutConvKeepRefIdeal.nD Cert.GOutConvKeepRefIdeal.τ).loc Cert.GOutConvKeepRefIdeal.main_arg0) = m' ((c.tc : Thread Cert.GOutConvKeepRefIdeal.nD Cert.GOutConvKeepRefIdeal.τ).loc Cert.GOutConvKeepRefIdeal.main_arg0)
          ∧ r.2.mem ((c.tc : Thread Cert.GOutConvKeepRefIdeal.nD Cert.GOutConvKeepRefIdeal.τ).loc Cert.GOutConvKeepRefIdeal.main_arg1) = m' ((c.tc : Thread Cert.GOutConvKeepRefIdeal.nD Cert.GOutConvKeepRefIdeal.τ).loc Cert.GOutConvKeepRefIdeal.main_arg1)
          ∧ r.2.mem ((c.tc : Thread Cert.GOutConvKeepRefIdeal.nD Cert.GOutConvKeepRefIdeal.τ).loc Cert.GOutConvKeepRefIdeal.main_arg2) = m' ((c.tc : Thread Cert.GOutConvKeepRefIdeal.nD Cert.GOutConvKeepRefIdeal.τ).loc Cert.GOutConvKeepRefIdeal.main_arg2))

def preserves_GOutAttnSend_GOutAttnSendIdeal : Prop :=
  True

def algebraic_GOutAttnSendIdeal_GOutAttnSendRefIdeal [hGOutAttnSendIdeal : Cert.GOutAttnSendIdeal.Facts] [hGOutAttnSendRefIdeal : Cert.GOutAttnSendRefIdeal.Facts] : Prop :=
  ∀ (m : (ℓ : Loc Cert.GOutAttnSendIdeal.nD Cert.GOutAttnSendIdeal.τ Cert.GOutAttnSendIdeal.sig) → Buf (Elt Ideal) ℓ) (g : Dev Cert.GOutAttnSendIdeal.nD → PrngReg)
    (m' : (ℓ : Loc Cert.GOutAttnSendRefIdeal.nD Cert.GOutAttnSendRefIdeal.τ Cert.GOutAttnSendRefIdeal.sig) → Buf (Elt Ideal) ℓ) (g' : Dev Cert.GOutAttnSendRefIdeal.nD → PrngReg), Pre_GOutAttnSendIdeal m →
    (∀ c : Dev Cert.GOutAttnSendIdeal.nD,
      m' ((c.tc : Thread Cert.GOutAttnSendRefIdeal.nD Cert.GOutAttnSendRefIdeal.τ).loc Cert.GOutAttnSendRefIdeal.main_arg0) = m ((c.tc : Thread Cert.GOutAttnSendIdeal.nD Cert.GOutAttnSendIdeal.τ).loc Cert.GOutAttnSendIdeal.main_arg0)
      ∧ m' ((c.tc : Thread Cert.GOutAttnSendRefIdeal.nD Cert.GOutAttnSendRefIdeal.τ).loc Cert.GOutAttnSendRefIdeal.main_arg1) = m ((c.tc : Thread Cert.GOutAttnSendIdeal.nD Cert.GOutAttnSendIdeal.τ).loc Cert.GOutAttnSendIdeal.main_arg1)) →
    ∃ (v0 : (c : Dev Cert.GOutAttnSendIdeal.nD) → Buf (Elt Ideal) ((c.tc : Thread Cert.GOutAttnSendIdeal.nD Cert.GOutAttnSendIdeal.τ).loc Cert.GOutAttnSendIdeal.main_v3)),
      θ_run (Cert.GOutAttnSendIdeal.defs (F := Ideal)) (onTc (τ := Cert.GOutAttnSendIdeal.τ) (Cert.GOutAttnSendIdeal.main (F := Ideal))) ⟨m, fun _ => 0, g⟩ (fun r => ∀ c : Dev Cert.GOutAttnSendIdeal.nD,
          r.2.mem ((c.tc : Thread Cert.GOutAttnSendIdeal.nD Cert.GOutAttnSendIdeal.τ).loc Cert.GOutAttnSendIdeal.main_v3) = v0 c
          ∧ r.2.mem ((c.tc : Thread Cert.GOutAttnSendIdeal.nD Cert.GOutAttnSendIdeal.τ).loc Cert.GOutAttnSendIdeal.main_arg0) = m ((c.tc : Thread Cert.GOutAttnSendIdeal.nD Cert.GOutAttnSendIdeal.τ).loc Cert.GOutAttnSendIdeal.main_arg0)
          ∧ r.2.mem ((c.tc : Thread Cert.GOutAttnSendIdeal.nD Cert.GOutAttnSendIdeal.τ).loc Cert.GOutAttnSendIdeal.main_arg1) = m ((c.tc : Thread Cert.GOutAttnSendIdeal.nD Cert.GOutAttnSendIdeal.τ).loc Cert.GOutAttnSendIdeal.main_arg1))
      ∧ θ_run (Cert.GOutAttnSendRefIdeal.defs (F := Ideal)) (onTc (τ := Cert.GOutAttnSendRefIdeal.τ) (Cert.GOutAttnSendRefIdeal.main (F := Ideal))) ⟨m', fun _ => 0, g'⟩ (fun r => ∀ c : Dev Cert.GOutAttnSendRefIdeal.nD,
          r.2.mem ((c.tc : Thread Cert.GOutAttnSendRefIdeal.nD Cert.GOutAttnSendRefIdeal.τ).loc Cert.GOutAttnSendRefIdeal.main_v6) = v0 c
          ∧ r.2.mem ((c.tc : Thread Cert.GOutAttnSendRefIdeal.nD Cert.GOutAttnSendRefIdeal.τ).loc Cert.GOutAttnSendRefIdeal.main_arg0) = m' ((c.tc : Thread Cert.GOutAttnSendRefIdeal.nD Cert.GOutAttnSendRefIdeal.τ).loc Cert.GOutAttnSendRefIdeal.main_arg0)
          ∧ r.2.mem ((c.tc : Thread Cert.GOutAttnSendRefIdeal.nD Cert.GOutAttnSendRefIdeal.τ).loc Cert.GOutAttnSendRefIdeal.main_arg1) = m' ((c.tc : Thread Cert.GOutAttnSendRefIdeal.nD Cert.GOutAttnSendRefIdeal.τ).loc Cert.GOutAttnSendRefIdeal.main_arg1))

def preserves_GOutAttnKeep_GOutAttnKeepIdeal : Prop :=
  True

def algebraic_GOutAttnKeepIdeal_GOutAttnKeepRefIdeal [hGOutAttnKeepIdeal : Cert.GOutAttnKeepIdeal.Facts] [hGOutAttnKeepRefIdeal : Cert.GOutAttnKeepRefIdeal.Facts] : Prop :=
  ∀ (m : (ℓ : Loc Cert.GOutAttnKeepIdeal.nD Cert.GOutAttnKeepIdeal.τ Cert.GOutAttnKeepIdeal.sig) → Buf (Elt Ideal) ℓ) (g : Dev Cert.GOutAttnKeepIdeal.nD → PrngReg)
    (m' : (ℓ : Loc Cert.GOutAttnKeepRefIdeal.nD Cert.GOutAttnKeepRefIdeal.τ Cert.GOutAttnKeepRefIdeal.sig) → Buf (Elt Ideal) ℓ) (g' : Dev Cert.GOutAttnKeepRefIdeal.nD → PrngReg), Pre_GOutAttnKeepIdeal m →
    (∀ c : Dev Cert.GOutAttnKeepIdeal.nD,
      m' ((c.tc : Thread Cert.GOutAttnKeepRefIdeal.nD Cert.GOutAttnKeepRefIdeal.τ).loc Cert.GOutAttnKeepRefIdeal.main_arg0) = m ((c.tc : Thread Cert.GOutAttnKeepIdeal.nD Cert.GOutAttnKeepIdeal.τ).loc Cert.GOutAttnKeepIdeal.main_arg0)
      ∧ m' ((c.tc : Thread Cert.GOutAttnKeepRefIdeal.nD Cert.GOutAttnKeepRefIdeal.τ).loc Cert.GOutAttnKeepRefIdeal.main_arg1) = m ((c.tc : Thread Cert.GOutAttnKeepIdeal.nD Cert.GOutAttnKeepIdeal.τ).loc Cert.GOutAttnKeepIdeal.main_arg1)
      ∧ m' ((c.tc : Thread Cert.GOutAttnKeepRefIdeal.nD Cert.GOutAttnKeepRefIdeal.τ).loc Cert.GOutAttnKeepRefIdeal.main_arg2) = m ((c.tc : Thread Cert.GOutAttnKeepIdeal.nD Cert.GOutAttnKeepIdeal.τ).loc Cert.GOutAttnKeepIdeal.main_arg2)) →
    ∃ (v0 : (c : Dev Cert.GOutAttnKeepIdeal.nD) → Buf (Elt Ideal) ((c.tc : Thread Cert.GOutAttnKeepIdeal.nD Cert.GOutAttnKeepIdeal.τ).loc Cert.GOutAttnKeepIdeal.main_v3)),
      θ_run (Cert.GOutAttnKeepIdeal.defs (F := Ideal)) (onTc (τ := Cert.GOutAttnKeepIdeal.τ) (Cert.GOutAttnKeepIdeal.main (F := Ideal))) ⟨m, fun _ => 0, g⟩ (fun r => ∀ c : Dev Cert.GOutAttnKeepIdeal.nD,
          r.2.mem ((c.tc : Thread Cert.GOutAttnKeepIdeal.nD Cert.GOutAttnKeepIdeal.τ).loc Cert.GOutAttnKeepIdeal.main_v3) = v0 c
          ∧ r.2.mem ((c.tc : Thread Cert.GOutAttnKeepIdeal.nD Cert.GOutAttnKeepIdeal.τ).loc Cert.GOutAttnKeepIdeal.main_arg0) = m ((c.tc : Thread Cert.GOutAttnKeepIdeal.nD Cert.GOutAttnKeepIdeal.τ).loc Cert.GOutAttnKeepIdeal.main_arg0)
          ∧ r.2.mem ((c.tc : Thread Cert.GOutAttnKeepIdeal.nD Cert.GOutAttnKeepIdeal.τ).loc Cert.GOutAttnKeepIdeal.main_arg1) = m ((c.tc : Thread Cert.GOutAttnKeepIdeal.nD Cert.GOutAttnKeepIdeal.τ).loc Cert.GOutAttnKeepIdeal.main_arg1)
          ∧ r.2.mem ((c.tc : Thread Cert.GOutAttnKeepIdeal.nD Cert.GOutAttnKeepIdeal.τ).loc Cert.GOutAttnKeepIdeal.main_arg2) = m ((c.tc : Thread Cert.GOutAttnKeepIdeal.nD Cert.GOutAttnKeepIdeal.τ).loc Cert.GOutAttnKeepIdeal.main_arg2))
      ∧ θ_run (Cert.GOutAttnKeepRefIdeal.defs (F := Ideal)) (onTc (τ := Cert.GOutAttnKeepRefIdeal.τ) (Cert.GOutAttnKeepRefIdeal.main (F := Ideal))) ⟨m', fun _ => 0, g'⟩ (fun r => ∀ c : Dev Cert.GOutAttnKeepRefIdeal.nD,
          r.2.mem ((c.tc : Thread Cert.GOutAttnKeepRefIdeal.nD Cert.GOutAttnKeepRefIdeal.τ).loc Cert.GOutAttnKeepRefIdeal.main_v8) = v0 c
          ∧ r.2.mem ((c.tc : Thread Cert.GOutAttnKeepRefIdeal.nD Cert.GOutAttnKeepRefIdeal.τ).loc Cert.GOutAttnKeepRefIdeal.main_arg0) = m' ((c.tc : Thread Cert.GOutAttnKeepRefIdeal.nD Cert.GOutAttnKeepRefIdeal.τ).loc Cert.GOutAttnKeepRefIdeal.main_arg0)
          ∧ r.2.mem ((c.tc : Thread Cert.GOutAttnKeepRefIdeal.nD Cert.GOutAttnKeepRefIdeal.τ).loc Cert.GOutAttnKeepRefIdeal.main_arg1) = m' ((c.tc : Thread Cert.GOutAttnKeepRefIdeal.nD Cert.GOutAttnKeepRefIdeal.τ).loc Cert.GOutAttnKeepRefIdeal.main_arg1)
          ∧ r.2.mem ((c.tc : Thread Cert.GOutAttnKeepRefIdeal.nD Cert.GOutAttnKeepRefIdeal.τ).loc Cert.GOutAttnKeepRefIdeal.main_arg2) = m' ((c.tc : Thread Cert.GOutAttnKeepRefIdeal.nD Cert.GOutAttnKeepRefIdeal.τ).loc Cert.GOutAttnKeepRefIdeal.main_arg2))

def preserves_GMergeSend_GMergeSendIdeal : Prop :=
  True

def algebraic_GMergeSendIdeal_GMergeSendRefIdeal [hGMergeSendIdeal : Cert.GMergeSendIdeal.Facts] [hGMergeSendRefIdeal : Cert.GMergeSendRefIdeal.Facts] : Prop :=
  ∀ (m : (ℓ : Loc Cert.GMergeSendIdeal.nD Cert.GMergeSendIdeal.τ Cert.GMergeSendIdeal.sig) → Buf (Elt Ideal) ℓ) (g : Dev Cert.GMergeSendIdeal.nD → PrngReg)
    (m' : (ℓ : Loc Cert.GMergeSendRefIdeal.nD Cert.GMergeSendRefIdeal.τ Cert.GMergeSendRefIdeal.sig) → Buf (Elt Ideal) ℓ) (g' : Dev Cert.GMergeSendRefIdeal.nD → PrngReg), Pre_GMergeSendIdeal m →
    (∀ c : Dev Cert.GMergeSendIdeal.nD,
      m' ((c.tc : Thread Cert.GMergeSendRefIdeal.nD Cert.GMergeSendRefIdeal.τ).loc Cert.GMergeSendRefIdeal.main_arg0) = m ((c.tc : Thread Cert.GMergeSendIdeal.nD Cert.GMergeSendIdeal.τ).loc Cert.GMergeSendIdeal.main_arg0)
      ∧ m' ((c.tc : Thread Cert.GMergeSendRefIdeal.nD Cert.GMergeSendRefIdeal.τ).loc Cert.GMergeSendRefIdeal.main_arg1) = m ((c.tc : Thread Cert.GMergeSendIdeal.nD Cert.GMergeSendIdeal.τ).loc Cert.GMergeSendIdeal.main_arg1)) →
    ∃ (v0 : (c : Dev Cert.GMergeSendIdeal.nD) → Buf (Elt Ideal) ((c.tc : Thread Cert.GMergeSendIdeal.nD Cert.GMergeSendIdeal.τ).loc Cert.GMergeSendIdeal.main_v3)),
      θ_run (Cert.GMergeSendIdeal.defs (F := Ideal)) (onTc (τ := Cert.GMergeSendIdeal.τ) (Cert.GMergeSendIdeal.main (F := Ideal))) ⟨m, fun _ => 0, g⟩ (fun r => ∀ c : Dev Cert.GMergeSendIdeal.nD,
          r.2.mem ((c.tc : Thread Cert.GMergeSendIdeal.nD Cert.GMergeSendIdeal.τ).loc Cert.GMergeSendIdeal.main_v3) = v0 c
          ∧ r.2.mem ((c.tc : Thread Cert.GMergeSendIdeal.nD Cert.GMergeSendIdeal.τ).loc Cert.GMergeSendIdeal.main_arg0) = m ((c.tc : Thread Cert.GMergeSendIdeal.nD Cert.GMergeSendIdeal.τ).loc Cert.GMergeSendIdeal.main_arg0)
          ∧ r.2.mem ((c.tc : Thread Cert.GMergeSendIdeal.nD Cert.GMergeSendIdeal.τ).loc Cert.GMergeSendIdeal.main_arg1) = m ((c.tc : Thread Cert.GMergeSendIdeal.nD Cert.GMergeSendIdeal.τ).loc Cert.GMergeSendIdeal.main_arg1))
      ∧ θ_run (Cert.GMergeSendRefIdeal.defs (F := Ideal)) (onTc (τ := Cert.GMergeSendRefIdeal.τ) (Cert.GMergeSendRefIdeal.main (F := Ideal))) ⟨m', fun _ => 0, g'⟩ (fun r => ∀ c : Dev Cert.GMergeSendRefIdeal.nD,
          r.2.mem ((c.tc : Thread Cert.GMergeSendRefIdeal.nD Cert.GMergeSendRefIdeal.τ).loc Cert.GMergeSendRefIdeal.main_v6) = v0 c
          ∧ r.2.mem ((c.tc : Thread Cert.GMergeSendRefIdeal.nD Cert.GMergeSendRefIdeal.τ).loc Cert.GMergeSendRefIdeal.main_arg0) = m' ((c.tc : Thread Cert.GMergeSendRefIdeal.nD Cert.GMergeSendRefIdeal.τ).loc Cert.GMergeSendRefIdeal.main_arg0)
          ∧ r.2.mem ((c.tc : Thread Cert.GMergeSendRefIdeal.nD Cert.GMergeSendRefIdeal.τ).loc Cert.GMergeSendRefIdeal.main_arg1) = m' ((c.tc : Thread Cert.GMergeSendRefIdeal.nD Cert.GMergeSendRefIdeal.τ).loc Cert.GMergeSendRefIdeal.main_arg1))

def preserves_GMergeKeep_GMergeKeepIdeal : Prop :=
  True

def algebraic_GMergeKeepIdeal_GMergeKeepRefIdeal [hGMergeKeepIdeal : Cert.GMergeKeepIdeal.Facts] [hGMergeKeepRefIdeal : Cert.GMergeKeepRefIdeal.Facts] : Prop :=
  ∀ (m : (ℓ : Loc Cert.GMergeKeepIdeal.nD Cert.GMergeKeepIdeal.τ Cert.GMergeKeepIdeal.sig) → Buf (Elt Ideal) ℓ) (g : Dev Cert.GMergeKeepIdeal.nD → PrngReg)
    (m' : (ℓ : Loc Cert.GMergeKeepRefIdeal.nD Cert.GMergeKeepRefIdeal.τ Cert.GMergeKeepRefIdeal.sig) → Buf (Elt Ideal) ℓ) (g' : Dev Cert.GMergeKeepRefIdeal.nD → PrngReg), Pre_GMergeKeepIdeal m →
    (∀ c : Dev Cert.GMergeKeepIdeal.nD,
      m' ((c.tc : Thread Cert.GMergeKeepRefIdeal.nD Cert.GMergeKeepRefIdeal.τ).loc Cert.GMergeKeepRefIdeal.main_arg0) = m ((c.tc : Thread Cert.GMergeKeepIdeal.nD Cert.GMergeKeepIdeal.τ).loc Cert.GMergeKeepIdeal.main_arg0)
      ∧ m' ((c.tc : Thread Cert.GMergeKeepRefIdeal.nD Cert.GMergeKeepRefIdeal.τ).loc Cert.GMergeKeepRefIdeal.main_arg1) = m ((c.tc : Thread Cert.GMergeKeepIdeal.nD Cert.GMergeKeepIdeal.τ).loc Cert.GMergeKeepIdeal.main_arg1)
      ∧ m' ((c.tc : Thread Cert.GMergeKeepRefIdeal.nD Cert.GMergeKeepRefIdeal.τ).loc Cert.GMergeKeepRefIdeal.main_arg2) = m ((c.tc : Thread Cert.GMergeKeepIdeal.nD Cert.GMergeKeepIdeal.τ).loc Cert.GMergeKeepIdeal.main_arg2)) →
    ∃ (v0 : (c : Dev Cert.GMergeKeepIdeal.nD) → Buf (Elt Ideal) ((c.tc : Thread Cert.GMergeKeepIdeal.nD Cert.GMergeKeepIdeal.τ).loc Cert.GMergeKeepIdeal.main_v3)),
      θ_run (Cert.GMergeKeepIdeal.defs (F := Ideal)) (onTc (τ := Cert.GMergeKeepIdeal.τ) (Cert.GMergeKeepIdeal.main (F := Ideal))) ⟨m, fun _ => 0, g⟩ (fun r => ∀ c : Dev Cert.GMergeKeepIdeal.nD,
          r.2.mem ((c.tc : Thread Cert.GMergeKeepIdeal.nD Cert.GMergeKeepIdeal.τ).loc Cert.GMergeKeepIdeal.main_v3) = v0 c
          ∧ r.2.mem ((c.tc : Thread Cert.GMergeKeepIdeal.nD Cert.GMergeKeepIdeal.τ).loc Cert.GMergeKeepIdeal.main_arg0) = m ((c.tc : Thread Cert.GMergeKeepIdeal.nD Cert.GMergeKeepIdeal.τ).loc Cert.GMergeKeepIdeal.main_arg0)
          ∧ r.2.mem ((c.tc : Thread Cert.GMergeKeepIdeal.nD Cert.GMergeKeepIdeal.τ).loc Cert.GMergeKeepIdeal.main_arg1) = m ((c.tc : Thread Cert.GMergeKeepIdeal.nD Cert.GMergeKeepIdeal.τ).loc Cert.GMergeKeepIdeal.main_arg1)
          ∧ r.2.mem ((c.tc : Thread Cert.GMergeKeepIdeal.nD Cert.GMergeKeepIdeal.τ).loc Cert.GMergeKeepIdeal.main_arg2) = m ((c.tc : Thread Cert.GMergeKeepIdeal.nD Cert.GMergeKeepIdeal.τ).loc Cert.GMergeKeepIdeal.main_arg2))
      ∧ θ_run (Cert.GMergeKeepRefIdeal.defs (F := Ideal)) (onTc (τ := Cert.GMergeKeepRefIdeal.τ) (Cert.GMergeKeepRefIdeal.main (F := Ideal))) ⟨m', fun _ => 0, g'⟩ (fun r => ∀ c : Dev Cert.GMergeKeepRefIdeal.nD,
          r.2.mem ((c.tc : Thread Cert.GMergeKeepRefIdeal.nD Cert.GMergeKeepRefIdeal.τ).loc Cert.GMergeKeepRefIdeal.main_v8) = v0 c
          ∧ r.2.mem ((c.tc : Thread Cert.GMergeKeepRefIdeal.nD Cert.GMergeKeepRefIdeal.τ).loc Cert.GMergeKeepRefIdeal.main_arg0) = m' ((c.tc : Thread Cert.GMergeKeepRefIdeal.nD Cert.GMergeKeepRefIdeal.τ).loc Cert.GMergeKeepRefIdeal.main_arg0)
          ∧ r.2.mem ((c.tc : Thread Cert.GMergeKeepRefIdeal.nD Cert.GMergeKeepRefIdeal.τ).loc Cert.GMergeKeepRefIdeal.main_arg1) = m' ((c.tc : Thread Cert.GMergeKeepRefIdeal.nD Cert.GMergeKeepRefIdeal.τ).loc Cert.GMergeKeepRefIdeal.main_arg1)
          ∧ r.2.mem ((c.tc : Thread Cert.GMergeKeepRefIdeal.nD Cert.GMergeKeepRefIdeal.τ).loc Cert.GMergeKeepRefIdeal.main_arg2) = m' ((c.tc : Thread Cert.GMergeKeepRefIdeal.nD Cert.GMergeKeepRefIdeal.τ).loc Cert.GMergeKeepRefIdeal.main_arg2))

def preserves_GInSend_GInSendIdeal : Prop :=
  True

def algebraic_GInSendIdeal_GInSendRefIdeal [hGInSendIdeal : Cert.GInSendIdeal.Facts] [hGInSendRefIdeal : Cert.GInSendRefIdeal.Facts] : Prop :=
  ∀ (m : (ℓ : Loc Cert.GInSendIdeal.nD Cert.GInSendIdeal.τ Cert.GInSendIdeal.sig) → Buf (Elt Ideal) ℓ) (g : Dev Cert.GInSendIdeal.nD → PrngReg)
    (m' : (ℓ : Loc Cert.GInSendRefIdeal.nD Cert.GInSendRefIdeal.τ Cert.GInSendRefIdeal.sig) → Buf (Elt Ideal) ℓ) (g' : Dev Cert.GInSendRefIdeal.nD → PrngReg), Pre_GInSendIdeal m →
    (∀ c : Dev Cert.GInSendIdeal.nD,
      m' ((c.tc : Thread Cert.GInSendRefIdeal.nD Cert.GInSendRefIdeal.τ).loc Cert.GInSendRefIdeal.main_arg0) = m ((c.tc : Thread Cert.GInSendIdeal.nD Cert.GInSendIdeal.τ).loc Cert.GInSendIdeal.main_arg0)
      ∧ m' ((c.tc : Thread Cert.GInSendRefIdeal.nD Cert.GInSendRefIdeal.τ).loc Cert.GInSendRefIdeal.main_arg1) = m ((c.tc : Thread Cert.GInSendIdeal.nD Cert.GInSendIdeal.τ).loc Cert.GInSendIdeal.main_arg1)) →
    ∃ (v0 : (c : Dev Cert.GInSendIdeal.nD) → Buf (Elt Ideal) ((c.tc : Thread Cert.GInSendIdeal.nD Cert.GInSendIdeal.τ).loc Cert.GInSendIdeal.main_v3)),
      θ_run (Cert.GInSendIdeal.defs (F := Ideal)) (onTc (τ := Cert.GInSendIdeal.τ) (Cert.GInSendIdeal.main (F := Ideal))) ⟨m, fun _ => 0, g⟩ (fun r => ∀ c : Dev Cert.GInSendIdeal.nD,
          r.2.mem ((c.tc : Thread Cert.GInSendIdeal.nD Cert.GInSendIdeal.τ).loc Cert.GInSendIdeal.main_v3) = v0 c
          ∧ r.2.mem ((c.tc : Thread Cert.GInSendIdeal.nD Cert.GInSendIdeal.τ).loc Cert.GInSendIdeal.main_arg0) = m ((c.tc : Thread Cert.GInSendIdeal.nD Cert.GInSendIdeal.τ).loc Cert.GInSendIdeal.main_arg0)
          ∧ r.2.mem ((c.tc : Thread Cert.GInSendIdeal.nD Cert.GInSendIdeal.τ).loc Cert.GInSendIdeal.main_arg1) = m ((c.tc : Thread Cert.GInSendIdeal.nD Cert.GInSendIdeal.τ).loc Cert.GInSendIdeal.main_arg1))
      ∧ θ_run (Cert.GInSendRefIdeal.defs (F := Ideal)) (onTc (τ := Cert.GInSendRefIdeal.τ) (Cert.GInSendRefIdeal.main (F := Ideal))) ⟨m', fun _ => 0, g'⟩ (fun r => ∀ c : Dev Cert.GInSendRefIdeal.nD,
          r.2.mem ((c.tc : Thread Cert.GInSendRefIdeal.nD Cert.GInSendRefIdeal.τ).loc Cert.GInSendRefIdeal.main_v6) = v0 c
          ∧ r.2.mem ((c.tc : Thread Cert.GInSendRefIdeal.nD Cert.GInSendRefIdeal.τ).loc Cert.GInSendRefIdeal.main_arg0) = m' ((c.tc : Thread Cert.GInSendRefIdeal.nD Cert.GInSendRefIdeal.τ).loc Cert.GInSendRefIdeal.main_arg0)
          ∧ r.2.mem ((c.tc : Thread Cert.GInSendRefIdeal.nD Cert.GInSendRefIdeal.τ).loc Cert.GInSendRefIdeal.main_arg1) = m' ((c.tc : Thread Cert.GInSendRefIdeal.nD Cert.GInSendRefIdeal.τ).loc Cert.GInSendRefIdeal.main_arg1))

def preserves_GInKeep_GInKeepIdeal : Prop :=
  True

def algebraic_GInKeepIdeal_GInKeepRefIdeal [hGInKeepIdeal : Cert.GInKeepIdeal.Facts] [hGInKeepRefIdeal : Cert.GInKeepRefIdeal.Facts] : Prop :=
  ∀ (m : (ℓ : Loc Cert.GInKeepIdeal.nD Cert.GInKeepIdeal.τ Cert.GInKeepIdeal.sig) → Buf (Elt Ideal) ℓ) (g : Dev Cert.GInKeepIdeal.nD → PrngReg)
    (m' : (ℓ : Loc Cert.GInKeepRefIdeal.nD Cert.GInKeepRefIdeal.τ Cert.GInKeepRefIdeal.sig) → Buf (Elt Ideal) ℓ) (g' : Dev Cert.GInKeepRefIdeal.nD → PrngReg), Pre_GInKeepIdeal m →
    (∀ c : Dev Cert.GInKeepIdeal.nD,
      m' ((c.tc : Thread Cert.GInKeepRefIdeal.nD Cert.GInKeepRefIdeal.τ).loc Cert.GInKeepRefIdeal.main_arg0) = m ((c.tc : Thread Cert.GInKeepIdeal.nD Cert.GInKeepIdeal.τ).loc Cert.GInKeepIdeal.main_arg0)
      ∧ m' ((c.tc : Thread Cert.GInKeepRefIdeal.nD Cert.GInKeepRefIdeal.τ).loc Cert.GInKeepRefIdeal.main_arg1) = m ((c.tc : Thread Cert.GInKeepIdeal.nD Cert.GInKeepIdeal.τ).loc Cert.GInKeepIdeal.main_arg1)
      ∧ m' ((c.tc : Thread Cert.GInKeepRefIdeal.nD Cert.GInKeepRefIdeal.τ).loc Cert.GInKeepRefIdeal.main_arg2) = m ((c.tc : Thread Cert.GInKeepIdeal.nD Cert.GInKeepIdeal.τ).loc Cert.GInKeepIdeal.main_arg2)) →
    ∃ (v0 : (c : Dev Cert.GInKeepIdeal.nD) → Buf (Elt Ideal) ((c.tc : Thread Cert.GInKeepIdeal.nD Cert.GInKeepIdeal.τ).loc Cert.GInKeepIdeal.main_v3)),
      θ_run (Cert.GInKeepIdeal.defs (F := Ideal)) (onTc (τ := Cert.GInKeepIdeal.τ) (Cert.GInKeepIdeal.main (F := Ideal))) ⟨m, fun _ => 0, g⟩ (fun r => ∀ c : Dev Cert.GInKeepIdeal.nD,
          r.2.mem ((c.tc : Thread Cert.GInKeepIdeal.nD Cert.GInKeepIdeal.τ).loc Cert.GInKeepIdeal.main_v3) = v0 c
          ∧ r.2.mem ((c.tc : Thread Cert.GInKeepIdeal.nD Cert.GInKeepIdeal.τ).loc Cert.GInKeepIdeal.main_arg0) = m ((c.tc : Thread Cert.GInKeepIdeal.nD Cert.GInKeepIdeal.τ).loc Cert.GInKeepIdeal.main_arg0)
          ∧ r.2.mem ((c.tc : Thread Cert.GInKeepIdeal.nD Cert.GInKeepIdeal.τ).loc Cert.GInKeepIdeal.main_arg1) = m ((c.tc : Thread Cert.GInKeepIdeal.nD Cert.GInKeepIdeal.τ).loc Cert.GInKeepIdeal.main_arg1)
          ∧ r.2.mem ((c.tc : Thread Cert.GInKeepIdeal.nD Cert.GInKeepIdeal.τ).loc Cert.GInKeepIdeal.main_arg2) = m ((c.tc : Thread Cert.GInKeepIdeal.nD Cert.GInKeepIdeal.τ).loc Cert.GInKeepIdeal.main_arg2))
      ∧ θ_run (Cert.GInKeepRefIdeal.defs (F := Ideal)) (onTc (τ := Cert.GInKeepRefIdeal.τ) (Cert.GInKeepRefIdeal.main (F := Ideal))) ⟨m', fun _ => 0, g'⟩ (fun r => ∀ c : Dev Cert.GInKeepRefIdeal.nD,
          r.2.mem ((c.tc : Thread Cert.GInKeepRefIdeal.nD Cert.GInKeepRefIdeal.τ).loc Cert.GInKeepRefIdeal.main_v8) = v0 c
          ∧ r.2.mem ((c.tc : Thread Cert.GInKeepRefIdeal.nD Cert.GInKeepRefIdeal.τ).loc Cert.GInKeepRefIdeal.main_arg0) = m' ((c.tc : Thread Cert.GInKeepRefIdeal.nD Cert.GInKeepRefIdeal.τ).loc Cert.GInKeepRefIdeal.main_arg0)
          ∧ r.2.mem ((c.tc : Thread Cert.GInKeepRefIdeal.nD Cert.GInKeepRefIdeal.τ).loc Cert.GInKeepRefIdeal.main_arg1) = m' ((c.tc : Thread Cert.GInKeepRefIdeal.nD Cert.GInKeepRefIdeal.τ).loc Cert.GInKeepRefIdeal.main_arg1)
          ∧ r.2.mem ((c.tc : Thread Cert.GInKeepRefIdeal.nD Cert.GInKeepRefIdeal.τ).loc Cert.GInKeepRefIdeal.main_arg2) = m' ((c.tc : Thread Cert.GInKeepRefIdeal.nD Cert.GInKeepRefIdeal.τ).loc Cert.GInKeepRefIdeal.main_arg2))

def preserves_Small_SmallIdeal : Prop :=
  True

def algebraic_SmallIdeal_SmallRefIdeal [hSmallIdeal : Cert.SmallIdeal.Facts] [hSmallRefIdeal : Cert.SmallRefIdeal.Facts] : Prop :=
  ∀ (m : (ℓ : Loc Cert.SmallIdeal.nD Cert.SmallIdeal.τ Cert.SmallIdeal.sig) → Buf (Elt Ideal) ℓ) (g : Dev Cert.SmallIdeal.nD → PrngReg)
    (m' : (ℓ : Loc Cert.SmallRefIdeal.nD Cert.SmallRefIdeal.τ Cert.SmallRefIdeal.sig) → Buf (Elt Ideal) ℓ) (g' : Dev Cert.SmallRefIdeal.nD → PrngReg), Pre_SmallIdeal m →
    (∀ c : Dev Cert.SmallIdeal.nD,
      m' ((c.tc : Thread Cert.SmallRefIdeal.nD Cert.SmallRefIdeal.τ).loc Cert.SmallRefIdeal.main_arg0) = m ((c.tc : Thread Cert.SmallIdeal.nD Cert.SmallIdeal.τ).loc Cert.SmallIdeal.main_arg0)
      ∧ m' ((c.tc : Thread Cert.SmallRefIdeal.nD Cert.SmallRefIdeal.τ).loc Cert.SmallRefIdeal.main_arg1) = m ((c.tc : Thread Cert.SmallIdeal.nD Cert.SmallIdeal.τ).loc Cert.SmallIdeal.main_arg1)
      ∧ m' ((c.tc : Thread Cert.SmallRefIdeal.nD Cert.SmallRefIdeal.τ).loc Cert.SmallRefIdeal.main_arg2) = m ((c.tc : Thread Cert.SmallIdeal.nD Cert.SmallIdeal.τ).loc Cert.SmallIdeal.main_arg2)
      ∧ m' ((c.tc : Thread Cert.SmallRefIdeal.nD Cert.SmallRefIdeal.τ).loc Cert.SmallRefIdeal.main_arg3) = m ((c.tc : Thread Cert.SmallIdeal.nD Cert.SmallIdeal.τ).loc Cert.SmallIdeal.main_arg3)
      ∧ m' ((c.tc : Thread Cert.SmallRefIdeal.nD Cert.SmallRefIdeal.τ).loc Cert.SmallRefIdeal.main_arg4) = m ((c.tc : Thread Cert.SmallIdeal.nD Cert.SmallIdeal.τ).loc Cert.SmallIdeal.main_arg4)
      ∧ m' ((c.tc : Thread Cert.SmallRefIdeal.nD Cert.SmallRefIdeal.τ).loc Cert.SmallRefIdeal.main_arg5) = m ((c.tc : Thread Cert.SmallIdeal.nD Cert.SmallIdeal.τ).loc Cert.SmallIdeal.main_arg5)
      ∧ m' ((c.tc : Thread Cert.SmallRefIdeal.nD Cert.SmallRefIdeal.τ).loc Cert.SmallRefIdeal.main_arg6) = m ((c.tc : Thread Cert.SmallIdeal.nD Cert.SmallIdeal.τ).loc Cert.SmallIdeal.main_arg6)
      ∧ m' ((c.tc : Thread Cert.SmallRefIdeal.nD Cert.SmallRefIdeal.τ).loc Cert.SmallRefIdeal.main_arg7) = m ((c.tc : Thread Cert.SmallIdeal.nD Cert.SmallIdeal.τ).loc Cert.SmallIdeal.main_arg7)
      ∧ m' ((c.tc : Thread Cert.SmallRefIdeal.nD Cert.SmallRefIdeal.τ).loc Cert.SmallRefIdeal.main_arg8) = m ((c.tc : Thread Cert.SmallIdeal.nD Cert.SmallIdeal.τ).loc Cert.SmallIdeal.main_arg8)
      ∧ m' ((c.tc : Thread Cert.SmallRefIdeal.nD Cert.SmallRefIdeal.τ).loc Cert.SmallRefIdeal.main_arg9) = m ((c.tc : Thread Cert.SmallIdeal.nD Cert.SmallIdeal.τ).loc Cert.SmallIdeal.main_arg9)
      ∧ m' ((c.tc : Thread Cert.SmallRefIdeal.nD Cert.SmallRefIdeal.τ).loc Cert.SmallRefIdeal.main_arg10) = m ((c.tc : Thread Cert.SmallIdeal.nD Cert.SmallIdeal.τ).loc Cert.SmallIdeal.main_arg10)
      ∧ m' ((c.tc : Thread Cert.SmallRefIdeal.nD Cert.SmallRefIdeal.τ).loc Cert.SmallRefIdeal.main_arg11) = m ((c.tc : Thread Cert.SmallIdeal.nD Cert.SmallIdeal.τ).loc Cert.SmallIdeal.main_arg11)
      ∧ m' ((c.tc : Thread Cert.SmallRefIdeal.nD Cert.SmallRefIdeal.τ).loc Cert.SmallRefIdeal.main_arg12) = m ((c.tc : Thread Cert.SmallIdeal.nD Cert.SmallIdeal.τ).loc Cert.SmallIdeal.main_arg12)
      ∧ m' ((c.tc : Thread Cert.SmallRefIdeal.nD Cert.SmallRefIdeal.τ).loc Cert.SmallRefIdeal.main_arg13) = m ((c.tc : Thread Cert.SmallIdeal.nD Cert.SmallIdeal.τ).loc Cert.SmallIdeal.main_arg13)
      ∧ m' ((c.tc : Thread Cert.SmallRefIdeal.nD Cert.SmallRefIdeal.τ).loc Cert.SmallRefIdeal.main_arg14) = m ((c.tc : Thread Cert.SmallIdeal.nD Cert.SmallIdeal.τ).loc Cert.SmallIdeal.main_arg14)
      ∧ m' ((c.tc : Thread Cert.SmallRefIdeal.nD Cert.SmallRefIdeal.τ).loc Cert.SmallRefIdeal.main_arg15) = m ((c.tc : Thread Cert.SmallIdeal.nD Cert.SmallIdeal.τ).loc Cert.SmallIdeal.main_arg15)
      ∧ m' ((c.tc : Thread Cert.SmallRefIdeal.nD Cert.SmallRefIdeal.τ).loc Cert.SmallRefIdeal.main_arg16) = m ((c.tc : Thread Cert.SmallIdeal.nD Cert.SmallIdeal.τ).loc Cert.SmallIdeal.main_arg16)
      ∧ m' ((c.tc : Thread Cert.SmallRefIdeal.nD Cert.SmallRefIdeal.τ).loc Cert.SmallRefIdeal.main_arg17) = m ((c.tc : Thread Cert.SmallIdeal.nD Cert.SmallIdeal.τ).loc Cert.SmallIdeal.main_arg17)
      ∧ m' ((c.tc : Thread Cert.SmallRefIdeal.nD Cert.SmallRefIdeal.τ).loc Cert.SmallRefIdeal.main_arg18) = m ((c.tc : Thread Cert.SmallIdeal.nD Cert.SmallIdeal.τ).loc Cert.SmallIdeal.main_arg18)
      ∧ m' ((c.tc : Thread Cert.SmallRefIdeal.nD Cert.SmallRefIdeal.τ).loc Cert.SmallRefIdeal.main_arg19) = m ((c.tc : Thread Cert.SmallIdeal.nD Cert.SmallIdeal.τ).loc Cert.SmallIdeal.main_arg19)
      ∧ m' ((c.tc : Thread Cert.SmallRefIdeal.nD Cert.SmallRefIdeal.τ).loc Cert.SmallRefIdeal.main_arg20) = m ((c.tc : Thread Cert.SmallIdeal.nD Cert.SmallIdeal.τ).loc Cert.SmallIdeal.main_arg20)
      ∧ m' ((c.tc : Thread Cert.SmallRefIdeal.nD Cert.SmallRefIdeal.τ).loc Cert.SmallRefIdeal.main_arg21) = m ((c.tc : Thread Cert.SmallIdeal.nD Cert.SmallIdeal.τ).loc Cert.SmallIdeal.main_arg21)
      ∧ m' ((c.tc : Thread Cert.SmallRefIdeal.nD Cert.SmallRefIdeal.τ).loc Cert.SmallRefIdeal.main_arg22) = m ((c.tc : Thread Cert.SmallIdeal.nD Cert.SmallIdeal.τ).loc Cert.SmallIdeal.main_arg22)
      ∧ m' ((c.tc : Thread Cert.SmallRefIdeal.nD Cert.SmallRefIdeal.τ).loc Cert.SmallRefIdeal.main_arg23) = m ((c.tc : Thread Cert.SmallIdeal.nD Cert.SmallIdeal.τ).loc Cert.SmallIdeal.main_arg23)
      ∧ m' ((c.tc : Thread Cert.SmallRefIdeal.nD Cert.SmallRefIdeal.τ).loc Cert.SmallRefIdeal.main_arg24) = m ((c.tc : Thread Cert.SmallIdeal.nD Cert.SmallIdeal.τ).loc Cert.SmallIdeal.main_arg24)
      ∧ m' ((c.tc : Thread Cert.SmallRefIdeal.nD Cert.SmallRefIdeal.τ).loc Cert.SmallRefIdeal.main_arg25) = m ((c.tc : Thread Cert.SmallIdeal.nD Cert.SmallIdeal.τ).loc Cert.SmallIdeal.main_arg25)
      ∧ m' ((c.tc : Thread Cert.SmallRefIdeal.nD Cert.SmallRefIdeal.τ).loc Cert.SmallRefIdeal.main_arg26) = m ((c.tc : Thread Cert.SmallIdeal.nD Cert.SmallIdeal.τ).loc Cert.SmallIdeal.main_arg26)
      ∧ m' ((c.tc : Thread Cert.SmallRefIdeal.nD Cert.SmallRefIdeal.τ).loc Cert.SmallRefIdeal.main_arg27) = m ((c.tc : Thread Cert.SmallIdeal.nD Cert.SmallIdeal.τ).loc Cert.SmallIdeal.main_arg27)
      ∧ m' ((c.tc : Thread Cert.SmallRefIdeal.nD Cert.SmallRefIdeal.τ).loc Cert.SmallRefIdeal.main_arg28) = m ((c.tc : Thread Cert.SmallIdeal.nD Cert.SmallIdeal.τ).loc Cert.SmallIdeal.main_arg28)
      ∧ m' ((c.tc : Thread Cert.SmallRefIdeal.nD Cert.SmallRefIdeal.τ).loc Cert.SmallRefIdeal.main_arg29) = m ((c.tc : Thread Cert.SmallIdeal.nD Cert.SmallIdeal.τ).loc Cert.SmallIdeal.main_arg29)
      ∧ m' ((c.tc : Thread Cert.SmallRefIdeal.nD Cert.SmallRefIdeal.τ).loc Cert.SmallRefIdeal.main_arg30) = m ((c.tc : Thread Cert.SmallIdeal.nD Cert.SmallIdeal.τ).loc Cert.SmallIdeal.main_arg30)
      ∧ m' ((c.tc : Thread Cert.SmallRefIdeal.nD Cert.SmallRefIdeal.τ).loc Cert.SmallRefIdeal.main_arg31) = m ((c.tc : Thread Cert.SmallIdeal.nD Cert.SmallIdeal.τ).loc Cert.SmallIdeal.main_arg31)) →
    ∃ (v0 : (c : Dev Cert.SmallIdeal.nD) → Buf (Elt Ideal) ((c.tc : Thread Cert.SmallIdeal.nD Cert.SmallIdeal.τ).loc Cert.SmallIdeal.main_v47)) (v1 : (c : Dev Cert.SmallIdeal.nD) → Buf (Elt Ideal) ((c.tc : Thread Cert.SmallIdeal.nD Cert.SmallIdeal.τ).loc Cert.SmallIdeal.main_v49)) (v2 : (c : Dev Cert.SmallIdeal.nD) → Buf (Elt Ideal) ((c.tc : Thread Cert.SmallIdeal.nD Cert.SmallIdeal.τ).loc Cert.SmallIdeal.main_v51)) (v3 : (c : Dev Cert.SmallIdeal.nD) → Buf (Elt Ideal) ((c.tc : Thread Cert.SmallIdeal.nD Cert.SmallIdeal.τ).loc Cert.SmallIdeal.main_v53)) (v4 : (c : Dev Cert.SmallIdeal.nD) → Buf (Elt Ideal) ((c.tc : Thread Cert.SmallIdeal.nD Cert.SmallIdeal.τ).loc Cert.SmallIdeal.main_v55)) (v5 : (c : Dev Cert.SmallIdeal.nD) → Buf (Elt Ideal) ((c.tc : Thread Cert.SmallIdeal.nD Cert.SmallIdeal.τ).loc Cert.SmallIdeal.main_v57)) (v6 : (c : Dev Cert.SmallIdeal.nD) → Buf (Elt Ideal) ((c.tc : Thread Cert.SmallIdeal.nD Cert.SmallIdeal.τ).loc Cert.SmallIdeal.main_v59)) (v7 : (c : Dev Cert.SmallIdeal.nD) → Buf (Elt Ideal) ((c.tc : Thread Cert.SmallIdeal.nD Cert.SmallIdeal.τ).loc Cert.SmallIdeal.main_v61)) (v8 : (c : Dev Cert.SmallIdeal.nD) → Buf (Elt Ideal) ((c.tc : Thread Cert.SmallIdeal.nD Cert.SmallIdeal.τ).loc Cert.SmallIdeal.main_v64)) (v9 : (c : Dev Cert.SmallIdeal.nD) → Buf (Elt Ideal) ((c.tc : Thread Cert.SmallIdeal.nD Cert.SmallIdeal.τ).loc Cert.SmallIdeal.main_v66)) (v10 : (c : Dev Cert.SmallIdeal.nD) → Buf (Elt Ideal) ((c.tc : Thread Cert.SmallIdeal.nD Cert.SmallIdeal.τ).loc Cert.SmallIdeal.main_v68)) (v11 : (c : Dev Cert.SmallIdeal.nD) → Buf (Elt Ideal) ((c.tc : Thread Cert.SmallIdeal.nD Cert.SmallIdeal.τ).loc Cert.SmallIdeal.main_v70)) (v12 : (c : Dev Cert.SmallIdeal.nD) → Buf (Elt Ideal) ((c.tc : Thread Cert.SmallIdeal.nD Cert.SmallIdeal.τ).loc Cert.SmallIdeal.main_v72)) (v13 : (c : Dev Cert.SmallIdeal.nD) → Buf (Elt Ideal) ((c.tc : Thread Cert.SmallIdeal.nD Cert.SmallIdeal.τ).loc Cert.SmallIdeal.main_v74)) (v14 : (c : Dev Cert.SmallIdeal.nD) → Buf (Elt Ideal) ((c.tc : Thread Cert.SmallIdeal.nD Cert.SmallIdeal.τ).loc Cert.SmallIdeal.main_v76)) (v15 : (c : Dev Cert.SmallIdeal.nD) → Buf (Elt Ideal) ((c.tc : Thread Cert.SmallIdeal.nD Cert.SmallIdeal.τ).loc Cert.SmallIdeal.main_v78)) (v16 : (c : Dev Cert.SmallIdeal.nD) → Buf (Elt Ideal) ((c.tc : Thread Cert.SmallIdeal.nD Cert.SmallIdeal.τ).loc Cert.SmallIdeal.main_v81)) (v17 : (c : Dev Cert.SmallIdeal.nD) → Buf (Elt Ideal) ((c.tc : Thread Cert.SmallIdeal.nD Cert.SmallIdeal.τ).loc Cert.SmallIdeal.main_v83)) (v18 : (c : Dev Cert.SmallIdeal.nD) → Buf (Elt Ideal) ((c.tc : Thread Cert.SmallIdeal.nD Cert.SmallIdeal.τ).loc Cert.SmallIdeal.main_v85)) (v19 : (c : Dev Cert.SmallIdeal.nD) → Buf (Elt Ideal) ((c.tc : Thread Cert.SmallIdeal.nD Cert.SmallIdeal.τ).loc Cert.SmallIdeal.main_v87)) (v20 : (c : Dev Cert.SmallIdeal.nD) → Buf (Elt Ideal) ((c.tc : Thread Cert.SmallIdeal.nD Cert.SmallIdeal.τ).loc Cert.SmallIdeal.main_v89)) (v21 : (c : Dev Cert.SmallIdeal.nD) → Buf (Elt Ideal) ((c.tc : Thread Cert.SmallIdeal.nD Cert.SmallIdeal.τ).loc Cert.SmallIdeal.main_v91)) (v22 : (c : Dev Cert.SmallIdeal.nD) → Buf (Elt Ideal) ((c.tc : Thread Cert.SmallIdeal.nD Cert.SmallIdeal.τ).loc Cert.SmallIdeal.main_v93)) (v23 : (c : Dev Cert.SmallIdeal.nD) → Buf (Elt Ideal) ((c.tc : Thread Cert.SmallIdeal.nD Cert.SmallIdeal.τ).loc Cert.SmallIdeal.main_v95)),
      θ_run (Cert.SmallIdeal.defs (F := Ideal)) (onTc (τ := Cert.SmallIdeal.τ) (Cert.SmallIdeal.main (F := Ideal))) ⟨m, fun _ => 0, g⟩ (fun r => ∀ c : Dev Cert.SmallIdeal.nD,
          r.2.mem ((c.tc : Thread Cert.SmallIdeal.nD Cert.SmallIdeal.τ).loc Cert.SmallIdeal.main_v47) = v0 c
          ∧ r.2.mem ((c.tc : Thread Cert.SmallIdeal.nD Cert.SmallIdeal.τ).loc Cert.SmallIdeal.main_v49) = v1 c
          ∧ r.2.mem ((c.tc : Thread Cert.SmallIdeal.nD Cert.SmallIdeal.τ).loc Cert.SmallIdeal.main_v51) = v2 c
          ∧ r.2.mem ((c.tc : Thread Cert.SmallIdeal.nD Cert.SmallIdeal.τ).loc Cert.SmallIdeal.main_v53) = v3 c
          ∧ r.2.mem ((c.tc : Thread Cert.SmallIdeal.nD Cert.SmallIdeal.τ).loc Cert.SmallIdeal.main_v55) = v4 c
          ∧ r.2.mem ((c.tc : Thread Cert.SmallIdeal.nD Cert.SmallIdeal.τ).loc Cert.SmallIdeal.main_v57) = v5 c
          ∧ r.2.mem ((c.tc : Thread Cert.SmallIdeal.nD Cert.SmallIdeal.τ).loc Cert.SmallIdeal.main_v59) = v6 c
          ∧ r.2.mem ((c.tc : Thread Cert.SmallIdeal.nD Cert.SmallIdeal.τ).loc Cert.SmallIdeal.main_v61) = v7 c
          ∧ r.2.mem ((c.tc : Thread Cert.SmallIdeal.nD Cert.SmallIdeal.τ).loc Cert.SmallIdeal.main_v64) = v8 c
          ∧ r.2.mem ((c.tc : Thread Cert.SmallIdeal.nD Cert.SmallIdeal.τ).loc Cert.SmallIdeal.main_v66) = v9 c
          ∧ r.2.mem ((c.tc : Thread Cert.SmallIdeal.nD Cert.SmallIdeal.τ).loc Cert.SmallIdeal.main_v68) = v10 c
          ∧ r.2.mem ((c.tc : Thread Cert.SmallIdeal.nD Cert.SmallIdeal.τ).loc Cert.SmallIdeal.main_v70) = v11 c
          ∧ r.2.mem ((c.tc : Thread Cert.SmallIdeal.nD Cert.SmallIdeal.τ).loc Cert.SmallIdeal.main_v72) = v12 c
          ∧ r.2.mem ((c.tc : Thread Cert.SmallIdeal.nD Cert.SmallIdeal.τ).loc Cert.SmallIdeal.main_v74) = v13 c
          ∧ r.2.mem ((c.tc : Thread Cert.SmallIdeal.nD Cert.SmallIdeal.τ).loc Cert.SmallIdeal.main_v76) = v14 c
          ∧ r.2.mem ((c.tc : Thread Cert.SmallIdeal.nD Cert.SmallIdeal.τ).loc Cert.SmallIdeal.main_v78) = v15 c
          ∧ r.2.mem ((c.tc : Thread Cert.SmallIdeal.nD Cert.SmallIdeal.τ).loc Cert.SmallIdeal.main_v81) = v16 c
          ∧ r.2.mem ((c.tc : Thread Cert.SmallIdeal.nD Cert.SmallIdeal.τ).loc Cert.SmallIdeal.main_v83) = v17 c
          ∧ r.2.mem ((c.tc : Thread Cert.SmallIdeal.nD Cert.SmallIdeal.τ).loc Cert.SmallIdeal.main_v85) = v18 c
          ∧ r.2.mem ((c.tc : Thread Cert.SmallIdeal.nD Cert.SmallIdeal.τ).loc Cert.SmallIdeal.main_v87) = v19 c
          ∧ r.2.mem ((c.tc : Thread Cert.SmallIdeal.nD Cert.SmallIdeal.τ).loc Cert.SmallIdeal.main_v89) = v20 c
          ∧ r.2.mem ((c.tc : Thread Cert.SmallIdeal.nD Cert.SmallIdeal.τ).loc Cert.SmallIdeal.main_v91) = v21 c
          ∧ r.2.mem ((c.tc : Thread Cert.SmallIdeal.nD Cert.SmallIdeal.τ).loc Cert.SmallIdeal.main_v93) = v22 c
          ∧ r.2.mem ((c.tc : Thread Cert.SmallIdeal.nD Cert.SmallIdeal.τ).loc Cert.SmallIdeal.main_v95) = v23 c
          ∧ r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
          ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
          ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2)
          ∧ r.2.mem ((c.tc : Thread Cert.SmallIdeal.nD Cert.SmallIdeal.τ).loc Cert.SmallIdeal.main_arg3) = m ((c.tc : Thread Cert.SmallIdeal.nD Cert.SmallIdeal.τ).loc Cert.SmallIdeal.main_arg3)
          ∧ r.2.mem ((c.tc : Thread Cert.SmallIdeal.nD Cert.SmallIdeal.τ).loc Cert.SmallIdeal.main_arg4) = m ((c.tc : Thread Cert.SmallIdeal.nD Cert.SmallIdeal.τ).loc Cert.SmallIdeal.main_arg4)
          ∧ r.2.mem ((c.tc : Thread Cert.SmallIdeal.nD Cert.SmallIdeal.τ).loc Cert.SmallIdeal.main_arg5) = m ((c.tc : Thread Cert.SmallIdeal.nD Cert.SmallIdeal.τ).loc Cert.SmallIdeal.main_arg5)
          ∧ r.2.mem ((c.tc : Thread Cert.SmallIdeal.nD Cert.SmallIdeal.τ).loc Cert.SmallIdeal.main_arg6) = m ((c.tc : Thread Cert.SmallIdeal.nD Cert.SmallIdeal.τ).loc Cert.SmallIdeal.main_arg6)
          ∧ r.2.mem ((c.tc : Thread Cert.SmallIdeal.nD Cert.SmallIdeal.τ).loc Cert.SmallIdeal.main_arg7) = m ((c.tc : Thread Cert.SmallIdeal.nD Cert.SmallIdeal.τ).loc Cert.SmallIdeal.main_arg7)
          ∧ r.2.mem ((c.tc : Thread Cert.SmallIdeal.nD Cert.SmallIdeal.τ).loc Cert.SmallIdeal.main_arg8) = m ((c.tc : Thread Cert.SmallIdeal.nD Cert.SmallIdeal.τ).loc Cert.SmallIdeal.main_arg8)
          ∧ r.2.mem ((c.tc : Thread Cert.SmallIdeal.nD Cert.SmallIdeal.τ).loc Cert.SmallIdeal.main_arg9) = m ((c.tc : Thread Cert.SmallIdeal.nD Cert.SmallIdeal.τ).loc Cert.SmallIdeal.main_arg9)
          ∧ r.2.mem ((c.tc : Thread Cert.SmallIdeal.nD Cert.SmallIdeal.τ).loc Cert.SmallIdeal.main_arg10) = m ((c.tc : Thread Cert.SmallIdeal.nD Cert.SmallIdeal.τ).loc Cert.SmallIdeal.main_arg10)
          ∧ r.2.mem ((c.tc : Thread Cert.SmallIdeal.nD Cert.SmallIdeal.τ).loc Cert.SmallIdeal.main_arg11) = m ((c.tc : Thread Cert.SmallIdeal.nD Cert.SmallIdeal.τ).loc Cert.SmallIdeal.main_arg11)
          ∧ r.2.mem ((c.tc : Thread Cert.SmallIdeal.nD Cert.SmallIdeal.τ).loc Cert.SmallIdeal.main_arg12) = m ((c.tc : Thread Cert.SmallIdeal.nD Cert.SmallIdeal.τ).loc Cert.SmallIdeal.main_arg12)
          ∧ r.2.mem ((c.tc : Thread Cert.SmallIdeal.nD Cert.SmallIdeal.τ).loc Cert.SmallIdeal.main_arg13) = m ((c.tc : Thread Cert.SmallIdeal.nD Cert.SmallIdeal.τ).loc Cert.SmallIdeal.main_arg13)
          ∧ r.2.mem ((c.tc : Thread Cert.SmallIdeal.nD Cert.SmallIdeal.τ).loc Cert.SmallIdeal.main_arg14) = m ((c.tc : Thread Cert.SmallIdeal.nD Cert.SmallIdeal.τ).loc Cert.SmallIdeal.main_arg14)
          ∧ r.2.mem ((c.tc : Thread Cert.SmallIdeal.nD Cert.SmallIdeal.τ).loc Cert.SmallIdeal.main_arg15) = m ((c.tc : Thread Cert.SmallIdeal.nD Cert.SmallIdeal.τ).loc Cert.SmallIdeal.main_arg15)
          ∧ r.2.mem ((c.tc : Thread Cert.SmallIdeal.nD Cert.SmallIdeal.τ).loc Cert.SmallIdeal.main_arg16) = m ((c.tc : Thread Cert.SmallIdeal.nD Cert.SmallIdeal.τ).loc Cert.SmallIdeal.main_arg16)
          ∧ r.2.mem ((c.tc : Thread Cert.SmallIdeal.nD Cert.SmallIdeal.τ).loc Cert.SmallIdeal.main_arg17) = m ((c.tc : Thread Cert.SmallIdeal.nD Cert.SmallIdeal.τ).loc Cert.SmallIdeal.main_arg17)
          ∧ r.2.mem ((c.tc : Thread Cert.SmallIdeal.nD Cert.SmallIdeal.τ).loc Cert.SmallIdeal.main_arg18) = m ((c.tc : Thread Cert.SmallIdeal.nD Cert.SmallIdeal.τ).loc Cert.SmallIdeal.main_arg18)
          ∧ r.2.mem ((c.tc : Thread Cert.SmallIdeal.nD Cert.SmallIdeal.τ).loc Cert.SmallIdeal.main_arg19) = m ((c.tc : Thread Cert.SmallIdeal.nD Cert.SmallIdeal.τ).loc Cert.SmallIdeal.main_arg19)
          ∧ r.2.mem ((c.tc : Thread Cert.SmallIdeal.nD Cert.SmallIdeal.τ).loc Cert.SmallIdeal.main_arg20) = m ((c.tc : Thread Cert.SmallIdeal.nD Cert.SmallIdeal.τ).loc Cert.SmallIdeal.main_arg20)
          ∧ r.2.mem ((c.tc : Thread Cert.SmallIdeal.nD Cert.SmallIdeal.τ).loc Cert.SmallIdeal.main_arg21) = m ((c.tc : Thread Cert.SmallIdeal.nD Cert.SmallIdeal.τ).loc Cert.SmallIdeal.main_arg21)
          ∧ r.2.mem ((c.tc : Thread Cert.SmallIdeal.nD Cert.SmallIdeal.τ).loc Cert.SmallIdeal.main_arg22) = m ((c.tc : Thread Cert.SmallIdeal.nD Cert.SmallIdeal.τ).loc Cert.SmallIdeal.main_arg22)
          ∧ r.2.mem ((c.tc : Thread Cert.SmallIdeal.nD Cert.SmallIdeal.τ).loc Cert.SmallIdeal.main_arg23) = m ((c.tc : Thread Cert.SmallIdeal.nD Cert.SmallIdeal.τ).loc Cert.SmallIdeal.main_arg23)
          ∧ r.2.mem ((c.tc : Thread Cert.SmallIdeal.nD Cert.SmallIdeal.τ).loc Cert.SmallIdeal.main_arg24) = m ((c.tc : Thread Cert.SmallIdeal.nD Cert.SmallIdeal.τ).loc Cert.SmallIdeal.main_arg24)
          ∧ r.2.mem ((c.tc : Thread Cert.SmallIdeal.nD Cert.SmallIdeal.τ).loc Cert.SmallIdeal.main_arg25) = m ((c.tc : Thread Cert.SmallIdeal.nD Cert.SmallIdeal.τ).loc Cert.SmallIdeal.main_arg25)
          ∧ r.2.mem ((c.tc : Thread Cert.SmallIdeal.nD Cert.SmallIdeal.τ).loc Cert.SmallIdeal.main_arg26) = m ((c.tc : Thread Cert.SmallIdeal.nD Cert.SmallIdeal.τ).loc Cert.SmallIdeal.main_arg26)
          ∧ r.2.mem ((c.tc : Thread Cert.SmallIdeal.nD Cert.SmallIdeal.τ).loc Cert.SmallIdeal.main_arg27) = m ((c.tc : Thread Cert.SmallIdeal.nD Cert.SmallIdeal.τ).loc Cert.SmallIdeal.main_arg27)
          ∧ r.2.mem ((c.tc : Thread Cert.SmallIdeal.nD Cert.SmallIdeal.τ).loc Cert.SmallIdeal.main_arg28) = m ((c.tc : Thread Cert.SmallIdeal.nD Cert.SmallIdeal.τ).loc Cert.SmallIdeal.main_arg28)
          ∧ r.2.mem ((c.tc : Thread Cert.SmallIdeal.nD Cert.SmallIdeal.τ).loc Cert.SmallIdeal.main_arg29) = m ((c.tc : Thread Cert.SmallIdeal.nD Cert.SmallIdeal.τ).loc Cert.SmallIdeal.main_arg29)
          ∧ r.2.mem ((c.tc : Thread Cert.SmallIdeal.nD Cert.SmallIdeal.τ).loc Cert.SmallIdeal.main_arg30) = m ((c.tc : Thread Cert.SmallIdeal.nD Cert.SmallIdeal.τ).loc Cert.SmallIdeal.main_arg30)
          ∧ r.2.mem ((c.tc : Thread Cert.SmallIdeal.nD Cert.SmallIdeal.τ).loc Cert.SmallIdeal.main_arg31) = m ((c.tc : Thread Cert.SmallIdeal.nD Cert.SmallIdeal.τ).loc Cert.SmallIdeal.main_arg31))
      ∧ θ_run (Cert.SmallRefIdeal.defs (F := Ideal)) (onTc (τ := Cert.SmallRefIdeal.τ) (Cert.SmallRefIdeal.main (F := Ideal))) ⟨m', fun _ => 0, g'⟩ (fun r => ∀ c : Dev Cert.SmallRefIdeal.nD,
          r.2.mem ((c.tc : Thread Cert.SmallRefIdeal.nD Cert.SmallRefIdeal.τ).loc Cert.SmallRefIdeal.main_v23) = v0 c
          ∧ r.2.mem ((c.tc : Thread Cert.SmallRefIdeal.nD Cert.SmallRefIdeal.τ).loc Cert.SmallRefIdeal.main_v47) = v1 c
          ∧ r.2.mem ((c.tc : Thread Cert.SmallRefIdeal.nD Cert.SmallRefIdeal.τ).loc Cert.SmallRefIdeal.main_v71) = v2 c
          ∧ r.2.mem ((c.tc : Thread Cert.SmallRefIdeal.nD Cert.SmallRefIdeal.τ).loc Cert.SmallRefIdeal.main_v95) = v3 c
          ∧ r.2.mem ((c.tc : Thread Cert.SmallRefIdeal.nD Cert.SmallRefIdeal.τ).loc Cert.SmallRefIdeal.main_v119) = v4 c
          ∧ r.2.mem ((c.tc : Thread Cert.SmallRefIdeal.nD Cert.SmallRefIdeal.τ).loc Cert.SmallRefIdeal.main_v143) = v5 c
          ∧ r.2.mem ((c.tc : Thread Cert.SmallRefIdeal.nD Cert.SmallRefIdeal.τ).loc Cert.SmallRefIdeal.main_v167) = v6 c
          ∧ r.2.mem ((c.tc : Thread Cert.SmallRefIdeal.nD Cert.SmallRefIdeal.τ).loc Cert.SmallRefIdeal.main_v191) = v7 c
          ∧ r.2.mem ((c.tc : Thread Cert.SmallRefIdeal.nD Cert.SmallRefIdeal.τ).loc Cert.SmallRefIdeal.main_v4) = v8 c
          ∧ r.2.mem ((c.tc : Thread Cert.SmallRefIdeal.nD Cert.SmallRefIdeal.τ).loc Cert.SmallRefIdeal.main_v28) = v9 c
          ∧ r.2.mem ((c.tc : Thread Cert.SmallRefIdeal.nD Cert.SmallRefIdeal.τ).loc Cert.SmallRefIdeal.main_v52) = v10 c
          ∧ r.2.mem ((c.tc : Thread Cert.SmallRefIdeal.nD Cert.SmallRefIdeal.τ).loc Cert.SmallRefIdeal.main_v76) = v11 c
          ∧ r.2.mem ((c.tc : Thread Cert.SmallRefIdeal.nD Cert.SmallRefIdeal.τ).loc Cert.SmallRefIdeal.main_v100) = v12 c
          ∧ r.2.mem ((c.tc : Thread Cert.SmallRefIdeal.nD Cert.SmallRefIdeal.τ).loc Cert.SmallRefIdeal.main_v124) = v13 c
          ∧ r.2.mem ((c.tc : Thread Cert.SmallRefIdeal.nD Cert.SmallRefIdeal.τ).loc Cert.SmallRefIdeal.main_v148) = v14 c
          ∧ r.2.mem ((c.tc : Thread Cert.SmallRefIdeal.nD Cert.SmallRefIdeal.τ).loc Cert.SmallRefIdeal.main_v172) = v15 c
          ∧ r.2.mem ((c.tc : Thread Cert.SmallRefIdeal.nD Cert.SmallRefIdeal.τ).loc Cert.SmallRefIdeal.main_v10) = v16 c
          ∧ r.2.mem ((c.tc : Thread Cert.SmallRefIdeal.nD Cert.SmallRefIdeal.τ).loc Cert.SmallRefIdeal.main_v34) = v17 c
          ∧ r.2.mem ((c.tc : Thread Cert.SmallRefIdeal.nD Cert.SmallRefIdeal.τ).loc Cert.SmallRefIdeal.main_v58) = v18 c
          ∧ r.2.mem ((c.tc : Thread Cert.SmallRefIdeal.nD Cert.SmallRefIdeal.τ).loc Cert.SmallRefIdeal.main_v82) = v19 c
          ∧ r.2.mem ((c.tc : Thread Cert.SmallRefIdeal.nD Cert.SmallRefIdeal.τ).loc Cert.SmallRefIdeal.main_v106) = v20 c
          ∧ r.2.mem ((c.tc : Thread Cert.SmallRefIdeal.nD Cert.SmallRefIdeal.τ).loc Cert.SmallRefIdeal.main_v130) = v21 c
          ∧ r.2.mem ((c.tc : Thread Cert.SmallRefIdeal.nD Cert.SmallRefIdeal.τ).loc Cert.SmallRefIdeal.main_v154) = v22 c
          ∧ r.2.mem ((c.tc : Thread Cert.SmallRefIdeal.nD Cert.SmallRefIdeal.τ).loc Cert.SmallRefIdeal.main_v178) = v23 c
          ∧ r.2.mem ((c.tc : Thread Cert.SmallRefIdeal.nD Cert.SmallRefIdeal.τ).loc Cert.SmallRefIdeal.main_arg0) = m' ((c.tc : Thread Cert.SmallRefIdeal.nD Cert.SmallRefIdeal.τ).loc Cert.SmallRefIdeal.main_arg0)
          ∧ r.2.mem ((c.tc : Thread Cert.SmallRefIdeal.nD Cert.SmallRefIdeal.τ).loc Cert.SmallRefIdeal.main_arg1) = m' ((c.tc : Thread Cert.SmallRefIdeal.nD Cert.SmallRefIdeal.τ).loc Cert.SmallRefIdeal.main_arg1)
          ∧ r.2.mem ((c.tc : Thread Cert.SmallRefIdeal.nD Cert.SmallRefIdeal.τ).loc Cert.SmallRefIdeal.main_arg2) = m' ((c.tc : Thread Cert.SmallRefIdeal.nD Cert.SmallRefIdeal.τ).loc Cert.SmallRefIdeal.main_arg2)
          ∧ r.2.mem ((c.tc : Thread Cert.SmallRefIdeal.nD Cert.SmallRefIdeal.τ).loc Cert.SmallRefIdeal.main_arg3) = m' ((c.tc : Thread Cert.SmallRefIdeal.nD Cert.SmallRefIdeal.τ).loc Cert.SmallRefIdeal.main_arg3)
          ∧ r.2.mem ((c.tc : Thread Cert.SmallRefIdeal.nD Cert.SmallRefIdeal.τ).loc Cert.SmallRefIdeal.main_arg4) = m' ((c.tc : Thread Cert.SmallRefIdeal.nD Cert.SmallRefIdeal.τ).loc Cert.SmallRefIdeal.main_arg4)
          ∧ r.2.mem ((c.tc : Thread Cert.SmallRefIdeal.nD Cert.SmallRefIdeal.τ).loc Cert.SmallRefIdeal.main_arg5) = m' ((c.tc : Thread Cert.SmallRefIdeal.nD Cert.SmallRefIdeal.τ).loc Cert.SmallRefIdeal.main_arg5)
          ∧ r.2.mem ((c.tc : Thread Cert.SmallRefIdeal.nD Cert.SmallRefIdeal.τ).loc Cert.SmallRefIdeal.main_arg6) = m' ((c.tc : Thread Cert.SmallRefIdeal.nD Cert.SmallRefIdeal.τ).loc Cert.SmallRefIdeal.main_arg6)
          ∧ r.2.mem ((c.tc : Thread Cert.SmallRefIdeal.nD Cert.SmallRefIdeal.τ).loc Cert.SmallRefIdeal.main_arg7) = m' ((c.tc : Thread Cert.SmallRefIdeal.nD Cert.SmallRefIdeal.τ).loc Cert.SmallRefIdeal.main_arg7)
          ∧ r.2.mem ((c.tc : Thread Cert.SmallRefIdeal.nD Cert.SmallRefIdeal.τ).loc Cert.SmallRefIdeal.main_arg8) = m' ((c.tc : Thread Cert.SmallRefIdeal.nD Cert.SmallRefIdeal.τ).loc Cert.SmallRefIdeal.main_arg8)
          ∧ r.2.mem ((c.tc : Thread Cert.SmallRefIdeal.nD Cert.SmallRefIdeal.τ).loc Cert.SmallRefIdeal.main_arg9) = m' ((c.tc : Thread Cert.SmallRefIdeal.nD Cert.SmallRefIdeal.τ).loc Cert.SmallRefIdeal.main_arg9)
          ∧ r.2.mem ((c.tc : Thread Cert.SmallRefIdeal.nD Cert.SmallRefIdeal.τ).loc Cert.SmallRefIdeal.main_arg10) = m' ((c.tc : Thread Cert.SmallRefIdeal.nD Cert.SmallRefIdeal.τ).loc Cert.SmallRefIdeal.main_arg10)
          ∧ r.2.mem ((c.tc : Thread Cert.SmallRefIdeal.nD Cert.SmallRefIdeal.τ).loc Cert.SmallRefIdeal.main_arg11) = m' ((c.tc : Thread Cert.SmallRefIdeal.nD Cert.SmallRefIdeal.τ).loc Cert.SmallRefIdeal.main_arg11)
          ∧ r.2.mem ((c.tc : Thread Cert.SmallRefIdeal.nD Cert.SmallRefIdeal.τ).loc Cert.SmallRefIdeal.main_arg12) = m' ((c.tc : Thread Cert.SmallRefIdeal.nD Cert.SmallRefIdeal.τ).loc Cert.SmallRefIdeal.main_arg12)
          ∧ r.2.mem ((c.tc : Thread Cert.SmallRefIdeal.nD Cert.SmallRefIdeal.τ).loc Cert.SmallRefIdeal.main_arg13) = m' ((c.tc : Thread Cert.SmallRefIdeal.nD Cert.SmallRefIdeal.τ).loc Cert.SmallRefIdeal.main_arg13)
          ∧ r.2.mem ((c.tc : Thread Cert.SmallRefIdeal.nD Cert.SmallRefIdeal.τ).loc Cert.SmallRefIdeal.main_arg14) = m' ((c.tc : Thread Cert.SmallRefIdeal.nD Cert.SmallRefIdeal.τ).loc Cert.SmallRefIdeal.main_arg14)
          ∧ r.2.mem ((c.tc : Thread Cert.SmallRefIdeal.nD Cert.SmallRefIdeal.τ).loc Cert.SmallRefIdeal.main_arg15) = m' ((c.tc : Thread Cert.SmallRefIdeal.nD Cert.SmallRefIdeal.τ).loc Cert.SmallRefIdeal.main_arg15)
          ∧ r.2.mem ((c.tc : Thread Cert.SmallRefIdeal.nD Cert.SmallRefIdeal.τ).loc Cert.SmallRefIdeal.main_arg16) = m' ((c.tc : Thread Cert.SmallRefIdeal.nD Cert.SmallRefIdeal.τ).loc Cert.SmallRefIdeal.main_arg16)
          ∧ r.2.mem ((c.tc : Thread Cert.SmallRefIdeal.nD Cert.SmallRefIdeal.τ).loc Cert.SmallRefIdeal.main_arg17) = m' ((c.tc : Thread Cert.SmallRefIdeal.nD Cert.SmallRefIdeal.τ).loc Cert.SmallRefIdeal.main_arg17)
          ∧ r.2.mem ((c.tc : Thread Cert.SmallRefIdeal.nD Cert.SmallRefIdeal.τ).loc Cert.SmallRefIdeal.main_arg18) = m' ((c.tc : Thread Cert.SmallRefIdeal.nD Cert.SmallRefIdeal.τ).loc Cert.SmallRefIdeal.main_arg18)
          ∧ r.2.mem ((c.tc : Thread Cert.SmallRefIdeal.nD Cert.SmallRefIdeal.τ).loc Cert.SmallRefIdeal.main_arg19) = m' ((c.tc : Thread Cert.SmallRefIdeal.nD Cert.SmallRefIdeal.τ).loc Cert.SmallRefIdeal.main_arg19)
          ∧ r.2.mem ((c.tc : Thread Cert.SmallRefIdeal.nD Cert.SmallRefIdeal.τ).loc Cert.SmallRefIdeal.main_arg20) = m' ((c.tc : Thread Cert.SmallRefIdeal.nD Cert.SmallRefIdeal.τ).loc Cert.SmallRefIdeal.main_arg20)
          ∧ r.2.mem ((c.tc : Thread Cert.SmallRefIdeal.nD Cert.SmallRefIdeal.τ).loc Cert.SmallRefIdeal.main_arg21) = m' ((c.tc : Thread Cert.SmallRefIdeal.nD Cert.SmallRefIdeal.τ).loc Cert.SmallRefIdeal.main_arg21)
          ∧ r.2.mem ((c.tc : Thread Cert.SmallRefIdeal.nD Cert.SmallRefIdeal.τ).loc Cert.SmallRefIdeal.main_arg22) = m' ((c.tc : Thread Cert.SmallRefIdeal.nD Cert.SmallRefIdeal.τ).loc Cert.SmallRefIdeal.main_arg22)
          ∧ r.2.mem ((c.tc : Thread Cert.SmallRefIdeal.nD Cert.SmallRefIdeal.τ).loc Cert.SmallRefIdeal.main_arg23) = m' ((c.tc : Thread Cert.SmallRefIdeal.nD Cert.SmallRefIdeal.τ).loc Cert.SmallRefIdeal.main_arg23)
          ∧ r.2.mem ((c.tc : Thread Cert.SmallRefIdeal.nD Cert.SmallRefIdeal.τ).loc Cert.SmallRefIdeal.main_arg24) = m' ((c.tc : Thread Cert.SmallRefIdeal.nD Cert.SmallRefIdeal.τ).loc Cert.SmallRefIdeal.main_arg24)
          ∧ r.2.mem ((c.tc : Thread Cert.SmallRefIdeal.nD Cert.SmallRefIdeal.τ).loc Cert.SmallRefIdeal.main_arg25) = m' ((c.tc : Thread Cert.SmallRefIdeal.nD Cert.SmallRefIdeal.τ).loc Cert.SmallRefIdeal.main_arg25)
          ∧ r.2.mem ((c.tc : Thread Cert.SmallRefIdeal.nD Cert.SmallRefIdeal.τ).loc Cert.SmallRefIdeal.main_arg26) = m' ((c.tc : Thread Cert.SmallRefIdeal.nD Cert.SmallRefIdeal.τ).loc Cert.SmallRefIdeal.main_arg26)
          ∧ r.2.mem ((c.tc : Thread Cert.SmallRefIdeal.nD Cert.SmallRefIdeal.τ).loc Cert.SmallRefIdeal.main_arg27) = m' ((c.tc : Thread Cert.SmallRefIdeal.nD Cert.SmallRefIdeal.τ).loc Cert.SmallRefIdeal.main_arg27)
          ∧ r.2.mem ((c.tc : Thread Cert.SmallRefIdeal.nD Cert.SmallRefIdeal.τ).loc Cert.SmallRefIdeal.main_arg28) = m' ((c.tc : Thread Cert.SmallRefIdeal.nD Cert.SmallRefIdeal.τ).loc Cert.SmallRefIdeal.main_arg28)
          ∧ r.2.mem ((c.tc : Thread Cert.SmallRefIdeal.nD Cert.SmallRefIdeal.τ).loc Cert.SmallRefIdeal.main_arg29) = m' ((c.tc : Thread Cert.SmallRefIdeal.nD Cert.SmallRefIdeal.τ).loc Cert.SmallRefIdeal.main_arg29)
          ∧ r.2.mem ((c.tc : Thread Cert.SmallRefIdeal.nD Cert.SmallRefIdeal.τ).loc Cert.SmallRefIdeal.main_arg30) = m' ((c.tc : Thread Cert.SmallRefIdeal.nD Cert.SmallRefIdeal.τ).loc Cert.SmallRefIdeal.main_arg30)
          ∧ r.2.mem ((c.tc : Thread Cert.SmallRefIdeal.nD Cert.SmallRefIdeal.τ).loc Cert.SmallRefIdeal.main_arg31) = m' ((c.tc : Thread Cert.SmallRefIdeal.nD Cert.SmallRefIdeal.τ).loc Cert.SmallRefIdeal.main_arg31))

def preserves_UUp_UUpIdeal : Prop :=
  True

def algebraic_UUpIdeal_UUpRefIdeal [hUUpIdeal : Cert.UUpIdeal.Facts] [hUUpRefIdeal : Cert.UUpRefIdeal.Facts] : Prop :=
  ∀ (m : (ℓ : Loc Cert.UUpIdeal.nD Cert.UUpIdeal.τ Cert.UUpIdeal.sig) → Buf (Elt Ideal) ℓ) (g : Dev Cert.UUpIdeal.nD → PrngReg)
    (m' : (ℓ : Loc Cert.UUpRefIdeal.nD Cert.UUpRefIdeal.τ Cert.UUpRefIdeal.sig) → Buf (Elt Ideal) ℓ) (g' : Dev Cert.UUpRefIdeal.nD → PrngReg), Pre_UUpIdeal m →
    (∀ c : Dev Cert.UUpIdeal.nD,
      m' ((c.tc : Thread Cert.UUpRefIdeal.nD Cert.UUpRefIdeal.τ).loc Cert.UUpRefIdeal.main_arg0) = m ((c.tc : Thread Cert.UUpIdeal.nD Cert.UUpIdeal.τ).loc Cert.UUpIdeal.main_arg0)
      ∧ m' ((c.tc : Thread Cert.UUpRefIdeal.nD Cert.UUpRefIdeal.τ).loc Cert.UUpRefIdeal.main_arg1) = m ((c.tc : Thread Cert.UUpIdeal.nD Cert.UUpIdeal.τ).loc Cert.UUpIdeal.main_arg1)
      ∧ m' ((c.tc : Thread Cert.UUpRefIdeal.nD Cert.UUpRefIdeal.τ).loc Cert.UUpRefIdeal.main_arg2) = m ((c.tc : Thread Cert.UUpIdeal.nD Cert.UUpIdeal.τ).loc Cert.UUpIdeal.main_arg2)
      ∧ m' ((c.tc : Thread Cert.UUpRefIdeal.nD Cert.UUpRefIdeal.τ).loc Cert.UUpRefIdeal.main_arg3) = m ((c.tc : Thread Cert.UUpIdeal.nD Cert.UUpIdeal.τ).loc Cert.UUpIdeal.main_arg3)
      ∧ m' ((c.tc : Thread Cert.UUpRefIdeal.nD Cert.UUpRefIdeal.τ).loc Cert.UUpRefIdeal.main_arg4) = m ((c.tc : Thread Cert.UUpIdeal.nD Cert.UUpIdeal.τ).loc Cert.UUpIdeal.main_arg4)
      ∧ m' ((c.tc : Thread Cert.UUpRefIdeal.nD Cert.UUpRefIdeal.τ).loc Cert.UUpRefIdeal.main_arg5) = m ((c.tc : Thread Cert.UUpIdeal.nD Cert.UUpIdeal.τ).loc Cert.UUpIdeal.main_arg5)
      ∧ m' ((c.tc : Thread Cert.UUpRefIdeal.nD Cert.UUpRefIdeal.τ).loc Cert.UUpRefIdeal.main_arg6) = m ((c.tc : Thread Cert.UUpIdeal.nD Cert.UUpIdeal.τ).loc Cert.UUpIdeal.main_arg6)
      ∧ m' ((c.tc : Thread Cert.UUpRefIdeal.nD Cert.UUpRefIdeal.τ).loc Cert.UUpRefIdeal.main_arg7) = m ((c.tc : Thread Cert.UUpIdeal.nD Cert.UUpIdeal.τ).loc Cert.UUpIdeal.main_arg7)
      ∧ m' ((c.tc : Thread Cert.UUpRefIdeal.nD Cert.UUpRefIdeal.τ).loc Cert.UUpRefIdeal.main_arg8) = m ((c.tc : Thread Cert.UUpIdeal.nD Cert.UUpIdeal.τ).loc Cert.UUpIdeal.main_arg8)) →
    ∃ (v0 : (c : Dev Cert.UUpIdeal.nD) → Buf (Elt Ideal) ((c.tc : Thread Cert.UUpIdeal.nD Cert.UUpIdeal.τ).loc Cert.UUpIdeal.main_v3_0)) (v1 : (c : Dev Cert.UUpIdeal.nD) → Buf (Elt Ideal) ((c.tc : Thread Cert.UUpIdeal.nD Cert.UUpIdeal.τ).loc Cert.UUpIdeal.main_v3_1)) (v2 : (c : Dev Cert.UUpIdeal.nD) → Buf (Elt Ideal) ((c.tc : Thread Cert.UUpIdeal.nD Cert.UUpIdeal.τ).loc Cert.UUpIdeal.main_v3_2)) (v3 : (c : Dev Cert.UUpIdeal.nD) → Buf (Elt Ideal) ((c.tc : Thread Cert.UUpIdeal.nD Cert.UUpIdeal.τ).loc Cert.UUpIdeal.main_v3_3)),
      θ_run (Cert.UUpIdeal.defs (F := Ideal)) (onTc (τ := Cert.UUpIdeal.τ) (Cert.UUpIdeal.main (F := Ideal))) ⟨m, fun _ => 0, g⟩ (fun r => ∀ c : Dev Cert.UUpIdeal.nD,
          r.2.mem ((c.tc : Thread Cert.UUpIdeal.nD Cert.UUpIdeal.τ).loc Cert.UUpIdeal.main_v3_0) = v0 c
          ∧ r.2.mem ((c.tc : Thread Cert.UUpIdeal.nD Cert.UUpIdeal.τ).loc Cert.UUpIdeal.main_v3_1) = v1 c
          ∧ r.2.mem ((c.tc : Thread Cert.UUpIdeal.nD Cert.UUpIdeal.τ).loc Cert.UUpIdeal.main_v3_2) = v2 c
          ∧ r.2.mem ((c.tc : Thread Cert.UUpIdeal.nD Cert.UUpIdeal.τ).loc Cert.UUpIdeal.main_v3_3) = v3 c
          ∧ r.2.mem ((c.tc : Thread Cert.UUpIdeal.nD Cert.UUpIdeal.τ).loc Cert.UUpIdeal.main_arg0) = m ((c.tc : Thread Cert.UUpIdeal.nD Cert.UUpIdeal.τ).loc Cert.UUpIdeal.main_arg0)
          ∧ r.2.mem ((c.tc : Thread Cert.UUpIdeal.nD Cert.UUpIdeal.τ).loc Cert.UUpIdeal.main_arg1) = m ((c.tc : Thread Cert.UUpIdeal.nD Cert.UUpIdeal.τ).loc Cert.UUpIdeal.main_arg1)
          ∧ r.2.mem ((c.tc : Thread Cert.UUpIdeal.nD Cert.UUpIdeal.τ).loc Cert.UUpIdeal.main_arg2) = m ((c.tc : Thread Cert.UUpIdeal.nD Cert.UUpIdeal.τ).loc Cert.UUpIdeal.main_arg2)
          ∧ r.2.mem ((c.tc : Thread Cert.UUpIdeal.nD Cert.UUpIdeal.τ).loc Cert.UUpIdeal.main_arg3) = m ((c.tc : Thread Cert.UUpIdeal.nD Cert.UUpIdeal.τ).loc Cert.UUpIdeal.main_arg3)
          ∧ r.2.mem ((c.tc : Thread Cert.UUpIdeal.nD Cert.UUpIdeal.τ).loc Cert.UUpIdeal.main_arg4) = m ((c.tc : Thread Cert.UUpIdeal.nD Cert.UUpIdeal.τ).loc Cert.UUpIdeal.main_arg4)
          ∧ r.2.mem ((c.tc : Thread Cert.UUpIdeal.nD Cert.UUpIdeal.τ).loc Cert.UUpIdeal.main_arg5) = m ((c.tc : Thread Cert.UUpIdeal.nD Cert.UUpIdeal.τ).loc Cert.UUpIdeal.main_arg5)
          ∧ r.2.mem ((c.tc : Thread Cert.UUpIdeal.nD Cert.UUpIdeal.τ).loc Cert.UUpIdeal.main_arg6) = m ((c.tc : Thread Cert.UUpIdeal.nD Cert.UUpIdeal.τ).loc Cert.UUpIdeal.main_arg6)
          ∧ r.2.mem ((c.tc : Thread Cert.UUpIdeal.nD Cert.UUpIdeal.τ).loc Cert.UUpIdeal.main_arg7) = m ((c.tc : Thread Cert.UUpIdeal.nD Cert.UUpIdeal.τ).loc Cert.UUpIdeal.main_arg7)
          ∧ r.2.mem ((c.tc : Thread Cert.UUpIdeal.nD Cert.UUpIdeal.τ).loc Cert.UUpIdeal.main_arg8) = m ((c.tc : Thread Cert.UUpIdeal.nD Cert.UUpIdeal.τ).loc Cert.UUpIdeal.main_arg8))
      ∧ θ_run (Cert.UUpRefIdeal.defs (F := Ideal)) (onTc (τ := Cert.UUpRefIdeal.τ) (Cert.UUpRefIdeal.main (F := Ideal))) ⟨m', fun _ => 0, g'⟩ (fun r => ∀ c : Dev Cert.UUpRefIdeal.nD,
          r.2.mem ((c.tc : Thread Cert.UUpRefIdeal.nD Cert.UUpRefIdeal.τ).loc Cert.UUpRefIdeal.main_v33) = v0 c
          ∧ r.2.mem ((c.tc : Thread Cert.UUpRefIdeal.nD Cert.UUpRefIdeal.τ).loc Cert.UUpRefIdeal.main_v36) = v1 c
          ∧ r.2.mem ((c.tc : Thread Cert.UUpRefIdeal.nD Cert.UUpRefIdeal.τ).loc Cert.UUpRefIdeal.main_v39) = v2 c
          ∧ r.2.mem ((c.tc : Thread Cert.UUpRefIdeal.nD Cert.UUpRefIdeal.τ).loc Cert.UUpRefIdeal.main_v42) = v3 c
          ∧ r.2.mem ((c.tc : Thread Cert.UUpRefIdeal.nD Cert.UUpRefIdeal.τ).loc Cert.UUpRefIdeal.main_arg0) = m' ((c.tc : Thread Cert.UUpRefIdeal.nD Cert.UUpRefIdeal.τ).loc Cert.UUpRefIdeal.main_arg0)
          ∧ r.2.mem ((c.tc : Thread Cert.UUpRefIdeal.nD Cert.UUpRefIdeal.τ).loc Cert.UUpRefIdeal.main_arg1) = m' ((c.tc : Thread Cert.UUpRefIdeal.nD Cert.UUpRefIdeal.τ).loc Cert.UUpRefIdeal.main_arg1)
          ∧ r.2.mem ((c.tc : Thread Cert.UUpRefIdeal.nD Cert.UUpRefIdeal.τ).loc Cert.UUpRefIdeal.main_arg2) = m' ((c.tc : Thread Cert.UUpRefIdeal.nD Cert.UUpRefIdeal.τ).loc Cert.UUpRefIdeal.main_arg2)
          ∧ r.2.mem ((c.tc : Thread Cert.UUpRefIdeal.nD Cert.UUpRefIdeal.τ).loc Cert.UUpRefIdeal.main_arg3) = m' ((c.tc : Thread Cert.UUpRefIdeal.nD Cert.UUpRefIdeal.τ).loc Cert.UUpRefIdeal.main_arg3)
          ∧ r.2.mem ((c.tc : Thread Cert.UUpRefIdeal.nD Cert.UUpRefIdeal.τ).loc Cert.UUpRefIdeal.main_arg4) = m' ((c.tc : Thread Cert.UUpRefIdeal.nD Cert.UUpRefIdeal.τ).loc Cert.UUpRefIdeal.main_arg4)
          ∧ r.2.mem ((c.tc : Thread Cert.UUpRefIdeal.nD Cert.UUpRefIdeal.τ).loc Cert.UUpRefIdeal.main_arg5) = m' ((c.tc : Thread Cert.UUpRefIdeal.nD Cert.UUpRefIdeal.τ).loc Cert.UUpRefIdeal.main_arg5)
          ∧ r.2.mem ((c.tc : Thread Cert.UUpRefIdeal.nD Cert.UUpRefIdeal.τ).loc Cert.UUpRefIdeal.main_arg6) = m' ((c.tc : Thread Cert.UUpRefIdeal.nD Cert.UUpRefIdeal.τ).loc Cert.UUpRefIdeal.main_arg6)
          ∧ r.2.mem ((c.tc : Thread Cert.UUpRefIdeal.nD Cert.UUpRefIdeal.τ).loc Cert.UUpRefIdeal.main_arg7) = m' ((c.tc : Thread Cert.UUpRefIdeal.nD Cert.UUpRefIdeal.τ).loc Cert.UUpRefIdeal.main_arg7)
          ∧ r.2.mem ((c.tc : Thread Cert.UUpRefIdeal.nD Cert.UUpRefIdeal.τ).loc Cert.UUpRefIdeal.main_arg8) = m' ((c.tc : Thread Cert.UUpRefIdeal.nD Cert.UUpRefIdeal.τ).loc Cert.UUpRefIdeal.main_arg8))

def preserves_UIn_UInIdeal : Prop :=
  True

def algebraic_UInIdeal_UInRefIdeal [hUInIdeal : Cert.UInIdeal.Facts] [hUInRefIdeal : Cert.UInRefIdeal.Facts] : Prop :=
  ∀ (m : (ℓ : Loc Cert.UInIdeal.nD Cert.UInIdeal.τ Cert.UInIdeal.sig) → Buf (Elt Ideal) ℓ) (g : Dev Cert.UInIdeal.nD → PrngReg)
    (m' : (ℓ : Loc Cert.UInRefIdeal.nD Cert.UInRefIdeal.τ Cert.UInRefIdeal.sig) → Buf (Elt Ideal) ℓ) (g' : Dev Cert.UInRefIdeal.nD → PrngReg), Pre_UInIdeal m →
    (∀ c : Dev Cert.UInIdeal.nD,
      m' ((c.tc : Thread Cert.UInRefIdeal.nD Cert.UInRefIdeal.τ).loc Cert.UInRefIdeal.main_arg0) = m ((c.tc : Thread Cert.UInIdeal.nD Cert.UInIdeal.τ).loc Cert.UInIdeal.main_arg0)
      ∧ m' ((c.tc : Thread Cert.UInRefIdeal.nD Cert.UInRefIdeal.τ).loc Cert.UInRefIdeal.main_arg1) = m ((c.tc : Thread Cert.UInIdeal.nD Cert.UInIdeal.τ).loc Cert.UInIdeal.main_arg1)
      ∧ m' ((c.tc : Thread Cert.UInRefIdeal.nD Cert.UInRefIdeal.τ).loc Cert.UInRefIdeal.main_arg2) = m ((c.tc : Thread Cert.UInIdeal.nD Cert.UInIdeal.τ).loc Cert.UInIdeal.main_arg2)
      ∧ m' ((c.tc : Thread Cert.UInRefIdeal.nD Cert.UInRefIdeal.τ).loc Cert.UInRefIdeal.main_arg3) = m ((c.tc : Thread Cert.UInIdeal.nD Cert.UInIdeal.τ).loc Cert.UInIdeal.main_arg3)
      ∧ m' ((c.tc : Thread Cert.UInRefIdeal.nD Cert.UInRefIdeal.τ).loc Cert.UInRefIdeal.main_arg4) = m ((c.tc : Thread Cert.UInIdeal.nD Cert.UInIdeal.τ).loc Cert.UInIdeal.main_arg4)
      ∧ m' ((c.tc : Thread Cert.UInRefIdeal.nD Cert.UInRefIdeal.τ).loc Cert.UInRefIdeal.main_arg5) = m ((c.tc : Thread Cert.UInIdeal.nD Cert.UInIdeal.τ).loc Cert.UInIdeal.main_arg5)
      ∧ m' ((c.tc : Thread Cert.UInRefIdeal.nD Cert.UInRefIdeal.τ).loc Cert.UInRefIdeal.main_arg6) = m ((c.tc : Thread Cert.UInIdeal.nD Cert.UInIdeal.τ).loc Cert.UInIdeal.main_arg6)
      ∧ m' ((c.tc : Thread Cert.UInRefIdeal.nD Cert.UInRefIdeal.τ).loc Cert.UInRefIdeal.main_arg7) = m ((c.tc : Thread Cert.UInIdeal.nD Cert.UInIdeal.τ).loc Cert.UInIdeal.main_arg7)
      ∧ m' ((c.tc : Thread Cert.UInRefIdeal.nD Cert.UInRefIdeal.τ).loc Cert.UInRefIdeal.main_arg8) = m ((c.tc : Thread Cert.UInIdeal.nD Cert.UInIdeal.τ).loc Cert.UInIdeal.main_arg8)) →
    ∃ (v0 : (c : Dev Cert.UInIdeal.nD) → Buf (Elt Ideal) ((c.tc : Thread Cert.UInIdeal.nD Cert.UInIdeal.τ).loc Cert.UInIdeal.main_v3_0)) (v1 : (c : Dev Cert.UInIdeal.nD) → Buf (Elt Ideal) ((c.tc : Thread Cert.UInIdeal.nD Cert.UInIdeal.τ).loc Cert.UInIdeal.main_v3_1)) (v2 : (c : Dev Cert.UInIdeal.nD) → Buf (Elt Ideal) ((c.tc : Thread Cert.UInIdeal.nD Cert.UInIdeal.τ).loc Cert.UInIdeal.main_v3_2)) (v3 : (c : Dev Cert.UInIdeal.nD) → Buf (Elt Ideal) ((c.tc : Thread Cert.UInIdeal.nD Cert.UInIdeal.τ).loc Cert.UInIdeal.main_v3_3)),
      θ_run (Cert.UInIdeal.defs (F := Ideal)) (onTc (τ := Cert.UInIdeal.τ) (Cert.UInIdeal.main (F := Ideal))) ⟨m, fun _ => 0, g⟩ (fun r => ∀ c : Dev Cert.UInIdeal.nD,
          r.2.mem ((c.tc : Thread Cert.UInIdeal.nD Cert.UInIdeal.τ).loc Cert.UInIdeal.main_v3_0) = v0 c
          ∧ r.2.mem ((c.tc : Thread Cert.UInIdeal.nD Cert.UInIdeal.τ).loc Cert.UInIdeal.main_v3_1) = v1 c
          ∧ r.2.mem ((c.tc : Thread Cert.UInIdeal.nD Cert.UInIdeal.τ).loc Cert.UInIdeal.main_v3_2) = v2 c
          ∧ r.2.mem ((c.tc : Thread Cert.UInIdeal.nD Cert.UInIdeal.τ).loc Cert.UInIdeal.main_v3_3) = v3 c
          ∧ r.2.mem ((c.tc : Thread Cert.UInIdeal.nD Cert.UInIdeal.τ).loc Cert.UInIdeal.main_arg0) = m ((c.tc : Thread Cert.UInIdeal.nD Cert.UInIdeal.τ).loc Cert.UInIdeal.main_arg0)
          ∧ r.2.mem ((c.tc : Thread Cert.UInIdeal.nD Cert.UInIdeal.τ).loc Cert.UInIdeal.main_arg1) = m ((c.tc : Thread Cert.UInIdeal.nD Cert.UInIdeal.τ).loc Cert.UInIdeal.main_arg1)
          ∧ r.2.mem ((c.tc : Thread Cert.UInIdeal.nD Cert.UInIdeal.τ).loc Cert.UInIdeal.main_arg2) = m ((c.tc : Thread Cert.UInIdeal.nD Cert.UInIdeal.τ).loc Cert.UInIdeal.main_arg2)
          ∧ r.2.mem ((c.tc : Thread Cert.UInIdeal.nD Cert.UInIdeal.τ).loc Cert.UInIdeal.main_arg3) = m ((c.tc : Thread Cert.UInIdeal.nD Cert.UInIdeal.τ).loc Cert.UInIdeal.main_arg3)
          ∧ r.2.mem ((c.tc : Thread Cert.UInIdeal.nD Cert.UInIdeal.τ).loc Cert.UInIdeal.main_arg4) = m ((c.tc : Thread Cert.UInIdeal.nD Cert.UInIdeal.τ).loc Cert.UInIdeal.main_arg4)
          ∧ r.2.mem ((c.tc : Thread Cert.UInIdeal.nD Cert.UInIdeal.τ).loc Cert.UInIdeal.main_arg5) = m ((c.tc : Thread Cert.UInIdeal.nD Cert.UInIdeal.τ).loc Cert.UInIdeal.main_arg5)
          ∧ r.2.mem ((c.tc : Thread Cert.UInIdeal.nD Cert.UInIdeal.τ).loc Cert.UInIdeal.main_arg6) = m ((c.tc : Thread Cert.UInIdeal.nD Cert.UInIdeal.τ).loc Cert.UInIdeal.main_arg6)
          ∧ r.2.mem ((c.tc : Thread Cert.UInIdeal.nD Cert.UInIdeal.τ).loc Cert.UInIdeal.main_arg7) = m ((c.tc : Thread Cert.UInIdeal.nD Cert.UInIdeal.τ).loc Cert.UInIdeal.main_arg7)
          ∧ r.2.mem ((c.tc : Thread Cert.UInIdeal.nD Cert.UInIdeal.τ).loc Cert.UInIdeal.main_arg8) = m ((c.tc : Thread Cert.UInIdeal.nD Cert.UInIdeal.τ).loc Cert.UInIdeal.main_arg8))
      ∧ θ_run (Cert.UInRefIdeal.defs (F := Ideal)) (onTc (τ := Cert.UInRefIdeal.τ) (Cert.UInRefIdeal.main (F := Ideal))) ⟨m', fun _ => 0, g'⟩ (fun r => ∀ c : Dev Cert.UInRefIdeal.nD,
          r.2.mem ((c.tc : Thread Cert.UInRefIdeal.nD Cert.UInRefIdeal.τ).loc Cert.UInRefIdeal.main_v33) = v0 c
          ∧ r.2.mem ((c.tc : Thread Cert.UInRefIdeal.nD Cert.UInRefIdeal.τ).loc Cert.UInRefIdeal.main_v36) = v1 c
          ∧ r.2.mem ((c.tc : Thread Cert.UInRefIdeal.nD Cert.UInRefIdeal.τ).loc Cert.UInRefIdeal.main_v39) = v2 c
          ∧ r.2.mem ((c.tc : Thread Cert.UInRefIdeal.nD Cert.UInRefIdeal.τ).loc Cert.UInRefIdeal.main_v42) = v3 c
          ∧ r.2.mem ((c.tc : Thread Cert.UInRefIdeal.nD Cert.UInRefIdeal.τ).loc Cert.UInRefIdeal.main_arg0) = m' ((c.tc : Thread Cert.UInRefIdeal.nD Cert.UInRefIdeal.τ).loc Cert.UInRefIdeal.main_arg0)
          ∧ r.2.mem ((c.tc : Thread Cert.UInRefIdeal.nD Cert.UInRefIdeal.τ).loc Cert.UInRefIdeal.main_arg1) = m' ((c.tc : Thread Cert.UInRefIdeal.nD Cert.UInRefIdeal.τ).loc Cert.UInRefIdeal.main_arg1)
          ∧ r.2.mem ((c.tc : Thread Cert.UInRefIdeal.nD Cert.UInRefIdeal.τ).loc Cert.UInRefIdeal.main_arg2) = m' ((c.tc : Thread Cert.UInRefIdeal.nD Cert.UInRefIdeal.τ).loc Cert.UInRefIdeal.main_arg2)
          ∧ r.2.mem ((c.tc : Thread Cert.UInRefIdeal.nD Cert.UInRefIdeal.τ).loc Cert.UInRefIdeal.main_arg3) = m' ((c.tc : Thread Cert.UInRefIdeal.nD Cert.UInRefIdeal.τ).loc Cert.UInRefIdeal.main_arg3)
          ∧ r.2.mem ((c.tc : Thread Cert.UInRefIdeal.nD Cert.UInRefIdeal.τ).loc Cert.UInRefIdeal.main_arg4) = m' ((c.tc : Thread Cert.UInRefIdeal.nD Cert.UInRefIdeal.τ).loc Cert.UInRefIdeal.main_arg4)
          ∧ r.2.mem ((c.tc : Thread Cert.UInRefIdeal.nD Cert.UInRefIdeal.τ).loc Cert.UInRefIdeal.main_arg5) = m' ((c.tc : Thread Cert.UInRefIdeal.nD Cert.UInRefIdeal.τ).loc Cert.UInRefIdeal.main_arg5)
          ∧ r.2.mem ((c.tc : Thread Cert.UInRefIdeal.nD Cert.UInRefIdeal.τ).loc Cert.UInRefIdeal.main_arg6) = m' ((c.tc : Thread Cert.UInRefIdeal.nD Cert.UInRefIdeal.τ).loc Cert.UInRefIdeal.main_arg6)
          ∧ r.2.mem ((c.tc : Thread Cert.UInRefIdeal.nD Cert.UInRefIdeal.τ).loc Cert.UInRefIdeal.main_arg7) = m' ((c.tc : Thread Cert.UInRefIdeal.nD Cert.UInRefIdeal.τ).loc Cert.UInRefIdeal.main_arg7)
          ∧ r.2.mem ((c.tc : Thread Cert.UInRefIdeal.nD Cert.UInRefIdeal.τ).loc Cert.UInRefIdeal.main_arg8) = m' ((c.tc : Thread Cert.UInRefIdeal.nD Cert.UInRefIdeal.τ).loc Cert.UInRefIdeal.main_arg8))

def preserves_UMerge_UMergeIdeal : Prop :=
  True

def algebraic_UMergeIdeal_UMergeRefIdeal [hUMergeIdeal : Cert.UMergeIdeal.Facts] [hUMergeRefIdeal : Cert.UMergeRefIdeal.Facts] : Prop :=
  ∀ (m : (ℓ : Loc Cert.UMergeIdeal.nD Cert.UMergeIdeal.τ Cert.UMergeIdeal.sig) → Buf (Elt Ideal) ℓ) (g : Dev Cert.UMergeIdeal.nD → PrngReg)
    (m' : (ℓ : Loc Cert.UMergeRefIdeal.nD Cert.UMergeRefIdeal.τ Cert.UMergeRefIdeal.sig) → Buf (Elt Ideal) ℓ) (g' : Dev Cert.UMergeRefIdeal.nD → PrngReg), Pre_UMergeIdeal m →
    (∀ c : Dev Cert.UMergeIdeal.nD,
      m' ((c.tc : Thread Cert.UMergeRefIdeal.nD Cert.UMergeRefIdeal.τ).loc Cert.UMergeRefIdeal.main_arg0) = m ((c.tc : Thread Cert.UMergeIdeal.nD Cert.UMergeIdeal.τ).loc Cert.UMergeIdeal.main_arg0)
      ∧ m' ((c.tc : Thread Cert.UMergeRefIdeal.nD Cert.UMergeRefIdeal.τ).loc Cert.UMergeRefIdeal.main_arg1) = m ((c.tc : Thread Cert.UMergeIdeal.nD Cert.UMergeIdeal.τ).loc Cert.UMergeIdeal.main_arg1)
      ∧ m' ((c.tc : Thread Cert.UMergeRefIdeal.nD Cert.UMergeRefIdeal.τ).loc Cert.UMergeRefIdeal.main_arg2) = m ((c.tc : Thread Cert.UMergeIdeal.nD Cert.UMergeIdeal.τ).loc Cert.UMergeIdeal.main_arg2)
      ∧ m' ((c.tc : Thread Cert.UMergeRefIdeal.nD Cert.UMergeRefIdeal.τ).loc Cert.UMergeRefIdeal.main_arg3) = m ((c.tc : Thread Cert.UMergeIdeal.nD Cert.UMergeIdeal.τ).loc Cert.UMergeIdeal.main_arg3)
      ∧ m' ((c.tc : Thread Cert.UMergeRefIdeal.nD Cert.UMergeRefIdeal.τ).loc Cert.UMergeRefIdeal.main_arg4) = m ((c.tc : Thread Cert.UMergeIdeal.nD Cert.UMergeIdeal.τ).loc Cert.UMergeIdeal.main_arg4)
      ∧ m' ((c.tc : Thread Cert.UMergeRefIdeal.nD Cert.UMergeRefIdeal.τ).loc Cert.UMergeRefIdeal.main_arg5) = m ((c.tc : Thread Cert.UMergeIdeal.nD Cert.UMergeIdeal.τ).loc Cert.UMergeIdeal.main_arg5)
      ∧ m' ((c.tc : Thread Cert.UMergeRefIdeal.nD Cert.UMergeRefIdeal.τ).loc Cert.UMergeRefIdeal.main_arg6) = m ((c.tc : Thread Cert.UMergeIdeal.nD Cert.UMergeIdeal.τ).loc Cert.UMergeIdeal.main_arg6)
      ∧ m' ((c.tc : Thread Cert.UMergeRefIdeal.nD Cert.UMergeRefIdeal.τ).loc Cert.UMergeRefIdeal.main_arg7) = m ((c.tc : Thread Cert.UMergeIdeal.nD Cert.UMergeIdeal.τ).loc Cert.UMergeIdeal.main_arg7)
      ∧ m' ((c.tc : Thread Cert.UMergeRefIdeal.nD Cert.UMergeRefIdeal.τ).loc Cert.UMergeRefIdeal.main_arg8) = m ((c.tc : Thread Cert.UMergeIdeal.nD Cert.UMergeIdeal.τ).loc Cert.UMergeIdeal.main_arg8)) →
    ∃ (v0 : (c : Dev Cert.UMergeIdeal.nD) → Buf (Elt Ideal) ((c.tc : Thread Cert.UMergeIdeal.nD Cert.UMergeIdeal.τ).loc Cert.UMergeIdeal.main_v3_0)) (v1 : (c : Dev Cert.UMergeIdeal.nD) → Buf (Elt Ideal) ((c.tc : Thread Cert.UMergeIdeal.nD Cert.UMergeIdeal.τ).loc Cert.UMergeIdeal.main_v3_1)) (v2 : (c : Dev Cert.UMergeIdeal.nD) → Buf (Elt Ideal) ((c.tc : Thread Cert.UMergeIdeal.nD Cert.UMergeIdeal.τ).loc Cert.UMergeIdeal.main_v3_2)) (v3 : (c : Dev Cert.UMergeIdeal.nD) → Buf (Elt Ideal) ((c.tc : Thread Cert.UMergeIdeal.nD Cert.UMergeIdeal.τ).loc Cert.UMergeIdeal.main_v3_3)),
      θ_run (Cert.UMergeIdeal.defs (F := Ideal)) (onTc (τ := Cert.UMergeIdeal.τ) (Cert.UMergeIdeal.main (F := Ideal))) ⟨m, fun _ => 0, g⟩ (fun r => ∀ c : Dev Cert.UMergeIdeal.nD,
          r.2.mem ((c.tc : Thread Cert.UMergeIdeal.nD Cert.UMergeIdeal.τ).loc Cert.UMergeIdeal.main_v3_0) = v0 c
          ∧ r.2.mem ((c.tc : Thread Cert.UMergeIdeal.nD Cert.UMergeIdeal.τ).loc Cert.UMergeIdeal.main_v3_1) = v1 c
          ∧ r.2.mem ((c.tc : Thread Cert.UMergeIdeal.nD Cert.UMergeIdeal.τ).loc Cert.UMergeIdeal.main_v3_2) = v2 c
          ∧ r.2.mem ((c.tc : Thread Cert.UMergeIdeal.nD Cert.UMergeIdeal.τ).loc Cert.UMergeIdeal.main_v3_3) = v3 c
          ∧ r.2.mem ((c.tc : Thread Cert.UMergeIdeal.nD Cert.UMergeIdeal.τ).loc Cert.UMergeIdeal.main_arg0) = m ((c.tc : Thread Cert.UMergeIdeal.nD Cert.UMergeIdeal.τ).loc Cert.UMergeIdeal.main_arg0)
          ∧ r.2.mem ((c.tc : Thread Cert.UMergeIdeal.nD Cert.UMergeIdeal.τ).loc Cert.UMergeIdeal.main_arg1) = m ((c.tc : Thread Cert.UMergeIdeal.nD Cert.UMergeIdeal.τ).loc Cert.UMergeIdeal.main_arg1)
          ∧ r.2.mem ((c.tc : Thread Cert.UMergeIdeal.nD Cert.UMergeIdeal.τ).loc Cert.UMergeIdeal.main_arg2) = m ((c.tc : Thread Cert.UMergeIdeal.nD Cert.UMergeIdeal.τ).loc Cert.UMergeIdeal.main_arg2)
          ∧ r.2.mem ((c.tc : Thread Cert.UMergeIdeal.nD Cert.UMergeIdeal.τ).loc Cert.UMergeIdeal.main_arg3) = m ((c.tc : Thread Cert.UMergeIdeal.nD Cert.UMergeIdeal.τ).loc Cert.UMergeIdeal.main_arg3)
          ∧ r.2.mem ((c.tc : Thread Cert.UMergeIdeal.nD Cert.UMergeIdeal.τ).loc Cert.UMergeIdeal.main_arg4) = m ((c.tc : Thread Cert.UMergeIdeal.nD Cert.UMergeIdeal.τ).loc Cert.UMergeIdeal.main_arg4)
          ∧ r.2.mem ((c.tc : Thread Cert.UMergeIdeal.nD Cert.UMergeIdeal.τ).loc Cert.UMergeIdeal.main_arg5) = m ((c.tc : Thread Cert.UMergeIdeal.nD Cert.UMergeIdeal.τ).loc Cert.UMergeIdeal.main_arg5)
          ∧ r.2.mem ((c.tc : Thread Cert.UMergeIdeal.nD Cert.UMergeIdeal.τ).loc Cert.UMergeIdeal.main_arg6) = m ((c.tc : Thread Cert.UMergeIdeal.nD Cert.UMergeIdeal.τ).loc Cert.UMergeIdeal.main_arg6)
          ∧ r.2.mem ((c.tc : Thread Cert.UMergeIdeal.nD Cert.UMergeIdeal.τ).loc Cert.UMergeIdeal.main_arg7) = m ((c.tc : Thread Cert.UMergeIdeal.nD Cert.UMergeIdeal.τ).loc Cert.UMergeIdeal.main_arg7)
          ∧ r.2.mem ((c.tc : Thread Cert.UMergeIdeal.nD Cert.UMergeIdeal.τ).loc Cert.UMergeIdeal.main_arg8) = m ((c.tc : Thread Cert.UMergeIdeal.nD Cert.UMergeIdeal.τ).loc Cert.UMergeIdeal.main_arg8))
      ∧ θ_run (Cert.UMergeRefIdeal.defs (F := Ideal)) (onTc (τ := Cert.UMergeRefIdeal.τ) (Cert.UMergeRefIdeal.main (F := Ideal))) ⟨m', fun _ => 0, g'⟩ (fun r => ∀ c : Dev Cert.UMergeRefIdeal.nD,
          r.2.mem ((c.tc : Thread Cert.UMergeRefIdeal.nD Cert.UMergeRefIdeal.τ).loc Cert.UMergeRefIdeal.main_v33) = v0 c
          ∧ r.2.mem ((c.tc : Thread Cert.UMergeRefIdeal.nD Cert.UMergeRefIdeal.τ).loc Cert.UMergeRefIdeal.main_v36) = v1 c
          ∧ r.2.mem ((c.tc : Thread Cert.UMergeRefIdeal.nD Cert.UMergeRefIdeal.τ).loc Cert.UMergeRefIdeal.main_v39) = v2 c
          ∧ r.2.mem ((c.tc : Thread Cert.UMergeRefIdeal.nD Cert.UMergeRefIdeal.τ).loc Cert.UMergeRefIdeal.main_v42) = v3 c
          ∧ r.2.mem ((c.tc : Thread Cert.UMergeRefIdeal.nD Cert.UMergeRefIdeal.τ).loc Cert.UMergeRefIdeal.main_arg0) = m' ((c.tc : Thread Cert.UMergeRefIdeal.nD Cert.UMergeRefIdeal.τ).loc Cert.UMergeRefIdeal.main_arg0)
          ∧ r.2.mem ((c.tc : Thread Cert.UMergeRefIdeal.nD Cert.UMergeRefIdeal.τ).loc Cert.UMergeRefIdeal.main_arg1) = m' ((c.tc : Thread Cert.UMergeRefIdeal.nD Cert.UMergeRefIdeal.τ).loc Cert.UMergeRefIdeal.main_arg1)
          ∧ r.2.mem ((c.tc : Thread Cert.UMergeRefIdeal.nD Cert.UMergeRefIdeal.τ).loc Cert.UMergeRefIdeal.main_arg2) = m' ((c.tc : Thread Cert.UMergeRefIdeal.nD Cert.UMergeRefIdeal.τ).loc Cert.UMergeRefIdeal.main_arg2)
          ∧ r.2.mem ((c.tc : Thread Cert.UMergeRefIdeal.nD Cert.UMergeRefIdeal.τ).loc Cert.UMergeRefIdeal.main_arg3) = m' ((c.tc : Thread Cert.UMergeRefIdeal.nD Cert.UMergeRefIdeal.τ).loc Cert.UMergeRefIdeal.main_arg3)
          ∧ r.2.mem ((c.tc : Thread Cert.UMergeRefIdeal.nD Cert.UMergeRefIdeal.τ).loc Cert.UMergeRefIdeal.main_arg4) = m' ((c.tc : Thread Cert.UMergeRefIdeal.nD Cert.UMergeRefIdeal.τ).loc Cert.UMergeRefIdeal.main_arg4)
          ∧ r.2.mem ((c.tc : Thread Cert.UMergeRefIdeal.nD Cert.UMergeRefIdeal.τ).loc Cert.UMergeRefIdeal.main_arg5) = m' ((c.tc : Thread Cert.UMergeRefIdeal.nD Cert.UMergeRefIdeal.τ).loc Cert.UMergeRefIdeal.main_arg5)
          ∧ r.2.mem ((c.tc : Thread Cert.UMergeRefIdeal.nD Cert.UMergeRefIdeal.τ).loc Cert.UMergeRefIdeal.main_arg6) = m' ((c.tc : Thread Cert.UMergeRefIdeal.nD Cert.UMergeRefIdeal.τ).loc Cert.UMergeRefIdeal.main_arg6)
          ∧ r.2.mem ((c.tc : Thread Cert.UMergeRefIdeal.nD Cert.UMergeRefIdeal.τ).loc Cert.UMergeRefIdeal.main_arg7) = m' ((c.tc : Thread Cert.UMergeRefIdeal.nD Cert.UMergeRefIdeal.τ).loc Cert.UMergeRefIdeal.main_arg7)
          ∧ r.2.mem ((c.tc : Thread Cert.UMergeRefIdeal.nD Cert.UMergeRefIdeal.τ).loc Cert.UMergeRefIdeal.main_arg8) = m' ((c.tc : Thread Cert.UMergeRefIdeal.nD Cert.UMergeRefIdeal.τ).loc Cert.UMergeRefIdeal.main_arg8))

def preserves_UOutConv_UOutConvIdeal : Prop :=
  True

def algebraic_UOutConvIdeal_UOutConvRefIdeal [hUOutConvIdeal : Cert.UOutConvIdeal.Facts] [hUOutConvRefIdeal : Cert.UOutConvRefIdeal.Facts] : Prop :=
  ∀ (m : (ℓ : Loc Cert.UOutConvIdeal.nD Cert.UOutConvIdeal.τ Cert.UOutConvIdeal.sig) → Buf (Elt Ideal) ℓ) (g : Dev Cert.UOutConvIdeal.nD → PrngReg)
    (m' : (ℓ : Loc Cert.UOutConvRefIdeal.nD Cert.UOutConvRefIdeal.τ Cert.UOutConvRefIdeal.sig) → Buf (Elt Ideal) ℓ) (g' : Dev Cert.UOutConvRefIdeal.nD → PrngReg), Pre_UOutConvIdeal m →
    (∀ c : Dev Cert.UOutConvIdeal.nD,
      m' ((c.tc : Thread Cert.UOutConvRefIdeal.nD Cert.UOutConvRefIdeal.τ).loc Cert.UOutConvRefIdeal.main_arg0) = m ((c.tc : Thread Cert.UOutConvIdeal.nD Cert.UOutConvIdeal.τ).loc Cert.UOutConvIdeal.main_arg0)
      ∧ m' ((c.tc : Thread Cert.UOutConvRefIdeal.nD Cert.UOutConvRefIdeal.τ).loc Cert.UOutConvRefIdeal.main_arg1) = m ((c.tc : Thread Cert.UOutConvIdeal.nD Cert.UOutConvIdeal.τ).loc Cert.UOutConvIdeal.main_arg1)
      ∧ m' ((c.tc : Thread Cert.UOutConvRefIdeal.nD Cert.UOutConvRefIdeal.τ).loc Cert.UOutConvRefIdeal.main_arg2) = m ((c.tc : Thread Cert.UOutConvIdeal.nD Cert.UOutConvIdeal.τ).loc Cert.UOutConvIdeal.main_arg2)
      ∧ m' ((c.tc : Thread Cert.UOutConvRefIdeal.nD Cert.UOutConvRefIdeal.τ).loc Cert.UOutConvRefIdeal.main_arg3) = m ((c.tc : Thread Cert.UOutConvIdeal.nD Cert.UOutConvIdeal.τ).loc Cert.UOutConvIdeal.main_arg3)
      ∧ m' ((c.tc : Thread Cert.UOutConvRefIdeal.nD Cert.UOutConvRefIdeal.τ).loc Cert.UOutConvRefIdeal.main_arg4) = m ((c.tc : Thread Cert.UOutConvIdeal.nD Cert.UOutConvIdeal.τ).loc Cert.UOutConvIdeal.main_arg4)
      ∧ m' ((c.tc : Thread Cert.UOutConvRefIdeal.nD Cert.UOutConvRefIdeal.τ).loc Cert.UOutConvRefIdeal.main_arg5) = m ((c.tc : Thread Cert.UOutConvIdeal.nD Cert.UOutConvIdeal.τ).loc Cert.UOutConvIdeal.main_arg5)
      ∧ m' ((c.tc : Thread Cert.UOutConvRefIdeal.nD Cert.UOutConvRefIdeal.τ).loc Cert.UOutConvRefIdeal.main_arg6) = m ((c.tc : Thread Cert.UOutConvIdeal.nD Cert.UOutConvIdeal.τ).loc Cert.UOutConvIdeal.main_arg6)
      ∧ m' ((c.tc : Thread Cert.UOutConvRefIdeal.nD Cert.UOutConvRefIdeal.τ).loc Cert.UOutConvRefIdeal.main_arg7) = m ((c.tc : Thread Cert.UOutConvIdeal.nD Cert.UOutConvIdeal.τ).loc Cert.UOutConvIdeal.main_arg7)
      ∧ m' ((c.tc : Thread Cert.UOutConvRefIdeal.nD Cert.UOutConvRefIdeal.τ).loc Cert.UOutConvRefIdeal.main_arg8) = m ((c.tc : Thread Cert.UOutConvIdeal.nD Cert.UOutConvIdeal.τ).loc Cert.UOutConvIdeal.main_arg8)) →
    ∃ (v0 : (c : Dev Cert.UOutConvIdeal.nD) → Buf (Elt Ideal) ((c.tc : Thread Cert.UOutConvIdeal.nD Cert.UOutConvIdeal.τ).loc Cert.UOutConvIdeal.main_v3_0)) (v1 : (c : Dev Cert.UOutConvIdeal.nD) → Buf (Elt Ideal) ((c.tc : Thread Cert.UOutConvIdeal.nD Cert.UOutConvIdeal.τ).loc Cert.UOutConvIdeal.main_v3_1)) (v2 : (c : Dev Cert.UOutConvIdeal.nD) → Buf (Elt Ideal) ((c.tc : Thread Cert.UOutConvIdeal.nD Cert.UOutConvIdeal.τ).loc Cert.UOutConvIdeal.main_v3_2)) (v3 : (c : Dev Cert.UOutConvIdeal.nD) → Buf (Elt Ideal) ((c.tc : Thread Cert.UOutConvIdeal.nD Cert.UOutConvIdeal.τ).loc Cert.UOutConvIdeal.main_v3_3)),
      θ_run (Cert.UOutConvIdeal.defs (F := Ideal)) (onTc (τ := Cert.UOutConvIdeal.τ) (Cert.UOutConvIdeal.main (F := Ideal))) ⟨m, fun _ => 0, g⟩ (fun r => ∀ c : Dev Cert.UOutConvIdeal.nD,
          r.2.mem ((c.tc : Thread Cert.UOutConvIdeal.nD Cert.UOutConvIdeal.τ).loc Cert.UOutConvIdeal.main_v3_0) = v0 c
          ∧ r.2.mem ((c.tc : Thread Cert.UOutConvIdeal.nD Cert.UOutConvIdeal.τ).loc Cert.UOutConvIdeal.main_v3_1) = v1 c
          ∧ r.2.mem ((c.tc : Thread Cert.UOutConvIdeal.nD Cert.UOutConvIdeal.τ).loc Cert.UOutConvIdeal.main_v3_2) = v2 c
          ∧ r.2.mem ((c.tc : Thread Cert.UOutConvIdeal.nD Cert.UOutConvIdeal.τ).loc Cert.UOutConvIdeal.main_v3_3) = v3 c
          ∧ r.2.mem ((c.tc : Thread Cert.UOutConvIdeal.nD Cert.UOutConvIdeal.τ).loc Cert.UOutConvIdeal.main_arg0) = m ((c.tc : Thread Cert.UOutConvIdeal.nD Cert.UOutConvIdeal.τ).loc Cert.UOutConvIdeal.main_arg0)
          ∧ r.2.mem ((c.tc : Thread Cert.UOutConvIdeal.nD Cert.UOutConvIdeal.τ).loc Cert.UOutConvIdeal.main_arg1) = m ((c.tc : Thread Cert.UOutConvIdeal.nD Cert.UOutConvIdeal.τ).loc Cert.UOutConvIdeal.main_arg1)
          ∧ r.2.mem ((c.tc : Thread Cert.UOutConvIdeal.nD Cert.UOutConvIdeal.τ).loc Cert.UOutConvIdeal.main_arg2) = m ((c.tc : Thread Cert.UOutConvIdeal.nD Cert.UOutConvIdeal.τ).loc Cert.UOutConvIdeal.main_arg2)
          ∧ r.2.mem ((c.tc : Thread Cert.UOutConvIdeal.nD Cert.UOutConvIdeal.τ).loc Cert.UOutConvIdeal.main_arg3) = m ((c.tc : Thread Cert.UOutConvIdeal.nD Cert.UOutConvIdeal.τ).loc Cert.UOutConvIdeal.main_arg3)
          ∧ r.2.mem ((c.tc : Thread Cert.UOutConvIdeal.nD Cert.UOutConvIdeal.τ).loc Cert.UOutConvIdeal.main_arg4) = m ((c.tc : Thread Cert.UOutConvIdeal.nD Cert.UOutConvIdeal.τ).loc Cert.UOutConvIdeal.main_arg4)
          ∧ r.2.mem ((c.tc : Thread Cert.UOutConvIdeal.nD Cert.UOutConvIdeal.τ).loc Cert.UOutConvIdeal.main_arg5) = m ((c.tc : Thread Cert.UOutConvIdeal.nD Cert.UOutConvIdeal.τ).loc Cert.UOutConvIdeal.main_arg5)
          ∧ r.2.mem ((c.tc : Thread Cert.UOutConvIdeal.nD Cert.UOutConvIdeal.τ).loc Cert.UOutConvIdeal.main_arg6) = m ((c.tc : Thread Cert.UOutConvIdeal.nD Cert.UOutConvIdeal.τ).loc Cert.UOutConvIdeal.main_arg6)
          ∧ r.2.mem ((c.tc : Thread Cert.UOutConvIdeal.nD Cert.UOutConvIdeal.τ).loc Cert.UOutConvIdeal.main_arg7) = m ((c.tc : Thread Cert.UOutConvIdeal.nD Cert.UOutConvIdeal.τ).loc Cert.UOutConvIdeal.main_arg7)
          ∧ r.2.mem ((c.tc : Thread Cert.UOutConvIdeal.nD Cert.UOutConvIdeal.τ).loc Cert.UOutConvIdeal.main_arg8) = m ((c.tc : Thread Cert.UOutConvIdeal.nD Cert.UOutConvIdeal.τ).loc Cert.UOutConvIdeal.main_arg8))
      ∧ θ_run (Cert.UOutConvRefIdeal.defs (F := Ideal)) (onTc (τ := Cert.UOutConvRefIdeal.τ) (Cert.UOutConvRefIdeal.main (F := Ideal))) ⟨m', fun _ => 0, g'⟩ (fun r => ∀ c : Dev Cert.UOutConvRefIdeal.nD,
          r.2.mem ((c.tc : Thread Cert.UOutConvRefIdeal.nD Cert.UOutConvRefIdeal.τ).loc Cert.UOutConvRefIdeal.main_v33) = v0 c
          ∧ r.2.mem ((c.tc : Thread Cert.UOutConvRefIdeal.nD Cert.UOutConvRefIdeal.τ).loc Cert.UOutConvRefIdeal.main_v36) = v1 c
          ∧ r.2.mem ((c.tc : Thread Cert.UOutConvRefIdeal.nD Cert.UOutConvRefIdeal.τ).loc Cert.UOutConvRefIdeal.main_v39) = v2 c
          ∧ r.2.mem ((c.tc : Thread Cert.UOutConvRefIdeal.nD Cert.UOutConvRefIdeal.τ).loc Cert.UOutConvRefIdeal.main_v42) = v3 c
          ∧ r.2.mem ((c.tc : Thread Cert.UOutConvRefIdeal.nD Cert.UOutConvRefIdeal.τ).loc Cert.UOutConvRefIdeal.main_arg0) = m' ((c.tc : Thread Cert.UOutConvRefIdeal.nD Cert.UOutConvRefIdeal.τ).loc Cert.UOutConvRefIdeal.main_arg0)
          ∧ r.2.mem ((c.tc : Thread Cert.UOutConvRefIdeal.nD Cert.UOutConvRefIdeal.τ).loc Cert.UOutConvRefIdeal.main_arg1) = m' ((c.tc : Thread Cert.UOutConvRefIdeal.nD Cert.UOutConvRefIdeal.τ).loc Cert.UOutConvRefIdeal.main_arg1)
          ∧ r.2.mem ((c.tc : Thread Cert.UOutConvRefIdeal.nD Cert.UOutConvRefIdeal.τ).loc Cert.UOutConvRefIdeal.main_arg2) = m' ((c.tc : Thread Cert.UOutConvRefIdeal.nD Cert.UOutConvRefIdeal.τ).loc Cert.UOutConvRefIdeal.main_arg2)
          ∧ r.2.mem ((c.tc : Thread Cert.UOutConvRefIdeal.nD Cert.UOutConvRefIdeal.τ).loc Cert.UOutConvRefIdeal.main_arg3) = m' ((c.tc : Thread Cert.UOutConvRefIdeal.nD Cert.UOutConvRefIdeal.τ).loc Cert.UOutConvRefIdeal.main_arg3)
          ∧ r.2.mem ((c.tc : Thread Cert.UOutConvRefIdeal.nD Cert.UOutConvRefIdeal.τ).loc Cert.UOutConvRefIdeal.main_arg4) = m' ((c.tc : Thread Cert.UOutConvRefIdeal.nD Cert.UOutConvRefIdeal.τ).loc Cert.UOutConvRefIdeal.main_arg4)
          ∧ r.2.mem ((c.tc : Thread Cert.UOutConvRefIdeal.nD Cert.UOutConvRefIdeal.τ).loc Cert.UOutConvRefIdeal.main_arg5) = m' ((c.tc : Thread Cert.UOutConvRefIdeal.nD Cert.UOutConvRefIdeal.τ).loc Cert.UOutConvRefIdeal.main_arg5)
          ∧ r.2.mem ((c.tc : Thread Cert.UOutConvRefIdeal.nD Cert.UOutConvRefIdeal.τ).loc Cert.UOutConvRefIdeal.main_arg6) = m' ((c.tc : Thread Cert.UOutConvRefIdeal.nD Cert.UOutConvRefIdeal.τ).loc Cert.UOutConvRefIdeal.main_arg6)
          ∧ r.2.mem ((c.tc : Thread Cert.UOutConvRefIdeal.nD Cert.UOutConvRefIdeal.τ).loc Cert.UOutConvRefIdeal.main_arg7) = m' ((c.tc : Thread Cert.UOutConvRefIdeal.nD Cert.UOutConvRefIdeal.τ).loc Cert.UOutConvRefIdeal.main_arg7)
          ∧ r.2.mem ((c.tc : Thread Cert.UOutConvRefIdeal.nD Cert.UOutConvRefIdeal.τ).loc Cert.UOutConvRefIdeal.main_arg8) = m' ((c.tc : Thread Cert.UOutConvRefIdeal.nD Cert.UOutConvRefIdeal.τ).loc Cert.UOutConvRefIdeal.main_arg8))

def preserves_UOutAttn_UOutAttnIdeal : Prop :=
  True

def algebraic_UOutAttnIdeal_UOutAttnRefIdeal [hUOutAttnIdeal : Cert.UOutAttnIdeal.Facts] [hUOutAttnRefIdeal : Cert.UOutAttnRefIdeal.Facts] : Prop :=
  ∀ (m : (ℓ : Loc Cert.UOutAttnIdeal.nD Cert.UOutAttnIdeal.τ Cert.UOutAttnIdeal.sig) → Buf (Elt Ideal) ℓ) (g : Dev Cert.UOutAttnIdeal.nD → PrngReg)
    (m' : (ℓ : Loc Cert.UOutAttnRefIdeal.nD Cert.UOutAttnRefIdeal.τ Cert.UOutAttnRefIdeal.sig) → Buf (Elt Ideal) ℓ) (g' : Dev Cert.UOutAttnRefIdeal.nD → PrngReg), Pre_UOutAttnIdeal m →
    (∀ c : Dev Cert.UOutAttnIdeal.nD,
      m' ((c.tc : Thread Cert.UOutAttnRefIdeal.nD Cert.UOutAttnRefIdeal.τ).loc Cert.UOutAttnRefIdeal.main_arg0) = m ((c.tc : Thread Cert.UOutAttnIdeal.nD Cert.UOutAttnIdeal.τ).loc Cert.UOutAttnIdeal.main_arg0)
      ∧ m' ((c.tc : Thread Cert.UOutAttnRefIdeal.nD Cert.UOutAttnRefIdeal.τ).loc Cert.UOutAttnRefIdeal.main_arg1) = m ((c.tc : Thread Cert.UOutAttnIdeal.nD Cert.UOutAttnIdeal.τ).loc Cert.UOutAttnIdeal.main_arg1)
      ∧ m' ((c.tc : Thread Cert.UOutAttnRefIdeal.nD Cert.UOutAttnRefIdeal.τ).loc Cert.UOutAttnRefIdeal.main_arg2) = m ((c.tc : Thread Cert.UOutAttnIdeal.nD Cert.UOutAttnIdeal.τ).loc Cert.UOutAttnIdeal.main_arg2)
      ∧ m' ((c.tc : Thread Cert.UOutAttnRefIdeal.nD Cert.UOutAttnRefIdeal.τ).loc Cert.UOutAttnRefIdeal.main_arg3) = m ((c.tc : Thread Cert.UOutAttnIdeal.nD Cert.UOutAttnIdeal.τ).loc Cert.UOutAttnIdeal.main_arg3)
      ∧ m' ((c.tc : Thread Cert.UOutAttnRefIdeal.nD Cert.UOutAttnRefIdeal.τ).loc Cert.UOutAttnRefIdeal.main_arg4) = m ((c.tc : Thread Cert.UOutAttnIdeal.nD Cert.UOutAttnIdeal.τ).loc Cert.UOutAttnIdeal.main_arg4)
      ∧ m' ((c.tc : Thread Cert.UOutAttnRefIdeal.nD Cert.UOutAttnRefIdeal.τ).loc Cert.UOutAttnRefIdeal.main_arg5) = m ((c.tc : Thread Cert.UOutAttnIdeal.nD Cert.UOutAttnIdeal.τ).loc Cert.UOutAttnIdeal.main_arg5)
      ∧ m' ((c.tc : Thread Cert.UOutAttnRefIdeal.nD Cert.UOutAttnRefIdeal.τ).loc Cert.UOutAttnRefIdeal.main_arg6) = m ((c.tc : Thread Cert.UOutAttnIdeal.nD Cert.UOutAttnIdeal.τ).loc Cert.UOutAttnIdeal.main_arg6)
      ∧ m' ((c.tc : Thread Cert.UOutAttnRefIdeal.nD Cert.UOutAttnRefIdeal.τ).loc Cert.UOutAttnRefIdeal.main_arg7) = m ((c.tc : Thread Cert.UOutAttnIdeal.nD Cert.UOutAttnIdeal.τ).loc Cert.UOutAttnIdeal.main_arg7)
      ∧ m' ((c.tc : Thread Cert.UOutAttnRefIdeal.nD Cert.UOutAttnRefIdeal.τ).loc Cert.UOutAttnRefIdeal.main_arg8) = m ((c.tc : Thread Cert.UOutAttnIdeal.nD Cert.UOutAttnIdeal.τ).loc Cert.UOutAttnIdeal.main_arg8)) →
    ∃ (v0 : (c : Dev Cert.UOutAttnIdeal.nD) → Buf (Elt Ideal) ((c.tc : Thread Cert.UOutAttnIdeal.nD Cert.UOutAttnIdeal.τ).loc Cert.UOutAttnIdeal.main_v3_0)) (v1 : (c : Dev Cert.UOutAttnIdeal.nD) → Buf (Elt Ideal) ((c.tc : Thread Cert.UOutAttnIdeal.nD Cert.UOutAttnIdeal.τ).loc Cert.UOutAttnIdeal.main_v3_1)) (v2 : (c : Dev Cert.UOutAttnIdeal.nD) → Buf (Elt Ideal) ((c.tc : Thread Cert.UOutAttnIdeal.nD Cert.UOutAttnIdeal.τ).loc Cert.UOutAttnIdeal.main_v3_2)) (v3 : (c : Dev Cert.UOutAttnIdeal.nD) → Buf (Elt Ideal) ((c.tc : Thread Cert.UOutAttnIdeal.nD Cert.UOutAttnIdeal.τ).loc Cert.UOutAttnIdeal.main_v3_3)),
      θ_run (Cert.UOutAttnIdeal.defs (F := Ideal)) (onTc (τ := Cert.UOutAttnIdeal.τ) (Cert.UOutAttnIdeal.main (F := Ideal))) ⟨m, fun _ => 0, g⟩ (fun r => ∀ c : Dev Cert.UOutAttnIdeal.nD,
          r.2.mem ((c.tc : Thread Cert.UOutAttnIdeal.nD Cert.UOutAttnIdeal.τ).loc Cert.UOutAttnIdeal.main_v3_0) = v0 c
          ∧ r.2.mem ((c.tc : Thread Cert.UOutAttnIdeal.nD Cert.UOutAttnIdeal.τ).loc Cert.UOutAttnIdeal.main_v3_1) = v1 c
          ∧ r.2.mem ((c.tc : Thread Cert.UOutAttnIdeal.nD Cert.UOutAttnIdeal.τ).loc Cert.UOutAttnIdeal.main_v3_2) = v2 c
          ∧ r.2.mem ((c.tc : Thread Cert.UOutAttnIdeal.nD Cert.UOutAttnIdeal.τ).loc Cert.UOutAttnIdeal.main_v3_3) = v3 c
          ∧ r.2.mem ((c.tc : Thread Cert.UOutAttnIdeal.nD Cert.UOutAttnIdeal.τ).loc Cert.UOutAttnIdeal.main_arg0) = m ((c.tc : Thread Cert.UOutAttnIdeal.nD Cert.UOutAttnIdeal.τ).loc Cert.UOutAttnIdeal.main_arg0)
          ∧ r.2.mem ((c.tc : Thread Cert.UOutAttnIdeal.nD Cert.UOutAttnIdeal.τ).loc Cert.UOutAttnIdeal.main_arg1) = m ((c.tc : Thread Cert.UOutAttnIdeal.nD Cert.UOutAttnIdeal.τ).loc Cert.UOutAttnIdeal.main_arg1)
          ∧ r.2.mem ((c.tc : Thread Cert.UOutAttnIdeal.nD Cert.UOutAttnIdeal.τ).loc Cert.UOutAttnIdeal.main_arg2) = m ((c.tc : Thread Cert.UOutAttnIdeal.nD Cert.UOutAttnIdeal.τ).loc Cert.UOutAttnIdeal.main_arg2)
          ∧ r.2.mem ((c.tc : Thread Cert.UOutAttnIdeal.nD Cert.UOutAttnIdeal.τ).loc Cert.UOutAttnIdeal.main_arg3) = m ((c.tc : Thread Cert.UOutAttnIdeal.nD Cert.UOutAttnIdeal.τ).loc Cert.UOutAttnIdeal.main_arg3)
          ∧ r.2.mem ((c.tc : Thread Cert.UOutAttnIdeal.nD Cert.UOutAttnIdeal.τ).loc Cert.UOutAttnIdeal.main_arg4) = m ((c.tc : Thread Cert.UOutAttnIdeal.nD Cert.UOutAttnIdeal.τ).loc Cert.UOutAttnIdeal.main_arg4)
          ∧ r.2.mem ((c.tc : Thread Cert.UOutAttnIdeal.nD Cert.UOutAttnIdeal.τ).loc Cert.UOutAttnIdeal.main_arg5) = m ((c.tc : Thread Cert.UOutAttnIdeal.nD Cert.UOutAttnIdeal.τ).loc Cert.UOutAttnIdeal.main_arg5)
          ∧ r.2.mem ((c.tc : Thread Cert.UOutAttnIdeal.nD Cert.UOutAttnIdeal.τ).loc Cert.UOutAttnIdeal.main_arg6) = m ((c.tc : Thread Cert.UOutAttnIdeal.nD Cert.UOutAttnIdeal.τ).loc Cert.UOutAttnIdeal.main_arg6)
          ∧ r.2.mem ((c.tc : Thread Cert.UOutAttnIdeal.nD Cert.UOutAttnIdeal.τ).loc Cert.UOutAttnIdeal.main_arg7) = m ((c.tc : Thread Cert.UOutAttnIdeal.nD Cert.UOutAttnIdeal.τ).loc Cert.UOutAttnIdeal.main_arg7)
          ∧ r.2.mem ((c.tc : Thread Cert.UOutAttnIdeal.nD Cert.UOutAttnIdeal.τ).loc Cert.UOutAttnIdeal.main_arg8) = m ((c.tc : Thread Cert.UOutAttnIdeal.nD Cert.UOutAttnIdeal.τ).loc Cert.UOutAttnIdeal.main_arg8))
      ∧ θ_run (Cert.UOutAttnRefIdeal.defs (F := Ideal)) (onTc (τ := Cert.UOutAttnRefIdeal.τ) (Cert.UOutAttnRefIdeal.main (F := Ideal))) ⟨m', fun _ => 0, g'⟩ (fun r => ∀ c : Dev Cert.UOutAttnRefIdeal.nD,
          r.2.mem ((c.tc : Thread Cert.UOutAttnRefIdeal.nD Cert.UOutAttnRefIdeal.τ).loc Cert.UOutAttnRefIdeal.main_v33) = v0 c
          ∧ r.2.mem ((c.tc : Thread Cert.UOutAttnRefIdeal.nD Cert.UOutAttnRefIdeal.τ).loc Cert.UOutAttnRefIdeal.main_v36) = v1 c
          ∧ r.2.mem ((c.tc : Thread Cert.UOutAttnRefIdeal.nD Cert.UOutAttnRefIdeal.τ).loc Cert.UOutAttnRefIdeal.main_v39) = v2 c
          ∧ r.2.mem ((c.tc : Thread Cert.UOutAttnRefIdeal.nD Cert.UOutAttnRefIdeal.τ).loc Cert.UOutAttnRefIdeal.main_v42) = v3 c
          ∧ r.2.mem ((c.tc : Thread Cert.UOutAttnRefIdeal.nD Cert.UOutAttnRefIdeal.τ).loc Cert.UOutAttnRefIdeal.main_arg0) = m' ((c.tc : Thread Cert.UOutAttnRefIdeal.nD Cert.UOutAttnRefIdeal.τ).loc Cert.UOutAttnRefIdeal.main_arg0)
          ∧ r.2.mem ((c.tc : Thread Cert.UOutAttnRefIdeal.nD Cert.UOutAttnRefIdeal.τ).loc Cert.UOutAttnRefIdeal.main_arg1) = m' ((c.tc : Thread Cert.UOutAttnRefIdeal.nD Cert.UOutAttnRefIdeal.τ).loc Cert.UOutAttnRefIdeal.main_arg1)
          ∧ r.2.mem ((c.tc : Thread Cert.UOutAttnRefIdeal.nD Cert.UOutAttnRefIdeal.τ).loc Cert.UOutAttnRefIdeal.main_arg2) = m' ((c.tc : Thread Cert.UOutAttnRefIdeal.nD Cert.UOutAttnRefIdeal.τ).loc Cert.UOutAttnRefIdeal.main_arg2)
          ∧ r.2.mem ((c.tc : Thread Cert.UOutAttnRefIdeal.nD Cert.UOutAttnRefIdeal.τ).loc Cert.UOutAttnRefIdeal.main_arg3) = m' ((c.tc : Thread Cert.UOutAttnRefIdeal.nD Cert.UOutAttnRefIdeal.τ).loc Cert.UOutAttnRefIdeal.main_arg3)
          ∧ r.2.mem ((c.tc : Thread Cert.UOutAttnRefIdeal.nD Cert.UOutAttnRefIdeal.τ).loc Cert.UOutAttnRefIdeal.main_arg4) = m' ((c.tc : Thread Cert.UOutAttnRefIdeal.nD Cert.UOutAttnRefIdeal.τ).loc Cert.UOutAttnRefIdeal.main_arg4)
          ∧ r.2.mem ((c.tc : Thread Cert.UOutAttnRefIdeal.nD Cert.UOutAttnRefIdeal.τ).loc Cert.UOutAttnRefIdeal.main_arg5) = m' ((c.tc : Thread Cert.UOutAttnRefIdeal.nD Cert.UOutAttnRefIdeal.τ).loc Cert.UOutAttnRefIdeal.main_arg5)
          ∧ r.2.mem ((c.tc : Thread Cert.UOutAttnRefIdeal.nD Cert.UOutAttnRefIdeal.τ).loc Cert.UOutAttnRefIdeal.main_arg6) = m' ((c.tc : Thread Cert.UOutAttnRefIdeal.nD Cert.UOutAttnRefIdeal.τ).loc Cert.UOutAttnRefIdeal.main_arg6)
          ∧ r.2.mem ((c.tc : Thread Cert.UOutAttnRefIdeal.nD Cert.UOutAttnRefIdeal.τ).loc Cert.UOutAttnRefIdeal.main_arg7) = m' ((c.tc : Thread Cert.UOutAttnRefIdeal.nD Cert.UOutAttnRefIdeal.τ).loc Cert.UOutAttnRefIdeal.main_arg7)
          ∧ r.2.mem ((c.tc : Thread Cert.UOutAttnRefIdeal.nD Cert.UOutAttnRefIdeal.τ).loc Cert.UOutAttnRefIdeal.main_arg8) = m' ((c.tc : Thread Cert.UOutAttnRefIdeal.nD Cert.UOutAttnRefIdeal.τ).loc Cert.UOutAttnRefIdeal.main_arg8))

def preserves_UDown_UDownIdeal : Prop :=
  True

def algebraic_UDownIdeal_UDownRefIdeal [hUDownIdeal : Cert.UDownIdeal.Facts] [hUDownRefIdeal : Cert.UDownRefIdeal.Facts] : Prop :=
  ∀ (m : (ℓ : Loc Cert.UDownIdeal.nD Cert.UDownIdeal.τ Cert.UDownIdeal.sig) → Buf (Elt Ideal) ℓ) (g : Dev Cert.UDownIdeal.nD → PrngReg)
    (m' : (ℓ : Loc Cert.UDownRefIdeal.nD Cert.UDownRefIdeal.τ Cert.UDownRefIdeal.sig) → Buf (Elt Ideal) ℓ) (g' : Dev Cert.UDownRefIdeal.nD → PrngReg), Pre_UDownIdeal m →
    (∀ c : Dev Cert.UDownIdeal.nD,
      m' ((c.tc : Thread Cert.UDownRefIdeal.nD Cert.UDownRefIdeal.τ).loc Cert.UDownRefIdeal.main_arg0) = m ((c.tc : Thread Cert.UDownIdeal.nD Cert.UDownIdeal.τ).loc Cert.UDownIdeal.main_arg0)
      ∧ m' ((c.tc : Thread Cert.UDownRefIdeal.nD Cert.UDownRefIdeal.τ).loc Cert.UDownRefIdeal.main_arg1) = m ((c.tc : Thread Cert.UDownIdeal.nD Cert.UDownIdeal.τ).loc Cert.UDownIdeal.main_arg1)
      ∧ m' ((c.tc : Thread Cert.UDownRefIdeal.nD Cert.UDownRefIdeal.τ).loc Cert.UDownRefIdeal.main_arg2) = m ((c.tc : Thread Cert.UDownIdeal.nD Cert.UDownIdeal.τ).loc Cert.UDownIdeal.main_arg2)
      ∧ m' ((c.tc : Thread Cert.UDownRefIdeal.nD Cert.UDownRefIdeal.τ).loc Cert.UDownRefIdeal.main_arg3) = m ((c.tc : Thread Cert.UDownIdeal.nD Cert.UDownIdeal.τ).loc Cert.UDownIdeal.main_arg3)
      ∧ m' ((c.tc : Thread Cert.UDownRefIdeal.nD Cert.UDownRefIdeal.τ).loc Cert.UDownRefIdeal.main_arg4) = m ((c.tc : Thread Cert.UDownIdeal.nD Cert.UDownIdeal.τ).loc Cert.UDownIdeal.main_arg4)
      ∧ m' ((c.tc : Thread Cert.UDownRefIdeal.nD Cert.UDownRefIdeal.τ).loc Cert.UDownRefIdeal.main_arg5) = m ((c.tc : Thread Cert.UDownIdeal.nD Cert.UDownIdeal.τ).loc Cert.UDownIdeal.main_arg5)
      ∧ m' ((c.tc : Thread Cert.UDownRefIdeal.nD Cert.UDownRefIdeal.τ).loc Cert.UDownRefIdeal.main_arg6) = m ((c.tc : Thread Cert.UDownIdeal.nD Cert.UDownIdeal.τ).loc Cert.UDownIdeal.main_arg6)
      ∧ m' ((c.tc : Thread Cert.UDownRefIdeal.nD Cert.UDownRefIdeal.τ).loc Cert.UDownRefIdeal.main_arg7) = m ((c.tc : Thread Cert.UDownIdeal.nD Cert.UDownIdeal.τ).loc Cert.UDownIdeal.main_arg7)
      ∧ m' ((c.tc : Thread Cert.UDownRefIdeal.nD Cert.UDownRefIdeal.τ).loc Cert.UDownRefIdeal.main_arg8) = m ((c.tc : Thread Cert.UDownIdeal.nD Cert.UDownIdeal.τ).loc Cert.UDownIdeal.main_arg8)) →
    ∃ (v0 : (c : Dev Cert.UDownIdeal.nD) → Buf (Elt Ideal) ((c.tc : Thread Cert.UDownIdeal.nD Cert.UDownIdeal.τ).loc Cert.UDownIdeal.main_v3_0)) (v1 : (c : Dev Cert.UDownIdeal.nD) → Buf (Elt Ideal) ((c.tc : Thread Cert.UDownIdeal.nD Cert.UDownIdeal.τ).loc Cert.UDownIdeal.main_v3_1)) (v2 : (c : Dev Cert.UDownIdeal.nD) → Buf (Elt Ideal) ((c.tc : Thread Cert.UDownIdeal.nD Cert.UDownIdeal.τ).loc Cert.UDownIdeal.main_v3_2)) (v3 : (c : Dev Cert.UDownIdeal.nD) → Buf (Elt Ideal) ((c.tc : Thread Cert.UDownIdeal.nD Cert.UDownIdeal.τ).loc Cert.UDownIdeal.main_v3_3)),
      θ_run (Cert.UDownIdeal.defs (F := Ideal)) (onTc (τ := Cert.UDownIdeal.τ) (Cert.UDownIdeal.main (F := Ideal))) ⟨m, fun _ => 0, g⟩ (fun r => ∀ c : Dev Cert.UDownIdeal.nD,
          r.2.mem ((c.tc : Thread Cert.UDownIdeal.nD Cert.UDownIdeal.τ).loc Cert.UDownIdeal.main_v3_0) = v0 c
          ∧ r.2.mem ((c.tc : Thread Cert.UDownIdeal.nD Cert.UDownIdeal.τ).loc Cert.UDownIdeal.main_v3_1) = v1 c
          ∧ r.2.mem ((c.tc : Thread Cert.UDownIdeal.nD Cert.UDownIdeal.τ).loc Cert.UDownIdeal.main_v3_2) = v2 c
          ∧ r.2.mem ((c.tc : Thread Cert.UDownIdeal.nD Cert.UDownIdeal.τ).loc Cert.UDownIdeal.main_v3_3) = v3 c
          ∧ r.2.mem ((c.tc : Thread Cert.UDownIdeal.nD Cert.UDownIdeal.τ).loc Cert.UDownIdeal.main_arg0) = m ((c.tc : Thread Cert.UDownIdeal.nD Cert.UDownIdeal.τ).loc Cert.UDownIdeal.main_arg0)
          ∧ r.2.mem ((c.tc : Thread Cert.UDownIdeal.nD Cert.UDownIdeal.τ).loc Cert.UDownIdeal.main_arg1) = m ((c.tc : Thread Cert.UDownIdeal.nD Cert.UDownIdeal.τ).loc Cert.UDownIdeal.main_arg1)
          ∧ r.2.mem ((c.tc : Thread Cert.UDownIdeal.nD Cert.UDownIdeal.τ).loc Cert.UDownIdeal.main_arg2) = m ((c.tc : Thread Cert.UDownIdeal.nD Cert.UDownIdeal.τ).loc Cert.UDownIdeal.main_arg2)
          ∧ r.2.mem ((c.tc : Thread Cert.UDownIdeal.nD Cert.UDownIdeal.τ).loc Cert.UDownIdeal.main_arg3) = m ((c.tc : Thread Cert.UDownIdeal.nD Cert.UDownIdeal.τ).loc Cert.UDownIdeal.main_arg3)
          ∧ r.2.mem ((c.tc : Thread Cert.UDownIdeal.nD Cert.UDownIdeal.τ).loc Cert.UDownIdeal.main_arg4) = m ((c.tc : Thread Cert.UDownIdeal.nD Cert.UDownIdeal.τ).loc Cert.UDownIdeal.main_arg4)
          ∧ r.2.mem ((c.tc : Thread Cert.UDownIdeal.nD Cert.UDownIdeal.τ).loc Cert.UDownIdeal.main_arg5) = m ((c.tc : Thread Cert.UDownIdeal.nD Cert.UDownIdeal.τ).loc Cert.UDownIdeal.main_arg5)
          ∧ r.2.mem ((c.tc : Thread Cert.UDownIdeal.nD Cert.UDownIdeal.τ).loc Cert.UDownIdeal.main_arg6) = m ((c.tc : Thread Cert.UDownIdeal.nD Cert.UDownIdeal.τ).loc Cert.UDownIdeal.main_arg6)
          ∧ r.2.mem ((c.tc : Thread Cert.UDownIdeal.nD Cert.UDownIdeal.τ).loc Cert.UDownIdeal.main_arg7) = m ((c.tc : Thread Cert.UDownIdeal.nD Cert.UDownIdeal.τ).loc Cert.UDownIdeal.main_arg7)
          ∧ r.2.mem ((c.tc : Thread Cert.UDownIdeal.nD Cert.UDownIdeal.τ).loc Cert.UDownIdeal.main_arg8) = m ((c.tc : Thread Cert.UDownIdeal.nD Cert.UDownIdeal.τ).loc Cert.UDownIdeal.main_arg8))
      ∧ θ_run (Cert.UDownRefIdeal.defs (F := Ideal)) (onTc (τ := Cert.UDownRefIdeal.τ) (Cert.UDownRefIdeal.main (F := Ideal))) ⟨m', fun _ => 0, g'⟩ (fun r => ∀ c : Dev Cert.UDownRefIdeal.nD,
          r.2.mem ((c.tc : Thread Cert.UDownRefIdeal.nD Cert.UDownRefIdeal.τ).loc Cert.UDownRefIdeal.main_v33) = v0 c
          ∧ r.2.mem ((c.tc : Thread Cert.UDownRefIdeal.nD Cert.UDownRefIdeal.τ).loc Cert.UDownRefIdeal.main_v36) = v1 c
          ∧ r.2.mem ((c.tc : Thread Cert.UDownRefIdeal.nD Cert.UDownRefIdeal.τ).loc Cert.UDownRefIdeal.main_v39) = v2 c
          ∧ r.2.mem ((c.tc : Thread Cert.UDownRefIdeal.nD Cert.UDownRefIdeal.τ).loc Cert.UDownRefIdeal.main_v42) = v3 c
          ∧ r.2.mem ((c.tc : Thread Cert.UDownRefIdeal.nD Cert.UDownRefIdeal.τ).loc Cert.UDownRefIdeal.main_arg0) = m' ((c.tc : Thread Cert.UDownRefIdeal.nD Cert.UDownRefIdeal.τ).loc Cert.UDownRefIdeal.main_arg0)
          ∧ r.2.mem ((c.tc : Thread Cert.UDownRefIdeal.nD Cert.UDownRefIdeal.τ).loc Cert.UDownRefIdeal.main_arg1) = m' ((c.tc : Thread Cert.UDownRefIdeal.nD Cert.UDownRefIdeal.τ).loc Cert.UDownRefIdeal.main_arg1)
          ∧ r.2.mem ((c.tc : Thread Cert.UDownRefIdeal.nD Cert.UDownRefIdeal.τ).loc Cert.UDownRefIdeal.main_arg2) = m' ((c.tc : Thread Cert.UDownRefIdeal.nD Cert.UDownRefIdeal.τ).loc Cert.UDownRefIdeal.main_arg2)
          ∧ r.2.mem ((c.tc : Thread Cert.UDownRefIdeal.nD Cert.UDownRefIdeal.τ).loc Cert.UDownRefIdeal.main_arg3) = m' ((c.tc : Thread Cert.UDownRefIdeal.nD Cert.UDownRefIdeal.τ).loc Cert.UDownRefIdeal.main_arg3)
          ∧ r.2.mem ((c.tc : Thread Cert.UDownRefIdeal.nD Cert.UDownRefIdeal.τ).loc Cert.UDownRefIdeal.main_arg4) = m' ((c.tc : Thread Cert.UDownRefIdeal.nD Cert.UDownRefIdeal.τ).loc Cert.UDownRefIdeal.main_arg4)
          ∧ r.2.mem ((c.tc : Thread Cert.UDownRefIdeal.nD Cert.UDownRefIdeal.τ).loc Cert.UDownRefIdeal.main_arg5) = m' ((c.tc : Thread Cert.UDownRefIdeal.nD Cert.UDownRefIdeal.τ).loc Cert.UDownRefIdeal.main_arg5)
          ∧ r.2.mem ((c.tc : Thread Cert.UDownRefIdeal.nD Cert.UDownRefIdeal.τ).loc Cert.UDownRefIdeal.main_arg6) = m' ((c.tc : Thread Cert.UDownRefIdeal.nD Cert.UDownRefIdeal.τ).loc Cert.UDownRefIdeal.main_arg6)
          ∧ r.2.mem ((c.tc : Thread Cert.UDownRefIdeal.nD Cert.UDownRefIdeal.τ).loc Cert.UDownRefIdeal.main_arg7) = m' ((c.tc : Thread Cert.UDownRefIdeal.nD Cert.UDownRefIdeal.τ).loc Cert.UDownRefIdeal.main_arg7)
          ∧ r.2.mem ((c.tc : Thread Cert.UDownRefIdeal.nD Cert.UDownRefIdeal.τ).loc Cert.UDownRefIdeal.main_arg8) = m' ((c.tc : Thread Cert.UDownRefIdeal.nD Cert.UDownRefIdeal.τ).loc Cert.UDownRefIdeal.main_arg8))

def Claim : Prop :=
  ∃ (hConv : Cert.Conv.Facts) (hConvIdeal : Cert.ConvIdeal.Facts) (hConvRefIdeal : Cert.ConvRefIdeal.Facts) (hAttn : Cert.Attn.Facts) (hAttnIdeal : Cert.AttnIdeal.Facts) (hAttnRefIdeal : Cert.AttnRefIdeal.Facts) (hDAct : Cert.DAct.Facts) (hDActIdeal : Cert.DActIdeal.Facts) (hDActRefIdeal : Cert.DActRefIdeal.Facts) (hDH2 : Cert.DH2.Facts) (hDH2Ideal : Cert.DH2Ideal.Facts) (hDH2RefIdeal : Cert.DH2RefIdeal.Facts) (hDMix : Cert.DMix.Facts) (hDMixIdeal : Cert.DMixIdeal.Facts) (hDMixRefIdeal : Cert.DMixRefIdeal.Facts) (hDA : Cert.DA.Facts) (hDAIdeal : Cert.DAIdeal.Facts) (hDARefIdeal : Cert.DARefIdeal.Facts) (hDO : Cert.DO.Facts) (hDOIdeal : Cert.DOIdeal.Facts) (hDORefIdeal : Cert.DORefIdeal.Facts) (hDH : Cert.DH.Facts) (hDHIdeal : Cert.DHIdeal.Facts) (hDHRefIdeal : Cert.DHRefIdeal.Facts) (hIn : Cert.In.Facts) (hInIdeal : Cert.InIdeal.Facts) (hInRefIdeal : Cert.InRefIdeal.Facts) (hOutConv : Cert.OutConv.Facts) (hOutConvIdeal : Cert.OutConvIdeal.Facts) (hOutConvRefIdeal : Cert.OutConvRefIdeal.Facts) (hOutAttn : Cert.OutAttn.Facts) (hOutAttnIdeal : Cert.OutAttnIdeal.Facts) (hOutAttnRefIdeal : Cert.OutAttnRefIdeal.Facts) (hMerge : Cert.Merge.Facts) (hMergeIdeal : Cert.MergeIdeal.Facts) (hMergeRefIdeal : Cert.MergeRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hGUpSend : Cert.GUpSend.Facts) (hGUpSendIdeal : Cert.GUpSendIdeal.Facts) (hGUpSendRefIdeal : Cert.GUpSendRefIdeal.Facts) (hGUpKeep : Cert.GUpKeep.Facts) (hGUpKeepIdeal : Cert.GUpKeepIdeal.Facts) (hGUpKeepRefIdeal : Cert.GUpKeepRefIdeal.Facts) (hGDownSend : Cert.GDownSend.Facts) (hGDownSendIdeal : Cert.GDownSendIdeal.Facts) (hGDownSendRefIdeal : Cert.GDownSendRefIdeal.Facts) (hGDownKeep : Cert.GDownKeep.Facts) (hGDownKeepIdeal : Cert.GDownKeepIdeal.Facts) (hGDownKeepRefIdeal : Cert.GDownKeepRefIdeal.Facts) (hGOutConvSend : Cert.GOutConvSend.Facts) (hGOutConvSendIdeal : Cert.GOutConvSendIdeal.Facts) (hGOutConvSendRefIdeal : Cert.GOutConvSendRefIdeal.Facts) (hGOutConvKeep : Cert.GOutConvKeep.Facts) (hGOutConvKeepIdeal : Cert.GOutConvKeepIdeal.Facts) (hGOutConvKeepRefIdeal : Cert.GOutConvKeepRefIdeal.Facts) (hGOutAttnSend : Cert.GOutAttnSend.Facts) (hGOutAttnSendIdeal : Cert.GOutAttnSendIdeal.Facts) (hGOutAttnSendRefIdeal : Cert.GOutAttnSendRefIdeal.Facts) (hGOutAttnKeep : Cert.GOutAttnKeep.Facts) (hGOutAttnKeepIdeal : Cert.GOutAttnKeepIdeal.Facts) (hGOutAttnKeepRefIdeal : Cert.GOutAttnKeepRefIdeal.Facts) (hGMergeSend : Cert.GMergeSend.Facts) (hGMergeSendIdeal : Cert.GMergeSendIdeal.Facts) (hGMergeSendRefIdeal : Cert.GMergeSendRefIdeal.Facts) (hGMergeKeep : Cert.GMergeKeep.Facts) (hGMergeKeepIdeal : Cert.GMergeKeepIdeal.Facts) (hGMergeKeepRefIdeal : Cert.GMergeKeepRefIdeal.Facts) (hGInSend : Cert.GInSend.Facts) (hGInSendIdeal : Cert.GInSendIdeal.Facts) (hGInSendRefIdeal : Cert.GInSendRefIdeal.Facts) (hGInKeep : Cert.GInKeep.Facts) (hGInKeepIdeal : Cert.GInKeepIdeal.Facts) (hGInKeepRefIdeal : Cert.GInKeepRefIdeal.Facts) (hSmall : Cert.Small.Facts) (hSmallIdeal : Cert.SmallIdeal.Facts) (hSmallRefIdeal : Cert.SmallRefIdeal.Facts) (hUUp : Cert.UUp.Facts) (hUUpIdeal : Cert.UUpIdeal.Facts) (hUUpRefIdeal : Cert.UUpRefIdeal.Facts) (hUIn : Cert.UIn.Facts) (hUInIdeal : Cert.UInIdeal.Facts) (hUInRefIdeal : Cert.UInRefIdeal.Facts) (hUMerge : Cert.UMerge.Facts) (hUMergeIdeal : Cert.UMergeIdeal.Facts) (hUMergeRefIdeal : Cert.UMergeRefIdeal.Facts) (hUOutConv : Cert.UOutConv.Facts) (hUOutConvIdeal : Cert.UOutConvIdeal.Facts) (hUOutConvRefIdeal : Cert.UOutConvRefIdeal.Facts) (hUOutAttn : Cert.UOutAttn.Facts) (hUOutAttnIdeal : Cert.UOutAttnIdeal.Facts) (hUOutAttnRefIdeal : Cert.UOutAttnRefIdeal.Facts) (hUDown : Cert.UDown.Facts) (hUDownIdeal : Cert.UDownIdeal.Facts) (hUDownRefIdeal : Cert.UDownRefIdeal.Facts) (hPre_attn_finite : Cert.Pre_attn_finite.Facts),
    quiescent_Conv (hConv := hConv)
    ∧ quiescent_ConvIdeal (hConvIdeal := hConvIdeal)
    ∧ quiescent_ConvRefIdeal (hConvRefIdeal := hConvRefIdeal)
    ∧ quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_DAct (hDAct := hDAct)
    ∧ quiescent_DActIdeal (hDActIdeal := hDActIdeal)
    ∧ quiescent_DActRefIdeal (hDActRefIdeal := hDActRefIdeal)
    ∧ quiescent_DH2 (hDH2 := hDH2)
    ∧ quiescent_DH2Ideal (hDH2Ideal := hDH2Ideal)
    ∧ quiescent_DH2RefIdeal (hDH2RefIdeal := hDH2RefIdeal)
    ∧ quiescent_DMix (hDMix := hDMix)
    ∧ quiescent_DMixIdeal (hDMixIdeal := hDMixIdeal)
    ∧ quiescent_DMixRefIdeal (hDMixRefIdeal := hDMixRefIdeal)
    ∧ quiescent_DA (hDA := hDA)
    ∧ quiescent_DAIdeal (hDAIdeal := hDAIdeal)
    ∧ quiescent_DARefIdeal (hDARefIdeal := hDARefIdeal)
    ∧ quiescent_DO (hDO := hDO)
    ∧ quiescent_DOIdeal (hDOIdeal := hDOIdeal)
    ∧ quiescent_DORefIdeal (hDORefIdeal := hDORefIdeal)
    ∧ quiescent_DH (hDH := hDH)
    ∧ quiescent_DHIdeal (hDHIdeal := hDHIdeal)
    ∧ quiescent_DHRefIdeal (hDHRefIdeal := hDHRefIdeal)
    ∧ quiescent_In (hIn := hIn)
    ∧ quiescent_InIdeal (hInIdeal := hInIdeal)
    ∧ quiescent_InRefIdeal (hInRefIdeal := hInRefIdeal)
    ∧ quiescent_OutConv (hOutConv := hOutConv)
    ∧ quiescent_OutConvIdeal (hOutConvIdeal := hOutConvIdeal)
    ∧ quiescent_OutConvRefIdeal (hOutConvRefIdeal := hOutConvRefIdeal)
    ∧ quiescent_OutAttn (hOutAttn := hOutAttn)
    ∧ quiescent_OutAttnIdeal (hOutAttnIdeal := hOutAttnIdeal)
    ∧ quiescent_OutAttnRefIdeal (hOutAttnRefIdeal := hOutAttnRefIdeal)
    ∧ quiescent_Merge (hMerge := hMerge)
    ∧ quiescent_MergeIdeal (hMergeIdeal := hMergeIdeal)
    ∧ quiescent_MergeRefIdeal (hMergeRefIdeal := hMergeRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_GUpSend (hGUpSend := hGUpSend)
    ∧ quiescent_GUpSendIdeal (hGUpSendIdeal := hGUpSendIdeal)
    ∧ quiescent_GUpSendRefIdeal (hGUpSendRefIdeal := hGUpSendRefIdeal)
    ∧ quiescent_GUpKeep (hGUpKeep := hGUpKeep)
    ∧ quiescent_GUpKeepIdeal (hGUpKeepIdeal := hGUpKeepIdeal)
    ∧ quiescent_GUpKeepRefIdeal (hGUpKeepRefIdeal := hGUpKeepRefIdeal)
    ∧ quiescent_GDownSend (hGDownSend := hGDownSend)
    ∧ quiescent_GDownSendIdeal (hGDownSendIdeal := hGDownSendIdeal)
    ∧ quiescent_GDownSendRefIdeal (hGDownSendRefIdeal := hGDownSendRefIdeal)
    ∧ quiescent_GDownKeep (hGDownKeep := hGDownKeep)
    ∧ quiescent_GDownKeepIdeal (hGDownKeepIdeal := hGDownKeepIdeal)
    ∧ quiescent_GDownKeepRefIdeal (hGDownKeepRefIdeal := hGDownKeepRefIdeal)
    ∧ quiescent_GOutConvSend (hGOutConvSend := hGOutConvSend)
    ∧ quiescent_GOutConvSendIdeal (hGOutConvSendIdeal := hGOutConvSendIdeal)
    ∧ quiescent_GOutConvSendRefIdeal (hGOutConvSendRefIdeal := hGOutConvSendRefIdeal)
    ∧ quiescent_GOutConvKeep (hGOutConvKeep := hGOutConvKeep)
    ∧ quiescent_GOutConvKeepIdeal (hGOutConvKeepIdeal := hGOutConvKeepIdeal)
    ∧ quiescent_GOutConvKeepRefIdeal (hGOutConvKeepRefIdeal := hGOutConvKeepRefIdeal)
    ∧ quiescent_GOutAttnSend (hGOutAttnSend := hGOutAttnSend)
    ∧ quiescent_GOutAttnSendIdeal (hGOutAttnSendIdeal := hGOutAttnSendIdeal)
    ∧ quiescent_GOutAttnSendRefIdeal (hGOutAttnSendRefIdeal := hGOutAttnSendRefIdeal)
    ∧ quiescent_GOutAttnKeep (hGOutAttnKeep := hGOutAttnKeep)
    ∧ quiescent_GOutAttnKeepIdeal (hGOutAttnKeepIdeal := hGOutAttnKeepIdeal)
    ∧ quiescent_GOutAttnKeepRefIdeal (hGOutAttnKeepRefIdeal := hGOutAttnKeepRefIdeal)
    ∧ quiescent_GMergeSend (hGMergeSend := hGMergeSend)
    ∧ quiescent_GMergeSendIdeal (hGMergeSendIdeal := hGMergeSendIdeal)
    ∧ quiescent_GMergeSendRefIdeal (hGMergeSendRefIdeal := hGMergeSendRefIdeal)
    ∧ quiescent_GMergeKeep (hGMergeKeep := hGMergeKeep)
    ∧ quiescent_GMergeKeepIdeal (hGMergeKeepIdeal := hGMergeKeepIdeal)
    ∧ quiescent_GMergeKeepRefIdeal (hGMergeKeepRefIdeal := hGMergeKeepRefIdeal)
    ∧ quiescent_GInSend (hGInSend := hGInSend)
    ∧ quiescent_GInSendIdeal (hGInSendIdeal := hGInSendIdeal)
    ∧ quiescent_GInSendRefIdeal (hGInSendRefIdeal := hGInSendRefIdeal)
    ∧ quiescent_GInKeep (hGInKeep := hGInKeep)
    ∧ quiescent_GInKeepIdeal (hGInKeepIdeal := hGInKeepIdeal)
    ∧ quiescent_GInKeepRefIdeal (hGInKeepRefIdeal := hGInKeepRefIdeal)
    ∧ quiescent_Small (hSmall := hSmall)
    ∧ quiescent_SmallIdeal (hSmallIdeal := hSmallIdeal)
    ∧ quiescent_SmallRefIdeal (hSmallRefIdeal := hSmallRefIdeal)
    ∧ quiescent_UUp (hUUp := hUUp)
    ∧ quiescent_UUpIdeal (hUUpIdeal := hUUpIdeal)
    ∧ quiescent_UUpRefIdeal (hUUpRefIdeal := hUUpRefIdeal)
    ∧ quiescent_UIn (hUIn := hUIn)
    ∧ quiescent_UInIdeal (hUInIdeal := hUInIdeal)
    ∧ quiescent_UInRefIdeal (hUInRefIdeal := hUInRefIdeal)
    ∧ quiescent_UMerge (hUMerge := hUMerge)
    ∧ quiescent_UMergeIdeal (hUMergeIdeal := hUMergeIdeal)
    ∧ quiescent_UMergeRefIdeal (hUMergeRefIdeal := hUMergeRefIdeal)
    ∧ quiescent_UOutConv (hUOutConv := hUOutConv)
    ∧ quiescent_UOutConvIdeal (hUOutConvIdeal := hUOutConvIdeal)
    ∧ quiescent_UOutConvRefIdeal (hUOutConvRefIdeal := hUOutConvRefIdeal)
    ∧ quiescent_UOutAttn (hUOutAttn := hUOutAttn)
    ∧ quiescent_UOutAttnIdeal (hUOutAttnIdeal := hUOutAttnIdeal)
    ∧ quiescent_UOutAttnRefIdeal (hUOutAttnRefIdeal := hUOutAttnRefIdeal)
    ∧ quiescent_UDown (hUDown := hUDown)
    ∧ quiescent_UDownIdeal (hUDownIdeal := hUDownIdeal)
    ∧ quiescent_UDownRefIdeal (hUDownRefIdeal := hUDownRefIdeal)
    ∧ preserves_Conv_ConvIdeal
    ∧ algebraic_ConvIdeal_ConvRefIdeal (hConvIdeal := hConvIdeal) (hConvRefIdeal := hConvRefIdeal)
    ∧ preserves_Attn_AttnIdeal
    ∧ algebraic_AttnIdeal_AttnRefIdeal_pre_attn_finite (hAttnIdeal := hAttnIdeal) (hAttnRefIdeal := hAttnRefIdeal) (hPre_attn_finite := hPre_attn_finite)
    ∧ preserves_DAct_DActIdeal
    ∧ algebraic_DActIdeal_DActRefIdeal (hDActIdeal := hDActIdeal) (hDActRefIdeal := hDActRefIdeal)
    ∧ preserves_DH2_DH2Ideal
    ∧ algebraic_DH2Ideal_DH2RefIdeal (hDH2Ideal := hDH2Ideal) (hDH2RefIdeal := hDH2RefIdeal)
    ∧ preserves_DMix_DMixIdeal
    ∧ algebraic_DMixIdeal_DMixRefIdeal (hDMixIdeal := hDMixIdeal) (hDMixRefIdeal := hDMixRefIdeal)
    ∧ preserves_DA_DAIdeal
    ∧ algebraic_DAIdeal_DARefIdeal (hDAIdeal := hDAIdeal) (hDARefIdeal := hDARefIdeal)
    ∧ preserves_DO_DOIdeal
    ∧ algebraic_DOIdeal_DORefIdeal (hDOIdeal := hDOIdeal) (hDORefIdeal := hDORefIdeal)
    ∧ preserves_DH_DHIdeal
    ∧ algebraic_DHIdeal_DHRefIdeal (hDHIdeal := hDHIdeal) (hDHRefIdeal := hDHRefIdeal)
    ∧ preserves_In_InIdeal
    ∧ algebraic_InIdeal_InRefIdeal (hInIdeal := hInIdeal) (hInRefIdeal := hInRefIdeal)
    ∧ preserves_OutConv_OutConvIdeal
    ∧ algebraic_OutConvIdeal_OutConvRefIdeal (hOutConvIdeal := hOutConvIdeal) (hOutConvRefIdeal := hOutConvRefIdeal)
    ∧ preserves_OutAttn_OutAttnIdeal
    ∧ algebraic_OutAttnIdeal_OutAttnRefIdeal (hOutAttnIdeal := hOutAttnIdeal) (hOutAttnRefIdeal := hOutAttnRefIdeal)
    ∧ preserves_Merge_MergeIdeal
    ∧ algebraic_MergeIdeal_MergeRefIdeal (hMergeIdeal := hMergeIdeal) (hMergeRefIdeal := hMergeRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_GUpSend_GUpSendIdeal
    ∧ algebraic_GUpSendIdeal_GUpSendRefIdeal (hGUpSendIdeal := hGUpSendIdeal) (hGUpSendRefIdeal := hGUpSendRefIdeal)
    ∧ preserves_GUpKeep_GUpKeepIdeal
    ∧ algebraic_GUpKeepIdeal_GUpKeepRefIdeal (hGUpKeepIdeal := hGUpKeepIdeal) (hGUpKeepRefIdeal := hGUpKeepRefIdeal)
    ∧ preserves_GDownSend_GDownSendIdeal
    ∧ algebraic_GDownSendIdeal_GDownSendRefIdeal (hGDownSendIdeal := hGDownSendIdeal) (hGDownSendRefIdeal := hGDownSendRefIdeal)
    ∧ preserves_GDownKeep_GDownKeepIdeal
    ∧ algebraic_GDownKeepIdeal_GDownKeepRefIdeal (hGDownKeepIdeal := hGDownKeepIdeal) (hGDownKeepRefIdeal := hGDownKeepRefIdeal)
    ∧ preserves_GOutConvSend_GOutConvSendIdeal
    ∧ algebraic_GOutConvSendIdeal_GOutConvSendRefIdeal (hGOutConvSendIdeal := hGOutConvSendIdeal) (hGOutConvSendRefIdeal := hGOutConvSendRefIdeal)
    ∧ preserves_GOutConvKeep_GOutConvKeepIdeal
    ∧ algebraic_GOutConvKeepIdeal_GOutConvKeepRefIdeal (hGOutConvKeepIdeal := hGOutConvKeepIdeal) (hGOutConvKeepRefIdeal := hGOutConvKeepRefIdeal)
    ∧ preserves_GOutAttnSend_GOutAttnSendIdeal
    ∧ algebraic_GOutAttnSendIdeal_GOutAttnSendRefIdeal (hGOutAttnSendIdeal := hGOutAttnSendIdeal) (hGOutAttnSendRefIdeal := hGOutAttnSendRefIdeal)
    ∧ preserves_GOutAttnKeep_GOutAttnKeepIdeal
    ∧ algebraic_GOutAttnKeepIdeal_GOutAttnKeepRefIdeal (hGOutAttnKeepIdeal := hGOutAttnKeepIdeal) (hGOutAttnKeepRefIdeal := hGOutAttnKeepRefIdeal)
    ∧ preserves_GMergeSend_GMergeSendIdeal
    ∧ algebraic_GMergeSendIdeal_GMergeSendRefIdeal (hGMergeSendIdeal := hGMergeSendIdeal) (hGMergeSendRefIdeal := hGMergeSendRefIdeal)
    ∧ preserves_GMergeKeep_GMergeKeepIdeal
    ∧ algebraic_GMergeKeepIdeal_GMergeKeepRefIdeal (hGMergeKeepIdeal := hGMergeKeepIdeal) (hGMergeKeepRefIdeal := hGMergeKeepRefIdeal)
    ∧ preserves_GInSend_GInSendIdeal
    ∧ algebraic_GInSendIdeal_GInSendRefIdeal (hGInSendIdeal := hGInSendIdeal) (hGInSendRefIdeal := hGInSendRefIdeal)
    ∧ preserves_GInKeep_GInKeepIdeal
    ∧ algebraic_GInKeepIdeal_GInKeepRefIdeal (hGInKeepIdeal := hGInKeepIdeal) (hGInKeepRefIdeal := hGInKeepRefIdeal)
    ∧ preserves_Small_SmallIdeal
    ∧ algebraic_SmallIdeal_SmallRefIdeal (hSmallIdeal := hSmallIdeal) (hSmallRefIdeal := hSmallRefIdeal)
    ∧ preserves_UUp_UUpIdeal
    ∧ algebraic_UUpIdeal_UUpRefIdeal (hUUpIdeal := hUUpIdeal) (hUUpRefIdeal := hUUpRefIdeal)
    ∧ preserves_UIn_UInIdeal
    ∧ algebraic_UInIdeal_UInRefIdeal (hUInIdeal := hUInIdeal) (hUInRefIdeal := hUInRefIdeal)
    ∧ preserves_UMerge_UMergeIdeal
    ∧ algebraic_UMergeIdeal_UMergeRefIdeal (hUMergeIdeal := hUMergeIdeal) (hUMergeRefIdeal := hUMergeRefIdeal)
    ∧ preserves_UOutConv_UOutConvIdeal
    ∧ algebraic_UOutConvIdeal_UOutConvRefIdeal (hUOutConvIdeal := hUOutConvIdeal) (hUOutConvRefIdeal := hUOutConvRefIdeal)
    ∧ preserves_UOutAttn_UOutAttnIdeal
    ∧ algebraic_UOutAttnIdeal_UOutAttnRefIdeal (hUOutAttnIdeal := hUOutAttnIdeal) (hUOutAttnRefIdeal := hUOutAttnRefIdeal)
    ∧ preserves_UDown_UDownIdeal
    ∧ algebraic_UDownIdeal_UDownRefIdeal (hUDownIdeal := hUDownIdeal) (hUDownRefIdeal := hUDownRefIdeal)
-- ==== Pre_attn_finite.lean ====
abbrev S4096x2048 : Shape := ⟨2, ![4096, 2048]⟩
abbrev S4096x512 : Shape := ⟨2, ![4096, 512]⟩
abbrev S_ : Shape := ⟨0, ![]⟩
abbrev S1 : Shape := ⟨1, ![1]⟩
abbrev S4 : Shape := ⟨1, ![4]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_
  bcast_S_S1 : S_.BroadcastsInDim S1 (![] : Fin 0 → Fin S1.rank)
  concatenates_S1_S1_S1_S1_S4_d0 : Shape.Concatenates [S1, S1, S1, S1] S4 0
  reducesTo_S4_S_d0 : S4.ReducesTo [0] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S1 1 := broadcastInDim S1 ![] bcast_S_S1 main_v3
  let main_v17 : IVec S1 1 := broadcastInDim S1 ![] bcast_S_S1 main_v7
  let main_v18 : IVec S1 1 := broadcastInDim S1 ![] bcast_S_S1 main_v11
  let main_v19 : IVec S1 1 := broadcastInDim S1 ![] bcast_S_S1 main_v15
  let main_v20 : IVec S4 1 := concatenate S4 0 [⟨S1, main_v16⟩, ⟨S1, main_v17⟩, ⟨S1, main_v18⟩, ⟨S1, main_v19⟩] concatenates_S1_S1_S1_S1_S4_d0
  let main_c_6 : IVec S_ 1 := constantI S_ 1 1#1
  let main_v21 : IVec S_ 1 := (fun x v => Host.reduce IntOp.andi x v reducesTo_S4_S_d0 h_S_) main_v20 main_c_6
  main_v21

def fn {F : FTy → Type} [FloatOps F] (main_arg0 : FVec F S4096x2048 .f32) (main_arg1 : FVec F S4096x512 .f32) (main_arg2 : FVec F S4096x512 .f32) (main_arg3 : FVec F S4096x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : FVec F S4096x512 .f32 := Host.absf main_arg2
  let main_cst_2 : FVec F S_ .f32 := constant S_ .f32 0x7F800000#32
  let main_v9 : FVec F S4096x512 .f32 := broadcastInDim S4096x512 ![] bcast_S_S4096x512 main_cst_2
  let main_v10 : IVec S4096x512 1 := cmpf .olt main_v8 main_v9
  let main_c_3 : IVec S_ 1 := constantI S_ 1 1#1
  let main_v11 : IVec S_ 1 := (fun x v => Host.reduce IntOp.andi x v reducesTo_S4096x512_S_d0_1 h_S_) main_v10 main_c_3
  let main_v12 : FVec F S4096x2048 .f32 := Host.absf main_arg3
  let main_cst_4 : FVec F S_ .f32 := constant S_ .f32 0x7F800000#32
  let main_v13 : FVec F S4096x2048 .f32 := broadcastInDim S4096x2048 ![] bcast_S_S4096x2048 main_cst_4
  let main_v14 : IVec S4096x2048 1 := cmpf .olt main_v12 main_v13
  let main_c_5 : IVec S_ 1 := constantI S_ 1 1#1
  let main_v15 : IVec S_ 1 := (fun x v => Host.reduce IntOp.andi x v reducesTo_S4096x2048_S_d0_1 h_S_) main_v14 main_c_5
  fn_part1 (F := F) main_v3 main_v7 main_v11 main_v15
-- ==== Conv.lean ====
abbrev S4096x13312 : Shape := ⟨2, ![4096, 13312]⟩
abbrev S3x2048 : Shape := ⟨2, ![3, 2048]⟩
abbrev S4096x2048 : Shape := ⟨2, ![4096, 2048]⟩
abbrev S4096x128 : Shape := ⟨2, ![4096, 128]⟩
abbrev S3x128 : Shape := ⟨2, ![3, 128]⟩
abbrev S1x128 : Shape := ⟨2, ![1, 128]⟩
abbrev S128 : Shape := ⟨1, ![128]⟩

abbrev nBuf : Space → Nat
  | .hbm => 7
  | .vmem => 18
  | .smem => 0
  | _ => 0

abbrev bufTy : (tb : Table) → Fin (tcTables nBuf tb) → BufTy
  | .hbm, ⟨0, _⟩ => ⟨S4096x13312, .bf16⟩
  | .hbm, ⟨1, _⟩ => ⟨S3x2048, .f32⟩
  | .hbm, ⟨2, _⟩ => ⟨S4096x2048, .bf16⟩
  | .hbm, ⟨3, _⟩ => ⟨S4096x2048, .bf16⟩
  | .hbm, ⟨4, _⟩ => ⟨S4096x2048, .bf16⟩
  | .hbm, ⟨5, _⟩ => ⟨S4096x2048, .bf16⟩
  | .hbm, ⟨6, _⟩ => ⟨S3x2048, .f32⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S3x128, .f32⟩
  | .local _ .vmem, ⟨7, _⟩ => ⟨S3x128, .f32⟩
  | .local _ .vmem, ⟨8, _⟩ => ⟨S4096x128, .bf16⟩
  | .local _ .vmem, ⟨9, _⟩ => ⟨S4096x128, .bf16⟩
  | .local _ .vmem, ⟨10, _⟩ => ⟨S4096x128, .bf16⟩
  | .local _ .vmem, ⟨11, _⟩ => ⟨S4096x128, .bf16⟩
  | .local _ .vmem, ⟨12, _⟩ => ⟨S4096x128, .bf16⟩
  | .local _ .vmem, ⟨13, _⟩ => ⟨S4096x128, .bf16⟩
  | .local _ .vmem, ⟨14, _⟩ => ⟨S4096x128, .bf16⟩
  | .local _ .vmem, ⟨15, _⟩ => ⟨S4096x128, .bf16⟩
  | .local _ .vmem, ⟨16, _⟩ => ⟨S3x128, .f32⟩
  | .local _ .vmem, ⟨17, _⟩ => ⟨S3x128, .f32⟩
  | _, _ => ⟨S4096x13312, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S3x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ConvRefIdeal.lean ====
abbrev S4096x13312 : Shape := ⟨2, ![4096, 13312]⟩
abbrev S3x2048 : Shape := ⟨2, ![3, 2048]⟩
abbrev S4096x2048 : Shape := ⟨2, ![4096, 2048]⟩
abbrev S_ : Shape := ⟨0, ![]⟩
abbrev S1x2048 : Shape := ⟨2, ![1, 2048]⟩
abbrev S4098x2048 : Shape := ⟨2, ![4098, 2048]⟩
abbrev S2048 : Shape := ⟨1, ![2048]⟩

abbrev nBuf : Space → Nat
  | .hbm => 90
  | .vmem => 0
  | .smem => 0
  | _ => 0

abbrev bufTy : (tb : Table) → Fin (tcTables nBuf tb) → BufTy
  | .hbm, ⟨0, _⟩ => ⟨S4096x13312, .bf16⟩
  | .hbm, ⟨1, _⟩ => ⟨S3x2048, .f32⟩
  | .hbm, ⟨2, _⟩ => ⟨S4096x2048, .bf16⟩
  | .hbm, ⟨3, _⟩ => ⟨S4096x13312, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S1x2048, .f32⟩
  | .hbm, ⟨10, _⟩ => ⟨S4098x2048, .f32⟩
  | .hbm, ⟨11, _⟩ => ⟨S_, .f32⟩
  | .hbm, ⟨12, _⟩ => ⟨S1x2048, .f32⟩
  | .hbm, ⟨13, _⟩ => ⟨S_, .f32⟩
  | .hbm, ⟨14, _⟩ => ⟨S1x2048, .f32⟩
  | .hbm, ⟨15, _⟩ => ⟨S1x2048, .f32⟩
  | .hbm, ⟨16, _⟩ => ⟨S2048, .f32⟩
  | .hbm, ⟨17, _⟩ => ⟨S4096x2048, .f32⟩
  | .hbm, ⟨18, _⟩ => ⟨S1x2048, .f32⟩
  | .hbm, ⟨19, _⟩ => ⟨S4096x2048, .f32⟩
  | .hbm, ⟨20, _⟩ => ⟨S4096x2048, .f32⟩
  | .hbm, ⟨21, _⟩ => ⟨S1x2048, .f32⟩
  | .hbm, ⟨22, _⟩ => ⟨S2048, .f32⟩
  | .hbm, ⟨23, _⟩ => ⟨S4096x2048, .f32⟩
  | .hbm, ⟨24, _⟩ => ⟨S1x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S1x2048, .f32⟩
  | .hbm, ⟨29, _⟩ => ⟨S2048, .f32⟩
  | .hbm, ⟨30, _⟩ => ⟨S4096x2048, .f32⟩
  | .hbm, ⟨31, _⟩ => ⟨S1x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S_, .f32⟩
  | .hbm, ⟨43, _⟩ => ⟨S2048, .f32⟩
  | .hbm, ⟨44, _⟩ => ⟨S1x2048, .f32⟩
  | .hbm, ⟨45, _⟩ => ⟨S_, .f32⟩
  | .hbm, ⟨46, _⟩ => ⟨S2048, .f32⟩
  | .hbm, ⟨47, _⟩ => ⟨S_, .f32⟩
  | .hbm, ⟨48, _⟩ => ⟨S4098x2048, .f32⟩
  | .hbm, ⟨49, _⟩ => ⟨S1x2048, .f32⟩
  | .hbm, ⟨50, _⟩ => ⟨S_, .f32⟩
  | .hbm, ⟨51, _⟩ => ⟨S3x2048, .f32⟩
  | .hbm, ⟨52, _⟩ => ⟨S4096x2048, .f32⟩
  | .hbm, ⟨53, _⟩ => ⟨S4096x2048, .f32⟩
  | .hbm, ⟨54, _⟩ => ⟨S4096x2048, .f32⟩
  | .hbm, ⟨55, _⟩ => ⟨S_, .f32⟩
  | .hbm, ⟨56, _⟩ => ⟨S2048, .f32⟩
  | .hbm, ⟨57, _⟩ => ⟨S1x2048, .f32⟩
  | .hbm, ⟨58, _⟩ => ⟨S_, .f32⟩
  | .hbm, ⟨59, _⟩ => ⟨S2048, .f32⟩
  | .hbm, ⟨60, _⟩ => ⟨S_, .f32⟩
  | .hbm, ⟨61, _⟩ => ⟨S4098x2048, .f32⟩
  | .hbm, ⟨62, _⟩ => ⟨S4098x2048, .f32⟩
  | .hbm, ⟨63, _⟩ => ⟨S1x2048, .f32⟩
  | .hbm, ⟨64, _⟩ => ⟨S_, .f32⟩
  | .hbm, ⟨65, _⟩ => ⟨S3x2048, .f32⟩
  | .hbm, ⟨66, _⟩ => ⟨S3x2048, .f32⟩
  | .hbm, ⟨67, _⟩ => ⟨S4096x2048, .f32⟩
  | .hbm, ⟨68, _⟩ => ⟨S4096x2048, .f32⟩
  | .hbm, ⟨69, _⟩ => ⟨S4096x2048, .f32⟩
  | .hbm, ⟨70, _⟩ => ⟨S_, .f32⟩
  | .hbm, ⟨71, _⟩ => ⟨S2048, .f32⟩
  | .hbm, ⟨72, _⟩ => ⟨S1x2048, .f32⟩
  | .hbm, ⟨73, _⟩ => ⟨S_, .f32⟩
  | .hbm, ⟨74, _⟩ => ⟨S2048, .f32⟩
  | .hbm, ⟨75, _⟩ => ⟨S_, .f32⟩
  | .hbm, ⟨76, _⟩ => ⟨S4098x2048, .f32⟩
  | .hbm, ⟨77, _⟩ => ⟨S4098x2048, .f32⟩
  | .hbm, ⟨78, _⟩ => ⟨S1x2048, .f32⟩
  | .hbm, ⟨79, _⟩ => ⟨S_, .f32⟩
  | .hbm, ⟨80, _⟩ => ⟨S3x2048, .f32⟩
  | .hbm, ⟨81, _⟩ => ⟨S3x2048, .f32⟩
  | .hbm, ⟨82, _⟩ => ⟨S1x2048, .f32⟩
  | .hbm, ⟨83, _⟩ => ⟨S4096x2048, .f32⟩
  | .hbm, ⟨84, _⟩ => ⟨S1x2048, .f32⟩
  | .hbm, ⟨85, _⟩ => ⟨S4096x2048, .f32⟩
  | .hbm, ⟨86, _⟩ => ⟨S4096x2048, .f32⟩
  | .hbm, ⟨87, _⟩ => ⟨S4096x2048, .bf16⟩
  | .hbm, ⟨88, _⟩ => ⟨S4096x2048, .bf16⟩
  | .hbm, ⟨89, _⟩ => ⟨S4096x2048, .bf16⟩
  | _, _ => ⟨S4096x13312, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_cst_2 : Ref sig .tc := ⟨.hbm, 42, rfl⟩
abbrev main_v36 : Ref sig .tc := ⟨.hbm, 43, rfl⟩
abbrev main_v37 : Ref sig .tc := ⟨.hbm, 44, rfl⟩
abbrev main_cst_3 : Ref sig .tc := ⟨.hbm, 45, rfl⟩
abbrev main_v38 : Ref sig .tc := ⟨.hbm, 46, rfl⟩
abbrev main_cst_4 : Ref sig .tc := ⟨.hbm, 47, rfl⟩
abbrev main_v39 : Ref sig .tc := ⟨.hbm, 48, rfl⟩
abbrev main_v40 : Ref sig .tc := ⟨.hbm, 49, rfl⟩
abbrev main_cst_5 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst_6 : Ref sig .tc := ⟨.hbm, 55, rfl⟩
abbrev main_v45 : Ref sig .tc := ⟨.hbm, 56, rfl⟩
abbrev main_v46 : Ref sig .tc := ⟨.hbm, 57, rfl⟩
abbrev main_cst_7 : Ref sig .tc := ⟨.hbm, 58, rfl⟩
abbrev main_v47 : Ref sig .tc := ⟨.hbm, 59, rfl⟩
abbrev main_cst_8 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_9 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_10 : Ref sig .tc := ⟨.hbm, 70, rfl⟩
abbrev main_v56 : Ref sig .tc := ⟨.hbm, 71, rfl⟩
abbrev main_v57 : Ref sig .tc := ⟨.hbm, 72, rfl⟩
abbrev main_cst_11 : Ref sig .tc := ⟨.hbm, 73, rfl⟩
abbrev main_v58 : Ref sig .tc := ⟨.hbm, 74, rfl⟩
abbrev main_cst_12 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_cst_13 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩

abbrev nD : Nat := 1
abbrev τ : Topo := Topo.v7x

variable {F : FTy → Type} [FloatOps F]
-- ==== Attn.lean ====
abbrev S4096x2048 : Shape := ⟨2, ![4096, 2048]⟩
abbrev S4096x512 : Shape := ⟨2, ![4096, 512]⟩
abbrev S_ : Shape := ⟨0, ![]⟩
abbrev S4x4096x4 : Shape := ⟨3, ![4, 4096, 4]⟩
abbrev S256x512 : Shape := ⟨2, ![256, 512]⟩
abbrev S4096x128 : Shape := ⟨2, ![4096, 128]⟩
abbrev S1x256x4 : Shape := ⟨3, ![1, 256, 4]⟩
abbrev S256x128 : Shape := ⟨2, ![256, 128]⟩
abbrev S256x4096 : Shape := ⟨2, ![256, 4096]⟩
abbrev S256 : Shape := ⟨1, ![256]⟩
abbrev S256x1 : Shape := ⟨2, ![256, 1]⟩
abbrev S1x256x1 : Shape := ⟨3, ![1, 256, 1]⟩
abbrev S512x4096 : Shape := ⟨2, ![512, 4096]⟩
abbrev S128x4096 : Shape := ⟨2, ![128, 4096]⟩

abbrev nBuf : Space → Nat
  | .hbm => 20
  | .vmem => 26
  | .smem => 0
  | _ => 0

abbrev bufTy : (tb : Table) → Fin (tcTables nBuf tb) → BufTy
  | .hbm, ⟨0, _⟩ => ⟨S4096x2048, .f32⟩
  | .hbm, ⟨1, _⟩ => ⟨S4096x512, .f32⟩
  | .hbm, ⟨2, _⟩ => ⟨S4096x512, .f32⟩
  | .hbm, ⟨3, _⟩ => ⟨S4096x2048, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S4096x2048, .bf16⟩
  | .hbm, ⟨12, _⟩ => ⟨S4096x512, .bf16⟩
  | .hbm, ⟨13, _⟩ => ⟨S4096x512, .bf16⟩
  | .hbm, ⟨14, _⟩ => ⟨S4096x2048, .bf16⟩
  | .hbm, ⟨15, _⟩ => ⟨S4096x2048, .bf16⟩
  | .hbm, ⟨16, _⟩ => ⟨S4x4096x4, .f32⟩
  | .hbm, ⟨17, _⟩ => ⟨S4096x2048, .bf16⟩
  | .hbm, ⟨18, _⟩ => ⟨S512x4096, .f32⟩
  | .hbm, ⟨19, _⟩ => ⟨S512x4096, .f32⟩
  | .local _ .vmem, ⟨0, _⟩ => ⟨S256x512, .bf16⟩
  | .local _ .vmem, ⟨1, _⟩ => ⟨S256x512, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S256x512, .bf16⟩
  | .local _ .vmem, ⟨7, _⟩ => ⟨S256x512, .bf16⟩
  | .local _ .vmem, ⟨8, _⟩ => ⟨S1x256x4, .f32⟩
  | .local _ .vmem, ⟨9, _⟩ => ⟨S1x256x4, .f32⟩
  | .local _ .vmem, ⟨10, _⟩ => ⟨S256x512, .bf16⟩
  | .local _ .vmem, ⟨11, _⟩ => ⟨S256x512, .bf16⟩
  | .local _ .vmem, ⟨12, _⟩ => ⟨S4096x128, .bf16⟩
  | .local _ .vmem, ⟨13, _⟩ => ⟨S4096x128, .bf16⟩
  | .local _ .vmem, ⟨14, _⟩ => ⟨S4096x128, .bf16⟩
  | .local _ .vmem, ⟨15, _⟩ => ⟨S4096x128, .bf16⟩
  | .local _ .vmem, ⟨16, _⟩ => ⟨S256x512, .bf16⟩
  | .local _ .vmem, ⟨17, _⟩ => ⟨S256x512, .bf16⟩
  | .local _ .vmem, ⟨18, _⟩ => ⟨S1x256x4, .f32⟩
  | .local _ .vmem, ⟨19, _⟩ => ⟨S1x256x4, .f32⟩
  | .local _ .vmem, ⟨20, _⟩ => ⟨S256x512, .bf16⟩
  | .local _ .vmem, ⟨21, _⟩ => ⟨S256x512, .bf16⟩
  | .local _ .vmem, ⟨22, _⟩ => ⟨S128x4096, .f32⟩
  | .local _ .vmem, ⟨23, _⟩ => ⟨S128x4096, .f32⟩
  | .local _ .vmem, ⟨24, _⟩ => ⟨S128x4096, .f32⟩
  | .local _ .vmem, ⟨25, _⟩ => ⟨S128x4096, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v10_0 : Ref sig .tc := ⟨.hbm, 17, rfl⟩
abbrev main_v10_1 : Ref sig .tc := ⟨.hbm, 18, rfl⟩
abbrev main_v10_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x4 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![4, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S256x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S4096x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S4096x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S256x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x256x4 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S256x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S128x4096 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S128x4096 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]
-- ==== AttnIdeal.lean ====
variable {F : FTy → Type} [FloatOps F] [Named F]
def κ : String → Option EReal := fun
  | "log2e" => some (((Real.log 2)⁻¹ : ℝ) : EReal)
  | _ => none
-- ==== AttnRefIdeal.lean ====
abbrev S4096x2048 : Shape := ⟨2, ![4096, 2048]⟩
abbrev S4096x512 : Shape := ⟨2, ![4096, 512]⟩
abbrev S_ : Shape := ⟨0, ![]⟩
abbrev S4096x4x4x128 : Shape := ⟨4, ![4096, 4, 4, 128]⟩
abbrev S4096x4x128 : Shape := ⟨3, ![4096, 4, 128]⟩
abbrev S4x4096x4096x4 : Shape := ⟨4, ![4, 4096, 4096, 4]⟩
abbrev S4x4x4096x4096 : Shape := ⟨4, ![4, 4, 4096, 4096]⟩
abbrev S4x4x4096 : Shape := ⟨3, ![4, 4, 4096]⟩
abbrev S4x4x4096x1 : Shape := ⟨4, ![4, 4, 4096, 1]⟩
abbrev S4x128x4x4096 : Shape := ⟨4, ![4, 128, 4, 4096]⟩
abbrev S4x128x4096 : Shape := ⟨3, ![4, 128, 4096]⟩
abbrev S4x4096x4x128 : Shape := ⟨4, ![4, 4096, 4, 128]⟩
abbrev S4x4096x128 : Shape := ⟨3, ![4, 4096, 128]⟩
abbrev S512x4096 : Shape := ⟨2, ![512, 4096]⟩

abbrev nBuf : Space → Nat
  | .hbm => 89
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x512, .f32⟩
  | .hbm, ⟨2, _⟩ => ⟨S4096x512, .f32⟩
  | .hbm, ⟨3, _⟩ => ⟨S4096x2048, .f32⟩
  | .hbm, ⟨4, _⟩ => ⟨S_, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S4096x4x4x128, .f32⟩
  | .hbm, ⟨9, _⟩ => ⟨S4096x4x128, .f32⟩
  | .hbm, ⟨10, _⟩ => ⟨S4096x4x128, .f32⟩
  | .hbm, ⟨11, _⟩ => ⟨S4x4096x4096x4, .f32⟩
  | .hbm, ⟨12, _⟩ => ⟨S4x4x4096x4096, .f32⟩
  | .hbm, ⟨13, _⟩ => ⟨S_, .f32⟩
  | .hbm, ⟨14, _⟩ => ⟨S4x4x4096, .f32⟩
  | .hbm, ⟨15, _⟩ => ⟨S4x4x4096x1, .f32⟩
  | .hbm, ⟨16, _⟩ => ⟨S4x4x4096x4096, .f32⟩
  | .hbm, ⟨17, _⟩ => ⟨S4x4x4096x4096, .i1⟩
  | .hbm, ⟨18, _⟩ => ⟨S4x4x4096x4096, .f32⟩
  | .hbm, ⟨19, _⟩ => ⟨S_, .f32⟩
  | .hbm, ⟨20, _⟩ => ⟨S4x4x4096, .f32⟩
  | .hbm, ⟨21, _⟩ => ⟨S_, .f32⟩
  | .hbm, ⟨22, _⟩ => ⟨S4x4x4096, .f32⟩
  | .hbm, ⟨23, _⟩ => ⟨S4x4x4096, .f32⟩
  | .hbm, ⟨24, _⟩ => ⟨S_, .f32⟩
  | .hbm, ⟨25, _⟩ => ⟨S4x4x4096, .f32⟩
  | .hbm, ⟨26, _⟩ => ⟨S4x4x4096, .i1⟩
  | .hbm, ⟨27, _⟩ => ⟨S_, .f32⟩
  | .hbm, ⟨28, _⟩ => ⟨S4x4x4096, .f32⟩
  | .hbm, ⟨29, _⟩ => ⟨S4x4x4096, .i1⟩
  | .hbm, ⟨30, _⟩ => ⟨S_, .f32⟩
  | .hbm, ⟨31, _⟩ => ⟨S4x4x4096, .f32⟩
  | .hbm, ⟨32, _⟩ => ⟨S_, .f32⟩
  | .hbm, ⟨33, _⟩ => ⟨S4x4x4096, .f32⟩
  | .hbm, ⟨34, _⟩ => ⟨S_, .f32⟩
  | .hbm, ⟨35, _⟩ => ⟨S4x4x4096, .f32⟩
  | .hbm, ⟨36, _⟩ => ⟨S4x4x4096, .f32⟩
  | .hbm, ⟨37, _⟩ => ⟨S4x4x4096, .f32⟩
  | .hbm, ⟨38, _⟩ => ⟨S4x4x4096x1, .f32⟩
  | .hbm, ⟨39, _⟩ => ⟨S4x4x4096x4096, .f32⟩
  | .hbm, ⟨40, _⟩ => ⟨S4x4x4096x4096, .f32⟩
  | .hbm, ⟨41, _⟩ => ⟨S4x4x4096x4096, .f32⟩
  | .hbm, ⟨42, _⟩ => ⟨S_, .f32⟩
  | .hbm, ⟨43, _⟩ => ⟨S4x4x4096, .f32⟩
  | .hbm, ⟨44, _⟩ => ⟨S4x4x4096x1, .f32⟩
  | .hbm, ⟨45, _⟩ => ⟨S4x4x4096x4096, .f32⟩
  | .hbm, ⟨46, _⟩ => ⟨S4x4x4096x4096, .f32⟩
  | .hbm, ⟨47, _⟩ => ⟨S4x4x4096x1, .f32⟩
  | .hbm, ⟨48, _⟩ => ⟨S_, .f32⟩
  | .hbm, ⟨49, _⟩ => ⟨S4x4x4096x1, .f32⟩
  | .hbm, ⟨50, _⟩ => ⟨S4x4x4096x1, .f32⟩
  | .hbm, ⟨51, _⟩ => ⟨S4x128x4x4096, .f32⟩
  | .hbm, ⟨52, _⟩ => ⟨S4096x4x4x128, .f32⟩
  | .hbm, ⟨53, _⟩ => ⟨S4096x2048, .f32⟩
  | .hbm, ⟨54, _⟩ => ⟨S4096x4x4x128, .f32⟩
  | .hbm, ⟨55, _⟩ => ⟨S4x128x4x4096, .f32⟩
  | .hbm, ⟨56, _⟩ => ⟨S4x4x4096x4096, .f32⟩
  | .hbm, ⟨57, _⟩ => ⟨S4x128x4096, .f32⟩
  | .hbm, ⟨58, _⟩ => ⟨S4096x4x128, .f32⟩
  | .hbm, ⟨59, _⟩ => ⟨S4x4x4096x4096, .f32⟩
  | .hbm, ⟨60, _⟩ => ⟨S4x4x4096x4096, .f32⟩
  | .hbm, ⟨61, _⟩ => ⟨S4x4x4096x4096, .f32⟩
  | .hbm, ⟨62, _⟩ => ⟨S_, .f32⟩
  | .hbm, ⟨63, _⟩ => ⟨S4x4x4096, .f32⟩
  | .hbm, ⟨64, _⟩ => ⟨S4x4x4096x1, .f32⟩
  | .hbm, ⟨65, _⟩ => ⟨S4x4x4096x1, .f32⟩
  | .hbm, ⟨66, _⟩ => ⟨S4x4x4096x4096, .f32⟩
  | .hbm, ⟨67, _⟩ => ⟨S4x4x4096x4096, .f32⟩
  | .hbm, ⟨68, _⟩ => ⟨S_, .f32⟩
  | .hbm, ⟨69, _⟩ => ⟨S4x4x4096, .f32⟩
  | .hbm, ⟨70, _⟩ => ⟨S4x4x4096x4096, .f32⟩
  | .hbm, ⟨71, _⟩ => ⟨S4x4x4096x4096, .f32⟩
  | .hbm, ⟨72, _⟩ => ⟨S4x4x4096x4096, .f32⟩
  | .hbm, ⟨73, _⟩ => ⟨S4x4096x4096x4, .f32⟩
  | .hbm, ⟨74, _⟩ => ⟨S4x4096x4x128, .f32⟩
  | .hbm, ⟨75, _⟩ => ⟨S4096x4x4x128, .f32⟩
  | .hbm, ⟨76, _⟩ => ⟨S4x4096x128, .f32⟩
  | .hbm, ⟨77, _⟩ => ⟨S4096x4x128, .f32⟩
  | .hbm, ⟨78, _⟩ => ⟨S4096x512, .f32⟩
  | .hbm, ⟨79, _⟩ => ⟨S4096x512, .f32⟩
  | .hbm, ⟨80, _⟩ => ⟨S4096x2048, .f32⟩
  | .hbm, ⟨81, _⟩ => ⟨S4096x2048, .bf16⟩
  | .hbm, ⟨82, _⟩ => ⟨S4096x2048, .bf16⟩
  | .hbm, ⟨83, _⟩ => ⟨S_, .f32⟩
  | .hbm, ⟨84, _⟩ => ⟨S_, .f32⟩
  | .hbm, ⟨85, _⟩ => ⟨S4096x512, .f32⟩
  | .hbm, ⟨86, _⟩ => ⟨S4096x512, .f32⟩
  | .hbm, ⟨87, _⟩ => ⟨S512x4096, .f32⟩
  | .hbm, ⟨88, _⟩ => ⟨S512x4096, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_8 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_9 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_10 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_11 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_12 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩

abbrev nD : Nat := 1
abbrev τ : Topo := Topo.v7x

variable {F : FTy → Type} [FloatOps F]
-- ==== DAct.lean ====
abbrev S4096x2048 : Shape := ⟨2, ![4096, 2048]⟩
abbrev S8192x2048 : Shape := ⟨2, ![8192, 2048]⟩
abbrev S4096x8192 : Shape := ⟨2, ![4096, 8192]⟩
abbrev S1024x2048 : Shape := ⟨2, ![1024, 2048]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S8192x2048, .bf16⟩
  | .hbm, ⟨2, _⟩ => ⟨S4096x8192, .bf16⟩
  | .hbm, ⟨3, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DActRefIdeal.lean ====
abbrev S4096x2048 : Shape := ⟨2, ![4096, 2048]⟩
abbrev S8192x2048 : Shape := ⟨2, ![8192, 2048]⟩
abbrev S4096x8192 : Shape := ⟨2, ![4096, 8192]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8192x2048, .bf16⟩
  | .hbm, ⟨2, _⟩ => ⟨S4096x8192, .bf16⟩
  | .hbm, ⟨3, _⟩ => ⟨S4096x8192, .f32⟩
  | .hbm, ⟨4, _⟩ => ⟨S_, .f32⟩
  | .hbm, ⟨5, _⟩ => ⟨S4096x8192, .f32⟩
  | .hbm, ⟨6, _⟩ => ⟨S4096x8192, .f32⟩
  | .hbm, ⟨7, _⟩ => ⟨S_, .f32⟩
  | .hbm, ⟨8, _⟩ => ⟨S4096x8192, .f32⟩
  | .hbm, ⟨9, _⟩ => ⟨S4096x8192, .i1⟩
  | .hbm, ⟨10, _⟩ => ⟨S_, .f32⟩
  | .hbm, ⟨11, _⟩ => ⟨S4096x8192, .f32⟩
  | .hbm, ⟨12, _⟩ => ⟨S4096x8192, .f32⟩
  | .hbm, ⟨13, _⟩ => ⟨S_, .f32⟩
  | .hbm, ⟨14, _⟩ => ⟨S4096x8192, .f32⟩
  | .hbm, ⟨15, _⟩ => ⟨S4096x8192, .f32⟩
  | .hbm, ⟨16, _⟩ => ⟨S8192x2048, .f32⟩
  | .hbm, ⟨17, _⟩ => ⟨S4096x2048, .f32⟩
  | .hbm, ⟨18, _⟩ => ⟨S4096x2048, .f32⟩
  | .hbm, ⟨19, _⟩ => ⟨S4096x8192, .f32⟩
  | .hbm, ⟨20, _⟩ => ⟨S4096x8192, .f32⟩
  | .hbm, ⟨21, _⟩ => ⟨S_, .f32⟩
  | .hbm, ⟨22, _⟩ => ⟨S4096x8192, .f32⟩
  | .hbm, ⟨23, _⟩ => ⟨S4096x8192, .f32⟩
  | .hbm, ⟨24, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== DH2.lean ====
abbrev S4096x8192 : Shape := ⟨2, ![4096, 8192]⟩
abbrev S2048x8192 : Shape := ⟨2, ![2048, 8192]⟩
abbrev S4096x2048 : Shape := ⟨2, ![4096, 2048]⟩
abbrev S1024x4096 : Shape := ⟨2, ![1024, 4096]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S2048x8192, .bf16⟩
  | .hbm, ⟨2, _⟩ => ⟨S4096x2048, .bf16⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DH2RefIdeal.lean ====
abbrev S4096x8192 : Shape := ⟨2, ![4096, 8192]⟩
abbrev S2048x8192 : Shape := ⟨2, ![2048, 8192]⟩
abbrev S_ : Shape := ⟨0, ![]⟩
abbrev S4096x2048 : Shape := ⟨2, ![4096, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S2048x8192, .bf16⟩
  | .hbm, ⟨2, _⟩ => ⟨S_, .f32⟩
  | .hbm, ⟨3, _⟩ => ⟨S4096x2048, .f32⟩
  | .hbm, ⟨4, _⟩ => ⟨S2048x8192, .f32⟩
  | .hbm, ⟨5, _⟩ => ⟨S4096x8192, .f32⟩
  | .hbm, ⟨6, _⟩ => ⟨S4096x8192, .f32⟩
  | .hbm, ⟨7, _⟩ => ⟨S4096x2048, .f32⟩
  | .hbm, ⟨8, _⟩ => ⟨S4096x2048, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DMix.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DMixRefIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S_, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DA.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DARefIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S_, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DO.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DORefIdeal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S_, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DH.lean ====
abbrev S4096x13312 : Shape := ⟨2, ![4096, 13312]⟩
abbrev S2048x13312 : Shape := ⟨2, ![2048, 13312]⟩
abbrev S4096x2048 : Shape := ⟨2, ![4096, 2048]⟩
abbrev S1024x3328 : Shape := ⟨2, ![1024, 3328]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x13312, .bf16⟩
  | .hbm, ⟨1, _⟩ => ⟨S2048x13312, .bf16⟩
  | .hbm, ⟨2, _⟩ => ⟨S4096x2048, .bf16⟩
  | .local _ .vmem, ⟨0, _⟩ => ⟨S1024x3328, .bf16⟩
  | .local _ .vmem, ⟨1, _⟩ => ⟨S1024x3328, .bf16⟩
  | .local _ .vmem, ⟨2, _⟩ => ⟨S1024x3328, .bf16⟩
  | .local _ .vmem, ⟨3, _⟩ => ⟨S1024x3328, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x13312, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3328 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x3328 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DHRefIdeal.lean ====
abbrev S4096x13312 : Shape := ⟨2, ![4096, 13312]⟩
abbrev S2048x13312 : Shape := ⟨2, ![2048, 13312]⟩
abbrev S_ : Shape := ⟨0, ![]⟩
abbrev S4096x2048 : Shape := ⟨2, ![4096, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x13312, .bf16⟩
  | .hbm, ⟨1, _⟩ => ⟨S2048x13312, .bf16⟩
  | .hbm, ⟨2, _⟩ => ⟨S_, .f32⟩
  | .hbm, ⟨3, _⟩ => ⟨S4096x2048, .f32⟩
  | .hbm, ⟨4, _⟩ => ⟨S2048x13312, .f32⟩
  | .hbm, ⟨5, _⟩ => ⟨S4096x13312, .f32⟩
  | .hbm, ⟨6, _⟩ => ⟨S4096x13312, .f32⟩
  | .hbm, ⟨7, _⟩ => ⟨S4096x2048, .f32⟩
  | .hbm, ⟨8, _⟩ => ⟨S4096x2048, .bf16⟩
  | _, _ => ⟨S4096x13312, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== In.lean ====
abbrev S4096x2048 : Shape := ⟨2, ![4096, 2048]⟩
abbrev S2048x13312 : Shape := ⟨2, ![2048, 13312]⟩
abbrev S4096x13312 : Shape := ⟨2, ![4096, 13312]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x13312, .bf16⟩
  | .hbm, ⟨2, _⟩ => ⟨S4096x13312, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 13, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InRefIdeal.lean ====
abbrev S4096x2048 : Shape := ⟨2, ![4096, 2048]⟩
abbrev S2048x13312 : Shape := ⟨2, ![2048, 13312]⟩
abbrev S4096x13312 : Shape := ⟨2, ![4096, 13312]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x13312, .bf16⟩
  | .hbm, ⟨2, _⟩ => ⟨S4096x2048, .f32⟩
  | .hbm, ⟨3, _⟩ => ⟨S2048x13312, .f32⟩
  | .hbm, ⟨4, _⟩ => ⟨S4096x13312, .f32⟩
  | .hbm, ⟨5, _⟩ => ⟨S4096x13312, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== OutConv.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutConvRefIdeal.lean ====
abbrev S4096x2048 : Shape := ⟨2, ![4096, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048x2048, .f32⟩
  | .hbm, ⟨4, _⟩ => ⟨S4096x2048, .f32⟩
  | .hbm, ⟨5, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== OutAttn.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutAttnRefIdeal.lean ====
abbrev S4096x2048 : Shape := ⟨2, ![4096, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048x2048, .f32⟩
  | .hbm, ⟨4, _⟩ => ⟨S4096x2048, .f32⟩
  | .hbm, ⟨5, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Merge.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MergeRefIdeal.lean ====
abbrev S4096x2048 : Shape := ⟨2, ![4096, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048x2048, .f32⟩
  | .hbm, ⟨4, _⟩ => ⟨S4096x2048, .f32⟩
  | .hbm, ⟨5, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Up.lean ====
abbrev S4096x2048 : Shape := ⟨2, ![4096, 2048]⟩
abbrev S2048x8192 : Shape := ⟨2, ![2048, 8192]⟩
abbrev S4096x8192 : Shape := ⟨2, ![4096, 8192]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S4096x8192, .bf16⟩
  | .hbm, ⟨3, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpRefIdeal.lean ====
abbrev S4096x2048 : Shape := ⟨2, ![4096, 2048]⟩
abbrev S2048x8192 : Shape := ⟨2, ![2048, 8192]⟩
abbrev S4096x8192 : Shape := ⟨2, ![4096, 8192]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S4096x2048, .f32⟩
  | .hbm, ⟨3, _⟩ => ⟨S2048x8192, .f32⟩
  | .hbm, ⟨4, _⟩ => ⟨S4096x8192, .f32⟩
  | .hbm, ⟨5, _⟩ => ⟨S4096x8192, .bf16⟩
  | .hbm, ⟨6, _⟩ => ⟨S_, .f32⟩
  | .hbm, ⟨7, _⟩ => ⟨S4096x8192, .f32⟩
  | .hbm, ⟨8, _⟩ => ⟨S4096x8192, .f32⟩
  | .hbm, ⟨9, _⟩ => ⟨S4096x8192, .f32⟩
  | .hbm, ⟨10, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_cst : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Down.lean ====
abbrev S4096x8192 : Shape := ⟨2, ![4096, 8192]⟩
abbrev S8192x2048 : Shape := ⟨2, ![8192, 2048]⟩
abbrev S4096x2048 : Shape := ⟨2, ![4096, 2048]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownRefIdeal.lean ====
abbrev S4096x8192 : Shape := ⟨2, ![4096, 8192]⟩
abbrev S8192x2048 : Shape := ⟨2, ![8192, 2048]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x8192, .f32⟩
  | .hbm, ⟨3, _⟩ => ⟨S8192x2048, .f32⟩
  | .hbm, ⟨4, _⟩ => ⟨S4096x2048, .f32⟩
  | .hbm, ⟨5, _⟩ => ⟨S4096x2048, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== GUpSend.lean ====
abbrev S4096x2048 : Shape := ⟨2, ![4096, 2048]⟩
abbrev S4096x8192 : Shape := ⟨2, ![4096, 8192]⟩
abbrev S_ : Shape := ⟨0, ![]⟩
abbrev S1 : Shape := ⟨1, ![1]⟩
abbrev S1024x8192 : Shape := ⟨2, ![1024, 8192]⟩
abbrev S4096x1024 : Shape := ⟨2, ![4096, 1024]⟩
abbrev S4096x512 : Shape := ⟨2, ![4096, 512]⟩
abbrev S1024x512 : Shape := ⟨2, ![1024, 512]⟩

abbrev nBuf : Space → Nat
  | .hbm => 8
  | .vmem => 5
  | .smem => 1
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S_, .i32⟩
  | .hbm, ⟨3, _⟩ => ⟨S1, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S1024x8192, .f32⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .f32⟩
  | .local _ .vmem, ⟨4, _⟩ => ⟨S1024x512, .f32⟩
  | .local _ .smem, ⟨0, _⟩ => ⟨S1, .i32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_c_0 : Ref sig .tc := ⟨.hbm, 4, rfl⟩
abbrev main_c_1 : Ref sig .tc := ⟨.hbm, 5, rfl⟩
abbrev main_v1 : Ref sig .tc := ⟨.hbm, 6, rfl⟩
abbrev main_v3 : Ref sig .tc := ⟨.hbm, 7, rfl⟩
abbrev main_v2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 16, 1], ![false, false, false]⟩

abbrev pre0 : Pipeline.Prefetch sig := ⟨1, ![main_v2.idx], fun | 0 => main_v2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.addi arg0 v1
  let c0_i32 : BitVec 32 := 0#32
  ![arg2.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GUpSendRefIdeal.lean ====
abbrev S4096x2048 : Shape := ⟨2, ![4096, 2048]⟩
abbrev S4096x8192 : Shape := ⟨2, ![4096, 8192]⟩
abbrev S_ : Shape := ⟨0, ![]⟩
abbrev S2048x8192 : Shape := ⟨2, ![2048, 8192]⟩
abbrev S8192x2048 : Shape := ⟨2, ![8192, 2048]⟩
abbrev S1024x8192 : Shape := ⟨2, ![1024, 8192]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S_, .f32⟩
  | .hbm, ⟨3, _⟩ => ⟨S2048x8192, .f32⟩
  | .hbm, ⟨4, _⟩ => ⟨S4096x2048, .f32⟩
  | .hbm, ⟨5, _⟩ => ⟨S4096x8192, .f32⟩
  | .hbm, ⟨6, _⟩ => ⟨S4096x8192, .f32⟩
  | .hbm, ⟨7, _⟩ => ⟨S8192x2048, .f32⟩
  | .hbm, ⟨8, _⟩ => ⟨S2048x8192, .f32⟩
  | .hbm, ⟨9, _⟩ => ⟨S1024x8192, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GUpKeep.lean ====
abbrev S4096x2048 : Shape := ⟨2, ![4096, 2048]⟩
abbrev S4096x8192 : Shape := ⟨2, ![4096, 8192]⟩
abbrev S1024x8192 : Shape := ⟨2, ![1024, 8192]⟩
abbrev S_ : Shape := ⟨0, ![]⟩
abbrev S1 : Shape := ⟨1, ![1]⟩
abbrev S4096x1024 : Shape := ⟨2, ![4096, 1024]⟩
abbrev S4096x512 : Shape := ⟨2, ![4096, 512]⟩
abbrev S1024x512 : Shape := ⟨2, ![1024, 512]⟩

abbrev nBuf : Space → Nat
  | .hbm => 9
  | .vmem => 7
  | .smem => 1
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S1024x8192, .f32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S1, .i32⟩
  | .hbm, ⟨8, _⟩ => ⟨S1024x8192, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .f32⟩
  | .local _ .vmem, ⟨4, _⟩ => ⟨S1024x512, .f32⟩
  | .local _ .vmem, ⟨5, _⟩ => ⟨S1024x512, .bf16⟩
  | .local _ .vmem, ⟨6, _⟩ => ⟨S1024x512, .bf16⟩
  | .local _ .smem, ⟨0, _⟩ => ⟨S1, .i32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 16, 1], ![false, false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.addi arg0 v1
  let c0_i32 : BitVec 32 := 0#32
  ![arg2.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GUpKeepRefIdeal.lean ====
abbrev S4096x2048 : Shape := ⟨2, ![4096, 2048]⟩
abbrev S4096x8192 : Shape := ⟨2, ![4096, 8192]⟩
abbrev S1024x8192 : Shape := ⟨2, ![1024, 8192]⟩
abbrev S_ : Shape := ⟨0, ![]⟩
abbrev S2048x8192 : Shape := ⟨2, ![2048, 8192]⟩
abbrev S8192x2048 : Shape := ⟨2, ![8192, 2048]⟩

abbrev nBuf : Space → Nat
  | .hbm => 13
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S1024x8192, .f32⟩
  | .hbm, ⟨3, _⟩ => ⟨S_, .f32⟩
  | .hbm, ⟨4, _⟩ => ⟨S2048x8192, .f32⟩
  | .hbm, ⟨5, _⟩ => ⟨S4096x2048, .f32⟩
  | .hbm, ⟨6, _⟩ => ⟨S4096x8192, .f32⟩
  | .hbm, ⟨7, _⟩ => ⟨S4096x8192, .f32⟩
  | .hbm, ⟨8, _⟩ => ⟨S8192x2048, .f32⟩
  | .hbm, ⟨9, _⟩ => ⟨S2048x8192, .f32⟩
  | .hbm, ⟨10, _⟩ => ⟨S1024x8192, .f32⟩
  | .hbm, ⟨11, _⟩ => ⟨S1024x8192, .f32⟩
  | .hbm, ⟨12, _⟩ => ⟨S1024x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== GDownSend.lean ====
abbrev S4096x8192 : Shape := ⟨2, ![4096, 8192]⟩
abbrev S4096x2048 : Shape := ⟨2, ![4096, 2048]⟩
abbrev S_ : Shape := ⟨0, ![]⟩
abbrev S1 : Shape := ⟨1, ![1]⟩
abbrev S8192x1024 : Shape := ⟨2, ![8192, 1024]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 8
  | .vmem => 5
  | .smem => 1
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S_, .i32⟩
  | .hbm, ⟨3, _⟩ => ⟨S1, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S8192x1024, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .smem, ⟨0, _⟩ => ⟨S1, .i32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_c_0 : Ref sig .tc := ⟨.hbm, 4, rfl⟩
abbrev main_c_1 : Ref sig .tc := ⟨.hbm, 5, rfl⟩
abbrev main_v1 : Ref sig .tc := ⟨.hbm, 6, rfl⟩
abbrev main_v3 : Ref sig .tc := ⟨.hbm, 7, rfl⟩
abbrev main_v2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

abbrev pre0 : Pipeline.Prefetch sig := ⟨1, ![main_v2.idx], fun | 0 => main_v2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.addi arg1 v1
  let c0_i32 : BitVec 32 := 0#32
  ![arg2.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GDownSendRefIdeal.lean ====
abbrev S4096x8192 : Shape := ⟨2, ![4096, 8192]⟩
abbrev S4096x2048 : Shape := ⟨2, ![4096, 2048]⟩
abbrev S_ : Shape := ⟨0, ![]⟩
abbrev S8192x2048 : Shape := ⟨2, ![8192, 2048]⟩
abbrev S2048x8192 : Shape := ⟨2, ![2048, 8192]⟩
abbrev S8192x1024 : Shape := ⟨2, ![8192, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S_, .f32⟩
  | .hbm, ⟨3, _⟩ => ⟨S8192x2048, .f32⟩
  | .hbm, ⟨4, _⟩ => ⟨S4096x8192, .f32⟩
  | .hbm, ⟨5, _⟩ => ⟨S4096x2048, .f32⟩
  | .hbm, ⟨6, _⟩ => ⟨S4096x2048, .f32⟩
  | .hbm, ⟨7, _⟩ => ⟨S2048x8192, .f32⟩
  | .hbm, ⟨8, _⟩ => ⟨S8192x2048, .f32⟩
  | .hbm, ⟨9, _⟩ => ⟨S8192x1024, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GDownKeep.lean ====
abbrev S4096x8192 : Shape := ⟨2, ![4096, 8192]⟩
abbrev S4096x2048 : Shape := ⟨2, ![4096, 2048]⟩
abbrev S8192x1024 : Shape := ⟨2, ![8192, 1024]⟩
abbrev S_ : Shape := ⟨0, ![]⟩
abbrev S1 : Shape := ⟨1, ![1]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 9
  | .vmem => 7
  | .smem => 1
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S8192x1024, .f32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S1, .i32⟩
  | .hbm, ⟨8, _⟩ => ⟨S8192x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .bf16⟩
  | .local _ .vmem, ⟨6, _⟩ => ⟨S512x1024, .bf16⟩
  | .local _ .smem, ⟨0, _⟩ => ⟨S1, .i32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 1, 1], ![false, false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.addi arg1 v1
  let c0_i32 : BitVec 32 := 0#32
  ![arg2.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GDownKeepRefIdeal.lean ====
abbrev S4096x8192 : Shape := ⟨2, ![4096, 8192]⟩
abbrev S4096x2048 : Shape := ⟨2, ![4096, 2048]⟩
abbrev S8192x1024 : Shape := ⟨2, ![8192, 1024]⟩
abbrev S_ : Shape := ⟨0, ![]⟩
abbrev S8192x2048 : Shape := ⟨2, ![8192, 2048]⟩
abbrev S2048x8192 : Shape := ⟨2, ![2048, 8192]⟩

abbrev nBuf : Space → Nat
  | .hbm => 13
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S8192x1024, .f32⟩
  | .hbm, ⟨3, _⟩ => ⟨S_, .f32⟩
  | .hbm, ⟨4, _⟩ => ⟨S8192x2048, .f32⟩
  | .hbm, ⟨5, _⟩ => ⟨S4096x8192, .f32⟩
  | .hbm, ⟨6, _⟩ => ⟨S4096x2048, .f32⟩
  | .hbm, ⟨7, _⟩ => ⟨S4096x2048, .f32⟩
  | .hbm, ⟨8, _⟩ => ⟨S2048x8192, .f32⟩
  | .hbm, ⟨9, _⟩ => ⟨S8192x2048, .f32⟩
  | .hbm, ⟨10, _⟩ => ⟨S8192x1024, .f32⟩
  | .hbm, ⟨11, _⟩ => ⟨S8192x1024, .f32⟩
  | .hbm, ⟨12, _⟩ => ⟨S8192x1024, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== GOutConvSend.lean ====
abbrev S4096x2048 : Shape := ⟨2, ![4096, 2048]⟩
abbrev S_ : Shape := ⟨0, ![]⟩
abbrev S1 : Shape := ⟨1, ![1]⟩
abbrev S2048x1024 : Shape := ⟨2, ![2048, 1024]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 8
  | .vmem => 5
  | .smem => 1
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .i32⟩
  | .hbm, ⟨3, _⟩ => ⟨S1, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S2048x1024, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .smem, ⟨0, _⟩ => ⟨S1, .i32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_c_0 : Ref sig .tc := ⟨.hbm, 4, rfl⟩
abbrev main_c_1 : Ref sig .tc := ⟨.hbm, 5, rfl⟩
abbrev main_v1 : Ref sig .tc := ⟨.hbm, 6, rfl⟩
abbrev main_v3 : Ref sig .tc := ⟨.hbm, 7, rfl⟩
abbrev main_v2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

abbrev pre0 : Pipeline.Prefetch sig := ⟨1, ![main_v2.idx], fun | 0 => main_v2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.addi arg1 v1
  let c0_i32 : BitVec 32 := 0#32
  ![arg2.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GOutConvSendRefIdeal.lean ====
abbrev S4096x2048 : Shape := ⟨2, ![4096, 2048]⟩
abbrev S_ : Shape := ⟨0, ![]⟩
abbrev S2048x2048 : Shape := ⟨2, ![2048, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GOutConvKeep.lean ====
abbrev S4096x2048 : Shape := ⟨2, ![4096, 2048]⟩
abbrev S2048x1024 : Shape := ⟨2, ![2048, 1024]⟩
abbrev S_ : Shape := ⟨0, ![]⟩
abbrev S1 : Shape := ⟨1, ![1]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 9
  | .vmem => 7
  | .smem => 1
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x1024, .f32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S1, .i32⟩
  | .hbm, ⟨8, _⟩ => ⟨S2048x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .bf16⟩
  | .local _ .vmem, ⟨6, _⟩ => ⟨S512x1024, .bf16⟩
  | .local _ .smem, ⟨0, _⟩ => ⟨S1, .i32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.addi arg1 v1
  let c0_i32 : BitVec 32 := 0#32
  ![arg2.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GOutConvKeepRefIdeal.lean ====
abbrev S4096x2048 : Shape := ⟨2, ![4096, 2048]⟩
abbrev S2048x1024 : Shape := ⟨2, ![2048, 1024]⟩
abbrev S_ : Shape := ⟨0, ![]⟩
abbrev S2048x2048 : Shape := ⟨2, ![2048, 2048]⟩

abbrev nBuf : Space → Nat
  | .hbm => 13
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x1024, .f32⟩
  | .hbm, ⟨3, _⟩ => ⟨S_, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S2048x2048, .f32⟩
  | .hbm, ⟨9, _⟩ => ⟨S2048x2048, .f32⟩
  | .hbm, ⟨10, _⟩ => ⟨S2048x1024, .f32⟩
  | .hbm, ⟨11, _⟩ => ⟨S2048x1024, .f32⟩
  | .hbm, ⟨12, _⟩ => ⟨S2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== GOutAttnSend.lean ====
abbrev S4096x2048 : Shape := ⟨2, ![4096, 2048]⟩
abbrev S_ : Shape := ⟨0, ![]⟩
abbrev S1 : Shape := ⟨1, ![1]⟩
abbrev S2048x1024 : Shape := ⟨2, ![2048, 1024]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 8
  | .vmem => 5
  | .smem => 1
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .i32⟩
  | .hbm, ⟨3, _⟩ => ⟨S1, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S2048x1024, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .smem, ⟨0, _⟩ => ⟨S1, .i32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_c_0 : Ref sig .tc := ⟨.hbm, 4, rfl⟩
abbrev main_c_1 : Ref sig .tc := ⟨.hbm, 5, rfl⟩
abbrev main_v1 : Ref sig .tc := ⟨.hbm, 6, rfl⟩
abbrev main_v3 : Ref sig .tc := ⟨.hbm, 7, rfl⟩
abbrev main_v2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

abbrev pre0 : Pipeline.Prefetch sig := ⟨1, ![main_v2.idx], fun | 0 => main_v2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.addi arg1 v1
  let c0_i32 : BitVec 32 := 0#32
  ![arg2.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GOutAttnSendRefIdeal.lean ====
abbrev S4096x2048 : Shape := ⟨2, ![4096, 2048]⟩
abbrev S_ : Shape := ⟨0, ![]⟩
abbrev S2048x2048 : Shape := ⟨2, ![2048, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GOutAttnKeep.lean ====
abbrev S4096x2048 : Shape := ⟨2, ![4096, 2048]⟩
abbrev S2048x1024 : Shape := ⟨2, ![2048, 1024]⟩
abbrev S_ : Shape := ⟨0, ![]⟩
abbrev S1 : Shape := ⟨1, ![1]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 9
  | .vmem => 7
  | .smem => 1
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x1024, .f32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S1, .i32⟩
  | .hbm, ⟨8, _⟩ => ⟨S2048x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .bf16⟩
  | .local _ .vmem, ⟨6, _⟩ => ⟨S512x1024, .bf16⟩
  | .local _ .smem, ⟨0, _⟩ => ⟨S1, .i32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.addi arg1 v1
  let c0_i32 : BitVec 32 := 0#32
  ![arg2.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GOutAttnKeepRefIdeal.lean ====
abbrev S4096x2048 : Shape := ⟨2, ![4096, 2048]⟩
abbrev S2048x1024 : Shape := ⟨2, ![2048, 1024]⟩
abbrev S_ : Shape := ⟨0, ![]⟩
abbrev S2048x2048 : Shape := ⟨2, ![2048, 2048]⟩

abbrev nBuf : Space → Nat
  | .hbm => 13
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x1024, .f32⟩
  | .hbm, ⟨3, _⟩ => ⟨S_, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S2048x2048, .f32⟩
  | .hbm, ⟨9, _⟩ => ⟨S2048x2048, .f32⟩
  | .hbm, ⟨10, _⟩ => ⟨S2048x1024, .f32⟩
  | .hbm, ⟨11, _⟩ => ⟨S2048x1024, .f32⟩
  | .hbm, ⟨12, _⟩ => ⟨S2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== GMergeSend.lean ====
abbrev S4096x2048 : Shape := ⟨2, ![4096, 2048]⟩
abbrev S_ : Shape := ⟨0, ![]⟩
abbrev S1 : Shape := ⟨1, ![1]⟩
abbrev S2048x1024 : Shape := ⟨2, ![2048, 1024]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 8
  | .vmem => 5
  | .smem => 1
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .i32⟩
  | .hbm, ⟨3, _⟩ => ⟨S1, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S2048x1024, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .smem, ⟨0, _⟩ => ⟨S1, .i32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_c_0 : Ref sig .tc := ⟨.hbm, 4, rfl⟩
abbrev main_c_1 : Ref sig .tc := ⟨.hbm, 5, rfl⟩
abbrev main_v1 : Ref sig .tc := ⟨.hbm, 6, rfl⟩
abbrev main_v3 : Ref sig .tc := ⟨.hbm, 7, rfl⟩
abbrev main_v2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

abbrev pre0 : Pipeline.Prefetch sig := ⟨1, ![main_v2.idx], fun | 0 => main_v2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.addi arg1 v1
  let c0_i32 : BitVec 32 := 0#32
  ![arg2.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GMergeSendRefIdeal.lean ====
abbrev S4096x2048 : Shape := ⟨2, ![4096, 2048]⟩
abbrev S_ : Shape := ⟨0, ![]⟩
abbrev S2048x2048 : Shape := ⟨2, ![2048, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GMergeKeep.lean ====
abbrev S4096x2048 : Shape := ⟨2, ![4096, 2048]⟩
abbrev S2048x1024 : Shape := ⟨2, ![2048, 1024]⟩
abbrev S_ : Shape := ⟨0, ![]⟩
abbrev S1 : Shape := ⟨1, ![1]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 9
  | .vmem => 7
  | .smem => 1
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x1024, .f32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S1, .i32⟩
  | .hbm, ⟨8, _⟩ => ⟨S2048x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .bf16⟩
  | .local _ .vmem, ⟨6, _⟩ => ⟨S512x1024, .bf16⟩
  | .local _ .smem, ⟨0, _⟩ => ⟨S1, .i32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.addi arg1 v1
  let c0_i32 : BitVec 32 := 0#32
  ![arg2.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GMergeKeepRefIdeal.lean ====
abbrev S4096x2048 : Shape := ⟨2, ![4096, 2048]⟩
abbrev S2048x1024 : Shape := ⟨2, ![2048, 1024]⟩
abbrev S_ : Shape := ⟨0, ![]⟩
abbrev S2048x2048 : Shape := ⟨2, ![2048, 2048]⟩

abbrev nBuf : Space → Nat
  | .hbm => 13
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x1024, .f32⟩
  | .hbm, ⟨3, _⟩ => ⟨S_, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S2048x2048, .f32⟩
  | .hbm, ⟨9, _⟩ => ⟨S2048x2048, .f32⟩
  | .hbm, ⟨10, _⟩ => ⟨S2048x1024, .f32⟩
  | .hbm, ⟨11, _⟩ => ⟨S2048x1024, .f32⟩
  | .hbm, ⟨12, _⟩ => ⟨S2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== GInSend.lean ====
abbrev S4096x2048 : Shape := ⟨2, ![4096, 2048]⟩
abbrev S4096x13312 : Shape := ⟨2, ![4096, 13312]⟩
abbrev S_ : Shape := ⟨0, ![]⟩
abbrev S1 : Shape := ⟨1, ![1]⟩
abbrev S1024x13312 : Shape := ⟨2, ![1024, 13312]⟩
abbrev S4096x1024 : Shape := ⟨2, ![4096, 1024]⟩
abbrev S4096x512 : Shape := ⟨2, ![4096, 512]⟩
abbrev S1024x512 : Shape := ⟨2, ![1024, 512]⟩

abbrev nBuf : Space → Nat
  | .hbm => 8
  | .vmem => 5
  | .smem => 1
  | _ => 0

abbrev bufTy : (tb : Table) → Fin (tcTables nBuf tb) → BufTy
  | .hbm, ⟨0, _⟩ => ⟨S4096x2048, .bf16⟩
  | .hbm, ⟨1, _⟩ => ⟨S4096x13312, .bf16⟩
  | .hbm, ⟨2, _⟩ => ⟨S_, .i32⟩
  | .hbm, ⟨3, _⟩ => ⟨S1, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S1024x13312, .f32⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .f32⟩
  | .local _ .vmem, ⟨4, _⟩ => ⟨S1024x512, .f32⟩
  | .local _ .smem, ⟨0, _⟩ => ⟨S1, .i32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_c_0 : Ref sig .tc := ⟨.hbm, 4, rfl⟩
abbrev main_c_1 : Ref sig .tc := ⟨.hbm, 5, rfl⟩
abbrev main_v1 : Ref sig .tc := ⟨.hbm, 6, rfl⟩
abbrev main_v3 : Ref sig .tc := ⟨.hbm, 7, rfl⟩
abbrev main_v2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 26, 1], ![false, false, false]⟩

abbrev pre0 : Pipeline.Prefetch sig := ⟨1, ![main_v2.idx], fun | 0 => main_v2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.addi arg0 v1
  let c0_i32 : BitVec 32 := 0#32
  ![arg2.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GInSendRefIdeal.lean ====
abbrev S4096x2048 : Shape := ⟨2, ![4096, 2048]⟩
abbrev S4096x13312 : Shape := ⟨2, ![4096, 13312]⟩
abbrev S_ : Shape := ⟨0, ![]⟩
abbrev S2048x13312 : Shape := ⟨2, ![2048, 13312]⟩
abbrev S13312x2048 : Shape := ⟨2, ![13312, 2048]⟩
abbrev S1024x13312 : Shape := ⟨2, ![1024, 13312]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x13312, .bf16⟩
  | .hbm, ⟨2, _⟩ => ⟨S_, .f32⟩
  | .hbm, ⟨3, _⟩ => ⟨S2048x13312, .f32⟩
  | .hbm, ⟨4, _⟩ => ⟨S4096x2048, .f32⟩
  | .hbm, ⟨5, _⟩ => ⟨S4096x13312, .f32⟩
  | .hbm, ⟨6, _⟩ => ⟨S4096x13312, .f32⟩
  | .hbm, ⟨7, _⟩ => ⟨S13312x2048, .f32⟩
  | .hbm, ⟨8, _⟩ => ⟨S2048x13312, .f32⟩
  | .hbm, ⟨9, _⟩ => ⟨S1024x13312, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GInKeep.lean ====
abbrev S4096x2048 : Shape := ⟨2, ![4096, 2048]⟩
abbrev S4096x13312 : Shape := ⟨2, ![4096, 13312]⟩
abbrev S1024x13312 : Shape := ⟨2, ![1024, 13312]⟩
abbrev S_ : Shape := ⟨0, ![]⟩
abbrev S1 : Shape := ⟨1, ![1]⟩
abbrev S4096x1024 : Shape := ⟨2, ![4096, 1024]⟩
abbrev S4096x512 : Shape := ⟨2, ![4096, 512]⟩
abbrev S1024x512 : Shape := ⟨2, ![1024, 512]⟩

abbrev nBuf : Space → Nat
  | .hbm => 9
  | .vmem => 7
  | .smem => 1
  | _ => 0

abbrev bufTy : (tb : Table) → Fin (tcTables nBuf tb) → BufTy
  | .hbm, ⟨0, _⟩ => ⟨S4096x2048, .bf16⟩
  | .hbm, ⟨1, _⟩ => ⟨S4096x13312, .bf16⟩
  | .hbm, ⟨2, _⟩ => ⟨S1024x13312, .f32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S1, .i32⟩
  | .hbm, ⟨8, _⟩ => ⟨S1024x13312, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .f32⟩
  | .local _ .vmem, ⟨4, _⟩ => ⟨S1024x512, .f32⟩
  | .local _ .vmem, ⟨5, _⟩ => ⟨S1024x512, .bf16⟩
  | .local _ .vmem, ⟨6, _⟩ => ⟨S1024x512, .bf16⟩
  | .local _ .smem, ⟨0, _⟩ => ⟨S1, .i32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 26, 1], ![false, false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.addi arg0 v1
  let c0_i32 : BitVec 32 := 0#32
  ![arg2.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GInKeepRefIdeal.lean ====
abbrev S4096x2048 : Shape := ⟨2, ![4096, 2048]⟩
abbrev S4096x13312 : Shape := ⟨2, ![4096, 13312]⟩
abbrev S1024x13312 : Shape := ⟨2, ![1024, 13312]⟩
abbrev S_ : Shape := ⟨0, ![]⟩
abbrev S2048x13312 : Shape := ⟨2, ![2048, 13312]⟩
abbrev S13312x2048 : Shape := ⟨2, ![13312, 2048]⟩

abbrev nBuf : Space → Nat
  | .hbm => 13
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x13312, .bf16⟩
  | .hbm, ⟨2, _⟩ => ⟨S1024x13312, .f32⟩
  | .hbm, ⟨3, _⟩ => ⟨S_, .f32⟩
  | .hbm, ⟨4, _⟩ => ⟨S2048x13312, .f32⟩
  | .hbm, ⟨5, _⟩ => ⟨S4096x2048, .f32⟩
  | .hbm, ⟨6, _⟩ => ⟨S4096x13312, .f32⟩
  | .hbm, ⟨7, _⟩ => ⟨S4096x13312, .f32⟩
  | .hbm, ⟨8, _⟩ => ⟨S13312x2048, .f32⟩
  | .hbm, ⟨9, _⟩ => ⟨S2048x13312, .f32⟩
  | .hbm, ⟨10, _⟩ => ⟨S1024x13312, .f32⟩
  | .hbm, ⟨11, _⟩ => ⟨S1024x13312, .f32⟩
  | .hbm, ⟨12, _⟩ => ⟨S1024x13312, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Small.lean ====
abbrev S4x2048 : Shape := ⟨2, ![4, 2048]⟩
abbrev S4x4096 : Shape := ⟨2, ![4, 4096]⟩
abbrev S4x3x512 : Shape := ⟨3, ![4, 3, 512]⟩
abbrev S4x128 : Shape := ⟨2, ![4, 128]⟩
abbrev S8192 : Shape := ⟨1, ![8192]⟩
abbrev S16384 : Shape := ⟨1, ![16384]⟩
abbrev S6144 : Shape := ⟨1, ![6144]⟩
abbrev S512 : Shape := ⟨1, ![512]⟩
abbrev S56320 : Shape := ⟨1, ![56320]⟩
abbrev S_ : Shape := ⟨0, ![]⟩
abbrev S440x128 : Shape := ⟨2, ![440, 128]⟩

abbrev nBuf : Space → Nat
  | .hbm => 138
  | .vmem => 7
  | .smem => 0
  | _ => 0

abbrev hbmTy0_0 (i : Nat) : BufTy := match i % 128 with
  | 0 => ⟨S4x2048, .f32⟩
  | 1 => ⟨S4x4096, .f32⟩
  | 2 => ⟨S4x3x512, .f32⟩
  | 3 => ⟨S4x128, .f32⟩
  | 4 => ⟨S4x128, .f32⟩
  | 5 => ⟨S4x2048, .f32⟩
  | 6 => ⟨S4x2048, .f32⟩
  | 7 => ⟨S4x2048, .f32⟩
  | 8 => ⟨S4x2048, .f32⟩
  | 9 => ⟨S4x4096, .f32⟩
  | 10 => ⟨S4x3x512, .f32⟩
  | 11 => ⟨S4x128, .f32⟩
  | 12 => ⟨S4x128, .f32⟩
  | 13 => ⟨S4x2048, .f32⟩
  | 14 => ⟨S4x2048, .f32⟩
  | 15 => ⟨S4x2048, .f32⟩
  | 16 => ⟨S4x2048, .f32⟩
  | 17 => ⟨S4x4096, .f32⟩
  | 18 => ⟨S4x3x512, .f32⟩
  | 19 => ⟨S4x128, .f32⟩
  | 20 => ⟨S4x128, .f32⟩
  | 21 => ⟨S4x2048, .f32⟩
  | 22 => ⟨S4x2048, .f32⟩
  | 23 => ⟨S4x2048, .f32⟩
  | 24 => ⟨S4x2048, .f32⟩
  | 25 => ⟨S4x4096, .f32⟩
  | 26 => ⟨S4x3x512, .f32⟩
  | 27 => ⟨S4x128, .f32⟩
  | 28 => ⟨S4x128, .f32⟩
  | 29 => ⟨S4x2048, .f32⟩
  | 30 => ⟨S4x2048, .f32⟩
  | 31 => ⟨S4x2048, .f32⟩
  | 32 => ⟨S8192, .f32⟩
  | 33 => ⟨S16384, .f32⟩
  | 34 => ⟨S6144, .f32⟩
  | 35 => ⟨S512, .f32⟩
  | 36 => ⟨S512, .f32⟩
  | 37 => ⟨S8192, .f32⟩
  | 38 => ⟨S8192, .f32⟩
  | 39 => ⟨S8192, .f32⟩
  | 40 => ⟨S56320, .f32⟩
  | 41 => ⟨S_, .i32⟩
  | 42 => ⟨S_, .f32⟩
  | 43 => ⟨S56320, .f32⟩
  | 44 => ⟨S440x128, .f32⟩
  | 45 => ⟨S8192, .f32⟩
  | 46 => ⟨S16384, .f32⟩
  | 47 => ⟨S6144, .f32⟩
  | 48 => ⟨S512, .f32⟩
  | 49 => ⟨S512, .f32⟩
  | 50 => ⟨S8192, .f32⟩
  | 51 => ⟨S8192, .f32⟩
  | 52 => ⟨S8192, .f32⟩
  | 53 => ⟨S56320, .f32⟩
  | 54 => ⟨S_, .i32⟩
  | 55 => ⟨S_, .f32⟩
  | 56 => ⟨S56320, .f32⟩
  | 57 => ⟨S440x128, .f32⟩
  | 58 => ⟨S8192, .f32⟩
  | 59 => ⟨S16384, .f32⟩
  | 60 => ⟨S6144, .f32⟩
  | 61 => ⟨S512, .f32⟩
  | 62 => ⟨S512, .f32⟩
  | 63 => ⟨S8192, .f32⟩
  | 64 => ⟨S8192, .f32⟩
  | 65 => ⟨S8192, .f32⟩
  | 66 => ⟨S56320, .f32⟩
  | 67 => ⟨S_, .i32⟩
  | 68 => ⟨S_, .f32⟩
  | 69 => ⟨S56320, .f32⟩
  | 70 => ⟨S440x128, .f32⟩
  | 71 => ⟨S8192, .f32⟩
  | 72 => ⟨S16384, .f32⟩
  | 73 => ⟨S6144, .f32⟩
  | 74 => ⟨S512, .f32⟩
  | 75 => ⟨S512, .f32⟩
  | 76 => ⟨S8192, .f32⟩
  | 77 => ⟨S8192, .f32⟩
  | 78 => ⟨S8192, .f32⟩
  | 79 => ⟨S56320, .f32⟩
  | 80 => ⟨S_, .i32⟩
  | 81 => ⟨S_, .f32⟩
  | 82 => ⟨S56320, .f32⟩
  | 83 => ⟨S440x128, .f32⟩
  | 84 => ⟨S440x128, .f32⟩
  | 85 => ⟨S440x128, .f32⟩
  | 86 => ⟨S440x128, .f32⟩
  | 87 => ⟨S56320, .f32⟩
  | 88 => ⟨S8192, .f32⟩
  | 89 => ⟨S4x2048, .f32⟩
  | 90 => ⟨S16384, .f32⟩
  | 91 => ⟨S4x4096, .f32⟩
  | 92 => ⟨S6144, .f32⟩
  | 93 => ⟨S4x3x512, .f32⟩
  | 94 => ⟨S512, .f32⟩
  | 95 => ⟨S4x128, .f32⟩
  | 96 => ⟨S512, .f32⟩
  | 97 => ⟨S4x128, .f32⟩
  | 98 => ⟨S8192, .f32⟩
  | 99 => ⟨S4x2048, .f32⟩
  | 100 => ⟨S8192, .f32⟩
  | 101 => ⟨S4x2048, .f32⟩
  | 102 => ⟨S8192, .f32⟩
  | 103 => ⟨S4x2048, .f32⟩
  | 104 => ⟨S56320, .f32⟩
  | 105 => ⟨S8192, .f32⟩
  | 106 => ⟨S4x2048, .f32⟩
  | 107 => ⟨S16384, .f32⟩
  | 108 => ⟨S4x4096, .f32⟩
  | 109 => ⟨S6144, .f32⟩
  | 110 => ⟨S4x3x512, .f32⟩
  | 111 => ⟨S512, .f32⟩
  | 112 => ⟨S4x128, .f32⟩
  | 113 => ⟨S512, .f32⟩
  | 114 => ⟨S4x128, .f32⟩
  | 115 => ⟨S8192, .f32⟩
  | 116 => ⟨S4x2048, .f32⟩
  | 117 => ⟨S8192, .f32⟩
  | 118 => ⟨S4x2048, .f32⟩
  | 119 => ⟨S8192, .f32⟩
  | 120 => ⟨S4x2048, .f32⟩
  | 121 => ⟨S56320, .f32⟩
  | 122 => ⟨S8192, .f32⟩
  | 123 => ⟨S4x2048, .f32⟩
  | 124 => ⟨S16384, .f32⟩
  | 125 => ⟨S4x4096, .f32⟩
  | 126 => ⟨S6144, .f32⟩
  | 127 => ⟨S4x3x512, .f32⟩
  | _ => ⟨S4x2048, .f32⟩

abbrev hbmTy0_1 (i : Nat) : BufTy := match i % 128 with
  | 0 => ⟨S512, .f32⟩
  | 1 => ⟨S4x128, .f32⟩
  | 2 => ⟨S512, .f32⟩
  | 3 => ⟨S4x128, .f32⟩
  | 4 => ⟨S8192, .f32⟩
  | 5 => ⟨S4x2048, .f32⟩
  | 6 => ⟨S8192, .f32⟩
  | 7 => ⟨S4x2048, .f32⟩
  | 8 => ⟨S8192, .f32⟩
  | 9 => ⟨S4x2048, .f32⟩
  | _ => ⟨S4x2048, .f32⟩

abbrev hbmTy (i : Nat) : BufTy := match i / 128 with
  | 0 => hbmTy0_0 i
  | 1 => hbmTy0_1 i
  | _ => ⟨S4x2048, .f32⟩

abbrev bufTy : (tb : Table) → Fin (tcTables nBuf tb) → BufTy
  | .hbm, ⟨i, _⟩ => hbmTy i
  | .local _ .vmem, ⟨0, _⟩ => ⟨S440x128, .f32⟩
  | .local _ .vmem, ⟨1, _⟩ => ⟨S440x128, .f32⟩
  | .local _ .vmem, ⟨2, _⟩ => ⟨S440x128, .f32⟩
  | .local _ .vmem, ⟨3, _⟩ => ⟨S440x128, .f32⟩
  | .local _ .vmem, ⟨4, _⟩ => ⟨S440x128, .f32⟩
  | .local _ .vmem, ⟨5, _⟩ => ⟨S440x128, .f32⟩
  | .local _ .vmem, ⟨6, _⟩ => ⟨S440x128, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_v0 : Ref sig .tc := ⟨.hbm, 32, rfl⟩
abbrev main_v1 : Ref sig .tc := ⟨.hbm, 33, rfl⟩
abbrev main_v2 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_c : Ref sig .tc := ⟨.hbm, 41, rfl⟩
abbrev main_call0_v0 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_c_0 : Ref sig .tc := ⟨.hbm, 54, rfl⟩
abbrev main_call1_v0 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_c_1 : Ref sig .tc := ⟨.hbm, 67, rfl⟩
abbrev main_call2_v0 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_c_2 : Ref sig .tc := ⟨.hbm, 80, rfl⟩
abbrev main_call3_v0 : Ref sig .tc := ⟨.hbm, 81, rfl⟩
abbrev main_v42 : Ref sig .tc := ⟨.hbm, 82, rfl⟩
abbrev main_v43 : Ref sig .tc := ⟨.hbm, 83, rfl⟩
abbrev main_v44_0 : Ref sig .tc := ⟨.hbm, 84, rfl⟩
abbrev main_v44_1 : Ref sig .tc := ⟨.hbm, 85, rfl⟩
abbrev main_v44_2 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S440x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S440x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S440x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S440x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S440x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S440x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S440x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== SmallRefIdeal.lean ====
abbrev S4x2048 : Shape := ⟨2, ![4, 2048]⟩
abbrev S4x4096 : Shape := ⟨2, ![4, 4096]⟩
abbrev S4x3x512 : Shape := ⟨3, ![4, 3, 512]⟩
abbrev S4x128 : Shape := ⟨2, ![4, 128]⟩
abbrev S_ : Shape := ⟨0, ![]⟩

abbrev nBuf : Space → Nat
  | .hbm => 296
  | .vmem => 0
  | .smem => 0
  | _ => 0

abbrev hbmTy0_0 (i : Nat) : BufTy := match i % 128 with
  | 0 => ⟨S4x2048, .f32⟩
  | 1 => ⟨S4x4096, .f32⟩
  | 2 => ⟨S4x3x512, .f32⟩
  | 3 => ⟨S4x128, .f32⟩
  | 4 => ⟨S4x128, .f32⟩
  | 5 => ⟨S4x2048, .f32⟩
  | 6 => ⟨S4x2048, .f32⟩
  | 7 => ⟨S4x2048, .f32⟩
  | 8 => ⟨S4x2048, .f32⟩
  | 9 => ⟨S4x4096, .f32⟩
  | 10 => ⟨S4x3x512, .f32⟩
  | 11 => ⟨S4x128, .f32⟩
  | 12 => ⟨S4x128, .f32⟩
  | 13 => ⟨S4x2048, .f32⟩
  | 14 => ⟨S4x2048, .f32⟩
  | 15 => ⟨S4x2048, .f32⟩
  | 16 => ⟨S4x2048, .f32⟩
  | 17 => ⟨S4x4096, .f32⟩
  | 18 => ⟨S4x3x512, .f32⟩
  | 19 => ⟨S4x128, .f32⟩
  | 20 => ⟨S4x128, .f32⟩
  | 21 => ⟨S4x2048, .f32⟩
  | 22 => ⟨S4x2048, .f32⟩
  | 23 => ⟨S4x2048, .f32⟩
  | 24 => ⟨S4x2048, .f32⟩
  | 25 => ⟨S4x4096, .f32⟩
  | 26 => ⟨S4x3x512, .f32⟩
  | 27 => ⟨S4x128, .f32⟩
  | 28 => ⟨S4x128, .f32⟩
  | 29 => ⟨S4x2048, .f32⟩
  | 30 => ⟨S4x2048, .f32⟩
  | 31 => ⟨S4x2048, .f32⟩
  | 32 => ⟨S_, .f32⟩
  | 33 => ⟨S4x2048, .f32⟩
  | 34 => ⟨S4x2048, .f32⟩
  | 35 => ⟨S_, .f32⟩
  | 36 => ⟨S4x2048, .f32⟩
  | 37 => ⟨S4x2048, .f32⟩
  | 38 => ⟨S4x2048, .f32⟩
  | 39 => ⟨S_, .f32⟩
  | 40 => ⟨S4x2048, .f32⟩
  | 41 => ⟨S4x2048, .f32⟩
  | 42 => ⟨S4x2048, .f32⟩
  | 43 => ⟨S_, .f32⟩
  | 44 => ⟨S4x2048, .f32⟩
  | 45 => ⟨S4x2048, .f32⟩
  | 46 => ⟨S4x2048, .f32⟩
  | 47 => ⟨S_, .f32⟩
  | 48 => ⟨S4x2048, .f32⟩
  | 49 => ⟨S4x2048, .f32⟩
  | 50 => ⟨S_, .f32⟩
  | 51 => ⟨S4x2048, .f32⟩
  | 52 => ⟨S4x2048, .f32⟩
  | 53 => ⟨S4x2048, .f32⟩
  | 54 => ⟨S_, .f32⟩
  | 55 => ⟨S4x2048, .f32⟩
  | 56 => ⟨S4x2048, .f32⟩
  | 57 => ⟨S4x2048, .f32⟩
  | 58 => ⟨S_, .f32⟩
  | 59 => ⟨S4x2048, .f32⟩
  | 60 => ⟨S4x2048, .f32⟩
  | 61 => ⟨S4x2048, .f32⟩
  | 62 => ⟨S_, .f32⟩
  | 63 => ⟨S4x2048, .f32⟩
  | 64 => ⟨S4x2048, .f32⟩
  | 65 => ⟨S_, .f32⟩
  | 66 => ⟨S4x4096, .f32⟩
  | 67 => ⟨S4x4096, .f32⟩
  | 68 => ⟨S_, .f32⟩
  | 69 => ⟨S4x4096, .f32⟩
  | 70 => ⟨S4x4096, .f32⟩
  | 71 => ⟨S4x4096, .f32⟩
  | 72 => ⟨S_, .f32⟩
  | 73 => ⟨S4x4096, .f32⟩
  | 74 => ⟨S4x4096, .f32⟩
  | 75 => ⟨S4x4096, .f32⟩
  | 76 => ⟨S_, .f32⟩
  | 77 => ⟨S4x4096, .f32⟩
  | 78 => ⟨S4x4096, .f32⟩
  | 79 => ⟨S4x4096, .f32⟩
  | 80 => ⟨S_, .f32⟩
  | 81 => ⟨S4x4096, .f32⟩
  | 82 => ⟨S4x4096, .f32⟩
  | 83 => ⟨S_, .f32⟩
  | 84 => ⟨S4x4096, .f32⟩
  | 85 => ⟨S4x4096, .f32⟩
  | 86 => ⟨S4x4096, .f32⟩
  | 87 => ⟨S_, .f32⟩
  | 88 => ⟨S4x4096, .f32⟩
  | 89 => ⟨S4x4096, .f32⟩
  | 90 => ⟨S4x4096, .f32⟩
  | 91 => ⟨S_, .f32⟩
  | 92 => ⟨S4x4096, .f32⟩
  | 93 => ⟨S4x4096, .f32⟩
  | 94 => ⟨S4x4096, .f32⟩
  | 95 => ⟨S_, .f32⟩
  | 96 => ⟨S4x4096, .f32⟩
  | 97 => ⟨S4x4096, .f32⟩
  | 98 => ⟨S_, .f32⟩
  | 99 => ⟨S4x3x512, .f32⟩
  | 100 => ⟨S4x3x512, .f32⟩
  | 101 => ⟨S_, .f32⟩
  | 102 => ⟨S4x3x512, .f32⟩
  | 103 => ⟨S4x3x512, .f32⟩
  | 104 => ⟨S4x3x512, .f32⟩
  | 105 => ⟨S_, .f32⟩
  | 106 => ⟨S4x3x512, .f32⟩
  | 107 => ⟨S4x3x512, .f32⟩
  | 108 => ⟨S4x3x512, .f32⟩
  | 109 => ⟨S_, .f32⟩
  | 110 => ⟨S4x3x512, .f32⟩
  | 111 => ⟨S4x3x512, .f32⟩
  | 112 => ⟨S4x3x512, .f32⟩
  | 113 => ⟨S_, .f32⟩
  | 114 => ⟨S4x3x512, .f32⟩
  | 115 => ⟨S4x3x512, .f32⟩
  | 116 => ⟨S_, .f32⟩
  | 117 => ⟨S4x3x512, .f32⟩
  | 118 => ⟨S4x3x512, .f32⟩
  | 119 => ⟨S4x3x512, .f32⟩
  | 120 => ⟨S_, .f32⟩
  | 121 => ⟨S4x3x512, .f32⟩
  | 122 => ⟨S4x3x512, .f32⟩
  | 123 => ⟨S4x3x512, .f32⟩
  | 124 => ⟨S_, .f32⟩
  | 125 => ⟨S4x3x512, .f32⟩
  | 126 => ⟨S4x3x512, .f32⟩
  | 127 => ⟨S4x3x512, .f32⟩
  | _ => ⟨S4x2048, .f32⟩

abbrev hbmTy0_1 (i : Nat) : BufTy := match i % 128 with
  | 0 => ⟨S_, .f32⟩
  | 1 => ⟨S4x3x512, .f32⟩
  | 2 => ⟨S4x3x512, .f32⟩
  | 3 => ⟨S_, .f32⟩
  | 4 => ⟨S4x128, .f32⟩
  | 5 => ⟨S4x128, .f32⟩
  | 6 => ⟨S_, .f32⟩
  | 7 => ⟨S4x128, .f32⟩
  | 8 => ⟨S4x128, .f32⟩
  | 9 => ⟨S4x128, .f32⟩
  | 10 => ⟨S_, .f32⟩
  | 11 => ⟨S4x128, .f32⟩
  | 12 => ⟨S4x128, .f32⟩
  | 13 => ⟨S4x128, .f32⟩
  | 14 => ⟨S_, .f32⟩
  | 15 => ⟨S4x128, .f32⟩
  | 16 => ⟨S4x128, .f32⟩
  | 17 => ⟨S4x128, .f32⟩
  | 18 => ⟨S_, .f32⟩
  | 19 => ⟨S4x128, .f32⟩
  | 20 => ⟨S4x128, .f32⟩
  | 21 => ⟨S_, .f32⟩
  | 22 => ⟨S4x128, .f32⟩
  | 23 => ⟨S4x128, .f32⟩
  | 24 => ⟨S4x128, .f32⟩
  | 25 => ⟨S_, .f32⟩
  | 26 => ⟨S4x128, .f32⟩
  | 27 => ⟨S4x128, .f32⟩
  | 28 => ⟨S4x128, .f32⟩
  | 29 => ⟨S_, .f32⟩
  | 30 => ⟨S4x128, .f32⟩
  | 31 => ⟨S4x128, .f32⟩
  | 32 => ⟨S4x128, .f32⟩
  | 33 => ⟨S_, .f32⟩
  | 34 => ⟨S4x128, .f32⟩
  | 35 => ⟨S4x128, .f32⟩
  | 36 => ⟨S_, .f32⟩
  | 37 => ⟨S4x128, .f32⟩
  | 38 => ⟨S4x128, .f32⟩
  | 39 => ⟨S_, .f32⟩
  | 40 => ⟨S4x128, .f32⟩
  | 41 => ⟨S4x128, .f32⟩
  | 42 => ⟨S4x128, .f32⟩
  | 43 => ⟨S_, .f32⟩
  | 44 => ⟨S4x128, .f32⟩
  | 45 => ⟨S4x128, .f32⟩
  | 46 => ⟨S4x128, .f32⟩
  | 47 => ⟨S_, .f32⟩
  | 48 => ⟨S4x128, .f32⟩
  | 49 => ⟨S4x128, .f32⟩
  | 50 => ⟨S4x128, .f32⟩
  | 51 => ⟨S_, .f32⟩
  | 52 => ⟨S4x128, .f32⟩
  | 53 => ⟨S4x128, .f32⟩
  | 54 => ⟨S_, .f32⟩
  | 55 => ⟨S4x128, .f32⟩
  | 56 => ⟨S4x128, .f32⟩
  | 57 => ⟨S4x128, .f32⟩
  | 58 => ⟨S_, .f32⟩
  | 59 => ⟨S4x128, .f32⟩
  | 60 => ⟨S4x128, .f32⟩
  | 61 => ⟨S4x128, .f32⟩
  | 62 => ⟨S_, .f32⟩
  | 63 => ⟨S4x128, .f32⟩
  | 64 => ⟨S4x128, .f32⟩
  | 65 => ⟨S4x128, .f32⟩
  | 66 => ⟨S_, .f32⟩
  | 67 => ⟨S4x128, .f32⟩
  | 68 => ⟨S4x128, .f32⟩
  | 69 => ⟨S_, .f32⟩
  | 70 => ⟨S4x2048, .f32⟩
  | 71 => ⟨S4x2048, .f32⟩
  | 72 => ⟨S_, .f32⟩
  | 73 => ⟨S4x2048, .f32⟩
  | 74 => ⟨S4x2048, .f32⟩
  | 75 => ⟨S4x2048, .f32⟩
  | 76 => ⟨S_, .f32⟩
  | 77 => ⟨S4x2048, .f32⟩
  | 78 => ⟨S4x2048, .f32⟩
  | 79 => ⟨S4x2048, .f32⟩
  | 80 => ⟨S_, .f32⟩
  | 81 => ⟨S4x2048, .f32⟩
  | 82 => ⟨S4x2048, .f32⟩
  | 83 => ⟨S4x2048, .f32⟩
  | 84 => ⟨S_, .f32⟩
  | 85 => ⟨S4x2048, .f32⟩
  | 86 => ⟨S4x2048, .f32⟩
  | 87 => ⟨S_, .f32⟩
  | 88 => ⟨S4x2048, .f32⟩
  | 89 => ⟨S4x2048, .f32⟩
  | 90 => ⟨S4x2048, .f32⟩
  | 91 => ⟨S_, .f32⟩
  | 92 => ⟨S4x2048, .f32⟩
  | 93 => ⟨S4x2048, .f32⟩
  | 94 => ⟨S4x2048, .f32⟩
  | 95 => ⟨S_, .f32⟩
  | 96 => ⟨S4x2048, .f32⟩
  | 97 => ⟨S4x2048, .f32⟩
  | 98 => ⟨S4x2048, .f32⟩
  | 99 => ⟨S_, .f32⟩
  | 100 => ⟨S4x2048, .f32⟩
  | 101 => ⟨S4x2048, .f32⟩
  | 102 => ⟨S_, .f32⟩
  | 103 => ⟨S4x2048, .f32⟩
  | 104 => ⟨S4x2048, .f32⟩
  | 105 => ⟨S_, .f32⟩
  | 106 => ⟨S4x2048, .f32⟩
  | 107 => ⟨S4x2048, .f32⟩
  | 108 => ⟨S4x2048, .f32⟩
  | 109 => ⟨S_, .f32⟩
  | 110 => ⟨S4x2048, .f32⟩
  | 111 => ⟨S4x2048, .f32⟩
  | 112 => ⟨S4x2048, .f32⟩
  | 113 => ⟨S_, .f32⟩
  | 114 => ⟨S4x2048, .f32⟩
  | 115 => ⟨S4x2048, .f32⟩
  | 116 => ⟨S4x2048, .f32⟩
  | 117 => ⟨S_, .f32⟩
  | 118 => ⟨S4x2048, .f32⟩
  | 119 => ⟨S4x2048, .f32⟩
  | 120 => ⟨S_, .f32⟩
  | 121 => ⟨S4x2048, .f32⟩
  | 122 => ⟨S4x2048, .f32⟩
  | 123 => ⟨S4x2048, .f32⟩
  | 124 => ⟨S_, .f32⟩
  | 125 => ⟨S4x2048, .f32⟩
  | 126 => ⟨S4x2048, .f32⟩
  | 127 => ⟨S4x2048, .f32⟩
  | _ => ⟨S4x2048, .f32⟩

abbrev hbmTy0_2 (i : Nat) : BufTy := match i % 128 with
  | 0 => ⟨S_, .f32⟩
  | 1 => ⟨S4x2048, .f32⟩
  | 2 => ⟨S4x2048, .f32⟩
  | 3 => ⟨S4x2048, .f32⟩
  | 4 => ⟨S_, .f32⟩
  | 5 => ⟨S4x2048, .f32⟩
  | 6 => ⟨S4x2048, .f32⟩
  | 7 => ⟨S_, .f32⟩
  | 8 => ⟨S4x2048, .f32⟩
  | 9 => ⟨S4x2048, .f32⟩
  | 10 => ⟨S_, .f32⟩
  | 11 => ⟨S4x2048, .f32⟩
  | 12 => ⟨S4x2048, .f32⟩
  | 13 => ⟨S4x2048, .f32⟩
  | 14 => ⟨S_, .f32⟩
  | 15 => ⟨S4x2048, .f32⟩
  | 16 => ⟨S4x2048, .f32⟩
  | 17 => ⟨S4x2048, .f32⟩
  | 18 => ⟨S_, .f32⟩
  | 19 => ⟨S4x2048, .f32⟩
  | 20 => ⟨S4x2048, .f32⟩
  | 21 => ⟨S4x2048, .f32⟩
  | 22 => ⟨S_, .f32⟩
  | 23 => ⟨S4x2048, .f32⟩
  | 24 => ⟨S4x2048, .f32⟩
  | 25 => ⟨S_, .f32⟩
  | 26 => ⟨S4x2048, .f32⟩
  | 27 => ⟨S4x2048, .f32⟩
  | 28 => ⟨S4x2048, .f32⟩
  | 29 => ⟨S_, .f32⟩
  | 30 => ⟨S4x2048, .f32⟩
  | 31 => ⟨S4x2048, .f32⟩
  | 32 => ⟨S4x2048, .f32⟩
  | 33 => ⟨S_, .f32⟩
  | 34 => ⟨S4x2048, .f32⟩
  | 35 => ⟨S4x2048, .f32⟩
  | 36 => ⟨S4x2048, .f32⟩
  | 37 => ⟨S_, .f32⟩
  | 38 => ⟨S4x2048, .f32⟩
  | 39 => ⟨S4x2048, .f32⟩
  | _ => ⟨S4x2048, .f32⟩

abbrev hbmTy (i : Nat) : BufTy := match i / 128 with
  | 0 => hbmTy0_0 i
  | 1 => hbmTy0_1 i
  | 2 => hbmTy0_2 i
  | _ => ⟨S4x2048, .f32⟩

abbrev bufTy : (tb : Table) → Fin (tcTables nBuf tb) → BufTy
  | .hbm, ⟨i, _⟩ => hbmTy i
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_cst : Ref sig .tc := ⟨.hbm, 32, rfl⟩
abbrev main_v0 : Ref sig .tc := ⟨.hbm, 33, rfl⟩
abbrev main_v1 : Ref sig .tc := ⟨.hbm, 34, rfl⟩
abbrev main_cst_0 : Ref sig .tc := ⟨.hbm, 35, rfl⟩
abbrev main_v2 : Ref sig .tc := ⟨.hbm, 36, rfl⟩
abbrev main_v3 : Ref sig .tc := ⟨.hbm, 37, rfl⟩
abbrev main_v4 : Ref sig .tc := ⟨.hbm, 38, rfl⟩
abbrev main_cst_1 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_cst_2 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_cst_3 : Ref sig .tc := ⟨.hbm, 47, rfl⟩
abbrev main_v11 : Ref sig .tc := ⟨.hbm, 48, rfl⟩
abbrev main_v12 : Ref sig .tc := ⟨.hbm, 49, rfl⟩
abbrev main_cst_4 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_cst_5 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_cst_6 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_cst_7 : Ref sig .tc := ⟨.hbm, 62, rfl⟩
abbrev main_v22 : Ref sig .tc := ⟨.hbm, 63, rfl⟩
abbrev main_v23 : Ref sig .tc := ⟨.hbm, 64, rfl⟩
abbrev main_cst_8 : Ref sig .tc := ⟨.hbm, 65, rfl⟩
abbrev main_v24 : Ref sig .tc := ⟨.hbm, 66, rfl⟩
abbrev main_v25 : Ref sig .tc := ⟨.hbm, 67, rfl⟩
abbrev main_cst_9 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_cst_10 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_cst_11 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_cst_12 : Ref sig .tc := ⟨.hbm, 80, rfl⟩
abbrev main_v35 : Ref sig .tc := ⟨.hbm, 81, rfl⟩
abbrev main_v36 : Ref sig .tc := ⟨.hbm, 82, rfl⟩
abbrev main_cst_13 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_cst_14 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_cst_15 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_cst_16 : Ref sig .tc := ⟨.hbm, 95, rfl⟩
abbrev main_v46 : Ref sig .tc := ⟨.hbm, 96, rfl⟩
abbrev main_v47 : Ref sig .tc := ⟨.hbm, 97, rfl⟩
abbrev main_cst_17 : Ref sig .tc := ⟨.hbm, 98, rfl⟩
abbrev main_v48 : Ref sig .tc := ⟨.hbm, 99, rfl⟩
abbrev main_v49 : Ref sig .tc := ⟨.hbm, 100, rfl⟩
abbrev main_cst_18 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_cst_19 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_cst_20 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_cst_21 : Ref sig .tc := ⟨.hbm, 113, rfl⟩
abbrev main_v59 : Ref sig .tc := ⟨.hbm, 114, rfl⟩
abbrev main_v60 : Ref sig .tc := ⟨.hbm, 115, rfl⟩
abbrev main_cst_22 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_cst_23 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_cst_24 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_cst_25 : Ref sig .tc := ⟨.hbm, 128, rfl⟩
abbrev main_v70 : Ref sig .tc := ⟨.hbm, 129, rfl⟩
abbrev main_v71 : Ref sig .tc := ⟨.hbm, 130, rfl⟩
abbrev main_cst_26 : Ref sig .tc := ⟨.hbm, 131, rfl⟩
abbrev main_v72 : Ref sig .tc := ⟨.hbm, 132, rfl⟩
abbrev main_v73 : Ref sig .tc := ⟨.hbm, 133, rfl⟩
abbrev main_cst_27 : Ref sig .tc := ⟨.hbm, 134, rfl⟩
abbrev main_v74 : Ref sig .tc := ⟨.hbm, 135, rfl⟩
abbrev main_v75 : Ref sig .tc := ⟨.hbm, 136, rfl⟩
abbrev main_v76 : Ref sig .tc := ⟨.hbm, 137, rfl⟩
abbrev main_cst_28 : Ref sig .tc := ⟨.hbm, 138, rfl⟩
abbrev main_v77 : Ref sig .tc := ⟨.hbm, 139, rfl⟩
abbrev main_v78 : Ref sig .tc := ⟨.hbm, 140, rfl⟩
abbrev main_v79 : Ref sig .tc := ⟨.hbm, 141, rfl⟩
abbrev main_cst_29 : Ref sig .tc := ⟨.hbm, 142, rfl⟩
abbrev main_v80 : Ref sig .tc := ⟨.hbm, 143, rfl⟩
abbrev main_v81 : Ref sig .tc := ⟨.hbm, 144, rfl⟩
abbrev main_v82 : Ref sig .tc := ⟨.hbm, 145, rfl⟩
abbrev main_cst_30 : Ref sig .tc := ⟨.hbm, 146, rfl⟩
abbrev main_v83 : Ref sig .tc := ⟨.hbm, 147, rfl⟩
abbrev main_v84 : Ref sig .tc := ⟨.hbm, 148, rfl⟩
abbrev main_cst_31 : Ref sig .tc := ⟨.hbm, 149, rfl⟩
abbrev main_v85 : Ref sig .tc := ⟨.hbm, 150, rfl⟩
abbrev main_v86 : Ref sig .tc := ⟨.hbm, 151, rfl⟩
abbrev main_v87 : Ref sig .tc := ⟨.hbm, 152, rfl⟩
abbrev main_cst_32 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩
abbrev main_cst_33 : Ref sig .tc := ⟨.hbm, 157, rfl⟩
abbrev main_v91 : Ref sig .tc := ⟨.hbm, 158, rfl⟩
abbrev main_v92 : Ref sig .tc := ⟨.hbm, 159, rfl⟩
abbrev main_v93 : Ref sig .tc := ⟨.hbm, 160, rfl⟩
abbrev main_cst_34 : Ref sig .tc := ⟨.hbm, 161, rfl⟩
abbrev main_v94 : Ref sig .tc := ⟨.hbm, 162, rfl⟩
abbrev main_v95 : Ref sig .tc := ⟨.hbm, 163, rfl⟩
abbrev main_cst_35 : Ref sig .tc := ⟨.hbm, 164, rfl⟩
abbrev main_v96 : Ref sig .tc := ⟨.hbm, 165, rfl⟩
abbrev main_v97 : Ref sig .tc := ⟨.hbm, 166, rfl⟩
abbrev main_cst_36 : Ref sig .tc := ⟨.hbm, 167, rfl⟩
abbrev main_v98 : Ref sig .tc := ⟨.hbm, 168, rfl⟩
abbrev main_v99 : Ref sig .tc := ⟨.hbm, 169, rfl⟩
abbrev main_v100 : Ref sig .tc := ⟨.hbm, 170, rfl⟩
abbrev main_cst_37 : Ref sig .tc := ⟨.hbm, 171, rfl⟩
abbrev main_v101 : Ref sig .tc := ⟨.hbm, 172, rfl⟩
abbrev main_v102 : Ref sig .tc := ⟨.hbm, 173, rfl⟩
abbrev main_v103 : Ref sig .tc := ⟨.hbm, 174, rfl⟩
abbrev main_cst_38 : Ref sig .tc := ⟨.hbm, 175, rfl⟩
abbrev main_v104 : Ref sig .tc := ⟨.hbm, 176, rfl⟩
abbrev main_v105 : Ref sig .tc := ⟨.hbm, 177, rfl⟩
abbrev main_v106 : Ref sig .tc := ⟨.hbm, 178, rfl⟩
abbrev main_cst_39 : Ref sig .tc := ⟨.hbm, 179, rfl⟩
abbrev main_v107 : Ref sig .tc := ⟨.hbm, 180, rfl⟩
abbrev main_v108 : Ref sig .tc := ⟨.hbm, 181, rfl⟩
abbrev main_cst_40 : Ref sig .tc := ⟨.hbm, 182, rfl⟩
abbrev main_v109 : Ref sig .tc := ⟨.hbm, 183, rfl⟩
abbrev main_v110 : Ref sig .tc := ⟨.hbm, 184, rfl⟩
abbrev main_v111 : Ref sig .tc := ⟨.hbm, 185, rfl⟩
abbrev main_cst_41 : Ref sig .tc := ⟨.hbm, 186, rfl⟩
abbrev main_v112 : Ref sig .tc := ⟨.hbm, 187, rfl⟩
abbrev main_v113 : Ref sig .tc := ⟨.hbm, 188, rfl⟩
abbrev main_v114 : Ref sig .tc := ⟨.hbm, 189, rfl⟩
abbrev main_cst_42 : Ref sig .tc := ⟨.hbm, 190, rfl⟩
abbrev main_v115 : Ref sig .tc := ⟨.hbm, 191, rfl⟩
abbrev main_v116 : Ref sig .tc := ⟨.hbm, 192, rfl⟩
abbrev main_v117 : Ref sig .tc := ⟨.hbm, 193, rfl⟩
abbrev main_cst_43 : Ref sig .tc := ⟨.hbm, 194, rfl⟩
abbrev main_v118 : Ref sig .tc := ⟨.hbm, 195, rfl⟩
abbrev main_v119 : Ref sig .tc := ⟨.hbm, 196, rfl⟩
abbrev main_cst_44 : Ref sig .tc := ⟨.hbm, 197, rfl⟩
abbrev main_v120 : Ref sig .tc := ⟨.hbm, 198, rfl⟩
abbrev main_v121 : Ref sig .tc := ⟨.hbm, 199, rfl⟩
abbrev main_cst_45 : Ref sig .tc := ⟨.hbm, 200, rfl⟩
abbrev main_v122 : Ref sig .tc := ⟨.hbm, 201, rfl⟩
abbrev main_v123 : Ref sig .tc := ⟨.hbm, 202, rfl⟩
abbrev main_v124 : Ref sig .tc := ⟨.hbm, 203, rfl⟩
abbrev main_cst_46 : Ref sig .tc := ⟨.hbm, 204, rfl⟩
abbrev main_v125 : Ref sig .tc := ⟨.hbm, 205, rfl⟩
abbrev main_v126 : Ref sig .tc := ⟨.hbm, 206, rfl⟩
abbrev main_v127 : Ref sig .tc := ⟨.hbm, 207, rfl⟩
abbrev main_cst_47 : Ref sig .tc := ⟨.hbm, 208, rfl⟩
abbrev main_v128 : Ref sig .tc := ⟨.hbm, 209, rfl⟩
abbrev main_v129 : Ref sig .tc := ⟨.hbm, 210, rfl⟩
abbrev main_v130 : Ref sig .tc := ⟨.hbm, 211, rfl⟩
abbrev main_cst_48 : Ref sig .tc := ⟨.hbm, 212, rfl⟩
abbrev main_v131 : Ref sig .tc := ⟨.hbm, 213, rfl⟩
abbrev main_v132 : Ref sig .tc := ⟨.hbm, 214, rfl⟩
abbrev main_cst_49 : Ref sig .tc := ⟨.hbm, 215, rfl⟩
abbrev main_v133 : Ref sig .tc := ⟨.hbm, 216, rfl⟩
abbrev main_v134 : Ref sig .tc := ⟨.hbm, 217, rfl⟩
abbrev main_v135 : Ref sig .tc := ⟨.hbm, 218, rfl⟩
abbrev main_cst_50 : Ref sig .tc := ⟨.hbm, 219, rfl⟩
abbrev main_v136 : Ref sig .tc := ⟨.hbm, 220, rfl⟩
abbrev main_v137 : Ref sig .tc := ⟨.hbm, 221, rfl⟩
abbrev main_v138 : Ref sig .tc := ⟨.hbm, 222, rfl⟩
abbrev main_cst_51 : Ref sig .tc := ⟨.hbm, 223, rfl⟩
abbrev main_v139 : Ref sig .tc := ⟨.hbm, 224, rfl⟩
abbrev main_v140 : Ref sig .tc := ⟨.hbm, 225, rfl⟩
abbrev main_v141 : Ref sig .tc := ⟨.hbm, 226, rfl⟩
abbrev main_cst_52 : Ref sig .tc := ⟨.hbm, 227, rfl⟩
abbrev main_v142 : Ref sig .tc := ⟨.hbm, 228, rfl⟩
abbrev main_v143 : Ref sig .tc := ⟨.hbm, 229, rfl⟩
abbrev main_cst_53 : Ref sig .tc := ⟨.hbm, 230, rfl⟩
abbrev main_v144 : Ref sig .tc := ⟨.hbm, 231, rfl⟩
abbrev main_v145 : Ref sig .tc := ⟨.hbm, 232, rfl⟩
abbrev main_cst_54 : Ref sig .tc := ⟨.hbm, 233, rfl⟩
abbrev main_v146 : Ref sig .tc := ⟨.hbm, 234, rfl⟩
abbrev main_v147 : Ref sig .tc := ⟨.hbm, 235, rfl⟩
abbrev main_v148 : Ref sig .tc := ⟨.hbm, 236, rfl⟩
abbrev main_cst_55 : Ref sig .tc := ⟨.hbm, 237, rfl⟩
abbrev main_v149 : Ref sig .tc := ⟨.hbm, 238, rfl⟩
abbrev main_v150 : Ref sig .tc := ⟨.hbm, 239, rfl⟩
abbrev main_v151 : Ref sig .tc := ⟨.hbm, 240, rfl⟩
abbrev main_cst_56 : Ref sig .tc := ⟨.hbm, 241, rfl⟩
abbrev main_v152 : Ref sig .tc := ⟨.hbm, 242, rfl⟩
abbrev main_v153 : Ref sig .tc := ⟨.hbm, 243, rfl⟩
abbrev main_v154 : Ref sig .tc := ⟨.hbm, 244, rfl⟩
abbrev main_cst_57 : Ref sig .tc := ⟨.hbm, 245, rfl⟩
abbrev main_v155 : Ref sig .tc := ⟨.hbm, 246, rfl⟩
abbrev main_v156 : Ref sig .tc := ⟨.hbm, 247, rfl⟩
abbrev main_cst_58 : Ref sig .tc := ⟨.hbm, 248, rfl⟩
abbrev main_v157 : Ref sig .tc := ⟨.hbm, 249, rfl⟩
abbrev main_v158 : Ref sig .tc := ⟨.hbm, 250, rfl⟩
abbrev main_v159 : Ref sig .tc := ⟨.hbm, 251, rfl⟩
abbrev main_cst_59 : Ref sig .tc := ⟨.hbm, 252, rfl⟩
abbrev main_v160 : Ref sig .tc := ⟨.hbm, 253, rfl⟩
abbrev main_v161 : Ref sig .tc := ⟨.hbm, 254, rfl⟩
abbrev main_v162 : Ref sig .tc := ⟨.hbm, 255, rfl⟩
abbrev main_cst_60 : Ref sig .tc := ⟨.hbm, 256, rfl⟩
abbrev main_v163 : Ref sig .tc := ⟨.hbm, 257, rfl⟩
abbrev main_v164 : Ref sig .tc := ⟨.hbm, 258, rfl⟩
abbrev main_v165 : Ref sig .tc := ⟨.hbm, 259, rfl⟩
abbrev main_cst_61 : Ref sig .tc := ⟨.hbm, 260, rfl⟩
abbrev main_v166 : Ref sig .tc := ⟨.hbm, 261, rfl⟩
abbrev main_v167 : Ref sig .tc := ⟨.hbm, 262, rfl⟩
abbrev main_cst_62 : Ref sig .tc := ⟨.hbm, 263, rfl⟩
abbrev main_v168 : Ref sig .tc := ⟨.hbm, 264, rfl⟩
abbrev main_v169 : Ref sig .tc := ⟨.hbm, 265, rfl⟩
abbrev main_cst_63 : Ref sig .tc := ⟨.hbm, 266, rfl⟩
abbrev main_v170 : Ref sig .tc := ⟨.hbm, 267, rfl⟩
abbrev main_v171 : Ref sig .tc := ⟨.hbm, 268, rfl⟩
abbrev main_v172 : Ref sig .tc := ⟨.hbm, 269, rfl⟩
abbrev main_cst_64 : Ref sig .tc := ⟨.hbm, 270, rfl⟩
abbrev main_v173 : Ref sig .tc := ⟨.hbm, 271, rfl⟩
abbrev main_v174 : Ref sig .tc := ⟨.hbm, 272, rfl⟩
abbrev main_v175 : Ref sig .tc := ⟨.hbm, 273, rfl⟩
abbrev main_cst_65 : Ref sig .tc := ⟨.hbm, 274, rfl⟩
abbrev main_v176 : Ref sig .tc := ⟨.hbm, 275, rfl⟩
abbrev main_v177 : Ref sig .tc := ⟨.hbm, 276, rfl⟩
abbrev main_v178 : Ref sig .tc := ⟨.hbm, 277, rfl⟩
abbrev main_cst_66 : Ref sig .tc := ⟨.hbm, 278, rfl⟩
abbrev main_v179 : Ref sig .tc := ⟨.hbm, 279, rfl⟩
abbrev main_v180 : Ref sig .tc := ⟨.hbm, 280, rfl⟩
abbrev main_cst_67 : Ref sig .tc := ⟨.hbm, 281, rfl⟩
abbrev main_v181 : Ref sig .tc := ⟨.hbm, 282, rfl⟩
abbrev main_v182 : Ref sig .tc := ⟨.hbm, 283, rfl⟩
abbrev main_v183 : Ref sig .tc := ⟨.hbm, 284, rfl⟩
abbrev main_cst_68 : Ref sig .tc := ⟨.hbm, 285, rfl⟩
abbrev main_v184 : Ref sig .tc := ⟨.hbm, 286, rfl⟩
abbrev main_v185 : Ref sig .tc := ⟨.hbm, 287, rfl⟩
abbrev main_v186 : Ref sig .tc := ⟨.hbm, 288, rfl⟩
abbrev main_cst_69 : Ref sig .tc := ⟨.hbm, 289, rfl⟩
abbrev main_v187 : Ref sig .tc := ⟨.hbm, 290, rfl⟩
abbrev main_v188 : Ref sig .tc := ⟨.hbm, 291, rfl⟩
abbrev main_v189 : Ref sig .tc := ⟨.hbm, 292, rfl⟩
abbrev main_cst_70 : Ref sig .tc := ⟨.hbm, 293, rfl⟩
abbrev main_v190 : Ref sig .tc := ⟨.hbm, 294, rfl⟩
abbrev main_v191 : Ref sig .tc := ⟨.hbm, 295, rfl⟩

abbrev nD : Nat := 1
abbrev τ : Topo := Topo.v7x

variable {F : FTy → Type} [FloatOps F]
-- ==== UUp.lean ====
abbrev S4x2048x2048 : Shape := ⟨3, ![4, 2048, 2048]⟩
abbrev S1024x2048 : Shape := ⟨2, ![1024, 2048]⟩
abbrev S_ : Shape := ⟨0, ![]⟩
abbrev S1 : Shape := ⟨1, ![1]⟩
abbrev S1x256x2048 : Shape := ⟨3, ![1, 256, 2048]⟩
abbrev S256x2048 : Shape := ⟨2, ![256, 2048]⟩

abbrev nBuf : Space → Nat
  | .hbm => 18
  | .vmem => 18
  | .smem => 1
  | _ => 0

abbrev bufTy : (tb : Table) → Fin (tcTables nBuf tb) → BufTy
  | .hbm, ⟨0, _⟩ => ⟨S4x2048x2048, .f32⟩
  | .hbm, ⟨1, _⟩ => ⟨S4x2048x2048, .f32⟩
  | .hbm, ⟨2, _⟩ => ⟨S4x2048x2048, .f32⟩
  | .hbm, ⟨3, _⟩ => ⟨S1024x2048, .f32⟩
  | .hbm, ⟨4, _⟩ => ⟨S1024x2048, .f32⟩
  | .hbm, ⟨5, _⟩ => ⟨S4x2048x2048, .f32⟩
  | .hbm, ⟨6, _⟩ => ⟨S4x2048x2048, .f32⟩
  | .hbm, ⟨7, _⟩ => ⟨S4x2048x2048, .f32⟩
  | .hbm, ⟨8, _⟩ => ⟨S4x2048x2048, .f32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S1, .i32⟩
  | .hbm, ⟨14, _⟩ => ⟨S4x2048x2048, .f32⟩
  | .hbm, ⟨15, _⟩ => ⟨S4x2048x2048, .f32⟩
  | .hbm, ⟨16, _⟩ => ⟨S4x2048x2048, .f32⟩
  | .hbm, ⟨17, _⟩ => ⟨S4x2048x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x256x2048, .f32⟩
  | .local _ .vmem, ⟨5, _⟩ => ⟨S1x256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | .local _ .vmem, ⟨14, _⟩ => ⟨S1x256x2048, .f32⟩
  | .local _ .vmem, ⟨15, _⟩ => ⟨S1x256x2048, .f32⟩
  | .local _ .vmem, ⟨16, _⟩ => ⟨S1x256x2048, .f32⟩
  | .local _ .vmem, ⟨17, _⟩ => ⟨S1x256x2048, .f32⟩
  | .local _ .smem, ⟨0, _⟩ => ⟨S1, .i32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_c_1 : Ref sig .tc := ⟨.hbm, 11, rfl⟩
abbrev main_v1 : Ref sig .tc := ⟨.hbm, 12, rfl⟩
abbrev main_v2 : Ref sig .tc := ⟨.hbm, 13, rfl⟩
abbrev main_v3_0 : Ref sig .tc := ⟨.hbm, 14, rfl⟩
abbrev main_v3_1 : Ref sig .tc := ⟨.hbm, 15, rfl⟩
abbrev main_v3_2 : Ref sig .tc := ⟨.hbm, 16, rfl⟩
abbrev main_v3_3 : Ref sig .tc := ⟨.hbm, 17, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 1], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c4_i32 : BitVec 32 := 4#32
  let v1 : BitVec 32 := Scalar.divsi arg0 c4_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let v18 : BitVec 1 := Scalar.cmpi .eq v17 v0
  let c4_i32_4 : BitVec 32 := 4#32
  let v19 : BitVec 32 := Scalar.divsi arg0 c4_i32_4
  let c0_i32_5 : BitVec 32 := 0#32
  let v20 : BitVec 1 := Scalar.cmpi .sgt arg0 c0_i32_5
  let v21 : BitVec 32 := Scalar.extui v20
  let c0_i32_6 : BitVec 32 := 0#32
  let v22 : BitVec 1 := Scalar.cmpi .slt arg0 c0_i32_6
  let v23 : BitVec 32 := Scalar.extui v22
  let v24 : BitVec 32 := Scalar.subi v21 v23
  let c0_i32_7 : BitVec 32 := 0#32
  let v25 : BitVec 1 := Scalar.cmpi .sgt c4_i32_4 c0_i32_7
  let v26 : BitVec 32 := Scalar.extui v25
  let c0_i32_8 : BitVec 32 := 0#32
  let v27 : BitVec 1 := Scalar.cmpi .slt c4_i32_4 c0_i32_8
  let v28 : BitVec 32 := Scalar.extui v27
  let v29 : BitVec 32 := Scalar.subi v26 v28
  let v30 : BitVec 1 := Scalar.cmpi .ne v24 v29
  let v31 : BitVec 32 := Scalar.remsi arg0 c4_i32_4
  let c0_i32_9 : BitVec 32 := 0#32
  let v32 : BitVec 1 := Scalar.cmpi .ne v31 c0_i32_9
  let v33 : BitVec 1 := Scalar.andi v30 v32
  let c1_i32_10 : BitVec 32 := 1#32
  let v34 : BitVec 32 := Scalar.subi v19 c1_i32_10
  let v35 : BitVec 32 := Scalar.select v33 v34 v19
  let v36 : BitVec 1 := Scalar.cmpi .slt v35 v0
  let c4_i32_11 : BitVec 32 := 4#32
  let c0_i32_12 : BitVec 32 := 0#32
  let v37 : BitVec 1 := Scalar.cmpi .eq c4_i32_11 c0_i32_12
  let c1_i32_13 : BitVec 32 := 1#32
  let v38 : BitVec 32 := Scalar.select v37 c1_i32_13 c4_i32_11
  let v39 : BitVec 32 := Scalar.remsi arg0 v38
  let c0_i32_14 : BitVec 32 := 0#32
  let v40 : BitVec 1 := Scalar.cmpi .ne v39 c0_i32_14
  let c0_i32_15 : BitVec 32 := 0#32
  let v41 : BitVec 1 := Scalar.cmpi .slt v39 c0_i32_15
  let c0_i32_16 : BitVec 32 := 0#32
  let v42 : BitVec 1 := Scalar.cmpi .slt v38 c0_i32_16
  let v43 : BitVec 1 := Scalar.xori v41 v42
  let v44 : BitVec 1 := Scalar.andi v43 v40
  let v45 : BitVec 32 := Scalar.addi v39 v38
  let v46 : BitVec 32 := Scalar.select v44 v45 v39
  let c0_i32_17 : BitVec 32 := 0#32
  let c3_i32 : BitVec 32 := 3#32
  let v47 : BitVec 32 := Scalar.select v36 c0_i32_17 c3_i32
  let v48 : BitVec 32 := Scalar.select v18 v46 v47
  let c0_i32_18 : BitVec 32 := 0#32
  let c0_i32_19 : BitVec 32 := 0#32
  let v49 : BitVec 32 := Scalar.select v36 c0_i32_18 c0_i32_19
  let v50 : BitVec 32 := Scalar.select v18 arg1 v49
  let c0_i32_20 : BitVec 32 := 0#32
  ![v48.toNat, v50.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c1_i32 : BitVec 32 := 1#32
  let v1 : BitVec 32 := Scalar.subi c1_i32 v0
  let c4_i32 : BitVec 32 := 4#32
  let v2 : BitVec 32 := Scalar.divsi arg0 c4_i32
  let c0_i32 : BitVec 32 := 0#32
  let v3 : BitVec 1 := Scalar.cmpi .sgt arg0 c0_i32
  let v4 : BitVec 32 := Scalar.extui v3
  let c0_i32_0 : BitVec 32 := 0#32
  let v5 : BitVec 1 := Scalar.cmpi .slt arg0 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi arg0 c4_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let v19 : BitVec 1 := Scalar.cmpi .eq v18 v1
  let c4_i32_5 : BitVec 32 := 4#32
  let v20 : BitVec 32 := Scalar.divsi arg0 c4_i32_5
  let c0_i32_6 : BitVec 32 := 0#32
  let v21 : BitVec 1 := Scalar.cmpi .sgt arg0 c0_i32_6
  let v22 : BitVec 32 := Scalar.extui v21
  let c0_i32_7 : BitVec 32 := 0#32
  let v23 : BitVec 1 := Scalar.cmpi .slt arg0 c0_i32_7
  let v24 : BitVec 32 := Scalar.extui v23
  let v25 : BitVec 32 := Scalar.subi v22 v24
  let c0_i32_8 : BitVec 32 := 0#32
  let v26 : BitVec 1 := Scalar.cmpi .sgt c4_i32_5 c0_i32_8
  let v27 : BitVec 32 := Scalar.extui v26
  let c0_i32_9 : BitVec 32 := 0#32
  let v28 : BitVec 1 := Scalar.cmpi .slt c4_i32_5 c0_i32_9
  let v29 : BitVec 32 := Scalar.extui v28
  let v30 : BitVec 32 := Scalar.subi v27 v29
  let v31 : BitVec 1 := Scalar.cmpi .ne v25 v30
  let v32 : BitVec 32 := Scalar.remsi arg0 c4_i32_5
  let c0_i32_10 : BitVec 32 := 0#32
  let v33 : BitVec 1 := Scalar.cmpi .ne v32 c0_i32_10
  let v34 : BitVec 1 := Scalar.andi v31 v33
  let c1_i32_11 : BitVec 32 := 1#32
  let v35 : BitVec 32 := Scalar.subi v20 c1_i32_11
  let v36 : BitVec 32 := Scalar.select v34 v35 v20
  let v37 : BitVec 1 := Scalar.cmpi .slt v36 v1
  let c4_i32_12 : BitVec 32 := 4#32
  let c0_i32_13 : BitVec 32 := 0#32
  let v38 : BitVec 1 := Scalar.cmpi .eq c4_i32_12 c0_i32_13
  let c1_i32_14 : BitVec 32 := 1#32
  let v39 : BitVec 32 := Scalar.select v38 c1_i32_14 c4_i32_12
  let v40 : BitVec 32 := Scalar.remsi arg0 v39
  let c0_i32_15 : BitVec 32 := 0#32
  let v41 : BitVec 1 := Scalar.cmpi .ne v40 c0_i32_15
  let c0_i32_16 : BitVec 32 := 0#32
  let v42 : BitVec 1 := Scalar.cmpi .slt v40 c0_i32_16
  let c0_i32_17 : BitVec 32 := 0#32
  let v43 : BitVec 1 := Scalar.cmpi .slt v39 c0_i32_17
  let v44 : BitVec 1 := Scalar.xori v42 v43
  let v45 : BitVec 1 := Scalar.andi v44 v41
  let v46 : BitVec 32 := Scalar.addi v40 v39
  let v47 : BitVec 32 := Scalar.select v45 v46 v40
  let c0_i32_18 : BitVec 32 := 0#32
  let c3_i32 : BitVec 32 := 3#32
  let v48 : BitVec 32 := Scalar.select v37 c0_i32_18 c3_i32
  let v49 : BitVec 32 := Scalar.select v19 v47 v48
  let c0_i32_19 : BitVec 32 := 0#32
  let c0_i32_20 : BitVec 32 := 0#32
  let v50 : BitVec 32 := Scalar.select v37 c0_i32_19 c0_i32_20
  let v51 : BitVec 32 := Scalar.select v19 arg1 v50
  let c0_i32_21 : BitVec 32 := 0#32
  ![v49.toNat, v51.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== UUpRefIdeal.lean ====
abbrev S4x2048x2048 : Shape := ⟨3, ![4, 2048, 2048]⟩
abbrev S1024x2048 : Shape := ⟨2, ![1024, 2048]⟩
abbrev S2048x2048 : Shape := ⟨2, ![2048, 2048]⟩
abbrev S1x2048x2048 : Shape := ⟨3, ![1, 2048, 2048]⟩
abbrev S_ : Shape := ⟨0, ![]⟩
abbrev S3x2048x2048 : Shape := ⟨3, ![3, 2048, 2048]⟩

abbrev nBuf : Space → Nat
  | .hbm => 61
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x2048x2048, .f32⟩
  | .hbm, ⟨2, _⟩ => ⟨S4x2048x2048, .f32⟩
  | .hbm, ⟨3, _⟩ => ⟨S1024x2048, .f32⟩
  | .hbm, ⟨4, _⟩ => ⟨S1024x2048, .f32⟩
  | .hbm, ⟨5, _⟩ => ⟨S4x2048x2048, .f32⟩
  | .hbm, ⟨6, _⟩ => ⟨S4x2048x2048, .f32⟩
  | .hbm, ⟨7, _⟩ => ⟨S4x2048x2048, .f32⟩
  | .hbm, ⟨8, _⟩ => ⟨S4x2048x2048, .f32⟩
  | .hbm, ⟨9, _⟩ => ⟨S2048x2048, .f32⟩
  | .hbm, ⟨10, _⟩ => ⟨S1x2048x2048, .f32⟩
  | .hbm, ⟨11, _⟩ => ⟨S2048x2048, .f32⟩
  | .hbm, ⟨12, _⟩ => ⟨S1x2048x2048, .f32⟩
  | .hbm, ⟨13, _⟩ => ⟨S2048x2048, .f32⟩
  | .hbm, ⟨14, _⟩ => ⟨S1x2048x2048, .f32⟩
  | .hbm, ⟨15, _⟩ => ⟨S2048x2048, .f32⟩
  | .hbm, ⟨16, _⟩ => ⟨S_, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S_, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S_, .f32⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S_, .f32⟩
  | .hbm, ⟨32, _⟩ => ⟨S2048x2048, .f32⟩
  | .hbm, ⟨33, _⟩ => ⟨S2048x2048, .f32⟩
  | .hbm, ⟨34, _⟩ => ⟨S_, .f32⟩
  | .hbm, ⟨35, _⟩ => ⟨S2048x2048, .f32⟩
  | .hbm, ⟨36, _⟩ => ⟨S2048x2048, .f32⟩
  | .hbm, ⟨37, _⟩ => ⟨S2048x2048, .f32⟩
  | .hbm, ⟨38, _⟩ => ⟨S_, .f32⟩
  | .hbm, ⟨39, _⟩ => ⟨S2048x2048, .f32⟩
  | .hbm, ⟨40, _⟩ => ⟨S2048x2048, .f32⟩
  | .hbm, ⟨41, _⟩ => ⟨S2048x2048, .f32⟩
  | .hbm, ⟨42, _⟩ => ⟨S_, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S_, .f32⟩
  | .hbm, ⟨47, _⟩ => ⟨S2048x2048, .f32⟩
  | .hbm, ⟨48, _⟩ => ⟨S2048x2048, .f32⟩
  | .hbm, ⟨49, _⟩ => ⟨S1x2048x2048, .f32⟩
  | .hbm, ⟨50, _⟩ => ⟨S3x2048x2048, .f32⟩
  | .hbm, ⟨51, _⟩ => ⟨S4x2048x2048, .f32⟩
  | .hbm, ⟨52, _⟩ => ⟨S1x2048x2048, .f32⟩
  | .hbm, ⟨53, _⟩ => ⟨S3x2048x2048, .f32⟩
  | .hbm, ⟨54, _⟩ => ⟨S4x2048x2048, .f32⟩
  | .hbm, ⟨55, _⟩ => ⟨S1x2048x2048, .f32⟩
  | .hbm, ⟨56, _⟩ => ⟨S3x2048x2048, .f32⟩
  | .hbm, ⟨57, _⟩ => ⟨S4x2048x2048, .f32⟩
  | .hbm, ⟨58, _⟩ => ⟨S1x2048x2048, .f32⟩
  | .hbm, ⟨59, _⟩ => ⟨S3x2048x2048, .f32⟩
  | .hbm, ⟨60, _⟩ => ⟨S4x2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩

abbrev nD : Nat := 1
abbrev τ : Topo := Topo.v7x

variable {F : FTy → Type} [FloatOps F]
-- ==== UIn.lean ====
abbrev S4x2048x3328 : Shape := ⟨3, ![4, 2048, 3328]⟩
abbrev S1024x3328 : Shape := ⟨2, ![1024, 3328]⟩
abbrev S_ : Shape := ⟨0, ![]⟩
abbrev S1 : Shape := ⟨1, ![1]⟩
abbrev S1x256x1664 : Shape := ⟨3, ![1, 256, 1664]⟩
abbrev S256x1664 : Shape := ⟨2, ![256, 1664]⟩

abbrev nBuf : Space → Nat
  | .hbm => 18
  | .vmem => 18
  | .smem => 1
  | _ => 0

abbrev bufTy : (tb : Table) → Fin (tcTables nBuf tb) → BufTy
  | .hbm, ⟨0, _⟩ => ⟨S4x2048x3328, .f32⟩
  | .hbm, ⟨1, _⟩ => ⟨S4x2048x3328, .f32⟩
  | .hbm, ⟨2, _⟩ => ⟨S4x2048x3328, .f32⟩
  | .hbm, ⟨3, _⟩ => ⟨S1024x3328, .f32⟩
  | .hbm, ⟨4, _⟩ => ⟨S1024x3328, .f32⟩
  | .hbm, ⟨5, _⟩ => ⟨S4x2048x3328, .f32⟩
  | .hbm, ⟨6, _⟩ => ⟨S4x2048x3328, .f32⟩
  | .hbm, ⟨7, _⟩ => ⟨S4x2048x3328, .f32⟩
  | .hbm, ⟨8, _⟩ => ⟨S4x2048x3328, .f32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S1, .i32⟩
  | .hbm, ⟨14, _⟩ => ⟨S4x2048x3328, .f32⟩
  | .hbm, ⟨15, _⟩ => ⟨S4x2048x3328, .f32⟩
  | .hbm, ⟨16, _⟩ => ⟨S4x2048x3328, .f32⟩
  | .hbm, ⟨17, _⟩ => ⟨S4x2048x3328, .f32⟩
  | .local _ .vmem, ⟨0, _⟩ => ⟨S1x256x1664, .f32⟩
  | .local _ .vmem, ⟨1, _⟩ => ⟨S1x256x1664, .f32⟩
  | .local _ .vmem, ⟨2, _⟩ => ⟨S1x256x1664, .f32⟩
  | .local _ .vmem, ⟨3, _⟩ => ⟨S1x256x1664, .f32⟩
  | .local _ .vmem, ⟨4, _⟩ => ⟨S1x256x1664, .f32⟩
  | .local _ .vmem, ⟨5, _⟩ => ⟨S1x256x1664, .f32⟩
  | .local _ .vmem, ⟨6, _⟩ => ⟨S256x1664, .f32⟩
  | .local _ .vmem, ⟨7, _⟩ => ⟨S256x1664, .f32⟩
  | .local _ .vmem, ⟨8, _⟩ => ⟨S256x1664, .f32⟩
  | .local _ .vmem, ⟨9, _⟩ => ⟨S256x1664, .f32⟩
  | .local _ .vmem, ⟨10, _⟩ => ⟨S1x256x1664, .f32⟩
  | .local _ .vmem, ⟨11, _⟩ => ⟨S1x256x1664, .f32⟩
  | .local _ .vmem, ⟨12, _⟩ => ⟨S1x256x1664, .f32⟩
  | .local _ .vmem, ⟨13, _⟩ => ⟨S1x256x1664, .f32⟩
  | .local _ .vmem, ⟨14, _⟩ => ⟨S1x256x1664, .f32⟩
  | .local _ .vmem, ⟨15, _⟩ => ⟨S1x256x1664, .f32⟩
  | .local _ .vmem, ⟨16, _⟩ => ⟨S1x256x1664, .f32⟩
  | .local _ .vmem, ⟨17, _⟩ => ⟨S1x256x1664, .f32⟩
  | .local _ .smem, ⟨0, _⟩ => ⟨S1, .i32⟩
  | _, _ => ⟨S4x2048x3328, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_c_1 : Ref sig .tc := ⟨.hbm, 11, rfl⟩
abbrev main_v1 : Ref sig .tc := ⟨.hbm, 12, rfl⟩
abbrev main_v2 : Ref sig .tc := ⟨.hbm, 13, rfl⟩
abbrev main_v3_0 : Ref sig .tc := ⟨.hbm, 14, rfl⟩
abbrev main_v3_1 : Ref sig .tc := ⟨.hbm, 15, rfl⟩
abbrev main_v3_2 : Ref sig .tc := ⟨.hbm, 16, rfl⟩
abbrev main_v3_3 : Ref sig .tc := ⟨.hbm, 17, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 2], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c4_i32 : BitVec 32 := 4#32
  let v1 : BitVec 32 := Scalar.divsi arg0 c4_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi arg0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let v18 : BitVec 1 := Scalar.cmpi .eq v17 v0
  let c4_i32_4 : BitVec 32 := 4#32
  let v19 : BitVec 32 := Scalar.divsi arg0 c4_i32_4
  let c0_i32_5 : BitVec 32 := 0#32
  let v20 : BitVec 1 := Scalar.cmpi .sgt arg0 c0_i32_5
  let v21 : BitVec 32 := Scalar.extui v20
  let c0_i32_6 : BitVec 32 := 0#32
  let v22 : BitVec 1 := Scalar.cmpi .slt arg0 c0_i32_6
  let v23 : BitVec 32 := Scalar.extui v22
  let v24 : BitVec 32 := Scalar.subi v21 v23
  let c0_i32_7 : BitVec 32 := 0#32
  let v25 : BitVec 1 := Scalar.cmpi .sgt c4_i32_4 c0_i32_7
  let v26 : BitVec 32 := Scalar.extui v25
  let c0_i32_8 : BitVec 32 := 0#32
  let v27 : BitVec 1 := Scalar.cmpi .slt c4_i32_4 c0_i32_8
  let v28 : BitVec 32 := Scalar.extui v27
  let v29 : BitVec 32 := Scalar.subi v26 v28
  let v30 : BitVec 1 := Scalar.cmpi .ne v24 v29
  let v31 : BitVec 32 := Scalar.remsi arg0 c4_i32_4
  let c0_i32_9 : BitVec 32 := 0#32
  let v32 : BitVec 1 := Scalar.cmpi .ne v31 c0_i32_9
  let v33 : BitVec 1 := Scalar.andi v30 v32
  let c1_i32_10 : BitVec 32 := 1#32
  let v34 : BitVec 32 := Scalar.subi v19 c1_i32_10
  let v35 : BitVec 32 := Scalar.select v33 v34 v19
  let v36 : BitVec 1 := Scalar.cmpi .slt v35 v0
  let c4_i32_11 : BitVec 32 := 4#32
  let c0_i32_12 : BitVec 32 := 0#32
  let v37 : BitVec 1 := Scalar.cmpi .eq c4_i32_11 c0_i32_12
  let c1_i32_13 : BitVec 32 := 1#32
  let v38 : BitVec 32 := Scalar.select v37 c1_i32_13 c4_i32_11
  let v39 : BitVec 32 := Scalar.remsi arg0 v38
  let c0_i32_14 : BitVec 32 := 0#32
  let v40 : BitVec 1 := Scalar.cmpi .ne v39 c0_i32_14
  let c0_i32_15 : BitVec 32 := 0#32
  let v41 : BitVec 1 := Scalar.cmpi .slt v39 c0_i32_15
  let c0_i32_16 : BitVec 32 := 0#32
  let v42 : BitVec 1 := Scalar.cmpi .slt v38 c0_i32_16
  let v43 : BitVec 1 := Scalar.xori v41 v42
  let v44 : BitVec 1 := Scalar.andi v43 v40
  let v45 : BitVec 32 := Scalar.addi v39 v38
  let v46 : BitVec 32 := Scalar.select v44 v45 v39
  let c0_i32_17 : BitVec 32 := 0#32
  let c3_i32 : BitVec 32 := 3#32
  let v47 : BitVec 32 := Scalar.select v36 c0_i32_17 c3_i32
  let v48 : BitVec 32 := Scalar.select v18 v46 v47
  let c0_i32_18 : BitVec 32 := 0#32
  let c1_i32_19 : BitVec 32 := 1#32
  let v49 : BitVec 32 := Scalar.select v36 c0_i32_18 c1_i32_19
  let v50 : BitVec 32 := Scalar.select v18 arg1 v49
  let c0_i32_20 : BitVec 32 := 0#32
  ![v48.toNat, v50.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c1_i32 : BitVec 32 := 1#32
  let v1 : BitVec 32 := Scalar.subi c1_i32 v0
  let c4_i32 : BitVec 32 := 4#32
  let v2 : BitVec 32 := Scalar.divsi arg0 c4_i32
  let c0_i32 : BitVec 32 := 0#32
  let v3 : BitVec 1 := Scalar.cmpi .sgt arg0 c0_i32
  let v4 : BitVec 32 := Scalar.extui v3
  let c0_i32_0 : BitVec 32 := 0#32
  let v5 : BitVec 1 := Scalar.cmpi .slt arg0 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi arg0 c4_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let v19 : BitVec 1 := Scalar.cmpi .eq v18 v1
  let c4_i32_5 : BitVec 32 := 4#32
  let v20 : BitVec 32 := Scalar.divsi arg0 c4_i32_5
  let c0_i32_6 : BitVec 32 := 0#32
  let v21 : BitVec 1 := Scalar.cmpi .sgt arg0 c0_i32_6
  let v22 : BitVec 32 := Scalar.extui v21
  let c0_i32_7 : BitVec 32 := 0#32
  let v23 : BitVec 1 := Scalar.cmpi .slt arg0 c0_i32_7
  let v24 : BitVec 32 := Scalar.extui v23
  let v25 : BitVec 32 := Scalar.subi v22 v24
  let c0_i32_8 : BitVec 32 := 0#32
  let v26 : BitVec 1 := Scalar.cmpi .sgt c4_i32_5 c0_i32_8
  let v27 : BitVec 32 := Scalar.extui v26
  let c0_i32_9 : BitVec 32 := 0#32
  let v28 : BitVec 1 := Scalar.cmpi .slt c4_i32_5 c0_i32_9
  let v29 : BitVec 32 := Scalar.extui v28
  let v30 : BitVec 32 := Scalar.subi v27 v29
  let v31 : BitVec 1 := Scalar.cmpi .ne v25 v30
  let v32 : BitVec 32 := Scalar.remsi arg0 c4_i32_5
  let c0_i32_10 : BitVec 32 := 0#32
  let v33 : BitVec 1 := Scalar.cmpi .ne v32 c0_i32_10
  let v34 : BitVec 1 := Scalar.andi v31 v33
  let c1_i32_11 : BitVec 32 := 1#32
  let v35 : BitVec 32 := Scalar.subi v20 c1_i32_11
  let v36 : BitVec 32 := Scalar.select v34 v35 v20
  let v37 : BitVec 1 := Scalar.cmpi .slt v36 v1
  let c4_i32_12 : BitVec 32 := 4#32
  let c0_i32_13 : BitVec 32 := 0#32
  let v38 : BitVec 1 := Scalar.cmpi .eq c4_i32_12 c0_i32_13
  let c1_i32_14 : BitVec 32 := 1#32
  let v39 : BitVec 32 := Scalar.select v38 c1_i32_14 c4_i32_12
  let v40 : BitVec 32 := Scalar.remsi arg0 v39
  let c0_i32_15 : BitVec 32 := 0#32
  let v41 : BitVec 1 := Scalar.cmpi .ne v40 c0_i32_15
  let c0_i32_16 : BitVec 32 := 0#32
  let v42 : BitVec 1 := Scalar.cmpi .slt v40 c0_i32_16
  let c0_i32_17 : BitVec 32 := 0#32
  let v43 : BitVec 1 := Scalar.cmpi .slt v39 c0_i32_17
  let v44 : BitVec 1 := Scalar.xori v42 v43
  let v45 : BitVec 1 := Scalar.andi v44 v41
  let v46 : BitVec 32 := Scalar.addi v40 v39
  let v47 : BitVec 32 := Scalar.select v45 v46 v40
  let c0_i32_18 : BitVec 32 := 0#32
  let c3_i32 : BitVec 32 := 3#32
  let v48 : BitVec 32 := Scalar.select v37 c0_i32_18 c3_i32
  let v49 : BitVec 32 := Scalar.select v19 v47 v48
  let c0_i32_19 : BitVec 32 := 0#32
  let c1_i32_20 : BitVec 32 := 1#32
  let v50 : BitVec 32 := Scalar.select v37 c0_i32_19 c1_i32_20
  let v51 : BitVec 32 := Scalar.select v19 arg1 v50
  let c0_i32_21 : BitVec 32 := 0#32
  ![v49.toNat, v51.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S1x256x1664 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1664 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1664 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1664 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1664 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1664 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1664 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1664 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1664 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== UInRefIdeal.lean ====
abbrev S4x2048x3328 : Shape := ⟨3, ![4, 2048, 3328]⟩
abbrev S1024x3328 : Shape := ⟨2, ![1024, 3328]⟩
abbrev S2048x3328 : Shape := ⟨2, ![2048, 3328]⟩
abbrev S1x2048x3328 : Shape := ⟨3, ![1, 2048, 3328]⟩
abbrev S_ : Shape := ⟨0, ![]⟩
abbrev S3x2048x3328 : Shape := ⟨3, ![3, 2048, 3328]⟩

abbrev nBuf : Space → Nat
  | .hbm => 61
  | .vmem => 0
  | .smem => 0
  | _ => 0

abbrev bufTy : (tb : Table) → Fin (tcTables nBuf tb) → BufTy
  | .hbm, ⟨0, _⟩ => ⟨S4x2048x3328, .f32⟩
  | .hbm, ⟨1, _⟩ => ⟨S4x2048x3328, .f32⟩
  | .hbm, ⟨2, _⟩ => ⟨S4x2048x3328, .f32⟩
  | .hbm, ⟨3, _⟩ => ⟨S1024x3328, .f32⟩
  | .hbm, ⟨4, _⟩ => ⟨S1024x3328, .f32⟩
  | .hbm, ⟨5, _⟩ => ⟨S4x2048x3328, .f32⟩
  | .hbm, ⟨6, _⟩ => ⟨S4x2048x3328, .f32⟩
  | .hbm, ⟨7, _⟩ => ⟨S4x2048x3328, .f32⟩
  | .hbm, ⟨8, _⟩ => ⟨S4x2048x3328, .f32⟩
  | .hbm, ⟨9, _⟩ => ⟨S2048x3328, .f32⟩
  | .hbm, ⟨10, _⟩ => ⟨S1x2048x3328, .f32⟩
  | .hbm, ⟨11, _⟩ => ⟨S2048x3328, .f32⟩
  | .hbm, ⟨12, _⟩ => ⟨S1x2048x3328, .f32⟩
  | .hbm, ⟨13, _⟩ => ⟨S2048x3328, .f32⟩
  | .hbm, ⟨14, _⟩ => ⟨S1x2048x3328, .f32⟩
  | .hbm, ⟨15, _⟩ => ⟨S2048x3328, .f32⟩
  | .hbm, ⟨16, _⟩ => ⟨S_, .f32⟩
  | .hbm, ⟨17, _⟩ => ⟨S2048x3328, .f32⟩
  | .hbm, ⟨18, _⟩ => ⟨S2048x3328, .f32⟩
  | .hbm, ⟨19, _⟩ => ⟨S_, .f32⟩
  | .hbm, ⟨20, _⟩ => ⟨S2048x3328, .f32⟩
  | .hbm, ⟨21, _⟩ => ⟨S2048x3328, .f32⟩
  | .hbm, ⟨22, _⟩ => ⟨S2048x3328, .f32⟩
  | .hbm, ⟨23, _⟩ => ⟨S_, .f32⟩
  | .hbm, ⟨24, _⟩ => ⟨S2048x3328, .f32⟩
  | .hbm, ⟨25, _⟩ => ⟨S2048x3328, .f32⟩
  | .hbm, ⟨26, _⟩ => ⟨S2048x3328, .f32⟩
  | .hbm, ⟨27, _⟩ => ⟨S_, .f32⟩
  | .hbm, ⟨28, _⟩ => ⟨S2048x3328, .f32⟩
  | .hbm, ⟨29, _⟩ => ⟨S2048x3328, .f32⟩
  | .hbm, ⟨30, _⟩ => ⟨S2048x3328, .f32⟩
  | .hbm, ⟨31, _⟩ => ⟨S_, .f32⟩
  | .hbm, ⟨32, _⟩ => ⟨S2048x3328, .f32⟩
  | .hbm, ⟨33, _⟩ => ⟨S2048x3328, .f32⟩
  | .hbm, ⟨34, _⟩ => ⟨S_, .f32⟩
  | .hbm, ⟨35, _⟩ => ⟨S2048x3328, .f32⟩
  | .hbm, ⟨36, _⟩ => ⟨S2048x3328, .f32⟩
  | .hbm, ⟨37, _⟩ => ⟨S2048x3328, .f32⟩
  | .hbm, ⟨38, _⟩ => ⟨S_, .f32⟩
  | .hbm, ⟨39, _⟩ => ⟨S2048x3328, .f32⟩
  | .hbm, ⟨40, _⟩ => ⟨S2048x3328, .f32⟩
  | .hbm, ⟨41, _⟩ => ⟨S2048x3328, .f32⟩
  | .hbm, ⟨42, _⟩ => ⟨S_, .f32⟩
  | .hbm, ⟨43, _⟩ => ⟨S2048x3328, .f32⟩
  | .hbm, ⟨44, _⟩ => ⟨S2048x3328, .f32⟩
  | .hbm, ⟨45, _⟩ => ⟨S2048x3328, .f32⟩
  | .hbm, ⟨46, _⟩ => ⟨S_, .f32⟩
  | .hbm, ⟨47, _⟩ => ⟨S2048x3328, .f32⟩
  | .hbm, ⟨48, _⟩ => ⟨S2048x3328, .f32⟩
  | .hbm, ⟨49, _⟩ => ⟨S1x2048x3328, .f32⟩
  | .hbm, ⟨50, _⟩ => ⟨S3x2048x3328, .f32⟩
  | .hbm, ⟨51, _⟩ => ⟨S4x2048x3328, .f32⟩
  | .hbm, ⟨52, _⟩ => ⟨S1x2048x3328, .f32⟩
  | .hbm, ⟨53, _⟩ => ⟨S3x2048x3328, .f32⟩
  | .hbm, ⟨54, _⟩ => ⟨S4x2048x3328, .f32⟩
  | .hbm, ⟨55, _⟩ => ⟨S1x2048x3328, .f32⟩
  | .hbm, ⟨56, _⟩ => ⟨S3x2048x3328, .f32⟩
  | .hbm, ⟨57, _⟩ => ⟨S4x2048x3328, .f32⟩
  | .hbm, ⟨58, _⟩ => ⟨S1x2048x3328, .f32⟩
  | .hbm, ⟨59, _⟩ => ⟨S3x2048x3328, .f32⟩
  | .hbm, ⟨60, _⟩ => ⟨S4x2048x3328, .f32⟩
  | _, _ => ⟨S4x2048x3328, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩

abbrev nD : Nat := 1
abbrev τ : Topo := Topo.v7x

variable {F : FTy → Type} [FloatOps F]
-- ==== UMerge.lean ====
abbrev S4x512x2048 : Shape := ⟨3, ![4, 512, 2048]⟩
abbrev S512x1024 : Shape := ⟨2, ![512, 1024]⟩
abbrev S_ : Shape := ⟨0, ![]⟩
abbrev S1 : Shape := ⟨1, ![1]⟩
abbrev S1x512x1024 : Shape := ⟨3, ![1, 512, 1024]⟩

abbrev nBuf : Space → Nat
  | .hbm => 18
  | .vmem => 16
  | .smem => 1
  | _ => 0

abbrev bufTy : (tb : Table) → Fin (tcTables nBuf tb) → BufTy
  | .hbm, ⟨0, _⟩ => ⟨S4x512x2048, .f32⟩
  | .hbm, ⟨1, _⟩ => ⟨S4x512x2048, .f32⟩
  | .hbm, ⟨2, _⟩ => ⟨S4x512x2048, .f32⟩
  | .hbm, ⟨3, _⟩ => ⟨S512x1024, .f32⟩
  | .hbm, ⟨4, _⟩ => ⟨S512x1024, .f32⟩
  | .hbm, ⟨5, _⟩ => ⟨S4x512x2048, .f32⟩
  | .hbm, ⟨6, _⟩ => ⟨S4x512x2048, .f32⟩
  | .hbm, ⟨7, _⟩ => ⟨S4x512x2048, .f32⟩
  | .hbm, ⟨8, _⟩ => ⟨S4x512x2048, .f32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S1, .i32⟩
  | .hbm, ⟨14, _⟩ => ⟨S4x512x2048, .f32⟩
  | .hbm, ⟨15, _⟩ => ⟨S4x512x2048, .f32⟩
  | .hbm, ⟨16, _⟩ => ⟨S4x512x2048, .f32⟩
  | .hbm, ⟨17, _⟩ => ⟨S4x512x2048, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S512x1024, .f32⟩
  | .local _ .vmem, ⟨7, _⟩ => ⟨S512x1024, .f32⟩
  | .local _ .vmem, ⟨8, _⟩ => ⟨S1x512x1024, .f32⟩
  | .local _ .vmem, ⟨9, _⟩ => ⟨S1x512x1024, .f32⟩
  | .local _ .vmem, ⟨10, _⟩ => ⟨S1x512x1024, .f32⟩
  | .local _ .vmem, ⟨11, _⟩ => ⟨S1x512x1024, .f32⟩
  | .local _ .vmem, ⟨12, _⟩ => ⟨S1x512x1024, .f32⟩
  | .local _ .vmem, ⟨13, _⟩ => ⟨S1x512x1024, .f32⟩
  | .local _ .vmem, ⟨14, _⟩ => ⟨S1x512x1024, .f32⟩
  | .local _ .vmem, ⟨15, _⟩ => ⟨S1x512x1024, .f32⟩
  | .local _ .smem, ⟨0, _⟩ => ⟨S1, .i32⟩
  | _, _ => ⟨S4x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_c_1 : Ref sig .tc := ⟨.hbm, 11, rfl⟩
abbrev main_v1 : Ref sig .tc := ⟨.hbm, 12, rfl⟩
abbrev main_v2 : Ref sig .tc := ⟨.hbm, 13, rfl⟩
abbrev main_v3_0 : Ref sig .tc := ⟨.hbm, 14, rfl⟩
abbrev main_v3_1 : Ref sig .tc := ⟨.hbm, 15, rfl⟩
abbrev main_v3_2 : Ref sig .tc := ⟨.hbm, 16, rfl⟩
abbrev main_v3_3 : Ref sig .tc := ⟨.hbm, 17, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![1, 2], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c1_i32 : BitVec 32 := 1#32
  let v1 : BitVec 32 := Scalar.divsi arg1 c1_i32
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c0_i32_1 : BitVec 32 := 0#32
  let v7 : BitVec 1 := Scalar.cmpi .sgt c1_i32 c0_i32_1
  let v8 : BitVec 32 := Scalar.extui v7
  let c0_i32_2 : BitVec 32 := 0#32
  let v9 : BitVec 1 := Scalar.cmpi .slt c1_i32 c0_i32_2
  let v10 : BitVec 32 := Scalar.extui v9
  let v11 : BitVec 32 := Scalar.subi v8 v10
  let v12 : BitVec 1 := Scalar.cmpi .ne v6 v11
  let v13 : BitVec 32 := Scalar.remsi arg1 c1_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let v18 : BitVec 1 := Scalar.cmpi .eq v17 v0
  let c1_i32_5 : BitVec 32 := 1#32
  let v19 : BitVec 32 := Scalar.divsi arg1 c1_i32_5
  let c0_i32_6 : BitVec 32 := 0#32
  let v20 : BitVec 1 := Scalar.cmpi .sgt arg1 c0_i32_6
  let v21 : BitVec 32 := Scalar.extui v20
  let c0_i32_7 : BitVec 32 := 0#32
  let v22 : BitVec 1 := Scalar.cmpi .slt arg1 c0_i32_7
  let v23 : BitVec 32 := Scalar.extui v22
  let v24 : BitVec 32 := Scalar.subi v21 v23
  let c0_i32_8 : BitVec 32 := 0#32
  let v25 : BitVec 1 := Scalar.cmpi .sgt c1_i32_5 c0_i32_8
  let v26 : BitVec 32 := Scalar.extui v25
  let c0_i32_9 : BitVec 32 := 0#32
  let v27 : BitVec 1 := Scalar.cmpi .slt c1_i32_5 c0_i32_9
  let v28 : BitVec 32 := Scalar.extui v27
  let v29 : BitVec 32 := Scalar.subi v26 v28
  let v30 : BitVec 1 := Scalar.cmpi .ne v24 v29
  let v31 : BitVec 32 := Scalar.remsi arg1 c1_i32_5
  let c0_i32_10 : BitVec 32 := 0#32
  let v32 : BitVec 1 := Scalar.cmpi .ne v31 c0_i32_10
  let v33 : BitVec 1 := Scalar.andi v30 v32
  let c1_i32_11 : BitVec 32 := 1#32
  let v34 : BitVec 32 := Scalar.subi v19 c1_i32_11
  let v35 : BitVec 32 := Scalar.select v33 v34 v19
  let v36 : BitVec 1 := Scalar.cmpi .slt v35 v0
  let c0_i32_12 : BitVec 32 := 0#32
  let c0_i32_13 : BitVec 32 := 0#32
  ![arg0.toNat, c0_i32_12.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c1_i32 : BitVec 32 := 1#32
  let v1 : BitVec 32 := Scalar.subi c1_i32 v0
  let c1_i32_0 : BitVec 32 := 1#32
  let v2 : BitVec 32 := Scalar.divsi arg1 c1_i32_0
  let c0_i32 : BitVec 32 := 0#32
  let v3 : BitVec 1 := Scalar.cmpi .sgt arg1 c0_i32
  let v4 : BitVec 32 := Scalar.extui v3
  let c0_i32_1 : BitVec 32 := 0#32
  let v5 : BitVec 1 := Scalar.cmpi .slt arg1 c0_i32_1
  let v6 : BitVec 32 := Scalar.extui v5
  let v7 : BitVec 32 := Scalar.subi v4 v6
  let c0_i32_2 : BitVec 32 := 0#32
  let v8 : BitVec 1 := Scalar.cmpi .sgt c1_i32_0 c0_i32_2
  let v9 : BitVec 32 := Scalar.extui v8
  let c0_i32_3 : BitVec 32 := 0#32
  let v10 : BitVec 1 := Scalar.cmpi .slt c1_i32_0 c0_i32_3
  let v11 : BitVec 32 := Scalar.extui v10
  let v12 : BitVec 32 := Scalar.subi v9 v11
  let v13 : BitVec 1 := Scalar.cmpi .ne v7 v12
  let v14 : BitVec 32 := Scalar.remsi arg1 c1_i32_0
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let v19 : BitVec 1 := Scalar.cmpi .eq v18 v1
  let c1_i32_6 : BitVec 32 := 1#32
  let v20 : BitVec 32 := Scalar.divsi arg1 c1_i32_6
  let c0_i32_7 : BitVec 32 := 0#32
  let v21 : BitVec 1 := Scalar.cmpi .sgt arg1 c0_i32_7
  let v22 : BitVec 32 := Scalar.extui v21
  let c0_i32_8 : BitVec 32 := 0#32
  let v23 : BitVec 1 := Scalar.cmpi .slt arg1 c0_i32_8
  let v24 : BitVec 32 := Scalar.extui v23
  let v25 : BitVec 32 := Scalar.subi v22 v24
  let c0_i32_9 : BitVec 32 := 0#32
  let v26 : BitVec 1 := Scalar.cmpi .sgt c1_i32_6 c0_i32_9
  let v27 : BitVec 32 := Scalar.extui v26
  let c0_i32_10 : BitVec 32 := 0#32
  let v28 : BitVec 1 := Scalar.cmpi .slt c1_i32_6 c0_i32_10
  let v29 : BitVec 32 := Scalar.extui v28
  let v30 : BitVec 32 := Scalar.subi v27 v29
  let v31 : BitVec 1 := Scalar.cmpi .ne v25 v30
  let v32 : BitVec 32 := Scalar.remsi arg1 c1_i32_6
  let c0_i32_11 : BitVec 32 := 0#32
  let v33 : BitVec 1 := Scalar.cmpi .ne v32 c0_i32_11
  let v34 : BitVec 1 := Scalar.andi v31 v33
  let c1_i32_12 : BitVec 32 := 1#32
  let v35 : BitVec 32 := Scalar.subi v20 c1_i32_12
  let v36 : BitVec 32 := Scalar.select v34 v35 v20
  let v37 : BitVec 1 := Scalar.cmpi .slt v36 v1
  let c0_i32_13 : BitVec 32 := 0#32
  let c0_i32_14 : BitVec 32 := 0#32
  ![arg0.toNat, c0_i32_13.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== UMergeRefIdeal.lean ====
abbrev S4x512x2048 : Shape := ⟨3, ![4, 512, 2048]⟩
abbrev S512x1024 : Shape := ⟨2, ![512, 1024]⟩
abbrev S512x2048 : Shape := ⟨2, ![512, 2048]⟩
abbrev S1x512x2048 : Shape := ⟨3, ![1, 512, 2048]⟩
abbrev S_ : Shape := ⟨0, ![]⟩
abbrev S3x512x2048 : Shape := ⟨3, ![3, 512, 2048]⟩

abbrev nBuf : Space → Nat
  | .hbm => 61
  | .vmem => 0
  | .smem => 0
  | _ => 0

abbrev bufTy : (tb : Table) → Fin (tcTables nBuf tb) → BufTy
  | .hbm, ⟨0, _⟩ => ⟨S4x512x2048, .f32⟩
  | .hbm, ⟨1, _⟩ => ⟨S4x512x2048, .f32⟩
  | .hbm, ⟨2, _⟩ => ⟨S4x512x2048, .f32⟩
  | .hbm, ⟨3, _⟩ => ⟨S512x1024, .f32⟩
  | .hbm, ⟨4, _⟩ => ⟨S512x1024, .f32⟩
  | .hbm, ⟨5, _⟩ => ⟨S4x512x2048, .f32⟩
  | .hbm, ⟨6, _⟩ => ⟨S4x512x2048, .f32⟩
  | .hbm, ⟨7, _⟩ => ⟨S4x512x2048, .f32⟩
  | .hbm, ⟨8, _⟩ => ⟨S4x512x2048, .f32⟩
  | .hbm, ⟨9, _⟩ => ⟨S512x2048, .f32⟩
  | .hbm, ⟨10, _⟩ => ⟨S1x512x2048, .f32⟩
  | .hbm, ⟨11, _⟩ => ⟨S512x2048, .f32⟩
  | .hbm, ⟨12, _⟩ => ⟨S1x512x2048, .f32⟩
  | .hbm, ⟨13, _⟩ => ⟨S512x2048, .f32⟩
  | .hbm, ⟨14, _⟩ => ⟨S1x512x2048, .f32⟩
  | .hbm, ⟨15, _⟩ => ⟨S512x2048, .f32⟩
  | .hbm, ⟨16, _⟩ => ⟨S_, .f32⟩
  | .hbm, ⟨17, _⟩ => ⟨S512x2048, .f32⟩
  | .hbm, ⟨18, _⟩ => ⟨S512x2048, .f32⟩
  | .hbm, ⟨19, _⟩ => ⟨S_, .f32⟩
  | .hbm, ⟨20, _⟩ => ⟨S512x2048, .f32⟩
  | .hbm, ⟨21, _⟩ => ⟨S512x2048, .f32⟩
  | .hbm, ⟨22, _⟩ => ⟨S512x2048, .f32⟩
  | .hbm, ⟨23, _⟩ => ⟨S_, .f32⟩
  | .hbm, ⟨24, _⟩ => ⟨S512x2048, .f32⟩
  | .hbm, ⟨25, _⟩ => ⟨S512x2048, .f32⟩
  | .hbm, ⟨26, _⟩ => ⟨S512x2048, .f32⟩
  | .hbm, ⟨27, _⟩ => ⟨S_, .f32⟩
  | .hbm, ⟨28, _⟩ => ⟨S512x2048, .f32⟩
  | .hbm, ⟨29, _⟩ => ⟨S512x2048, .f32⟩
  | .hbm, ⟨30, _⟩ => ⟨S512x2048, .f32⟩
  | .hbm, ⟨31, _⟩ => ⟨S_, .f32⟩
  | .hbm, ⟨32, _⟩ => ⟨S512x2048, .f32⟩
  | .hbm, ⟨33, _⟩ => ⟨S512x2048, .f32⟩
  | .hbm, ⟨34, _⟩ => ⟨S_, .f32⟩
  | .hbm, ⟨35, _⟩ => ⟨S512x2048, .f32⟩
  | .hbm, ⟨36, _⟩ => ⟨S512x2048, .f32⟩
  | .hbm, ⟨37, _⟩ => ⟨S512x2048, .f32⟩
  | .hbm, ⟨38, _⟩ => ⟨S_, .f32⟩
  | .hbm, ⟨39, _⟩ => ⟨S512x2048, .f32⟩
  | .hbm, ⟨40, _⟩ => ⟨S512x2048, .f32⟩
  | .hbm, ⟨41, _⟩ => ⟨S512x2048, .f32⟩
  | .hbm, ⟨42, _⟩ => ⟨S_, .f32⟩
  | .hbm, ⟨43, _⟩ => ⟨S512x2048, .f32⟩
  | .hbm, ⟨44, _⟩ => ⟨S512x2048, .f32⟩
  | .hbm, ⟨45, _⟩ => ⟨S512x2048, .f32⟩
  | .hbm, ⟨46, _⟩ => ⟨S_, .f32⟩
  | .hbm, ⟨47, _⟩ => ⟨S512x2048, .f32⟩
  | .hbm, ⟨48, _⟩ => ⟨S512x2048, .f32⟩
  | .hbm, ⟨49, _⟩ => ⟨S1x512x2048, .f32⟩
  | .hbm, ⟨50, _⟩ => ⟨S3x512x2048, .f32⟩
  | .hbm, ⟨51, _⟩ => ⟨S4x512x2048, .f32⟩
  | .hbm, ⟨52, _⟩ => ⟨S1x512x2048, .f32⟩
  | .hbm, ⟨53, _⟩ => ⟨S3x512x2048, .f32⟩
  | .hbm, ⟨54, _⟩ => ⟨S4x512x2048, .f32⟩
  | .hbm, ⟨55, _⟩ => ⟨S1x512x2048, .f32⟩
  | .hbm, ⟨56, _⟩ => ⟨S3x512x2048, .f32⟩
  | .hbm, ⟨57, _⟩ => ⟨S4x512x2048, .f32⟩
  | .hbm, ⟨58, _⟩ => ⟨S1x512x2048, .f32⟩
  | .hbm, ⟨59, _⟩ => ⟨S3x512x2048, .f32⟩
  | .hbm, ⟨60, _⟩ => ⟨S4x512x2048, .f32⟩
  | _, _ => ⟨S4x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩

abbrev nD : Nat := 1
abbrev τ : Topo := Topo.v7x

variable {F : FTy → Type} [FloatOps F]
-- ==== UOutConv.lean ====
abbrev S4x512x2048 : Shape := ⟨3, ![4, 512, 2048]⟩
abbrev S512x1024 : Shape := ⟨2, ![512, 1024]⟩
abbrev S_ : Shape := ⟨0, ![]⟩
abbrev S1 : Shape := ⟨1, ![1]⟩
abbrev S1x512x1024 : Shape := ⟨3, ![1, 512, 1024]⟩

abbrev nBuf : Space → Nat
  | .hbm => 18
  | .vmem => 16
  | .smem => 1
  | _ => 0

abbrev bufTy : (tb : Table) → Fin (tcTables nBuf tb) → BufTy
  | .hbm, ⟨0, _⟩ => ⟨S4x512x2048, .f32⟩
  | .hbm, ⟨1, _⟩ => ⟨S4x512x2048, .f32⟩
  | .hbm, ⟨2, _⟩ => ⟨S4x512x2048, .f32⟩
  | .hbm, ⟨3, _⟩ => ⟨S512x1024, .f32⟩
  | .hbm, ⟨4, _⟩ => ⟨S512x1024, .f32⟩
  | .hbm, ⟨5, _⟩ => ⟨S4x512x2048, .f32⟩
  | .hbm, ⟨6, _⟩ => ⟨S4x512x2048, .f32⟩
  | .hbm, ⟨7, _⟩ => ⟨S4x512x2048, .f32⟩
  | .hbm, ⟨8, _⟩ => ⟨S4x512x2048, .f32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S1, .i32⟩
  | .hbm, ⟨14, _⟩ => ⟨S4x512x2048, .f32⟩
  | .hbm, ⟨15, _⟩ => ⟨S4x512x2048, .f32⟩
  | .hbm, ⟨16, _⟩ => ⟨S4x512x2048, .f32⟩
  | .hbm, ⟨17, _⟩ => ⟨S4x512x2048, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S512x1024, .f32⟩
  | .local _ .vmem, ⟨7, _⟩ => ⟨S512x1024, .f32⟩
  | .local _ .vmem, ⟨8, _⟩ => ⟨S1x512x1024, .f32⟩
  | .local _ .vmem, ⟨9, _⟩ => ⟨S1x512x1024, .f32⟩
  | .local _ .vmem, ⟨10, _⟩ => ⟨S1x512x1024, .f32⟩
  | .local _ .vmem, ⟨11, _⟩ => ⟨S1x512x1024, .f32⟩
  | .local _ .vmem, ⟨12, _⟩ => ⟨S1x512x1024, .f32⟩
  | .local _ .vmem, ⟨13, _⟩ => ⟨S1x512x1024, .f32⟩
  | .local _ .vmem, ⟨14, _⟩ => ⟨S1x512x1024, .f32⟩
  | .local _ .vmem, ⟨15, _⟩ => ⟨S1x512x1024, .f32⟩
  | .local _ .smem, ⟨0, _⟩ => ⟨S1, .i32⟩
  | _, _ => ⟨S4x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_c_1 : Ref sig .tc := ⟨.hbm, 11, rfl⟩
abbrev main_v1 : Ref sig .tc := ⟨.hbm, 12, rfl⟩
abbrev main_v2 : Ref sig .tc := ⟨.hbm, 13, rfl⟩
abbrev main_v3_0 : Ref sig .tc := ⟨.hbm, 14, rfl⟩
abbrev main_v3_1 : Ref sig .tc := ⟨.hbm, 15, rfl⟩
abbrev main_v3_2 : Ref sig .tc := ⟨.hbm, 16, rfl⟩
abbrev main_v3_3 : Ref sig .tc := ⟨.hbm, 17, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![1, 2], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c1_i32 : BitVec 32 := 1#32
  let v1 : BitVec 32 := Scalar.divsi arg1 c1_i32
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c0_i32_1 : BitVec 32 := 0#32
  let v7 : BitVec 1 := Scalar.cmpi .sgt c1_i32 c0_i32_1
  let v8 : BitVec 32 := Scalar.extui v7
  let c0_i32_2 : BitVec 32 := 0#32
  let v9 : BitVec 1 := Scalar.cmpi .slt c1_i32 c0_i32_2
  let v10 : BitVec 32 := Scalar.extui v9
  let v11 : BitVec 32 := Scalar.subi v8 v10
  let v12 : BitVec 1 := Scalar.cmpi .ne v6 v11
  let v13 : BitVec 32 := Scalar.remsi arg1 c1_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let v18 : BitVec 1 := Scalar.cmpi .eq v17 v0
  let c1_i32_5 : BitVec 32 := 1#32
  let v19 : BitVec 32 := Scalar.divsi arg1 c1_i32_5
  let c0_i32_6 : BitVec 32 := 0#32
  let v20 : BitVec 1 := Scalar.cmpi .sgt arg1 c0_i32_6
  let v21 : BitVec 32 := Scalar.extui v20
  let c0_i32_7 : BitVec 32 := 0#32
  let v22 : BitVec 1 := Scalar.cmpi .slt arg1 c0_i32_7
  let v23 : BitVec 32 := Scalar.extui v22
  let v24 : BitVec 32 := Scalar.subi v21 v23
  let c0_i32_8 : BitVec 32 := 0#32
  let v25 : BitVec 1 := Scalar.cmpi .sgt c1_i32_5 c0_i32_8
  let v26 : BitVec 32 := Scalar.extui v25
  let c0_i32_9 : BitVec 32 := 0#32
  let v27 : BitVec 1 := Scalar.cmpi .slt c1_i32_5 c0_i32_9
  let v28 : BitVec 32 := Scalar.extui v27
  let v29 : BitVec 32 := Scalar.subi v26 v28
  let v30 : BitVec 1 := Scalar.cmpi .ne v24 v29
  let v31 : BitVec 32 := Scalar.remsi arg1 c1_i32_5
  let c0_i32_10 : BitVec 32 := 0#32
  let v32 : BitVec 1 := Scalar.cmpi .ne v31 c0_i32_10
  let v33 : BitVec 1 := Scalar.andi v30 v32
  let c1_i32_11 : BitVec 32 := 1#32
  let v34 : BitVec 32 := Scalar.subi v19 c1_i32_11
  let v35 : BitVec 32 := Scalar.select v33 v34 v19
  let v36 : BitVec 1 := Scalar.cmpi .slt v35 v0
  let c0_i32_12 : BitVec 32 := 0#32
  let c0_i32_13 : BitVec 32 := 0#32
  ![arg0.toNat, c0_i32_12.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c1_i32 : BitVec 32 := 1#32
  let v1 : BitVec 32 := Scalar.subi c1_i32 v0
  let c1_i32_0 : BitVec 32 := 1#32
  let v2 : BitVec 32 := Scalar.divsi arg1 c1_i32_0
  let c0_i32 : BitVec 32 := 0#32
  let v3 : BitVec 1 := Scalar.cmpi .sgt arg1 c0_i32
  let v4 : BitVec 32 := Scalar.extui v3
  let c0_i32_1 : BitVec 32 := 0#32
  let v5 : BitVec 1 := Scalar.cmpi .slt arg1 c0_i32_1
  let v6 : BitVec 32 := Scalar.extui v5
  let v7 : BitVec 32 := Scalar.subi v4 v6
  let c0_i32_2 : BitVec 32 := 0#32
  let v8 : BitVec 1 := Scalar.cmpi .sgt c1_i32_0 c0_i32_2
  let v9 : BitVec 32 := Scalar.extui v8
  let c0_i32_3 : BitVec 32 := 0#32
  let v10 : BitVec 1 := Scalar.cmpi .slt c1_i32_0 c0_i32_3
  let v11 : BitVec 32 := Scalar.extui v10
  let v12 : BitVec 32 := Scalar.subi v9 v11
  let v13 : BitVec 1 := Scalar.cmpi .ne v7 v12
  let v14 : BitVec 32 := Scalar.remsi arg1 c1_i32_0
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let v19 : BitVec 1 := Scalar.cmpi .eq v18 v1
  let c1_i32_6 : BitVec 32 := 1#32
  let v20 : BitVec 32 := Scalar.divsi arg1 c1_i32_6
  let c0_i32_7 : BitVec 32 := 0#32
  let v21 : BitVec 1 := Scalar.cmpi .sgt arg1 c0_i32_7
  let v22 : BitVec 32 := Scalar.extui v21
  let c0_i32_8 : BitVec 32 := 0#32
  let v23 : BitVec 1 := Scalar.cmpi .slt arg1 c0_i32_8
  let v24 : BitVec 32 := Scalar.extui v23
  let v25 : BitVec 32 := Scalar.subi v22 v24
  let c0_i32_9 : BitVec 32 := 0#32
  let v26 : BitVec 1 := Scalar.cmpi .sgt c1_i32_6 c0_i32_9
  let v27 : BitVec 32 := Scalar.extui v26
  let c0_i32_10 : BitVec 32 := 0#32
  let v28 : BitVec 1 := Scalar.cmpi .slt c1_i32_6 c0_i32_10
  let v29 : BitVec 32 := Scalar.extui v28
  let v30 : BitVec 32 := Scalar.subi v27 v29
  let v31 : BitVec 1 := Scalar.cmpi .ne v25 v30
  let v32 : BitVec 32 := Scalar.remsi arg1 c1_i32_6
  let c0_i32_11 : BitVec 32 := 0#32
  let v33 : BitVec 1 := Scalar.cmpi .ne v32 c0_i32_11
  let v34 : BitVec 1 := Scalar.andi v31 v33
  let c1_i32_12 : BitVec 32 := 1#32
  let v35 : BitVec 32 := Scalar.subi v20 c1_i32_12
  let v36 : BitVec 32 := Scalar.select v34 v35 v20
  let v37 : BitVec 1 := Scalar.cmpi .slt v36 v1
  let c0_i32_13 : BitVec 32 := 0#32
  let c0_i32_14 : BitVec 32 := 0#32
  ![arg0.toNat, c0_i32_13.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== UOutConvRefIdeal.lean ====
abbrev S4x512x2048 : Shape := ⟨3, ![4, 512, 2048]⟩
abbrev S512x1024 : Shape := ⟨2, ![512, 1024]⟩
abbrev S512x2048 : Shape := ⟨2, ![512, 2048]⟩
abbrev S1x512x2048 : Shape := ⟨3, ![1, 512, 2048]⟩
abbrev S_ : Shape := ⟨0, ![]⟩
abbrev S3x512x2048 : Shape := ⟨3, ![3, 512, 2048]⟩

abbrev nBuf : Space → Nat
  | .hbm => 61
  | .vmem => 0
  | .smem => 0
  | _ => 0

abbrev bufTy : (tb : Table) → Fin (tcTables nBuf tb) → BufTy
  | .hbm, ⟨0, _⟩ => ⟨S4x512x2048, .f32⟩
  | .hbm, ⟨1, _⟩ => ⟨S4x512x2048, .f32⟩
  | .hbm, ⟨2, _⟩ => ⟨S4x512x2048, .f32⟩
  | .hbm, ⟨3, _⟩ => ⟨S512x1024, .f32⟩
  | .hbm, ⟨4, _⟩ => ⟨S512x1024, .f32⟩
  | .hbm, ⟨5, _⟩ => ⟨S4x512x2048, .f32⟩
  | .hbm, ⟨6, _⟩ => ⟨S4x512x2048, .f32⟩
  | .hbm, ⟨7, _⟩ => ⟨S4x512x2048, .f32⟩
  | .hbm, ⟨8, _⟩ => ⟨S4x512x2048, .f32⟩
  | .hbm, ⟨9, _⟩ => ⟨S512x2048, .f32⟩
  | .hbm, ⟨10, _⟩ => ⟨S1x512x2048, .f32⟩
  | .hbm, ⟨11, _⟩ => ⟨S512x2048, .f32⟩
  | .hbm, ⟨12, _⟩ => ⟨S1x512x2048, .f32⟩
  | .hbm, ⟨13, _⟩ => ⟨S512x2048, .f32⟩
  | .hbm, ⟨14, _⟩ => ⟨S1x512x2048, .f32⟩
  | .hbm, ⟨15, _⟩ => ⟨S512x2048, .f32⟩
  | .hbm, ⟨16, _⟩ => ⟨S_, .f32⟩
  | .hbm, ⟨17, _⟩ => ⟨S512x2048, .f32⟩
  | .hbm, ⟨18, _⟩ => ⟨S512x2048, .f32⟩
  | .hbm, ⟨19, _⟩ => ⟨S_, .f32⟩
  | .hbm, ⟨20, _⟩ => ⟨S512x2048, .f32⟩
  | .hbm, ⟨21, _⟩ => ⟨S512x2048, .f32⟩
  | .hbm, ⟨22, _⟩ => ⟨S512x2048, .f32⟩
  | .hbm, ⟨23, _⟩ => ⟨S_, .f32⟩
  | .hbm, ⟨24, _⟩ => ⟨S512x2048, .f32⟩
  | .hbm, ⟨25, _⟩ => ⟨S512x2048, .f32⟩
  | .hbm, ⟨26, _⟩ => ⟨S512x2048, .f32⟩
  | .hbm, ⟨27, _⟩ => ⟨S_, .f32⟩
  | .hbm, ⟨28, _⟩ => ⟨S512x2048, .f32⟩
  | .hbm, ⟨29, _⟩ => ⟨S512x2048, .f32⟩
  | .hbm, ⟨30, _⟩ => ⟨S512x2048, .f32⟩
  | .hbm, ⟨31, _⟩ => ⟨S_, .f32⟩
  | .hbm, ⟨32, _⟩ => ⟨S512x2048, .f32⟩
  | .hbm, ⟨33, _⟩ => ⟨S512x2048, .f32⟩
  | .hbm, ⟨34, _⟩ => ⟨S_, .f32⟩
  | .hbm, ⟨35, _⟩ => ⟨S512x2048, .f32⟩
  | .hbm, ⟨36, _⟩ => ⟨S512x2048, .f32⟩
  | .hbm, ⟨37, _⟩ => ⟨S512x2048, .f32⟩
  | .hbm, ⟨38, _⟩ => ⟨S_, .f32⟩
  | .hbm, ⟨39, _⟩ => ⟨S512x2048, .f32⟩
  | .hbm, ⟨40, _⟩ => ⟨S512x2048, .f32⟩
  | .hbm, ⟨41, _⟩ => ⟨S512x2048, .f32⟩
  | .hbm, ⟨42, _⟩ => ⟨S_, .f32⟩
  | .hbm, ⟨43, _⟩ => ⟨S512x2048, .f32⟩
  | .hbm, ⟨44, _⟩ => ⟨S512x2048, .f32⟩
  | .hbm, ⟨45, _⟩ => ⟨S512x2048, .f32⟩
  | .hbm, ⟨46, _⟩ => ⟨S_, .f32⟩
  | .hbm, ⟨47, _⟩ => ⟨S512x2048, .f32⟩
  | .hbm, ⟨48, _⟩ => ⟨S512x2048, .f32⟩
  | .hbm, ⟨49, _⟩ => ⟨S1x512x2048, .f32⟩
  | .hbm, ⟨50, _⟩ => ⟨S3x512x2048, .f32⟩
  | .hbm, ⟨51, _⟩ => ⟨S4x512x2048, .f32⟩
  | .hbm, ⟨52, _⟩ => ⟨S1x512x2048, .f32⟩
  | .hbm, ⟨53, _⟩ => ⟨S3x512x2048, .f32⟩
  | .hbm, ⟨54, _⟩ => ⟨S4x512x2048, .f32⟩
  | .hbm, ⟨55, _⟩ => ⟨S1x512x2048, .f32⟩
  | .hbm, ⟨56, _⟩ => ⟨S3x512x2048, .f32⟩
  | .hbm, ⟨57, _⟩ => ⟨S4x512x2048, .f32⟩
  | .hbm, ⟨58, _⟩ => ⟨S1x512x2048, .f32⟩
  | .hbm, ⟨59, _⟩ => ⟨S3x512x2048, .f32⟩
  | .hbm, ⟨60, _⟩ => ⟨S4x512x2048, .f32⟩
  | _, _ => ⟨S4x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩

abbrev nD : Nat := 1
abbrev τ : Topo := Topo.v7x

variable {F : FTy → Type} [FloatOps F]
-- ==== UOutAttn.lean ====
abbrev S4x512x2048 : Shape := ⟨3, ![4, 512, 2048]⟩
abbrev S512x1024 : Shape := ⟨2, ![512, 1024]⟩
abbrev S_ : Shape := ⟨0, ![]⟩
abbrev S1 : Shape := ⟨1, ![1]⟩
abbrev S1x512x1024 : Shape := ⟨3, ![1, 512, 1024]⟩

abbrev nBuf : Space → Nat
  | .hbm => 18
  | .vmem => 16
  | .smem => 1
  | _ => 0

abbrev bufTy : (tb : Table) → Fin (tcTables nBuf tb) → BufTy
  | .hbm, ⟨0, _⟩ => ⟨S4x512x2048, .f32⟩
  | .hbm, ⟨1, _⟩ => ⟨S4x512x2048, .f32⟩
  | .hbm, ⟨2, _⟩ => ⟨S4x512x2048, .f32⟩
  | .hbm, ⟨3, _⟩ => ⟨S512x1024, .f32⟩
  | .hbm, ⟨4, _⟩ => ⟨S512x1024, .f32⟩
  | .hbm, ⟨5, _⟩ => ⟨S4x512x2048, .f32⟩
  | .hbm, ⟨6, _⟩ => ⟨S4x512x2048, .f32⟩
  | .hbm, ⟨7, _⟩ => ⟨S4x512x2048, .f32⟩
  | .hbm, ⟨8, _⟩ => ⟨S4x512x2048, .f32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S1, .i32⟩
  | .hbm, ⟨14, _⟩ => ⟨S4x512x2048, .f32⟩
  | .hbm, ⟨15, _⟩ => ⟨S4x512x2048, .f32⟩
  | .hbm, ⟨16, _⟩ => ⟨S4x512x2048, .f32⟩
  | .hbm, ⟨17, _⟩ => ⟨S4x512x2048, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S512x1024, .f32⟩
  | .local _ .vmem, ⟨7, _⟩ => ⟨S512x1024, .f32⟩
  | .local _ .vmem, ⟨8, _⟩ => ⟨S1x512x1024, .f32⟩
  | .local _ .vmem, ⟨9, _⟩ => ⟨S1x512x1024, .f32⟩
  | .local _ .vmem, ⟨10, _⟩ => ⟨S1x512x1024, .f32⟩
  | .local _ .vmem, ⟨11, _⟩ => ⟨S1x512x1024, .f32⟩
  | .local _ .vmem, ⟨12, _⟩ => ⟨S1x512x1024, .f32⟩
  | .local _ .vmem, ⟨13, _⟩ => ⟨S1x512x1024, .f32⟩
  | .local _ .vmem, ⟨14, _⟩ => ⟨S1x512x1024, .f32⟩
  | .local _ .vmem, ⟨15, _⟩ => ⟨S1x512x1024, .f32⟩
  | .local _ .smem, ⟨0, _⟩ => ⟨S1, .i32⟩
  | _, _ => ⟨S4x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_c_1 : Ref sig .tc := ⟨.hbm, 11, rfl⟩
abbrev main_v1 : Ref sig .tc := ⟨.hbm, 12, rfl⟩
abbrev main_v2 : Ref sig .tc := ⟨.hbm, 13, rfl⟩
abbrev main_v3_0 : Ref sig .tc := ⟨.hbm, 14, rfl⟩
abbrev main_v3_1 : Ref sig .tc := ⟨.hbm, 15, rfl⟩
abbrev main_v3_2 : Ref sig .tc := ⟨.hbm, 16, rfl⟩
abbrev main_v3_3 : Ref sig .tc := ⟨.hbm, 17, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![1, 2], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c1_i32 : BitVec 32 := 1#32
  let v1 : BitVec 32 := Scalar.divsi arg1 c1_i32
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c0_i32_1 : BitVec 32 := 0#32
  let v7 : BitVec 1 := Scalar.cmpi .sgt c1_i32 c0_i32_1
  let v8 : BitVec 32 := Scalar.extui v7
  let c0_i32_2 : BitVec 32 := 0#32
  let v9 : BitVec 1 := Scalar.cmpi .slt c1_i32 c0_i32_2
  let v10 : BitVec 32 := Scalar.extui v9
  let v11 : BitVec 32 := Scalar.subi v8 v10
  let v12 : BitVec 1 := Scalar.cmpi .ne v6 v11
  let v13 : BitVec 32 := Scalar.remsi arg1 c1_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let v18 : BitVec 1 := Scalar.cmpi .eq v17 v0
  let c1_i32_5 : BitVec 32 := 1#32
  let v19 : BitVec 32 := Scalar.divsi arg1 c1_i32_5
  let c0_i32_6 : BitVec 32 := 0#32
  let v20 : BitVec 1 := Scalar.cmpi .sgt arg1 c0_i32_6
  let v21 : BitVec 32 := Scalar.extui v20
  let c0_i32_7 : BitVec 32 := 0#32
  let v22 : BitVec 1 := Scalar.cmpi .slt arg1 c0_i32_7
  let v23 : BitVec 32 := Scalar.extui v22
  let v24 : BitVec 32 := Scalar.subi v21 v23
  let c0_i32_8 : BitVec 32 := 0#32
  let v25 : BitVec 1 := Scalar.cmpi .sgt c1_i32_5 c0_i32_8
  let v26 : BitVec 32 := Scalar.extui v25
  let c0_i32_9 : BitVec 32 := 0#32
  let v27 : BitVec 1 := Scalar.cmpi .slt c1_i32_5 c0_i32_9
  let v28 : BitVec 32 := Scalar.extui v27
  let v29 : BitVec 32 := Scalar.subi v26 v28
  let v30 : BitVec 1 := Scalar.cmpi .ne v24 v29
  let v31 : BitVec 32 := Scalar.remsi arg1 c1_i32_5
  let c0_i32_10 : BitVec 32 := 0#32
  let v32 : BitVec 1 := Scalar.cmpi .ne v31 c0_i32_10
  let v33 : BitVec 1 := Scalar.andi v30 v32
  let c1_i32_11 : BitVec 32 := 1#32
  let v34 : BitVec 32 := Scalar.subi v19 c1_i32_11
  let v35 : BitVec 32 := Scalar.select v33 v34 v19
  let v36 : BitVec 1 := Scalar.cmpi .slt v35 v0
  let c0_i32_12 : BitVec 32 := 0#32
  let c0_i32_13 : BitVec 32 := 0#32
  ![arg0.toNat, c0_i32_12.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c1_i32 : BitVec 32 := 1#32
  let v1 : BitVec 32 := Scalar.subi c1_i32 v0
  let c1_i32_0 : BitVec 32 := 1#32
  let v2 : BitVec 32 := Scalar.divsi arg1 c1_i32_0
  let c0_i32 : BitVec 32 := 0#32
  let v3 : BitVec 1 := Scalar.cmpi .sgt arg1 c0_i32
  let v4 : BitVec 32 := Scalar.extui v3
  let c0_i32_1 : BitVec 32 := 0#32
  let v5 : BitVec 1 := Scalar.cmpi .slt arg1 c0_i32_1
  let v6 : BitVec 32 := Scalar.extui v5
  let v7 : BitVec 32 := Scalar.subi v4 v6
  let c0_i32_2 : BitVec 32 := 0#32
  let v8 : BitVec 1 := Scalar.cmpi .sgt c1_i32_0 c0_i32_2
  let v9 : BitVec 32 := Scalar.extui v8
  let c0_i32_3 : BitVec 32 := 0#32
  let v10 : BitVec 1 := Scalar.cmpi .slt c1_i32_0 c0_i32_3
  let v11 : BitVec 32 := Scalar.extui v10
  let v12 : BitVec 32 := Scalar.subi v9 v11
  let v13 : BitVec 1 := Scalar.cmpi .ne v7 v12
  let v14 : BitVec 32 := Scalar.remsi arg1 c1_i32_0
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let v19 : BitVec 1 := Scalar.cmpi .eq v18 v1
  let c1_i32_6 : BitVec 32 := 1#32
  let v20 : BitVec 32 := Scalar.divsi arg1 c1_i32_6
  let c0_i32_7 : BitVec 32 := 0#32
  let v21 : BitVec 1 := Scalar.cmpi .sgt arg1 c0_i32_7
  let v22 : BitVec 32 := Scalar.extui v21
  let c0_i32_8 : BitVec 32 := 0#32
  let v23 : BitVec 1 := Scalar.cmpi .slt arg1 c0_i32_8
  let v24 : BitVec 32 := Scalar.extui v23
  let v25 : BitVec 32 := Scalar.subi v22 v24
  let c0_i32_9 : BitVec 32 := 0#32
  let v26 : BitVec 1 := Scalar.cmpi .sgt c1_i32_6 c0_i32_9
  let v27 : BitVec 32 := Scalar.extui v26
  let c0_i32_10 : BitVec 32 := 0#32
  let v28 : BitVec 1 := Scalar.cmpi .slt c1_i32_6 c0_i32_10
  let v29 : BitVec 32 := Scalar.extui v28
  let v30 : BitVec 32 := Scalar.subi v27 v29
  let v31 : BitVec 1 := Scalar.cmpi .ne v25 v30
  let v32 : BitVec 32 := Scalar.remsi arg1 c1_i32_6
  let c0_i32_11 : BitVec 32 := 0#32
  let v33 : BitVec 1 := Scalar.cmpi .ne v32 c0_i32_11
  let v34 : BitVec 1 := Scalar.andi v31 v33
  let c1_i32_12 : BitVec 32 := 1#32
  let v35 : BitVec 32 := Scalar.subi v20 c1_i32_12
  let v36 : BitVec 32 := Scalar.select v34 v35 v20
  let v37 : BitVec 1 := Scalar.cmpi .slt v36 v1
  let c0_i32_13 : BitVec 32 := 0#32
  let c0_i32_14 : BitVec 32 := 0#32
  ![arg0.toNat, c0_i32_13.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== UOutAttnRefIdeal.lean ====
abbrev S4x512x2048 : Shape := ⟨3, ![4, 512, 2048]⟩
abbrev S512x1024 : Shape := ⟨2, ![512, 1024]⟩
abbrev S512x2048 : Shape := ⟨2, ![512, 2048]⟩
abbrev S1x512x2048 : Shape := ⟨3, ![1, 512, 2048]⟩
abbrev S_ : Shape := ⟨0, ![]⟩
abbrev S3x512x2048 : Shape := ⟨3, ![3, 512, 2048]⟩

abbrev nBuf : Space → Nat
  | .hbm => 61
  | .vmem => 0
  | .smem => 0
  | _ => 0

abbrev bufTy : (tb : Table) → Fin (tcTables nBuf tb) → BufTy
  | .hbm, ⟨0, _⟩ => ⟨S4x512x2048, .f32⟩
  | .hbm, ⟨1, _⟩ => ⟨S4x512x2048, .f32⟩
  | .hbm, ⟨2, _⟩ => ⟨S4x512x2048, .f32⟩
  | .hbm, ⟨3, _⟩ => ⟨S512x1024, .f32⟩
  | .hbm, ⟨4, _⟩ => ⟨S512x1024, .f32⟩
  | .hbm, ⟨5, _⟩ => ⟨S4x512x2048, .f32⟩
  | .hbm, ⟨6, _⟩ => ⟨S4x512x2048, .f32⟩
  | .hbm, ⟨7, _⟩ => ⟨S4x512x2048, .f32⟩
  | .hbm, ⟨8, _⟩ => ⟨S4x512x2048, .f32⟩
  | .hbm, ⟨9, _⟩ => ⟨S512x2048, .f32⟩
  | .hbm, ⟨10, _⟩ => ⟨S1x512x2048, .f32⟩
  | .hbm, ⟨11, _⟩ => ⟨S512x2048, .f32⟩
  | .hbm, ⟨12, _⟩ => ⟨S1x512x2048, .f32⟩
  | .hbm, ⟨13, _⟩ => ⟨S512x2048, .f32⟩
  | .hbm, ⟨14, _⟩ => ⟨S1x512x2048, .f32⟩
  | .hbm, ⟨15, _⟩ => ⟨S512x2048, .f32⟩
  | .hbm, ⟨16, _⟩ => ⟨S_, .f32⟩
  | .hbm, ⟨17, _⟩ => ⟨S512x2048, .f32⟩
  | .hbm, ⟨18, _⟩ => ⟨S512x2048, .f32⟩
  | .hbm, ⟨19, _⟩ => ⟨S_, .f32⟩
  | .hbm, ⟨20, _⟩ => ⟨S512x2048, .f32⟩
  | .hbm, ⟨21, _⟩ => ⟨S512x2048, .f32⟩
  | .hbm, ⟨22, _⟩ => ⟨S512x2048, .f32⟩
  | .hbm, ⟨23, _⟩ => ⟨S_, .f32⟩
  | .hbm, ⟨24, _⟩ => ⟨S512x2048, .f32⟩
  | .hbm, ⟨25, _⟩ => ⟨S512x2048, .f32⟩
  | .hbm, ⟨26, _⟩ => ⟨S512x2048, .f32⟩
  | .hbm, ⟨27, _⟩ => ⟨S_, .f32⟩
  | .hbm, ⟨28, _⟩ => ⟨S512x2048, .f32⟩
  | .hbm, ⟨29, _⟩ => ⟨S512x2048, .f32⟩
  | .hbm, ⟨30, _⟩ => ⟨S512x2048, .f32⟩
  | .hbm, ⟨31, _⟩ => ⟨S_, .f32⟩
  | .hbm, ⟨32, _⟩ => ⟨S512x2048, .f32⟩
  | .hbm, ⟨33, _⟩ => ⟨S512x2048, .f32⟩
  | .hbm, ⟨34, _⟩ => ⟨S_, .f32⟩
  | .hbm, ⟨35, _⟩ => ⟨S512x2048, .f32⟩
  | .hbm, ⟨36, _⟩ => ⟨S512x2048, .f32⟩
  | .hbm, ⟨37, _⟩ => ⟨S512x2048, .f32⟩
  | .hbm, ⟨38, _⟩ => ⟨S_, .f32⟩
  | .hbm, ⟨39, _⟩ => ⟨S512x2048, .f32⟩
  | .hbm, ⟨40, _⟩ => ⟨S512x2048, .f32⟩
  | .hbm, ⟨41, _⟩ => ⟨S512x2048, .f32⟩
  | .hbm, ⟨42, _⟩ => ⟨S_, .f32⟩
  | .hbm, ⟨43, _⟩ => ⟨S512x2048, .f32⟩
  | .hbm, ⟨44, _⟩ => ⟨S512x2048, .f32⟩
  | .hbm, ⟨45, _⟩ => ⟨S512x2048, .f32⟩
  | .hbm, ⟨46, _⟩ => ⟨S_, .f32⟩
  | .hbm, ⟨47, _⟩ => ⟨S512x2048, .f32⟩
  | .hbm, ⟨48, _⟩ => ⟨S512x2048, .f32⟩
  | .hbm, ⟨49, _⟩ => ⟨S1x512x2048, .f32⟩
  | .hbm, ⟨50, _⟩ => ⟨S3x512x2048, .f32⟩
  | .hbm, ⟨51, _⟩ => ⟨S4x512x2048, .f32⟩
  | .hbm, ⟨52, _⟩ => ⟨S1x512x2048, .f32⟩
  | .hbm, ⟨53, _⟩ => ⟨S3x512x2048, .f32⟩
  | .hbm, ⟨54, _⟩ => ⟨S4x512x2048, .f32⟩
  | .hbm, ⟨55, _⟩ => ⟨S1x512x2048, .f32⟩
  | .hbm, ⟨56, _⟩ => ⟨S3x512x2048, .f32⟩
  | .hbm, ⟨57, _⟩ => ⟨S4x512x2048, .f32⟩
  | .hbm, ⟨58, _⟩ => ⟨S1x512x2048, .f32⟩
  | .hbm, ⟨59, _⟩ => ⟨S3x512x2048, .f32⟩
  | .hbm, ⟨60, _⟩ => ⟨S4x512x2048, .f32⟩
  | _, _ => ⟨S4x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩

abbrev nD : Nat := 1
abbrev τ : Topo := Topo.v7x

variable {F : FTy → Type} [FloatOps F]
-- ==== UDown.lean ====
abbrev S4x2048x2048 : Shape := ⟨3, ![4, 2048, 2048]⟩
abbrev S2048x1024 : Shape := ⟨2, ![2048, 1024]⟩
abbrev S_ : Shape := ⟨0, ![]⟩
abbrev S1 : Shape := ⟨1, ![1]⟩
abbrev S1x512x1024 : Shape := ⟨3, ![1, 512, 1024]⟩
abbrev S512x1024 : Shape := ⟨2, ![512, 1024]⟩

abbrev nBuf : Space → Nat
  | .hbm => 18
  | .vmem => 18
  | .smem => 1
  | _ => 0

abbrev bufTy : (tb : Table) → Fin (tcTables nBuf tb) → BufTy
  | .hbm, ⟨0, _⟩ => ⟨S4x2048x2048, .f32⟩
  | .hbm, ⟨1, _⟩ => ⟨S4x2048x2048, .f32⟩
  | .hbm, ⟨2, _⟩ => ⟨S4x2048x2048, .f32⟩
  | .hbm, ⟨3, _⟩ => ⟨S2048x1024, .f32⟩
  | .hbm, ⟨4, _⟩ => ⟨S2048x1024, .f32⟩
  | .hbm, ⟨5, _⟩ => ⟨S4x2048x2048, .f32⟩
  | .hbm, ⟨6, _⟩ => ⟨S4x2048x2048, .f32⟩
  | .hbm, ⟨7, _⟩ => ⟨S4x2048x2048, .f32⟩
  | .hbm, ⟨8, _⟩ => ⟨S4x2048x2048, .f32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S1, .i32⟩
  | .hbm, ⟨14, _⟩ => ⟨S4x2048x2048, .f32⟩
  | .hbm, ⟨15, _⟩ => ⟨S4x2048x2048, .f32⟩
  | .hbm, ⟨16, _⟩ => ⟨S4x2048x2048, .f32⟩
  | .hbm, ⟨17, _⟩ => ⟨S4x2048x2048, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x512x1024, .f32⟩
  | .local _ .vmem, ⟨11, _⟩ => ⟨S1x512x1024, .f32⟩
  | .local _ .vmem, ⟨12, _⟩ => ⟨S1x512x1024, .f32⟩
  | .local _ .vmem, ⟨13, _⟩ => ⟨S1x512x1024, .f32⟩
  | .local _ .vmem, ⟨14, _⟩ => ⟨S1x512x1024, .f32⟩
  | .local _ .vmem, ⟨15, _⟩ => ⟨S1x512x1024, .f32⟩
  | .local _ .vmem, ⟨16, _⟩ => ⟨S1x512x1024, .f32⟩
  | .local _ .vmem, ⟨17, _⟩ => ⟨S1x512x1024, .f32⟩
  | .local _ .smem, ⟨0, _⟩ => ⟨S1, .i32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_c_1 : Ref sig .tc := ⟨.hbm, 11, rfl⟩
abbrev main_v1 : Ref sig .tc := ⟨.hbm, 12, rfl⟩
abbrev main_v2 : Ref sig .tc := ⟨.hbm, 13, rfl⟩
abbrev main_v3_0 : Ref sig .tc := ⟨.hbm, 14, rfl⟩
abbrev main_v3_1 : Ref sig .tc := ⟨.hbm, 15, rfl⟩
abbrev main_v3_2 : Ref sig .tc := ⟨.hbm, 16, rfl⟩
abbrev main_v3_3 : Ref sig .tc := ⟨.hbm, 17, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 2], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c1_i32 : BitVec 32 := 1#32
  let v1 : BitVec 32 := Scalar.divsi arg1 c1_i32
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c0_i32_1 : BitVec 32 := 0#32
  let v7 : BitVec 1 := Scalar.cmpi .sgt c1_i32 c0_i32_1
  let v8 : BitVec 32 := Scalar.extui v7
  let c0_i32_2 : BitVec 32 := 0#32
  let v9 : BitVec 1 := Scalar.cmpi .slt c1_i32 c0_i32_2
  let v10 : BitVec 32 := Scalar.extui v9
  let v11 : BitVec 32 := Scalar.subi v8 v10
  let v12 : BitVec 1 := Scalar.cmpi .ne v6 v11
  let v13 : BitVec 32 := Scalar.remsi arg1 c1_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let v18 : BitVec 1 := Scalar.cmpi .eq v17 v0
  let c1_i32_5 : BitVec 32 := 1#32
  let v19 : BitVec 32 := Scalar.divsi arg1 c1_i32_5
  let c0_i32_6 : BitVec 32 := 0#32
  let v20 : BitVec 1 := Scalar.cmpi .sgt arg1 c0_i32_6
  let v21 : BitVec 32 := Scalar.extui v20
  let c0_i32_7 : BitVec 32 := 0#32
  let v22 : BitVec 1 := Scalar.cmpi .slt arg1 c0_i32_7
  let v23 : BitVec 32 := Scalar.extui v22
  let v24 : BitVec 32 := Scalar.subi v21 v23
  let c0_i32_8 : BitVec 32 := 0#32
  let v25 : BitVec 1 := Scalar.cmpi .sgt c1_i32_5 c0_i32_8
  let v26 : BitVec 32 := Scalar.extui v25
  let c0_i32_9 : BitVec 32 := 0#32
  let v27 : BitVec 1 := Scalar.cmpi .slt c1_i32_5 c0_i32_9
  let v28 : BitVec 32 := Scalar.extui v27
  let v29 : BitVec 32 := Scalar.subi v26 v28
  let v30 : BitVec 1 := Scalar.cmpi .ne v24 v29
  let v31 : BitVec 32 := Scalar.remsi arg1 c1_i32_5
  let c0_i32_10 : BitVec 32 := 0#32
  let v32 : BitVec 1 := Scalar.cmpi .ne v31 c0_i32_10
  let v33 : BitVec 1 := Scalar.andi v30 v32
  let c1_i32_11 : BitVec 32 := 1#32
  let v34 : BitVec 32 := Scalar.subi v19 c1_i32_11
  let v35 : BitVec 32 := Scalar.select v33 v34 v19
  let v36 : BitVec 1 := Scalar.cmpi .slt v35 v0
  let c0_i32_12 : BitVec 32 := 0#32
  let c0_i32_13 : BitVec 32 := 0#32
  ![arg0.toNat, c0_i32_12.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c1_i32 : BitVec 32 := 1#32
  let v1 : BitVec 32 := Scalar.subi c1_i32 v0
  let c1_i32_0 : BitVec 32 := 1#32
  let v2 : BitVec 32 := Scalar.divsi arg1 c1_i32_0
  let c0_i32 : BitVec 32 := 0#32
  let v3 : BitVec 1 := Scalar.cmpi .sgt arg1 c0_i32
  let v4 : BitVec 32 := Scalar.extui v3
  let c0_i32_1 : BitVec 32 := 0#32
  let v5 : BitVec 1 := Scalar.cmpi .slt arg1 c0_i32_1
  let v6 : BitVec 32 := Scalar.extui v5
  let v7 : BitVec 32 := Scalar.subi v4 v6
  let c0_i32_2 : BitVec 32 := 0#32
  let v8 : BitVec 1 := Scalar.cmpi .sgt c1_i32_0 c0_i32_2
  let v9 : BitVec 32 := Scalar.extui v8
  let c0_i32_3 : BitVec 32 := 0#32
  let v10 : BitVec 1 := Scalar.cmpi .slt c1_i32_0 c0_i32_3
  let v11 : BitVec 32 := Scalar.extui v10
  let v12 : BitVec 32 := Scalar.subi v9 v11
  let v13 : BitVec 1 := Scalar.cmpi .ne v7 v12
  let v14 : BitVec 32 := Scalar.remsi arg1 c1_i32_0
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let v19 : BitVec 1 := Scalar.cmpi .eq v18 v1
  let c1_i32_6 : BitVec 32 := 1#32
  let v20 : BitVec 32 := Scalar.divsi arg1 c1_i32_6
  let c0_i32_7 : BitVec 32 := 0#32
  let v21 : BitVec 1 := Scalar.cmpi .sgt arg1 c0_i32_7
  let v22 : BitVec 32 := Scalar.extui v21
  let c0_i32_8 : BitVec 32 := 0#32
  let v23 : BitVec 1 := Scalar.cmpi .slt arg1 c0_i32_8
  let v24 : BitVec 32 := Scalar.extui v23
  let v25 : BitVec 32 := Scalar.subi v22 v24
  let c0_i32_9 : BitVec 32 := 0#32
  let v26 : BitVec 1 := Scalar.cmpi .sgt c1_i32_6 c0_i32_9
  let v27 : BitVec 32 := Scalar.extui v26
  let c0_i32_10 : BitVec 32 := 0#32
  let v28 : BitVec 1 := Scalar.cmpi .slt c1_i32_6 c0_i32_10
  let v29 : BitVec 32 := Scalar.extui v28
  let v30 : BitVec 32 := Scalar.subi v27 v29
  let v31 : BitVec 1 := Scalar.cmpi .ne v25 v30
  let v32 : BitVec 32 := Scalar.remsi arg1 c1_i32_6
  let c0_i32_11 : BitVec 32 := 0#32
  let v33 : BitVec 1 := Scalar.cmpi .ne v32 c0_i32_11
  let v34 : BitVec 1 := Scalar.andi v31 v33
  let c1_i32_12 : BitVec 32 := 1#32
  let v35 : BitVec 32 := Scalar.subi v20 c1_i32_12
  let v36 : BitVec 32 := Scalar.select v34 v35 v20
  let v37 : BitVec 1 := Scalar.cmpi .slt v36 v1
  let c0_i32_13 : BitVec 32 := 0#32
  let c0_i32_14 : BitVec 32 := 0#32
  ![arg0.toNat, c0_i32_13.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== UDownRefIdeal.lean ====
abbrev S4x2048x2048 : Shape := ⟨3, ![4, 2048, 2048]⟩
abbrev S2048x1024 : Shape := ⟨2, ![2048, 1024]⟩
abbrev S2048x2048 : Shape := ⟨2, ![2048, 2048]⟩
abbrev S1x2048x2048 : Shape := ⟨3, ![1, 2048, 2048]⟩
abbrev S_ : Shape := ⟨0, ![]⟩
abbrev S3x2048x2048 : Shape := ⟨3, ![3, 2048, 2048]⟩

abbrev nBuf : Space → Nat
  | .hbm => 61
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S4x2048x2048, .f32⟩
  | .hbm, ⟨2, _⟩ => ⟨S4x2048x2048, .f32⟩
  | .hbm, ⟨3, _⟩ => ⟨S2048x1024, .f32⟩
  | .hbm, ⟨4, _⟩ => ⟨S2048x1024, .f32⟩
  | .hbm, ⟨5, _⟩ => ⟨S4x2048x2048, .f32⟩
  | .hbm, ⟨6, _⟩ => ⟨S4x2048x2048, .f32⟩
  | .hbm, ⟨7, _⟩ => ⟨S4x2048x2048, .f32⟩
  | .hbm, ⟨8, _⟩ => ⟨S4x2048x2048, .f32⟩
  | .hbm, ⟨9, _⟩ => ⟨S2048x2048, .f32⟩
  | .hbm, ⟨10, _⟩ => ⟨S1x2048x2048, .f32⟩
  | .hbm, ⟨11, _⟩ => ⟨S2048x2048, .f32⟩
  | .hbm, ⟨12, _⟩ => ⟨S1x2048x2048, .f32⟩
  | .hbm, ⟨13, _⟩ => ⟨S2048x2048, .f32⟩
  | .hbm, ⟨14, _⟩ => ⟨S1x2048x2048, .f32⟩
  | .hbm, ⟨15, _⟩ => ⟨S2048x2048, .f32⟩
  | .hbm, ⟨16, _⟩ => ⟨S_, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S_, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S_, .f32⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S_, .f32⟩
  | .hbm, ⟨32, _⟩ => ⟨S2048x2048, .f32⟩
  | .hbm, ⟨33, _⟩ => ⟨S2048x2048, .f32⟩
  | .hbm, ⟨34, _⟩ => ⟨S_, .f32⟩
  | .hbm, ⟨35, _⟩ => ⟨S2048x2048, .f32⟩
  | .hbm, ⟨36, _⟩ => ⟨S2048x2048, .f32⟩
  | .hbm, ⟨37, _⟩ => ⟨S2048x2048, .f32⟩
  | .hbm, ⟨38, _⟩ => ⟨S_, .f32⟩
  | .hbm, ⟨39, _⟩ => ⟨S2048x2048, .f32⟩
  | .hbm, ⟨40, _⟩ => ⟨S2048x2048, .f32⟩
  | .hbm, ⟨41, _⟩ => ⟨S2048x2048, .f32⟩
  | .hbm, ⟨42, _⟩ => ⟨S_, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S_, .f32⟩
  | .hbm, ⟨47, _⟩ => ⟨S2048x2048, .f32⟩
  | .hbm, ⟨48, _⟩ => ⟨S2048x2048, .f32⟩
  | .hbm, ⟨49, _⟩ => ⟨S1x2048x2048, .f32⟩
  | .hbm, ⟨50, _⟩ => ⟨S3x2048x2048, .f32⟩
  | .hbm, ⟨51, _⟩ => ⟨S4x2048x2048, .f32⟩
  | .hbm, ⟨52, _⟩ => ⟨S1x2048x2048, .f32⟩
  | .hbm, ⟨53, _⟩ => ⟨S3x2048x2048, .f32⟩
  | .hbm, ⟨54, _⟩ => ⟨S4x2048x2048, .f32⟩
  | .hbm, ⟨55, _⟩ => ⟨S1x2048x2048, .f32⟩
  | .hbm, ⟨56, _⟩ => ⟨S3x2048x2048, .f32⟩
  | .hbm, ⟨57, _⟩ => ⟨S4x2048x2048, .f32⟩
  | .hbm, ⟨58, _⟩ => ⟨S1x2048x2048, .f32⟩
  | .hbm, ⟨59, _⟩ => ⟨S3x2048x2048, .f32⟩
  | .hbm, ⟨60, _⟩ => ⟨S4x2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩

abbrev nD : Nat := 1
abbrev τ : Topo := Topo.v7x

variable {F : FTy → Type} [FloatOps F]
-- ==== Proof.ConvMath.lean ====
/- The gated short convolution's gradient as plain functions of the three argument arrays, index by index. -/
module

public import Idealize.ShloMosaic.Lib.Pipeline.ValueKit
public import Idealize.ShloMosaic.Lib.Pointwise

@[expose] public section

set_option maxRecDepth 16384

noncomputable section

namespace Cert.ConvMath

open Idealize.ShloMosaic Idealize.SL.Sem

/-- A column moved one row down: row `r` holds what stood at row `r - 1`, the first row zero. -/
def dn (u : Fin 4096 → EReal) (r : Fin 4096) : EReal :=
  if h : r.val = 0 then 0 else u ⟨r.val - 1, by omega⟩

/-- A column moved one row up: row `r` holds what stood at row `r + 1`, the last row zero. -/
def up (u : Fin 4096 → EReal) (r : Fin 4096) : EReal :=
  if h : r.val = 4095 then 0 else u ⟨r.val + 1, by omega⟩

/-- The three-tap convolution of one column: `w0` times the row before, `w1` times the row itself, `w2` times the row after. -/
def conv (w0 w1 w2 : EReal) (u : Fin 4096 → EReal) (r : Fin 4096) : EReal :=
  w0 * dn u r + w1 * u r + w2 * up u r

/-- The gradient of the convolution with respect to its column: the taps in the opposite order. -/
def dconv (w0 w1 w2 : EReal) (d : Fin 4096 → EReal) (r : Fin 4096) : EReal :=
  w0 * up d r + w1 * d r + w2 * dn d r

variable (z : FVec Ideal ⟨2, ![4096, 13312]⟩ .bf16) (w : FVec Ideal ⟨2, ![3, 2048]⟩ .f32) (da : FVec Ideal ⟨2, ![4096, 2048]⟩ .bf16)

/-- Column `l` of the first gate `cb`. -/
def zb (l : Fin 2048) (r : Fin 4096) : EReal := z (ix2 r ⟨l.val, by omega⟩)
/-- Column `l` of the second gate `cc`. -/
def zc (l : Fin 2048) (r : Fin 4096) : EReal := z (ix2 r ⟨2048 + l.val, by omega⟩)
/-- Column `l` of the convolved input `ci`. -/
def zi (l : Fin 2048) (r : Fin 4096) : EReal := z (ix2 r ⟨4096 + l.val, by omega⟩)
/-- Column `l` of the gated input `cc * ci`. -/
def gated (l : Fin 2048) (r : Fin 4096) : EReal := zc z l r * zi z l r
/-- Column `l` of the gradient that reaches the convolution's output, `cb * da`. -/
def dcn (l : Fin 2048) (r : Fin 4096) : EReal := zb z l r * da (ix2 r l)

/-- The gradient of the first gate. -/
def Gdcb : FVec Ideal ⟨2, ![4096, 2048]⟩ .bf16 := fun j =>
  da (ix2 (j 0) (j 1)) * conv (w (ix2 0 (j 1))) (w (ix2 1 (j 1))) (w (ix2 2 (j 1))) (gated z (j 1)) (j 0)
/-- The gradient of the second gate. -/
def Gdcc : FVec Ideal ⟨2, ![4096, 2048]⟩ .bf16 := fun j =>
  dconv (w (ix2 0 (j 1))) (w (ix2 1 (j 1))) (w (ix2 2 (j 1))) (dcn z da (j 1)) (j 0) * zi z (j 1) (j 0)
/-- The gradient of the convolved input. -/
def Gdci : FVec Ideal ⟨2, ![4096, 2048]⟩ .bf16 := fun j =>
  dconv (w (ix2 0 (j 1))) (w (ix2 1 (j 1))) (w (ix2 2 (j 1))) (dcn z da (j 1)) (j 0) * zc z (j 1) (j 0)
/-- The gradient of one tap: the sum over the rows of `dcn` against the gated column moved by `s`. -/
def tap (s : (Fin 4096 → EReal) → Fin 4096 → EReal) (d u : Fin 4096 → EReal) : EReal := ∑ r, d r * s u r
/-- The gradient of the three taps. -/
def Gdw : FVec Ideal ⟨2, ![3, 2048]⟩ .f32 := fun j =>
  if (j 0).val = 0 then tap dn (dcn z da (j 1)) (gated z (j 1))
  else if (j 0).val = 1 then tap id (dcn z da (j 1)) (gated z (j 1))
  else tap up (dcn z da (j 1)) (gated z (j 1))

end Cert.ConvMath

end
-- ==== Proof.ConvKernel.lean ====
/- The gated short convolution's backward kernel: each of its four result arrays as a function of the arguments. -/
module

public import proofs.«01_k».proof.Proof.ConvMath
public import proofs.«01_k».proof.Proof.Gen.ConvIdeal.Value

@[expose] public section

set_option maxRecDepth 16384

noncomputable section

namespace Cert.ConvIdeal.Hand

open Cert.ConvIdeal Cert.ConvIdeal.Gen Cert.ConvMath Idealize.ShloMosaic Idealize.ShloMosaic.TcCoe Idealize.SL.Sem

/-- A choice by equality of two small row numbers is the choice by equality of the numbers themselves. -/
theorem select_row (n k : ℕ) (hn : n < 4096) (hk : k < 4096) (a b : EReal) :
    Scalar.select (IntOp.cmpi CmpIPredicate.eq (BitVec.ofNat 32 n) (BitVec.ofNat 32 k)) a b = if n = k then a else b := by
  have e : (BitVec.ofNat 32 n = BitVec.ofNat 32 k) ↔ n = k := by
    constructor
    · intro h
      have := congrArg BitVec.toNat h
      simpa [BitVec.toNat_ofNat, Nat.mod_eq_of_lt (show n < 4294967296 by omega), Nat.mod_eq_of_lt (show k < 4294967296 by omega)] using this
    · intro h; rw [h]
  by_cases h : n = k
  · subst h; simp [Scalar.select, IntOp.cmpi]
  · have h' : (BitVec.ofNat 32 n == BitVec.ofNat 32 k) = false := beq_eq_false_iff_ne.mpr fun q => h (e.mp q)
    simp [Scalar.select, IntOp.cmpi, h, h']

/-- The kernel's column moved down. -/
theorem pay5_at (a b : Vec Ideal S4096x128 .bf16) (r : Fin 4096) (l : Fin 128) :
    k0_pay5 a b (ix2 r l) = dn (fun r => a (ix2 r l) * b (ix2 r l)) r := by
  pointwise [k0_pay5, k0_pay4, k0_pay1, k0_pay2]
  refine (select_row r.val 0 r.isLt (by omega) _ _).trans ?_
  unfold dn
  split_ifs with h
  · rfl
  · have e : (⟨(r.val + 4096 - 1) % 4096, Nat.mod_lt _ (by omega)⟩ : Fin 4096) = ⟨r.val - 1, by omega⟩ := Fin.ext (by simp; omega)
    rw [e]

set_option maxRecDepth 200000 in
/-- The kernel's column moved up. -/
theorem pay6_at (a b : Vec Ideal S4096x128 .bf16) (r : Fin 4096) (l : Fin 128) :
    k0_pay6 a b (ix2 r l) = up (fun r => a (ix2 r l) * b (ix2 r l)) r := by
  pointwise [k0_pay6, k0_pay4, k0_pay1, k0_pay2]
  refine (select_row r.val 4095 r.isLt (by omega) _ _).trans ?_
  unfold up
  split_ifs with h
  · rfl
  · have e : (⟨(r.val + 4096 - 4095) % 4096, Nat.mod_lt _ (by omega)⟩ : Fin 4096) = ⟨r.val + 1, by omega⟩ := Fin.ext (by simp; omega)
    rw [e]

/-- What the kernel stores as the gradient of the first gate. -/
theorem pay7_at (a b d : Vec Ideal S4096x128 .bf16) (w : Vec Ideal S3x128 .f32) (r : Fin 4096) (l : Fin 128) :
    k0_pay7 a b d w (ix2 r l) = d (ix2 r l) * conv (w (ix2 0 l)) (w (ix2 1 l)) (w (ix2 2 l)) (fun r => a (ix2 r l) * b (ix2 r l)) r := by
  pointwise [k0_pay7, k0_pay4, k0_pay1, k0_pay2, k0_pay3, pay5_at, pay6_at]
  rfl

/-- The gradient that reaches the convolution's output. -/
theorem pay8_at (a d : Vec Ideal S4096x128 .bf16) (r : Fin 4096) (l : Fin 128) :
    k0_pay8 a d (ix2 r l) = a (ix2 r l) * d (ix2 r l) := by
  pointwise [k0_pay8, k0_pay3]
  exact mul_comm _ _

set_option maxRecDepth 200000 in
/-- The kernel's gradient of the convolved column. -/
theorem pay13_at (w : Vec Ideal S3x128 .f32) (d : FVec Ideal S4096x128 .f32) (r : Fin 4096) (l : Fin 128) :
    k0_pay13 w d (ix2 r l) = dconv (w (ix2 0 l)) (w (ix2 1 l)) (w (ix2 2 l)) (fun r => d (ix2 r l)) r := by
  pointwise [k0_pay13]
  refine congrArg₂ (· + ·) (congrArg (· + _) ?_) ?_
  · refine (select_row r.val 4095 r.isLt (by omega) _ _).trans ?_
    unfold up
    split_ifs with h
    · exact (mul_zero _).symm
    · have e : (⟨(r.val + 4096 - 4095) % 4096, Nat.mod_lt _ (by omega)⟩ : Fin 4096) = ⟨r.val + 1, by omega⟩ := Fin.ext (by simp; omega)
      rw [e]
  · refine (select_row r.val 0 r.isLt (by omega) _ _).trans ?_
    unfold dn
    split_ifs with h
    · exact (mul_zero _).symm
    · have e : (⟨(r.val + 4096 - 1) % 4096, Nat.mod_lt _ (by omega)⟩ : Fin 4096) = ⟨r.val - 1, by omega⟩ := Fin.ext (by simp; omega)
      rw [e]

section Columns
variable (x0 x1 x2 d : Vec Ideal S4096x128 .bf16) (w : Vec Ideal S3x128 .f32) (l : Fin 128)
  (z : FVec Ideal ⟨2, ![4096, 13312]⟩ .bf16) (wA : FVec Ideal ⟨2, ![3, 2048]⟩ .f32) (da : FVec Ideal ⟨2, ![4096, 2048]⟩ .bf16) (J : Fin 2048)
  (h0 : ∀ r, x0 (ix2 r l) = zb z J r) (h1 : ∀ r, x1 (ix2 r l) = zc z J r) (h2 : ∀ r, x2 (ix2 r l) = zi z J r)
  (hd : ∀ r, d (ix2 r l) = da (ix2 r J)) (hw : ∀ k, w (ix2 k l) = wA (ix2 k J)) (r : Fin 4096)

include h1 h2 hd hw in
/-- The first output at one column is the gradient of the gate, when the loaded blocks hold that column. -/
theorem col5 : k0_pay7 x1 x2 d w (ix2 r l) = Gdcb z wA da (ix2 r J) := by
  rw [pay7_at]
  simp only [h1, h2, hd, hw]
  rfl

include h0 h2 hd hw in
/-- The second output at one column is the gradient of the gating factor of the input. -/
theorem col6 : k0_pay14 (k0_pay2 x2) w (k0_pay16 x0 x1 x2 w d) (ix2 r l) = Gdcc z wA da (ix2 r J) := by
  pointwise [k0_pay14, k0_pay2, k0_pay16, k0_pay8, k0_pay3, pay13_at, pay8_at]
  simp only [h0, h2, hd, hw, mul_comm (da _)]
  rfl

include h0 h1 hd hw in
/-- The third output at one column is the gradient of the input. -/
theorem col7 : k0_pay15 (k0_pay1 x1) w (k0_pay16 x0 x1 x2 w d) (ix2 r l) = Gdci z wA da (ix2 r J) := by
  pointwise [k0_pay15, k0_pay1, k0_pay16, k0_pay8, k0_pay3, pay13_at, pay8_at]
  simp only [h0, h1, hd, hw, mul_comm (da _)]
  rfl

include h0 h1 h2 hd in
/-- The first row of the kernel gradient at one column. -/
theorem row0 : k0_pay10 (k0_pay9 x0 x1 x2 d) (ix2 0 l) = Gdw z da (ix2 0 J) := by
  pointwise [k0_pay10, k0_pay9, pay8_at, pay5_at]
  simp only [h0, h1, h2, hd]
  rfl
include h0 h1 h2 hd in
/-- The second row of the kernel gradient at one column. -/
theorem row1 : k0_pay11 (k0_pay4 x1 x2) (k0_pay16 x0 x1 x2 w d) (ix2 0 l) = Gdw z da (ix2 1 J) := by
  pointwise [k0_pay11, k0_pay4, k0_pay1, k0_pay2, k0_pay16, pay8_at]
  simp only [h0, h1, h2, hd]
  rfl
include h0 h1 h2 hd in
/-- The third row of the kernel gradient at one column. -/
theorem row2 : k0_pay12 (k0_pay6 x1 x2) (k0_pay16 x0 x1 x2 w d) (ix2 0 l) = Gdw z da (ix2 2 J) := by
  pointwise [k0_pay12, pay6_at, k0_pay16, pay8_at]
  simp only [h0, h1, h2, hd]
  rfl
end Columns

variable (m : (ℓ : Loc nD τ sig) → Buf (Elt Ideal) ℓ)

/-- Which block of its array each window holds at grid point `t`. -/
theorem idx_val : ∀ t : Fin cfg0.N, win0_0.index t = ![0, t.val] ∧ win0_1.index t = ![0, 16 + t.val] ∧ win0_2.index t = ![0, 32 + t.val] ∧ win0_3.index t = ![0, t.val] ∧ win0_4.index t = ![0, t.val]
    ∧ win0_5.index t = ![0, t.val] ∧ win0_6.index t = ![0, t.val] ∧ win0_7.index t = ![0, t.val] ∧ win0_8.index t = ![0, t.val] :=
  (by decide +kernel : ∀ t : Fin grid0.N, _)

section Blocks
variable (c : Dev nD) (t : Fin cfg0.N) (l : Fin 128) (J : Fin 2048) (hJ : J.val = t.val * 128 + l.val)
include hJ

/-- The first block holds the gate columns of the joint projection. -/
theorem blk0 (r : Fin 4096) : iblk m c 0 t (ix2 r l) = zb (m ((c : Thread nD τ).loc main_arg0)) J r := by
  unfold zb; blk_point [iblk, V, idx_val t]
/-- The second block holds the columns of the gating factor. -/
theorem blk1 (r : Fin 4096) : iblk m c 1 t (ix2 r l) = zc (m ((c : Thread nD τ).loc main_arg0)) J r := by
  unfold zc; blk_point [iblk, V, idx_val t]
/-- The third block holds the columns of the input. -/
theorem blk2 (r : Fin 4096) : iblk m c 2 t (ix2 r l) = zi (m ((c : Thread nD τ).loc main_arg0)) J r := by
  unfold zi; blk_point [iblk, V, idx_val t]
/-- The fourth block holds the columns of the convolution kernel. -/
theorem blk3 (k : Fin 3) : iblk m c 3 t (ix2 k l) = m ((c : Thread nD τ).loc main_arg1) (ix2 k J) := by
  blk_point [iblk, V, idx_val t]
/-- The fifth block holds the columns of the incoming gradient. -/
theorem blk4 (r : Fin 4096) : iblk m c 4 t (ix2 r l) = m ((c : Thread nD τ).loc main_arg2) (ix2 r J) := by
  blk_point [iblk, V, idx_val t]
end Blocks

/-- A lane of a block is a column of the array. -/
theorem col_lt (t : Fin cfg0.N) (l : Fin 128) : t.val * 128 + l.val < 2048 := by
  have := lt_of_lt_of_eq t.isLt N_0; omega

/-- An index of a one-row array has row zero. -/
theorem row_idx (x : S1x128.Idx) : x = ix2 (n0 := 1) (n1 := 128) 0 (x 1) := by
  idx_vars x
  exact (ix2_inj _ _ _ _).2 ⟨Subsingleton.elim _ _, rfl⟩

/-- The array of the gate gradient after the last grid point. -/
theorem final5 (c : Dev nD) : (dats m 0 c).arrAt 5 (cfgs 0).N =
    Gdcb (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  frame_out
  refine (congrArg _ (eq_ix2 (n0 := 4096) (n1 := 128) y)).trans ((col5 _ _ _ _ _ _ _ _ ⟨_, col_lt t (y 1)⟩ (fun r => blk1 m c t _ _ rfl r) (fun r => blk2 m c t _ _ rfl r)
    (fun r => blk4 m c t _ _ rfl r) (fun r => blk3 m c t _ _ rfl r) (y 0)).trans (congrArg _ ?_))
  blk_ext [idx_val t]
/-- The array of the gradient of the gating factor after the last grid point. -/
theorem final6 (c : Dev nD) : (dats m 0 c).arrAt 6 (cfgs 0).N =
    Gdcc (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6]
  frame_out
  refine (congrArg _ (eq_ix2 (n0 := 4096) (n1 := 128) y)).trans ((col6 _ _ _ _ _ _ _ _ _ ⟨_, col_lt t (y 1)⟩ (fun r => blk0 m c t _ _ rfl r) (fun r => blk2 m c t _ _ rfl r)
    (fun r => blk4 m c t _ _ rfl r) (fun r => blk3 m c t _ _ rfl r) (y 0)).trans (congrArg _ ?_))
  blk_ext [idx_val t]
/-- The array of the gradient of the input after the last grid point. -/
theorem final7 (c : Dev nD) : (dats m 0 c).arrAt 7 (cfgs 0).N =
    Gdci (m ((c : Thread nD τ).loc main_arg0)) (m ((c : Thread nD τ).loc main_arg1)) (m ((c : Thread nD τ).loc main_arg2)) := by
  refine (dats m 0 c).arrAt_eq_of_covers 7 _ (by decide +kernel) fun t hf y => ?_
  blk_simp
  rw [after0_7]
  frame_out
  refine (congrArg _ (eq_ix2 (n0 := 4096) (n1 := 128) y)).trans ((col7 _ _ _ _ _ _ _ _ _ ⟨_, col_lt t (y 1)⟩ (fun r => blk0 m c t _ _ rfl r) (fun r => blk1 m c t _ _ rfl r)
    (fun r => blk4 m c t _ _ rfl r) (fun r => blk3 m c t _ _ rfl r) (y 0)).trans (congrArg _ ?_))
  blk_ext [idx_val t]
/-- The array of the kernel gradient after the last grid point. -/
theorem final8 (c : Dev nD) : (dats m 0 c).arrAt 8 (cfgs 0).N =
    Gdw (m ((c : Thread nD τ).loc main_arg0)) (m ((c : Thread nD τ).loc main_arg2)) := by
  refine (dats m 0 c).arrAt_eq_of_covers 8 _ (by decide +kernel) fun t hf y => ?_
  blk_simp
  rw [after0_8]
  canon_tiles x h
  · frame_out
    refine (congrArg _ (row_idx x)).trans ((row2 _ _ _ _ _ _ _ _ ⟨_, col_lt t (x 1)⟩ (fun r => blk0 m c t _ _ rfl r) (fun r => blk1 m c t _ _ rfl r)
      (fun r => blk2 m c t _ _ rfl r) (fun r => blk4 m c t _ _ rfl r)).trans (congrArg _ ?_))
    blk_ext [idx_val t]
  · frame_out
    refine (congrArg _ (row_idx x)).trans ((row1 _ _ _ _ _ _ _ _ ⟨_, col_lt t (x 1)⟩ (fun r => blk0 m c t _ _ rfl r) (fun r => blk1 m c t _ _ rfl r)
      (fun r => blk2 m c t _ _ rfl r) (fun r => blk4 m c t _ _ rfl r)).trans (congrArg _ ?_))
    blk_ext [idx_val t]
  · frame_out
    refine (congrArg _ (row_idx x)).trans ((row0 _ _ _ _ _ _ _ ⟨_, col_lt t (x 1)⟩ (fun r => blk0 m c t _ _ rfl r) (fun r => blk1 m c t _ _ rfl r)
      (fun r => blk2 m c t _ _ rfl r) (fun r => blk4 m c t _ _ rfl r)).trans (congrArg _ ?_))
    blk_ext [idx_val t]

end Cert.ConvIdeal.Hand

end
-- ==== Proof.ConvReference.lean ====
/- The reference's gradient of the gated short convolution: each of its four results as a function of the arguments. -/
module

public import proofs.«01_k».proof.Proof.ConvMath
public import proofs.«01_k».proof.Proof.Gen.ConvRefIdeal.Run
public import Idealize.ShloMosaic.Lib.Tactic.CleanTypes

@[expose] public section

set_option maxRecDepth 16384

noncomputable section

namespace Cert.ConvRefIdeal.Hand

open Cert.ConvRefIdeal Cert.ConvRefIdeal.Gen Cert.ConvMath Idealize.ShloMosaic Idealize.ShloMosaic.TcCoe Idealize.SL.Sem

theorem run_math (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v69) = Gdcb (m ((c : Thread nD τ).loc main_arg0)) (m ((c : Thread nD τ).loc main_arg1)) (m ((c : Thread nD τ).loc main_arg2))
      ∧ r.2.mem ((c.tc : Thread nD τ).loc main_v70) = Gdcc (m ((c : Thread nD τ).loc main_arg0)) (m ((c : Thread nD τ).loc main_arg1)) (m ((c : Thread nD τ).loc main_arg2))
      ∧ r.2.mem ((c.tc : Thread nD τ).loc main_v71) = Gdci (m ((c : Thread nD τ).loc main_arg0)) (m ((c : Thread nD τ).loc main_arg1)) (m ((c : Thread nD τ).loc main_arg2))
      ∧ r.2.mem ((c.tc : Thread nD τ).loc main_v63) = Gdw (m ((c : Thread nD τ).loc main_arg0)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run _ _ _).mono (fun r h c => ⟨(h c).1.trans ?_, (h c).2.1.trans ?_, (h c).2.2.1.trans ?_, (h c).2.2.2.1.trans ?_, (h c).2.2.2.2⟩) (Cert.ConvRefIdeal.Value.run m ρ)
  all_goals clear h r
  on_goal 4 => unfold Cert.ConvRefIdeal.Value.res_main_v63
  all_goals generalize m ((c : Thread nD τ).loc main_arg0) = z
  on_goal 1 => generalize m ((c : Thread nD τ).loc main_arg1) = w
  on_goal 2 => generalize m ((c : Thread nD τ).loc main_arg1) = w
  on_goal 3 => generalize m ((c : Thread nD τ).loc main_arg1) = w
  all_goals generalize m ((c : Thread nD τ).loc main_arg2) = da
  all_goals revert z da
  all_goals try revert w
  all_goals clean_types
  · intro (w : FVec Ideal S3x2048 .f32) (z : FVec Ideal S4096x13312 .bf16) (da : FVec Ideal S4096x2048 .bf16)
    refine funext fun j => ?_
    idx_vars j
    pointwise [Gdcb, conv, dn, up, gated, zc, zi]
    refine congrArg (_ * ·) (congrArg₂ (· + ·) (congrArg (· + _) (congrArg (_ * ·) ?_)) (congrArg (_ * ·) ?_))
    · (repeat' split) <;> first | rfl | omega
    · (repeat' split) <;> first | rfl | omega | (refine Ideal.mul_congr ?_ ?_ <;> blk_ext)
  · intro (w : FVec Ideal S3x2048 .f32) (z : FVec Ideal S4096x13312 .bf16) (da : FVec Ideal S4096x2048 .bf16)
    refine funext fun j => ?_
    idx_vars j
    pointwise [Gdcc, dconv, dn, up, dcn, zi, zb]
    refine congrArg (· * _) ?_
    rw [add_assoc, add_comm, add_comm (w _ * (z _ * _))]
    refine congrArg₂ (· + ·) (congrArg (· + _) ?_) ?_
    · split_ifs <;> first | rfl | omega | exact (mul_zero _).symm | (refine Ideal.mul_congr rfl (Ideal.mul_congr ?_ ?_) <;> blk_ext)
    · split_ifs <;> first | rfl | omega | exact (mul_zero _).symm | (refine Ideal.mul_congr rfl (Ideal.mul_congr ?_ ?_) <;> blk_ext)
  · intro (w : FVec Ideal S3x2048 .f32) (z : FVec Ideal S4096x13312 .bf16) (da : FVec Ideal S4096x2048 .bf16)
    refine funext fun j => ?_
    idx_vars j
    pointwise [Gdci, dconv, dn, up, dcn, zc, zb]
    rw [mul_comm]
    refine congrArg (· * _) ?_
    rw [add_assoc, add_comm, add_comm (w _ * (z _ * _))]
    refine congrArg₂ (· + ·) (congrArg (· + _) ?_) ?_
    · split_ifs <;> first | rfl | omega | exact (mul_zero _).symm | (refine Ideal.mul_congr rfl (Ideal.mul_congr ?_ ?_) <;> blk_ext)
    · split_ifs <;> first | rfl | omega | exact (mul_zero _).symm | (refine Ideal.mul_congr rfl (Ideal.mul_congr ?_ ?_) <;> blk_ext)
  · intro (z : FVec Ideal S4096x13312 .bf16) (da : FVec Ideal S4096x2048 .bf16)
    refine funext fun j => ?_
    idx_vars j
    pointwise [Gdw, tap, dcn, gated, dn, up, zb, zi, zc]
    fin_vals j0 with hk
    all_goals simp only [hk]
    all_goals simp
    · refine Finset.sum_congr rfl fun x _ => ?_
      split_ifs <;> first | rfl | omega
    · rfl
    · refine Finset.sum_congr rfl fun x _ => ?_
      (repeat' split) <;> first | rfl | omega | (refine Ideal.mul_congr rfl (Ideal.mul_congr ?_ ?_) <;> blk_ext)
end Cert.ConvRefIdeal.Hand

end
-- ==== Proof.ConvClaim.lean ====
/- The gated short convolution's backward kernel and its reference end with equal results. -/
module

public import proofs.«01_k».proof.Defs
public import proofs.«01_k».proof.Proof.ConvKernel
public import proofs.«01_k».proof.Proof.ConvReference
public import Idealize.ShloMosaic.Lib.Claim

@[expose] public section

set_option maxRecDepth 16384

noncomputable section

namespace Cert.ConvIdeal.Hand

open Cert.ConvMath Idealize.ShloMosaic Idealize.ShloMosaic.TcCoe Idealize.SL.Sem

/-- Kernel and reference, run from memories that agree on the three arguments, end with the same four gradients. -/
theorem algebraic : Cert.algebraic_ConvIdeal_ConvRefIdeal := by
  intro m g m' g' _ hag
  refine ⟨fun c => Gdcb (m ((c : Thread ConvIdeal.nD ConvIdeal.τ).loc ConvIdeal.main_arg0)) (m ((c : Thread ConvIdeal.nD ConvIdeal.τ).loc ConvIdeal.main_arg1)) (m ((c : Thread ConvIdeal.nD ConvIdeal.τ).loc ConvIdeal.main_arg2)),
    fun c => Gdcc (m ((c : Thread ConvIdeal.nD ConvIdeal.τ).loc ConvIdeal.main_arg0)) (m ((c : Thread ConvIdeal.nD ConvIdeal.τ).loc ConvIdeal.main_arg1)) (m ((c : Thread ConvIdeal.nD ConvIdeal.τ).loc ConvIdeal.main_arg2)),
    fun c => Gdci (m ((c : Thread ConvIdeal.nD ConvIdeal.τ).loc ConvIdeal.main_arg0)) (m ((c : Thread ConvIdeal.nD ConvIdeal.τ).loc ConvIdeal.main_arg1)) (m ((c : Thread ConvIdeal.nD ConvIdeal.τ).loc ConvIdeal.main_arg2)),
    fun c => Gdw (m ((c : Thread ConvIdeal.nD ConvIdeal.τ).loc ConvIdeal.main_arg0)) (m ((c : Thread ConvIdeal.nD ConvIdeal.τ).loc ConvIdeal.main_arg2)), ?_, ?_⟩
  · refine (θ_run _ _ _).mono (fun r h c => ?_) (ConvIdeal.Value.run_blocks m g)
    obtain ⟨h0, h1, h2, h3, ha⟩ := h c
    exact ⟨h0.trans (final5 m c), h1.trans (final6 m c), h2.trans (final7 m c), h3.trans (final8 m c), ha⟩
  · refine (θ_run _ _ _).mono (fun r h c => ?_) (ConvRefIdeal.Hand.run_math m' g')
    obtain ⟨e0, e1, e2⟩ := hag c
    obtain ⟨h0, h1, h2, h3, ha⟩ := h c
    refine ⟨?_, ?_, ?_, ?_, ha⟩
    · beta_reduce; rw [← e0, ← e1, ← e2]; exact h0
    · beta_reduce; rw [← e0, ← e1, ← e2]; exact h1
    · beta_reduce; rw [← e0, ← e1, ← e2]; exact h2
    · beta_reduce; rw [← e0, ← e2]; exact h3

/-- The reference of the convolution's gradient runs and leaves its arguments and every counter as they were. -/
theorem ref_frame : Cert.quiescent_ConvRefIdeal := by
  intro m g _
  exact (θ_run _ _ _).mono (fun r h => ⟨fun c => (h c).2.2.2.2, sem_eq_zero_of_no_sems (by decide) r.2⟩) (ConvRefIdeal.Hand.run_math m g)

end Cert.ConvIdeal.Hand

end
-- ==== Proof.AttnMath.lean ====
/- Grouped-query attention over the reals, one row of one head at a time. -/
module

public import Idealize.ShloMosaic.Lib.Pipeline.ValueKit
public import Idealize.ShloMosaic.Lib.Pointwise

@[expose] public section

set_option maxRecDepth 16384

noncomputable section

namespace Cert.AttnMath

open Idealize.ShloMosaic

/-- A sum of reals taken among the extended reals. -/
theorem sum_coe {ι : Type} (s : Finset ι) (f : ι → ℝ) : (∑ i ∈ s, (f i : EReal)) = ((∑ i ∈ s, f i : ℝ) : EReal) := by
  classical
  induction s using Finset.induction_on with
  | empty => simp
  | insert a s h ih => rw [Finset.sum_insert h, Finset.sum_insert h, ih, EReal.coe_add]

/-- The quotient of two reals, the divisor not zero. -/
theorem div_coe (a b : ℝ) (hb : b ≠ 0) : Ideal.div (a : EReal) (b : EReal) = ((a / b : ℝ) : EReal) := by
  have h : (b : EReal) ≠ 0 := by simpa using hb
  rw [Ideal.div, if_neg h, ← EReal.coe_inv, ← EReal.coe_mul, div_eq_mul_inv]

/-- A product of real rows taken among the extended reals. -/
theorem sum_mul_coe {ι : Type} (s : Finset ι) (f g : ι → ℝ) : (∑ i ∈ s, (f i : EReal) * (g i : EReal)) = ((∑ i ∈ s, f i * g i : ℝ) : EReal) := by
  simp only [← EReal.coe_mul, sum_coe]

/-- The greatest of finitely many reals, not none, is a real. -/
theorem max_coe {n : ℕ} (f : Fin (n + 1) → ℝ) :
    ∃ M : ℝ, Finset.fold max (Ideal.ofBits FTy.f32 0xFF800000#32) (fun i => (f i : EReal)) Finset.univ = (M : EReal) := by
  have hb : Ideal.ofBits FTy.f32 0xFF800000#32 = (⊥ : EReal) := by simp [Ideal.ofBits, Ideal.ieee]
  rw [hb]
  obtain ⟨i, _, hi⟩ := Finset.exists_mem_eq_sup (Finset.univ : Finset (Fin (n + 1))) Finset.univ_nonempty fun i => (f i : EReal)
  exact ⟨f i, hi⟩

/-- Powers of two by the exponential. -/
theorem exp2_eq (x : ℝ) : Ideal.exp2 (x : EReal) = ((Real.exp (Real.log 2 * x) : ℝ) : EReal) := by
  rw [Ideal.exp2_coe]
  exact congrArg _ (Real.rpow_def_of_pos (by norm_num) x)

/-! One row `q` of one head, its scores in powers of two, against the keys `k` and the values `v` of its group. -/
section Row
variable (q : Fin 128 → ℝ) (k v : Fin 4096 → Fin 128 → ℝ) (g : Fin 128 → ℝ)

/-- The score of key `s`. -/
def sc (s : Fin 4096) : ℝ := ∑ d, q d * k s d
/-- The weight of key `s` before it is normalised. -/
def ex (s : Fin 4096) : ℝ := Real.exp (Real.log 2 * sc q k s)
/-- The sum of the weights. -/
def zz : ℝ := ∑ s, ex q k s
/-- The normalised weight of key `s`. -/
def pr (s : Fin 4096) : ℝ := ex q k s / zz q k
/-- The row of the attention's output. -/
def ou (d : Fin 128) : ℝ := ∑ s, pr q k s * v s d
/-- The gradient at the weight of key `s`. -/
def dp (s : Fin 4096) : ℝ := ∑ d, g d * v s d
/-- The gradient at the natural score of key `s`. -/
def ds (s : Fin 4096) : ℝ := pr q k s * (dp v g s - ∑ s', pr q k s' * dp v g s')
/-- The gradient at the scaled query. -/
def dq (d : Fin 128) : ℝ := ∑ s, ds q k v g s * k s d

/-- The sum of the weights is positive. -/
theorem zz_pos : 0 < zz q k := Finset.sum_pos (fun s _ => Real.exp_pos _) Finset.univ_nonempty

/-- The logarithm of two is positive. -/
theorem log_two : 0 < Real.log 2 := Real.log_pos (by norm_num)

/-- A weight relative to a stabilising score `M`. -/
theorem exp2_sub (M : ℝ) (s : Fin 4096) :
    Ideal.exp2 ((sc q k s : EReal) - (M : EReal)) = ((ex q k s * Real.exp (-(Real.log 2 * M)) : ℝ) : EReal) := by
  rw [← EReal.coe_sub, exp2_eq, ex, ← Real.exp_add]
  exact congrArg _ (congrArg _ (by ring))

/-- The kernel's output row, whatever the stabilising score. -/
theorem ou_row (M : ℝ) (d : Fin 128) :
    (∑ s, Ideal.exp2 ((sc q k s : EReal) - (M : EReal)) * (v s d : EReal)) * Ideal.div 1 (∑ s, Ideal.exp2 ((sc q k s : EReal) - (M : EReal)))
      = (ou q k v d : EReal) := by
  have hz := zz_pos q k
  have hM : Real.exp (-(Real.log 2 * M)) ≠ 0 := (Real.exp_pos _).ne'
  simp only [exp2_sub, sum_mul_coe, sum_coe, ← Finset.sum_mul]
  have h1 : (1 : EReal) = ((1 : ℝ) : EReal) := rfl
  rw [h1, ← zz, div_coe _ _ (mul_ne_zero hz.ne' hM), ← EReal.coe_mul]
  refine congrArg _ ?_
  rw [ou, Finset.sum_mul]
  refine Finset.sum_congr rfl fun s _ => ?_
  rw [pr]
  field_simp

/-- The kernel's logarithm of the sum of the weights, in powers of two. -/
theorem lse_row (M : ℝ) :
    (M : EReal) + Ideal.log (∑ s, Ideal.exp2 ((sc q k s : EReal) - (M : EReal))) * (((Real.log 2)⁻¹ : ℝ) : EReal)
      = ((Real.log (zz q k) / Real.log 2 : ℝ) : EReal) := by
  have hz := zz_pos q k
  have hM := Real.exp_pos (-(Real.log 2 * M))
  simp only [exp2_sub, sum_coe, ← Finset.sum_mul]
  rw [← zz, Ideal.log_coe, if_neg (not_le.2 (mul_pos hz hM)), ← EReal.coe_mul, ← EReal.coe_add]
  refine congrArg _ ?_
  rw [Real.log_mul hz.ne' hM.ne', Real.log_exp]
  have := log_two.ne'
  field_simp
  ring

/-- The normalised weight from the saved logarithm. -/
theorem pr_row (s : Fin 4096) :
    Ideal.exp2 ((sc q k s : EReal) - ((Real.log (zz q k) / Real.log 2 : ℝ) : EReal)) = (pr q k s : EReal) := by
  have hz := zz_pos q k
  rw [exp2_sub]
  refine congrArg _ ?_
  have e : Real.log 2 * (Real.log (zz q k) / Real.log 2) = Real.log (zz q k) := by
    have := log_two.ne'
    field_simp
  rw [e, Real.exp_neg, Real.exp_log hz, pr, div_eq_mul_inv]

/-- The kernel's gradient at the natural score. -/
theorem ds_row (s : Fin 4096) :
    (pr q k s : EReal) * ((dp v g s : EReal) - ∑ s', (pr q k s' : EReal) * (dp v g s' : EReal)) = (ds q k v g s : EReal) := by
  rw [sum_mul_coe, ← EReal.coe_sub, ← EReal.coe_mul]
  rfl

/-- A natural weight relative to a stabilising score `M`. -/
theorem exp_sub (M : ℝ) (s : Fin 4096) :
    Ideal.exp (((Real.log 2 * sc q k s : ℝ) : EReal) - (M : EReal)) = ((ex q k s * Real.exp (-M) : ℝ) : EReal) := by
  rw [← EReal.coe_sub, Ideal.exp_coe, ex, ← Real.exp_add]
  exact congrArg _ (congrArg _ (by ring))

/-- The softmax of the reference. -/
theorem pr_ref (M : ℝ) (s : Fin 4096) :
    Ideal.div (Ideal.exp (((Real.log 2 * sc q k s : ℝ) : EReal) - (M : EReal))) (∑ s, Ideal.exp (((Real.log 2 * sc q k s : ℝ) : EReal) - (M : EReal)))
      = (pr q k s : EReal) := by
  have hz := zz_pos q k
  have hM : Real.exp (-M) ≠ 0 := (Real.exp_pos _).ne'
  simp only [exp_sub, sum_coe, ← Finset.sum_mul]
  rw [← zz, div_coe _ _ (mul_ne_zero hz.ne' hM)]
  refine congrArg _ ?_
  rw [pr]
  field_simp

/-- The derivative of the softmax as the reference takes it. -/
theorem ds_ref (M : ℝ) (s : Fin 4096) :
    (Ideal.div (dp v g s : EReal) (∑ s, Ideal.exp (((Real.log 2 * sc q k s : ℝ) : EReal) - (M : EReal)))
        + -∑ s', (dp v g s' : EReal) * Ideal.div 1 ((∑ s, Ideal.exp (((Real.log 2 * sc q k s : ℝ) : EReal) - (M : EReal)))
            * ∑ s, Ideal.exp (((Real.log 2 * sc q k s : ℝ) : EReal) - (M : EReal))) * Ideal.exp (((Real.log 2 * sc q k s' : ℝ) : EReal) - (M : EReal)))
      * Ideal.exp (((Real.log 2 * sc q k s : ℝ) : EReal) - (M : EReal)) = (ds q k v g s : EReal) := by
  have hz := zz_pos q k
  have hM : Real.exp (-M) ≠ 0 := (Real.exp_pos _).ne'
  have h1 : (1 : EReal) = ((1 : ℝ) : EReal) := rfl
  simp only [exp_sub, sum_coe, ← Finset.sum_mul]
  rw [← zz, div_coe _ _ (mul_ne_zero hz.ne' hM), ← EReal.coe_mul, h1, div_coe _ _ (mul_ne_zero (mul_ne_zero hz.ne' hM) (mul_ne_zero hz.ne' hM))]
  simp only [← EReal.coe_mul, sum_coe, ← EReal.coe_neg, ← EReal.coe_add]
  refine congrArg _ ?_
  have e : (∑ s', pr q k s' * dp v g s') * (zz q k) = ∑ s', dp v g s' * ex q k s' := by
    rw [Finset.sum_mul]
    refine Finset.sum_congr rfl fun s _ => ?_
    rw [pr]
    field_simp
  have e2 : (∑ s', dp v g s' * (1 / (zz q k * Real.exp (-M) * (zz q k * Real.exp (-M)))) * (ex q k s' * Real.exp (-M)))
      = (∑ s', dp v g s' * ex q k s') * (1 / (zz q k * (zz q k * Real.exp (-M)))) := by
    rw [Finset.sum_mul]
    refine Finset.sum_congr rfl fun s _ => ?_
    field_simp
  rw [e2, ← e, ds, pr]
  field_simp
  ring
end Row

end Cert.AttnMath

end
-- ==== Proof.AttnHeads.lean ====
/- Grouped-query attention over the reals: sixteen heads, four to a group of keys and values. -/
module

public import proofs.«01_k».proof.Proof.AttnMath

@[expose] public section

set_option maxRecDepth 16384

noncomputable section

namespace Cert.AttnMath

open Idealize.ShloMosaic

variable (Q G : Fin 4096 → Fin 2048 → ℝ) (K V : Fin 4096 → Fin 512 → ℝ)

/-- The row of head `h` in an array of all heads. -/
def qr (h : Fin 16) (r : Fin 4096) (d : Fin 128) : ℝ := Q r ⟨h.val * 128 + d.val, by omega⟩
/-- The keys or values of group `j`. -/
def kr (j : Fin 4) (s : Fin 4096) (d : Fin 128) : ℝ := K s ⟨j.val * 128 + d.val, by omega⟩
/-- The head a column belongs to. -/
def hd (J : Fin 2048) : Fin 16 := ⟨J.val / 128, by omega⟩
/-- The group a column belongs to. -/
def gd (J : Fin 2048) : Fin 4 := ⟨J.val / 512, by omega⟩
/-- A column's place within its head. -/
def ln (J : Fin 2048) : Fin 128 := ⟨J.val % 128, by omega⟩
/-- Head `g` of group `j`. -/
def hg (j g : Fin 4) : Fin 16 := ⟨j.val * 4 + g.val, by omega⟩

/-- The attention's output. -/
def outA (r : Fin 4096) (J : Fin 2048) : ℝ := ou (qr Q (hd J) r) (kr K (gd J)) (kr V (gd J)) (ln J)
/-- The logarithm of the sum of the weights, in powers of two. -/
def lseA (j : Fin 4) (r : Fin 4096) (g : Fin 4) : ℝ := Real.log (zz (qr Q (hg j g) r) (kr K j)) / Real.log 2
/-- The gradient at the scaled queries. -/
def dqA (r : Fin 4096) (J : Fin 2048) : ℝ := dq (qr Q (hd J) r) (kr K (gd J)) (kr V (gd J)) (qr G (hd J) r) (ln J)
/-- The gradient at the keys, transposed. -/
def dkA (J : Fin 512) (s : Fin 4096) : ℝ :=
  ∑ g : Fin 4, ∑ r : Fin 4096, qr Q (hg ⟨J.val / 128, by omega⟩ g) r ⟨J.val % 128, by omega⟩
    * ds (qr Q (hg ⟨J.val / 128, by omega⟩ g) r) (kr K ⟨J.val / 128, by omega⟩) (kr V ⟨J.val / 128, by omega⟩) (qr G (hg ⟨J.val / 128, by omega⟩ g) r) s
/-- The gradient at the values, transposed. -/
def dvA (J : Fin 512) (s : Fin 4096) : ℝ :=
  ∑ g : Fin 4, ∑ r : Fin 4096, qr G (hg ⟨J.val / 128, by omega⟩ g) r ⟨J.val % 128, by omega⟩
    * pr (qr Q (hg ⟨J.val / 128, by omega⟩ g) r) (kr K ⟨J.val / 128, by omega⟩) s

/-- A column of head `g` of group `j`, by its number. -/
theorem col_eq {J : Fin 2048} {j g : Fin 4} {d : Fin 128} (h : J.val = j.val * 512 + g.val * 128 + d.val) : hd J = hg j g ∧ gd J = j ∧ ln J = d := by
  refine ⟨Fin.ext ?_, Fin.ext ?_, Fin.ext ?_⟩ <;> simp only [hd, gd, ln, hg] <;> omega

/-- The output at a column of head `g` of group `j`. -/
theorem outA_at {R : Fin 4096} {J : Fin 2048} (j g : Fin 4) (r : Fin 4096) (d : Fin 128) (hR : R.val = r.val) (h : J.val = j.val * 512 + g.val * 128 + d.val) :
    ou (qr Q (hg j g) r) (kr K j) (kr V j) d = outA Q K V R J := by
  obtain ⟨h1, h2, h3⟩ := col_eq h
  rw [outA, h1, h2, h3, Fin.ext hR]

/-- The gradient at the scaled queries at a column of head `g` of group `j`. -/
theorem dqA_at {R : Fin 4096} {J : Fin 2048} (j g : Fin 4) (r : Fin 4096) (d : Fin 128) (hR : R.val = r.val) (h : J.val = j.val * 512 + g.val * 128 + d.val) :
    dq (qr Q (hg j g) r) (kr K j) (kr V j) (qr G (hg j g) r) d = dqA Q G K V R J := by
  obtain ⟨h1, h2, h3⟩ := col_eq h
  rw [dqA, h1, h2, h3, Fin.ext hR]

/-- The saved logarithm of head `g` of group `j`. -/
theorem lseA_at {J : Fin 4} {R : Fin 4096} {H : Fin 4} (j g : Fin 4) (r : Fin 4096) (hJ : J.val = j.val) (hR : R.val = r.val) (hH : H.val = g.val) :
    Real.log (zz (qr Q (hg j g) r) (kr K j)) / Real.log 2 = lseA Q K J R H := by
  rw [lseA, Fin.ext hJ, Fin.ext hR, Fin.ext hH]

/-- Sixteen tiles of 256 rows are the 4096 rows. -/
theorem tiles (F : Fin 4 → Fin 4096 → ℝ) :
    ∑ i : Fin 16, ∑ g : Fin 4, ∑ r : Fin 256, F g ⟨i.val * 256 + r.val, by omega⟩ = ∑ g : Fin 4, ∑ r : Fin 4096, F g r := by
  rw [Finset.sum_comm]
  refine Finset.sum_congr rfl fun g _ => ?_
  exact Fin.sum_mul_add_congr fun s k hl => rfl

/-- What tile `i` of the rows adds to the gradient of the keys of group `j`. -/
def tileK (j : Fin 4) (i : Fin 16) (d : Fin 128) (s : Fin 4096) : ℝ :=
  ∑ g : Fin 4, ∑ r : Fin 256, qr Q (hg j g) ⟨i.val * 256 + r.val, by omega⟩ d
    * ds (qr Q (hg j g) ⟨i.val * 256 + r.val, by omega⟩) (kr K j) (kr V j) (qr G (hg j g) ⟨i.val * 256 + r.val, by omega⟩) s
/-- What tile `i` of the rows adds to the gradient of the values of group `j`. -/
def tileV (j : Fin 4) (i : Fin 16) (d : Fin 128) (s : Fin 4096) : ℝ :=
  ∑ g : Fin 4, ∑ r : Fin 256, qr G (hg j g) ⟨i.val * 256 + r.val, by omega⟩ d
    * pr (qr Q (hg j g) ⟨i.val * 256 + r.val, by omega⟩) (kr K j) s

/-- A column of group `j`, by its number. -/
theorem kcol_eq {J : Fin 512} {j : Fin 4} {d : Fin 128} (h : J.val = j.val * 128 + d.val) :
    (⟨J.val / 128, by omega⟩ : Fin 4) = j ∧ (⟨J.val % 128, by omega⟩ : Fin 128) = d :=
  ⟨Fin.ext (by show J.val / 128 = j.val; omega), Fin.ext (by show J.val % 128 = d.val; omega)⟩

/-- The gradient at the keys is the sum of what the tiles add. -/
theorem dkA_at {J : Fin 512} {S : Fin 4096} (j : Fin 4) (d : Fin 128) (s : Fin 4096) (h : J.val = j.val * 128 + d.val) (hS : S.val = s.val) :
    ∑ i : Fin 16, tileK Q G K V j i d s = dkA Q G K V J S := by
  obtain ⟨h1, h2⟩ := kcol_eq h
  rw [dkA, h1, h2, Fin.ext hS]
  exact tiles fun g r => qr Q (hg j g) r d * ds (qr Q (hg j g) r) (kr K j) (kr V j) (qr G (hg j g) r) s

/-- The gradient at the values is the sum of what the tiles add. -/
theorem dvA_at {J : Fin 512} {S : Fin 4096} (j : Fin 4) (d : Fin 128) (s : Fin 4096) (h : J.val = j.val * 128 + d.val) (hS : S.val = s.val) :
    ∑ i : Fin 16, tileV Q G K j i d s = dvA Q G K J S := by
  obtain ⟨h1, h2⟩ := kcol_eq h
  rw [dvA, h1, h2, Fin.ext hS]
  exact tiles fun g r => qr G (hg j g) r d * pr (qr Q (hg j g) r) (kr K j) s

end Cert.AttnMath

end
-- ==== Proof.AttnRows.lean ====
/- The attention kernels' stored values, row by row, as real numbers. -/
module

public import proofs.«01_k».proof.Proof.AttnMath
public import proofs.«01_k».proof.Proof.Gen.AttnIdeal.Skeleton

@[expose] public section

set_option maxRecDepth 16384

noncomputable section

namespace Cert.AttnIdeal.Hand

open Cert.AttnIdeal Cert.AttnIdeal.Gen Cert.AttnMath Idealize.ShloMosaic Idealize.ShloMosaic.TcCoe Idealize.SL.Sem

/-- The power of two of the kernel's arithmetic. -/
theorem exp2_fl (x : EReal) : FloatOps.exp2 (F := Ideal) (φ := FTy.f32) x = Ideal.exp2 x := rfl

/-- The named constant is the reciprocal of the natural logarithm of two. -/
theorem log2e_eq : Named.named (F := Ideal) κ "log2e" (φ := FTy.f32) 0x3FB8AA3B#32 = (((Real.log 2)⁻¹ : ℝ) : EReal) := rfl

/-- The last step of the saved logarithm: the stabilising score plus the logarithm in powers of two. -/
theorem pay1_at (a b : FVec Ideal S256x1 .f32) (x : Ideal .f32) (r : Fin 256) : k0_pay1 a b x (ix3 0 r 0) = a (ix2 r 0) + b (ix2 r 0) * x := by
  pointwise [k0_pay1]

variable (k v : Vec Ideal S4096x128 .bf16) (q g : Vec Ideal S256x128 .bf16) (l : Vec Ideal S1x256x1 .f32) (acc : Vec Ideal S128x4096 .f32)
  (kR vR : Fin 4096 → Fin 128 → ℝ) (qR gR : Fin 256 → Fin 128 → ℝ)
  (hk : ∀ s d, k (ix2 s d) = (kR s d : EReal)) (hv : ∀ s d, v (ix2 s d) = (vR s d : EReal))
  (hq : ∀ r d, q (ix2 r d) = (qR r d : EReal)) (hg : ∀ r d, g (ix2 r d) = (gR r d : EReal))
  (hl : ∀ r, l (ix3 0 r 0) = ((Real.log (zz (qR r) kR) / Real.log 2 : ℝ) : EReal))

section Forward
include hk hq

include hv in
/-- The output of head 0 of the group at one query. -/
theorem o0_at (r : Fin 256) (d : Fin 128) : k0_pay14 k v q (ix2 r d) = (ou (qR r) kR vR d : EReal) := by
  have hsc : ∀ r s, ∑ i, qR r i * kR s i = sc (qR r) kR s := fun _ _ => rfl
  obtain ⟨M, hM⟩ := max_coe fun s => sc (qR r) kR s
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28]
  simp only [hk, hq, hv, exp2_fl, sum_mul_coe, hsc]
  rw [hM]
  exact ou_row (qR r) kR vR M d

/-- The saved logarithm of head 0 of the group at one query. -/
theorem l0_at (r : Fin 256) : k0_pay15 k q (ix3 0 r 0) = ((Real.log (zz (qR r) kR) / Real.log 2 : ℝ) : EReal) := by
  have hsc : ∀ r s, ∑ i, qR r i * kR s i = sc (qR r) kR s := fun _ _ => rfl
  obtain ⟨M, hM⟩ := max_coe fun s => sc (qR r) kR s
  have e : k0_pay15 k q = k0_pay1 (k0_pay11 k q) (log (k0_pay13 k q)) (Named.named κ "log2e" 0x3FB8AA3B#32) := rfl
  rw [e, pay1_at, log2e_eq]
  pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28]
  simp only [hk, hq, exp2_fl, sum_mul_coe, hsc]
  rw [hM]
  exact lse_row (qR r) kR M

include hv in
/-- The output of head 1 of the group at one query. -/
theorem o1_at (r : Fin 256) (d : Fin 128) : k0_pay21 (k0_pay9 v) (k0_pay16 k q) (k0_pay18 k q) (ix2 r d) = (ou (qR r) kR vR d : EReal) := by
  have hsc : ∀ r s, ∑ i, qR r i * kR s i = sc (qR r) kR s := fun _ _ => rfl
  obtain ⟨M, hM⟩ := max_coe fun s => sc (qR r) kR s
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28]
  simp only [hk, hq, hv, exp2_fl, sum_mul_coe, hsc]
  rw [hM]
  exact ou_row (qR r) kR vR M d

/-- The saved logarithm of head 1 of the group at one query. -/
theorem l1_at (r : Fin 256) : k0_pay22 (k0_pay16 k q) (k0_pay17 k q) (k0_pay18 k q) (ix3 0 r 0) = ((Real.log (zz (qR r) kR) / Real.log 2 : ℝ) : EReal) := by
  have hsc : ∀ r s, ∑ i, qR r i * kR s i = sc (qR r) kR s := fun _ _ => rfl
  obtain ⟨M, hM⟩ := max_coe fun s => sc (qR r) kR s
  have e : k0_pay22 (k0_pay16 k q) (k0_pay17 k q) (k0_pay18 k q) = k0_pay1 (k0_pay17 k q) (log (k0_pay20 (k0_pay16 k q) (k0_pay18 k q))) (Named.named κ "log2e" 0x3FB8AA3B#32) := rfl
  rw [e, pay1_at, log2e_eq]
  pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28]
  simp only [hk, hq, exp2_fl, sum_mul_coe, hsc]
  rw [hM]
  exact lse_row (qR r) kR M

include hv in
/-- The output of head 2 of the group at one query. -/
theorem o2_at (r : Fin 256) (d : Fin 128) : k0_pay27 (k0_pay8 k) (k0_pay9 v) q (ix2 r d) = (ou (qR r) kR vR d : EReal) := by
  have hsc : ∀ r s, ∑ i, qR r i * kR s i = sc (qR r) kR s := fun _ _ => rfl
  obtain ⟨M, hM⟩ := max_coe fun s => sc (qR r) kR s
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28]
  simp only [hk, hq, hv, exp2_fl, sum_mul_coe, hsc]
  rw [hM]
  exact ou_row (qR r) kR vR M d

/-- The saved logarithm of head 2 of the group at one query. -/
theorem l2_at (r : Fin 256) : k0_pay1 (k0_pay24 (k0_pay8 k) q) (k0_pay28 (k0_pay8 k) q) (Named.named κ "log2e" 0x3FB8AA3B#32) (ix3 0 r 0) = ((Real.log (zz (qR r) kR) / Real.log 2 : ℝ) : EReal) := by
  have hsc : ∀ r s, ∑ i, qR r i * kR s i = sc (qR r) kR s := fun _ _ => rfl
  obtain ⟨M, hM⟩ := max_coe fun s => sc (qR r) kR s
  rw [pay1_at, log2e_eq]
  pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28]
  simp only [hk, hq, exp2_fl, sum_mul_coe, hsc]
  rw [hM]
  exact lse_row (qR r) kR M

include hv in
/-- The output of head 3 of the group at one query. -/
theorem o3_at (r : Fin 256) (d : Fin 128) : k0_pay6 (k0_pay8 k) (k0_pay9 v) q (ix2 r d) = (ou (qR r) kR vR d : EReal) := by
  have hsc : ∀ r s, ∑ i, qR r i * kR s i = sc (qR r) kR s := fun _ _ => rfl
  obtain ⟨M, hM⟩ := max_coe fun s => sc (qR r) kR s
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28]
  simp only [hk, hq, hv, exp2_fl, sum_mul_coe, hsc]
  rw [hM]
  exact ou_row (qR r) kR vR M d

/-- The saved logarithm of head 3 of the group at one query. -/
theorem l3_at (r : Fin 256) : k0_pay7 (k0_pay8 k) q (ix3 0 r 0) = ((Real.log (zz (qR r) kR) / Real.log 2 : ℝ) : EReal) := by
  have hsc : ∀ r s, ∑ i, qR r i * kR s i = sc (qR r) kR s := fun _ _ => rfl
  obtain ⟨M, hM⟩ := max_coe fun s => sc (qR r) kR s
  have e : k0_pay7 (k0_pay8 k) q = k0_pay1 (k0_pay3 (k0_pay8 k) q) (log (k0_pay5 (k0_pay8 k) q)) (Named.named κ "log2e" 0x3FB8AA3B#32) := rfl
  rw [e, pay1_at, log2e_eq]
  pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28]
  simp only [hk, hq, exp2_fl, sum_mul_coe, hsc]
  rw [hM]
  exact lse_row (qR r) kR M
end Forward

section Backward
include hk hq hl

include hv hg in
/-- The gradient at the scaled query of head 0 of the group. -/
theorem dq0_at (r : Fin 256) (d : Fin 128) : k1_pay10 k v q g l (ix2 r d) = (dq (qR r) kR vR (gR r) d : EReal) := by
  have hsc : ∀ r s, ∑ i, qR r i * kR s i = sc (qR r) kR s := fun _ _ => rfl
  have hdp : ∀ r s, ∑ i, gR r i * vR s i = dp vR (gR r) s := fun _ _ => rfl
  have hds : ∀ r s, pr (qR r) kR s * (dp vR (gR r) s - ∑ t, pr (qR r) kR t * dp vR (gR r) t) = ds (qR r) kR vR (gR r) s := fun _ _ => rfl
  pointwise [k1_pay1, k1_pay2, k1_pay3, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33]
  simp only [hk, hq, hv, hg, hl, exp2_fl, sum_mul_coe, hsc, pr_row, hdp]
  simp only [← EReal.coe_sub, ← EReal.coe_mul, sum_coe, hds, dq]

include hv hg in
/-- What head 0 of the group adds to the gradient of the keys. -/
theorem dk0_at (d : Fin 128) (s : Fin 4096) : k1_pay11 k v q g l acc (ix2 d s) = acc (ix2 d s) + ((∑ r, qR r d * ds (qR r) kR vR (gR r) s : ℝ) : EReal) := by
  have hsc : ∀ r s, ∑ i, qR r i * kR s i = sc (qR r) kR s := fun _ _ => rfl
  have hdp : ∀ r s, ∑ i, gR r i * vR s i = dp vR (gR r) s := fun _ _ => rfl
  have hds : ∀ r s, pr (qR r) kR s * (dp vR (gR r) s - ∑ t, pr (qR r) kR t * dp vR (gR r) t) = ds (qR r) kR vR (gR r) s := fun _ _ => rfl
  pointwise [k1_pay1, k1_pay2, k1_pay3, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33]
  simp only [hk, hq, hv, hg, hl, exp2_fl, sum_mul_coe, hsc, pr_row, hdp]
  simp only [← EReal.coe_sub, ← EReal.coe_mul, sum_coe, hds]

include hg in
/-- What head 0 of the group adds to the gradient of the values. -/
theorem dv0_at (d : Fin 128) (s : Fin 4096) : k1_pay12 (k1_pay7 g) (k1_pay8 k q l) acc (ix2 d s) = acc (ix2 d s) + ((∑ r, gR r d * pr (qR r) kR s : ℝ) : EReal) := by
  have hsc : ∀ r s, ∑ i, qR r i * kR s i = sc (qR r) kR s := fun _ _ => rfl
  pointwise [k1_pay1, k1_pay2, k1_pay3, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33]
  simp only [hk, hq, hg, hl, exp2_fl, sum_mul_coe, hsc, pr_row]

include hv hg in
/-- The gradient at the scaled query of head 1 of the group. -/
theorem dq1_at (r : Fin 256) (d : Fin 128) : k1_pay17 (k1_pay2 k) (k1_pay3 v) q g l (ix2 r d) = (dq (qR r) kR vR (gR r) d : EReal) := by
  have hsc : ∀ r s, ∑ i, qR r i * kR s i = sc (qR r) kR s := fun _ _ => rfl
  have hdp : ∀ r s, ∑ i, gR r i * vR s i = dp vR (gR r) s := fun _ _ => rfl
  have hds : ∀ r s, pr (qR r) kR s * (dp vR (gR r) s - ∑ t, pr (qR r) kR t * dp vR (gR r) t) = ds (qR r) kR vR (gR r) s := fun _ _ => rfl
  pointwise [k1_pay1, k1_pay2, k1_pay3, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33]
  simp only [hk, hq, hv, hg, hl, exp2_fl, sum_mul_coe, hsc, pr_row, hdp]
  simp only [← EReal.coe_sub, ← EReal.coe_mul, sum_coe, hds, dq]

include hv hg in
/-- What head 1 of the group adds to the gradient of the keys. -/
theorem dk1_at (d : Fin 128) (s : Fin 4096) : k1_pay18 (k1_pay2 k) (k1_pay3 v) q g l acc (ix2 d s) = acc (ix2 d s) + ((∑ r, qR r d * ds (qR r) kR vR (gR r) s : ℝ) : EReal) := by
  have hsc : ∀ r s, ∑ i, qR r i * kR s i = sc (qR r) kR s := fun _ _ => rfl
  have hdp : ∀ r s, ∑ i, gR r i * vR s i = dp vR (gR r) s := fun _ _ => rfl
  have hds : ∀ r s, pr (qR r) kR s * (dp vR (gR r) s - ∑ t, pr (qR r) kR t * dp vR (gR r) t) = ds (qR r) kR vR (gR r) s := fun _ _ => rfl
  pointwise [k1_pay1, k1_pay2, k1_pay3, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33]
  simp only [hk, hq, hv, hg, hl, exp2_fl, sum_mul_coe, hsc, pr_row, hdp]
  simp only [← EReal.coe_sub, ← EReal.coe_mul, sum_coe, hds]

include hg in
/-- What head 1 of the group adds to the gradient of the values. -/
theorem dv1_at (d : Fin 128) (s : Fin 4096) : k1_pay19 (k1_pay14 g) (k1_pay15 (k1_pay2 k) q l) acc (ix2 d s) = acc (ix2 d s) + ((∑ r, gR r d * pr (qR r) kR s : ℝ) : EReal) := by
  have hsc : ∀ r s, ∑ i, qR r i * kR s i = sc (qR r) kR s := fun _ _ => rfl
  pointwise [k1_pay1, k1_pay2, k1_pay3, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33]
  simp only [hk, hq, hg, hl, exp2_fl, sum_mul_coe, hsc, pr_row]

include hv hg in
/-- The gradient at the scaled query of head 2 of the group. -/
theorem dq2_at (r : Fin 256) (d : Fin 128) : k1_pay24 (k1_pay2 k) (k1_pay3 v) q g l (ix2 r d) = (dq (qR r) kR vR (gR r) d : EReal) := by
  have hsc : ∀ r s, ∑ i, qR r i * kR s i = sc (qR r) kR s := fun _ _ => rfl
  have hdp : ∀ r s, ∑ i, gR r i * vR s i = dp vR (gR r) s := fun _ _ => rfl
  have hds : ∀ r s, pr (qR r) kR s * (dp vR (gR r) s - ∑ t, pr (qR r) kR t * dp vR (gR r) t) = ds (qR r) kR vR (gR r) s := fun _ _ => rfl
  pointwise [k1_pay1, k1_pay2, k1_pay3, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33]
  simp only [hk, hq, hv, hg, hl, exp2_fl, sum_mul_coe, hsc, pr_row, hdp]
  simp only [← EReal.coe_sub, ← EReal.coe_mul, sum_coe, hds, dq]

include hv hg in
/-- What head 2 of the group adds to the gradient of the keys. -/
theorem dk2_at (d : Fin 128) (s : Fin 4096) : k1_pay25 (k1_pay2 k) (k1_pay3 v) q g l acc (ix2 d s) = acc (ix2 d s) + ((∑ r, qR r d * ds (qR r) kR vR (gR r) s : ℝ) : EReal) := by
  have hsc : ∀ r s, ∑ i, qR r i * kR s i = sc (qR r) kR s := fun _ _ => rfl
  have hdp : ∀ r s, ∑ i, gR r i * vR s i = dp vR (gR r) s := fun _ _ => rfl
  have hds : ∀ r s, pr (qR r) kR s * (dp vR (gR r) s - ∑ t, pr (qR r) kR t * dp vR (gR r) t) = ds (qR r) kR vR (gR r) s := fun _ _ => rfl
  pointwise [k1_pay1, k1_pay2, k1_pay3, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33]
  simp only [hk, hq, hv, hg, hl, exp2_fl, sum_mul_coe, hsc, pr_row, hdp]
  simp only [← EReal.coe_sub, ← EReal.coe_mul, sum_coe, hds]

include hg in
/-- What head 2 of the group adds to the gradient of the values. -/
theorem dv2_at (d : Fin 128) (s : Fin 4096) : k1_pay26 (k1_pay21 g) (k1_pay22 (k1_pay2 k) q l) acc (ix2 d s) = acc (ix2 d s) + ((∑ r, gR r d * pr (qR r) kR s : ℝ) : EReal) := by
  have hsc : ∀ r s, ∑ i, qR r i * kR s i = sc (qR r) kR s := fun _ _ => rfl
  pointwise [k1_pay1, k1_pay2, k1_pay3, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33]
  simp only [hk, hq, hg, hl, exp2_fl, sum_mul_coe, hsc, pr_row]

include hv hg in
/-- The gradient at the scaled query of head 3 of the group. -/
theorem dq3_at (r : Fin 256) (d : Fin 128) : k1_pay31 (k1_pay2 k) (k1_pay3 v) q g l (ix2 r d) = (dq (qR r) kR vR (gR r) d : EReal) := by
  have hsc : ∀ r s, ∑ i, qR r i * kR s i = sc (qR r) kR s := fun _ _ => rfl
  have hdp : ∀ r s, ∑ i, gR r i * vR s i = dp vR (gR r) s := fun _ _ => rfl
  have hds : ∀ r s, pr (qR r) kR s * (dp vR (gR r) s - ∑ t, pr (qR r) kR t * dp vR (gR r) t) = ds (qR r) kR vR (gR r) s := fun _ _ => rfl
  pointwise [k1_pay1, k1_pay2, k1_pay3, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33]
  simp only [hk, hq, hv, hg, hl, exp2_fl, sum_mul_coe, hsc, pr_row, hdp]
  simp only [← EReal.coe_sub, ← EReal.coe_mul, sum_coe, hds, dq]

include hv hg in
/-- What head 3 of the group adds to the gradient of the keys. -/
theorem dk3_at (d : Fin 128) (s : Fin 4096) : k1_pay32 (k1_pay2 k) (k1_pay3 v) q g l acc (ix2 d s) = acc (ix2 d s) + ((∑ r, qR r d * ds (qR r) kR vR (gR r) s : ℝ) : EReal) := by
  have hsc : ∀ r s, ∑ i, qR r i * kR s i = sc (qR r) kR s := fun _ _ => rfl
  have hdp : ∀ r s, ∑ i, gR r i * vR s i = dp vR (gR r) s := fun _ _ => rfl
  have hds : ∀ r s, pr (qR r) kR s * (dp vR (gR r) s - ∑ t, pr (qR r) kR t * dp vR (gR r) t) = ds (qR r) kR vR (gR r) s := fun _ _ => rfl
  pointwise [k1_pay1, k1_pay2, k1_pay3, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33]
  simp only [hk, hq, hv, hg, hl, exp2_fl, sum_mul_coe, hsc, pr_row, hdp]
  simp only [← EReal.coe_sub, ← EReal.coe_mul, sum_coe, hds]

include hg in
/-- What head 3 of the group adds to the gradient of the values. -/
theorem dv3_at (d : Fin 128) (s : Fin 4096) : k1_pay1 (k1_pay28 g) (k1_pay29 (k1_pay2 k) q l) (k1_pay33 acc) (ix2 d s) = acc (ix2 d s) + ((∑ r, gR r d * pr (qR r) kR s : ℝ) : EReal) := by
  have hsc : ∀ r s, ∑ i, qR r i * kR s i = sc (qR r) kR s := fun _ _ => rfl
  pointwise [k1_pay1, k1_pay2, k1_pay3, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33]
  simp only [hk, hq, hg, hl, exp2_fl, sum_mul_coe, hsc, pr_row]
end Backward

end Cert.AttnIdeal.Hand

end
-- ==== Proof.AttnKernel.lean ====
/- The forward attention kernel: its two result arrays over the arrays it is entered with. -/
module

public import proofs.«01_k».proof.Proof.AttnHeads
public import proofs.«01_k».proof.Proof.AttnRows
public import proofs.«01_k».proof.Proof.Gen.AttnIdeal.Frame

@[expose] public section

set_option maxRecDepth 16384

noncomputable section

namespace Cert.AttnIdeal.Hand

open Cert.AttnIdeal Cert.AttnIdeal.Gen Cert.AttnMath Idealize.ShloMosaic Idealize.ShloMosaic.TcCoe Idealize.SL.Sem

/-- Which block of its array each window of the forward kernel holds at grid point `t`. -/
theorem idx0 : ∀ t : Fin cfg0.N, win0_0.index t = ![t.val % 16, t.val / 16] ∧ win0_1.index t = ![0, t.val / 16] ∧ win0_2.index t = ![0, t.val / 16]
    ∧ win0_3.index t = ![t.val % 16, t.val / 16] ∧ win0_4.index t = ![t.val / 16, t.val % 16, 0] :=
  (by decide +kernel : ∀ t : Fin grid0.N, _)

variable (V : (c : Dev nD) → (b : Ref sig .tc) → Buf (Elt Ideal) ((c : Thread nD τ).loc b)) (c : Dev nD)
  (Q G : Fin 4096 → Fin 2048 → ℝ) (K W : Fin 4096 → Fin 512 → ℝ)

/-- The group a grid point works on. -/
def jt (t : Fin cfg0.N) : Fin 4 := ⟨t.val / 16, by have := lt_of_lt_of_eq t.isLt N_0; omega⟩
/-- The row of the array that row `r` of the block of a grid point is. -/
def rt (t : Fin cfg0.N) (r : Fin 256) : Fin 4096 := ⟨t.val % 16 * 256 + r.val, by omega⟩

/-- An index of a one-plane, one-lane array is its row. -/
theorem one_idx (x : S1x256x1.Idx) : x = ix3 (n0 := 1) (n1 := 256) (n2 := 1) 0 (x 1) 0 := by
  idx_vars x
  exact (ix3_inj _ _ _ _ _ _).2 ⟨Subsingleton.elim _ _, rfl, Subsingleton.elim _ _⟩

section Forward
variable (hQ : ∀ r J, V c main_v5 (ix2 r J) = (Q r J : EReal)) (hK : ∀ r J, V c main_v6 (ix2 r J) = (K r J : EReal))
  (hV : ∀ r J, V c main_v7 (ix2 r J) = (W r J : EReal))

include hQ in
/-- The rows of head 0 in the block of queries. -/
theorem q0 (t : Fin cfg0.N) (r : Fin 256) (d : Fin 128) : View.ld (iblk0 V c 0 t) r0_1 (ix2 r d) = (qr Q (hg (jt t) 0) (rt t r) d : EReal) := by
  refine Eq.trans ?_ (hQ _ _)
  pointwise
  blk_ext [iblk0, idx0 t]
  all_goals (simp [rt, hg, jt] <;> omega)
include hQ in
/-- The rows of head 1 in the block of queries. -/
theorem q1 (t : Fin cfg0.N) (r : Fin 256) (d : Fin 128) : View.ld (iblk0 V c 0 t) r0_3 (ix2 r d) = (qr Q (hg (jt t) 1) (rt t r) d : EReal) := by
  refine Eq.trans ?_ (hQ _ _)
  pointwise
  blk_ext [iblk0, idx0 t]
  all_goals (simp [rt, hg, jt] <;> omega)
include hQ in
/-- The rows of head 2 in the block of queries. -/
theorem q2 (t : Fin cfg0.N) (r : Fin 256) (d : Fin 128) : View.ld (iblk0 V c 0 t) r0_5 (ix2 r d) = (qr Q (hg (jt t) 2) (rt t r) d : EReal) := by
  refine Eq.trans ?_ (hQ _ _)
  pointwise
  blk_ext [iblk0, idx0 t]
  all_goals (simp [rt, hg, jt] <;> omega)
include hQ in
/-- The rows of head 3 in the block of queries. -/
theorem q3 (t : Fin cfg0.N) (r : Fin 256) (d : Fin 128) : View.ld (iblk0 V c 0 t) r0_7 (ix2 r d) = (qr Q (hg (jt t) 3) (rt t r) d : EReal) := by
  refine Eq.trans ?_ (hQ _ _)
  pointwise
  blk_ext [iblk0, idx0 t]
  all_goals (simp [rt, hg, jt] <;> omega)
include hK in
/-- The block of keys. -/
theorem k0 (t : Fin cfg0.N) (s : Fin 4096) (d : Fin 128) : View.ld (iblk0 V c 1 t) r0_0 (ix2 s d) = (kr K (jt t) s d : EReal) := by
  refine Eq.trans ?_ (hK _ _)
  pointwise
  blk_ext [iblk0, idx0 t]
  all_goals (simp [jt] <;> omega)
include hV in
/-- The block of values. -/
theorem v0 (t : Fin cfg0.N) (s : Fin 4096) (d : Fin 128) : View.ld (iblk0 V c 2 t) r0_0 (ix2 s d) = (kr W (jt t) s d : EReal) := by
  refine Eq.trans ?_ (hV _ _)
  pointwise
  blk_ext [iblk0, idx0 t]
  all_goals (simp [jt] <;> omega)

include hQ hK hV in
/-- The array of the outputs after the last grid point. -/
theorem final0_3 : (dat0 V c).arrAt 3 cfg0.N = fun j => (outA Q K W (j 0) (j 1) : EReal) := by
  refine (dat0 V c).arrAt_eq_of_covers 3 _ (by decide +kernel) fun t hf y => ?_
  blk_simp
  rw [after0_3]
  canon_tiles x h
  · refine (congrArg _ (eq_ix2 (n0 := 256) (n1 := 128) x)).trans ((o3_at _ _ _ _ _ _ (k0 V c K hK t) (v0 V c W hV t) (q3 V c Q hQ t) (x 0) (x 1)).trans
      (congrArg _ (outA_at Q K W (jt t) 3 (rt t (x 0)) (x 1) ?_ ?_)))
    all_goals (blk_simp [idx0 t]; simp [jt, rt] <;> omega)
  · refine (congrArg _ (eq_ix2 (n0 := 256) (n1 := 128) x)).trans ((o2_at _ _ _ _ _ _ (k0 V c K hK t) (v0 V c W hV t) (q2 V c Q hQ t) (x 0) (x 1)).trans
      (congrArg _ (outA_at Q K W (jt t) 2 (rt t (x 0)) (x 1) ?_ ?_)))
    all_goals (blk_simp [idx0 t]; simp [jt, rt] <;> omega)
  · refine (congrArg _ (eq_ix2 (n0 := 256) (n1 := 128) x)).trans ((o1_at _ _ _ _ _ _ (k0 V c K hK t) (v0 V c W hV t) (q1 V c Q hQ t) (x 0) (x 1)).trans
      (congrArg _ (outA_at Q K W (jt t) 1 (rt t (x 0)) (x 1) ?_ ?_)))
    all_goals (blk_simp [idx0 t]; simp [jt, rt] <;> omega)
  · refine (congrArg _ (eq_ix2 (n0 := 256) (n1 := 128) x)).trans ((o0_at _ _ _ _ _ _ (k0 V c K hK t) (v0 V c W hV t) (q0 V c Q hQ t) (x 0) (x 1)).trans
      (congrArg _ (outA_at Q K W (jt t) 0 (rt t (x 0)) (x 1) ?_ ?_)))
    all_goals (blk_simp [idx0 t]; simp [jt, rt] <;> omega)

include hQ hK in
/-- The array of the saved logarithms after the last grid point. -/
theorem final0_4 : (dat0 V c).arrAt 4 cfg0.N = fun j => (lseA Q K (j 0) (j 1) (j 2) : EReal) := by
  refine (dat0 V c).arrAt_eq_of_covers 4 _ (by decide +kernel) fun t hf y => ?_
  blk_simp
  rw [after0_4]
  canon_tiles x h
  · refine (congrArg _ (one_idx x)).trans ((l3_at _ _ _ _ (k0 V c K hK t) (q3 V c Q hQ t) (x 1)).trans
      (congrArg _ (lseA_at Q K (jt t) 3 (rt t (x 1)) ?_ ?_ ?_)))
    all_goals (blk_simp [idx0 t]; simp [jt, rt] <;> omega)
  · refine (congrArg _ (one_idx x)).trans ((l2_at _ _ _ _ (k0 V c K hK t) (q2 V c Q hQ t) (x 1)).trans
      (congrArg _ (lseA_at Q K (jt t) 2 (rt t (x 1)) ?_ ?_ ?_)))
    all_goals (blk_simp [idx0 t]; simp [jt, rt] <;> omega)
  · refine (congrArg _ (one_idx x)).trans ((l1_at _ _ _ _ (k0 V c K hK t) (q1 V c Q hQ t) (x 1)).trans
      (congrArg _ (lseA_at Q K (jt t) 1 (rt t (x 1)) ?_ ?_ ?_)))
    all_goals (blk_simp [idx0 t]; simp [jt, rt] <;> omega)
  · refine (congrArg _ (one_idx x)).trans ((l0_at _ _ _ _ (k0 V c K hK t) (q0 V c Q hQ t) (x 1)).trans
      (congrArg _ (lseA_at Q K (jt t) 0 (rt t (x 1)) ?_ ?_ ?_)))
    all_goals (blk_simp [idx0 t]; simp [jt, rt] <;> omega)
end Forward

end Cert.AttnIdeal.Hand

end
-- ==== Proof.AttnBack.lean ====
/- The backward attention kernel: its three result arrays over the arrays it is entered with. -/
module

public import proofs.«01_k».proof.Proof.AttnKernel

@[expose] public section

set_option maxRecDepth 16384

noncomputable section

namespace Cert.AttnIdeal.Hand

open Cert.AttnIdeal Cert.AttnIdeal.Gen Cert.AttnMath Idealize.ShloMosaic Idealize.ShloMosaic.TcCoe Idealize.SL.Sem

/-- Which block of its array each window of the backward kernel holds at grid point `t`. -/
theorem idx1 : ∀ t : Fin cfg1.N, win1_0.index t = ![t.val % 16, t.val / 16] ∧ win1_1.index t = ![0, t.val / 16] ∧ win1_2.index t = ![0, t.val / 16]
    ∧ win1_3.index t = ![t.val % 16, t.val / 16] ∧ win1_4.index t = ![t.val / 16, t.val % 16, 0] ∧ win1_5.index t = ![t.val % 16, t.val / 16]
    ∧ win1_6.index t = ![t.val / 16, 0] ∧ win1_7.index t = ![t.val / 16, 0] :=
  (by decide +kernel : ∀ t : Fin grid1.N, _)

variable (V : (c : Dev nD) → (b : Ref sig .tc) → Buf (Elt Ideal) ((c : Thread nD τ).loc b)) (c : Dev nD)
  (Q G : Fin 4096 → Fin 2048 → ℝ) (K W : Fin 4096 → Fin 512 → ℝ)

/-- The group a grid point works on. -/
def jb (t : Fin cfg1.N) : Fin 4 := ⟨t.val / 16, by have := lt_of_lt_of_eq t.isLt N_1; omega⟩
/-- The tile of rows a grid point works on. -/
def ib (t : Fin cfg1.N) : Fin 16 := ⟨t.val % 16, by omega⟩
/-- The row of the array that row `r` of tile `i` is. -/
def rb (i : Fin 16) (r : Fin 256) : Fin 4096 := ⟨i.val * 256 + r.val, by omega⟩

section Backward
variable (hQ : ∀ r J, V c main_v5 (ix2 r J) = (Q r J : EReal)) (hK : ∀ r J, V c main_v6 (ix2 r J) = (K r J : EReal))
  (hV : ∀ r J, V c main_v7 (ix2 r J) = (W r J : EReal)) (hG : ∀ r J, V c main_v8 (ix2 r J) = (G r J : EReal))
  (hL : ∀ j r g, V c main_v9_1 (ix3 j r g) = (lseA Q K j r g : EReal))

include hQ in
/-- The rows of head 0 in the block of queries. -/
theorem bq0 (t : Fin cfg1.N) (r : Fin 256) (d : Fin 128) : View.ld (iblk1 V c 0 t) r0_1 (ix2 r d) = (qr Q (hg (jb t) 0) (rb (ib t) r) d : EReal) := by
  refine Eq.trans ?_ (hQ _ _)
  pointwise
  blk_ext [iblk1, idx1 t]
  all_goals (simp [rb, ib, hg, jb] <;> omega)
include hG in
/-- The rows of head 0 in the block of incoming gradients. -/
theorem bg0 (t : Fin cfg1.N) (r : Fin 256) (d : Fin 128) : View.ld (iblk1 V c 3 t) r0_1 (ix2 r d) = (qr G (hg (jb t) 0) (rb (ib t) r) d : EReal) := by
  refine Eq.trans ?_ (hG _ _)
  pointwise
  blk_ext [iblk1, idx1 t]
  all_goals (simp [rb, ib, hg, jb] <;> omega)
include hL in
/-- The saved logarithms of head 0. -/
theorem bl0 (t : Fin cfg1.N) (r : Fin 256) :
    View.ld (iblk1 V c 4 t) r0_2 (ix3 0 r 0) = ((Real.log (zz (qr Q (hg (jb t) 0) (rb (ib t) r)) (kr K (jb t))) / Real.log 2 : ℝ) : EReal) := by
  refine Eq.trans ?_ (hL (jb t) (rb (ib t) r) 0)
  pointwise
  blk_ext [iblk1, idx1 t]
  all_goals (simp [rb, ib, jb] <;> omega)
include hQ in
/-- The rows of head 1 in the block of queries. -/
theorem bq1 (t : Fin cfg1.N) (r : Fin 256) (d : Fin 128) : View.ld (iblk1 V c 0 t) r0_3 (ix2 r d) = (qr Q (hg (jb t) 1) (rb (ib t) r) d : EReal) := by
  refine Eq.trans ?_ (hQ _ _)
  pointwise
  blk_ext [iblk1, idx1 t]
  all_goals (simp [rb, ib, hg, jb] <;> omega)
include hG in
/-- The rows of head 1 in the block of incoming gradients. -/
theorem bg1 (t : Fin cfg1.N) (r : Fin 256) (d : Fin 128) : View.ld (iblk1 V c 3 t) r0_3 (ix2 r d) = (qr G (hg (jb t) 1) (rb (ib t) r) d : EReal) := by
  refine Eq.trans ?_ (hG _ _)
  pointwise
  blk_ext [iblk1, idx1 t]
  all_goals (simp [rb, ib, hg, jb] <;> omega)
include hL in
/-- The saved logarithms of head 1. -/
theorem bl1 (t : Fin cfg1.N) (r : Fin 256) :
    View.ld (iblk1 V c 4 t) r0_4 (ix3 0 r 0) = ((Real.log (zz (qr Q (hg (jb t) 1) (rb (ib t) r)) (kr K (jb t))) / Real.log 2 : ℝ) : EReal) := by
  refine Eq.trans ?_ (hL (jb t) (rb (ib t) r) 1)
  pointwise
  blk_ext [iblk1, idx1 t]
  all_goals (simp [rb, ib, jb] <;> omega)
include hQ in
/-- The rows of head 2 in the block of queries. -/
theorem bq2 (t : Fin cfg1.N) (r : Fin 256) (d : Fin 128) : View.ld (iblk1 V c 0 t) r0_5 (ix2 r d) = (qr Q (hg (jb t) 2) (rb (ib t) r) d : EReal) := by
  refine Eq.trans ?_ (hQ _ _)
  pointwise
  blk_ext [iblk1, idx1 t]
  all_goals (simp [rb, ib, hg, jb] <;> omega)
include hG in
/-- The rows of head 2 in the block of incoming gradients. -/
theorem bg2 (t : Fin cfg1.N) (r : Fin 256) (d : Fin 128) : View.ld (iblk1 V c 3 t) r0_5 (ix2 r d) = (qr G (hg (jb t) 2) (rb (ib t) r) d : EReal) := by
  refine Eq.trans ?_ (hG _ _)
  pointwise
  blk_ext [iblk1, idx1 t]
  all_goals (simp [rb, ib, hg, jb] <;> omega)
include hL in
/-- The saved logarithms of head 2. -/
theorem bl2 (t : Fin cfg1.N) (r : Fin 256) :
    View.ld (iblk1 V c 4 t) r0_6 (ix3 0 r 0) = ((Real.log (zz (qr Q (hg (jb t) 2) (rb (ib t) r)) (kr K (jb t))) / Real.log 2 : ℝ) : EReal) := by
  refine Eq.trans ?_ (hL (jb t) (rb (ib t) r) 2)
  pointwise
  blk_ext [iblk1, idx1 t]
  all_goals (simp [rb, ib, jb] <;> omega)
include hQ in
/-- The rows of head 3 in the block of queries. -/
theorem bq3 (t : Fin cfg1.N) (r : Fin 256) (d : Fin 128) : View.ld (iblk1 V c 0 t) r0_7 (ix2 r d) = (qr Q (hg (jb t) 3) (rb (ib t) r) d : EReal) := by
  refine Eq.trans ?_ (hQ _ _)
  pointwise
  blk_ext [iblk1, idx1 t]
  all_goals (simp [rb, ib, hg, jb] <;> omega)
include hG in
/-- The rows of head 3 in the block of incoming gradients. -/
theorem bg3 (t : Fin cfg1.N) (r : Fin 256) (d : Fin 128) : View.ld (iblk1 V c 3 t) r0_7 (ix2 r d) = (qr G (hg (jb t) 3) (rb (ib t) r) d : EReal) := by
  refine Eq.trans ?_ (hG _ _)
  pointwise
  blk_ext [iblk1, idx1 t]
  all_goals (simp [rb, ib, hg, jb] <;> omega)
include hL in
/-- The saved logarithms of head 3. -/
theorem bl3 (t : Fin cfg1.N) (r : Fin 256) :
    View.ld (iblk1 V c 4 t) r0_8 (ix3 0 r 0) = ((Real.log (zz (qr Q (hg (jb t) 3) (rb (ib t) r)) (kr K (jb t))) / Real.log 2 : ℝ) : EReal) := by
  refine Eq.trans ?_ (hL (jb t) (rb (ib t) r) 3)
  pointwise
  blk_ext [iblk1, idx1 t]
  all_goals (simp [rb, ib, jb] <;> omega)
include hK in
/-- The block of keys. -/
theorem bk (t : Fin cfg1.N) (s : Fin 4096) (d : Fin 128) : iblk1 V c 1 t (ix2 s d) = (kr K (jb t) s d : EReal) := by
  refine Eq.trans ?_ (hK _ _)
  blk_ext [iblk1, idx1 t]
  all_goals (simp [jb] <;> omega)
include hV in
/-- The block of values. -/
theorem bv (t : Fin cfg1.N) (s : Fin 4096) (d : Fin 128) : iblk1 V c 2 t (ix2 s d) = (kr W (jb t) s d : EReal) := by
  refine Eq.trans ?_ (hV _ _)
  blk_ext [iblk1, idx1 t]
  all_goals (simp [jb] <;> omega)

include hQ hK hV hG hL in
/-- The array of the gradient at the scaled queries after the last grid point. -/
theorem final1_5 : (dat1 V c).arrAt 5 cfg1.N = fun j => (dqA Q G K W (j 0) (j 1) : EReal) := by
  refine (dat1 V c).arrAt_eq_of_covers 5 _ (by decide +kernel) fun t hf y => ?_
  blk_simp
  rw [after1_5]
  by_cases hc : t.val % 16 = 0
  · rw [outsAt1_A V c t hc]
    frame_out
    canon_tiles x h
    · refine (congrArg _ (eq_ix2 (n0 := 256) (n1 := 128) x)).trans ((dq3_at _ _ _ _ _ _ _ _ _ (bk V c K hK t) (bv V c W hV t) (bq3 V c Q hQ t) (bg3 V c G hG t) (bl3 V c Q K hL t) (x 0) (x 1)).trans
        (congrArg _ (dqA_at Q G K W (jb t) 3 (rb (ib t) (x 0)) (x 1) ?_ ?_)))
      all_goals (blk_simp [idx1 t]; simp [jb, rb, ib] <;> omega)
    · refine (congrArg _ (eq_ix2 (n0 := 256) (n1 := 128) x)).trans ((dq2_at _ _ _ _ _ _ _ _ _ (bk V c K hK t) (bv V c W hV t) (bq2 V c Q hQ t) (bg2 V c G hG t) (bl2 V c Q K hL t) (x 0) (x 1)).trans
        (congrArg _ (dqA_at Q G K W (jb t) 2 (rb (ib t) (x 0)) (x 1) ?_ ?_)))
      all_goals (blk_simp [idx1 t]; simp [jb, rb, ib] <;> omega)
    · refine (congrArg _ (eq_ix2 (n0 := 256) (n1 := 128) x)).trans ((dq1_at _ _ _ _ _ _ _ _ _ (bk V c K hK t) (bv V c W hV t) (bq1 V c Q hQ t) (bg1 V c G hG t) (bl1 V c Q K hL t) (x 0) (x 1)).trans
        (congrArg _ (dqA_at Q G K W (jb t) 1 (rb (ib t) (x 0)) (x 1) ?_ ?_)))
      all_goals (blk_simp [idx1 t]; simp [jb, rb, ib] <;> omega)
    · refine (congrArg _ (eq_ix2 (n0 := 256) (n1 := 128) x)).trans ((dq0_at _ _ _ _ _ _ _ _ _ (bk V c K hK t) (bv V c W hV t) (bq0 V c Q hQ t) (bg0 V c G hG t) (bl0 V c Q K hL t) (x 0) (x 1)).trans
        (congrArg _ (dqA_at Q G K W (jb t) 0 (rb (ib t) (x 0)) (x 1) ?_ ?_)))
      all_goals (blk_simp [idx1 t]; simp [jb, rb, ib] <;> omega)
  · rw [outsAt1_B V c t hc]
    frame_out
    canon_tiles x h
    · refine (congrArg _ (eq_ix2 (n0 := 256) (n1 := 128) x)).trans ((dq3_at _ _ _ _ _ _ _ _ _ (bk V c K hK t) (bv V c W hV t) (bq3 V c Q hQ t) (bg3 V c G hG t) (bl3 V c Q K hL t) (x 0) (x 1)).trans
        (congrArg _ (dqA_at Q G K W (jb t) 3 (rb (ib t) (x 0)) (x 1) ?_ ?_)))
      all_goals (blk_simp [idx1 t]; simp [jb, rb, ib] <;> omega)
    · refine (congrArg _ (eq_ix2 (n0 := 256) (n1 := 128) x)).trans ((dq2_at _ _ _ _ _ _ _ _ _ (bk V c K hK t) (bv V c W hV t) (bq2 V c Q hQ t) (bg2 V c G hG t) (bl2 V c Q K hL t) (x 0) (x 1)).trans
        (congrArg _ (dqA_at Q G K W (jb t) 2 (rb (ib t) (x 0)) (x 1) ?_ ?_)))
      all_goals (blk_simp [idx1 t]; simp [jb, rb, ib] <;> omega)
    · refine (congrArg _ (eq_ix2 (n0 := 256) (n1 := 128) x)).trans ((dq1_at _ _ _ _ _ _ _ _ _ (bk V c K hK t) (bv V c W hV t) (bq1 V c Q hQ t) (bg1 V c G hG t) (bl1 V c Q K hL t) (x 0) (x 1)).trans
        (congrArg _ (dqA_at Q G K W (jb t) 1 (rb (ib t) (x 0)) (x 1) ?_ ?_)))
      all_goals (blk_simp [idx1 t]; simp [jb, rb, ib] <;> omega)
    · refine (congrArg _ (eq_ix2 (n0 := 256) (n1 := 128) x)).trans ((dq0_at _ _ _ _ _ _ _ _ _ (bk V c K hK t) (bv V c W hV t) (bq0 V c Q hQ t) (bg0 V c G hG t) (bl0 V c Q K hL t) (x 0) (x 1)).trans
        (congrArg _ (dqA_at Q G K W (jb t) 0 (rb (ib t) (x 0)) (x 1) ?_ ?_)))
      all_goals (blk_simp [idx1 t]; simp [jb, rb, ib] <;> omega)

include hQ hK hV hG hL in
/-- What a grid point adds to the block of the gradient at the keys. -/
theorem stepK (t : Fin cfg1.N) (acc : Vec Ideal S128x4096 .f32) (d : Fin 128) (s : Fin 4096) :
    (k1_pay32 (k1_pay2 (iblk1 V c 1 t)) (k1_pay3 (iblk1 V c 2 t)) (View.ld (iblk1 V c 0 t) r0_7) (View.ld (iblk1 V c 3 t) r0_7) (View.ld (iblk1 V c 4 t) r0_8) (k1_pay25 (k1_pay2 (iblk1 V c 1 t)) (k1_pay3 (iblk1 V c 2 t)) (View.ld (iblk1 V c 0 t) r0_5) (View.ld (iblk1 V c 3 t) r0_5) (View.ld (iblk1 V c 4 t) r0_6) (k1_pay18 (k1_pay2 (iblk1 V c 1 t)) (k1_pay3 (iblk1 V c 2 t)) (View.ld (iblk1 V c 0 t) r0_3) (View.ld (iblk1 V c 3 t) r0_3) (View.ld (iblk1 V c 4 t) r0_4) (k1_pay11 (iblk1 V c 1 t) (iblk1 V c 2 t) (View.ld (iblk1 V c 0 t) r0_1) (View.ld (iblk1 V c 3 t) r0_1) (View.ld (iblk1 V c 4 t) r0_2) acc)))) (ix2 d s)
      = acc (ix2 d s) + (tileK Q G K W (jb t) (ib t) d s : EReal) := by
  rw [dk3_at _ _ _ _ _ _ _ _ _ _ (bk V c K hK t) (bv V c W hV t) (bq3 V c Q hQ t) (bg3 V c G hG t) (bl3 V c Q K hL t),
    dk2_at _ _ _ _ _ _ _ _ _ _ (bk V c K hK t) (bv V c W hV t) (bq2 V c Q hQ t) (bg2 V c G hG t) (bl2 V c Q K hL t),
    dk1_at _ _ _ _ _ _ _ _ _ _ (bk V c K hK t) (bv V c W hV t) (bq1 V c Q hQ t) (bg1 V c G hG t) (bl1 V c Q K hL t),
    dk0_at _ _ _ _ _ _ _ _ _ _ (bk V c K hK t) (bv V c W hV t) (bq0 V c Q hQ t) (bg0 V c G hG t) (bl0 V c Q K hL t)]
  simp only [tileK, Fin.sum_univ_four, EReal.coe_add, add_assoc]
  rfl

include hQ hK hG hL in
/-- What a grid point adds to the block of the gradient at the values. -/
theorem stepV (t : Fin cfg1.N) (acc : Vec Ideal S128x4096 .f32) (d : Fin 128) (s : Fin 4096) :
    (k1_pay1 (k1_pay28 (View.ld (iblk1 V c 3 t) r0_7)) (k1_pay29 (k1_pay2 (iblk1 V c 1 t)) (View.ld (iblk1 V c 0 t) r0_7) (View.ld (iblk1 V c 4 t) r0_8)) (k1_pay33 (k1_pay26 (k1_pay21 (View.ld (iblk1 V c 3 t) r0_5)) (k1_pay22 (k1_pay2 (iblk1 V c 1 t)) (View.ld (iblk1 V c 0 t) r0_5) (View.ld (iblk1 V c 4 t) r0_6)) (k1_pay19 (k1_pay14 (View.ld (iblk1 V c 3 t) r0_3)) (k1_pay15 (k1_pay2 (iblk1 V c 1 t)) (View.ld (iblk1 V c 0 t) r0_3) (View.ld (iblk1 V c 4 t) r0_4)) (k1_pay12 (k1_pay7 (View.ld (iblk1 V c 3 t) r0_1)) (k1_pay8 (iblk1 V c 1 t) (View.ld (iblk1 V c 0 t) r0_1) (View.ld (iblk1 V c 4 t) r0_2)) acc))))) (ix2 d s)
      = acc (ix2 d s) + (tileV Q G K (jb t) (ib t) d s : EReal) := by
  rw [dv3_at _ _ _ _ _ _ _ _ (bk V c K hK t) (bq3 V c Q hQ t) (bg3 V c G hG t) (bl3 V c Q K hL t),
    dv2_at _ _ _ _ _ _ _ _ (bk V c K hK t) (bq2 V c Q hQ t) (bg2 V c G hG t) (bl2 V c Q K hL t),
    dv1_at _ _ _ _ _ _ _ _ (bk V c K hK t) (bq1 V c Q hQ t) (bg1 V c G hG t) (bl1 V c Q K hL t),
    dv0_at _ _ _ _ _ _ _ _ (bk V c K hK t) (bq0 V c Q hQ t) (bg0 V c G hG t) (bl0 V c Q K hL t)]
  simp only [tileV, Fin.sum_univ_four, EReal.coe_add, add_assoc]
  rfl

/-- The gradient at the keys starts at zero. -/
theorem zeroK (d : Fin 128) (s : Fin 4096) : k1_pay4 (F := Ideal) (ix2 d s) = 0 := by pointwise [k1_pay4]
/-- The gradient at the values starts at zero. -/
theorem zeroV (d : Fin 128) (s : Fin 4096) : k1_pay5 (F := Ideal) (ix2 d s) = 0 := by pointwise [k1_pay5]

include hQ hK hV hG hL in
/-- The array of the gradient at the keys after the last grid point. -/
theorem final1_6 : (dat1 V c).arrAt 6 cfg1.N = fun j => (dkA Q G K W (j 0) (j 1) : EReal) := by
  refine (dat1 V c).arrAt_eq_of_covers 6 _ (by decide +kernel) fun t hf y => ?_
  blk_simp
  rw [after1_6, Pipeline.eq_sum_fin_of_reset_step_apply_of_flush (fun n h => (outsAt1 V c n h).2.1) 16 (fun _ => 0)
    (fun (p : Fin cfg1.N) (j : S128x4096.Idx) => (tileK Q G K W (jb p) (ib p) (j 0) (j 1) : EReal))
    (fun p h j => by
      rw [outsAt1_A V c p h]; frame_out
      exact (congrArg _ (eq_ix2 (n0 := 128) (n1 := 4096) j)).trans ((stepK V c Q G K W hQ hK hV hG hL p _ (j 0) (j 1)).trans (congrArg (· + _) (zeroK (j 0) (j 1)))))
    (fun p h j => by
      rw [outsAt1_B V c p h]; frame_out
      exact (congrArg _ (eq_ix2 (n0 := 128) (n1 := 4096) j)).trans ((stepK V c Q G K W hQ hK hV hG hL p _ (j 0) (j 1)).trans (congrArg (· + _) (congrArg _ (eq_ix2 (n0 := 128) (n1 := 4096) j).symm))))
    t ((flush1_6 t).mp hf) _, zero_add]
  refine Eq.trans (Fin.sum_fin_congr fun s => ?_) ((sum_coe Finset.univ fun i : Fin 16 => tileK Q G K W (jb t) i (y 0) (y 1)).trans (congrArg _ (dkA_at Q G K W (jb t) (y 0) (y 1) ?_ ?_)))
  · have hp := Pipeline.run_point_lt_of_flush t ((flush1_6 t).mp hf) s
    have h1 : jb ⟨16 * (t.val / 16) + s.val, hp⟩ = jb t := Fin.ext (by simp [jb]; omega)
    have h2 : ib ⟨16 * (t.val / 16) + s.val, hp⟩ = s := Fin.ext (by simp [ib])
    rw [h1, h2]
  all_goals (blk_simp [idx1 t] <;> (try (simp [jb] <;> omega)))

include hQ hK hG hL in
/-- The array of the gradient at the values after the last grid point. -/
theorem final1_7 : (dat1 V c).arrAt 7 cfg1.N = fun j => (dvA Q G K (j 0) (j 1) : EReal) := by
  refine (dat1 V c).arrAt_eq_of_covers 7 _ (by decide +kernel) fun t hf y => ?_
  blk_simp
  rw [after1_7, Pipeline.eq_sum_fin_of_reset_step_apply_of_flush (fun n h => (outsAt1 V c n h).2.2) 16 (fun _ => 0)
    (fun (p : Fin cfg1.N) (j : S128x4096.Idx) => (tileV Q G K (jb p) (ib p) (j 0) (j 1) : EReal))
    (fun p h j => by
      rw [outsAt1_A V c p h]; frame_out
      exact (congrArg _ (eq_ix2 (n0 := 128) (n1 := 4096) j)).trans ((stepV V c Q G K hQ hK hG hL p _ (j 0) (j 1)).trans (congrArg (· + _) (zeroV (j 0) (j 1)))))
    (fun p h j => by
      rw [outsAt1_B V c p h]; frame_out
      exact (congrArg _ (eq_ix2 (n0 := 128) (n1 := 4096) j)).trans ((stepV V c Q G K hQ hK hG hL p _ (j 0) (j 1)).trans (congrArg (· + _) (congrArg _ (eq_ix2 (n0 := 128) (n1 := 4096) j).symm))))
    t ((flush1_7 t).mp hf) _, zero_add]
  refine Eq.trans (Fin.sum_fin_congr fun s => ?_) ((sum_coe Finset.univ fun i : Fin 16 => tileV Q G K (jb t) i (y 0) (y 1)).trans (congrArg _ (dvA_at Q G K (jb t) (y 0) (y 1) ?_ ?_)))
  · have hp := Pipeline.run_point_lt_of_flush t ((flush1_7 t).mp hf) s
    have h1 : jb ⟨16 * (t.val / 16) + s.val, hp⟩ = jb t := Fin.ext (by simp [jb]; omega)
    have h2 : ib ⟨16 * (t.val / 16) + s.val, hp⟩ = s := Fin.ext (by simp [ib])
    rw [h1, h2]
  all_goals (blk_simp [idx1 t] <;> (try (simp [jb] <;> omega)))

end Backward

end Cert.AttnIdeal.Hand

end
-- ==== Proof.AttnRun.lean ====
/- The attention kernels, forward and backward, run one after the other from arguments that are all finite. -/
module

public import proofs.«01_k».proof.Proof.AttnKernel
public import proofs.«01_k».proof.Proof.AttnBack
public import Idealize.ShloMosaic.Lib.Claim

@[expose] public section

set_option maxRecDepth 16384

noncomputable section

namespace Cert.AttnIdeal.Hand

open Cert.AttnIdeal Cert.AttnIdeal.Gen Cert.AttnMath Idealize.ShloMosaic Idealize.ShloMosaic.TcCoe Idealize.SL Idealize.SL.Sem

/-- The scale the queries are divided by before the kernels read them. -/
theorem scale_eq : Ideal.log (Ideal.ofBits FTy.f32 0x40000000#32) * Ideal.sqrt (Ideal.ofBits FTy.f32 0x43000000#32) = ((Real.log 2 * √128 : ℝ) : EReal) := by
  have h2 : Ideal.ofBits FTy.f32 0x40000000#32 = ((2 : ℝ) : EReal) := by
    simp [Ideal.ofBits, Ideal.ieee, -EReal.coe_mul]; norm_num
  have h128 : Ideal.ofBits FTy.f32 0x43000000#32 = ((128 : ℝ) : EReal) := by
    simp [Ideal.ofBits, Ideal.ieee, -EReal.coe_mul]; norm_num
  rw [h2, h128, Ideal.log_coe, Ideal.sqrt_coe, if_neg (by norm_num), if_neg (by norm_num), ← EReal.coe_mul]

variable (m : (ℓ : Loc nD τ sig) → Buf (Elt Ideal) ℓ) (ρ : Dev nD → PrngReg) (c : Dev nD)
  (Q G : Fin 4096 → Fin 2048 → ℝ) (K W : Fin 4096 → Fin 512 → ℝ)
  (h0 : ∀ r J, m ((c : Thread nD τ).loc main_arg0) (ix2 r J) = ((Q r J * (Real.log 2 * √128) : ℝ) : EReal))
  (h1 : ∀ r J, m ((c : Thread nD τ).loc main_arg1) (ix2 r J) = (K r J : EReal))
  (h2 : ∀ r J, m ((c : Thread nD τ).loc main_arg2) (ix2 r J) = (W r J : EReal))
  (h3 : ∀ r J, m ((c : Thread nD τ).loc main_arg3) (ix2 r J) = (G r J : EReal))

include h0 in
theorem entry_q (r : Fin 4096) (J : Fin 2048) : V1 m ρ c main_v5 (ix2 r J) = (Q r J : EReal) := by
  have hs : Real.log 2 * √128 ≠ 0 := mul_ne_zero log_two.ne' (by positivity)
  show StableHlo.after hostOps0 (W0 m ρ c) (Proc.devRef .tc main_v5) (ix2 r J) = _
  entry_read
  pointwise [scale_eq]
  refine (congrArg (Ideal.div · _) (h0 r J)).trans ?_
  rw [div_coe _ _ hs, mul_div_cancel_right₀ _ hs]

include h1 in
theorem entry_k (r : Fin 4096) (J : Fin 512) : V1 m ρ c main_v6 (ix2 r J) = (K r J : EReal) := by
  show StableHlo.after hostOps0 (W0 m ρ c) (Proc.devRef .tc main_v6) (ix2 r J) = _
  entry_read
  pointwise
  exact h1 r J

include h2 in
theorem entry_v (r : Fin 4096) (J : Fin 512) : V1 m ρ c main_v7 (ix2 r J) = (W r J : EReal) := by
  show StableHlo.after hostOps0 (W0 m ρ c) (Proc.devRef .tc main_v7) (ix2 r J) = _
  entry_read
  pointwise
  exact h2 r J

include h3 in
theorem entry_g (r : Fin 4096) (J : Fin 2048) : V1 m ρ c main_v8 (ix2 r J) = (G r J : EReal) := by
  show StableHlo.after hostOps0 (W0 m ρ c) (Proc.devRef .tc main_v8) (ix2 r J) = _
  entry_read
  pointwise
  exact h3 r J

include h0 h1 in
theorem entry_l (j : Fin 4) (r : Fin 4096) (g : Fin 4) : V2 m ρ c main_v9_1 (ix3 j r g) = (lseA Q K j r g : EReal) :=
  congrFun ((W2_arr m ρ c 4).trans (final0_4 (V1 m ρ) c Q K (entry_q m ρ c Q h0) (entry_k m ρ c K h1))) (ix3 j r g)

/-- A buffer the forward kernel does not write is as it was entered. -/
theorem keep0 (b : Ref sig .tc) (h : ∀ w : Fin cfg0.W, Pipeline.arrRef spec0 w = b → (cfg0.win w).isOut = false) : V2 m ρ c b = V1 m ρ c b :=
  W2_of m ρ c b h

include h0 h1 h2 in
theorem end_o : W3 m ρ c (Proc.devRef .tc main_v9_0) = fun j => (outA Q K W (j 0) (j 1) : EReal) :=
  (W3_of m ρ c main_v9_0 (by decide)).trans ((W2_arr m ρ c 3).trans (final0_3 (V1 m ρ) c Q K W (entry_q m ρ c Q h0) (entry_k m ρ c K h1) (entry_v m ρ c W h2)))

include h0 h1 h2 h3 in
theorem end_q : W3 m ρ c (Proc.devRef .tc main_v10_0) = fun j => (dqA Q G K W (j 0) (j 1) : EReal) :=
  (W3_arr m ρ c 5).trans (final1_5 (V2 m ρ) c Q G K W
    (fun r J => (congrFun (keep0 m ρ c main_v5 (by decide)) _).trans (entry_q m ρ c Q h0 r J))
    (fun r J => (congrFun (keep0 m ρ c main_v6 (by decide)) _).trans (entry_k m ρ c K h1 r J))
    (fun r J => (congrFun (keep0 m ρ c main_v7 (by decide)) _).trans (entry_v m ρ c W h2 r J))
    (fun r J => (congrFun (keep0 m ρ c main_v8 (by decide)) _).trans (entry_g m ρ c G h3 r J))
    (entry_l m ρ c Q K h0 h1))

include h0 h1 h2 h3 in
theorem end_k : W3 m ρ c (Proc.devRef .tc main_v10_1) = fun j => (dkA Q G K W (j 0) (j 1) : EReal) :=
  (W3_arr m ρ c 6).trans (final1_6 (V2 m ρ) c Q G K W
    (fun r J => (congrFun (keep0 m ρ c main_v5 (by decide)) _).trans (entry_q m ρ c Q h0 r J))
    (fun r J => (congrFun (keep0 m ρ c main_v6 (by decide)) _).trans (entry_k m ρ c K h1 r J))
    (fun r J => (congrFun (keep0 m ρ c main_v7 (by decide)) _).trans (entry_v m ρ c W h2 r J))
    (fun r J => (congrFun (keep0 m ρ c main_v8 (by decide)) _).trans (entry_g m ρ c G h3 r J))
    (entry_l m ρ c Q K h0 h1))

include h0 h1 h3 in
theorem end_v : W3 m ρ c (Proc.devRef .tc main_v10_2) = fun j => (dvA Q G K (j 0) (j 1) : EReal) :=
  (W3_arr m ρ c 7).trans (final1_7 (V2 m ρ) c Q G K
    (fun r J => (congrFun (keep0 m ρ c main_v5 (by decide)) _).trans (entry_q m ρ c Q h0 r J))
    (fun r J => (congrFun (keep0 m ρ c main_v6 (by decide)) _).trans (entry_k m ρ c K h1 r J))
    (fun r J => (congrFun (keep0 m ρ c main_v8 (by decide)) _).trans (entry_g m ρ c G h3 r J))
    (entry_l m ρ c Q K h0 h1))

end Cert.AttnIdeal.Hand

namespace Cert.AttnIdeal.Hand

open Cert.AttnIdeal Cert.AttnIdeal.Gen Cert.AttnMath Idealize.ShloMosaic Idealize.ShloMosaic.TcCoe Idealize.ShloMosaic.Tactic Idealize.SL Idealize.SL.RA Idealize.SL.BI
open scoped Idealize.SL.BI
open Idealize.SL.BI.BIBase Idealize.SL.BI.Laws Idealize.SL.ProofMode Idealize.SL.Sem Idealize.ShloMosaic.Rounds

local notation "𝕄" => MT nD τ sig Unit (Elt Ideal) ℕ (UR sig nD τ) ℕ

set_option backward.isDefEq.respectTransparency.types false in
/-- From arguments that are real numbers the two kernels end with the attention and its three gradients, the arguments unchanged. -/
theorem run_math (m : (ℓ : Loc nD τ sig) → Buf (Elt Ideal) ℓ) (ρ : Dev nD → PrngReg) (Q G : Dev nD → Fin 4096 → Fin 2048 → ℝ) (K W : Dev nD → Fin 4096 → Fin 512 → ℝ)
    (h0 : ∀ c : Dev nD, ∀ r J, m ((c : Thread nD τ).loc main_arg0) (ix2 r J) = ((Q c r J * (Real.log 2 * √128) : ℝ) : EReal))
    (h1 : ∀ c : Dev nD, ∀ r J, m ((c : Thread nD τ).loc main_arg1) (ix2 r J) = (K c r J : EReal))
    (h2 : ∀ c : Dev nD, ∀ r J, m ((c : Thread nD τ).loc main_arg2) (ix2 r J) = (W c r J : EReal))
    (h3 : ∀ c : Dev nD, ∀ r J, m ((c : Thread nD τ).loc main_arg3) (ix2 r J) = (G c r J : EReal)) :
    θ_run defs (onTc (τ := τ) (main (F := Ideal))) ⟨m, fun _ => 0, ρ⟩ (fun r => ∀ c : Dev nD,
      r.2.mem ((c.tc : Thread nD τ).loc main_v9_0) = (fun j => (outA (Q c) (K c) (W c) (j 0) (j 1) : EReal))
      ∧ r.2.mem ((c.tc : Thread nD τ).loc main_v10_0) = (fun j => (dqA (Q c) (G c) (K c) (W c) (j 0) (j 1) : EReal))
      ∧ r.2.mem ((c.tc : Thread nD τ).loc main_v10_1) = (fun j => (dkA (Q c) (G c) (K c) (W c) (j 0) (j 1) : EReal))
      ∧ r.2.mem ((c.tc : Thread nD τ).loc main_v10_2) = (fun j => (dvA (Q c) (G c) (K c) (j 0) (j 1) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => fun c =>
      ⟨(h c _ (mem_uc main_v9_0 (by decide))).trans (end_o m ρ c (Q c) (K c) (W c) (h0 c) (h1 c) (h2 c)),
       (h c _ (mem_uc main_v10_0 (by decide))).trans (end_q m ρ c (Q c) (G c) (K c) (W c) (h0 c) (h1 c) (h2 c) (h3 c)),
       (h c _ (mem_uc main_v10_1 (by decide))).trans (end_k m ρ c (Q c) (G c) (K c) (W c) (h0 c) (h1 c) (h2 c) (h3 c)),
       (h c _ (mem_uc main_v10_2 (by decide))).trans (end_v m ρ c (Q c) (G c) (K c) (h0 c) (h1 c) (h3 c)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩)

end Cert.AttnIdeal.Hand

end
-- ==== Proof.AttnReference.lean ====
/- The reference's attention and its gradient: each of the four results over real arguments. -/
module

public import proofs.«01_k».proof.Proof.AttnHeads
public import proofs.«01_k».proof.Proof.Gen.AttnRefIdeal.Run
public import Idealize.ShloMosaic.Lib.Tactic.CleanTypes

@[expose] public section

set_option maxRecDepth 16384

noncomputable section

namespace Cert.AttnRefIdeal.Hand

open Cert.AttnRefIdeal Cert.AttnRefIdeal.Gen Cert.AttnMath Idealize.ShloMosaic Idealize.ShloMosaic.TcCoe Idealize.SL.Sem

variable (a0 : FVec Ideal S4096x2048 .f32) (a1 a2 : FVec Ideal S4096x512 .f32) (a3 : FVec Ideal S4096x2048 .f32)

/-- The queries over the square root of the head's width, by group, head and lane. -/
def rq : FVec Ideal S4096x4x4x128 .f32 :=
  shapeCast _ (Host.divf a0 (broadcastInDim S4096x2048 ![] bcast_S_S4096x2048 (Host.sqrt (constant S_ .f32 0x43000000#32)))) shapeCasts_S4096x2048_S4096x4x4x128
/-- Keys or values by group and lane. -/
def rk : FVec Ideal S4096x4x128 .f32 := shapeCast _ a1 shapeCasts_S4096x512_S4096x4x128
/-- The scores. -/
def rX : FVec Ideal S4x4x4096x4096 .f32 :=
  transpose S4x4x4096x4096 [0, 3, 2, 1] (Host.dotGeneral dot_S4096x4x128_S4096x4x4x128_S4x4096x4096x4_2_3_0_02_1_1 none (rk a1) (rq a0)) transposes_S4x4096x4096x4_S4x4x4096x4096_0_3_2_1
/-- The greatest of each row of the scores `X`. -/
def rM (X : FVec Ideal S4x4x4096x4096 .f32) : FVec Ideal S4x4x4096 .f32 :=
  Host.reduce FloatOps.maximumf X (constant S_ .f32 0xFF800000#32) reducesTo_S4x4x4096x4096_S4x4x4096_d3 h_S_
/-- The score a row's weights are taken against. -/
def rN (X : FVec Ideal S4x4x4096x4096 .f32) : FVec Ideal S4x4x4096 .f32 :=
  maximumf (broadcastInDim S4x4x4096 ![] bcast_S_S4x4x4096 (constant S_ .f32 0xFF800000#32)) (rM X)
/-- The same, for every key of the row. -/
def rB (X : FVec Ideal S4x4x4096x4096 .f32) : FVec Ideal S4x4x4096x4096 .f32 :=
  broadcastInDim S4x4x4096x4096 ![0, 1, 2, 3] bcast_S4x4x4096x1_S4x4x4096x4096_0_1_2_3 (broadcastInDim S4x4x4096x1 ![0, 1, 2] bcast_S4x4x4096_S4x4x4096x1_0_1_2 (rN X))
/-- The weights before they are normalised, of the scores `X`. -/
def rE (X : FVec Ideal S4x4x4096x4096 .f32) : FVec Ideal S4x4x4096x4096 .f32 := Host.exp (subf X (rB X))
/-- The sums of the weights `E`. -/
def rZ (E : FVec Ideal S4x4x4096x4096 .f32) : FVec Ideal S4x4x4096x1 .f32 :=
  broadcastInDim S4x4x4096x1 ![0, 1, 2] bcast_S4x4x4096_S4x4x4096x1_0_1_2 (Host.reduceAdd E (constant S_ .f32 0x00000000#32) reducesTo_S4x4x4096x4096_S4x4x4096_d3 h_S_)
/-- The normalised weights. -/
def rP (E : FVec Ideal S4x4x4096x4096 .f32) : FVec Ideal S4x4x4096x4096 .f32 :=
  Host.divf E (broadcastInDim S4x4x4096x4096 ![0, 1, 2, 3] bcast_S4x4x4096x1_S4x4x4096x4096_0_1_2_3 (rZ E))
/-- The output's gradient by group, lane and head. -/
def rG : FVec Ideal S4x128x4x4096 .f32 :=
  transpose S4x128x4x4096 [1, 3, 2, 0] (shapeCast _ a3 shapeCasts_S4096x2048_S4096x4x4x128) transposes_S4096x4x4x128_S4x128x4x4096_1_3_2_0
/-- The gradient at the normalised weights. -/
def rD : FVec Ideal S4x4x4096x4096 .f32 :=
  Host.dotGeneral dot_S4x128x4x4096_S4096x4x128_S4x4x4096x4096_1_2_23_0_0_1 none (rG a3) (rk a2)
/-- The gradient at the scores. -/
def rS (E D : FVec Ideal S4x4x4096x4096 .f32) : FVec Ideal S4x4x4096x4096 .f32 :=
  mulf (addf (Host.divf D (broadcastInDim S4x4x4096x4096 ![0, 1, 2, 3] bcast_S4x4x4096x1_S4x4x4096x4096_0_1_2_3 (rZ E)))
    (broadcastInDim S4x4x4096x4096 ![0, 1, 2] bcast_S4x4x4096_S4x4x4096x4096_0_1_2 (Host.reduceAdd (Host.negf (shapeCast _ (Host.reduceAdd
      (mulf (mulf D (broadcastInDim S4x4x4096x4096 ![0, 1, 2, 3] bcast_S4x4x4096x1_S4x4x4096x4096_0_1_2_3
        (Host.divf (broadcastInDim S4x4x4096x1 ![] bcast_S_S4x4x4096x1 (constant S_ .f32 0x3F800000#32)) (mulf (rZ E) (rZ E))))) E)
      (constant S_ .f32 0x00000000#32) reducesTo_S4x4x4096x4096_S4x4x4096_d3 h_S_) shapeCasts_S4x4x4096_S4x4x4096x1)) (constant S_ .f32 0x00000000#32) reducesTo_S4x4x4096x1_S4x4x4096_d3 h_S_))) E
/-- The gradient at the scores, the keys first. -/
def rT (S : FVec Ideal S4x4x4096x4096 .f32) : FVec Ideal S4x4096x4096x4 .f32 :=
  transpose S4x4096x4096x4 [0, 3, 2, 1] S transposes_S4x4x4096x4096_S4x4096x4096x4_0_3_2_1

/-- The output. -/
def outR (P : FVec Ideal S4x4x4096x4096 .f32) : FVec Ideal S4096x2048 .bf16 :=
  truncf .bf16 (shapeCast _ (transpose S4096x4x4x128 [3, 0, 2, 1] (Host.dotGeneral dot_S4096x4x128_S4x4x4096x4096_S4x128x4x4096_0_3_2_12_1_0 none (rk a2) P) transposes_S4x128x4x4096_S4096x4x4x128_3_0_2_1) shapeCasts_S4096x4x4x128_S4096x2048) bitsLt_bf16_f32
/-- The gradient at the queries. -/
def dqR (T : FVec Ideal S4x4096x4096x4 .f32) : FVec Ideal S4096x2048 .bf16 :=
  truncf .bf16 (shapeCast _ (transpose S4096x4x4x128 [1, 0, 2, 3] (Host.dotGeneral dot_S4x4096x4096x4_S4096x4x128_S4x4096x4x128_1_0_23_2_0_1 none T (rk a1)) transposes_S4x4096x4x128_S4096x4x4x128_1_0_2_3) shapeCasts_S4096x4x4x128_S4096x2048) bitsLt_bf16_f32
/-- The gradient at the keys. -/
def dkR (T : FVec Ideal S4x4096x4096x4 .f32) : FVec Ideal S512x4096 .f32 :=
  transpose S512x4096 [1, 0] (Host.divf (shapeCast _ (transpose S4096x4x128 [1, 0, 2] (Host.dotGeneral dot_S4x4096x4096x4_S4096x4x4x128_S4x4096x128_23_02_1_3_0_1 none T (rq a0)) transposes_S4x4096x128_S4096x4x128_1_0_2) shapeCasts_S4096x4x128_S4096x512) (broadcastInDim S4096x512 ![] bcast_S_S4096x512 (Host.log (constant S_ .f32 0x40000000#32)))) transposes_S4096x512_S512x4096_1_0
/-- The gradient at the values. -/
def dvR (P : FVec Ideal S4x4x4096x4096 .f32) : FVec Ideal S512x4096 .f32 :=
  transpose S512x4096 [1, 0] (shapeCast _ (transpose S4096x4x128 [2, 0, 1] (Host.dotGeneral dot_S4x128x4x4096_S4x4x4096x4096_S4x128x4096_23_12_1_3_0_0 none (rG a3) P) transposes_S4x128x4096_S4096x4x128_2_0_1) shapeCasts_S4096x4x128_S4096x512) transposes_S4096x512_S512x4096_1_0

variable (Q G : Fin 4096 → Fin 2048 → ℝ) (K W : Fin 4096 → Fin 512 → ℝ)
  (h0 : ∀ r J, a0 (ix2 r J) = ((Q r J * (Real.log 2 * √128) : ℝ) : EReal)) (h1 : ∀ r J, a1 (ix2 r J) = (K r J : EReal))
  (h2 : ∀ r J, a2 (ix2 r J) = (W r J : EReal)) (h3 : ∀ r J, a3 (ix2 r J) = (G r J : EReal))

/-- The root of the head's width. -/
theorem root_eq : Ideal.sqrt (Ideal.ofBits FTy.f32 0x43000000#32) = ((√128 : ℝ) : EReal) := by
  have h128 : Ideal.ofBits FTy.f32 0x43000000#32 = ((128 : ℝ) : EReal) := by
    simp [Ideal.ofBits, Ideal.ieee, -EReal.coe_mul]; norm_num
  rw [h128, Ideal.sqrt_coe, if_neg (by norm_num)]

include h0 in
theorem rq_at (r : Fin 4096) (j g : Fin 4) (d : Fin 128) : rq a0 (ix4 r j g d) = ((Real.log 2 * qr Q (hg j g) r d : ℝ) : EReal) := by
  have hs : √(128 : ℝ) ≠ 0 := by positivity
  pointwise [rq, h0, root_eq]
  rw [div_coe _ _ hs]
  refine congrArg _ ?_
  rw [← mul_assoc, mul_div_cancel_right₀ _ hs, mul_comm, qr]
  exact congrArg (Real.log 2 * Q r ·) (Fin.ext (by simp [hg]; omega))

include h1 in
theorem rk_at (r : Fin 4096) (j : Fin 4) (d : Fin 128) : rk a1 (ix3 r j d) = (kr K j r d : EReal) := by
  pointwise [rk, h1]
  rfl

include h3 in
theorem rG_at (j : Fin 4) (d : Fin 128) (g : Fin 4) (r : Fin 4096) : rG a3 (ix4 j d g r) = (qr G (hg j g) r d : EReal) := by
  pointwise [rG, h3]
  exact congrArg (fun x => (G r x : EReal)) (Fin.ext (by simp [hg]; omega))

include h0 h1 in
theorem rX_at (j g : Fin 4) (r s : Fin 4096) : rX a0 a1 (ix4 j g r s) = ((Real.log 2 * sc (qr Q (hg j g) r) (kr K j) s : ℝ) : EReal) := by
  pointwise [rX, rq_at a0 Q h0, rk_at a1 K h1]
  rw [sum_mul_coe, sc, Finset.mul_sum]
  exact congrArg _ (Finset.sum_congr rfl fun d _ => by ring)

include h2 h3 in
theorem rD_at (j g : Fin 4) (r s : Fin 4096) : rD a2 a3 (ix4 j g r s) = (dp (kr W j) (qr G (hg j g) r) s : EReal) := by
  pointwise [rD, rG_at a3 G h3, rk_at a2 W h2]
  exact sum_mul_coe _ _ _

/-- The greatest score of a row. -/
theorem rM_at (X : FVec Ideal S4x4x4096x4096 .f32) (j g : Fin 4) (r : Fin 4096) :
    rM X (ix3 j g r) = Finset.fold max (Ideal.ofBits FTy.f32 0xFF800000#32) (fun s => X (ix4 j g r s)) Finset.univ := by
  pointwise [rM]

/-- The greater of each element and the least number there is. -/
theorem max_at (u : FVec Ideal S4x4x4096 .f32) (i : S4x4x4096.Idx) :
    maximumf (broadcastInDim S4x4x4096 ![] bcast_S_S4x4x4096 (constant S_ .f32 0xFF800000#32)) u i = max (Ideal.ofBits FTy.f32 0xFF800000#32) (u i) := rfl

/-- The score a row's weights are taken against is the greatest. -/
theorem rN_at (X : FVec Ideal S4x4x4096x4096 .f32) (j g : Fin 4) (r : Fin 4096) :
    rN X (ix3 j g r) = max (Ideal.ofBits FTy.f32 0xFF800000#32) (rM X (ix3 j g r)) := by
  unfold rN
  exact max_at _ _

/-- Every key of a row has the same. -/
theorem rB_at (X : FVec Ideal S4x4x4096x4096 .f32) (j g : Fin 4) (r s : Fin 4096) : rB X (ix4 j g r s) = rN X (ix3 j g r) := by
  pointwise [rB]

/-- A weight by the score and the greatest score of its row. -/
theorem rE_eq (X : FVec Ideal S4x4x4096x4096 .f32) (j g : Fin 4) (r s : Fin 4096) :
    rE X (ix4 j g r s) = Ideal.exp (X (ix4 j g r s) - rN X (ix3 j g r)) :=
  (show rE X (ix4 j g r s) = Ideal.exp (X (ix4 j g r s) - rB X (ix4 j g r s)) from rfl).trans (by rw [rB_at])

/-- A sum of weights. -/
theorem rZ_at (E : FVec Ideal S4x4x4096x4096 .f32) (j g : Fin 4) (r : Fin 4096) (u : Fin 1) : rZ E (ix4 j g r u) = ∑ s, E (ix4 j g r s) := by
  pointwise [rZ]

/-- A normalised weight. -/
theorem rP_eq (E : FVec Ideal S4x4x4096x4096 .f32) (j g : Fin 4) (r s : Fin 4096) : rP E (ix4 j g r s) = Ideal.div (E (ix4 j g r s)) (∑ s, E (ix4 j g r s)) := by
  pointwise [rP]
  rw [rZ_at]

/-- A gradient at a score. -/
theorem rS_eq (E D : FVec Ideal S4x4x4096x4096 .f32) (j g : Fin 4) (r s : Fin 4096) :
    rS E D (ix4 j g r s) = (Ideal.div (D (ix4 j g r s)) (∑ s, E (ix4 j g r s))
      + -∑ x, D (ix4 j g r x) * Ideal.div 1 ((∑ s, E (ix4 j g r s)) * ∑ s, E (ix4 j g r s)) * E (ix4 j g r x)) * E (ix4 j g r s) := by
  have e : rS E D (ix4 j g r s) = (Ideal.div (D (ix4 j g r s)) (rZ E (ix4 j g r 0)) +
        ∑ x : Fin 1, -∑ x, D (ix4 j g r x) * Ideal.div 1 (rZ E (ix4 j g r 0) * rZ E (ix4 j g r 0)) * E (ix4 j g r x)) * E (ix4 j g r s) := by
    pointwise [rS]
  rw [e, rZ_at, Fin.sum_univ_one]

/-- Every weight of a row is taken against one real number. -/
theorem rE_at (X : FVec Ideal S4x4x4096x4096 .f32) (j g : Fin 4) (r : Fin 4096) (x : Fin 4096 → ℝ) (hX : ∀ s, X (ix4 j g r s) = (x s : EReal)) :
    ∃ M : ℝ, ∀ s, rE X (ix4 j g r s) = Ideal.exp ((x s : EReal) - (M : EReal)) := by
  obtain ⟨M, hM⟩ := max_coe x
  refine ⟨M, fun s => ?_⟩
  have hb : Ideal.ofBits FTy.f32 0xFF800000#32 = (⊥ : EReal) := by simp [Ideal.ofBits, Ideal.ieee]
  rw [rE_eq, rN_at, rM_at]
  simp only [hX]
  rw [hM, hb, max_eq_right bot_le]

include h0 h1 in
theorem rP_at (j g : Fin 4) (r s : Fin 4096) : rP (rE (rX a0 a1)) (ix4 j g r s) = (pr (qr Q (hg j g) r) (kr K j) s : EReal) := by
  obtain ⟨M, hM⟩ := rE_at (rX a0 a1) j g r _ (rX_at a0 a1 Q K h0 h1 j g r)
  rw [rP_eq]
  simp only [hM]
  exact pr_ref _ _ M s

include h0 h1 h2 h3 in
theorem rS_at (j g : Fin 4) (r s : Fin 4096) :
    rS (rE (rX a0 a1)) (rD a2 a3) (ix4 j g r s) = (ds (qr Q (hg j g) r) (kr K j) (kr W j) (qr G (hg j g) r) s : EReal) := by
  obtain ⟨M, hM⟩ := rE_at (rX a0 a1) j g r _ (rX_at a0 a1 Q K h0 h1 j g r)
  rw [rS_eq]
  simp only [hM, rD_at a2 a3 G W h2 h3]
  exact ds_ref _ _ _ _ M s

theorem rT_at (S : FVec Ideal S4x4x4096x4096 .f32) (j g : Fin 4) (r s : Fin 4096) : rT S (ix4 j s r g) = S (ix4 j g r s) := by
  pointwise [rT]

include h0 h1 h2 in
theorem outR_at (r : Fin 4096) (J : Fin 2048) : outR a2 (rP (rE (rX a0 a1))) (ix2 r J) = (outA Q K W r J : EReal) := by
  pointwise [outR]
  simp only [rk_at a2 W h2, rP_at a0 a1 Q K h0 h1]
  rw [sum_mul_coe]
  refine congrArg _ (Eq.trans ?_ (outA_at Q K W ⟨J.val / 512, by omega⟩ ⟨J.val / 128 % 4, by omega⟩ r ⟨J.val % 128, by omega⟩ rfl (by simp; omega)))
  exact Finset.sum_congr rfl fun s _ => mul_comm _ _

include h0 h1 h2 h3 in
theorem dqR_at (r : Fin 4096) (J : Fin 2048) : dqR a1 (rT (rS (rE (rX a0 a1)) (rD a2 a3))) (ix2 r J) = (dqA Q G K W r J : EReal) := by
  pointwise [dqR]
  simp only [rT_at, rk_at a1 K h1, rS_at a0 a1 a2 a3 Q G K W h0 h1 h2 h3]
  rw [sum_mul_coe]
  exact congrArg _ (dqA_at Q G K W ⟨J.val / 512, by omega⟩ ⟨J.val / 128 % 4, by omega⟩ r ⟨J.val % 128, by omega⟩ rfl (by simp; omega))

/-- The logarithm of two. -/
theorem log_eq : Ideal.log (Ideal.ofBits FTy.f32 0x40000000#32) = ((Real.log 2 : ℝ) : EReal) := by
  have h2 : Ideal.ofBits FTy.f32 0x40000000#32 = ((2 : ℝ) : EReal) := by
    simp [Ideal.ofBits, Ideal.ieee, -EReal.coe_mul]; norm_num
  rw [h2, Ideal.log_coe, if_neg (by norm_num)]

include h0 h1 h2 h3 in
theorem dkR_at (J : Fin 512) (s : Fin 4096) : dkR a0 (rT (rS (rE (rX a0 a1)) (rD a2 a3))) (ix2 J s) = (dkA Q G K W J s : EReal) := by
  have hl := log_two.ne'
  pointwise [dkR]
  simp only [rT_at, rq_at a0 Q h0, rS_at a0 a1 a2 a3 Q G K W h0 h1 h2 h3]
  simp only [sum_mul_coe, sum_coe]
  rw [log_eq, div_coe _ _ hl]
  refine congrArg _ ?_
  rw [dkA, Finset.sum_comm, Finset.sum_div]
  refine Finset.sum_congr rfl fun g _ => ?_
  rw [Finset.sum_div]
  refine Finset.sum_congr rfl fun r _ => ?_
  field_simp

include h0 h1 h2 h3 in
theorem dvR_at (J : Fin 512) (s : Fin 4096) : dvR a3 (rP (rE (rX a0 a1))) (ix2 J s) = (dvA Q G K J s : EReal) := by
  pointwise [dvR]
  simp only [rG_at a3 G h3, rP_at a0 a1 Q K h0 h1]
  simp only [sum_mul_coe, sum_coe]
  rfl

/-- The reference's four results are the terms above. -/
theorem run_terms (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v64) = outR (m ((c : Thread nD τ).loc main_arg2)) (rP (rE (rX (m ((c : Thread nD τ).loc main_arg0)) (m ((c : Thread nD τ).loc main_arg1)))))
      ∧ r.2.mem ((c.tc : Thread nD τ).loc main_v65) = dqR (m ((c : Thread nD τ).loc main_arg1)) (rT (rS (rE (rX (m ((c : Thread nD τ).loc main_arg0)) (m ((c : Thread nD τ).loc main_arg1)))) (rD (m ((c : Thread nD τ).loc main_arg2)) (m ((c : Thread nD τ).loc main_arg3)))))
      ∧ r.2.mem ((c.tc : Thread nD τ).loc main_v69) = dkR (m ((c : Thread nD τ).loc main_arg0)) (rT (rS (rE (rX (m ((c : Thread nD τ).loc main_arg0)) (m ((c : Thread nD τ).loc main_arg1)))) (rD (m ((c : Thread nD τ).loc main_arg2)) (m ((c : Thread nD τ).loc main_arg3)))))
      ∧ r.2.mem ((c.tc : Thread nD τ).loc main_v70) = dvR (m ((c : Thread nD τ).loc main_arg3)) (rP (rE (rX (m ((c : Thread nD τ).loc main_arg0)) (m ((c : Thread nD τ).loc main_arg1)))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run _ _ _).mono (fun r h c => ⟨(h c).1.trans ?_, (h c).2.1.trans ?_, (h c).2.2.1.trans ?_, (h c).2.2.2.1.trans ?_, (h c).2.2.2.2⟩) (Cert.AttnRefIdeal.Value.run m ρ)
  all_goals clear h r
  · unfold outR rP rZ rE rB rN rM rX rk rq
    rfl
  · unfold Cert.AttnRefIdeal.Value.res_main_v65 dqR rT rS rD rG rZ rE rB rN rM rX rk rq
    rfl
  · unfold Cert.AttnRefIdeal.Value.res_main_v69 dkR rT rS rD rG rZ rE rB rN rM rX rk rq
    rfl
  · unfold dvR rG rP rZ rE rB rN rM rX rk rq
    rfl

/-- From arguments that are real numbers the reference ends with the attention and its three gradients. -/
theorem run_math (m : (ℓ : Loc nD τ sig) → Buf (Elt Ideal) ℓ) (ρ : Dev nD → PrngReg) (Q G : Dev nD → Fin 4096 → Fin 2048 → ℝ) (K W : Dev nD → Fin 4096 → Fin 512 → ℝ)
    (h0 : ∀ c : Dev nD, ∀ r J, m ((c : Thread nD τ).loc main_arg0) (ix2 r J) = ((Q c r J * (Real.log 2 * √128) : ℝ) : EReal))
    (h1 : ∀ c : Dev nD, ∀ r J, m ((c : Thread nD τ).loc main_arg1) (ix2 r J) = (K c r J : EReal))
    (h2 : ∀ c : Dev nD, ∀ r J, m ((c : Thread nD τ).loc main_arg2) (ix2 r J) = (W c r J : EReal))
    (h3 : ∀ c : Dev nD, ∀ r J, m ((c : Thread nD τ).loc main_arg3) (ix2 r J) = (G c r J : EReal)) :
    θ_run defs (onTc (τ := τ) (main (F := Ideal))) ⟨m, fun _ => 0, ρ⟩ (fun r => ∀ c : Dev nD,
      r.2.mem ((c.tc : Thread nD τ).loc main_v64) = (fun j => (outA (Q c) (K c) (W c) (j 0) (j 1) : EReal))
      ∧ r.2.mem ((c.tc : Thread nD τ).loc main_v65) = (fun j => (dqA (Q c) (G c) (K c) (W c) (j 0) (j 1) : EReal))
      ∧ r.2.mem ((c.tc : Thread nD τ).loc main_v69) = (fun j => (dkA (Q c) (G c) (K c) (W c) (j 0) (j 1) : EReal))
      ∧ r.2.mem ((c.tc : Thread nD τ).loc main_v70) = (fun j => (dvA (Q c) (G c) (K c) (j 0) (j 1) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run _ _ _).mono (fun r h c => ⟨(h c).1.trans ?_, (h c).2.1.trans ?_, (h c).2.2.1.trans ?_, (h c).2.2.2.1.trans ?_, (h c).2.2.2.2⟩) (run_terms m ρ)
  all_goals clear h r
  · exact funext fun j => (congrArg _ (eq_ix2 (n0 := 4096) (n1 := 2048) j)).trans (outR_at _ _ _ (Q c) (K c) (W c) (h0 c) (h1 c) (h2 c) (j 0) (j 1))
  · exact funext fun j => (congrArg _ (eq_ix2 (n0 := 4096) (n1 := 2048) j)).trans (dqR_at _ _ _ _ (Q c) (G c) (K c) (W c) (h0 c) (h1 c) (h2 c) (h3 c) (j 0) (j 1))
  · exact funext fun j => (congrArg _ (eq_ix2 (n0 := 512) (n1 := 4096) j)).trans (dkR_at _ _ _ _ (Q c) (G c) (K c) (W c) (h0 c) (h1 c) (h2 c) (h3 c) (j 0) (j 1))
  · exact funext fun j => (congrArg _ (eq_ix2 (n0 := 512) (n1 := 4096) j)).trans (dvR_at _ _ _ _ (Q c) (G c) (K c) (W c) (h0 c) (h1 c) (h2 c) (h3 c) (j 0) (j 1))

end Cert.AttnRefIdeal.Hand

end
-- ==== Proof.AttnFinite.lean ====
/- What the precondition says: every element of the four arguments is a real number. -/
module

public import proofs.«01_k».proof.Defs
public import proofs.«01_k».proof.Proof.Gen.Pre_attn_finite
public import Idealize.ShloMosaic.Lib.Pointwise
public import Idealize.ShloMosaic.Lib.ReduceAll

@[expose] public section

set_option maxRecDepth 16384

noncomputable section

namespace Cert.Pre_attn_finite.Hand

open Cert.Pre_attn_finite Cert.Pre_attn_finite.Gen Idealize.ShloMosaic

/-- A number whose absolute value compares less than infinity is real. -/
theorem real_of_lt (x : Ideal .f32) (h : FloatOps.cmpf (F := Ideal) (φ := .f32) .olt (FloatOps.absf x) (Ideal.ofBits FTy.f32 0x7F800000#32) = 1#1) : ∃ r : ℝ, x = (r : EReal) := by
  have ht : Ideal.ofBits FTy.f32 0x7F800000#32 = (⊤ : EReal) := by simp [Ideal.ofBits, Ideal.ieee]
  rw [ht] at h
  induction x using EReal.rec with
  | bot => exact absurd h (by simp [FloatOps.cmpf, FloatOps.absf, Ideal.cmp])
  | coe r => exact ⟨r, rfl⟩
  | top => exact absurd h (by simp [FloatOps.cmpf, FloatOps.absf, Ideal.cmp])

/-- An array over all heads that passes the comparison everywhere. -/
theorem all_real_q (a : FVec Ideal S4096x2048 .f32)
    (e : Host.reduce IntOp.andi (cmpf .olt (Host.absf a) (broadcastInDim S4096x2048 ![] bcast_S_S4096x2048 (constant S_ .f32 0x7F800000#32))) (constantI S_ 1 1#1) reducesTo_S4096x2048_S_d0_1 h_S_ ix0 = 1#1)
    (i : S4096x2048.Idx) : ∃ r : ℝ, a i = (r : EReal) :=
  real_of_lt _ (Host.reduce_andi_all _ _ _ _ _ e i)

/-- An array over the groups that passes the comparison everywhere. -/
theorem all_real_k (a : FVec Ideal S4096x512 .f32)
    (e : Host.reduce IntOp.andi (cmpf .olt (Host.absf a) (broadcastInDim S4096x512 ![] bcast_S_S4096x512 (constant S_ .f32 0x7F800000#32))) (constantI S_ 1 1#1) reducesTo_S4096x512_S_d0_1 h_S_ ix0 = 1#1)
    (i : S4096x512.Idx) : ∃ r : ℝ, a i = (r : EReal) :=
  real_of_lt _ (Host.reduce_andi_all _ _ _ _ _ e i)

/-- The conjunction of the four comparisons is each of them. -/
theorem each (u v w x : IVec S_ 1) (e : fn_part1 (F := Ideal) u v w x ix0 = 1#1) : u ix0 = 1#1 ∧ v ix0 = 1#1 ∧ w ix0 = 1#1 ∧ x ix0 = 1#1 := by
  dsimp only [fn_part1] at e
  have k0 := Host.reduce_andi_all _ _ _ _ _ e (ix1 0)
  have k1 := Host.reduce_andi_all _ _ _ _ _ e (ix1 1)
  have k2 := Host.reduce_andi_all _ _ _ _ _ e (ix1 2)
  have k3 := Host.reduce_andi_all _ _ _ _ _ e (ix1 3)
  refine ⟨Eq.trans (Eq.symm ?_) k0, Eq.trans (Eq.symm ?_) k1, Eq.trans (Eq.symm ?_) k2, Eq.trans (Eq.symm ?_) k3⟩
  all_goals pointwise

/-- Every element of the four arguments is a real number. -/
theorem pre (a0 : FVec Ideal S4096x2048 .f32) (a1 a2 : FVec Ideal S4096x512 .f32) (a3 : FVec Ideal S4096x2048 .f32)
    (h : fn (F := Ideal) a0 a1 a2 a3 = fun _ => 1#1) : (∀ i, ∃ r : ℝ, a0 i = (r : EReal)) ∧ (∀ i, ∃ r : ℝ, a1 i = (r : EReal)) ∧ (∀ i, ∃ r : ℝ, a2 i = (r : EReal)) ∧ ∀ i, ∃ r : ℝ, a3 i = (r : EReal) := by
  have e := congrFun h ix0
  dsimp only [fn] at e
  obtain ⟨k0, k1, k2, k3⟩ := each _ _ _ _ e
  exact ⟨all_real_q a0 k0, all_real_k a1 k1, all_real_k a2 k2, all_real_q a3 k3⟩

end Cert.Pre_attn_finite.Hand

end
-- ==== Proof.AttnClaim.lean ====
/- The attention kernels and their reference end with equal results on finite arguments. -/
module

public import proofs.«01_k».proof.Proof.AttnRun
public import proofs.«01_k».proof.Proof.AttnReference
public import proofs.«01_k».proof.Proof.AttnFinite

@[expose] public section

set_option maxRecDepth 16384

noncomputable section

namespace Cert.AttnIdeal.Hand

open Cert.AttnMath Idealize.ShloMosaic Idealize.ShloMosaic.TcCoe Idealize.SL.Sem

/-- The constant of the kernels that is written as a number is the reciprocal of the logarithm of two. -/
theorem preserves : Cert.preserves_Attn_AttnIdeal := IdealRules.named_const.statement Cert.AttnIdeal.κ "log2e" .f32 0x3FB8AA3B#32 _ rfl

/-- The reference of the attention runs and leaves its arguments and every counter as they were. -/
theorem ref_frame : Cert.quiescent_AttnRefIdeal := by
  intro m g _
  exact (θ_run _ _ _).mono (fun r h => ⟨fun c => (h c).2.2.2.2, sem_eq_zero_of_no_sems (by decide) r.2⟩) (AttnRefIdeal.Hand.run_terms m g)

/-- The same on finite arguments. -/
theorem ref_frame_pre : Cert.quiescent_AttnRefIdeal_pre_attn_finite := by
  intro m g _
  exact ref_frame m g trivial

/-- Kernel and reference, run from finite memories that agree on the four arguments, end with the same output and the same three gradients. -/
theorem algebraic : Cert.algebraic_AttnIdeal_AttnRefIdeal_pre_attn_finite := by
  intro m g m' g' hpre hag
  have hs : Real.log 2 * √128 ≠ 0 := mul_ne_zero log_two.ne' (by positivity)
  have hp := fun c : Dev AttnIdeal.nD => Pre_attn_finite.Hand.pre _ _ _ _ (hpre c)
  choose q hq using fun c => (hp c).1
  choose k hk using fun c => (hp c).2.1
  choose w hw using fun c => (hp c).2.2.1
  choose d hd using fun c => (hp c).2.2.2
  have h0 : ∀ c : Dev AttnIdeal.nD, ∀ r J, m ((c : Thread AttnIdeal.nD AttnIdeal.τ).loc AttnIdeal.main_arg0) (ix2 r J)
      = (((fun r J => q c (ix2 r J) / (Real.log 2 * √128)) r J * (Real.log 2 * √128) : ℝ) : EReal) := fun c r J => by
    refine (hq c (ix2 r J)).trans (congrArg _ ?_)
    exact (div_mul_cancel₀ _ hs).symm
  refine ⟨_, _, _, _, AttnIdeal.Hand.run_math m g (fun c r J => q c (ix2 r J) / (Real.log 2 * √128)) (fun c r J => d c (ix2 r J)) (fun c r J => k c (ix2 r J)) (fun c r J => w c (ix2 r J))
      h0 (fun c r J => hk c (ix2 r J)) (fun c r J => hw c (ix2 r J)) (fun c r J => hd c (ix2 r J)),
    AttnRefIdeal.Hand.run_math m' g' (fun c r J => q c (ix2 r J) / (Real.log 2 * √128)) (fun c r J => d c (ix2 r J)) (fun c r J => k c (ix2 r J)) (fun c r J => w c (ix2 r J))
      (fun c r J => (congrFun (hag c).1 (ix2 r J)).trans (h0 c r J)) (fun c r J => (congrFun (hag c).2.1 (ix2 r J)).trans (hk c (ix2 r J)))
      (fun c r J => (congrFun (hag c).2.2.1 (ix2 r J)).trans (hw c (ix2 r J))) (fun c r J => (congrFun (hag c).2.2.2 (ix2 r J)).trans (hd c (ix2 r J)))⟩

end Cert.AttnIdeal.Hand

end
-- ==== Proof.ProdMath.lean ====
/- Products of two matrices as plain sums, index by index. -/
module

public import Idealize.ShloMosaic.Lib.Pipeline.ValueKit
public import Idealize.ShloMosaic.Lib.Pointwise

@[expose] public section

set_option maxRecDepth 16384

noncomputable section

namespace Cert.ProdMath

open Idealize.ShloMosaic Idealize.SL.Sem

variable {m k n : ℕ}

/-- Rows of the first matrix against columns of the second. -/
def nn (a : FVec Ideal ⟨2, ![m, k]⟩ .bf16) (b : FVec Ideal ⟨2, ![k, n]⟩ .bf16) (r : Fin m) (c : Fin n) : EReal :=
  ∑ x, a (ix2 r x) * b (ix2 x c)
/-- Rows of the first matrix against rows of the second. -/
def nt (a : FVec Ideal ⟨2, ![m, k]⟩ .bf16) (b : FVec Ideal ⟨2, ![n, k]⟩ .bf16) (r : Fin m) (c : Fin n) : EReal :=
  ∑ x, a (ix2 r x) * b (ix2 c x)

/-- Columns of the first matrix against columns of the second. -/
def tn (a : FVec Ideal ⟨2, ![k, m]⟩ .bf16) (b : FVec Ideal ⟨2, ![k, n]⟩ .bf16) (r : Fin m) (c : Fin n) : EReal :=
  ∑ x, a (ix2 x r) * b (ix2 x c)

/-- The product of two matrices. -/
def Pnn (a : FVec Ideal ⟨2, ![m, k]⟩ .bf16) (b : FVec Ideal ⟨2, ![k, n]⟩ .bf16) : FVec Ideal ⟨2, ![m, n]⟩ .bf16 :=
  fun j => nn a b (j 0) (j 1)
/-- The product of one matrix and the transpose of another. -/
def Pnt (a : FVec Ideal ⟨2, ![m, k]⟩ .bf16) (b : FVec Ideal ⟨2, ![n, k]⟩ .bf16) : FVec Ideal ⟨2, ![m, n]⟩ .bf16 :=
  fun j => nt a b (j 0) (j 1)
/-- The product of the transpose of one matrix and another: the rows from `p` on, the columns from `q` on. -/
def Ptn (p q : ℕ) {m' n' : ℕ} (hp : p + m' ≤ m) (hq : q + n' ≤ n) (a : FVec Ideal ⟨2, ![k, m]⟩ .bf16) (b : FVec Ideal ⟨2, ![k, n]⟩ .bf16) : FVec Ideal ⟨2, ![m', n']⟩ .f32 :=
  fun j => tn a b ⟨p + (j 0).val, lt_of_lt_of_le (Nat.add_lt_add_left (j 0).isLt p) hp⟩ ⟨q + (j 1).val, lt_of_lt_of_le (Nat.add_lt_add_left (j 1).isLt q) hq⟩
/-- Such a part of a product, added to what landed. -/
def Padd {m' n' : ℕ} (u v : FVec Ideal ⟨2, ![m', n']⟩ .f32) : FVec Ideal ⟨2, ![m', n']⟩ .bf16 := fun j => u j + v j
/-- The product of two matrices, every element's positive part squared. -/
def Prelu2 (a : FVec Ideal ⟨2, ![m, k]⟩ .bf16) (b : FVec Ideal ⟨2, ![k, n]⟩ .bf16) : FVec Ideal ⟨2, ![m, n]⟩ .bf16 :=
  fun j => max (nn a b (j 0) (j 1)) 0 * max (nn a b (j 0) (j 1)) 0
/-- The gradient before the squared positive part: the gradient after it times twice the positive part. -/
def Pdrelu2 (a : FVec Ideal ⟨2, ![m, k]⟩ .bf16) (b : FVec Ideal ⟨2, ![n, k]⟩ .bf16) (u : FVec Ideal ⟨2, ![m, n]⟩ .bf16) : FVec Ideal ⟨2, ![m, n]⟩ .bf16 :=
  fun j => nt a b (j 0) (j 1) * (2 * max (u (ix2 (j 0) (j 1))) 0)

/-- The constant two. -/
theorem two_const : Ideal.ofBits FTy.f32 0x40000000#32 = (2 : EReal) := by
  simp [Ideal.ofBits, Ideal.ieee, -EReal.coe_mul]
  norm_num
  rfl

/-- Choosing zero where the argument isn't positive changes nothing: its positive part is zero there. -/
theorem drelu2 (p u : EReal) : (if 0 < u then p * (Ideal.ofBits FTy.f32 0x40000000#32 * max u 0) else 0) = p * (2 * max u 0) := by
  rw [two_const]
  split_ifs with h
  · rfl
  · rw [max_eq_right (not_lt.1 h), mul_zero, mul_zero]

end Cert.ProdMath

end
-- ==== Proof.DActProd.lean ====
/- The gradient at the MLP's inner activation: kernel and reference both are one product, times the derivative of the squared positive part. -/
module

public import proofs.«01_k».proof.Defs
public import proofs.«01_k».proof.Proof.ProdMath
public import proofs.«01_k».proof.Proof.Gen.DActIdeal.Value
public import proofs.«01_k».proof.Proof.Gen.DActRefIdeal.Run
public import Idealize.ShloMosaic.Lib.Tactic.CleanTypes
public import Idealize.ShloMosaic.Lib.Claim

@[expose] public section

set_option maxRecDepth 16384

noncomputable section

namespace Cert.DActIdeal.Hand

open Cert.DActIdeal Cert.DActIdeal.Gen Cert.ProdMath Idealize.ShloMosaic Idealize.ShloMosaic.TcCoe Idealize.SL.Sem

variable (m : (ℓ : Loc nD τ sig) → Buf (Elt Ideal) ℓ)

/-- Which block of its array each window holds at grid point `t`. -/
theorem idx_val : ∀ t : Fin cfg0.N, win0_0.index t = ![t.val / 8, 0] ∧ win0_1.index t = ![t.val % 8, 0] ∧ win0_2.index t = ![t.val / 8, t.val % 8] ∧ win0_3.index t = ![t.val / 8, t.val % 8] :=
  (by decide +kernel : ∀ t : Fin grid0.N, _)

/-- One element of the stored block. -/
theorem k0_pay1_at (a : FVec Ideal ⟨2, ![1024, 2048]⟩ .bf16) (b : FVec Ideal ⟨2, ![1024, 2048]⟩ .bf16) (u : FVec Ideal ⟨2, ![1024, 1024]⟩ .bf16) (r l : Fin 1024) :
    k0_pay1 (F := Ideal) a b u (ix2 r l) = (∑ x : Fin 2048, a (ix2 r x) * b (ix2 l x)) * (2 * max (u (ix2 r l)) 0) := by
  pointwise [k0_pay1]
  rw [two_const]

section Blocks
variable (c : Dev nD) (t : Fin cfg0.N)

/-- The first block's rows are rows of the first argument. -/
theorem blk0 (r : Fin 1024) (x : Fin 2048) (R : Fin 4096) (hR : R.val = (t.val / 8) * 1024 + r.val) : iblk m c 0 t (ix2 r x) = m ((c : Thread nD τ).loc main_arg0) (ix2 R x) := by
  blk_point [iblk, V, idx_val t]
/-- The second block's lanes are lanes of the second argument. -/
theorem blk1 (l : Fin 1024) (x : Fin 2048) (C : Fin 8192) (hC : C.val = (t.val % 8) * 1024 + l.val) : iblk m c 1 t (ix2 l x) = m ((c : Thread nD τ).loc main_arg1) (ix2 C x) := by
  blk_point [iblk, V, idx_val t]
/-- The third block is a tile of the third argument. -/
theorem blk2 (r l : Fin 1024) (R : Fin 4096) (C : Fin 8192) (hR : R.val = (t.val / 8) * 1024 + r.val) (hC : C.val = (t.val % 8) * 1024 + l.val) : iblk m c 2 t (ix2 r l) = m ((c : Thread nD τ).loc main_arg2) (ix2 R C) := by
  blk_point [iblk, V, idx_val t]
end Blocks

/-- A row of a block is a row of the array. -/
theorem row_lt (t : Fin cfg0.N) (r : Fin 1024) : (t.val / 8) * 1024 + r.val < 4096 := by
  have := lt_of_lt_of_eq t.isLt N_0; omega
/-- A lane of a block is a lane of the array. -/
theorem col_lt (t : Fin cfg0.N) (l : Fin 1024) : (t.val % 8) * 1024 + l.val < 8192 := by
  have := lt_of_lt_of_eq t.isLt N_0; omega

/-- The array of window 3 after the last grid point. -/
theorem final3 (c : Dev nD) : (dats m 0 c).arrAt 3 (cfgs 0).N = Pdrelu2 (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  refine (congrArg _ (eq_ix2 (n0 := 1024) (n1 := 1024) y)).trans ((k0_pay1_at _ _ _ _ _).trans ?_)
  have e : ∀ x : Fin 2048, _ := fun x => congrArg₂ (fun p q : EReal => p * q) (blk0 m c t (y 0) x ⟨_, row_lt t (y 0)⟩ rfl) (blk1 m c t (y 1) x ⟨_, col_lt t (y 1)⟩ rfl)
  refine Eq.trans ?_ (congrArg (Pdrelu2 (m ((c : Thread nD τ).loc main_arg0)) (m ((c : Thread nD τ).loc main_arg1)) (m ((c : Thread nD τ).loc main_arg2))) (show ix2 (n0 := 4096) (n1 := 8192) ⟨_, row_lt t (y 0)⟩ ⟨_, col_lt t (y 1)⟩ = _ by blk_ext [idx_val t]))
  exact congrArg₂ (fun p q : EReal => p * (2 * max q 0)) (Finset.sum_congr rfl fun x _ => e x) (blk2 m c t (y 0) (y 1) ⟨_, row_lt t (y 0)⟩ ⟨_, col_lt t (y 1)⟩ rfl rfl)

end Cert.DActIdeal.Hand

namespace Cert.DActRefIdeal.Hand

open Cert.DActRefIdeal Cert.DActRefIdeal.Gen Cert.ProdMath Idealize.ShloMosaic Idealize.ShloMosaic.TcCoe Idealize.SL.Sem

/-- The reference ends with its results at the same functions of the arguments, which it leaves as they were. -/
theorem run_math (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v15) = Pdrelu2 (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run _ _ _).mono (fun r h c => ⟨(h c).1.trans ?_, (h c).2⟩) (Cert.DActRefIdeal.Value.run m ρ)
  all_goals clear h r
  all_goals generalize m ((c : Thread nD τ).loc main_arg0) = a
  all_goals generalize m ((c : Thread nD τ).loc main_arg1) = b
  all_goals generalize m ((c : Thread nD τ).loc main_arg2) = u
  all_goals revert a b u
  all_goals clean_types
  · intro (a : FVec Ideal ⟨2, ![4096, 2048]⟩ .bf16) (b : FVec Ideal ⟨2, ![8192, 2048]⟩ .bf16) (u : FVec Ideal ⟨2, ![4096, 8192]⟩ .bf16)
    refine funext fun j => ?_
    idx_vars j
    pointwise [Pdrelu2, nt]
    exact drelu2 _ _

end Cert.DActRefIdeal.Hand

namespace Cert.DActIdeal.Hand

open Cert.ProdMath Idealize.ShloMosaic Idealize.ShloMosaic.TcCoe Idealize.SL.Sem

/-- Kernel and reference, run from memories that agree on the arguments, end with equal results. -/
theorem algebraic : Cert.algebraic_DActIdeal_DActRefIdeal := by
  intro m g m' g' _ hag
  refine ⟨fun c => Pdrelu2 (m ((c : Thread DActIdeal.nD DActIdeal.τ).loc DActIdeal.main_arg0)) (m ((c : Thread DActIdeal.nD DActIdeal.τ).loc DActIdeal.main_arg1)) (m ((c : Thread DActIdeal.nD DActIdeal.τ).loc DActIdeal.main_arg2)), ?_, ?_⟩
  · refine (θ_run _ _ _).mono (fun r h c => ?_) (DActIdeal.Value.run_blocks m g)
    obtain ⟨h0, ha⟩ := h c
    exact ⟨h0.trans (final3 m c), ha⟩
  · refine (θ_run _ _ _).mono (fun r h c => ?_) (DActRefIdeal.Hand.run_math m' g')
    obtain ⟨e0, e1, e2⟩ := hag c
    obtain ⟨h0, ha⟩ := h c
    refine ⟨?_, ha⟩
    · beta_reduce; rw [← e0, ← e1, ← e2]; exact h0

/-- The reference runs and leaves its arguments and every counter as they were. -/
theorem ref_frame : Cert.quiescent_DActRefIdeal := by
  intro m g _
  exact (θ_run _ _ _).mono (fun r h => ⟨fun c => (h c).2, sem_eq_zero_of_no_sems (by decide) r.2⟩) (DActRefIdeal.Hand.run_math m g)

end Cert.DActIdeal.Hand

end
-- ==== Proof.DH2Prod.lean ====
/- The gradient at the MLP's input: kernel and reference both are one product with the transposed weight. -/
module

public import proofs.«01_k».proof.Defs
public import proofs.«01_k».proof.Proof.ProdMath
public import proofs.«01_k».proof.Proof.Gen.DH2Ideal.Value
public import proofs.«01_k».proof.Proof.Gen.DH2RefIdeal.Run
public import Idealize.ShloMosaic.Lib.Tactic.CleanTypes
public import Idealize.ShloMosaic.Lib.Claim

@[expose] public section

set_option maxRecDepth 16384

noncomputable section

namespace Cert.DH2Ideal.Hand

open Cert.DH2Ideal Cert.DH2Ideal.Gen Cert.ProdMath Idealize.ShloMosaic Idealize.ShloMosaic.TcCoe Idealize.SL.Sem

variable (m : (ℓ : Loc nD τ sig) → Buf (Elt Ideal) ℓ)

/-- Which block of its array each window holds at grid point `t`. -/
theorem idx_val : ∀ t : Fin cfg0.N, win0_0.index t = ![t.val / 4, t.val % 2] ∧ win0_1.index t = ![t.val / 2 % 2, t.val % 2] ∧ win0_2.index t = ![t.val / 4, t.val / 2 % 2] :=
  (by decide +kernel : ∀ t : Fin grid0.N, _)

/-- One element of a partial product. -/
theorem pay1_at (a : FVec Ideal ⟨2, ![1024, 4096]⟩ .bf16) (b : FVec Ideal ⟨2, ![1024, 4096]⟩ .bf16) (r l : Fin 1024) :
    k0_pay1 (F := Ideal) a b (ix2 r l) = ∑ x : Fin 4096, a (ix2 r x) * b (ix2 l x) := by
  pointwise [k0_pay1]
/-- The first partial product is stored as it is. -/
theorem pay2_at (a : FVec Ideal ⟨2, ![1024, 4096]⟩ .bf16) (b : FVec Ideal ⟨2, ![1024, 4096]⟩ .bf16) (r l : Fin 1024) :
    k0_pay2 (F := Ideal) a b (ix2 r l) = ∑ x : Fin 4096, a (ix2 r x) * b (ix2 l x) := by
  pointwise [k0_pay2, pay1_at]
/-- A later partial product is added to what was accumulated. -/
theorem pay3_at (a : FVec Ideal ⟨2, ![1024, 4096]⟩ .bf16) (b : FVec Ideal ⟨2, ![1024, 4096]⟩ .bf16) (v : FVec Ideal ⟨2, ![1024, 1024]⟩ .f32) (r l : Fin 1024) :
    k0_pay3 (F := Ideal) a b v (ix2 r l) = v (ix2 r l) + ∑ x : Fin 4096, a (ix2 r x) * b (ix2 l x) := by
  pointwise [k0_pay3, pay1_at]
/-- The accumulated block is stored as it is. -/
theorem pay4_at (v : FVec Ideal ⟨2, ![1024, 1024]⟩ .f32) (r l : Fin 1024) : k0_pay4 (F := Ideal) v (ix2 r l) = v (ix2 r l) := by
  pointwise [k0_pay4]

/-- The row of the array that row `r` of the block of a grid point is. -/
def rt (t : Fin cfg0.N) (r : Fin 1024) : Fin 4096 := ⟨(t.val / 4) * 1024 + r.val, by have := lt_of_lt_of_eq t.isLt N_0; omega⟩
/-- The lane of the array that lane `l` of the block of a grid point is. -/
def ct (t : Fin cfg0.N) (l : Fin 1024) : Fin 2048 := ⟨(t.val / 2 % 2) * 1024 + l.val, by have := lt_of_lt_of_eq t.isLt N_0; omega⟩
/-- The place in the contracted axis that place `x` of the blocks of step `s` is. -/
def kt (s : Fin 2) (x : Fin 4096) : Fin 8192 := ⟨s.val * 4096 + x.val, by omega⟩
/-- The step of the contracted axis a grid point works on. -/
def st (t : Fin cfg0.N) : Fin 2 := ⟨t.val % 2, Nat.mod_lt _ (by omega)⟩

section Blocks
variable (c : Dev nD) (t : Fin cfg0.N)

/-- The first block is a tile of the first argument. -/
theorem blk0 (r : Fin 1024) (x : Fin 4096) : iblk m c 0 t (ix2 r x) = m ((c : Thread nD τ).loc main_arg0) (ix2 (rt t r) (kt (st t) x)) := by
  unfold rt kt st; blk_point [iblk, V, idx_val t]
/-- The second block is a tile of the second argument. -/
theorem blk1 (l : Fin 1024) (x : Fin 4096) : iblk m c 1 t (ix2 l x) = m ((c : Thread nD τ).loc main_arg1) (ix2 (ct t l) (kt (st t) x)) := by
  unfold ct kt st; blk_point [iblk, V, idx_val t]

/-- The partial product of one step of the contracted axis. -/
def part (a : FVec Ideal ⟨2, ![4096, 8192]⟩ .bf16) (b : FVec Ideal ⟨2, ![2048, 8192]⟩ .bf16) (s : Fin 2) (R : Fin 4096) (C : Fin 2048) : EReal :=
  ∑ x : Fin 4096, a (ix2 R (kt s x)) * b (ix2 C (kt s x))

/-- A grid point's blocks give the partial product of its step. -/
theorem part_eq (r l : Fin 1024) : (∑ x : Fin 4096, (fun p q : EReal => p * q) (iblk m c 0 t (ix2 r x)) (iblk m c 1 t (ix2 l x))) = part (m ((c : Thread nD τ).loc main_arg0)) (m ((c : Thread nD τ).loc main_arg1)) (st t) (rt t r) (ct t l) :=
  Finset.sum_congr rfl fun x _ => congrArg₂ (fun p q : EReal => p * q) (blk0 m c t r x) (blk1 m c t l x)

/-- At the first step of a block the scratch holds that step's partial product. -/
theorem reset (h : t.val % 2 = 0) (j : S1024x1024.Idx) :
    (outsAt0 m c t.val t.isLt).2 j = 0 + part (m ((c : Thread nD τ).loc main_arg0)) (m ((c : Thread nD τ).loc main_arg1)) (st t) (rt t (j 0)) (ct t (j 1)) := by
  rw [outsAt0_A m c t h (by omega) (by omega)]
  frame_out
  rw [zero_add]
  exact (congrArg _ (eq_ix2 (n0 := 1024) (n1 := 1024) j)).trans ((pay2_at _ _ _ _).trans (part_eq m c t (j 0) (j 1)))
/-- At a later step the step's partial product is added. -/
theorem step (h : ¬t.val % 2 = 0) (j : S1024x1024.Idx) :
    (outsAt0 m c t.val t.isLt).2 j = (outsAt0 m c (t.val - 1) (Nat.lt_of_le_of_lt (Nat.sub_le _ _) t.isLt)).2 j + part (m ((c : Thread nD τ).loc main_arg0)) (m ((c : Thread nD τ).loc main_arg1)) (st t) (rt t (j 0)) (ct t (j 1)) := by
  rw [outsAt0_B m c t h (by omega) (by omega)]
  frame_out
  refine (congrArg _ (eq_ix2 (n0 := 1024) (n1 := 1024) j)).trans ((pay3_at _ _ _ _ _).trans ?_)
  exact congrArg₂ (fun p q : EReal => p + q) ((congrFun ((Memref.isWhole_whole _).read_unread _) _).trans (congrArg _ (eq_ix2 (n0 := 1024) (n1 := 1024) j).symm)) (part_eq m c t (j 0) (j 1))

/-- At the last step the output block holds what the scratch holds. -/
theorem last_eq (h : t.val % 2 = 1) (j : S1024x1024.Idx) : (outsAt0 m c t.val t.isLt).1 j = (outsAt0 m c t.val t.isLt).2 j := by
  rw [outsAt0_B m c t (by omega) (by omega) h]
  frame_out
  exact (congrArg _ (eq_ix2 (n0 := 1024) (n1 := 1024) j)).trans ((pay4_at _ _ _).trans (congrArg _ (eq_ix2 (n0 := 1024) (n1 := 1024) j).symm))

end Blocks

/-- The partial products of all steps add up to the whole product. -/
theorem sum_part (a : FVec Ideal ⟨2, ![4096, 8192]⟩ .bf16) (b : FVec Ideal ⟨2, ![2048, 8192]⟩ .bf16) (R : Fin 4096) (C : Fin 2048) : ∑ s, part a b s R C = Pnt a b (ix2 R C) := by
  unfold part Pnt nt
  exact Fin.sum_mul_add_congr fun s k hl => rfl

/-- The array of the product after the last grid point. -/
theorem final2 (c : Dev nD) : (dats m 0 c).arrAt 2 (cfgs 0).N = Pnt (m ((c : Thread nD τ).loc main_arg0)) (m ((c : Thread nD τ).loc main_arg1)) := by
  refine (dats m 0 c).arrAt_eq_of_covers 2 _ (by decide +kernel) fun t hf y => ?_
  blk_simp
  rw [after0_2]
  refine (last_eq m c t ((flush0_2 t).mp hf) y).trans ?_
  rw [Pipeline.eq_sum_fin_of_reset_step_apply_of_flush (fun n h => (outsAt0 m c n h).2) 2 (fun _ => 0)
    (fun (p : Fin cfg0.N) (j : S1024x1024.Idx) => part (m ((c : Thread nD τ).loc main_arg0)) (m ((c : Thread nD τ).loc main_arg1)) (st p) (rt p (j 0)) (ct p (j 1)))
    (fun p h j => reset m c p h j) (fun p h j => step m c p h j) t ((flush0_2 t).mp hf) _, zero_add]
  refine Eq.trans (Fin.sum_fin_congr fun s => ?_) ((sum_part _ _ (rt t (y 0)) (ct t (y 1))).trans (congrArg (Pnt (m ((c : Thread nD τ).loc main_arg0)) (m ((c : Thread nD τ).loc main_arg1))) ?_))
  · have hp := Pipeline.run_point_lt_of_flush t ((flush0_2 t).mp hf) s
    have h1 : st ⟨2 * (t.val / 2) + s.val, hp⟩ = s := Fin.ext (by have := s.isLt; dsimp only [st]; omega)
    have h2 : rt ⟨2 * (t.val / 2) + s.val, hp⟩ (y 0) = rt t (y 0) := Fin.ext (by simp [rt]; omega)
    have h3 : ct ⟨2 * (t.val / 2) + s.val, hp⟩ (y 1) = ct t (y 1) := Fin.ext (by simp [ct]; omega)
    rw [h1, h2, h3]
  · unfold rt ct; blk_ext [idx_val t]

end Cert.DH2Ideal.Hand

namespace Cert.DH2RefIdeal.Hand

open Cert.DH2RefIdeal Cert.DH2RefIdeal.Gen Cert.ProdMath Idealize.ShloMosaic Idealize.ShloMosaic.TcCoe Idealize.SL.Sem

/-- The reference ends with its results at the same functions of the arguments, which it leaves as they were. -/
theorem run_math (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5) = Pnt (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run _ _ _).mono (fun r h c => ⟨(h c).1.trans ?_, (h c).2⟩) (Cert.DH2RefIdeal.Value.run m ρ)
  all_goals clear h r
  all_goals generalize m ((c : Thread nD τ).loc main_arg0) = a
  all_goals generalize m ((c : Thread nD τ).loc main_arg1) = b
  all_goals revert a b
  all_goals clean_types
  · intro (a : FVec Ideal ⟨2, ![4096, 8192]⟩ .bf16) (b : FVec Ideal ⟨2, ![2048, 8192]⟩ .bf16)
    refine funext fun j => ?_
    idx_vars j
    pointwise [Pnt, nt]

end Cert.DH2RefIdeal.Hand

namespace Cert.DH2Ideal.Hand

open Cert.ProdMath Idealize.ShloMosaic Idealize.ShloMosaic.TcCoe Idealize.SL.Sem

/-- Kernel and reference, run from memories that agree on the arguments, end with equal results. -/
theorem algebraic : Cert.algebraic_DH2Ideal_DH2RefIdeal := by
  intro m g m' g' _ hag
  refine ⟨fun c => Pnt (m ((c : Thread DH2Ideal.nD DH2Ideal.τ).loc DH2Ideal.main_arg0)) (m ((c : Thread DH2Ideal.nD DH2Ideal.τ).loc DH2Ideal.main_arg1)), ?_, ?_⟩
  · refine (θ_run _ _ _).mono (fun r h c => ?_) (DH2Ideal.Value.run_blocks m g)
    obtain ⟨h0, ha⟩ := h c
    exact ⟨h0.trans (final2 m c), ha⟩
  · refine (θ_run _ _ _).mono (fun r h c => ?_) (DH2RefIdeal.Hand.run_math m' g')
    obtain ⟨e0, e1⟩ := hag c
    obtain ⟨h0, ha⟩ := h c
    refine ⟨?_, ha⟩
    · beta_reduce; rw [← e0, ← e1]; exact h0

/-- The reference runs and leaves its arguments and every counter as they were. -/
theorem ref_frame : Cert.quiescent_DH2RefIdeal := by
  intro m g _
  exact (θ_run _ _ _).mono (fun r h => ⟨fun c => (h c).2, sem_eq_zero_of_no_sems (by decide) r.2⟩) (DH2RefIdeal.Hand.run_math m g)

end Cert.DH2Ideal.Hand

end
-- ==== Proof.DMixProd.lean ====
/- The gradient at the merged mixers' output: kernel and reference both are one product with the transposed weight. -/
module

public import proofs.«01_k».proof.Defs
public import proofs.«01_k».proof.Proof.ProdMath
public import proofs.«01_k».proof.Proof.Gen.DMixIdeal.Value
public import proofs.«01_k».proof.Proof.Gen.DMixRefIdeal.Run
public import Idealize.ShloMosaic.Lib.Tactic.CleanTypes
public import Idealize.ShloMosaic.Lib.Claim

@[expose] public section

set_option maxRecDepth 16384

noncomputable section

namespace Cert.DMixIdeal.Hand

open Cert.DMixIdeal Cert.DMixIdeal.Gen Cert.ProdMath Idealize.ShloMosaic Idealize.ShloMosaic.TcCoe Idealize.SL.Sem

variable (m : (ℓ : Loc nD τ sig) → Buf (Elt Ideal) ℓ)

/-- Which block of its array each window holds at grid point `t`. -/
theorem idx_val : ∀ t : Fin cfg0.N, win0_0.index t = ![t.val / 2, 0] ∧ win0_1.index t = ![t.val % 2, 0] ∧ win0_2.index t = ![t.val / 2, t.val % 2] :=
  (by decide +kernel : ∀ t : Fin grid0.N, _)

/-- One element of the stored block. -/
theorem k0_pay1_at (a : FVec Ideal ⟨2, ![1024, 2048]⟩ .bf16) (b : FVec Ideal ⟨2, ![1024, 2048]⟩ .bf16) (r l : Fin 1024) :
    k0_pay1 (F := Ideal) a b (ix2 r l) = ∑ x : Fin 2048, a (ix2 r x) * b (ix2 l x) := by
  pointwise [k0_pay1]

section Blocks
variable (c : Dev nD) (t : Fin cfg0.N)

/-- The first block's rows are rows of the first argument. -/
theorem blk0 (r : Fin 1024) (x : Fin 2048) (R : Fin 4096) (hR : R.val = (t.val / 2) * 1024 + r.val) : iblk m c 0 t (ix2 r x) = m ((c : Thread nD τ).loc main_arg0) (ix2 R x) := by
  blk_point [iblk, V, idx_val t]
/-- The second block's lanes are lanes of the second argument. -/
theorem blk1 (l : Fin 1024) (x : Fin 2048) (C : Fin 2048) (hC : C.val = (t.val % 2) * 1024 + l.val) : iblk m c 1 t (ix2 l x) = m ((c : Thread nD τ).loc main_arg1) (ix2 C x) := by
  blk_point [iblk, V, idx_val t]
end Blocks

/-- A row of a block is a row of the array. -/
theorem row_lt (t : Fin cfg0.N) (r : Fin 1024) : (t.val / 2) * 1024 + r.val < 4096 := by
  have := lt_of_lt_of_eq t.isLt N_0; omega
/-- A lane of a block is a lane of the array. -/
theorem col_lt (t : Fin cfg0.N) (l : Fin 1024) : (t.val % 2) * 1024 + l.val < 2048 := by
  have := lt_of_lt_of_eq t.isLt N_0; omega

/-- The array of window 2 after the last grid point. -/
theorem final2 (c : Dev nD) : (dats m 0 c).arrAt 2 (cfgs 0).N = Pnt (m ((c : Thread nD τ).loc main_arg0)) (m ((c : Thread nD τ).loc main_arg1)) := by
  refine (dats m 0 c).arrAt_eq_of_covers 2 _ (by decide +kernel) fun t hf y => ?_
  blk_simp
  rw [after0_2]
  frame_out
  refine (congrArg _ (eq_ix2 (n0 := 1024) (n1 := 1024) y)).trans ((k0_pay1_at _ _ _ _).trans ?_)
  have e : ∀ x : Fin 2048, _ := fun x => congrArg₂ (fun p q : EReal => p * q) (blk0 m c t (y 0) x ⟨_, row_lt t (y 0)⟩ rfl) (blk1 m c t (y 1) x ⟨_, col_lt t (y 1)⟩ rfl)
  refine Eq.trans ?_ (congrArg (Pnt (m ((c : Thread nD τ).loc main_arg0)) (m ((c : Thread nD τ).loc main_arg1))) (show ix2 (n0 := 4096) (n1 := 2048) ⟨_, row_lt t (y 0)⟩ ⟨_, col_lt t (y 1)⟩ = _ by blk_ext [idx_val t]))
  exact Finset.sum_congr rfl fun x _ => e x

end Cert.DMixIdeal.Hand

namespace Cert.DMixRefIdeal.Hand

open Cert.DMixRefIdeal Cert.DMixRefIdeal.Gen Cert.ProdMath Idealize.ShloMosaic Idealize.ShloMosaic.TcCoe Idealize.SL.Sem

/-- The reference ends with its results at the same functions of the arguments, which it leaves as they were. -/
theorem run_math (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5) = Pnt (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run _ _ _).mono (fun r h c => ⟨(h c).1.trans ?_, (h c).2⟩) (Cert.DMixRefIdeal.Value.run m ρ)
  all_goals clear h r
  all_goals generalize m ((c : Thread nD τ).loc main_arg0) = a
  all_goals generalize m ((c : Thread nD τ).loc main_arg1) = b
  all_goals revert a b
  all_goals clean_types
  · intro (a : FVec Ideal ⟨2, ![4096, 2048]⟩ .bf16) (b : FVec Ideal ⟨2, ![2048, 2048]⟩ .bf16)
    refine funext fun j => ?_
    idx_vars j
    pointwise [Pnt, nt]

end Cert.DMixRefIdeal.Hand

namespace Cert.DMixIdeal.Hand

open Cert.ProdMath Idealize.ShloMosaic Idealize.ShloMosaic.TcCoe Idealize.SL.Sem

/-- Kernel and reference, run from memories that agree on the arguments, end with equal results. -/
theorem algebraic : Cert.algebraic_DMixIdeal_DMixRefIdeal := by
  intro m g m' g' _ hag
  refine ⟨fun c => Pnt (m ((c : Thread DMixIdeal.nD DMixIdeal.τ).loc DMixIdeal.main_arg0)) (m ((c : Thread DMixIdeal.nD DMixIdeal.τ).loc DMixIdeal.main_arg1)), ?_, ?_⟩
  · refine (θ_run _ _ _).mono (fun r h c => ?_) (DMixIdeal.Value.run_blocks m g)
    obtain ⟨h0, ha⟩ := h c
    exact ⟨h0.trans (final2 m c), ha⟩
  · refine (θ_run _ _ _).mono (fun r h c => ?_) (DMixRefIdeal.Hand.run_math m' g')
    obtain ⟨e0, e1⟩ := hag c
    obtain ⟨h0, ha⟩ := h c
    refine ⟨?_, ha⟩
    · beta_reduce; rw [← e0, ← e1]; exact h0

/-- The reference runs and leaves its arguments and every counter as they were. -/
theorem ref_frame : Cert.quiescent_DMixRefIdeal := by
  intro m g _
  exact (θ_run _ _ _).mono (fun r h => ⟨fun c => (h c).2, sem_eq_zero_of_no_sems (by decide) r.2⟩) (DMixRefIdeal.Hand.run_math m g)

end Cert.DMixIdeal.Hand

end
-- ==== Proof.DAProd.lean ====
/- The gradient at the convolution mixer's output: kernel and reference both are one product with the transposed weight. -/
module

public import proofs.«01_k».proof.Defs
public import proofs.«01_k».proof.Proof.ProdMath
public import proofs.«01_k».proof.Proof.Gen.DAIdeal.Value
public import proofs.«01_k».proof.Proof.Gen.DARefIdeal.Run
public import Idealize.ShloMosaic.Lib.Tactic.CleanTypes
public import Idealize.ShloMosaic.Lib.Claim

@[expose] public section

set_option maxRecDepth 16384

noncomputable section

namespace Cert.DAIdeal.Hand

open Cert.DAIdeal Cert.DAIdeal.Gen Cert.ProdMath Idealize.ShloMosaic Idealize.ShloMosaic.TcCoe Idealize.SL.Sem

variable (m : (ℓ : Loc nD τ sig) → Buf (Elt Ideal) ℓ)

/-- Which block of its array each window holds at grid point `t`. -/
theorem idx_val : ∀ t : Fin cfg0.N, win0_0.index t = ![t.val / 2, 0] ∧ win0_1.index t = ![t.val % 2, 0] ∧ win0_2.index t = ![t.val / 2, t.val % 2] :=
  (by decide +kernel : ∀ t : Fin grid0.N, _)

/-- One element of the stored block. -/
theorem k0_pay1_at (a : FVec Ideal ⟨2, ![1024, 2048]⟩ .bf16) (b : FVec Ideal ⟨2, ![1024, 2048]⟩ .bf16) (r l : Fin 1024) :
    k0_pay1 (F := Ideal) a b (ix2 r l) = ∑ x : Fin 2048, a (ix2 r x) * b (ix2 l x) := by
  pointwise [k0_pay1]

section Blocks
variable (c : Dev nD) (t : Fin cfg0.N)

/-- The first block's rows are rows of the first argument. -/
theorem blk0 (r : Fin 1024) (x : Fin 2048) (R : Fin 4096) (hR : R.val = (t.val / 2) * 1024 + r.val) : iblk m c 0 t (ix2 r x) = m ((c : Thread nD τ).loc main_arg0) (ix2 R x) := by
  blk_point [iblk, V, idx_val t]
/-- The second block's lanes are lanes of the second argument. -/
theorem blk1 (l : Fin 1024) (x : Fin 2048) (C : Fin 2048) (hC : C.val = (t.val % 2) * 1024 + l.val) : iblk m c 1 t (ix2 l x) = m ((c : Thread nD τ).loc main_arg1) (ix2 C x) := by
  blk_point [iblk, V, idx_val t]
end Blocks

/-- A row of a block is a row of the array. -/
theorem row_lt (t : Fin cfg0.N) (r : Fin 1024) : (t.val / 2) * 1024 + r.val < 4096 := by
  have := lt_of_lt_of_eq t.isLt N_0; omega
/-- A lane of a block is a lane of the array. -/
theorem col_lt (t : Fin cfg0.N) (l : Fin 1024) : (t.val % 2) * 1024 + l.val < 2048 := by
  have := lt_of_lt_of_eq t.isLt N_0; omega

/-- The array of window 2 after the last grid point. -/
theorem final2 (c : Dev nD) : (dats m 0 c).arrAt 2 (cfgs 0).N = Pnt (m ((c : Thread nD τ).loc main_arg0)) (m ((c : Thread nD τ).loc main_arg1)) := by
  refine (dats m 0 c).arrAt_eq_of_covers 2 _ (by decide +kernel) fun t hf y => ?_
  blk_simp
  rw [after0_2]
  frame_out
  refine (congrArg _ (eq_ix2 (n0 := 1024) (n1 := 1024) y)).trans ((k0_pay1_at _ _ _ _).trans ?_)
  have e : ∀ x : Fin 2048, _ := fun x => congrArg₂ (fun p q : EReal => p * q) (blk0 m c t (y 0) x ⟨_, row_lt t (y 0)⟩ rfl) (blk1 m c t (y 1) x ⟨_, col_lt t (y 1)⟩ rfl)
  refine Eq.trans ?_ (congrArg (Pnt (m ((c : Thread nD τ).loc main_arg0)) (m ((c : Thread nD τ).loc main_arg1))) (show ix2 (n0 := 4096) (n1 := 2048) ⟨_, row_lt t (y 0)⟩ ⟨_, col_lt t (y 1)⟩ = _ by blk_ext [idx_val t]))
  exact Finset.sum_congr rfl fun x _ => e x

end Cert.DAIdeal.Hand

namespace Cert.DARefIdeal.Hand

open Cert.DARefIdeal Cert.DARefIdeal.Gen Cert.ProdMath Idealize.ShloMosaic Idealize.ShloMosaic.TcCoe Idealize.SL.Sem

/-- The reference ends with its results at the same functions of the arguments, which it leaves as they were. -/
theorem run_math (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5) = Pnt (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run _ _ _).mono (fun r h c => ⟨(h c).1.trans ?_, (h c).2⟩) (Cert.DARefIdeal.Value.run m ρ)
  all_goals clear h r
  all_goals generalize m ((c : Thread nD τ).loc main_arg0) = a
  all_goals generalize m ((c : Thread nD τ).loc main_arg1) = b
  all_goals revert a b
  all_goals clean_types
  · intro (a : FVec Ideal ⟨2, ![4096, 2048]⟩ .bf16) (b : FVec Ideal ⟨2, ![2048, 2048]⟩ .bf16)
    refine funext fun j => ?_
    idx_vars j
    pointwise [Pnt, nt]

end Cert.DARefIdeal.Hand

namespace Cert.DAIdeal.Hand

open Cert.ProdMath Idealize.ShloMosaic Idealize.ShloMosaic.TcCoe Idealize.SL.Sem

/-- Kernel and reference, run from memories that agree on the arguments, end with equal results. -/
theorem algebraic : Cert.algebraic_DAIdeal_DARefIdeal := by
  intro m g m' g' _ hag
  refine ⟨fun c => Pnt (m ((c : Thread DAIdeal.nD DAIdeal.τ).loc DAIdeal.main_arg0)) (m ((c : Thread DAIdeal.nD DAIdeal.τ).loc DAIdeal.main_arg1)), ?_, ?_⟩
  · refine (θ_run _ _ _).mono (fun r h c => ?_) (DAIdeal.Value.run_blocks m g)
    obtain ⟨h0, ha⟩ := h c
    exact ⟨h0.trans (final2 m c), ha⟩
  · refine (θ_run _ _ _).mono (fun r h c => ?_) (DARefIdeal.Hand.run_math m' g')
    obtain ⟨e0, e1⟩ := hag c
    obtain ⟨h0, ha⟩ := h c
    refine ⟨?_, ha⟩
    · beta_reduce; rw [← e0, ← e1]; exact h0

/-- The reference runs and leaves its arguments and every counter as they were. -/
theorem ref_frame : Cert.quiescent_DARefIdeal := by
  intro m g _
  exact (θ_run _ _ _).mono (fun r h => ⟨fun c => (h c).2, sem_eq_zero_of_no_sems (by decide) r.2⟩) (DARefIdeal.Hand.run_math m g)

end Cert.DAIdeal.Hand

end
-- ==== Proof.DOProd.lean ====
/- The gradient at the attention's output: kernel and reference both are one product with the transposed weight. -/
module

public import proofs.«01_k».proof.Defs
public import proofs.«01_k».proof.Proof.ProdMath
public import proofs.«01_k».proof.Proof.Gen.DOIdeal.Value
public import proofs.«01_k».proof.Proof.Gen.DORefIdeal.Run
public import Idealize.ShloMosaic.Lib.Tactic.CleanTypes
public import Idealize.ShloMosaic.Lib.Claim

@[expose] public section

set_option maxRecDepth 16384

noncomputable section

namespace Cert.DOIdeal.Hand

open Cert.DOIdeal Cert.DOIdeal.Gen Cert.ProdMath Idealize.ShloMosaic Idealize.ShloMosaic.TcCoe Idealize.SL.Sem

variable (m : (ℓ : Loc nD τ sig) → Buf (Elt Ideal) ℓ)

/-- Which block of its array each window holds at grid point `t`. -/
theorem idx_val : ∀ t : Fin cfg0.N, win0_0.index t = ![t.val / 2, 0] ∧ win0_1.index t = ![t.val % 2, 0] ∧ win0_2.index t = ![t.val / 2, t.val % 2] :=
  (by decide +kernel : ∀ t : Fin grid0.N, _)

/-- One element of the stored block. -/
theorem k0_pay1_at (a : FVec Ideal ⟨2, ![1024, 2048]⟩ .bf16) (b : FVec Ideal ⟨2, ![1024, 2048]⟩ .bf16) (r l : Fin 1024) :
    k0_pay1 (F := Ideal) a b (ix2 r l) = ∑ x : Fin 2048, a (ix2 r x) * b (ix2 l x) := by
  pointwise [k0_pay1]

section Blocks
variable (c : Dev nD) (t : Fin cfg0.N)

/-- The first block's rows are rows of the first argument. -/
theorem blk0 (r : Fin 1024) (x : Fin 2048) (R : Fin 4096) (hR : R.val = (t.val / 2) * 1024 + r.val) : iblk m c 0 t (ix2 r x) = m ((c : Thread nD τ).loc main_arg0) (ix2 R x) := by
  blk_point [iblk, V, idx_val t]
/-- The second block's lanes are lanes of the second argument. -/
theorem blk1 (l : Fin 1024) (x : Fin 2048) (C : Fin 2048) (hC : C.val = (t.val % 2) * 1024 + l.val) : iblk m c 1 t (ix2 l x) = m ((c : Thread nD τ).loc main_arg1) (ix2 C x) := by
  blk_point [iblk, V, idx_val t]
end Blocks

/-- A row of a block is a row of the array. -/
theorem row_lt (t : Fin cfg0.N) (r : Fin 1024) : (t.val / 2) * 1024 + r.val < 4096 := by
  have := lt_of_lt_of_eq t.isLt N_0; omega
/-- A lane of a block is a lane of the array. -/
theorem col_lt (t : Fin cfg0.N) (l : Fin 1024) : (t.val % 2) * 1024 + l.val < 2048 := by
  have := lt_of_lt_of_eq t.isLt N_0; omega

/-- The array of window 2 after the last grid point. -/
theorem final2 (c : Dev nD) : (dats m 0 c).arrAt 2 (cfgs 0).N = Pnt (m ((c : Thread nD τ).loc main_arg0)) (m ((c : Thread nD τ).loc main_arg1)) := by
  refine (dats m 0 c).arrAt_eq_of_covers 2 _ (by decide +kernel) fun t hf y => ?_
  blk_simp
  rw [after0_2]
  frame_out
  refine (congrArg _ (eq_ix2 (n0 := 1024) (n1 := 1024) y)).trans ((k0_pay1_at _ _ _ _).trans ?_)
  have e : ∀ x : Fin 2048, _ := fun x => congrArg₂ (fun p q : EReal => p * q) (blk0 m c t (y 0) x ⟨_, row_lt t (y 0)⟩ rfl) (blk1 m c t (y 1) x ⟨_, col_lt t (y 1)⟩ rfl)
  refine Eq.trans ?_ (congrArg (Pnt (m ((c : Thread nD τ).loc main_arg0)) (m ((c : Thread nD τ).loc main_arg1))) (show ix2 (n0 := 4096) (n1 := 2048) ⟨_, row_lt t (y 0)⟩ ⟨_, col_lt t (y 1)⟩ = _ by blk_ext [idx_val t]))
  exact Finset.sum_congr rfl fun x _ => e x

end Cert.DOIdeal.Hand

namespace Cert.DORefIdeal.Hand

open Cert.DORefIdeal Cert.DORefIdeal.Gen Cert.ProdMath Idealize.ShloMosaic Idealize.ShloMosaic.TcCoe Idealize.SL.Sem

/-- The reference ends with its results at the same functions of the arguments, which it leaves as they were. -/
theorem run_math (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5) = Pnt (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run _ _ _).mono (fun r h c => ⟨(h c).1.trans ?_, (h c).2⟩) (Cert.DORefIdeal.Value.run m ρ)
  all_goals clear h r
  all_goals generalize m ((c : Thread nD τ).loc main_arg0) = a
  all_goals generalize m ((c : Thread nD τ).loc main_arg1) = b
  all_goals revert a b
  all_goals clean_types
  · intro (a : FVec Ideal ⟨2, ![4096, 2048]⟩ .bf16) (b : FVec Ideal ⟨2, ![2048, 2048]⟩ .bf16)
    refine funext fun j => ?_
    idx_vars j
    pointwise [Pnt, nt]

end Cert.DORefIdeal.Hand

namespace Cert.DOIdeal.Hand

open Cert.ProdMath Idealize.ShloMosaic Idealize.ShloMosaic.TcCoe Idealize.SL.Sem

/-- Kernel and reference, run from memories that agree on the arguments, end with equal results. -/
theorem algebraic : Cert.algebraic_DOIdeal_DORefIdeal := by
  intro m g m' g' _ hag
  refine ⟨fun c => Pnt (m ((c : Thread DOIdeal.nD DOIdeal.τ).loc DOIdeal.main_arg0)) (m ((c : Thread DOIdeal.nD DOIdeal.τ).loc DOIdeal.main_arg1)), ?_, ?_⟩
  · refine (θ_run _ _ _).mono (fun r h c => ?_) (DOIdeal.Value.run_blocks m g)
    obtain ⟨h0, ha⟩ := h c
    exact ⟨h0.trans (final2 m c), ha⟩
  · refine (θ_run _ _ _).mono (fun r h c => ?_) (DORefIdeal.Hand.run_math m' g')
    obtain ⟨e0, e1⟩ := hag c
    obtain ⟨h0, ha⟩ := h c
    refine ⟨?_, ha⟩
    · beta_reduce; rw [← e0, ← e1]; exact h0

/-- The reference runs and leaves its arguments and every counter as they were. -/
theorem ref_frame : Cert.quiescent_DORefIdeal := by
  intro m g _
  exact (θ_run _ _ _).mono (fun r h => ⟨fun c => (h c).2, sem_eq_zero_of_no_sems (by decide) r.2⟩) (DORefIdeal.Hand.run_math m g)

end Cert.DOIdeal.Hand

end
-- ==== Proof.DHProd.lean ====
/- The gradient at the layer's normalised input: kernel and reference both are one product with the transposed weight. -/
module

public import proofs.«01_k».proof.Defs
public import proofs.«01_k».proof.Proof.ProdMath
public import proofs.«01_k».proof.Proof.Gen.DHIdeal.Value
public import proofs.«01_k».proof.Proof.Gen.DHRefIdeal.Run
public import Idealize.ShloMosaic.Lib.Tactic.CleanTypes
public import Idealize.ShloMosaic.Lib.Claim

@[expose] public section

set_option maxRecDepth 16384

noncomputable section

namespace Cert.DHIdeal.Hand

open Cert.DHIdeal Cert.DHIdeal.Gen Cert.ProdMath Idealize.ShloMosaic Idealize.ShloMosaic.TcCoe Idealize.SL.Sem

variable (m : (ℓ : Loc nD τ sig) → Buf (Elt Ideal) ℓ)

/-- Which block of its array each window holds at grid point `t`. -/
theorem idx_val : ∀ t : Fin cfg0.N, win0_0.index t = ![t.val / 8, t.val % 4] ∧ win0_1.index t = ![t.val / 4 % 2, t.val % 4] ∧ win0_2.index t = ![t.val / 8, t.val / 4 % 2] :=
  (by decide +kernel : ∀ t : Fin grid0.N, _)

/-- One element of a partial product. -/
theorem pay1_at (a : FVec Ideal ⟨2, ![1024, 3328]⟩ .bf16) (b : FVec Ideal ⟨2, ![1024, 3328]⟩ .bf16) (r l : Fin 1024) :
    k0_pay1 (F := Ideal) a b (ix2 r l) = ∑ x : Fin 3328, a (ix2 r x) * b (ix2 l x) := by
  pointwise [k0_pay1]
/-- The first partial product is stored as it is. -/
theorem pay2_at (a : FVec Ideal ⟨2, ![1024, 3328]⟩ .bf16) (b : FVec Ideal ⟨2, ![1024, 3328]⟩ .bf16) (r l : Fin 1024) :
    k0_pay2 (F := Ideal) a b (ix2 r l) = ∑ x : Fin 3328, a (ix2 r x) * b (ix2 l x) := by
  pointwise [k0_pay2, pay1_at]
/-- A later partial product is added to what was accumulated. -/
theorem pay3_at (a : FVec Ideal ⟨2, ![1024, 3328]⟩ .bf16) (b : FVec Ideal ⟨2, ![1024, 3328]⟩ .bf16) (v : FVec Ideal ⟨2, ![1024, 1024]⟩ .f32) (r l : Fin 1024) :
    k0_pay3 (F := Ideal) a b v (ix2 r l) = v (ix2 r l) + ∑ x : Fin 3328, a (ix2 r x) * b (ix2 l x) := by
  pointwise [k0_pay3, pay1_at]
/-- The accumulated block is stored as it is. -/
theorem pay4_at (v : FVec Ideal ⟨2, ![1024, 1024]⟩ .f32) (r l : Fin 1024) : k0_pay4 (F := Ideal) v (ix2 r l) = v (ix2 r l) := by
  pointwise [k0_pay4]

/-- The row of the array that row `r` of the block of a grid point is. -/
def rt (t : Fin cfg0.N) (r : Fin 1024) : Fin 4096 := ⟨(t.val / 8) * 1024 + r.val, by have := lt_of_lt_of_eq t.isLt N_0; omega⟩
/-- The lane of the array that lane `l` of the block of a grid point is. -/
def ct (t : Fin cfg0.N) (l : Fin 1024) : Fin 2048 := ⟨(t.val / 4 % 2) * 1024 + l.val, by have := lt_of_lt_of_eq t.isLt N_0; omega⟩
/-- The place in the contracted axis that place `x` of the blocks of step `s` is. -/
def kt (s : Fin 4) (x : Fin 3328) : Fin 13312 := ⟨s.val * 3328 + x.val, by omega⟩
/-- The step of the contracted axis a grid point works on. -/
def st (t : Fin cfg0.N) : Fin 4 := ⟨t.val % 4, Nat.mod_lt _ (by omega)⟩

section Blocks
variable (c : Dev nD) (t : Fin cfg0.N)

/-- The first block is a tile of the first argument. -/
theorem blk0 (r : Fin 1024) (x : Fin 3328) : iblk m c 0 t (ix2 r x) = m ((c : Thread nD τ).loc main_arg0) (ix2 (rt t r) (kt (st t) x)) := by
  unfold rt kt st; blk_point [iblk, V, idx_val t]
/-- The second block is a tile of the second argument. -/
theorem blk1 (l : Fin 1024) (x : Fin 3328) : iblk m c 1 t (ix2 l x) = m ((c : Thread nD τ).loc main_arg1) (ix2 (ct t l) (kt (st t) x)) := by
  unfold ct kt st; blk_point [iblk, V, idx_val t]

/-- The partial product of one step of the contracted axis. -/
def part (a : FVec Ideal ⟨2, ![4096, 13312]⟩ .bf16) (b : FVec Ideal ⟨2, ![2048, 13312]⟩ .bf16) (s : Fin 4) (R : Fin 4096) (C : Fin 2048) : EReal :=
  ∑ x : Fin 3328, a (ix2 R (kt s x)) * b (ix2 C (kt s x))

/-- A grid point's blocks give the partial product of its step. -/
theorem part_eq (r l : Fin 1024) : (∑ x : Fin 3328, (fun p q : EReal => p * q) (iblk m c 0 t (ix2 r x)) (iblk m c 1 t (ix2 l x))) = part (m ((c : Thread nD τ).loc main_arg0)) (m ((c : Thread nD τ).loc main_arg1)) (st t) (rt t r) (ct t l) :=
  Finset.sum_congr rfl fun x _ => congrArg₂ (fun p q : EReal => p * q) (blk0 m c t r x) (blk1 m c t l x)

/-- At the first step of a block the scratch holds that step's partial product. -/
theorem reset (h : t.val % 4 = 0) (j : S1024x1024.Idx) :
    (outsAt0 m c t.val t.isLt).2 j = 0 + part (m ((c : Thread nD τ).loc main_arg0)) (m ((c : Thread nD τ).loc main_arg1)) (st t) (rt t (j 0)) (ct t (j 1)) := by
  rw [outsAt0_A m c t h (by omega) (by omega)]
  frame_out
  rw [zero_add]
  exact (congrArg _ (eq_ix2 (n0 := 1024) (n1 := 1024) j)).trans ((pay2_at _ _ _ _).trans (part_eq m c t (j 0) (j 1)))
/-- At a later step the step's partial product is added. -/
theorem step (h : ¬t.val % 4 = 0) (j : S1024x1024.Idx) :
    (outsAt0 m c t.val t.isLt).2 j = (outsAt0 m c (t.val - 1) (Nat.lt_of_le_of_lt (Nat.sub_le _ _) t.isLt)).2 j + part (m ((c : Thread nD τ).loc main_arg0)) (m ((c : Thread nD τ).loc main_arg1)) (st t) (rt t (j 0)) (ct t (j 1)) := by
  by_cases h2 : t.val % 4 = 3
  · rw [outsAt0_C m c t h (by omega) h2]
    frame_out
    refine (congrArg _ (eq_ix2 (n0 := 1024) (n1 := 1024) j)).trans ((pay3_at _ _ _ _ _).trans ?_)
    exact congrArg₂ (fun p q : EReal => p + q) ((congrFun ((Memref.isWhole_whole _).read_unread _) _).trans (congrArg _ (eq_ix2 (n0 := 1024) (n1 := 1024) j).symm)) (part_eq m c t (j 0) (j 1))
  · rw [outsAt0_B m c t h (by omega) h2]
    frame_out
    refine (congrArg _ (eq_ix2 (n0 := 1024) (n1 := 1024) j)).trans ((pay3_at _ _ _ _ _).trans ?_)
    exact congrArg₂ (fun p q : EReal => p + q) ((congrFun ((Memref.isWhole_whole _).read_unread _) _).trans (congrArg _ (eq_ix2 (n0 := 1024) (n1 := 1024) j).symm)) (part_eq m c t (j 0) (j 1))

/-- At the last step the output block holds what the scratch holds. -/
theorem last_eq (h : t.val % 4 = 3) (j : S1024x1024.Idx) : (outsAt0 m c t.val t.isLt).1 j = (outsAt0 m c t.val t.isLt).2 j := by
  rw [outsAt0_C m c t (by omega) (by omega) h]
  frame_out
  exact (congrArg _ (eq_ix2 (n0 := 1024) (n1 := 1024) j)).trans ((pay4_at _ _ _).trans (congrArg _ (eq_ix2 (n0 := 1024) (n1 := 1024) j).symm))

end Blocks

/-- The partial products of all steps add up to the whole product. -/
theorem sum_part (a : FVec Ideal ⟨2, ![4096, 13312]⟩ .bf16) (b : FVec Ideal ⟨2, ![2048, 13312]⟩ .bf16) (R : Fin 4096) (C : Fin 2048) : ∑ s, part a b s R C = Pnt a b (ix2 R C) := by
  unfold part Pnt nt
  exact Fin.sum_mul_add_congr fun s k hl => rfl

/-- The array of the product after the last grid point. -/
theorem final2 (c : Dev nD) : (dats m 0 c).arrAt 2 (cfgs 0).N = Pnt (m ((c : Thread nD τ).loc main_arg0)) (m ((c : Thread nD τ).loc main_arg1)) := by
  refine (dats m 0 c).arrAt_eq_of_covers 2 _ (by decide +kernel) fun t hf y => ?_
  blk_simp
  rw [after0_2]
  refine (last_eq m c t ((flush0_2 t).mp hf) y).trans ?_
  rw [Pipeline.eq_sum_fin_of_reset_step_apply_of_flush (fun n h => (outsAt0 m c n h).2) 4 (fun _ => 0)
    (fun (p : Fin cfg0.N) (j : S1024x1024.Idx) => part (m ((c : Thread nD τ).loc main_arg0)) (m ((c : Thread nD τ).loc main_arg1)) (st p) (rt p (j 0)) (ct p (j 1)))
    (fun p h j => reset m c p h j) (fun p h j => step m c p h j) t ((flush0_2 t).mp hf) _, zero_add]
  refine Eq.trans (Fin.sum_fin_congr fun s => ?_) ((sum_part _ _ (rt t (y 0)) (ct t (y 1))).trans (congrArg (Pnt (m ((c : Thread nD τ).loc main_arg0)) (m ((c : Thread nD τ).loc main_arg1))) ?_))
  · have hp := Pipeline.run_point_lt_of_flush t ((flush0_2 t).mp hf) s
    have h1 : st ⟨4 * (t.val / 4) + s.val, hp⟩ = s := Fin.ext (by have := s.isLt; dsimp only [st]; omega)
    have h2 : rt ⟨4 * (t.val / 4) + s.val, hp⟩ (y 0) = rt t (y 0) := Fin.ext (by simp [rt]; omega)
    have h3 : ct ⟨4 * (t.val / 4) + s.val, hp⟩ (y 1) = ct t (y 1) := Fin.ext (by simp [ct]; omega)
    rw [h1, h2, h3]
  · unfold rt ct; blk_ext [idx_val t]

end Cert.DHIdeal.Hand

namespace Cert.DHRefIdeal.Hand

open Cert.DHRefIdeal Cert.DHRefIdeal.Gen Cert.ProdMath Idealize.ShloMosaic Idealize.ShloMosaic.TcCoe Idealize.SL.Sem

/-- The reference ends with its results at the same functions of the arguments, which it leaves as they were. -/
theorem run_math (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5) = Pnt (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run _ _ _).mono (fun r h c => ⟨(h c).1.trans ?_, (h c).2⟩) (Cert.DHRefIdeal.Value.run m ρ)
  all_goals clear h r
  all_goals generalize m ((c : Thread nD τ).loc main_arg0) = a
  all_goals generalize m ((c : Thread nD τ).loc main_arg1) = b
  all_goals revert a b
  all_goals clean_types
  · intro (a : FVec Ideal ⟨2, ![4096, 13312]⟩ .bf16) (b : FVec Ideal ⟨2, ![2048, 13312]⟩ .bf16)
    refine funext fun j => ?_
    idx_vars j
    pointwise [Pnt, nt]

end Cert.DHRefIdeal.Hand

namespace Cert.DHIdeal.Hand

open Cert.ProdMath Idealize.ShloMosaic Idealize.ShloMosaic.TcCoe Idealize.SL.Sem

/-- Kernel and reference, run from memories that agree on the arguments, end with equal results. -/
theorem algebraic : Cert.algebraic_DHIdeal_DHRefIdeal := by
  intro m g m' g' _ hag
  refine ⟨fun c => Pnt (m ((c : Thread DHIdeal.nD DHIdeal.τ).loc DHIdeal.main_arg0)) (m ((c : Thread DHIdeal.nD DHIdeal.τ).loc DHIdeal.main_arg1)), ?_, ?_⟩
  · refine (θ_run _ _ _).mono (fun r h c => ?_) (DHIdeal.Value.run_blocks m g)
    obtain ⟨h0, ha⟩ := h c
    exact ⟨h0.trans (final2 m c), ha⟩
  · refine (θ_run _ _ _).mono (fun r h c => ?_) (DHRefIdeal.Hand.run_math m' g')
    obtain ⟨e0, e1⟩ := hag c
    obtain ⟨h0, ha⟩ := h c
    refine ⟨?_, ha⟩
    · beta_reduce; rw [← e0, ← e1]; exact h0

/-- The reference runs and leaves its arguments and every counter as they were. -/
theorem ref_frame : Cert.quiescent_DHRefIdeal := by
  intro m g _
  exact (θ_run _ _ _).mono (fun r h => ⟨fun c => (h c).2, sem_eq_zero_of_no_sems (by decide) r.2⟩) (DHRefIdeal.Hand.run_math m g)

end Cert.DHIdeal.Hand

end
-- ==== Proof.InProd.lean ====
/- The joint input projection: kernel and reference both are one product. -/
module

public import proofs.«01_k».proof.Defs
public import proofs.«01_k».proof.Proof.ProdMath
public import proofs.«01_k».proof.Proof.Gen.InIdeal.Value
public import proofs.«01_k».proof.Proof.Gen.InRefIdeal.Run
public import Idealize.ShloMosaic.Lib.Tactic.CleanTypes
public import Idealize.ShloMosaic.Lib.Claim

@[expose] public section

set_option maxRecDepth 16384

noncomputable section

namespace Cert.InIdeal.Hand

open Cert.InIdeal Cert.InIdeal.Gen Cert.ProdMath Idealize.ShloMosaic Idealize.ShloMosaic.TcCoe Idealize.SL.Sem

variable (m : (ℓ : Loc nD τ sig) → Buf (Elt Ideal) ℓ)

/-- Which block of its array each window holds at grid point `t`. -/
theorem idx_val : ∀ t : Fin cfg0.N, win0_0.index t = ![t.val / 13, 0] ∧ win0_1.index t = ![0, t.val % 13] ∧ win0_2.index t = ![t.val / 13, t.val % 13] :=
  (by decide +kernel : ∀ t : Fin grid0.N, _)

/-- One element of the stored block. -/
theorem k0_pay1_at (a : FVec Ideal ⟨2, ![1024, 2048]⟩ .bf16) (b : FVec Ideal ⟨2, ![2048, 1024]⟩ .bf16) (r l : Fin 1024) :
    k0_pay1 (F := Ideal) a b (ix2 r l) = ∑ x : Fin 2048, a (ix2 r x) * b (ix2 x l) := by
  pointwise [k0_pay1]

section Blocks
variable (c : Dev nD) (t : Fin cfg0.N)

/-- The first block's rows are rows of the first argument. -/
theorem blk0 (r : Fin 1024) (x : Fin 2048) (R : Fin 4096) (hR : R.val = (t.val / 13) * 1024 + r.val) : iblk m c 0 t (ix2 r x) = m ((c : Thread nD τ).loc main_arg0) (ix2 R x) := by
  blk_point [iblk, V, idx_val t]
/-- The second block's lanes are lanes of the second argument. -/
theorem blk1 (l : Fin 1024) (x : Fin 2048) (C : Fin 13312) (hC : C.val = (t.val % 13) * 1024 + l.val) : iblk m c 1 t (ix2 x l) = m ((c : Thread nD τ).loc main_arg1) (ix2 x C) := by
  blk_point [iblk, V, idx_val t]
end Blocks

/-- A row of a block is a row of the array. -/
theorem row_lt (t : Fin cfg0.N) (r : Fin 1024) : (t.val / 13) * 1024 + r.val < 4096 := by
  have := lt_of_lt_of_eq t.isLt N_0; omega
/-- A lane of a block is a lane of the array. -/
theorem col_lt (t : Fin cfg0.N) (l : Fin 1024) : (t.val % 13) * 1024 + l.val < 13312 := by
  have := lt_of_lt_of_eq t.isLt N_0; omega

/-- The array of window 2 after the last grid point. -/
theorem final2 (c : Dev nD) : (dats m 0 c).arrAt 2 (cfgs 0).N = Pnn (m ((c : Thread nD τ).loc main_arg0)) (m ((c : Thread nD τ).loc main_arg1)) := by
  refine (dats m 0 c).arrAt_eq_of_covers 2 _ (by decide +kernel) fun t hf y => ?_
  blk_simp
  rw [after0_2]
  frame_out
  refine (congrArg _ (eq_ix2 (n0 := 1024) (n1 := 1024) y)).trans ((k0_pay1_at _ _ _ _).trans ?_)
  have e : ∀ x : Fin 2048, _ := fun x => congrArg₂ (fun p q : EReal => p * q) (blk0 m c t (y 0) x ⟨_, row_lt t (y 0)⟩ rfl) (blk1 m c t (y 1) x ⟨_, col_lt t (y 1)⟩ rfl)
  refine Eq.trans ?_ (congrArg (Pnn (m ((c : Thread nD τ).loc main_arg0)) (m ((c : Thread nD τ).loc main_arg1))) (show ix2 (n0 := 4096) (n1 := 13312) ⟨_, row_lt t (y 0)⟩ ⟨_, col_lt t (y 1)⟩ = _ by blk_ext [idx_val t]))
  exact Finset.sum_congr rfl fun x _ => e x

end Cert.InIdeal.Hand

namespace Cert.InRefIdeal.Hand

open Cert.InRefIdeal Cert.InRefIdeal.Gen Cert.ProdMath Idealize.ShloMosaic Idealize.ShloMosaic.TcCoe Idealize.SL.Sem

/-- The reference ends with its results at the same functions of the arguments, which it leaves as they were. -/
theorem run_math (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = Pnn (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run _ _ _).mono (fun r h c => ⟨(h c).1.trans ?_, (h c).2⟩) (Cert.InRefIdeal.Value.run m ρ)
  all_goals clear h r
  all_goals generalize m ((c : Thread nD τ).loc main_arg0) = a
  all_goals generalize m ((c : Thread nD τ).loc main_arg1) = b
  all_goals revert a b
  all_goals clean_types
  · intro (a : FVec Ideal ⟨2, ![4096, 2048]⟩ .bf16) (b : FVec Ideal ⟨2, ![2048, 13312]⟩ .bf16)
    refine funext fun j => ?_
    idx_vars j
    pointwise [Pnn, nn]

end Cert.InRefIdeal.Hand

namespace Cert.InIdeal.Hand

open Cert.ProdMath Idealize.ShloMosaic Idealize.ShloMosaic.TcCoe Idealize.SL.Sem

/-- Kernel and reference, run from memories that agree on the arguments, end with equal results. -/
theorem algebraic : Cert.algebraic_InIdeal_InRefIdeal := by
  intro m g m' g' _ hag
  refine ⟨fun c => Pnn (m ((c : Thread InIdeal.nD InIdeal.τ).loc InIdeal.main_arg0)) (m ((c : Thread InIdeal.nD InIdeal.τ).loc InIdeal.main_arg1)), ?_, ?_⟩
  · refine (θ_run _ _ _).mono (fun r h c => ?_) (InIdeal.Value.run_blocks m g)
    obtain ⟨h0, ha⟩ := h c
    exact ⟨h0.trans (final2 m c), ha⟩
  · refine (θ_run _ _ _).mono (fun r h c => ?_) (InRefIdeal.Hand.run_math m' g')
    obtain ⟨e0, e1⟩ := hag c
    obtain ⟨h0, ha⟩ := h c
    refine ⟨?_, ha⟩
    · beta_reduce; rw [← e0, ← e1]; exact h0

/-- The reference runs and leaves its arguments and every counter as they were. -/
theorem ref_frame : Cert.quiescent_InRefIdeal := by
  intro m g _
  exact (θ_run _ _ _).mono (fun r h => ⟨fun c => (h c).2, sem_eq_zero_of_no_sems (by decide) r.2⟩) (InRefIdeal.Hand.run_math m g)

end Cert.InIdeal.Hand

end
-- ==== Proof.OutConvProd.lean ====
/- The convolution mixer's output projection: kernel and reference both are one product. -/
module

public import proofs.«01_k».proof.Defs
public import proofs.«01_k».proof.Proof.ProdMath
public import proofs.«01_k».proof.Proof.Gen.OutConvIdeal.Value
public import proofs.«01_k».proof.Proof.Gen.OutConvRefIdeal.Run
public import Idealize.ShloMosaic.Lib.Tactic.CleanTypes
public import Idealize.ShloMosaic.Lib.Claim

@[expose] public section

set_option maxRecDepth 16384

noncomputable section

namespace Cert.OutConvIdeal.Hand

open Cert.OutConvIdeal Cert.OutConvIdeal.Gen Cert.ProdMath Idealize.ShloMosaic Idealize.ShloMosaic.TcCoe Idealize.SL.Sem

variable (m : (ℓ : Loc nD τ sig) → Buf (Elt Ideal) ℓ)

/-- Which block of its array each window holds at grid point `t`. -/
theorem idx_val : ∀ t : Fin cfg0.N, win0_0.index t = ![t.val / 2, 0] ∧ win0_1.index t = ![0, t.val % 2] ∧ win0_2.index t = ![t.val / 2, t.val % 2] :=
  (by decide +kernel : ∀ t : Fin grid0.N, _)

/-- One element of the stored block. -/
theorem k0_pay1_at (a : FVec Ideal ⟨2, ![1024, 2048]⟩ .bf16) (b : FVec Ideal ⟨2, ![2048, 1024]⟩ .bf16) (r l : Fin 1024) :
    k0_pay1 (F := Ideal) a b (ix2 r l) = ∑ x : Fin 2048, a (ix2 r x) * b (ix2 x l) := by
  pointwise [k0_pay1]

section Blocks
variable (c : Dev nD) (t : Fin cfg0.N)

/-- The first block's rows are rows of the first argument. -/
theorem blk0 (r : Fin 1024) (x : Fin 2048) (R : Fin 4096) (hR : R.val = (t.val / 2) * 1024 + r.val) : iblk m c 0 t (ix2 r x) = m ((c : Thread nD τ).loc main_arg0) (ix2 R x) := by
  blk_point [iblk, V, idx_val t]
/-- The second block's lanes are lanes of the second argument. -/
theorem blk1 (l : Fin 1024) (x : Fin 2048) (C : Fin 2048) (hC : C.val = (t.val % 2) * 1024 + l.val) : iblk m c 1 t (ix2 x l) = m ((c : Thread nD τ).loc main_arg1) (ix2 x C) := by
  blk_point [iblk, V, idx_val t]
end Blocks

/-- A row of a block is a row of the array. -/
theorem row_lt (t : Fin cfg0.N) (r : Fin 1024) : (t.val / 2) * 1024 + r.val < 4096 := by
  have := lt_of_lt_of_eq t.isLt N_0; omega
/-- A lane of a block is a lane of the array. -/
theorem col_lt (t : Fin cfg0.N) (l : Fin 1024) : (t.val % 2) * 1024 + l.val < 2048 := by
  have := lt_of_lt_of_eq t.isLt N_0; omega

/-- The array of window 2 after the last grid point. -/
theorem final2 (c : Dev nD) : (dats m 0 c).arrAt 2 (cfgs 0).N = Pnn (m ((c : Thread nD τ).loc main_arg0)) (m ((c : Thread nD τ).loc main_arg1)) := by
  refine (dats m 0 c).arrAt_eq_of_covers 2 _ (by decide +kernel) fun t hf y => ?_
  blk_simp
  rw [after0_2]
  frame_out
  refine (congrArg _ (eq_ix2 (n0 := 1024) (n1 := 1024) y)).trans ((k0_pay1_at _ _ _ _).trans ?_)
  have e : ∀ x : Fin 2048, _ := fun x => congrArg₂ (fun p q : EReal => p * q) (blk0 m c t (y 0) x ⟨_, row_lt t (y 0)⟩ rfl) (blk1 m c t (y 1) x ⟨_, col_lt t (y 1)⟩ rfl)
  refine Eq.trans ?_ (congrArg (Pnn (m ((c : Thread nD τ).loc main_arg0)) (m ((c : Thread nD τ).loc main_arg1))) (show ix2 (n0 := 4096) (n1 := 2048) ⟨_, row_lt t (y 0)⟩ ⟨_, col_lt t (y 1)⟩ = _ by blk_ext [idx_val t]))
  exact Finset.sum_congr rfl fun x _ => e x

end Cert.OutConvIdeal.Hand

namespace Cert.OutConvRefIdeal.Hand

open Cert.OutConvRefIdeal Cert.OutConvRefIdeal.Gen Cert.ProdMath Idealize.ShloMosaic Idealize.ShloMosaic.TcCoe Idealize.SL.Sem

/-- The reference ends with its results at the same functions of the arguments, which it leaves as they were. -/
theorem run_math (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = Pnn (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run _ _ _).mono (fun r h c => ⟨(h c).1.trans ?_, (h c).2⟩) (Cert.OutConvRefIdeal.Value.run m ρ)
  all_goals clear h r
  all_goals generalize m ((c : Thread nD τ).loc main_arg0) = a
  all_goals generalize m ((c : Thread nD τ).loc main_arg1) = b
  all_goals revert a b
  all_goals clean_types
  · intro (a : FVec Ideal ⟨2, ![4096, 2048]⟩ .bf16) (b : FVec Ideal ⟨2, ![2048, 2048]⟩ .bf16)
    refine funext fun j => ?_
    idx_vars j
    pointwise [Pnn, nn]

end Cert.OutConvRefIdeal.Hand

namespace Cert.OutConvIdeal.Hand

open Cert.ProdMath Idealize.ShloMosaic Idealize.ShloMosaic.TcCoe Idealize.SL.Sem

/-- Kernel and reference, run from memories that agree on the arguments, end with equal results. -/
theorem algebraic : Cert.algebraic_OutConvIdeal_OutConvRefIdeal := by
  intro m g m' g' _ hag
  refine ⟨fun c => Pnn (m ((c : Thread OutConvIdeal.nD OutConvIdeal.τ).loc OutConvIdeal.main_arg0)) (m ((c : Thread OutConvIdeal.nD OutConvIdeal.τ).loc OutConvIdeal.main_arg1)), ?_, ?_⟩
  · refine (θ_run _ _ _).mono (fun r h c => ?_) (OutConvIdeal.Value.run_blocks m g)
    obtain ⟨h0, ha⟩ := h c
    exact ⟨h0.trans (final2 m c), ha⟩
  · refine (θ_run _ _ _).mono (fun r h c => ?_) (OutConvRefIdeal.Hand.run_math m' g')
    obtain ⟨e0, e1⟩ := hag c
    obtain ⟨h0, ha⟩ := h c
    refine ⟨?_, ha⟩
    · beta_reduce; rw [← e0, ← e1]; exact h0

/-- The reference runs and leaves its arguments and every counter as they were. -/
theorem ref_frame : Cert.quiescent_OutConvRefIdeal := by
  intro m g _
  exact (θ_run _ _ _).mono (fun r h => ⟨fun c => (h c).2, sem_eq_zero_of_no_sems (by decide) r.2⟩) (OutConvRefIdeal.Hand.run_math m g)

end Cert.OutConvIdeal.Hand

end
-- ==== Proof.OutAttnProd.lean ====
/- The attention's output projection: kernel and reference both are one product. -/
module

public import proofs.«01_k».proof.Defs
public import proofs.«01_k».proof.Proof.ProdMath
public import proofs.«01_k».proof.Proof.Gen.OutAttnIdeal.Value
public import proofs.«01_k».proof.Proof.Gen.OutAttnRefIdeal.Run
public import Idealize.ShloMosaic.Lib.Tactic.CleanTypes
public import Idealize.ShloMosaic.Lib.Claim

@[expose] public section

set_option maxRecDepth 16384

noncomputable section

namespace Cert.OutAttnIdeal.Hand

open Cert.OutAttnIdeal Cert.OutAttnIdeal.Gen Cert.ProdMath Idealize.ShloMosaic Idealize.ShloMosaic.TcCoe Idealize.SL.Sem

variable (m : (ℓ : Loc nD τ sig) → Buf (Elt Ideal) ℓ)

/-- Which block of its array each window holds at grid point `t`. -/
theorem idx_val : ∀ t : Fin cfg0.N, win0_0.index t = ![t.val / 2, 0] ∧ win0_1.index t = ![0, t.val % 2] ∧ win0_2.index t = ![t.val / 2, t.val % 2] :=
  (by decide +kernel : ∀ t : Fin grid0.N, _)

/-- One element of the stored block. -/
theorem k0_pay1_at (a : FVec Ideal ⟨2, ![1024, 2048]⟩ .bf16) (b : FVec Ideal ⟨2, ![2048, 1024]⟩ .bf16) (r l : Fin 1024) :
    k0_pay1 (F := Ideal) a b (ix2 r l) = ∑ x : Fin 2048, a (ix2 r x) * b (ix2 x l) := by
  pointwise [k0_pay1]

section Blocks
variable (c : Dev nD) (t : Fin cfg0.N)

/-- The first block's rows are rows of the first argument. -/
theorem blk0 (r : Fin 1024) (x : Fin 2048) (R : Fin 4096) (hR : R.val = (t.val / 2) * 1024 + r.val) : iblk m c 0 t (ix2 r x) = m ((c : Thread nD τ).loc main_arg0) (ix2 R x) := by
  blk_point [iblk, V, idx_val t]
/-- The second block's lanes are lanes of the second argument. -/
theorem blk1 (l : Fin 1024) (x : Fin 2048) (C : Fin 2048) (hC : C.val = (t.val % 2) * 1024 + l.val) : iblk m c 1 t (ix2 x l) = m ((c : Thread nD τ).loc main_arg1) (ix2 x C) := by
  blk_point [iblk, V, idx_val t]
end Blocks

/-- A row of a block is a row of the array. -/
theorem row_lt (t : Fin cfg0.N) (r : Fin 1024) : (t.val / 2) * 1024 + r.val < 4096 := by
  have := lt_of_lt_of_eq t.isLt N_0; omega
/-- A lane of a block is a lane of the array. -/
theorem col_lt (t : Fin cfg0.N) (l : Fin 1024) : (t.val % 2) * 1024 + l.val < 2048 := by
  have := lt_of_lt_of_eq t.isLt N_0; omega

/-- The array of window 2 after the last grid point. -/
theorem final2 (c : Dev nD) : (dats m 0 c).arrAt 2 (cfgs 0).N = Pnn (m ((c : Thread nD τ).loc main_arg0)) (m ((c : Thread nD τ).loc main_arg1)) := by
  refine (dats m 0 c).arrAt_eq_of_covers 2 _ (by decide +kernel) fun t hf y => ?_
  blk_simp
  rw [after0_2]
  frame_out
  refine (congrArg _ (eq_ix2 (n0 := 1024) (n1 := 1024) y)).trans ((k0_pay1_at _ _ _ _).trans ?_)
  have e : ∀ x : Fin 2048, _ := fun x => congrArg₂ (fun p q : EReal => p * q) (blk0 m c t (y 0) x ⟨_, row_lt t (y 0)⟩ rfl) (blk1 m c t (y 1) x ⟨_, col_lt t (y 1)⟩ rfl)
  refine Eq.trans ?_ (congrArg (Pnn (m ((c : Thread nD τ).loc main_arg0)) (m ((c : Thread nD τ).loc main_arg1))) (show ix2 (n0 := 4096) (n1 := 2048) ⟨_, row_lt t (y 0)⟩ ⟨_, col_lt t (y 1)⟩ = _ by blk_ext [idx_val t]))
  exact Finset.sum_congr rfl fun x _ => e x

end Cert.OutAttnIdeal.Hand

namespace Cert.OutAttnRefIdeal.Hand

open Cert.OutAttnRefIdeal Cert.OutAttnRefIdeal.Gen Cert.ProdMath Idealize.ShloMosaic Idealize.ShloMosaic.TcCoe Idealize.SL.Sem

/-- The reference ends with its results at the same functions of the arguments, which it leaves as they were. -/
theorem run_math (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = Pnn (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run _ _ _).mono (fun r h c => ⟨(h c).1.trans ?_, (h c).2⟩) (Cert.OutAttnRefIdeal.Value.run m ρ)
  all_goals clear h r
  all_goals generalize m ((c : Thread nD τ).loc main_arg0) = a
  all_goals generalize m ((c : Thread nD τ).loc main_arg1) = b
  all_goals revert a b
  all_goals clean_types
  · intro (a : FVec Ideal ⟨2, ![4096, 2048]⟩ .bf16) (b : FVec Ideal ⟨2, ![2048, 2048]⟩ .bf16)
    refine funext fun j => ?_
    idx_vars j
    pointwise [Pnn, nn]

end Cert.OutAttnRefIdeal.Hand

namespace Cert.OutAttnIdeal.Hand

open Cert.ProdMath Idealize.ShloMosaic Idealize.ShloMosaic.TcCoe Idealize.SL.Sem

/-- Kernel and reference, run from memories that agree on the arguments, end with equal results. -/
theorem algebraic : Cert.algebraic_OutAttnIdeal_OutAttnRefIdeal := by
  intro m g m' g' _ hag
  refine ⟨fun c => Pnn (m ((c : Thread OutAttnIdeal.nD OutAttnIdeal.τ).loc OutAttnIdeal.main_arg0)) (m ((c : Thread OutAttnIdeal.nD OutAttnIdeal.τ).loc OutAttnIdeal.main_arg1)), ?_, ?_⟩
  · refine (θ_run _ _ _).mono (fun r h c => ?_) (OutAttnIdeal.Value.run_blocks m g)
    obtain ⟨h0, ha⟩ := h c
    exact ⟨h0.trans (final2 m c), ha⟩
  · refine (θ_run _ _ _).mono (fun r h c => ?_) (OutAttnRefIdeal.Hand.run_math m' g')
    obtain ⟨e0, e1⟩ := hag c
    obtain ⟨h0, ha⟩ := h c
    refine ⟨?_, ha⟩
    · beta_reduce; rw [← e0, ← e1]; exact h0

/-- The reference runs and leaves its arguments and every counter as they were. -/
theorem ref_frame : Cert.quiescent_OutAttnRefIdeal := by
  intro m g _
  exact (θ_run _ _ _).mono (fun r h => ⟨fun c => (h c).2, sem_eq_zero_of_no_sems (by decide) r.2⟩) (OutAttnRefIdeal.Hand.run_math m g)

end Cert.OutAttnIdeal.Hand

end
-- ==== Proof.MergeProd.lean ====
/- The merging projection: kernel and reference both are one product. -/
module

public import proofs.«01_k».proof.Defs
public import proofs.«01_k».proof.Proof.ProdMath
public import proofs.«01_k».proof.Proof.Gen.MergeIdeal.Value
public import proofs.«01_k».proof.Proof.Gen.MergeRefIdeal.Run
public import Idealize.ShloMosaic.Lib.Tactic.CleanTypes
public import Idealize.ShloMosaic.Lib.Claim

@[expose] public section

set_option maxRecDepth 16384

noncomputable section

namespace Cert.MergeIdeal.Hand

open Cert.MergeIdeal Cert.MergeIdeal.Gen Cert.ProdMath Idealize.ShloMosaic Idealize.ShloMosaic.TcCoe Idealize.SL.Sem

variable (m : (ℓ : Loc nD τ sig) → Buf (Elt Ideal) ℓ)

/-- Which block of its array each window holds at grid point `t`. -/
theorem idx_val : ∀ t : Fin cfg0.N, win0_0.index t = ![t.val / 2, 0] ∧ win0_1.index t = ![0, t.val % 2] ∧ win0_2.index t = ![t.val / 2, t.val % 2] :=
  (by decide +kernel : ∀ t : Fin grid0.N, _)

/-- One element of the stored block. -/
theorem k0_pay1_at (a : FVec Ideal ⟨2, ![1024, 2048]⟩ .bf16) (b : FVec Ideal ⟨2, ![2048, 1024]⟩ .bf16) (r l : Fin 1024) :
    k0_pay1 (F := Ideal) a b (ix2 r l) = ∑ x : Fin 2048, a (ix2 r x) * b (ix2 x l) := by
  pointwise [k0_pay1]

section Blocks
variable (c : Dev nD) (t : Fin cfg0.N)

/-- The first block's rows are rows of the first argument. -/
theorem blk0 (r : Fin 1024) (x : Fin 2048) (R : Fin 4096) (hR : R.val = (t.val / 2) * 1024 + r.val) : iblk m c 0 t (ix2 r x) = m ((c : Thread nD τ).loc main_arg0) (ix2 R x) := by
  blk_point [iblk, V, idx_val t]
/-- The second block's lanes are lanes of the second argument. -/
theorem blk1 (l : Fin 1024) (x : Fin 2048) (C : Fin 2048) (hC : C.val = (t.val % 2) * 1024 + l.val) : iblk m c 1 t (ix2 x l) = m ((c : Thread nD τ).loc main_arg1) (ix2 x C) := by
  blk_point [iblk, V, idx_val t]
end Blocks

/-- A row of a block is a row of the array. -/
theorem row_lt (t : Fin cfg0.N) (r : Fin 1024) : (t.val / 2) * 1024 + r.val < 4096 := by
  have := lt_of_lt_of_eq t.isLt N_0; omega
/-- A lane of a block is a lane of the array. -/
theorem col_lt (t : Fin cfg0.N) (l : Fin 1024) : (t.val % 2) * 1024 + l.val < 2048 := by
  have := lt_of_lt_of_eq t.isLt N_0; omega

/-- The array of window 2 after the last grid point. -/
theorem final2 (c : Dev nD) : (dats m 0 c).arrAt 2 (cfgs 0).N = Pnn (m ((c : Thread nD τ).loc main_arg0)) (m ((c : Thread nD τ).loc main_arg1)) := by
  refine (dats m 0 c).arrAt_eq_of_covers 2 _ (by decide +kernel) fun t hf y => ?_
  blk_simp
  rw [after0_2]
  frame_out
  refine (congrArg _ (eq_ix2 (n0 := 1024) (n1 := 1024) y)).trans ((k0_pay1_at _ _ _ _).trans ?_)
  have e : ∀ x : Fin 2048, _ := fun x => congrArg₂ (fun p q : EReal => p * q) (blk0 m c t (y 0) x ⟨_, row_lt t (y 0)⟩ rfl) (blk1 m c t (y 1) x ⟨_, col_lt t (y 1)⟩ rfl)
  refine Eq.trans ?_ (congrArg (Pnn (m ((c : Thread nD τ).loc main_arg0)) (m ((c : Thread nD τ).loc main_arg1))) (show ix2 (n0 := 4096) (n1 := 2048) ⟨_, row_lt t (y 0)⟩ ⟨_, col_lt t (y 1)⟩ = _ by blk_ext [idx_val t]))
  exact Finset.sum_congr rfl fun x _ => e x

end Cert.MergeIdeal.Hand

namespace Cert.MergeRefIdeal.Hand

open Cert.MergeRefIdeal Cert.MergeRefIdeal.Gen Cert.ProdMath Idealize.ShloMosaic Idealize.ShloMosaic.TcCoe Idealize.SL.Sem

/-- The reference ends with its results at the same functions of the arguments, which it leaves as they were. -/
theorem run_math (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = Pnn (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run _ _ _).mono (fun r h c => ⟨(h c).1.trans ?_, (h c).2⟩) (Cert.MergeRefIdeal.Value.run m ρ)
  all_goals clear h r
  all_goals generalize m ((c : Thread nD τ).loc main_arg0) = a
  all_goals generalize m ((c : Thread nD τ).loc main_arg1) = b
  all_goals revert a b
  all_goals clean_types
  · intro (a : FVec Ideal ⟨2, ![4096, 2048]⟩ .bf16) (b : FVec Ideal ⟨2, ![2048, 2048]⟩ .bf16)
    refine funext fun j => ?_
    idx_vars j
    pointwise [Pnn, nn]

end Cert.MergeRefIdeal.Hand

namespace Cert.MergeIdeal.Hand

open Cert.ProdMath Idealize.ShloMosaic Idealize.ShloMosaic.TcCoe Idealize.SL.Sem

/-- Kernel and reference, run from memories that agree on the arguments, end with equal results. -/
theorem algebraic : Cert.algebraic_MergeIdeal_MergeRefIdeal := by
  intro m g m' g' _ hag
  refine ⟨fun c => Pnn (m ((c : Thread MergeIdeal.nD MergeIdeal.τ).loc MergeIdeal.main_arg0)) (m ((c : Thread MergeIdeal.nD MergeIdeal.τ).loc MergeIdeal.main_arg1)), ?_, ?_⟩
  · refine (θ_run _ _ _).mono (fun r h c => ?_) (MergeIdeal.Value.run_blocks m g)
    obtain ⟨h0, ha⟩ := h c
    exact ⟨h0.trans (final2 m c), ha⟩
  · refine (θ_run _ _ _).mono (fun r h c => ?_) (MergeRefIdeal.Hand.run_math m' g')
    obtain ⟨e0, e1⟩ := hag c
    obtain ⟨h0, ha⟩ := h c
    refine ⟨?_, ha⟩
    · beta_reduce; rw [← e0, ← e1]; exact h0

/-- The reference runs and leaves its arguments and every counter as they were. -/
theorem ref_frame : Cert.quiescent_MergeRefIdeal := by
  intro m g _
  exact (θ_run _ _ _).mono (fun r h => ⟨fun c => (h c).2, sem_eq_zero_of_no_sems (by decide) r.2⟩) (MergeRefIdeal.Hand.run_math m g)

end Cert.MergeIdeal.Hand

end
-- ==== Proof.UpProd.lean ====
/- The MLP's first projection and its squared positive part: kernel and reference are the same two arrays. -/
module

public import proofs.«01_k».proof.Defs
public import proofs.«01_k».proof.Proof.ProdMath
public import proofs.«01_k».proof.Proof.Gen.UpIdeal.Value
public import proofs.«01_k».proof.Proof.Gen.UpRefIdeal.Run
public import Idealize.ShloMosaic.Lib.Tactic.CleanTypes
public import Idealize.ShloMosaic.Lib.Claim

@[expose] public section

set_option maxRecDepth 16384

noncomputable section

namespace Cert.UpIdeal.Hand

open Cert.UpIdeal Cert.UpIdeal.Gen Cert.ProdMath Idealize.ShloMosaic Idealize.ShloMosaic.TcCoe Idealize.SL.Sem

variable (m : (ℓ : Loc nD τ sig) → Buf (Elt Ideal) ℓ)

/-- Which block of its array each window holds at grid point `t`. -/
theorem idx_val : ∀ t : Fin cfg0.N, win0_0.index t = ![t.val / 8, 0] ∧ win0_1.index t = ![0, t.val % 8] ∧ win0_2.index t = ![t.val / 8, t.val % 8] ∧ win0_3.index t = ![t.val / 8, t.val % 8] :=
  (by decide +kernel : ∀ t : Fin grid0.N, _)

/-- One element of the stored block. -/
theorem k0_pay2_at (a : FVec Ideal ⟨2, ![1024, 2048]⟩ .bf16) (b : FVec Ideal ⟨2, ![2048, 1024]⟩ .bf16) (r l : Fin 1024) :
    k0_pay2 (F := Ideal) a b (ix2 r l) = ∑ x : Fin 2048, a (ix2 r x) * b (ix2 x l) := by
  pointwise [k0_pay2, k0_pay1]

/-- One element of the stored block. -/
theorem k0_pay3_at (a : FVec Ideal ⟨2, ![1024, 2048]⟩ .bf16) (b : FVec Ideal ⟨2, ![2048, 1024]⟩ .bf16) (r l : Fin 1024) :
    k0_pay3 (F := Ideal) a b (ix2 r l) = max (∑ x : Fin 2048, a (ix2 r x) * b (ix2 x l)) 0 * max (∑ x : Fin 2048, a (ix2 r x) * b (ix2 x l)) 0 := by
  pointwise [k0_pay3, k0_pay1]

section Blocks
variable (c : Dev nD) (t : Fin cfg0.N)

/-- The first block's rows are rows of the first argument. -/
theorem blk0 (r : Fin 1024) (x : Fin 2048) (R : Fin 4096) (hR : R.val = (t.val / 8) * 1024 + r.val) : iblk m c 0 t (ix2 r x) = m ((c : Thread nD τ).loc main_arg0) (ix2 R x) := by
  blk_point [iblk, V, idx_val t]
/-- The second block's lanes are lanes of the second argument. -/
theorem blk1 (l : Fin 1024) (x : Fin 2048) (C : Fin 8192) (hC : C.val = (t.val % 8) * 1024 + l.val) : iblk m c 1 t (ix2 x l) = m ((c : Thread nD τ).loc main_arg1) (ix2 x C) := by
  blk_point [iblk, V, idx_val t]
end Blocks

/-- A row of a block is a row of the array. -/
theorem row_lt (t : Fin cfg0.N) (r : Fin 1024) : (t.val / 8) * 1024 + r.val < 4096 := by
  have := lt_of_lt_of_eq t.isLt N_0; omega
/-- A lane of a block is a lane of the array. -/
theorem col_lt (t : Fin cfg0.N) (l : Fin 1024) : (t.val % 8) * 1024 + l.val < 8192 := by
  have := lt_of_lt_of_eq t.isLt N_0; omega

/-- The array of window 2 after the last grid point. -/
theorem final2 (c : Dev nD) : (dats m 0 c).arrAt 2 (cfgs 0).N = Pnn (m ((c : Thread nD τ).loc main_arg0)) (m ((c : Thread nD τ).loc main_arg1)) := by
  refine (dats m 0 c).arrAt_eq_of_covers 2 _ (by decide +kernel) fun t hf y => ?_
  blk_simp
  rw [after0_2]
  frame_out
  refine (congrArg _ (eq_ix2 (n0 := 1024) (n1 := 1024) y)).trans ((k0_pay2_at _ _ _ _).trans ?_)
  have e : ∀ x : Fin 2048, _ := fun x => congrArg₂ (fun p q : EReal => p * q) (blk0 m c t (y 0) x ⟨_, row_lt t (y 0)⟩ rfl) (blk1 m c t (y 1) x ⟨_, col_lt t (y 1)⟩ rfl)
  refine Eq.trans ?_ (congrArg (Pnn (m ((c : Thread nD τ).loc main_arg0)) (m ((c : Thread nD τ).loc main_arg1))) (show ix2 (n0 := 4096) (n1 := 8192) ⟨_, row_lt t (y 0)⟩ ⟨_, col_lt t (y 1)⟩ = _ by blk_ext [idx_val t]))
  exact Finset.sum_congr rfl fun x _ => e x

/-- The array of window 3 after the last grid point. -/
theorem final3 (c : Dev nD) : (dats m 0 c).arrAt 3 (cfgs 0).N = Prelu2 (m ((c : Thread nD τ).loc main_arg0)) (m ((c : Thread nD τ).loc main_arg1)) := by
  refine (dats m 0 c).arrAt_eq_of_covers 3 _ (by decide +kernel) fun t hf y => ?_
  blk_simp
  rw [after0_3]
  frame_out
  refine (congrArg _ (eq_ix2 (n0 := 1024) (n1 := 1024) y)).trans ((k0_pay3_at _ _ _ _).trans ?_)
  have e : ∀ x : Fin 2048, _ := fun x => congrArg₂ (fun p q : EReal => p * q) (blk0 m c t (y 0) x ⟨_, row_lt t (y 0)⟩ rfl) (blk1 m c t (y 1) x ⟨_, col_lt t (y 1)⟩ rfl)
  refine Eq.trans ?_ (congrArg (Prelu2 (m ((c : Thread nD τ).loc main_arg0)) (m ((c : Thread nD τ).loc main_arg1))) (show ix2 (n0 := 4096) (n1 := 8192) ⟨_, row_lt t (y 0)⟩ ⟨_, col_lt t (y 1)⟩ = _ by blk_ext [idx_val t]))
  exact congrArg (fun p : EReal => max p 0 * max p 0) (Finset.sum_congr rfl fun x _ => e x)

end Cert.UpIdeal.Hand

namespace Cert.UpRefIdeal.Hand

open Cert.UpRefIdeal Cert.UpRefIdeal.Gen Cert.ProdMath Idealize.ShloMosaic Idealize.ShloMosaic.TcCoe Idealize.SL.Sem

/-- The reference ends with its results at the same functions of the arguments, which it leaves as they were. -/
theorem run_math (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = Pnn (m ((c : Thread nD τ).loc main_arg0)) (m ((c : Thread nD τ).loc main_arg1))
      ∧ r.2.mem ((c.tc : Thread nD τ).loc main_v6) = Prelu2 (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run _ _ _).mono (fun r h c => ⟨(h c).1.trans ?_, (h c).2.1.trans ?_, (h c).2.2⟩) (Cert.UpRefIdeal.Value.run m ρ)
  all_goals clear h r
  all_goals generalize m ((c : Thread nD τ).loc main_arg0) = a
  all_goals generalize m ((c : Thread nD τ).loc main_arg1) = b
  all_goals revert a b
  all_goals clean_types
  · intro (a : FVec Ideal ⟨2, ![4096, 2048]⟩ .bf16) (b : FVec Ideal ⟨2, ![2048, 8192]⟩ .bf16)
    refine funext fun j => ?_
    idx_vars j
    pointwise [Pnn, nn]
  · intro (a : FVec Ideal ⟨2, ![4096, 2048]⟩ .bf16) (b : FVec Ideal ⟨2, ![2048, 8192]⟩ .bf16)
    refine funext fun j => ?_
    idx_vars j
    pointwise [Prelu2, nn]

end Cert.UpRefIdeal.Hand

namespace Cert.UpIdeal.Hand

open Cert.ProdMath Idealize.ShloMosaic Idealize.ShloMosaic.TcCoe Idealize.SL.Sem

/-- Kernel and reference, run from memories that agree on the arguments, end with equal results. -/
theorem algebraic : Cert.algebraic_UpIdeal_UpRefIdeal := by
  intro m g m' g' _ hag
  refine ⟨fun c => Pnn (m ((c : Thread UpIdeal.nD UpIdeal.τ).loc UpIdeal.main_arg0)) (m ((c : Thread UpIdeal.nD UpIdeal.τ).loc UpIdeal.main_arg1)), fun c => Prelu2 (m ((c : Thread UpIdeal.nD UpIdeal.τ).loc UpIdeal.main_arg0)) (m ((c : Thread UpIdeal.nD UpIdeal.τ).loc UpIdeal.main_arg1)), ?_, ?_⟩
  · refine (θ_run _ _ _).mono (fun r h c => ?_) (UpIdeal.Value.run_blocks m g)
    obtain ⟨h0, h1, ha⟩ := h c
    exact ⟨h0.trans (final2 m c), h1.trans (final3 m c), ha⟩
  · refine (θ_run _ _ _).mono (fun r h c => ?_) (UpRefIdeal.Hand.run_math m' g')
    obtain ⟨e0, e1⟩ := hag c
    obtain ⟨h0, h1, ha⟩ := h c
    refine ⟨?_, ?_, ha⟩
    · beta_reduce; rw [← e0, ← e1]; exact h0
    · beta_reduce; rw [← e0, ← e1]; exact h1

/-- The reference runs and leaves its arguments and every counter as they were. -/
theorem ref_frame : Cert.quiescent_UpRefIdeal := by
  intro m g _
  exact (θ_run _ _ _).mono (fun r h => ⟨fun c => (h c).2.2, sem_eq_zero_of_no_sems (by decide) r.2⟩) (UpRefIdeal.Hand.run_math m g)

end Cert.UpIdeal.Hand

end
-- ==== Proof.DownProd.lean ====
/- The MLP's second projection: kernel and reference both are one product. -/
module

public import proofs.«01_k».proof.Defs
public import proofs.«01_k».proof.Proof.ProdMath
public import proofs.«01_k».proof.Proof.Gen.DownIdeal.Value
public import proofs.«01_k».proof.Proof.Gen.DownRefIdeal.Run
public import Idealize.ShloMosaic.Lib.Tactic.CleanTypes
public import Idealize.ShloMosaic.Lib.Claim

@[expose] public section

set_option maxRecDepth 16384

noncomputable section

namespace Cert.DownIdeal.Hand

open Cert.DownIdeal Cert.DownIdeal.Gen Cert.ProdMath Idealize.ShloMosaic Idealize.ShloMosaic.TcCoe Idealize.SL.Sem

variable (m : (ℓ : Loc nD τ sig) → Buf (Elt Ideal) ℓ)

/-- Which block of its array each window holds at grid point `t`. -/
theorem idx_val : ∀ t : Fin cfg0.N, win0_0.index t = ![t.val / 4, t.val % 2] ∧ win0_1.index t = ![t.val % 2, t.val / 2 % 2] ∧ win0_2.index t = ![t.val / 4, t.val / 2 % 2] :=
  (by decide +kernel : ∀ t : Fin grid0.N, _)

/-- One element of a partial product. -/
theorem pay1_at (a : FVec Ideal ⟨2, ![1024, 4096]⟩ .bf16) (b : FVec Ideal ⟨2, ![4096, 1024]⟩ .bf16) (r l : Fin 1024) :
    k0_pay1 (F := Ideal) a b (ix2 r l) = ∑ x : Fin 4096, a (ix2 r x) * b (ix2 x l) := by
  pointwise [k0_pay1]
/-- The first partial product is stored as it is. -/
theorem pay2_at (a : FVec Ideal ⟨2, ![1024, 4096]⟩ .bf16) (b : FVec Ideal ⟨2, ![4096, 1024]⟩ .bf16) (r l : Fin 1024) :
    k0_pay2 (F := Ideal) a b (ix2 r l) = ∑ x : Fin 4096, a (ix2 r x) * b (ix2 x l) := by
  pointwise [k0_pay2, pay1_at]
/-- A later partial product is added to what was accumulated. -/
theorem pay3_at (a : FVec Ideal ⟨2, ![1024, 4096]⟩ .bf16) (b : FVec Ideal ⟨2, ![4096, 1024]⟩ .bf16) (v : FVec Ideal ⟨2, ![1024, 1024]⟩ .f32) (r l : Fin 1024) :
    k0_pay3 (F := Ideal) a b v (ix2 r l) = v (ix2 r l) + ∑ x : Fin 4096, a (ix2 r x) * b (ix2 x l) := by
  pointwise [k0_pay3, pay1_at]
/-- The accumulated block is stored as it is. -/
theorem pay4_at (v : FVec Ideal ⟨2, ![1024, 1024]⟩ .f32) (r l : Fin 1024) : k0_pay4 (F := Ideal) v (ix2 r l) = v (ix2 r l) := by
  pointwise [k0_pay4]

/-- The row of the array that row `r` of the block of a grid point is. -/
def rt (t : Fin cfg0.N) (r : Fin 1024) : Fin 4096 := ⟨(t.val / 4) * 1024 + r.val, by have := lt_of_lt_of_eq t.isLt N_0; omega⟩
/-- The lane of the array that lane `l` of the block of a grid point is. -/
def ct (t : Fin cfg0.N) (l : Fin 1024) : Fin 2048 := ⟨(t.val / 2 % 2) * 1024 + l.val, by have := lt_of_lt_of_eq t.isLt N_0; omega⟩
/-- The place in the contracted axis that place `x` of the blocks of step `s` is. -/
def kt (s : Fin 2) (x : Fin 4096) : Fin 8192 := ⟨s.val * 4096 + x.val, by omega⟩
/-- The step of the contracted axis a grid point works on. -/
def st (t : Fin cfg0.N) : Fin 2 := ⟨t.val % 2, Nat.mod_lt _ (by omega)⟩

section Blocks
variable (c : Dev nD) (t : Fin cfg0.N)

/-- The first block is a tile of the first argument. -/
theorem blk0 (r : Fin 1024) (x : Fin 4096) : iblk m c 0 t (ix2 r x) = m ((c : Thread nD τ).loc main_arg0) (ix2 (rt t r) (kt (st t) x)) := by
  unfold rt kt st; blk_point [iblk, V, idx_val t]
/-- The second block is a tile of the second argument. -/
theorem blk1 (l : Fin 1024) (x : Fin 4096) : iblk m c 1 t (ix2 x l) = m ((c : Thread nD τ).loc main_arg1) (ix2 (kt (st t) x) (ct t l)) := by
  unfold ct kt st; blk_point [iblk, V, idx_val t]

/-- The partial product of one step of the contracted axis. -/
def part (a : FVec Ideal ⟨2, ![4096, 8192]⟩ .bf16) (b : FVec Ideal ⟨2, ![8192, 2048]⟩ .bf16) (s : Fin 2) (R : Fin 4096) (C : Fin 2048) : EReal :=
  ∑ x : Fin 4096, a (ix2 R (kt s x)) * b (ix2 (kt s x) C)

/-- A grid point's blocks give the partial product of its step. -/
theorem part_eq (r l : Fin 1024) : (∑ x : Fin 4096, (fun p q : EReal => p * q) (iblk m c 0 t (ix2 r x)) (iblk m c 1 t (ix2 x l))) = part (m ((c : Thread nD τ).loc main_arg0)) (m ((c : Thread nD τ).loc main_arg1)) (st t) (rt t r) (ct t l) :=
  Finset.sum_congr rfl fun x _ => congrArg₂ (fun p q : EReal => p * q) (blk0 m c t r x) (blk1 m c t l x)

/-- At the first step of a block the scratch holds that step's partial product. -/
theorem reset (h : t.val % 2 = 0) (j : S1024x1024.Idx) :
    (outsAt0 m c t.val t.isLt).2 j = 0 + part (m ((c : Thread nD τ).loc main_arg0)) (m ((c : Thread nD τ).loc main_arg1)) (st t) (rt t (j 0)) (ct t (j 1)) := by
  rw [outsAt0_A m c t h (by omega) (by omega)]
  frame_out
  rw [zero_add]
  exact (congrArg _ (eq_ix2 (n0 := 1024) (n1 := 1024) j)).trans ((pay2_at _ _ _ _).trans (part_eq m c t (j 0) (j 1)))
/-- At a later step the step's partial product is added. -/
theorem step (h : ¬t.val % 2 = 0) (j : S1024x1024.Idx) :
    (outsAt0 m c t.val t.isLt).2 j = (outsAt0 m c (t.val - 1) (Nat.lt_of_le_of_lt (Nat.sub_le _ _) t.isLt)).2 j + part (m ((c : Thread nD τ).loc main_arg0)) (m ((c : Thread nD τ).loc main_arg1)) (st t) (rt t (j 0)) (ct t (j 1)) := by
  rw [outsAt0_B m c t h (by omega) (by omega)]
  frame_out
  refine (congrArg _ (eq_ix2 (n0 := 1024) (n1 := 1024) j)).trans ((pay3_at _ _ _ _ _).trans ?_)
  exact congrArg₂ (fun p q : EReal => p + q) ((congrFun ((Memref.isWhole_whole _).read_unread _) _).trans (congrArg _ (eq_ix2 (n0 := 1024) (n1 := 1024) j).symm)) (part_eq m c t (j 0) (j 1))

/-- At the last step the output block holds what the scratch holds. -/
theorem last_eq (h : t.val % 2 = 1) (j : S1024x1024.Idx) : (outsAt0 m c t.val t.isLt).1 j = (outsAt0 m c t.val t.isLt).2 j := by
  rw [outsAt0_B m c t (by omega) (by omega) h]
  frame_out
  exact (congrArg _ (eq_ix2 (n0 := 1024) (n1 := 1024) j)).trans ((pay4_at _ _ _).trans (congrArg _ (eq_ix2 (n0 := 1024) (n1 := 1024) j).symm))

end Blocks

/-- The partial products of all steps add up to the whole product. -/
theorem sum_part (a : FVec Ideal ⟨2, ![4096, 8192]⟩ .bf16) (b : FVec Ideal ⟨2, ![8192, 2048]⟩ .bf16) (R : Fin 4096) (C : Fin 2048) : ∑ s, part a b s R C = Pnn a b (ix2 R C) := by
  unfold part Pnn nn
  exact Fin.sum_mul_add_congr fun s k hl => rfl

/-- The array of the product after the last grid point. -/
theorem final2 (c : Dev nD) : (dats m 0 c).arrAt 2 (cfgs 0).N = Pnn (m ((c : Thread nD τ).loc main_arg0)) (m ((c : Thread nD τ).loc main_arg1)) := by
  refine (dats m 0 c).arrAt_eq_of_covers 2 _ (by decide +kernel) fun t hf y => ?_
  blk_simp
  rw [after0_2]
  refine (last_eq m c t ((flush0_2 t).mp hf) y).trans ?_
  rw [Pipeline.eq_sum_fin_of_reset_step_apply_of_flush (fun n h => (outsAt0 m c n h).2) 2 (fun _ => 0)
    (fun (p : Fin cfg0.N) (j : S1024x1024.Idx) => part (m ((c : Thread nD τ).loc main_arg0)) (m ((c : Thread nD τ).loc main_arg1)) (st p) (rt p (j 0)) (ct p (j 1)))
    (fun p h j => reset m c p h j) (fun p h j => step m c p h j) t ((flush0_2 t).mp hf) _, zero_add]
  refine Eq.trans (Fin.sum_fin_congr fun s => ?_) ((sum_part _ _ (rt t (y 0)) (ct t (y 1))).trans (congrArg (Pnn (m ((c : Thread nD τ).loc main_arg0)) (m ((c : Thread nD τ).loc main_arg1))) ?_))
  · have hp := Pipeline.run_point_lt_of_flush t ((flush0_2 t).mp hf) s
    have h1 : st ⟨2 * (t.val / 2) + s.val, hp⟩ = s := Fin.ext (by have := s.isLt; dsimp only [st]; omega)
    have h2 : rt ⟨2 * (t.val / 2) + s.val, hp⟩ (y 0) = rt t (y 0) := Fin.ext (by simp [rt]; omega)
    have h3 : ct ⟨2 * (t.val / 2) + s.val, hp⟩ (y 1) = ct t (y 1) := Fin.ext (by simp [ct]; omega)
    rw [h1, h2, h3]
  · unfold rt ct; blk_ext [idx_val t]

end Cert.DownIdeal.Hand

namespace Cert.DownRefIdeal.Hand

open Cert.DownRefIdeal Cert.DownRefIdeal.Gen Cert.ProdMath Idealize.ShloMosaic Idealize.ShloMosaic.TcCoe Idealize.SL.Sem

/-- The reference ends with its results at the same functions of the arguments, which it leaves as they were. -/
theorem run_math (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = Pnn (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run _ _ _).mono (fun r h c => ⟨(h c).1.trans ?_, (h c).2⟩) (Cert.DownRefIdeal.Value.run m ρ)
  all_goals clear h r
  all_goals generalize m ((c : Thread nD τ).loc main_arg0) = a
  all_goals generalize m ((c : Thread nD τ).loc main_arg1) = b
  all_goals revert a b
  all_goals clean_types
  · intro (a : FVec Ideal ⟨2, ![4096, 8192]⟩ .bf16) (b : FVec Ideal ⟨2, ![8192, 2048]⟩ .bf16)
    refine funext fun j => ?_
    idx_vars j
    pointwise [Pnn, nn]

end Cert.DownRefIdeal.Hand

namespace Cert.DownIdeal.Hand

open Cert.ProdMath Idealize.ShloMosaic Idealize.ShloMosaic.TcCoe Idealize.SL.Sem

/-- Kernel and reference, run from memories that agree on the arguments, end with equal results. -/
theorem algebraic : Cert.algebraic_DownIdeal_DownRefIdeal := by
  intro m g m' g' _ hag
  refine ⟨fun c => Pnn (m ((c : Thread DownIdeal.nD DownIdeal.τ).loc DownIdeal.main_arg0)) (m ((c : Thread DownIdeal.nD DownIdeal.τ).loc DownIdeal.main_arg1)), ?_, ?_⟩
  · refine (θ_run _ _ _).mono (fun r h c => ?_) (DownIdeal.Value.run_blocks m g)
    obtain ⟨h0, ha⟩ := h c
    exact ⟨h0.trans (final2 m c), ha⟩
  · refine (θ_run _ _ _).mono (fun r h c => ?_) (DownRefIdeal.Hand.run_math m' g')
    obtain ⟨e0, e1⟩ := hag c
    obtain ⟨h0, ha⟩ := h c
    refine ⟨?_, ha⟩
    · beta_reduce; rw [← e0, ← e1]; exact h0

/-- The reference runs and leaves its arguments and every counter as they were. -/
theorem ref_frame : Cert.quiescent_DownRefIdeal := by
  intro m g _
  exact (θ_run _ _ _).mono (fun r h => ⟨fun c => (h c).2, sem_eq_zero_of_no_sems (by decide) r.2⟩) (DownRefIdeal.Hand.run_math m g)

end Cert.DownIdeal.Hand

end
-- ==== Proof.GUpSendProd.lean ====
/- The gradient at the MLP's first weight, the rows that the other core sums: kernel and reference both are one product with the transposed left factor. -/
module

public import proofs.«01_k».proof.Defs
public import proofs.«01_k».proof.Proof.ProdMath
public import proofs.«01_k».proof.Proof.Gen.GUpSend.Frame
public import proofs.«01_k».proof.Proof.Gen.GUpSendIdeal.Frame
public import proofs.«01_k».proof.Proof.Gen.GUpSendRefIdeal.Run
public import Idealize.ShloMosaic.Lib.Tactic.CleanTypes
public import Idealize.ShloMosaic.Lib.Claim
public import Idealize.ShloMosaic.Lib.Pipeline.Covers

@[expose] public section

set_option maxRecDepth 16384

noncomputable section

namespace Cert.GUpSend.Hand

open Cert.GUpSend Cert.GUpSend.Gen Idealize.ShloMosaic Idealize.ShloMosaic.TcCoe Idealize.SL.Sem

/-- The table that holds a one. -/
def table : pre0.Contents (Elt Bits) | 0 => fun _ => (1#32 : BitVec 32)

/-- The place that the kernel reads is one. -/
theorem tbl_eq (m : (ℓ : Loc nD τ sig) → Buf (Elt Bits) ℓ) : tbl m = table := by
  funext j
  obtain rfl : j = 0 := Subsingleton.elim (α := Fin 1) j 0
  funext i
  show StableHlo.after hostOps0 _ (Proc.devRef .tc main_v2) i = _
  entry_read
  pointwise [table]
  rfl

/-- So every block lies inside its array. -/
theorem ok (m : (ℓ : Loc nD τ sig) → Buf (Elt Bits) ℓ) : Ok m := by
  show ok0 (tbl m)
  rw [tbl_eq]
  decide +kernel

end Cert.GUpSend.Hand

namespace Cert.GUpSendIdeal.Hand

open Cert.GUpSendIdeal Cert.GUpSendIdeal.Gen Cert.ProdMath Idealize.ShloMosaic Idealize.ShloMosaic.TcCoe Idealize.SL.Sem

/-- The table that holds a one. -/
def table : pre0.Contents (Elt Ideal) | 0 => fun _ => (1#32 : BitVec 32)

/-- The place that the kernel reads is one. -/
theorem tbl_eq (m : (ℓ : Loc nD τ sig) → Buf (Elt Ideal) ℓ) : tbl m = table := by
  funext j
  obtain rfl : j = 0 := Subsingleton.elim (α := Fin 1) j 0
  funext i
  show StableHlo.after hostOps0 _ (Proc.devRef .tc main_v2) i = _
  entry_read
  pointwise [table]
  rfl

/-- So every block lies inside its array. -/
theorem ok (m : (ℓ : Loc nD τ sig) → Buf (Elt Ideal) ℓ) : Ok m := by
  show ok0 (tbl m)
  rw [tbl_eq]
  decide +kernel

variable (m : (ℓ : Loc nD τ sig) → Buf (Elt Ideal) ℓ)

/-- Which block of its array each window holds at grid point `t`. -/
theorem idx_val (hO : Ok m) : ∀ t : Fin (cfgM m hO).N, ((cfgM m hO).win 0).index t = ![0, 1] ∧ ((cfgM m hO).win 1).index t = ![0, t.val] ∧ ((cfgM m hO).win 2).index t = ![0, t.val] := by
  have h : ∀ t : Fin grid0.N, cc0_transform_0 inb_S1_S1_0 numel1_S1 (tbl m) (grid0.coords t) = ![0, 1] ∧ cc0_transform_1 (grid0.coords t) = ![0, t.val] ∧ cc0_transform_2 (grid0.coords t) = ![0, t.val] := by
    rw [tbl_eq]; decide +kernel
  exact h

/-- One element of the stored block. -/
theorem k0_pay1_at (a : FVec Ideal ⟨2, ![4096, 1024]⟩ .bf16) (b : FVec Ideal ⟨2, ![4096, 512]⟩ .bf16) (r : Fin 1024) (l : Fin 512) :
    k0_pay1 (F := Ideal) a b (ix2 r l) = (∑ x : Fin 4096, a (ix2 x r) * b (ix2 x l)) := by
  pointwise [k0_pay1]

section Blocks
variable (hO : Ok m) (c : Dev nD) (t : Fin (cfgM m hO).N)

/-- The first block's columns are columns of the first argument. -/
theorem blk0 (x : Fin 4096) (r : Fin 1024) (R : Fin 2048) (hR : R.val = 1024 + r.val) : iblk m hO c 0 t (ix2 x r) = m ((c : Thread nD τ).loc main_arg0) (ix2 x R) := by
  rw [← V_main_arg0 m c]
  blk_point [iblk, idx_val m hO t]
/-- The second block's columns are columns of the second argument. -/
theorem blk1 (x : Fin 4096) (l : Fin 512) (C : Fin 8192) (hC : C.val = t.val * 512 + l.val) : iblk m hO c 1 t (ix2 x l) = m ((c : Thread nD τ).loc main_arg1) (ix2 x C) := by
  rw [← V_main_arg1 m c]
  blk_point [iblk, idx_val m hO t]

end Blocks

/-- A row of a block is a row of the result. -/
theorem row_lt (hO : Ok m) (t : Fin (cfgM m hO).N) (r : Fin 1024) : r.val < 1024 := by
  have := lt_of_lt_of_eq t.isLt N_0; omega
/-- A lane of a block is a lane of the result. -/
theorem col_lt (hO : Ok m) (t : Fin (cfgM m hO).N) (l : Fin 512) : t.val * 512 + l.val < 8192 := by
  have := lt_of_lt_of_eq t.isLt N_0; omega

/-- What the stores of one grid point leave of the result. -/
theorem point2 (hO : Ok m) (c : Dev nD) (t : Fin (cfgM m hO).N) (r : Fin 1024) (l : Fin 512) :
    k0_pay1 (F := Ideal) (iblk m hO c 0 t) (iblk m hO c 1 t) (ix2 r l) = ((Ptn 1024 0 (by decide) (by decide) (m ((c : Thread nD τ).loc main_arg0)) (m ((c : Thread nD τ).loc main_arg1)) : FVec Ideal ⟨2, ![1024, 8192]⟩ .f32)) (ix2 (n0 := 1024) (n1 := 8192) ⟨_, row_lt m hO t r⟩ ⟨_, col_lt m hO t l⟩) := by
  refine (k0_pay1_at _ _ _ _).trans ?_
  exact Finset.sum_congr rfl fun x _ => congrArg₂ (fun p q : EReal => p * q) (blk0 m hO c t x r _ rfl) (blk1 m hO c t x l _ (Nat.zero_add _))

/-- One grid point stores what the product of its blocks is. -/
theorem out_eq (c : Dev nD) (i : grid0.Coords) (arg4 : Memref sig .tc .vmem S4096x1024 .bf16) (harg4 : arg4.IsWhole) (arg5 : Memref sig .tc .vmem S4096x512 .bf16) (harg5 : arg5.IsWhole) (arg6 : Memref sig .tc .vmem S1024x512 .f32) (harg6 : arg6.IsWhole) (x0 : Vec Ideal S4096x1024 .bf16) (x1 : Vec Ideal S4096x512 .bf16) (xt0 : TbBuf0 (F := Ideal) c tbM0_0) :
    out0_A_2 c i arg4 harg4 arg5 harg5 arg6 harg6 x0 x1 xt0 = k0_pay1 x0 x1 := by
  unfold out0_A_2
  frame_out

/-- The stored blocks cover the result. -/
theorem covers2 (hO : Ok m) : ((cfgM m hO).win 2).Covers := by
  have h : ∀ β : (a : Fin 2) → Fin ((S1024x8192.size a + S1024x512.size a - 1) / S1024x512.size a), ∃ t : Fin grid0.N, ∀ a, (![0, t.val] : Fin 2 → ℕ) a = β a := by decide +kernel
  exact Pipeline.Window.covers_of_index_surj _ rfl (show ∀ a : Fin 2, 0 < S1024x512.size a by decide) fun β => (h β).imp fun t ht a => (congrFun (idx_val m hO t).2.2 a).trans (ht a)

/-- The result's array after the last grid point. -/
theorem final2 (hO : Ok m) (c : Dev nD) : (dats m hO 0 c).arrAt 2 (cfgM m hO).N = (Ptn 1024 0 (by decide) (by decide) (m ((c : Thread nD τ).loc main_arg0)) (m ((c : Thread nD τ).loc main_arg1)) : FVec Ideal ⟨2, ![1024, 8192]⟩ .f32) := by
  refine (dats m hO 0 c).arrAt_eq_of_covers 2 _ (covers2 m hO) fun t hf (y : Shape.Idx ⟨2, ![1024, 512]⟩) => ?_
  blk_simp
  rw [after0_2]
  refine (congrFun (out_eq _ _ _ _ _ _ _ _ _ _ _) y).trans ?_
  refine (congrArg _ (eq_ix2 (n0 := 1024) (n1 := 512) y)).trans ((point2 m hO c t (y 0) (y 1)).trans ?_)
  exact congrArg ((Ptn 1024 0 (by decide) (by decide) (m ((c : Thread nD τ).loc main_arg0)) (m ((c : Thread nD τ).loc main_arg1)) : FVec Ideal ⟨2, ![1024, 8192]⟩ .f32)) (show ix2 (n0 := 1024) (n1 := 8192) ⟨_, row_lt m hO t (y 0)⟩ ⟨_, col_lt m hO t (y 1)⟩ = _ by blk_ext [idx_val m hO t])

end Cert.GUpSendIdeal.Hand

namespace Cert.GUpSendRefIdeal.Hand

open Cert.GUpSendRefIdeal Cert.GUpSendRefIdeal.Gen Cert.ProdMath Idealize.ShloMosaic Idealize.ShloMosaic.TcCoe Idealize.SL.Sem

/-- The reference ends with its result at the same function of the arguments, which it leaves as they were. -/
theorem run_math (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v6) = (Ptn 1024 0 (by decide) (by decide) (m ((c : Thread nD τ).loc main_arg0)) (m ((c : Thread nD τ).loc main_arg1)) : FVec Ideal ⟨2, ![1024, 8192]⟩ .f32)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run _ _ _).mono (fun r h c => ⟨(h c).1.trans ?_, (h c).2⟩) (Cert.GUpSendRefIdeal.Value.run m ρ)
  all_goals clear h r
  all_goals generalize m ((c : Thread nD τ).loc main_arg0) = a
  all_goals generalize m ((c : Thread nD τ).loc main_arg1) = b
  all_goals revert a b
  all_goals clean_types
  · intro (a : FVec Ideal ⟨2, ![4096, 2048]⟩ .bf16) (b : FVec Ideal ⟨2, ![4096, 8192]⟩ .bf16)
    refine funext fun j => ?_
    idx_vars j
    pointwise [Ptn, tn]
    exact Finset.sum_congr rfl fun x _ => mul_comm _ _

end Cert.GUpSendRefIdeal.Hand

namespace Cert.GUpSendIdeal.Hand

open Cert.ProdMath Idealize.ShloMosaic Idealize.ShloMosaic.TcCoe Idealize.SL.Sem

/-- Kernel and reference, run from memories that agree on the arguments, end with equal results. -/
theorem algebraic : Cert.algebraic_GUpSendIdeal_GUpSendRefIdeal := by
  intro m g m' g' _ hag
  refine ⟨fun c => (Ptn 1024 0 (by decide) (by decide) (m ((c : Thread GUpSendIdeal.nD GUpSendIdeal.τ).loc GUpSendIdeal.main_arg0)) (m ((c : Thread GUpSendIdeal.nD GUpSendIdeal.τ).loc GUpSendIdeal.main_arg1)) : FVec Ideal ⟨2, ![1024, 8192]⟩ .f32), ?_, ?_⟩
  · refine (θ_run _ _ _).mono (fun r h c => ?_) (Gen.run_main m g (ok m))
    exact ⟨((h c).1 2).trans (final2 m (ok m) c), ((h c).1 0).trans (((Gen.dats m (ok m) 0 c).arrAt_in 0 rfl _).trans ((Gen.A_eq m (ok m) c 0).trans (Gen.V_main_arg0 m c))), ((h c).1 1).trans (((Gen.dats m (ok m) 0 c).arrAt_in 1 rfl _).trans ((Gen.A_eq m (ok m) c 1).trans (Gen.V_main_arg1 m c)))⟩
  · refine (θ_run _ _ _).mono (fun r h c => ?_) (GUpSendRefIdeal.Hand.run_math m' g')
    obtain ⟨e0, e1⟩ := hag c
    obtain ⟨h0, ha⟩ := h c
    refine ⟨?_, ha⟩
    · beta_reduce; rw [← e0, ← e1]; exact h0

/-- The reference runs and leaves its arguments and every counter as they were. -/
theorem ref_frame : Cert.quiescent_GUpSendRefIdeal := by
  intro m g _
  exact (θ_run _ _ _).mono (fun r h => ⟨fun c => (h c).2, sem_eq_zero_of_no_sems (by decide) r.2⟩) (GUpSendRefIdeal.Hand.run_math m g)

end Cert.GUpSendIdeal.Hand

end
-- ==== Proof.GUpKeepProd.lean ====
/- The gradient at the MLP's first weight, the rows that this core sums, with what landed: kernel and reference both are one product with the transposed left factor. -/
module

public import proofs.«01_k».proof.Defs
public import proofs.«01_k».proof.Proof.ProdMath
public import proofs.«01_k».proof.Proof.Gen.GUpKeep.Frame
public import proofs.«01_k».proof.Proof.Gen.GUpKeepIdeal.Frame
public import proofs.«01_k».proof.Proof.Gen.GUpKeepRefIdeal.Run
public import Idealize.ShloMosaic.Lib.Tactic.CleanTypes
public import Idealize.ShloMosaic.Lib.Claim
public import Idealize.ShloMosaic.Lib.Pipeline.Covers

@[expose] public section

set_option maxRecDepth 16384

noncomputable section

namespace Cert.GUpKeep.Hand

open Cert.GUpKeep Cert.GUpKeep.Gen Idealize.ShloMosaic Idealize.ShloMosaic.TcCoe Idealize.SL.Sem

/-- The table that holds a zero. -/
def table : pre0.Contents (Elt Bits) | 0 => fun _ => (0#32 : BitVec 32)

/-- The place that the kernel reads is zero. -/
theorem tbl_eq (m : (ℓ : Loc nD τ sig) → Buf (Elt Bits) ℓ) : tbl m = table := by
  funext j
  obtain rfl : j = 0 := Subsingleton.elim (α := Fin 1) j 0
  funext i
  show StableHlo.after hostOps0 _ (Proc.devRef .tc main_v0) i = _
  entry_read
  pointwise [table]

/-- So every block lies inside its array. -/
theorem ok (m : (ℓ : Loc nD τ sig) → Buf (Elt Bits) ℓ) : Ok m := by
  show ok0 (tbl m)
  rw [tbl_eq]
  decide +kernel

end Cert.GUpKeep.Hand

namespace Cert.GUpKeepIdeal.Hand

open Cert.GUpKeepIdeal Cert.GUpKeepIdeal.Gen Cert.ProdMath Idealize.ShloMosaic Idealize.ShloMosaic.TcCoe Idealize.SL.Sem

/-- The table that holds a zero. -/
def table : pre0.Contents (Elt Ideal) | 0 => fun _ => (0#32 : BitVec 32)

/-- The place that the kernel reads is zero. -/
theorem tbl_eq (m : (ℓ : Loc nD τ sig) → Buf (Elt Ideal) ℓ) : tbl m = table := by
  funext j
  obtain rfl : j = 0 := Subsingleton.elim (α := Fin 1) j 0
  funext i
  show StableHlo.after hostOps0 _ (Proc.devRef .tc main_v0) i = _
  entry_read
  pointwise [table]

/-- So every block lies inside its array. -/
theorem ok (m : (ℓ : Loc nD τ sig) → Buf (Elt Ideal) ℓ) : Ok m := by
  show ok0 (tbl m)
  rw [tbl_eq]
  decide +kernel

variable (m : (ℓ : Loc nD τ sig) → Buf (Elt Ideal) ℓ)

/-- Which block of its array each window holds at grid point `t`. -/
theorem idx_val (hO : Ok m) : ∀ t : Fin (cfgM m hO).N, ((cfgM m hO).win 0).index t = ![0, 0] ∧ ((cfgM m hO).win 1).index t = ![0, t.val] ∧ ((cfgM m hO).win 2).index t = ![0, t.val] ∧ ((cfgM m hO).win 3).index t = ![0, t.val] := by
  have h : ∀ t : Fin grid0.N, cc0_transform_0 inb_S1_S1_0 numel1_S1 (tbl m) (grid0.coords t) = ![0, 0] ∧ cc0_transform_1 (grid0.coords t) = ![0, t.val] ∧ cc0_transform_2 (grid0.coords t) = ![0, t.val] ∧ cc0_transform_3 (grid0.coords t) = ![0, t.val] := by
    rw [tbl_eq]; decide +kernel
  exact h

/-- One element of the stored block. -/
theorem k0_pay1_at (a : FVec Ideal ⟨2, ![4096, 1024]⟩ .bf16) (b : FVec Ideal ⟨2, ![4096, 512]⟩ .bf16) (d : FVec Ideal ⟨2, ![1024, 512]⟩ .f32) (r : Fin 1024) (l : Fin 512) :
    k0_pay1 (F := Ideal) a b d (ix2 r l) = (∑ x : Fin 4096, a (ix2 x r) * b (ix2 x l)) + d (ix2 r l) := by
  pointwise [k0_pay1]

section Blocks
variable (hO : Ok m) (c : Dev nD) (t : Fin (cfgM m hO).N)

/-- The first block's columns are columns of the first argument. -/
theorem blk0 (x : Fin 4096) (r : Fin 1024) (R : Fin 2048) (hR : R.val = 0 + r.val) : iblk m hO c 0 t (ix2 x r) = m ((c : Thread nD τ).loc main_arg0) (ix2 x R) := by
  rw [← V_main_arg0 m c]
  blk_point [iblk, idx_val m hO t]
/-- The second block's columns are columns of the second argument. -/
theorem blk1 (x : Fin 4096) (l : Fin 512) (C : Fin 8192) (hC : C.val = t.val * 512 + l.val) : iblk m hO c 1 t (ix2 x l) = m ((c : Thread nD τ).loc main_arg1) (ix2 x C) := by
  rw [← V_main_arg1 m c]
  blk_point [iblk, idx_val m hO t]
/-- The third block is a block of the third argument. -/
theorem blk2 (r : Fin 1024) (l : Fin 512) (R : Fin 1024) (C : Fin 8192) (hR : R.val = r.val) (hC : C.val = t.val * 512 + l.val) : iblk m hO c 2 t (ix2 r l) = m ((c : Thread nD τ).loc main_arg2) (ix2 R C) := by
  rw [← V_main_arg2 m c]
  blk_point [iblk, idx_val m hO t]

end Blocks

/-- A row of a block is a row of the result. -/
theorem row_lt (hO : Ok m) (t : Fin (cfgM m hO).N) (r : Fin 1024) : r.val < 1024 := by
  have := lt_of_lt_of_eq t.isLt N_0; omega
/-- A lane of a block is a lane of the result. -/
theorem col_lt (hO : Ok m) (t : Fin (cfgM m hO).N) (l : Fin 512) : t.val * 512 + l.val < 8192 := by
  have := lt_of_lt_of_eq t.isLt N_0; omega

/-- What the stores of one grid point leave of the result. -/
theorem point3 (hO : Ok m) (c : Dev nD) (t : Fin (cfgM m hO).N) (r : Fin 1024) (l : Fin 512) :
    k0_pay1 (F := Ideal) (iblk m hO c 0 t) (iblk m hO c 1 t) (iblk m hO c 2 t) (ix2 r l) = (Padd (Ptn 0 0 (by decide) (by decide) (m ((c : Thread nD τ).loc main_arg0)) (m ((c : Thread nD τ).loc main_arg1)) : FVec Ideal ⟨2, ![1024, 8192]⟩ .f32) (m ((c : Thread nD τ).loc main_arg2))) (ix2 (n0 := 1024) (n1 := 8192) ⟨_, row_lt m hO t r⟩ ⟨_, col_lt m hO t l⟩) := by
  refine (k0_pay1_at _ _ _ _ _).trans ?_
  exact congrArg₂ (fun p q : EReal => p + q) (Finset.sum_congr rfl fun x _ => congrArg₂ (fun p q : EReal => p * q) (blk0 m hO c t x r _ rfl) (blk1 m hO c t x l _ (Nat.zero_add _))) (blk2 m hO c t r l _ _ rfl rfl)

/-- One grid point stores what the product of its blocks is. -/
theorem out_eq (c : Dev nD) (i : grid0.Coords) (arg4 : Memref sig .tc .vmem S4096x1024 .bf16) (harg4 : arg4.IsWhole) (arg5 : Memref sig .tc .vmem S4096x512 .bf16) (harg5 : arg5.IsWhole) (arg6 : Memref sig .tc .vmem S1024x512 .f32) (harg6 : arg6.IsWhole) (arg7 : Memref sig .tc .vmem S1024x512 .bf16) (harg7 : arg7.IsWhole) (x0 : Vec Ideal S4096x1024 .bf16) (x1 : Vec Ideal S4096x512 .bf16) (x2 : Vec Ideal S1024x512 .f32) (xt0 : TbBuf0 (F := Ideal) c tbM0_0) :
    out0_A_3 c i arg4 harg4 arg5 harg5 arg6 harg6 arg7 harg7 x0 x1 x2 xt0 = k0_pay1 x0 x1 x2 := by
  unfold out0_A_3
  frame_out

/-- The stored blocks cover the result. -/
theorem covers3 (hO : Ok m) : ((cfgM m hO).win 3).Covers := by
  have h : ∀ β : (a : Fin 2) → Fin ((S1024x8192.size a + S1024x512.size a - 1) / S1024x512.size a), ∃ t : Fin grid0.N, ∀ a, (![0, t.val] : Fin 2 → ℕ) a = β a := by decide +kernel
  exact Pipeline.Window.covers_of_index_surj _ rfl (show ∀ a : Fin 2, 0 < S1024x512.size a by decide) fun β => (h β).imp fun t ht a => (congrFun (idx_val m hO t).2.2.2 a).trans (ht a)

/-- The result's array after the last grid point. -/
theorem final3 (hO : Ok m) (c : Dev nD) : (dats m hO 0 c).arrAt 3 (cfgM m hO).N = Padd (Ptn 0 0 (by decide) (by decide) (m ((c : Thread nD τ).loc main_arg0)) (m ((c : Thread nD τ).loc main_arg1)) : FVec Ideal ⟨2, ![1024, 8192]⟩ .f32) (m ((c : Thread nD τ).loc main_arg2)) := by
  refine (dats m hO 0 c).arrAt_eq_of_covers 3 _ (covers3 m hO) fun t hf (y : Shape.Idx ⟨2, ![1024, 512]⟩) => ?_
  blk_simp
  rw [after0_3]
  refine (congrFun (out_eq _ _ _ _ _ _ _ _ _ _ _ _ _ _) y).trans ?_
  refine (congrArg _ (eq_ix2 (n0 := 1024) (n1 := 512) y)).trans ((point3 m hO c t (y 0) (y 1)).trans ?_)
  exact congrArg (Padd (Ptn 0 0 (by decide) (by decide) (m ((c : Thread nD τ).loc main_arg0)) (m ((c : Thread nD τ).loc main_arg1)) : FVec Ideal ⟨2, ![1024, 8192]⟩ .f32) (m ((c : Thread nD τ).loc main_arg2))) (show ix2 (n0 := 1024) (n1 := 8192) ⟨_, row_lt m hO t (y 0)⟩ ⟨_, col_lt m hO t (y 1)⟩ = _ by blk_ext [idx_val m hO t])

end Cert.GUpKeepIdeal.Hand

namespace Cert.GUpKeepRefIdeal.Hand

open Cert.GUpKeepRefIdeal Cert.GUpKeepRefIdeal.Gen Cert.ProdMath Idealize.ShloMosaic Idealize.ShloMosaic.TcCoe Idealize.SL.Sem

/-- The reference ends with its result at the same function of the arguments, which it leaves as they were. -/
theorem run_math (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v8) = Padd (Ptn 0 0 (by decide) (by decide) (m ((c : Thread nD τ).loc main_arg0)) (m ((c : Thread nD τ).loc main_arg1)) : FVec Ideal ⟨2, ![1024, 8192]⟩ .f32) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run _ _ _).mono (fun r h c => ⟨(h c).1.trans ?_, (h c).2⟩) (Cert.GUpKeepRefIdeal.Value.run m ρ)
  all_goals clear h r
  all_goals generalize m ((c : Thread nD τ).loc main_arg0) = a
  all_goals generalize m ((c : Thread nD τ).loc main_arg1) = b
  all_goals generalize m ((c : Thread nD τ).loc main_arg2) = d
  all_goals revert a b d
  all_goals clean_types
  · intro (a : FVec Ideal ⟨2, ![4096, 2048]⟩ .bf16) (b : FVec Ideal ⟨2, ![4096, 8192]⟩ .bf16) (d : FVec Ideal ⟨2, ![1024, 8192]⟩ .f32)
    refine funext fun j => ?_
    idx_vars j
    pointwise [Padd, Ptn, tn]
    exact congrArg (fun p : EReal => p + _) (Finset.sum_congr rfl fun x _ => mul_comm _ _)

end Cert.GUpKeepRefIdeal.Hand

namespace Cert.GUpKeepIdeal.Hand

open Cert.ProdMath Idealize.ShloMosaic Idealize.ShloMosaic.TcCoe Idealize.SL.Sem

/-- Kernel and reference, run from memories that agree on the arguments, end with equal results. -/
theorem algebraic : Cert.algebraic_GUpKeepIdeal_GUpKeepRefIdeal := by
  intro m g m' g' _ hag
  refine ⟨fun c => Padd (Ptn 0 0 (by decide) (by decide) (m ((c : Thread GUpKeepIdeal.nD GUpKeepIdeal.τ).loc GUpKeepIdeal.main_arg0)) (m ((c : Thread GUpKeepIdeal.nD GUpKeepIdeal.τ).loc GUpKeepIdeal.main_arg1)) : FVec Ideal ⟨2, ![1024, 8192]⟩ .f32) (m ((c : Thread GUpKeepIdeal.nD GUpKeepIdeal.τ).loc GUpKeepIdeal.main_arg2)), ?_, ?_⟩
  · refine (θ_run _ _ _).mono (fun r h c => ?_) (Gen.run_main m g (ok m))
    exact ⟨((h c).1 3).trans (final3 m (ok m) c), ((h c).1 0).trans (((Gen.dats m (ok m) 0 c).arrAt_in 0 rfl _).trans ((Gen.A_eq m (ok m) c 0).trans (Gen.V_main_arg0 m c))), ((h c).1 1).trans (((Gen.dats m (ok m) 0 c).arrAt_in 1 rfl _).trans ((Gen.A_eq m (ok m) c 1).trans (Gen.V_main_arg1 m c))), ((h c).1 2).trans (((Gen.dats m (ok m) 0 c).arrAt_in 2 rfl _).trans ((Gen.A_eq m (ok m) c 2).trans (Gen.V_main_arg2 m c)))⟩
  · refine (θ_run _ _ _).mono (fun r h c => ?_) (GUpKeepRefIdeal.Hand.run_math m' g')
    obtain ⟨e0, e1, e2⟩ := hag c
    obtain ⟨h0, ha⟩ := h c
    refine ⟨?_, ha⟩
    · beta_reduce; rw [← e0, ← e1, ← e2]; exact h0

/-- The reference runs and leaves its arguments and every counter as they were. -/
theorem ref_frame : Cert.quiescent_GUpKeepRefIdeal := by
  intro m g _
  exact (θ_run _ _ _).mono (fun r h => ⟨fun c => (h c).2, sem_eq_zero_of_no_sems (by decide) r.2⟩) (GUpKeepRefIdeal.Hand.run_math m g)

end Cert.GUpKeepIdeal.Hand

end
-- ==== Proof.GDownSendProd.lean ====
/- The gradient at the MLP's second weight, the columns that the other core sums: kernel and reference both are one product with the transposed left factor. -/
module

public import proofs.«01_k».proof.Defs
public import proofs.«01_k».proof.Proof.ProdMath
public import proofs.«01_k».proof.Proof.Gen.GDownSend.Frame
public import proofs.«01_k».proof.Proof.Gen.GDownSendIdeal.Frame
public import proofs.«01_k».proof.Proof.Gen.GDownSendRefIdeal.Run
public import Idealize.ShloMosaic.Lib.Tactic.CleanTypes
public import Idealize.ShloMosaic.Lib.Claim
public import Idealize.ShloMosaic.Lib.Pipeline.Covers

@[expose] public section

set_option maxRecDepth 16384

noncomputable section

namespace Cert.GDownSend.Hand

open Cert.GDownSend Cert.GDownSend.Gen Idealize.ShloMosaic Idealize.ShloMosaic.TcCoe Idealize.SL.Sem

/-- The table that holds a one. -/
def table : pre0.Contents (Elt Bits) | 0 => fun _ => (1#32 : BitVec 32)

/-- The place that the kernel reads is one. -/
theorem tbl_eq (m : (ℓ : Loc nD τ sig) → Buf (Elt Bits) ℓ) : tbl m = table := by
  funext j
  obtain rfl : j = 0 := Subsingleton.elim (α := Fin 1) j 0
  funext i
  show StableHlo.after hostOps0 _ (Proc.devRef .tc main_v2) i = _
  entry_read
  pointwise [table]
  rfl

/-- So every block lies inside its array. -/
theorem ok (m : (ℓ : Loc nD τ sig) → Buf (Elt Bits) ℓ) : Ok m := by
  show ok0 (tbl m)
  rw [tbl_eq]
  decide +kernel

end Cert.GDownSend.Hand

namespace Cert.GDownSendIdeal.Hand

open Cert.GDownSendIdeal Cert.GDownSendIdeal.Gen Cert.ProdMath Idealize.ShloMosaic Idealize.ShloMosaic.TcCoe Idealize.SL.Sem

/-- The table that holds a one. -/
def table : pre0.Contents (Elt Ideal) | 0 => fun _ => (1#32 : BitVec 32)

/-- The place that the kernel reads is one. -/
theorem tbl_eq (m : (ℓ : Loc nD τ sig) → Buf (Elt Ideal) ℓ) : tbl m = table := by
  funext j
  obtain rfl : j = 0 := Subsingleton.elim (α := Fin 1) j 0
  funext i
  show StableHlo.after hostOps0 _ (Proc.devRef .tc main_v2) i = _
  entry_read
  pointwise [table]
  rfl

/-- So every block lies inside its array. -/
theorem ok (m : (ℓ : Loc nD τ sig) → Buf (Elt Ideal) ℓ) : Ok m := by
  show ok0 (tbl m)
  rw [tbl_eq]
  decide +kernel

variable (m : (ℓ : Loc nD τ sig) → Buf (Elt Ideal) ℓ)

/-- Which block of its array each window holds at grid point `t`. -/
theorem idx_val (hO : Ok m) : ∀ t : Fin (cfgM m hO).N, ((cfgM m hO).win 0).index t = ![0, t.val] ∧ ((cfgM m hO).win 1).index t = ![0, 1] ∧ ((cfgM m hO).win 2).index t = ![t.val, 0] := by
  have h : ∀ t : Fin grid0.N, cc0_transform_0 (grid0.coords t) = ![0, t.val] ∧ cc0_transform_1 inb_S1_S1_0 numel1_S1 (tbl m) (grid0.coords t) = ![0, 1] ∧ cc0_transform_2 (grid0.coords t) = ![t.val, 0] := by
    rw [tbl_eq]; decide +kernel
  exact h

/-- One element of the stored block. -/
theorem k0_pay1_at (a : FVec Ideal ⟨2, ![4096, 512]⟩ .bf16) (b : FVec Ideal ⟨2, ![4096, 1024]⟩ .bf16) (r : Fin 512) (l : Fin 1024) :
    k0_pay1 (F := Ideal) a b (ix2 r l) = (∑ x : Fin 4096, a (ix2 x r) * b (ix2 x l)) := by
  pointwise [k0_pay1]

section Blocks
variable (hO : Ok m) (c : Dev nD) (t : Fin (cfgM m hO).N)

/-- The first block's columns are columns of the first argument. -/
theorem blk0 (x : Fin 4096) (r : Fin 512) (R : Fin 8192) (hR : R.val = t.val * 512 + r.val) : iblk m hO c 0 t (ix2 x r) = m ((c : Thread nD τ).loc main_arg0) (ix2 x R) := by
  rw [← V_main_arg0 m c]
  blk_point [iblk, idx_val m hO t]
/-- The second block's columns are columns of the second argument. -/
theorem blk1 (x : Fin 4096) (l : Fin 1024) (C : Fin 2048) (hC : C.val = 1024 + l.val) : iblk m hO c 1 t (ix2 x l) = m ((c : Thread nD τ).loc main_arg1) (ix2 x C) := by
  rw [← V_main_arg1 m c]
  blk_point [iblk, idx_val m hO t]

end Blocks

/-- A row of a block is a row of the result. -/
theorem row_lt (hO : Ok m) (t : Fin (cfgM m hO).N) (r : Fin 512) : t.val * 512 + r.val < 8192 := by
  have := lt_of_lt_of_eq t.isLt N_0; omega
/-- A lane of a block is a lane of the result. -/
theorem col_lt (hO : Ok m) (t : Fin (cfgM m hO).N) (l : Fin 1024) : l.val < 1024 := by
  have := lt_of_lt_of_eq t.isLt N_0; omega

/-- What the stores of one grid point leave of the result. -/
theorem point2 (hO : Ok m) (c : Dev nD) (t : Fin (cfgM m hO).N) (r : Fin 512) (l : Fin 1024) :
    k0_pay1 (F := Ideal) (iblk m hO c 0 t) (iblk m hO c 1 t) (ix2 r l) = ((Ptn 0 1024 (by decide) (by decide) (m ((c : Thread nD τ).loc main_arg0)) (m ((c : Thread nD τ).loc main_arg1)) : FVec Ideal ⟨2, ![8192, 1024]⟩ .f32)) (ix2 (n0 := 8192) (n1 := 1024) ⟨_, row_lt m hO t r⟩ ⟨_, col_lt m hO t l⟩) := by
  refine (k0_pay1_at _ _ _ _).trans ?_
  exact Finset.sum_congr rfl fun x _ => congrArg₂ (fun p q : EReal => p * q) (blk0 m hO c t x r _ (Nat.zero_add _)) (blk1 m hO c t x l _ rfl)

/-- One grid point stores what the product of its blocks is. -/
theorem out_eq (c : Dev nD) (i : grid0.Coords) (arg4 : Memref sig .tc .vmem S4096x512 .bf16) (harg4 : arg4.IsWhole) (arg5 : Memref sig .tc .vmem S4096x1024 .bf16) (harg5 : arg5.IsWhole) (arg6 : Memref sig .tc .vmem S512x1024 .f32) (harg6 : arg6.IsWhole) (x0 : Vec Ideal S4096x512 .bf16) (x1 : Vec Ideal S4096x1024 .bf16) (xt0 : TbBuf0 (F := Ideal) c tbM0_0) :
    out0_A_2 c i arg4 harg4 arg5 harg5 arg6 harg6 x0 x1 xt0 = k0_pay1 x0 x1 := by
  unfold out0_A_2
  frame_out

/-- The stored blocks cover the result. -/
theorem covers2 (hO : Ok m) : ((cfgM m hO).win 2).Covers := by
  have h : ∀ β : (a : Fin 2) → Fin ((S8192x1024.size a + S512x1024.size a - 1) / S512x1024.size a), ∃ t : Fin grid0.N, ∀ a, (![t.val, 0] : Fin 2 → ℕ) a = β a := by decide +kernel
  exact Pipeline.Window.covers_of_index_surj _ rfl (show ∀ a : Fin 2, 0 < S512x1024.size a by decide) fun β => (h β).imp fun t ht a => (congrFun (idx_val m hO t).2.2 a).trans (ht a)

/-- The result's array after the last grid point. -/
theorem final2 (hO : Ok m) (c : Dev nD) : (dats m hO 0 c).arrAt 2 (cfgM m hO).N = (Ptn 0 1024 (by decide) (by decide) (m ((c : Thread nD τ).loc main_arg0)) (m ((c : Thread nD τ).loc main_arg1)) : FVec Ideal ⟨2, ![8192, 1024]⟩ .f32) := by
  refine (dats m hO 0 c).arrAt_eq_of_covers 2 _ (covers2 m hO) fun t hf (y : Shape.Idx ⟨2, ![512, 1024]⟩) => ?_
  blk_simp
  rw [after0_2]
  refine (congrFun (out_eq _ _ _ _ _ _ _ _ _ _ _) y).trans ?_
  refine (congrArg _ (eq_ix2 (n0 := 512) (n1 := 1024) y)).trans ((point2 m hO c t (y 0) (y 1)).trans ?_)
  exact congrArg ((Ptn 0 1024 (by decide) (by decide) (m ((c : Thread nD τ).loc main_arg0)) (m ((c : Thread nD τ).loc main_arg1)) : FVec Ideal ⟨2, ![8192, 1024]⟩ .f32)) (show ix2 (n0 := 8192) (n1 := 1024) ⟨_, row_lt m hO t (y 0)⟩ ⟨_, col_lt m hO t (y 1)⟩ = _ by blk_ext [idx_val m hO t])

end Cert.GDownSendIdeal.Hand

namespace Cert.GDownSendRefIdeal.Hand

open Cert.GDownSendRefIdeal Cert.GDownSendRefIdeal.Gen Cert.ProdMath Idealize.ShloMosaic Idealize.ShloMosaic.TcCoe Idealize.SL.Sem

/-- The reference ends with its result at the same function of the arguments, which it leaves as they were. -/
theorem run_math (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v6) = (Ptn 0 1024 (by decide) (by decide) (m ((c : Thread nD τ).loc main_arg0)) (m ((c : Thread nD τ).loc main_arg1)) : FVec Ideal ⟨2, ![8192, 1024]⟩ .f32)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run _ _ _).mono (fun r h c => ⟨(h c).1.trans ?_, (h c).2⟩) (Cert.GDownSendRefIdeal.Value.run m ρ)
  all_goals clear h r
  all_goals generalize m ((c : Thread nD τ).loc main_arg0) = a
  all_goals generalize m ((c : Thread nD τ).loc main_arg1) = b
  all_goals revert a b
  all_goals clean_types
  · intro (a : FVec Ideal ⟨2, ![4096, 8192]⟩ .bf16) (b : FVec Ideal ⟨2, ![4096, 2048]⟩ .bf16)
    refine funext fun j => ?_
    idx_vars j
    pointwise [Ptn, tn]
    exact Finset.sum_congr rfl fun x _ => mul_comm _ _

end Cert.GDownSendRefIdeal.Hand

namespace Cert.GDownSendIdeal.Hand

open Cert.ProdMath Idealize.ShloMosaic Idealize.ShloMosaic.TcCoe Idealize.SL.Sem

/-- Kernel and reference, run from memories that agree on the arguments, end with equal results. -/
theorem algebraic : Cert.algebraic_GDownSendIdeal_GDownSendRefIdeal := by
  intro m g m' g' _ hag
  refine ⟨fun c => (Ptn 0 1024 (by decide) (by decide) (m ((c : Thread GDownSendIdeal.nD GDownSendIdeal.τ).loc GDownSendIdeal.main_arg0)) (m ((c : Thread GDownSendIdeal.nD GDownSendIdeal.τ).loc GDownSendIdeal.main_arg1)) : FVec Ideal ⟨2, ![8192, 1024]⟩ .f32), ?_, ?_⟩
  · refine (θ_run _ _ _).mono (fun r h c => ?_) (Gen.run_main m g (ok m))
    exact ⟨((h c).1 2).trans (final2 m (ok m) c), ((h c).1 0).trans (((Gen.dats m (ok m) 0 c).arrAt_in 0 rfl _).trans ((Gen.A_eq m (ok m) c 0).trans (Gen.V_main_arg0 m c))), ((h c).1 1).trans (((Gen.dats m (ok m) 0 c).arrAt_in 1 rfl _).trans ((Gen.A_eq m (ok m) c 1).trans (Gen.V_main_arg1 m c)))⟩
  · refine (θ_run _ _ _).mono (fun r h c => ?_) (GDownSendRefIdeal.Hand.run_math m' g')
    obtain ⟨e0, e1⟩ := hag c
    obtain ⟨h0, ha⟩ := h c
    refine ⟨?_, ha⟩
    · beta_reduce; rw [← e0, ← e1]; exact h0

/-- The reference runs and leaves its arguments and every counter as they were. -/
theorem ref_frame : Cert.quiescent_GDownSendRefIdeal := by
  intro m g _
  exact (θ_run _ _ _).mono (fun r h => ⟨fun c => (h c).2, sem_eq_zero_of_no_sems (by decide) r.2⟩) (GDownSendRefIdeal.Hand.run_math m g)

end Cert.GDownSendIdeal.Hand

end
-- ==== Proof.GDownKeepProd.lean ====
/- The gradient at the MLP's second weight, the columns that this core sums, with what landed: kernel and reference both are one product with the transposed left factor. -/
module

public import proofs.«01_k».proof.Defs
public import proofs.«01_k».proof.Proof.ProdMath
public import proofs.«01_k».proof.Proof.Gen.GDownKeep.Frame
public import proofs.«01_k».proof.Proof.Gen.GDownKeepIdeal.Frame
public import proofs.«01_k».proof.Proof.Gen.GDownKeepRefIdeal.Run
public import Idealize.ShloMosaic.Lib.Tactic.CleanTypes
public import Idealize.ShloMosaic.Lib.Claim
public import Idealize.ShloMosaic.Lib.Pipeline.Covers

@[expose] public section

set_option maxRecDepth 16384

noncomputable section

namespace Cert.GDownKeep.Hand

open Cert.GDownKeep Cert.GDownKeep.Gen Idealize.ShloMosaic Idealize.ShloMosaic.TcCoe Idealize.SL.Sem

/-- The table that holds a zero. -/
def table : pre0.Contents (Elt Bits) | 0 => fun _ => (0#32 : BitVec 32)

/-- The place that the kernel reads is zero. -/
theorem tbl_eq (m : (ℓ : Loc nD τ sig) → Buf (Elt Bits) ℓ) : tbl m = table := by
  funext j
  obtain rfl : j = 0 := Subsingleton.elim (α := Fin 1) j 0
  funext i
  show StableHlo.after hostOps0 _ (Proc.devRef .tc main_v0) i = _
  entry_read
  pointwise [table]

/-- So every block lies inside its array. -/
theorem ok (m : (ℓ : Loc nD τ sig) → Buf (Elt Bits) ℓ) : Ok m := by
  show ok0 (tbl m)
  rw [tbl_eq]
  decide +kernel

end Cert.GDownKeep.Hand

namespace Cert.GDownKeepIdeal.Hand

open Cert.GDownKeepIdeal Cert.GDownKeepIdeal.Gen Cert.ProdMath Idealize.ShloMosaic Idealize.ShloMosaic.TcCoe Idealize.SL.Sem

/-- The table that holds a zero. -/
def table : pre0.Contents (Elt Ideal) | 0 => fun _ => (0#32 : BitVec 32)

/-- The place that the kernel reads is zero. -/
theorem tbl_eq (m : (ℓ : Loc nD τ sig) → Buf (Elt Ideal) ℓ) : tbl m = table := by
  funext j
  obtain rfl : j = 0 := Subsingleton.elim (α := Fin 1) j 0
  funext i
  show StableHlo.after hostOps0 _ (Proc.devRef .tc main_v0) i = _
  entry_read
  pointwise [table]

/-- So every block lies inside its array. -/
theorem ok (m : (ℓ : Loc nD τ sig) → Buf (Elt Ideal) ℓ) : Ok m := by
  show ok0 (tbl m)
  rw [tbl_eq]
  decide +kernel

variable (m : (ℓ : Loc nD τ sig) → Buf (Elt Ideal) ℓ)

/-- Which block of its array each window holds at grid point `t`. -/
theorem idx_val (hO : Ok m) : ∀ t : Fin (cfgM m hO).N, ((cfgM m hO).win 0).index t = ![0, t.val] ∧ ((cfgM m hO).win 1).index t = ![0, 0] ∧ ((cfgM m hO).win 2).index t = ![t.val, 0] ∧ ((cfgM m hO).win 3).index t = ![t.val, 0] := by
  have h : ∀ t : Fin grid0.N, cc0_transform_0 (grid0.coords t) = ![0, t.val] ∧ cc0_transform_1 inb_S1_S1_0 numel1_S1 (tbl m) (grid0.coords t) = ![0, 0] ∧ cc0_transform_2 (grid0.coords t) = ![t.val, 0] ∧ cc0_transform_3 (grid0.coords t) = ![t.val, 0] := by
    rw [tbl_eq]; decide +kernel
  exact h

/-- One element of the stored block. -/
theorem k0_pay1_at (a : FVec Ideal ⟨2, ![4096, 512]⟩ .bf16) (b : FVec Ideal ⟨2, ![4096, 1024]⟩ .bf16) (d : FVec Ideal ⟨2, ![512, 1024]⟩ .f32) (r : Fin 512) (l : Fin 1024) :
    k0_pay1 (F := Ideal) a b d (ix2 r l) = (∑ x : Fin 4096, a (ix2 x r) * b (ix2 x l)) + d (ix2 r l) := by
  pointwise [k0_pay1]

section Blocks
variable (hO : Ok m) (c : Dev nD) (t : Fin (cfgM m hO).N)

/-- The first block's columns are columns of the first argument. -/
theorem blk0 (x : Fin 4096) (r : Fin 512) (R : Fin 8192) (hR : R.val = t.val * 512 + r.val) : iblk m hO c 0 t (ix2 x r) = m ((c : Thread nD τ).loc main_arg0) (ix2 x R) := by
  rw [← V_main_arg0 m c]
  blk_point [iblk, idx_val m hO t]
/-- The second block's columns are columns of the second argument. -/
theorem blk1 (x : Fin 4096) (l : Fin 1024) (C : Fin 2048) (hC : C.val = 0 + l.val) : iblk m hO c 1 t (ix2 x l) = m ((c : Thread nD τ).loc main_arg1) (ix2 x C) := by
  rw [← V_main_arg1 m c]
  blk_point [iblk, idx_val m hO t]
/-- The third block is a block of the third argument. -/
theorem blk2 (r : Fin 512) (l : Fin 1024) (R : Fin 8192) (C : Fin 1024) (hR : R.val = t.val * 512 + r.val) (hC : C.val = l.val) : iblk m hO c 2 t (ix2 r l) = m ((c : Thread nD τ).loc main_arg2) (ix2 R C) := by
  rw [← V_main_arg2 m c]
  blk_point [iblk, idx_val m hO t]

end Blocks

/-- A row of a block is a row of the result. -/
theorem row_lt (hO : Ok m) (t : Fin (cfgM m hO).N) (r : Fin 512) : t.val * 512 + r.val < 8192 := by
  have := lt_of_lt_of_eq t.isLt N_0; omega
/-- A lane of a block is a lane of the result. -/
theorem col_lt (hO : Ok m) (t : Fin (cfgM m hO).N) (l : Fin 1024) : l.val < 1024 := by
  have := lt_of_lt_of_eq t.isLt N_0; omega

/-- What the stores of one grid point leave of the result. -/
theorem point3 (hO : Ok m) (c : Dev nD) (t : Fin (cfgM m hO).N) (r : Fin 512) (l : Fin 1024) :
    k0_pay1 (F := Ideal) (iblk m hO c 0 t) (iblk m hO c 1 t) (iblk m hO c 2 t) (ix2 r l) = (Padd (Ptn 0 0 (by decide) (by decide) (m ((c : Thread nD τ).loc main_arg0)) (m ((c : Thread nD τ).loc main_arg1)) : FVec Ideal ⟨2, ![8192, 1024]⟩ .f32) (m ((c : Thread nD τ).loc main_arg2))) (ix2 (n0 := 8192) (n1 := 1024) ⟨_, row_lt m hO t r⟩ ⟨_, col_lt m hO t l⟩) := by
  refine (k0_pay1_at _ _ _ _ _).trans ?_
  exact congrArg₂ (fun p q : EReal => p + q) (Finset.sum_congr rfl fun x _ => congrArg₂ (fun p q : EReal => p * q) (blk0 m hO c t x r _ (Nat.zero_add _)) (blk1 m hO c t x l _ rfl)) (blk2 m hO c t r l _ _ rfl rfl)

/-- One grid point stores what the product of its blocks is. -/
theorem out_eq (c : Dev nD) (i : grid0.Coords) (arg4 : Memref sig .tc .vmem S4096x512 .bf16) (harg4 : arg4.IsWhole) (arg5 : Memref sig .tc .vmem S4096x1024 .bf16) (harg5 : arg5.IsWhole) (arg6 : Memref sig .tc .vmem S512x1024 .f32) (harg6 : arg6.IsWhole) (arg7 : Memref sig .tc .vmem S512x1024 .bf16) (harg7 : arg7.IsWhole) (x0 : Vec Ideal S4096x512 .bf16) (x1 : Vec Ideal S4096x1024 .bf16) (x2 : Vec Ideal S512x1024 .f32) (xt0 : TbBuf0 (F := Ideal) c tbM0_0) :
    out0_A_3 c i arg4 harg4 arg5 harg5 arg6 harg6 arg7 harg7 x0 x1 x2 xt0 = k0_pay1 x0 x1 x2 := by
  unfold out0_A_3
  frame_out

/-- The stored blocks cover the result. -/
theorem covers3 (hO : Ok m) : ((cfgM m hO).win 3).Covers := by
  have h : ∀ β : (a : Fin 2) → Fin ((S8192x1024.size a + S512x1024.size a - 1) / S512x1024.size a), ∃ t : Fin grid0.N, ∀ a, (![t.val, 0] : Fin 2 → ℕ) a = β a := by decide +kernel
  exact Pipeline.Window.covers_of_index_surj _ rfl (show ∀ a : Fin 2, 0 < S512x1024.size a by decide) fun β => (h β).imp fun t ht a => (congrFun (idx_val m hO t).2.2.2 a).trans (ht a)

/-- The result's array after the last grid point. -/
theorem final3 (hO : Ok m) (c : Dev nD) : (dats m hO 0 c).arrAt 3 (cfgM m hO).N = Padd (Ptn 0 0 (by decide) (by decide) (m ((c : Thread nD τ).loc main_arg0)) (m ((c : Thread nD τ).loc main_arg1)) : FVec Ideal ⟨2, ![8192, 1024]⟩ .f32) (m ((c : Thread nD τ).loc main_arg2)) := by
  refine (dats m hO 0 c).arrAt_eq_of_covers 3 _ (covers3 m hO) fun t hf (y : Shape.Idx ⟨2, ![512, 1024]⟩) => ?_
  blk_simp
  rw [after0_3]
  refine (congrFun (out_eq _ _ _ _ _ _ _ _ _ _ _ _ _ _) y).trans ?_
  refine (congrArg _ (eq_ix2 (n0 := 512) (n1 := 1024) y)).trans ((point3 m hO c t (y 0) (y 1)).trans ?_)
  exact congrArg (Padd (Ptn 0 0 (by decide) (by decide) (m ((c : Thread nD τ).loc main_arg0)) (m ((c : Thread nD τ).loc main_arg1)) : FVec Ideal ⟨2, ![8192, 1024]⟩ .f32) (m ((c : Thread nD τ).loc main_arg2))) (show ix2 (n0 := 8192) (n1 := 1024) ⟨_, row_lt m hO t (y 0)⟩ ⟨_, col_lt m hO t (y 1)⟩ = _ by blk_ext [idx_val m hO t])

end Cert.GDownKeepIdeal.Hand

namespace Cert.GDownKeepRefIdeal.Hand

open Cert.GDownKeepRefIdeal Cert.GDownKeepRefIdeal.Gen Cert.ProdMath Idealize.ShloMosaic Idealize.ShloMosaic.TcCoe Idealize.SL.Sem

/-- The reference ends with its result at the same function of the arguments, which it leaves as they were. -/
theorem run_math (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v8) = Padd (Ptn 0 0 (by decide) (by decide) (m ((c : Thread nD τ).loc main_arg0)) (m ((c : Thread nD τ).loc main_arg1)) : FVec Ideal ⟨2, ![8192, 1024]⟩ .f32) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run _ _ _).mono (fun r h c => ⟨(h c).1.trans ?_, (h c).2⟩) (Cert.GDownKeepRefIdeal.Value.run m ρ)
  all_goals clear h r
  all_goals generalize m ((c : Thread nD τ).loc main_arg0) = a
  all_goals generalize m ((c : Thread nD τ).loc main_arg1) = b
  all_goals generalize m ((c : Thread nD τ).loc main_arg2) = d
  all_goals revert a b d
  all_goals clean_types
  · intro (a : FVec Ideal ⟨2, ![4096, 8192]⟩ .bf16) (b : FVec Ideal ⟨2, ![4096, 2048]⟩ .bf16) (d : FVec Ideal ⟨2, ![8192, 1024]⟩ .f32)
    refine funext fun j => ?_
    idx_vars j
    pointwise [Padd, Ptn, tn]
    exact congrArg (fun p : EReal => p + _) (Finset.sum_congr rfl fun x _ => mul_comm _ _)

end Cert.GDownKeepRefIdeal.Hand

namespace Cert.GDownKeepIdeal.Hand

open Cert.ProdMath Idealize.ShloMosaic Idealize.ShloMosaic.TcCoe Idealize.SL.Sem

/-- Kernel and reference, run from memories that agree on the arguments, end with equal results. -/
theorem algebraic : Cert.algebraic_GDownKeepIdeal_GDownKeepRefIdeal := by
  intro m g m' g' _ hag
  refine ⟨fun c => Padd (Ptn 0 0 (by decide) (by decide) (m ((c : Thread GDownKeepIdeal.nD GDownKeepIdeal.τ).loc GDownKeepIdeal.main_arg0)) (m ((c : Thread GDownKeepIdeal.nD GDownKeepIdeal.τ).loc GDownKeepIdeal.main_arg1)) : FVec Ideal ⟨2, ![8192, 1024]⟩ .f32) (m ((c : Thread GDownKeepIdeal.nD GDownKeepIdeal.τ).loc GDownKeepIdeal.main_arg2)), ?_, ?_⟩
  · refine (θ_run _ _ _).mono (fun r h c => ?_) (Gen.run_main m g (ok m))
    exact ⟨((h c).1 3).trans (final3 m (ok m) c), ((h c).1 0).trans (((Gen.dats m (ok m) 0 c).arrAt_in 0 rfl _).trans ((Gen.A_eq m (ok m) c 0).trans (Gen.V_main_arg0 m c))), ((h c).1 1).trans (((Gen.dats m (ok m) 0 c).arrAt_in 1 rfl _).trans ((Gen.A_eq m (ok m) c 1).trans (Gen.V_main_arg1 m c))), ((h c).1 2).trans (((Gen.dats m (ok m) 0 c).arrAt_in 2 rfl _).trans ((Gen.A_eq m (ok m) c 2).trans (Gen.V_main_arg2 m c)))⟩
  · refine (θ_run _ _ _).mono (fun r h c => ?_) (GDownKeepRefIdeal.Hand.run_math m' g')
    obtain ⟨e0, e1, e2⟩ := hag c
    obtain ⟨h0, ha⟩ := h c
    refine ⟨?_, ha⟩
    · beta_reduce; rw [← e0, ← e1, ← e2]; exact h0

/-- The reference runs and leaves its arguments and every counter as they were. -/
theorem ref_frame : Cert.quiescent_GDownKeepRefIdeal := by
  intro m g _
  exact (θ_run _ _ _).mono (fun r h => ⟨fun c => (h c).2, sem_eq_zero_of_no_sems (by decide) r.2⟩) (GDownKeepRefIdeal.Hand.run_math m g)

end Cert.GDownKeepIdeal.Hand

end
-- ==== Proof.GOutConvSendProd.lean ====
/- The gradient at the convolution mixer's output weight, the columns that the other core sums: kernel and reference both are one product with the transposed left factor. -/
module

public import proofs.«01_k».proof.Defs
public import proofs.«01_k».proof.Proof.ProdMath
public import proofs.«01_k».proof.Proof.Gen.GOutConvSend.Frame
public import proofs.«01_k».proof.Proof.Gen.GOutConvSendIdeal.Frame
public import proofs.«01_k».proof.Proof.Gen.GOutConvSendRefIdeal.Run
public import Idealize.ShloMosaic.Lib.Tactic.CleanTypes
public import Idealize.ShloMosaic.Lib.Claim
public import Idealize.ShloMosaic.Lib.Pipeline.Covers

@[expose] public section

set_option maxRecDepth 16384

noncomputable section

namespace Cert.GOutConvSend.Hand

open Cert.GOutConvSend Cert.GOutConvSend.Gen Idealize.ShloMosaic Idealize.ShloMosaic.TcCoe Idealize.SL.Sem

/-- The table that holds a one. -/
def table : pre0.Contents (Elt Bits) | 0 => fun _ => (1#32 : BitVec 32)

/-- The place that the kernel reads is one. -/
theorem tbl_eq (m : (ℓ : Loc nD τ sig) → Buf (Elt Bits) ℓ) : tbl m = table := by
  funext j
  obtain rfl : j = 0 := Subsingleton.elim (α := Fin 1) j 0
  funext i
  show StableHlo.after hostOps0 _ (Proc.devRef .tc main_v2) i = _
  entry_read
  pointwise [table]
  rfl

/-- So every block lies inside its array. -/
theorem ok (m : (ℓ : Loc nD τ sig) → Buf (Elt Bits) ℓ) : Ok m := by
  show ok0 (tbl m)
  rw [tbl_eq]
  decide +kernel

end Cert.GOutConvSend.Hand

namespace Cert.GOutConvSendIdeal.Hand

open Cert.GOutConvSendIdeal Cert.GOutConvSendIdeal.Gen Cert.ProdMath Idealize.ShloMosaic Idealize.ShloMosaic.TcCoe Idealize.SL.Sem

/-- The table that holds a one. -/
def table : pre0.Contents (Elt Ideal) | 0 => fun _ => (1#32 : BitVec 32)

/-- The place that the kernel reads is one. -/
theorem tbl_eq (m : (ℓ : Loc nD τ sig) → Buf (Elt Ideal) ℓ) : tbl m = table := by
  funext j
  obtain rfl : j = 0 := Subsingleton.elim (α := Fin 1) j 0
  funext i
  show StableHlo.after hostOps0 _ (Proc.devRef .tc main_v2) i = _
  entry_read
  pointwise [table]
  rfl

/-- So every block lies inside its array. -/
theorem ok (m : (ℓ : Loc nD τ sig) → Buf (Elt Ideal) ℓ) : Ok m := by
  show ok0 (tbl m)
  rw [tbl_eq]
  decide +kernel

variable (m : (ℓ : Loc nD τ sig) → Buf (Elt Ideal) ℓ)

/-- Which block of its array each window holds at grid point `t`. -/
theorem idx_val (hO : Ok m) : ∀ t : Fin (cfgM m hO).N, ((cfgM m hO).win 0).index t = ![0, t.val] ∧ ((cfgM m hO).win 1).index t = ![0, 1] ∧ ((cfgM m hO).win 2).index t = ![t.val, 0] := by
  have h : ∀ t : Fin grid0.N, cc0_transform_0 (grid0.coords t) = ![0, t.val] ∧ cc0_transform_1 inb_S1_S1_0 numel1_S1 (tbl m) (grid0.coords t) = ![0, 1] ∧ cc0_transform_2 (grid0.coords t) = ![t.val, 0] := by
    rw [tbl_eq]; decide +kernel
  exact h

/-- One element of the stored block. -/
theorem k0_pay1_at (a : FVec Ideal ⟨2, ![4096, 512]⟩ .bf16) (b : FVec Ideal ⟨2, ![4096, 1024]⟩ .bf16) (r : Fin 512) (l : Fin 1024) :
    k0_pay1 (F := Ideal) a b (ix2 r l) = (∑ x : Fin 4096, a (ix2 x r) * b (ix2 x l)) := by
  pointwise [k0_pay1]

section Blocks
variable (hO : Ok m) (c : Dev nD) (t : Fin (cfgM m hO).N)

/-- The first block's columns are columns of the first argument. -/
theorem blk0 (x : Fin 4096) (r : Fin 512) (R : Fin 2048) (hR : R.val = t.val * 512 + r.val) : iblk m hO c 0 t (ix2 x r) = m ((c : Thread nD τ).loc main_arg0) (ix2 x R) := by
  rw [← V_main_arg0 m c]
  blk_point [iblk, idx_val m hO t]
/-- The second block's columns are columns of the second argument. -/
theorem blk1 (x : Fin 4096) (l : Fin 1024) (C : Fin 2048) (hC : C.val = 1024 + l.val) : iblk m hO c 1 t (ix2 x l) = m ((c : Thread nD τ).loc main_arg1) (ix2 x C) := by
  rw [← V_main_arg1 m c]
  blk_point [iblk, idx_val m hO t]

end Blocks

/-- A row of a block is a row of the result. -/
theorem row_lt (hO : Ok m) (t : Fin (cfgM m hO).N) (r : Fin 512) : t.val * 512 + r.val < 2048 := by
  have := lt_of_lt_of_eq t.isLt N_0; omega
/-- A lane of a block is a lane of the result. -/
theorem col_lt (hO : Ok m) (t : Fin (cfgM m hO).N) (l : Fin 1024) : l.val < 1024 := by
  have := lt_of_lt_of_eq t.isLt N_0; omega

/-- What the stores of one grid point leave of the result. -/
theorem point2 (hO : Ok m) (c : Dev nD) (t : Fin (cfgM m hO).N) (r : Fin 512) (l : Fin 1024) :
    k0_pay1 (F := Ideal) (iblk m hO c 0 t) (iblk m hO c 1 t) (ix2 r l) = ((Ptn 0 1024 (by decide) (by decide) (m ((c : Thread nD τ).loc main_arg0)) (m ((c : Thread nD τ).loc main_arg1)) : FVec Ideal ⟨2, ![2048, 1024]⟩ .f32)) (ix2 (n0 := 2048) (n1 := 1024) ⟨_, row_lt m hO t r⟩ ⟨_, col_lt m hO t l⟩) := by
  refine (k0_pay1_at _ _ _ _).trans ?_
  exact Finset.sum_congr rfl fun x _ => congrArg₂ (fun p q : EReal => p * q) (blk0 m hO c t x r _ (Nat.zero_add _)) (blk1 m hO c t x l _ rfl)

/-- One grid point stores what the product of its blocks is. -/
theorem out_eq (c : Dev nD) (i : grid0.Coords) (arg4 : Memref sig .tc .vmem S4096x512 .bf16) (harg4 : arg4.IsWhole) (arg5 : Memref sig .tc .vmem S4096x1024 .bf16) (harg5 : arg5.IsWhole) (arg6 : Memref sig .tc .vmem S512x1024 .f32) (harg6 : arg6.IsWhole) (x0 : Vec Ideal S4096x512 .bf16) (x1 : Vec Ideal S4096x1024 .bf16) (xt0 : TbBuf0 (F := Ideal) c tbM0_0) :
    out0_A_2 c i arg4 harg4 arg5 harg5 arg6 harg6 x0 x1 xt0 = k0_pay1 x0 x1 := by
  unfold out0_A_2
  frame_out

/-- The stored blocks cover the result. -/
theorem covers2 (hO : Ok m) : ((cfgM m hO).win 2).Covers := by
  have h : ∀ β : (a : Fin 2) → Fin ((S2048x1024.size a + S512x1024.size a - 1) / S512x1024.size a), ∃ t : Fin grid0.N, ∀ a, (![t.val, 0] : Fin 2 → ℕ) a = β a := by decide +kernel
  exact Pipeline.Window.covers_of_index_surj _ rfl (show ∀ a : Fin 2, 0 < S512x1024.size a by decide) fun β => (h β).imp fun t ht a => (congrFun (idx_val m hO t).2.2 a).trans (ht a)

/-- The result's array after the last grid point. -/
theorem final2 (hO : Ok m) (c : Dev nD) : (dats m hO 0 c).arrAt 2 (cfgM m hO).N = (Ptn 0 1024 (by decide) (by decide) (m ((c : Thread nD τ).loc main_arg0)) (m ((c : Thread nD τ).loc main_arg1)) : FVec Ideal ⟨2, ![2048, 1024]⟩ .f32) := by
  refine (dats m hO 0 c).arrAt_eq_of_covers 2 _ (covers2 m hO) fun t hf (y : Shape.Idx ⟨2, ![512, 1024]⟩) => ?_
  blk_simp
  rw [after0_2]
  refine (congrFun (out_eq _ _ _ _ _ _ _ _ _ _ _) y).trans ?_
  refine (congrArg _ (eq_ix2 (n0 := 512) (n1 := 1024) y)).trans ((point2 m hO c t (y 0) (y 1)).trans ?_)
  exact congrArg ((Ptn 0 1024 (by decide) (by decide) (m ((c : Thread nD τ).loc main_arg0)) (m ((c : Thread nD τ).loc main_arg1)) : FVec Ideal ⟨2, ![2048, 1024]⟩ .f32)) (show ix2 (n0 := 2048) (n1 := 1024) ⟨_, row_lt m hO t (y 0)⟩ ⟨_, col_lt m hO t (y 1)⟩ = _ by blk_ext [idx_val m hO t])

end Cert.GOutConvSendIdeal.Hand

namespace Cert.GOutConvSendRefIdeal.Hand

open Cert.GOutConvSendRefIdeal Cert.GOutConvSendRefIdeal.Gen Cert.ProdMath Idealize.ShloMosaic Idealize.ShloMosaic.TcCoe Idealize.SL.Sem

/-- The reference ends with its result at the same function of the arguments, which it leaves as they were. -/
theorem run_math (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v6) = (Ptn 0 1024 (by decide) (by decide) (m ((c : Thread nD τ).loc main_arg0)) (m ((c : Thread nD τ).loc main_arg1)) : FVec Ideal ⟨2, ![2048, 1024]⟩ .f32)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run _ _ _).mono (fun r h c => ⟨(h c).1.trans ?_, (h c).2⟩) (Cert.GOutConvSendRefIdeal.Value.run m ρ)
  all_goals clear h r
  all_goals generalize m ((c : Thread nD τ).loc main_arg0) = a
  all_goals generalize m ((c : Thread nD τ).loc main_arg1) = b
  all_goals revert a b
  all_goals clean_types
  · intro (a : FVec Ideal ⟨2, ![4096, 2048]⟩ .bf16) (b : FVec Ideal ⟨2, ![4096, 2048]⟩ .bf16)
    refine funext fun j => ?_
    idx_vars j
    pointwise [Ptn, tn]
    exact Finset.sum_congr rfl fun x _ => mul_comm _ _

end Cert.GOutConvSendRefIdeal.Hand

namespace Cert.GOutConvSendIdeal.Hand

open Cert.ProdMath Idealize.ShloMosaic Idealize.ShloMosaic.TcCoe Idealize.SL.Sem

/-- Kernel and reference, run from memories that agree on the arguments, end with equal results. -/
theorem algebraic : Cert.algebraic_GOutConvSendIdeal_GOutConvSendRefIdeal := by
  intro m g m' g' _ hag
  refine ⟨fun c => (Ptn 0 1024 (by decide) (by decide) (m ((c : Thread GOutConvSendIdeal.nD GOutConvSendIdeal.τ).loc GOutConvSendIdeal.main_arg0)) (m ((c : Thread GOutConvSendIdeal.nD GOutConvSendIdeal.τ).loc GOutConvSendIdeal.main_arg1)) : FVec Ideal ⟨2, ![2048, 1024]⟩ .f32), ?_, ?_⟩
  · refine (θ_run _ _ _).mono (fun r h c => ?_) (Gen.run_main m g (ok m))
    exact ⟨((h c).1 2).trans (final2 m (ok m) c), ((h c).1 0).trans (((Gen.dats m (ok m) 0 c).arrAt_in 0 rfl _).trans ((Gen.A_eq m (ok m) c 0).trans (Gen.V_main_arg0 m c))), ((h c).1 1).trans (((Gen.dats m (ok m) 0 c).arrAt_in 1 rfl _).trans ((Gen.A_eq m (ok m) c 1).trans (Gen.V_main_arg1 m c)))⟩
  · refine (θ_run _ _ _).mono (fun r h c => ?_) (GOutConvSendRefIdeal.Hand.run_math m' g')
    obtain ⟨e0, e1⟩ := hag c
    obtain ⟨h0, ha⟩ := h c
    refine ⟨?_, ha⟩
    · beta_reduce; rw [← e0, ← e1]; exact h0

/-- The reference runs and leaves its arguments and every counter as they were. -/
theorem ref_frame : Cert.quiescent_GOutConvSendRefIdeal := by
  intro m g _
  exact (θ_run _ _ _).mono (fun r h => ⟨fun c => (h c).2, sem_eq_zero_of_no_sems (by decide) r.2⟩) (GOutConvSendRefIdeal.Hand.run_math m g)

end Cert.GOutConvSendIdeal.Hand

end
-- ==== Proof.GOutConvKeepProd.lean ====
/- The gradient at the convolution mixer's output weight, the columns that this core sums, with what landed: kernel and reference both are one product with the transposed left factor. -/
module

public import proofs.«01_k».proof.Defs
public import proofs.«01_k».proof.Proof.ProdMath
public import proofs.«01_k».proof.Proof.Gen.GOutConvKeep.Frame
public import proofs.«01_k».proof.Proof.Gen.GOutConvKeepIdeal.Frame
public import proofs.«01_k».proof.Proof.Gen.GOutConvKeepRefIdeal.Run
public import Idealize.ShloMosaic.Lib.Tactic.CleanTypes
public import Idealize.ShloMosaic.Lib.Claim
public import Idealize.ShloMosaic.Lib.Pipeline.Covers

@[expose] public section

set_option maxRecDepth 16384

noncomputable section

namespace Cert.GOutConvKeep.Hand

open Cert.GOutConvKeep Cert.GOutConvKeep.Gen Idealize.ShloMosaic Idealize.ShloMosaic.TcCoe Idealize.SL.Sem

/-- The table that holds a zero. -/
def table : pre0.Contents (Elt Bits) | 0 => fun _ => (0#32 : BitVec 32)

/-- The place that the kernel reads is zero. -/
theorem tbl_eq (m : (ℓ : Loc nD τ sig) → Buf (Elt Bits) ℓ) : tbl m = table := by
  funext j
  obtain rfl : j = 0 := Subsingleton.elim (α := Fin 1) j 0
  funext i
  show StableHlo.after hostOps0 _ (Proc.devRef .tc main_v0) i = _
  entry_read
  pointwise [table]

/-- So every block lies inside its array. -/
theorem ok (m : (ℓ : Loc nD τ sig) → Buf (Elt Bits) ℓ) : Ok m := by
  show ok0 (tbl m)
  rw [tbl_eq]
  decide +kernel

end Cert.GOutConvKeep.Hand

namespace Cert.GOutConvKeepIdeal.Hand

open Cert.GOutConvKeepIdeal Cert.GOutConvKeepIdeal.Gen Cert.ProdMath Idealize.ShloMosaic Idealize.ShloMosaic.TcCoe Idealize.SL.Sem

/-- The table that holds a zero. -/
def table : pre0.Contents (Elt Ideal) | 0 => fun _ => (0#32 : BitVec 32)

/-- The place that the kernel reads is zero. -/
theorem tbl_eq (m : (ℓ : Loc nD τ sig) → Buf (Elt Ideal) ℓ) : tbl m = table := by
  funext j
  obtain rfl : j = 0 := Subsingleton.elim (α := Fin 1) j 0
  funext i
  show StableHlo.after hostOps0 _ (Proc.devRef .tc main_v0) i = _
  entry_read
  pointwise [table]

/-- So every block lies inside its array. -/
theorem ok (m : (ℓ : Loc nD τ sig) → Buf (Elt Ideal) ℓ) : Ok m := by
  show ok0 (tbl m)
  rw [tbl_eq]
  decide +kernel

variable (m : (ℓ : Loc nD τ sig) → Buf (Elt Ideal) ℓ)

/-- Which block of its array each window holds at grid point `t`. -/
theorem idx_val (hO : Ok m) : ∀ t : Fin (cfgM m hO).N, ((cfgM m hO).win 0).index t = ![0, t.val] ∧ ((cfgM m hO).win 1).index t = ![0, 0] ∧ ((cfgM m hO).win 2).index t = ![t.val, 0] ∧ ((cfgM m hO).win 3).index t = ![t.val, 0] := by
  have h : ∀ t : Fin grid0.N, cc0_transform_0 (grid0.coords t) = ![0, t.val] ∧ cc0_transform_1 inb_S1_S1_0 numel1_S1 (tbl m) (grid0.coords t) = ![0, 0] ∧ cc0_transform_2 (grid0.coords t) = ![t.val, 0] ∧ cc0_transform_3 (grid0.coords t) = ![t.val, 0] := by
    rw [tbl_eq]; decide +kernel
  exact h

/-- One element of the stored block. -/
theorem k0_pay1_at (a : FVec Ideal ⟨2, ![4096, 512]⟩ .bf16) (b : FVec Ideal ⟨2, ![4096, 1024]⟩ .bf16) (d : FVec Ideal ⟨2, ![512, 1024]⟩ .f32) (r : Fin 512) (l : Fin 1024) :
    k0_pay1 (F := Ideal) a b d (ix2 r l) = (∑ x : Fin 4096, a (ix2 x r) * b (ix2 x l)) + d (ix2 r l) := by
  pointwise [k0_pay1]

section Blocks
variable (hO : Ok m) (c : Dev nD) (t : Fin (cfgM m hO).N)

/-- The first block's columns are columns of the first argument. -/
theorem blk0 (x : Fin 4096) (r : Fin 512) (R : Fin 2048) (hR : R.val = t.val * 512 + r.val) : iblk m hO c 0 t (ix2 x r) = m ((c : Thread nD τ).loc main_arg0) (ix2 x R) := by
  rw [← V_main_arg0 m c]
  blk_point [iblk, idx_val m hO t]
/-- The second block's columns are columns of the second argument. -/
theorem blk1 (x : Fin 4096) (l : Fin 1024) (C : Fin 2048) (hC : C.val = 0 + l.val) : iblk m hO c 1 t (ix2 x l) = m ((c : Thread nD τ).loc main_arg1) (ix2 x C) := by
  rw [← V_main_arg1 m c]
  blk_point [iblk, idx_val m hO t]
/-- The third block is a block of the third argument. -/
theorem blk2 (r : Fin 512) (l : Fin 1024) (R : Fin 2048) (C : Fin 1024) (hR : R.val = t.val * 512 + r.val) (hC : C.val = l.val) : iblk m hO c 2 t (ix2 r l) = m ((c : Thread nD τ).loc main_arg2) (ix2 R C) := by
  rw [← V_main_arg2 m c]
  blk_point [iblk, idx_val m hO t]

end Blocks

/-- A row of a block is a row of the result. -/
theorem row_lt (hO : Ok m) (t : Fin (cfgM m hO).N) (r : Fin 512) : t.val * 512 + r.val < 2048 := by
  have := lt_of_lt_of_eq t.isLt N_0; omega
/-- A lane of a block is a lane of the result. -/
theorem col_lt (hO : Ok m) (t : Fin (cfgM m hO).N) (l : Fin 1024) : l.val < 1024 := by
  have := lt_of_lt_of_eq t.isLt N_0; omega

/-- What the stores of one grid point leave of the result. -/
theorem point3 (hO : Ok m) (c : Dev nD) (t : Fin (cfgM m hO).N) (r : Fin 512) (l : Fin 1024) :
    k0_pay1 (F := Ideal) (iblk m hO c 0 t) (iblk m hO c 1 t) (iblk m hO c 2 t) (ix2 r l) = (Padd (Ptn 0 0 (by decide) (by decide) (m ((c : Thread nD τ).loc main_arg0)) (m ((c : Thread nD τ).loc main_arg1)) : FVec Ideal ⟨2, ![2048, 1024]⟩ .f32) (m ((c : Thread nD τ).loc main_arg2))) (ix2 (n0 := 2048) (n1 := 1024) ⟨_, row_lt m hO t r⟩ ⟨_, col_lt m hO t l⟩) := by
  refine (k0_pay1_at _ _ _ _ _).trans ?_
  exact congrArg₂ (fun p q : EReal => p + q) (Finset.sum_congr rfl fun x _ => congrArg₂ (fun p q : EReal => p * q) (blk0 m hO c t x r _ (Nat.zero_add _)) (blk1 m hO c t x l _ rfl)) (blk2 m hO c t r l _ _ rfl rfl)

/-- One grid point stores what the product of its blocks is. -/
theorem out_eq (c : Dev nD) (i : grid0.Coords) (arg4 : Memref sig .tc .vmem S4096x512 .bf16) (harg4 : arg4.IsWhole) (arg5 : Memref sig .tc .vmem S4096x1024 .bf16) (harg5 : arg5.IsWhole) (arg6 : Memref sig .tc .vmem S512x1024 .f32) (harg6 : arg6.IsWhole) (arg7 : Memref sig .tc .vmem S512x1024 .bf16) (harg7 : arg7.IsWhole) (x0 : Vec Ideal S4096x512 .bf16) (x1 : Vec Ideal S4096x1024 .bf16) (x2 : Vec Ideal S512x1024 .f32) (xt0 : TbBuf0 (F := Ideal) c tbM0_0) :
    out0_A_3 c i arg4 harg4 arg5 harg5 arg6 harg6 arg7 harg7 x0 x1 x2 xt0 = k0_pay1 x0 x1 x2 := by
  unfold out0_A_3
  frame_out

/-- The stored blocks cover the result. -/
theorem covers3 (hO : Ok m) : ((cfgM m hO).win 3).Covers := by
  have h : ∀ β : (a : Fin 2) → Fin ((S2048x1024.size a + S512x1024.size a - 1) / S512x1024.size a), ∃ t : Fin grid0.N, ∀ a, (![t.val, 0] : Fin 2 → ℕ) a = β a := by decide +kernel
  exact Pipeline.Window.covers_of_index_surj _ rfl (show ∀ a : Fin 2, 0 < S512x1024.size a by decide) fun β => (h β).imp fun t ht a => (congrFun (idx_val m hO t).2.2.2 a).trans (ht a)

/-- The result's array after the last grid point. -/
theorem final3 (hO : Ok m) (c : Dev nD) : (dats m hO 0 c).arrAt 3 (cfgM m hO).N = Padd (Ptn 0 0 (by decide) (by decide) (m ((c : Thread nD τ).loc main_arg0)) (m ((c : Thread nD τ).loc main_arg1)) : FVec Ideal ⟨2, ![2048, 1024]⟩ .f32) (m ((c : Thread nD τ).loc main_arg2)) := by
  refine (dats m hO 0 c).arrAt_eq_of_covers 3 _ (covers3 m hO) fun t hf (y : Shape.Idx ⟨2, ![512, 1024]⟩) => ?_
  blk_simp
  rw [after0_3]
  refine (congrFun (out_eq _ _ _ _ _ _ _ _ _ _ _ _ _ _) y).trans ?_
  refine (congrArg _ (eq_ix2 (n0 := 512) (n1 := 1024) y)).trans ((point3 m hO c t (y 0) (y 1)).trans ?_)
  exact congrArg (Padd (Ptn 0 0 (by decide) (by decide) (m ((c : Thread nD τ).loc main_arg0)) (m ((c : Thread nD τ).loc main_arg1)) : FVec Ideal ⟨2, ![2048, 1024]⟩ .f32) (m ((c : Thread nD τ).loc main_arg2))) (show ix2 (n0 := 2048) (n1 := 1024) ⟨_, row_lt m hO t (y 0)⟩ ⟨_, col_lt m hO t (y 1)⟩ = _ by blk_ext [idx_val m hO t])

end Cert.GOutConvKeepIdeal.Hand

namespace Cert.GOutConvKeepRefIdeal.Hand

open Cert.GOutConvKeepRefIdeal Cert.GOutConvKeepRefIdeal.Gen Cert.ProdMath Idealize.ShloMosaic Idealize.ShloMosaic.TcCoe Idealize.SL.Sem

/-- The reference ends with its result at the same function of the arguments, which it leaves as they were. -/
theorem run_math (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v8) = Padd (Ptn 0 0 (by decide) (by decide) (m ((c : Thread nD τ).loc main_arg0)) (m ((c : Thread nD τ).loc main_arg1)) : FVec Ideal ⟨2, ![2048, 1024]⟩ .f32) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run _ _ _).mono (fun r h c => ⟨(h c).1.trans ?_, (h c).2⟩) (Cert.GOutConvKeepRefIdeal.Value.run m ρ)
  all_goals clear h r
  all_goals generalize m ((c : Thread nD τ).loc main_arg0) = a
  all_goals generalize m ((c : Thread nD τ).loc main_arg1) = b
  all_goals generalize m ((c : Thread nD τ).loc main_arg2) = d
  all_goals revert a b d
  all_goals clean_types
  · intro (a : FVec Ideal ⟨2, ![4096, 2048]⟩ .bf16) (b : FVec Ideal ⟨2, ![4096, 2048]⟩ .bf16) (d : FVec Ideal ⟨2, ![2048, 1024]⟩ .f32)
    refine funext fun j => ?_
    idx_vars j
    pointwise [Padd, Ptn, tn]
    exact congrArg (fun p : EReal => p + _) (Finset.sum_congr rfl fun x _ => mul_comm _ _)

end Cert.GOutConvKeepRefIdeal.Hand

namespace Cert.GOutConvKeepIdeal.Hand

open Cert.ProdMath Idealize.ShloMosaic Idealize.ShloMosaic.TcCoe Idealize.SL.Sem

/-- Kernel and reference, run from memories that agree on the arguments, end with equal results. -/
theorem algebraic : Cert.algebraic_GOutConvKeepIdeal_GOutConvKeepRefIdeal := by
  intro m g m' g' _ hag
  refine ⟨fun c => Padd (Ptn 0 0 (by decide) (by decide) (m ((c : Thread GOutConvKeepIdeal.nD GOutConvKeepIdeal.τ).loc GOutConvKeepIdeal.main_arg0)) (m ((c : Thread GOutConvKeepIdeal.nD GOutConvKeepIdeal.τ).loc GOutConvKeepIdeal.main_arg1)) : FVec Ideal ⟨2, ![2048, 1024]⟩ .f32) (m ((c : Thread GOutConvKeepIdeal.nD GOutConvKeepIdeal.τ).loc GOutConvKeepIdeal.main_arg2)), ?_, ?_⟩
  · refine (θ_run _ _ _).mono (fun r h c => ?_) (Gen.run_main m g (ok m))
    exact ⟨((h c).1 3).trans (final3 m (ok m) c), ((h c).1 0).trans (((Gen.dats m (ok m) 0 c).arrAt_in 0 rfl _).trans ((Gen.A_eq m (ok m) c 0).trans (Gen.V_main_arg0 m c))), ((h c).1 1).trans (((Gen.dats m (ok m) 0 c).arrAt_in 1 rfl _).trans ((Gen.A_eq m (ok m) c 1).trans (Gen.V_main_arg1 m c))), ((h c).1 2).trans (((Gen.dats m (ok m) 0 c).arrAt_in 2 rfl _).trans ((Gen.A_eq m (ok m) c 2).trans (Gen.V_main_arg2 m c)))⟩
  · refine (θ_run _ _ _).mono (fun r h c => ?_) (GOutConvKeepRefIdeal.Hand.run_math m' g')
    obtain ⟨e0, e1, e2⟩ := hag c
    obtain ⟨h0, ha⟩ := h c
    refine ⟨?_, ha⟩
    · beta_reduce; rw [← e0, ← e1, ← e2]; exact h0

/-- The reference runs and leaves its arguments and every counter as they were. -/
theorem ref_frame : Cert.quiescent_GOutConvKeepRefIdeal := by
  intro m g _
  exact (θ_run _ _ _).mono (fun r h => ⟨fun c => (h c).2, sem_eq_zero_of_no_sems (by decide) r.2⟩) (GOutConvKeepRefIdeal.Hand.run_math m g)

end Cert.GOutConvKeepIdeal.Hand

end
-- ==== Proof.GOutAttnSendProd.lean ====
/- The gradient at the attention mixer's output weight, the columns that the other core sums: kernel and reference both are one product with the transposed left factor. -/
module

public import proofs.«01_k».proof.Defs
public import proofs.«01_k».proof.Proof.ProdMath
public import proofs.«01_k».proof.Proof.Gen.GOutAttnSend.Frame
public import proofs.«01_k».proof.Proof.Gen.GOutAttnSendIdeal.Frame
public import proofs.«01_k».proof.Proof.Gen.GOutAttnSendRefIdeal.Run
public import Idealize.ShloMosaic.Lib.Tactic.CleanTypes
public import Idealize.ShloMosaic.Lib.Claim
public import Idealize.ShloMosaic.Lib.Pipeline.Covers

@[expose] public section

set_option maxRecDepth 16384

noncomputable section

namespace Cert.GOutAttnSend.Hand

open Cert.GOutAttnSend Cert.GOutAttnSend.Gen Idealize.ShloMosaic Idealize.ShloMosaic.TcCoe Idealize.SL.Sem

/-- The table that holds a one. -/
def table : pre0.Contents (Elt Bits) | 0 => fun _ => (1#32 : BitVec 32)

/-- The place that the kernel reads is one. -/
theorem tbl_eq (m : (ℓ : Loc nD τ sig) → Buf (Elt Bits) ℓ) : tbl m = table := by
  funext j
  obtain rfl : j = 0 := Subsingleton.elim (α := Fin 1) j 0
  funext i
  show StableHlo.after hostOps0 _ (Proc.devRef .tc main_v2) i = _
  entry_read
  pointwise [table]
  rfl

/-- So every block lies inside its array. -/
theorem ok (m : (ℓ : Loc nD τ sig) → Buf (Elt Bits) ℓ) : Ok m := by
  show ok0 (tbl m)
  rw [tbl_eq]
  decide +kernel

end Cert.GOutAttnSend.Hand

namespace Cert.GOutAttnSendIdeal.Hand

open Cert.GOutAttnSendIdeal Cert.GOutAttnSendIdeal.Gen Cert.ProdMath Idealize.ShloMosaic Idealize.ShloMosaic.TcCoe Idealize.SL.Sem

/-- The table that holds a one. -/
def table : pre0.Contents (Elt Ideal) | 0 => fun _ => (1#32 : BitVec 32)

/-- The place that the kernel reads is one. -/
theorem tbl_eq (m : (ℓ : Loc nD τ sig) → Buf (Elt Ideal) ℓ) : tbl m = table := by
  funext j
  obtain rfl : j = 0 := Subsingleton.elim (α := Fin 1) j 0
  funext i
  show StableHlo.after hostOps0 _ (Proc.devRef .tc main_v2) i = _
  entry_read
  pointwise [table]
  rfl

/-- So every block lies inside its array. -/
theorem ok (m : (ℓ : Loc nD τ sig) → Buf (Elt Ideal) ℓ) : Ok m := by
  show ok0 (tbl m)
  rw [tbl_eq]
  decide +kernel

variable (m : (ℓ : Loc nD τ sig) → Buf (Elt Ideal) ℓ)

/-- Which block of its array each window holds at grid point `t`. -/
theorem idx_val (hO : Ok m) : ∀ t : Fin (cfgM m hO).N, ((cfgM m hO).win 0).index t = ![0, t.val] ∧ ((cfgM m hO).win 1).index t = ![0, 1] ∧ ((cfgM m hO).win 2).index t = ![t.val, 0] := by
  have h : ∀ t : Fin grid0.N, cc0_transform_0 (grid0.coords t) = ![0, t.val] ∧ cc0_transform_1 inb_S1_S1_0 numel1_S1 (tbl m) (grid0.coords t) = ![0, 1] ∧ cc0_transform_2 (grid0.coords t) = ![t.val, 0] := by
    rw [tbl_eq]; decide +kernel
  exact h

/-- One element of the stored block. -/
theorem k0_pay1_at (a : FVec Ideal ⟨2, ![4096, 512]⟩ .bf16) (b : FVec Ideal ⟨2, ![4096, 1024]⟩ .bf16) (r : Fin 512) (l : Fin 1024) :
    k0_pay1 (F := Ideal) a b (ix2 r l) = (∑ x : Fin 4096, a (ix2 x r) * b (ix2 x l)) := by
  pointwise [k0_pay1]

section Blocks
variable (hO : Ok m) (c : Dev nD) (t : Fin (cfgM m hO).N)

/-- The first block's columns are columns of the first argument. -/
theorem blk0 (x : Fin 4096) (r : Fin 512) (R : Fin 2048) (hR : R.val = t.val * 512 + r.val) : iblk m hO c 0 t (ix2 x r) = m ((c : Thread nD τ).loc main_arg0) (ix2 x R) := by
  rw [← V_main_arg0 m c]
  blk_point [iblk, idx_val m hO t]
/-- The second block's columns are columns of the second argument. -/
theorem blk1 (x : Fin 4096) (l : Fin 1024) (C : Fin 2048) (hC : C.val = 1024 + l.val) : iblk m hO c 1 t (ix2 x l) = m ((c : Thread nD τ).loc main_arg1) (ix2 x C) := by
  rw [← V_main_arg1 m c]
  blk_point [iblk, idx_val m hO t]

end Blocks

/-- A row of a block is a row of the result. -/
theorem row_lt (hO : Ok m) (t : Fin (cfgM m hO).N) (r : Fin 512) : t.val * 512 + r.val < 2048 := by
  have := lt_of_lt_of_eq t.isLt N_0; omega
/-- A lane of a block is a lane of the result. -/
theorem col_lt (hO : Ok m) (t : Fin (cfgM m hO).N) (l : Fin 1024) : l.val < 1024 := by
  have := lt_of_lt_of_eq t.isLt N_0; omega

/-- What the stores of one grid point leave of the result. -/
theorem point2 (hO : Ok m) (c : Dev nD) (t : Fin (cfgM m hO).N) (r : Fin 512) (l : Fin 1024) :
    k0_pay1 (F := Ideal) (iblk m hO c 0 t) (iblk m hO c 1 t) (ix2 r l) = ((Ptn 0 1024 (by decide) (by decide) (m ((c : Thread nD τ).loc main_arg0)) (m ((c : Thread nD τ).loc main_arg1)) : FVec Ideal ⟨2, ![2048, 1024]⟩ .f32)) (ix2 (n0 := 2048) (n1 := 1024) ⟨_, row_lt m hO t r⟩ ⟨_, col_lt m hO t l⟩) := by
  refine (k0_pay1_at _ _ _ _).trans ?_
  exact Finset.sum_congr rfl fun x _ => congrArg₂ (fun p q : EReal => p * q) (blk0 m hO c t x r _ (Nat.zero_add _)) (blk1 m hO c t x l _ rfl)

/-- One grid point stores what the product of its blocks is. -/
theorem out_eq (c : Dev nD) (i : grid0.Coords) (arg4 : Memref sig .tc .vmem S4096x512 .bf16) (harg4 : arg4.IsWhole) (arg5 : Memref sig .tc .vmem S4096x1024 .bf16) (harg5 : arg5.IsWhole) (arg6 : Memref sig .tc .vmem S512x1024 .f32) (harg6 : arg6.IsWhole) (x0 : Vec Ideal S4096x512 .bf16) (x1 : Vec Ideal S4096x1024 .bf16) (xt0 : TbBuf0 (F := Ideal) c tbM0_0) :
    out0_A_2 c i arg4 harg4 arg5 harg5 arg6 harg6 x0 x1 xt0 = k0_pay1 x0 x1 := by
  unfold out0_A_2
  frame_out

/-- The stored blocks cover the result. -/
theorem covers2 (hO : Ok m) : ((cfgM m hO).win 2).Covers := by
  have h : ∀ β : (a : Fin 2) → Fin ((S2048x1024.size a + S512x1024.size a - 1) / S512x1024.size a), ∃ t : Fin grid0.N, ∀ a, (![t.val, 0] : Fin 2 → ℕ) a = β a := by decide +kernel
  exact Pipeline.Window.covers_of_index_surj _ rfl (show ∀ a : Fin 2, 0 < S512x1024.size a by decide) fun β => (h β).imp fun t ht a => (congrFun (idx_val m hO t).2.2 a).trans (ht a)

/-- The result's array after the last grid point. -/
theorem final2 (hO : Ok m) (c : Dev nD) : (dats m hO 0 c).arrAt 2 (cfgM m hO).N = (Ptn 0 1024 (by decide) (by decide) (m ((c : Thread nD τ).loc main_arg0)) (m ((c : Thread nD τ).loc main_arg1)) : FVec Ideal ⟨2, ![2048, 1024]⟩ .f32) := by
  refine (dats m hO 0 c).arrAt_eq_of_covers 2 _ (covers2 m hO) fun t hf (y : Shape.Idx ⟨2, ![512, 1024]⟩) => ?_
  blk_simp
  rw [after0_2]
  refine (congrFun (out_eq _ _ _ _ _ _ _ _ _ _ _) y).trans ?_
  refine (congrArg _ (eq_ix2 (n0 := 512) (n1 := 1024) y)).trans ((point2 m hO c t (y 0) (y 1)).trans ?_)
  exact congrArg ((Ptn 0 1024 (by decide) (by decide) (m ((c : Thread nD τ).loc main_arg0)) (m ((c : Thread nD τ).loc main_arg1)) : FVec Ideal ⟨2, ![2048, 1024]⟩ .f32)) (show ix2 (n0 := 2048) (n1 := 1024) ⟨_, row_lt m hO t (y 0)⟩ ⟨_, col_lt m hO t (y 1)⟩ = _ by blk_ext [idx_val m hO t])

end Cert.GOutAttnSendIdeal.Hand

namespace Cert.GOutAttnSendRefIdeal.Hand

open Cert.GOutAttnSendRefIdeal Cert.GOutAttnSendRefIdeal.Gen Cert.ProdMath Idealize.ShloMosaic Idealize.ShloMosaic.TcCoe Idealize.SL.Sem

/-- The reference ends with its result at the same function of the arguments, which it leaves as they were. -/
theorem run_math (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v6) = (Ptn 0 1024 (by decide) (by decide) (m ((c : Thread nD τ).loc main_arg0)) (m ((c : Thread nD τ).loc main_arg1)) : FVec Ideal ⟨2, ![2048, 1024]⟩ .f32)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run _ _ _).mono (fun r h c => ⟨(h c).1.trans ?_, (h c).2⟩) (Cert.GOutAttnSendRefIdeal.Value.run m ρ)
  all_goals clear h r
  all_goals generalize m ((c : Thread nD τ).loc main_arg0) = a
  all_goals generalize m ((c : Thread nD τ).loc main_arg1) = b
  all_goals revert a b
  all_goals clean_types
  · intro (a : FVec Ideal ⟨2, ![4096, 2048]⟩ .bf16) (b : FVec Ideal ⟨2, ![4096, 2048]⟩ .bf16)
    refine funext fun j => ?_
    idx_vars j
    pointwise [Ptn, tn]
    exact Finset.sum_congr rfl fun x _ => mul_comm _ _

end Cert.GOutAttnSendRefIdeal.Hand

namespace Cert.GOutAttnSendIdeal.Hand

open Cert.ProdMath Idealize.ShloMosaic Idealize.ShloMosaic.TcCoe Idealize.SL.Sem

/-- Kernel and reference, run from memories that agree on the arguments, end with equal results. -/
theorem algebraic : Cert.algebraic_GOutAttnSendIdeal_GOutAttnSendRefIdeal := by
  intro m g m' g' _ hag
  refine ⟨fun c => (Ptn 0 1024 (by decide) (by decide) (m ((c : Thread GOutAttnSendIdeal.nD GOutAttnSendIdeal.τ).loc GOutAttnSendIdeal.main_arg0)) (m ((c : Thread GOutAttnSendIdeal.nD GOutAttnSendIdeal.τ).loc GOutAttnSendIdeal.main_arg1)) : FVec Ideal ⟨2, ![2048, 1024]⟩ .f32), ?_, ?_⟩
  · refine (θ_run _ _ _).mono (fun r h c => ?_) (Gen.run_main m g (ok m))
    exact ⟨((h c).1 2).trans (final2 m (ok m) c), ((h c).1 0).trans (((Gen.dats m (ok m) 0 c).arrAt_in 0 rfl _).trans ((Gen.A_eq m (ok m) c 0).trans (Gen.V_main_arg0 m c))), ((h c).1 1).trans (((Gen.dats m (ok m) 0 c).arrAt_in 1 rfl _).trans ((Gen.A_eq m (ok m) c 1).trans (Gen.V_main_arg1 m c)))⟩
  · refine (θ_run _ _ _).mono (fun r h c => ?_) (GOutAttnSendRefIdeal.Hand.run_math m' g')
    obtain ⟨e0, e1⟩ := hag c
    obtain ⟨h0, ha⟩ := h c
    refine ⟨?_, ha⟩
    · beta_reduce; rw [← e0, ← e1]; exact h0

/-- The reference runs and leaves its arguments and every counter as they were. -/
theorem ref_frame : Cert.quiescent_GOutAttnSendRefIdeal := by
  intro m g _
  exact (θ_run _ _ _).mono (fun r h => ⟨fun c => (h c).2, sem_eq_zero_of_no_sems (by decide) r.2⟩) (GOutAttnSendRefIdeal.Hand.run_math m g)

end Cert.GOutAttnSendIdeal.Hand

end
-- ==== Proof.GOutAttnKeepProd.lean ====
/- The gradient at the attention mixer's output weight, the columns that this core sums, with what landed: kernel and reference both are one product with the transposed left factor. -/
module

public import proofs.«01_k».proof.Defs
public import proofs.«01_k».proof.Proof.ProdMath
public import proofs.«01_k».proof.Proof.Gen.GOutAttnKeep.Frame
public import proofs.«01_k».proof.Proof.Gen.GOutAttnKeepIdeal.Frame
public import proofs.«01_k».proof.Proof.Gen.GOutAttnKeepRefIdeal.Run
public import Idealize.ShloMosaic.Lib.Tactic.CleanTypes
public import Idealize.ShloMosaic.Lib.Claim
public import Idealize.ShloMosaic.Lib.Pipeline.Covers

@[expose] public section

set_option maxRecDepth 16384

noncomputable section

namespace Cert.GOutAttnKeep.Hand

open Cert.GOutAttnKeep Cert.GOutAttnKeep.Gen Idealize.ShloMosaic Idealize.ShloMosaic.TcCoe Idealize.SL.Sem

/-- The table that holds a zero. -/
def table : pre0.Contents (Elt Bits) | 0 => fun _ => (0#32 : BitVec 32)

/-- The place that the kernel reads is zero. -/
theorem tbl_eq (m : (ℓ : Loc nD τ sig) → Buf (Elt Bits) ℓ) : tbl m = table := by
  funext j
  obtain rfl : j = 0 := Subsingleton.elim (α := Fin 1) j 0
  funext i
  show StableHlo.after hostOps0 _ (Proc.devRef .tc main_v0) i = _
  entry_read
  pointwise [table]

/-- So every block lies inside its array. -/
theorem ok (m : (ℓ : Loc nD τ sig) → Buf (Elt Bits) ℓ) : Ok m := by
  show ok0 (tbl m)
  rw [tbl_eq]
  decide +kernel

end Cert.GOutAttnKeep.Hand

namespace Cert.GOutAttnKeepIdeal.Hand

open Cert.GOutAttnKeepIdeal Cert.GOutAttnKeepIdeal.Gen Cert.ProdMath Idealize.ShloMosaic Idealize.ShloMosaic.TcCoe Idealize.SL.Sem

/-- The table that holds a zero. -/
def table : pre0.Contents (Elt Ideal) | 0 => fun _ => (0#32 : BitVec 32)

/-- The place that the kernel reads is zero. -/
theorem tbl_eq (m : (ℓ : Loc nD τ sig) → Buf (Elt Ideal) ℓ) : tbl m = table := by
  funext j
  obtain rfl : j = 0 := Subsingleton.elim (α := Fin 1) j 0
  funext i
  show StableHlo.after hostOps0 _ (Proc.devRef .tc main_v0) i = _
  entry_read
  pointwise [table]

/-- So every block lies inside its array. -/
theorem ok (m : (ℓ : Loc nD τ sig) → Buf (Elt Ideal) ℓ) : Ok m := by
  show ok0 (tbl m)
  rw [tbl_eq]
  decide +kernel

variable (m : (ℓ : Loc nD τ sig) → Buf (Elt Ideal) ℓ)

/-- Which block of its array each window holds at grid point `t`. -/
theorem idx_val (hO : Ok m) : ∀ t : Fin (cfgM m hO).N, ((cfgM m hO).win 0).index t = ![0, t.val] ∧ ((cfgM m hO).win 1).index t = ![0, 0] ∧ ((cfgM m hO).win 2).index t = ![t.val, 0] ∧ ((cfgM m hO).win 3).index t = ![t.val, 0] := by
  have h : ∀ t : Fin grid0.N, cc0_transform_0 (grid0.coords t) = ![0, t.val] ∧ cc0_transform_1 inb_S1_S1_0 numel1_S1 (tbl m) (grid0.coords t) = ![0, 0] ∧ cc0_transform_2 (grid0.coords t) = ![t.val, 0] ∧ cc0_transform_3 (grid0.coords t) = ![t.val, 0] := by
    rw [tbl_eq]; decide +kernel
  exact h

/-- One element of the stored block. -/
theorem k0_pay1_at (a : FVec Ideal ⟨2, ![4096, 512]⟩ .bf16) (b : FVec Ideal ⟨2, ![4096, 1024]⟩ .bf16) (d : FVec Ideal ⟨2, ![512, 1024]⟩ .f32) (r : Fin 512) (l : Fin 1024) :
    k0_pay1 (F := Ideal) a b d (ix2 r l) = (∑ x : Fin 4096, a (ix2 x r) * b (ix2 x l)) + d (ix2 r l) := by
  pointwise [k0_pay1]

section Blocks
variable (hO : Ok m) (c : Dev nD) (t : Fin (cfgM m hO).N)

/-- The first block's columns are columns of the first argument. -/
theorem blk0 (x : Fin 4096) (r : Fin 512) (R : Fin 2048) (hR : R.val = t.val * 512 + r.val) : iblk m hO c 0 t (ix2 x r) = m ((c : Thread nD τ).loc main_arg0) (ix2 x R) := by
  rw [← V_main_arg0 m c]
  blk_point [iblk, idx_val m hO t]
/-- The second block's columns are columns of the second argument. -/
theorem blk1 (x : Fin 4096) (l : Fin 1024) (C : Fin 2048) (hC : C.val = 0 + l.val) : iblk m hO c 1 t (ix2 x l) = m ((c : Thread nD τ).loc main_arg1) (ix2 x C) := by
  rw [← V_main_arg1 m c]
  blk_point [iblk, idx_val m hO t]
/-- The third block is a block of the third argument. -/
theorem blk2 (r : Fin 512) (l : Fin 1024) (R : Fin 2048) (C : Fin 1024) (hR : R.val = t.val * 512 + r.val) (hC : C.val = l.val) : iblk m hO c 2 t (ix2 r l) = m ((c : Thread nD τ).loc main_arg2) (ix2 R C) := by
  rw [← V_main_arg2 m c]
  blk_point [iblk, idx_val m hO t]

end Blocks

/-- A row of a block is a row of the result. -/
theorem row_lt (hO : Ok m) (t : Fin (cfgM m hO).N) (r : Fin 512) : t.val * 512 + r.val < 2048 := by
  have := lt_of_lt_of_eq t.isLt N_0; omega
/-- A lane of a block is a lane of the result. -/
theorem col_lt (hO : Ok m) (t : Fin (cfgM m hO).N) (l : Fin 1024) : l.val < 1024 := by
  have := lt_of_lt_of_eq t.isLt N_0; omega

/-- What the stores of one grid point leave of the result. -/
theorem point3 (hO : Ok m) (c : Dev nD) (t : Fin (cfgM m hO).N) (r : Fin 512) (l : Fin 1024) :
    k0_pay1 (F := Ideal) (iblk m hO c 0 t) (iblk m hO c 1 t) (iblk m hO c 2 t) (ix2 r l) = (Padd (Ptn 0 0 (by decide) (by decide) (m ((c : Thread nD τ).loc main_arg0)) (m ((c : Thread nD τ).loc main_arg1)) : FVec Ideal ⟨2, ![2048, 1024]⟩ .f32) (m ((c : Thread nD τ).loc main_arg2))) (ix2 (n0 := 2048) (n1 := 1024) ⟨_, row_lt m hO t r⟩ ⟨_, col_lt m hO t l⟩) := by
  refine (k0_pay1_at _ _ _ _ _).trans ?_
  exact congrArg₂ (fun p q : EReal => p + q) (Finset.sum_congr rfl fun x _ => congrArg₂ (fun p q : EReal => p * q) (blk0 m hO c t x r _ (Nat.zero_add _)) (blk1 m hO c t x l _ rfl)) (blk2 m hO c t r l _ _ rfl rfl)

/-- One grid point stores what the product of its blocks is. -/
theorem out_eq (c : Dev nD) (i : grid0.Coords) (arg4 : Memref sig .tc .vmem S4096x512 .bf16) (harg4 : arg4.IsWhole) (arg5 : Memref sig .tc .vmem S4096x1024 .bf16) (harg5 : arg5.IsWhole) (arg6 : Memref sig .tc .vmem S512x1024 .f32) (harg6 : arg6.IsWhole) (arg7 : Memref sig .tc .vmem S512x1024 .bf16) (harg7 : arg7.IsWhole) (x0 : Vec Ideal S4096x512 .bf16) (x1 : Vec Ideal S4096x1024 .bf16) (x2 : Vec Ideal S512x1024 .f32) (xt0 : TbBuf0 (F := Ideal) c tbM0_0) :
    out0_A_3 c i arg4 harg4 arg5 harg5 arg6 harg6 arg7 harg7 x0 x1 x2 xt0 = k0_pay1 x0 x1 x2 := by
  unfold out0_A_3
  frame_out

/-- The stored blocks cover the result. -/
theorem covers3 (hO : Ok m) : ((cfgM m hO).win 3).Covers := by
  have h : ∀ β : (a : Fin 2) → Fin ((S2048x1024.size a + S512x1024.size a - 1) / S512x1024.size a), ∃ t : Fin grid0.N, ∀ a, (![t.val, 0] : Fin 2 → ℕ) a = β a := by decide +kernel
  exact Pipeline.Window.covers_of_index_surj _ rfl (show ∀ a : Fin 2, 0 < S512x1024.size a by decide) fun β => (h β).imp fun t ht a => (congrFun (idx_val m hO t).2.2.2 a).trans (ht a)

/-- The result's array after the last grid point. -/
theorem final3 (hO : Ok m) (c : Dev nD) : (dats m hO 0 c).arrAt 3 (cfgM m hO).N = Padd (Ptn 0 0 (by decide) (by decide) (m ((c : Thread nD τ).loc main_arg0)) (m ((c : Thread nD τ).loc main_arg1)) : FVec Ideal ⟨2, ![2048, 1024]⟩ .f32) (m ((c : Thread nD τ).loc main_arg2)) := by
  refine (dats m hO 0 c).arrAt_eq_of_covers 3 _ (covers3 m hO) fun t hf (y : Shape.Idx ⟨2, ![512, 1024]⟩) => ?_
  blk_simp
  rw [after0_3]
  refine (congrFun (out_eq _ _ _ _ _ _ _ _ _ _ _ _ _ _) y).trans ?_
  refine (congrArg _ (eq_ix2 (n0 := 512) (n1 := 1024) y)).trans ((point3 m hO c t (y 0) (y 1)).trans ?_)
  exact congrArg (Padd (Ptn 0 0 (by decide) (by decide) (m ((c : Thread nD τ).loc main_arg0)) (m ((c : Thread nD τ).loc main_arg1)) : FVec Ideal ⟨2, ![2048, 1024]⟩ .f32) (m ((c : Thread nD τ).loc main_arg2))) (show ix2 (n0 := 2048) (n1 := 1024) ⟨_, row_lt m hO t (y 0)⟩ ⟨_, col_lt m hO t (y 1)⟩ = _ by blk_ext [idx_val m hO t])

end Cert.GOutAttnKeepIdeal.Hand

namespace Cert.GOutAttnKeepRefIdeal.Hand

open Cert.GOutAttnKeepRefIdeal Cert.GOutAttnKeepRefIdeal.Gen Cert.ProdMath Idealize.ShloMosaic Idealize.ShloMosaic.TcCoe Idealize.SL.Sem

/-- The reference ends with its result at the same function of the arguments, which it leaves as they were. -/
theorem run_math (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v8) = Padd (Ptn 0 0 (by decide) (by decide) (m ((c : Thread nD τ).loc main_arg0)) (m ((c : Thread nD τ).loc main_arg1)) : FVec Ideal ⟨2, ![2048, 1024]⟩ .f32) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run _ _ _).mono (fun r h c => ⟨(h c).1.trans ?_, (h c).2⟩) (Cert.GOutAttnKeepRefIdeal.Value.run m ρ)
  all_goals clear h r
  all_goals generalize m ((c : Thread nD τ).loc main_arg0) = a
  all_goals generalize m ((c : Thread nD τ).loc main_arg1) = b
  all_goals generalize m ((c : Thread nD τ).loc main_arg2) = d
  all_goals revert a b d
  all_goals clean_types
  · intro (a : FVec Ideal ⟨2, ![4096, 2048]⟩ .bf16) (b : FVec Ideal ⟨2, ![4096, 2048]⟩ .bf16) (d : FVec Ideal ⟨2, ![2048, 1024]⟩ .f32)
    refine funext fun j => ?_
    idx_vars j
    pointwise [Padd, Ptn, tn]
    exact congrArg (fun p : EReal => p + _) (Finset.sum_congr rfl fun x _ => mul_comm _ _)

end Cert.GOutAttnKeepRefIdeal.Hand

namespace Cert.GOutAttnKeepIdeal.Hand

open Cert.ProdMath Idealize.ShloMosaic Idealize.ShloMosaic.TcCoe Idealize.SL.Sem

/-- Kernel and reference, run from memories that agree on the arguments, end with equal results. -/
theorem algebraic : Cert.algebraic_GOutAttnKeepIdeal_GOutAttnKeepRefIdeal := by
  intro m g m' g' _ hag
  refine ⟨fun c => Padd (Ptn 0 0 (by decide) (by decide) (m ((c : Thread GOutAttnKeepIdeal.nD GOutAttnKeepIdeal.τ).loc GOutAttnKeepIdeal.main_arg0)) (m ((c : Thread GOutAttnKeepIdeal.nD GOutAttnKeepIdeal.τ).loc GOutAttnKeepIdeal.main_arg1)) : FVec Ideal ⟨2, ![2048, 1024]⟩ .f32) (m ((c : Thread GOutAttnKeepIdeal.nD GOutAttnKeepIdeal.τ).loc GOutAttnKeepIdeal.main_arg2)), ?_, ?_⟩
  · refine (θ_run _ _ _).mono (fun r h c => ?_) (Gen.run_main m g (ok m))
    exact ⟨((h c).1 3).trans (final3 m (ok m) c), ((h c).1 0).trans (((Gen.dats m (ok m) 0 c).arrAt_in 0 rfl _).trans ((Gen.A_eq m (ok m) c 0).trans (Gen.V_main_arg0 m c))), ((h c).1 1).trans (((Gen.dats m (ok m) 0 c).arrAt_in 1 rfl _).trans ((Gen.A_eq m (ok m) c 1).trans (Gen.V_main_arg1 m c))), ((h c).1 2).trans (((Gen.dats m (ok m) 0 c).arrAt_in 2 rfl _).trans ((Gen.A_eq m (ok m) c 2).trans (Gen.V_main_arg2 m c)))⟩
  · refine (θ_run _ _ _).mono (fun r h c => ?_) (GOutAttnKeepRefIdeal.Hand.run_math m' g')
    obtain ⟨e0, e1, e2⟩ := hag c
    obtain ⟨h0, ha⟩ := h c
    refine ⟨?_, ha⟩
    · beta_reduce; rw [← e0, ← e1, ← e2]; exact h0

/-- The reference runs and leaves its arguments and every counter as they were. -/
theorem ref_frame : Cert.quiescent_GOutAttnKeepRefIdeal := by
  intro m g _
  exact (θ_run _ _ _).mono (fun r h => ⟨fun c => (h c).2, sem_eq_zero_of_no_sems (by decide) r.2⟩) (GOutAttnKeepRefIdeal.Hand.run_math m g)

end Cert.GOutAttnKeepIdeal.Hand

end
-- ==== Proof.GMergeSendProd.lean ====
/- The gradient at the merging weight, the columns that the other core sums: kernel and reference both are one product with the transposed left factor. -/
module

public import proofs.«01_k».proof.Defs
public import proofs.«01_k».proof.Proof.ProdMath
public import proofs.«01_k».proof.Proof.Gen.GMergeSend.Frame
public import proofs.«01_k».proof.Proof.Gen.GMergeSendIdeal.Frame
public import proofs.«01_k».proof.Proof.Gen.GMergeSendRefIdeal.Run
public import Idealize.ShloMosaic.Lib.Tactic.CleanTypes
public import Idealize.ShloMosaic.Lib.Claim
public import Idealize.ShloMosaic.Lib.Pipeline.Covers

@[expose] public section

set_option maxRecDepth 16384

noncomputable section

namespace Cert.GMergeSend.Hand

open Cert.GMergeSend Cert.GMergeSend.Gen Idealize.ShloMosaic Idealize.ShloMosaic.TcCoe Idealize.SL.Sem

/-- The table that holds a one. -/
def table : pre0.Contents (Elt Bits) | 0 => fun _ => (1#32 : BitVec 32)

/-- The place that the kernel reads is one. -/
theorem tbl_eq (m : (ℓ : Loc nD τ sig) → Buf (Elt Bits) ℓ) : tbl m = table := by
  funext j
  obtain rfl : j = 0 := Subsingleton.elim (α := Fin 1) j 0
  funext i
  show StableHlo.after hostOps0 _ (Proc.devRef .tc main_v2) i = _
  entry_read
  pointwise [table]
  rfl

/-- So every block lies inside its array. -/
theorem ok (m : (ℓ : Loc nD τ sig) → Buf (Elt Bits) ℓ) : Ok m := by
  show ok0 (tbl m)
  rw [tbl_eq]
  decide +kernel

end Cert.GMergeSend.Hand

namespace Cert.GMergeSendIdeal.Hand

open Cert.GMergeSendIdeal Cert.GMergeSendIdeal.Gen Cert.ProdMath Idealize.ShloMosaic Idealize.ShloMosaic.TcCoe Idealize.SL.Sem

/-- The table that holds a one. -/
def table : pre0.Contents (Elt Ideal) | 0 => fun _ => (1#32 : BitVec 32)

/-- The place that the kernel reads is one. -/
theorem tbl_eq (m : (ℓ : Loc nD τ sig) → Buf (Elt Ideal) ℓ) : tbl m = table := by
  funext j
  obtain rfl : j = 0 := Subsingleton.elim (α := Fin 1) j 0
  funext i
  show StableHlo.after hostOps0 _ (Proc.devRef .tc main_v2) i = _
  entry_read
  pointwise [table]
  rfl

/-- So every block lies inside its array. -/
theorem ok (m : (ℓ : Loc nD τ sig) → Buf (Elt Ideal) ℓ) : Ok m := by
  show ok0 (tbl m)
  rw [tbl_eq]
  decide +kernel

variable (m : (ℓ : Loc nD τ sig) → Buf (Elt Ideal) ℓ)

/-- Which block of its array each window holds at grid point `t`. -/
theorem idx_val (hO : Ok m) : ∀ t : Fin (cfgM m hO).N, ((cfgM m hO).win 0).index t = ![0, t.val] ∧ ((cfgM m hO).win 1).index t = ![0, 1] ∧ ((cfgM m hO).win 2).index t = ![t.val, 0] := by
  have h : ∀ t : Fin grid0.N, cc0_transform_0 (grid0.coords t) = ![0, t.val] ∧ cc0_transform_1 inb_S1_S1_0 numel1_S1 (tbl m) (grid0.coords t) = ![0, 1] ∧ cc0_transform_2 (grid0.coords t) = ![t.val, 0] := by
    rw [tbl_eq]; decide +kernel
  exact h

/-- One element of the stored block. -/
theorem k0_pay1_at (a : FVec Ideal ⟨2, ![4096, 512]⟩ .bf16) (b : FVec Ideal ⟨2, ![4096, 1024]⟩ .bf16) (r : Fin 512) (l : Fin 1024) :
    k0_pay1 (F := Ideal) a b (ix2 r l) = (∑ x : Fin 4096, a (ix2 x r) * b (ix2 x l)) := by
  pointwise [k0_pay1]

section Blocks
variable (hO : Ok m) (c : Dev nD) (t : Fin (cfgM m hO).N)

/-- The first block's columns are columns of the first argument. -/
theorem blk0 (x : Fin 4096) (r : Fin 512) (R : Fin 2048) (hR : R.val = t.val * 512 + r.val) : iblk m hO c 0 t (ix2 x r) = m ((c : Thread nD τ).loc main_arg0) (ix2 x R) := by
  rw [← V_main_arg0 m c]
  blk_point [iblk, idx_val m hO t]
/-- The second block's columns are columns of the second argument. -/
theorem blk1 (x : Fin 4096) (l : Fin 1024) (C : Fin 2048) (hC : C.val = 1024 + l.val) : iblk m hO c 1 t (ix2 x l) = m ((c : Thread nD τ).loc main_arg1) (ix2 x C) := by
  rw [← V_main_arg1 m c]
  blk_point [iblk, idx_val m hO t]

end Blocks

/-- A row of a block is a row of the result. -/
theorem row_lt (hO : Ok m) (t : Fin (cfgM m hO).N) (r : Fin 512) : t.val * 512 + r.val < 2048 := by
  have := lt_of_lt_of_eq t.isLt N_0; omega
/-- A lane of a block is a lane of the result. -/
theorem col_lt (hO : Ok m) (t : Fin (cfgM m hO).N) (l : Fin 1024) : l.val < 1024 := by
  have := lt_of_lt_of_eq t.isLt N_0; omega

/-- What the stores of one grid point leave of the result. -/
theorem point2 (hO : Ok m) (c : Dev nD) (t : Fin (cfgM m hO).N) (r : Fin 512) (l : Fin 1024) :
    k0_pay1 (F := Ideal) (iblk m hO c 0 t) (iblk m hO c 1 t) (ix2 r l) = ((Ptn 0 1024 (by decide) (by decide) (m ((c : Thread nD τ).loc main_arg0)) (m ((c : Thread nD τ).loc main_arg1)) : FVec Ideal ⟨2, ![2048, 1024]⟩ .f32)) (ix2 (n0 := 2048) (n1 := 1024) ⟨_, row_lt m hO t r⟩ ⟨_, col_lt m hO t l⟩) := by
  refine (k0_pay1_at _ _ _ _).trans ?_
  exact Finset.sum_congr rfl fun x _ => congrArg₂ (fun p q : EReal => p * q) (blk0 m hO c t x r _ (Nat.zero_add _)) (blk1 m hO c t x l _ rfl)

/-- One grid point stores what the product of its blocks is. -/
theorem out_eq (c : Dev nD) (i : grid0.Coords) (arg4 : Memref sig .tc .vmem S4096x512 .bf16) (harg4 : arg4.IsWhole) (arg5 : Memref sig .tc .vmem S4096x1024 .bf16) (harg5 : arg5.IsWhole) (arg6 : Memref sig .tc .vmem S512x1024 .f32) (harg6 : arg6.IsWhole) (x0 : Vec Ideal S4096x512 .bf16) (x1 : Vec Ideal S4096x1024 .bf16) (xt0 : TbBuf0 (F := Ideal) c tbM0_0) :
    out0_A_2 c i arg4 harg4 arg5 harg5 arg6 harg6 x0 x1 xt0 = k0_pay1 x0 x1 := by
  unfold out0_A_2
  frame_out

/-- The stored blocks cover the result. -/
theorem covers2 (hO : Ok m) : ((cfgM m hO).win 2).Covers := by
  have h : ∀ β : (a : Fin 2) → Fin ((S2048x1024.size a + S512x1024.size a - 1) / S512x1024.size a), ∃ t : Fin grid0.N, ∀ a, (![t.val, 0] : Fin 2 → ℕ) a = β a := by decide +kernel
  exact Pipeline.Window.covers_of_index_surj _ rfl (show ∀ a : Fin 2, 0 < S512x1024.size a by decide) fun β => (h β).imp fun t ht a => (congrFun (idx_val m hO t).2.2 a).trans (ht a)

/-- The result's array after the last grid point. -/
theorem final2 (hO : Ok m) (c : Dev nD) : (dats m hO 0 c).arrAt 2 (cfgM m hO).N = (Ptn 0 1024 (by decide) (by decide) (m ((c : Thread nD τ).loc main_arg0)) (m ((c : Thread nD τ).loc main_arg1)) : FVec Ideal ⟨2, ![2048, 1024]⟩ .f32) := by
  refine (dats m hO 0 c).arrAt_eq_of_covers 2 _ (covers2 m hO) fun t hf (y : Shape.Idx ⟨2, ![512, 1024]⟩) => ?_
  blk_simp
  rw [after0_2]
  refine (congrFun (out_eq _ _ _ _ _ _ _ _ _ _ _) y).trans ?_
  refine (congrArg _ (eq_ix2 (n0 := 512) (n1 := 1024) y)).trans ((point2 m hO c t (y 0) (y 1)).trans ?_)
  exact congrArg ((Ptn 0 1024 (by decide) (by decide) (m ((c : Thread nD τ).loc main_arg0)) (m ((c : Thread nD τ).loc main_arg1)) : FVec Ideal ⟨2, ![2048, 1024]⟩ .f32)) (show ix2 (n0 := 2048) (n1 := 1024) ⟨_, row_lt m hO t (y 0)⟩ ⟨_, col_lt m hO t (y 1)⟩ = _ by blk_ext [idx_val m hO t])

end Cert.GMergeSendIdeal.Hand

namespace Cert.GMergeSendRefIdeal.Hand

open Cert.GMergeSendRefIdeal Cert.GMergeSendRefIdeal.Gen Cert.ProdMath Idealize.ShloMosaic Idealize.ShloMosaic.TcCoe Idealize.SL.Sem

/-- The reference ends with its result at the same function of the arguments, which it leaves as they were. -/
theorem run_math (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v6) = (Ptn 0 1024 (by decide) (by decide) (m ((c : Thread nD τ).loc main_arg0)) (m ((c : Thread nD τ).loc main_arg1)) : FVec Ideal ⟨2, ![2048, 1024]⟩ .f32)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run _ _ _).mono (fun r h c => ⟨(h c).1.trans ?_, (h c).2⟩) (Cert.GMergeSendRefIdeal.Value.run m ρ)
  all_goals clear h r
  all_goals generalize m ((c : Thread nD τ).loc main_arg0) = a
  all_goals generalize m ((c : Thread nD τ).loc main_arg1) = b
  all_goals revert a b
  all_goals clean_types
  · intro (a : FVec Ideal ⟨2, ![4096, 2048]⟩ .bf16) (b : FVec Ideal ⟨2, ![4096, 2048]⟩ .bf16)
    refine funext fun j => ?_
    idx_vars j
    pointwise [Ptn, tn]
    exact Finset.sum_congr rfl fun x _ => mul_comm _ _

end Cert.GMergeSendRefIdeal.Hand

namespace Cert.GMergeSendIdeal.Hand

open Cert.ProdMath Idealize.ShloMosaic Idealize.ShloMosaic.TcCoe Idealize.SL.Sem

/-- Kernel and reference, run from memories that agree on the arguments, end with equal results. -/
theorem algebraic : Cert.algebraic_GMergeSendIdeal_GMergeSendRefIdeal := by
  intro m g m' g' _ hag
  refine ⟨fun c => (Ptn 0 1024 (by decide) (by decide) (m ((c : Thread GMergeSendIdeal.nD GMergeSendIdeal.τ).loc GMergeSendIdeal.main_arg0)) (m ((c : Thread GMergeSendIdeal.nD GMergeSendIdeal.τ).loc GMergeSendIdeal.main_arg1)) : FVec Ideal ⟨2, ![2048, 1024]⟩ .f32), ?_, ?_⟩
  · refine (θ_run _ _ _).mono (fun r h c => ?_) (Gen.run_main m g (ok m))
    exact ⟨((h c).1 2).trans (final2 m (ok m) c), ((h c).1 0).trans (((Gen.dats m (ok m) 0 c).arrAt_in 0 rfl _).trans ((Gen.A_eq m (ok m) c 0).trans (Gen.V_main_arg0 m c))), ((h c).1 1).trans (((Gen.dats m (ok m) 0 c).arrAt_in 1 rfl _).trans ((Gen.A_eq m (ok m) c 1).trans (Gen.V_main_arg1 m c)))⟩
  · refine (θ_run _ _ _).mono (fun r h c => ?_) (GMergeSendRefIdeal.Hand.run_math m' g')
    obtain ⟨e0, e1⟩ := hag c
    obtain ⟨h0, ha⟩ := h c
    refine ⟨?_, ha⟩
    · beta_reduce; rw [← e0, ← e1]; exact h0

/-- The reference runs and leaves its arguments and every counter as they were. -/
theorem ref_frame : Cert.quiescent_GMergeSendRefIdeal := by
  intro m g _
  exact (θ_run _ _ _).mono (fun r h => ⟨fun c => (h c).2, sem_eq_zero_of_no_sems (by decide) r.2⟩) (GMergeSendRefIdeal.Hand.run_math m g)

end Cert.GMergeSendIdeal.Hand

end
-- ==== Proof.GMergeKeepProd.lean ====
/- The gradient at the merging weight, the columns that this core sums, with what landed: kernel and reference both are one product with the transposed left factor. -/
module

public import proofs.«01_k».proof.Defs
public import proofs.«01_k».proof.Proof.ProdMath
public import proofs.«01_k».proof.Proof.Gen.GMergeKeep.Frame
public import proofs.«01_k».proof.Proof.Gen.GMergeKeepIdeal.Frame
public import proofs.«01_k».proof.Proof.Gen.GMergeKeepRefIdeal.Run
public import Idealize.ShloMosaic.Lib.Tactic.CleanTypes
public import Idealize.ShloMosaic.Lib.Claim
public import Idealize.ShloMosaic.Lib.Pipeline.Covers

@[expose] public section

set_option maxRecDepth 16384

noncomputable section

namespace Cert.GMergeKeep.Hand

open Cert.GMergeKeep Cert.GMergeKeep.Gen Idealize.ShloMosaic Idealize.ShloMosaic.TcCoe Idealize.SL.Sem

/-- The table that holds a zero. -/
def table : pre0.Contents (Elt Bits) | 0 => fun _ => (0#32 : BitVec 32)

/-- The place that the kernel reads is zero. -/
theorem tbl_eq (m : (ℓ : Loc nD τ sig) → Buf (Elt Bits) ℓ) : tbl m = table := by
  funext j
  obtain rfl : j = 0 := Subsingleton.elim (α := Fin 1) j 0
  funext i
  show StableHlo.after hostOps0 _ (Proc.devRef .tc main_v0) i = _
  entry_read
  pointwise [table]

/-- So every block lies inside its array. -/
theorem ok (m : (ℓ : Loc nD τ sig) → Buf (Elt Bits) ℓ) : Ok m := by
  show ok0 (tbl m)
  rw [tbl_eq]
  decide +kernel

end Cert.GMergeKeep.Hand

namespace Cert.GMergeKeepIdeal.Hand

open Cert.GMergeKeepIdeal Cert.GMergeKeepIdeal.Gen Cert.ProdMath Idealize.ShloMosaic Idealize.ShloMosaic.TcCoe Idealize.SL.Sem

/-- The table that holds a zero. -/
def table : pre0.Contents (Elt Ideal) | 0 => fun _ => (0#32 : BitVec 32)

/-- The place that the kernel reads is zero. -/
theorem tbl_eq (m : (ℓ : Loc nD τ sig) → Buf (Elt Ideal) ℓ) : tbl m = table := by
  funext j
  obtain rfl : j = 0 := Subsingleton.elim (α := Fin 1) j 0
  funext i
  show StableHlo.after hostOps0 _ (Proc.devRef .tc main_v0) i = _
  entry_read
  pointwise [table]

/-- So every block lies inside its array. -/
theorem ok (m : (ℓ : Loc nD τ sig) → Buf (Elt Ideal) ℓ) : Ok m := by
  show ok0 (tbl m)
  rw [tbl_eq]
  decide +kernel

variable (m : (ℓ : Loc nD τ sig) → Buf (Elt Ideal) ℓ)

/-- Which block of its array each window holds at grid point `t`. -/
theorem idx_val (hO : Ok m) : ∀ t : Fin (cfgM m hO).N, ((cfgM m hO).win 0).index t = ![0, t.val] ∧ ((cfgM m hO).win 1).index t = ![0, 0] ∧ ((cfgM m hO).win 2).index t = ![t.val, 0] ∧ ((cfgM m hO).win 3).index t = ![t.val, 0] := by
  have h : ∀ t : Fin grid0.N, cc0_transform_0 (grid0.coords t) = ![0, t.val] ∧ cc0_transform_1 inb_S1_S1_0 numel1_S1 (tbl m) (grid0.coords t) = ![0, 0] ∧ cc0_transform_2 (grid0.coords t) = ![t.val, 0] ∧ cc0_transform_3 (grid0.coords t) = ![t.val, 0] := by
    rw [tbl_eq]; decide +kernel
  exact h

/-- One element of the stored block. -/
theorem k0_pay1_at (a : FVec Ideal ⟨2, ![4096, 512]⟩ .bf16) (b : FVec Ideal ⟨2, ![4096, 1024]⟩ .bf16) (d : FVec Ideal ⟨2, ![512, 1024]⟩ .f32) (r : Fin 512) (l : Fin 1024) :
    k0_pay1 (F := Ideal) a b d (ix2 r l) = (∑ x : Fin 4096, a (ix2 x r) * b (ix2 x l)) + d (ix2 r l) := by
  pointwise [k0_pay1]

section Blocks
variable (hO : Ok m) (c : Dev nD) (t : Fin (cfgM m hO).N)

/-- The first block's columns are columns of the first argument. -/
theorem blk0 (x : Fin 4096) (r : Fin 512) (R : Fin 2048) (hR : R.val = t.val * 512 + r.val) : iblk m hO c 0 t (ix2 x r) = m ((c : Thread nD τ).loc main_arg0) (ix2 x R) := by
  rw [← V_main_arg0 m c]
  blk_point [iblk, idx_val m hO t]
/-- The second block's columns are columns of the second argument. -/
theorem blk1 (x : Fin 4096) (l : Fin 1024) (C : Fin 2048) (hC : C.val = 0 + l.val) : iblk m hO c 1 t (ix2 x l) = m ((c : Thread nD τ).loc main_arg1) (ix2 x C) := by
  rw [← V_main_arg1 m c]
  blk_point [iblk, idx_val m hO t]
/-- The third block is a block of the third argument. -/
theorem blk2 (r : Fin 512) (l : Fin 1024) (R : Fin 2048) (C : Fin 1024) (hR : R.val = t.val * 512 + r.val) (hC : C.val = l.val) : iblk m hO c 2 t (ix2 r l) = m ((c : Thread nD τ).loc main_arg2) (ix2 R C) := by
  rw [← V_main_arg2 m c]
  blk_point [iblk, idx_val m hO t]

end Blocks

/-- A row of a block is a row of the result. -/
theorem row_lt (hO : Ok m) (t : Fin (cfgM m hO).N) (r : Fin 512) : t.val * 512 + r.val < 2048 := by
  have := lt_of_lt_of_eq t.isLt N_0; omega
/-- A lane of a block is a lane of the result. -/
theorem col_lt (hO : Ok m) (t : Fin (cfgM m hO).N) (l : Fin 1024) : l.val < 1024 := by
  have := lt_of_lt_of_eq t.isLt N_0; omega

/-- What the stores of one grid point leave of the result. -/
theorem point3 (hO : Ok m) (c : Dev nD) (t : Fin (cfgM m hO).N) (r : Fin 512) (l : Fin 1024) :
    k0_pay1 (F := Ideal) (iblk m hO c 0 t) (iblk m hO c 1 t) (iblk m hO c 2 t) (ix2 r l) = (Padd (Ptn 0 0 (by decide) (by decide) (m ((c : Thread nD τ).loc main_arg0)) (m ((c : Thread nD τ).loc main_arg1)) : FVec Ideal ⟨2, ![2048, 1024]⟩ .f32) (m ((c : Thread nD τ).loc main_arg2))) (ix2 (n0 := 2048) (n1 := 1024) ⟨_, row_lt m hO t r⟩ ⟨_, col_lt m hO t l⟩) := by
  refine (k0_pay1_at _ _ _ _ _).trans ?_
  exact congrArg₂ (fun p q : EReal => p + q) (Finset.sum_congr rfl fun x _ => congrArg₂ (fun p q : EReal => p * q) (blk0 m hO c t x r _ (Nat.zero_add _)) (blk1 m hO c t x l _ rfl)) (blk2 m hO c t r l _ _ rfl rfl)

/-- One grid point stores what the product of its blocks is. -/
theorem out_eq (c : Dev nD) (i : grid0.Coords) (arg4 : Memref sig .tc .vmem S4096x512 .bf16) (harg4 : arg4.IsWhole) (arg5 : Memref sig .tc .vmem S4096x1024 .bf16) (harg5 : arg5.IsWhole) (arg6 : Memref sig .tc .vmem S512x1024 .f32) (harg6 : arg6.IsWhole) (arg7 : Memref sig .tc .vmem S512x1024 .bf16) (harg7 : arg7.IsWhole) (x0 : Vec Ideal S4096x512 .bf16) (x1 : Vec Ideal S4096x1024 .bf16) (x2 : Vec Ideal S512x1024 .f32) (xt0 : TbBuf0 (F := Ideal) c tbM0_0) :
    out0_A_3 c i arg4 harg4 arg5 harg5 arg6 harg6 arg7 harg7 x0 x1 x2 xt0 = k0_pay1 x0 x1 x2 := by
  unfold out0_A_3
  frame_out

/-- The stored blocks cover the result. -/
theorem covers3 (hO : Ok m) : ((cfgM m hO).win 3).Covers := by
  have h : ∀ β : (a : Fin 2) → Fin ((S2048x1024.size a + S512x1024.size a - 1) / S512x1024.size a), ∃ t : Fin grid0.N, ∀ a, (![t.val, 0] : Fin 2 → ℕ) a = β a := by decide +kernel
  exact Pipeline.Window.covers_of_index_surj _ rfl (show ∀ a : Fin 2, 0 < S512x1024.size a by decide) fun β => (h β).imp fun t ht a => (congrFun (idx_val m hO t).2.2.2 a).trans (ht a)

/-- The result's array after the last grid point. -/
theorem final3 (hO : Ok m) (c : Dev nD) : (dats m hO 0 c).arrAt 3 (cfgM m hO).N = Padd (Ptn 0 0 (by decide) (by decide) (m ((c : Thread nD τ).loc main_arg0)) (m ((c : Thread nD τ).loc main_arg1)) : FVec Ideal ⟨2, ![2048, 1024]⟩ .f32) (m ((c : Thread nD τ).loc main_arg2)) := by
  refine (dats m hO 0 c).arrAt_eq_of_covers 3 _ (covers3 m hO) fun t hf (y : Shape.Idx ⟨2, ![512, 1024]⟩) => ?_
  blk_simp
  rw [after0_3]
  refine (congrFun (out_eq _ _ _ _ _ _ _ _ _ _ _ _ _ _) y).trans ?_
  refine (congrArg _ (eq_ix2 (n0 := 512) (n1 := 1024) y)).trans ((point3 m hO c t (y 0) (y 1)).trans ?_)
  exact congrArg (Padd (Ptn 0 0 (by decide) (by decide) (m ((c : Thread nD τ).loc main_arg0)) (m ((c : Thread nD τ).loc main_arg1)) : FVec Ideal ⟨2, ![2048, 1024]⟩ .f32) (m ((c : Thread nD τ).loc main_arg2))) (show ix2 (n0 := 2048) (n1 := 1024) ⟨_, row_lt m hO t (y 0)⟩ ⟨_, col_lt m hO t (y 1)⟩ = _ by blk_ext [idx_val m hO t])

end Cert.GMergeKeepIdeal.Hand

namespace Cert.GMergeKeepRefIdeal.Hand

open Cert.GMergeKeepRefIdeal Cert.GMergeKeepRefIdeal.Gen Cert.ProdMath Idealize.ShloMosaic Idealize.ShloMosaic.TcCoe Idealize.SL.Sem

/-- The reference ends with its result at the same function of the arguments, which it leaves as they were. -/
theorem run_math (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v8) = Padd (Ptn 0 0 (by decide) (by decide) (m ((c : Thread nD τ).loc main_arg0)) (m ((c : Thread nD τ).loc main_arg1)) : FVec Ideal ⟨2, ![2048, 1024]⟩ .f32) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run _ _ _).mono (fun r h c => ⟨(h c).1.trans ?_, (h c).2⟩) (Cert.GMergeKeepRefIdeal.Value.run m ρ)
  all_goals clear h r
  all_goals generalize m ((c : Thread nD τ).loc main_arg0) = a
  all_goals generalize m ((c : Thread nD τ).loc main_arg1) = b
  all_goals generalize m ((c : Thread nD τ).loc main_arg2) = d
  all_goals revert a b d
  all_goals clean_types
  · intro (a : FVec Ideal ⟨2, ![4096, 2048]⟩ .bf16) (b : FVec Ideal ⟨2, ![4096, 2048]⟩ .bf16) (d : FVec Ideal ⟨2, ![2048, 1024]⟩ .f32)
    refine funext fun j => ?_
    idx_vars j
    pointwise [Padd, Ptn, tn]
    exact congrArg (fun p : EReal => p + _) (Finset.sum_congr rfl fun x _ => mul_comm _ _)

end Cert.GMergeKeepRefIdeal.Hand

namespace Cert.GMergeKeepIdeal.Hand

open Cert.ProdMath Idealize.ShloMosaic Idealize.ShloMosaic.TcCoe Idealize.SL.Sem

/-- Kernel and reference, run from memories that agree on the arguments, end with equal results. -/
theorem algebraic : Cert.algebraic_GMergeKeepIdeal_GMergeKeepRefIdeal := by
  intro m g m' g' _ hag
  refine ⟨fun c => Padd (Ptn 0 0 (by decide) (by decide) (m ((c : Thread GMergeKeepIdeal.nD GMergeKeepIdeal.τ).loc GMergeKeepIdeal.main_arg0)) (m ((c : Thread GMergeKeepIdeal.nD GMergeKeepIdeal.τ).loc GMergeKeepIdeal.main_arg1)) : FVec Ideal ⟨2, ![2048, 1024]⟩ .f32) (m ((c : Thread GMergeKeepIdeal.nD GMergeKeepIdeal.τ).loc GMergeKeepIdeal.main_arg2)), ?_, ?_⟩
  · refine (θ_run _ _ _).mono (fun r h c => ?_) (Gen.run_main m g (ok m))
    exact ⟨((h c).1 3).trans (final3 m (ok m) c), ((h c).1 0).trans (((Gen.dats m (ok m) 0 c).arrAt_in 0 rfl _).trans ((Gen.A_eq m (ok m) c 0).trans (Gen.V_main_arg0 m c))), ((h c).1 1).trans (((Gen.dats m (ok m) 0 c).arrAt_in 1 rfl _).trans ((Gen.A_eq m (ok m) c 1).trans (Gen.V_main_arg1 m c))), ((h c).1 2).trans (((Gen.dats m (ok m) 0 c).arrAt_in 2 rfl _).trans ((Gen.A_eq m (ok m) c 2).trans (Gen.V_main_arg2 m c)))⟩
  · refine (θ_run _ _ _).mono (fun r h c => ?_) (GMergeKeepRefIdeal.Hand.run_math m' g')
    obtain ⟨e0, e1, e2⟩ := hag c
    obtain ⟨h0, ha⟩ := h c
    refine ⟨?_, ha⟩
    · beta_reduce; rw [← e0, ← e1, ← e2]; exact h0

/-- The reference runs and leaves its arguments and every counter as they were. -/
theorem ref_frame : Cert.quiescent_GMergeKeepRefIdeal := by
  intro m g _
  exact (θ_run _ _ _).mono (fun r h => ⟨fun c => (h c).2, sem_eq_zero_of_no_sems (by decide) r.2⟩) (GMergeKeepRefIdeal.Hand.run_math m g)

end Cert.GMergeKeepIdeal.Hand

end
-- ==== Proof.GInSendProd.lean ====
/- The gradient at the mixers' input weight, the rows that the other core sums: kernel and reference both are one product with the transposed left factor. -/
module

public import proofs.«01_k».proof.Defs
public import proofs.«01_k».proof.Proof.ProdMath
public import proofs.«01_k».proof.Proof.Gen.GInSend.Frame
public import proofs.«01_k».proof.Proof.Gen.GInSendIdeal.Frame
public import proofs.«01_k».proof.Proof.Gen.GInSendRefIdeal.Run
public import Idealize.ShloMosaic.Lib.Tactic.CleanTypes
public import Idealize.ShloMosaic.Lib.Claim
public import Idealize.ShloMosaic.Lib.Pipeline.Covers

@[expose] public section

set_option maxRecDepth 16384

noncomputable section

namespace Cert.GInSend.Hand

open Cert.GInSend Cert.GInSend.Gen Idealize.ShloMosaic Idealize.ShloMosaic.TcCoe Idealize.SL.Sem

/-- The table that holds a one. -/
def table : pre0.Contents (Elt Bits) | 0 => fun _ => (1#32 : BitVec 32)

/-- The place that the kernel reads is one. -/
theorem tbl_eq (m : (ℓ : Loc nD τ sig) → Buf (Elt Bits) ℓ) : tbl m = table := by
  funext j
  obtain rfl : j = 0 := Subsingleton.elim (α := Fin 1) j 0
  funext i
  show StableHlo.after hostOps0 _ (Proc.devRef .tc main_v2) i = _
  entry_read
  pointwise [table]
  rfl

/-- So every block lies inside its array. -/
theorem ok (m : (ℓ : Loc nD τ sig) → Buf (Elt Bits) ℓ) : Ok m := by
  show ok0 (tbl m)
  rw [tbl_eq]
  decide +kernel

end Cert.GInSend.Hand

namespace Cert.GInSendIdeal.Hand

open Cert.GInSendIdeal Cert.GInSendIdeal.Gen Cert.ProdMath Idealize.ShloMosaic Idealize.ShloMosaic.TcCoe Idealize.SL.Sem

/-- The table that holds a one. -/
def table : pre0.Contents (Elt Ideal) | 0 => fun _ => (1#32 : BitVec 32)

/-- The place that the kernel reads is one. -/
theorem tbl_eq (m : (ℓ : Loc nD τ sig) → Buf (Elt Ideal) ℓ) : tbl m = table := by
  funext j
  obtain rfl : j = 0 := Subsingleton.elim (α := Fin 1) j 0
  funext i
  show StableHlo.after hostOps0 _ (Proc.devRef .tc main_v2) i = _
  entry_read
  pointwise [table]
  rfl

/-- So every block lies inside its array. -/
theorem ok (m : (ℓ : Loc nD τ sig) → Buf (Elt Ideal) ℓ) : Ok m := by
  show ok0 (tbl m)
  rw [tbl_eq]
  decide +kernel

variable (m : (ℓ : Loc nD τ sig) → Buf (Elt Ideal) ℓ)

/-- Which block of its array each window holds at grid point `t`. -/
theorem idx_val (hO : Ok m) : ∀ t : Fin (cfgM m hO).N, ((cfgM m hO).win 0).index t = ![0, 1] ∧ ((cfgM m hO).win 1).index t = ![0, t.val] ∧ ((cfgM m hO).win 2).index t = ![0, t.val] := by
  have h : ∀ t : Fin grid0.N, cc0_transform_0 inb_S1_S1_0 numel1_S1 (tbl m) (grid0.coords t) = ![0, 1] ∧ cc0_transform_1 (grid0.coords t) = ![0, t.val] ∧ cc0_transform_2 (grid0.coords t) = ![0, t.val] := by
    rw [tbl_eq]; decide +kernel
  exact h

/-- One element of the stored block. -/
theorem k0_pay1_at (a : FVec Ideal ⟨2, ![4096, 1024]⟩ .bf16) (b : FVec Ideal ⟨2, ![4096, 512]⟩ .bf16) (r : Fin 1024) (l : Fin 512) :
    k0_pay1 (F := Ideal) a b (ix2 r l) = (∑ x : Fin 4096, a (ix2 x r) * b (ix2 x l)) := by
  pointwise [k0_pay1]

section Blocks
variable (hO : Ok m) (c : Dev nD) (t : Fin (cfgM m hO).N)

/-- The first block's columns are columns of the first argument. -/
theorem blk0 (x : Fin 4096) (r : Fin 1024) (R : Fin 2048) (hR : R.val = 1024 + r.val) : iblk m hO c 0 t (ix2 x r) = m ((c : Thread nD τ).loc main_arg0) (ix2 x R) := by
  rw [← V_main_arg0 m c]
  blk_point [iblk, idx_val m hO t]
/-- The second block's columns are columns of the second argument. -/
theorem blk1 (x : Fin 4096) (l : Fin 512) (C : Fin 13312) (hC : C.val = t.val * 512 + l.val) : iblk m hO c 1 t (ix2 x l) = m ((c : Thread nD τ).loc main_arg1) (ix2 x C) := by
  rw [← V_main_arg1 m c]
  blk_point [iblk, idx_val m hO t]

end Blocks

/-- A row of a block is a row of the result. -/
theorem row_lt (hO : Ok m) (t : Fin (cfgM m hO).N) (r : Fin 1024) : r.val < 1024 := by
  have := lt_of_lt_of_eq t.isLt N_0; omega
/-- A lane of a block is a lane of the result. -/
theorem col_lt (hO : Ok m) (t : Fin (cfgM m hO).N) (l : Fin 512) : t.val * 512 + l.val < 13312 := by
  have := lt_of_lt_of_eq t.isLt N_0; omega

/-- What the stores of one grid point leave of the result. -/
theorem point2 (hO : Ok m) (c : Dev nD) (t : Fin (cfgM m hO).N) (r : Fin 1024) (l : Fin 512) :
    k0_pay1 (F := Ideal) (iblk m hO c 0 t) (iblk m hO c 1 t) (ix2 r l) = ((Ptn 1024 0 (by decide) (by decide) (m ((c : Thread nD τ).loc main_arg0)) (m ((c : Thread nD τ).loc main_arg1)) : FVec Ideal ⟨2, ![1024, 13312]⟩ .f32)) (ix2 (n0 := 1024) (n1 := 13312) ⟨_, row_lt m hO t r⟩ ⟨_, col_lt m hO t l⟩) := by
  refine (k0_pay1_at _ _ _ _).trans ?_
  exact Finset.sum_congr rfl fun x _ => congrArg₂ (fun p q : EReal => p * q) (blk0 m hO c t x r _ rfl) (blk1 m hO c t x l _ (Nat.zero_add _))

/-- One grid point stores what the product of its blocks is. -/
theorem out_eq (c : Dev nD) (i : grid0.Coords) (arg4 : Memref sig .tc .vmem S4096x1024 .bf16) (harg4 : arg4.IsWhole) (arg5 : Memref sig .tc .vmem S4096x512 .bf16) (harg5 : arg5.IsWhole) (arg6 : Memref sig .tc .vmem S1024x512 .f32) (harg6 : arg6.IsWhole) (x0 : Vec Ideal S4096x1024 .bf16) (x1 : Vec Ideal S4096x512 .bf16) (xt0 : TbBuf0 (F := Ideal) c tbM0_0) :
    out0_A_2 c i arg4 harg4 arg5 harg5 arg6 harg6 x0 x1 xt0 = k0_pay1 x0 x1 := by
  unfold out0_A_2
  frame_out

/-- The stored blocks cover the result. -/
theorem covers2 (hO : Ok m) : ((cfgM m hO).win 2).Covers := by
  have h : ∀ β : (a : Fin 2) → Fin ((S1024x13312.size a + S1024x512.size a - 1) / S1024x512.size a), ∃ t : Fin grid0.N, ∀ a, (![0, t.val] : Fin 2 → ℕ) a = β a := by decide +kernel
  exact Pipeline.Window.covers_of_index_surj _ rfl (show ∀ a : Fin 2, 0 < S1024x512.size a by decide) fun β => (h β).imp fun t ht a => (congrFun (idx_val m hO t).2.2 a).trans (ht a)

/-- The result's array after the last grid point. -/
theorem final2 (hO : Ok m) (c : Dev nD) : (dats m hO 0 c).arrAt 2 (cfgM m hO).N = (Ptn 1024 0 (by decide) (by decide) (m ((c : Thread nD τ).loc main_arg0)) (m ((c : Thread nD τ).loc main_arg1)) : FVec Ideal ⟨2, ![1024, 13312]⟩ .f32) := by
  refine (dats m hO 0 c).arrAt_eq_of_covers 2 _ (covers2 m hO) fun t hf (y : Shape.Idx ⟨2, ![1024, 512]⟩) => ?_
  blk_simp
  rw [after0_2]
  refine (congrFun (out_eq _ _ _ _ _ _ _ _ _ _ _) y).trans ?_
  refine (congrArg _ (eq_ix2 (n0 := 1024) (n1 := 512) y)).trans ((point2 m hO c t (y 0) (y 1)).trans ?_)
  exact congrArg ((Ptn 1024 0 (by decide) (by decide) (m ((c : Thread nD τ).loc main_arg0)) (m ((c : Thread nD τ).loc main_arg1)) : FVec Ideal ⟨2, ![1024, 13312]⟩ .f32)) (show ix2 (n0 := 1024) (n1 := 13312) ⟨_, row_lt m hO t (y 0)⟩ ⟨_, col_lt m hO t (y 1)⟩ = _ by blk_ext [idx_val m hO t])

end Cert.GInSendIdeal.Hand

namespace Cert.GInSendRefIdeal.Hand

open Cert.GInSendRefIdeal Cert.GInSendRefIdeal.Gen Cert.ProdMath Idealize.ShloMosaic Idealize.ShloMosaic.TcCoe Idealize.SL.Sem

/-- The reference ends with its result at the same function of the arguments, which it leaves as they were. -/
theorem run_math (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v6) = (Ptn 1024 0 (by decide) (by decide) (m ((c : Thread nD τ).loc main_arg0)) (m ((c : Thread nD τ).loc main_arg1)) : FVec Ideal ⟨2, ![1024, 13312]⟩ .f32)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run _ _ _).mono (fun r h c => ⟨(h c).1.trans ?_, (h c).2⟩) (Cert.GInSendRefIdeal.Value.run m ρ)
  all_goals clear h r
  all_goals generalize m ((c : Thread nD τ).loc main_arg0) = a
  all_goals generalize m ((c : Thread nD τ).loc main_arg1) = b
  all_goals revert a b
  all_goals clean_types
  · intro (a : FVec Ideal ⟨2, ![4096, 2048]⟩ .bf16) (b : FVec Ideal ⟨2, ![4096, 13312]⟩ .bf16)
    refine funext fun j => ?_
    idx_vars j
    pointwise [Ptn, tn]
    exact Finset.sum_congr rfl fun x _ => mul_comm _ _

end Cert.GInSendRefIdeal.Hand

namespace Cert.GInSendIdeal.Hand

open Cert.ProdMath Idealize.ShloMosaic Idealize.ShloMosaic.TcCoe Idealize.SL.Sem

/-- Kernel and reference, run from memories that agree on the arguments, end with equal results. -/
theorem algebraic : Cert.algebraic_GInSendIdeal_GInSendRefIdeal := by
  intro m g m' g' _ hag
  refine ⟨fun c => (Ptn 1024 0 (by decide) (by decide) (m ((c : Thread GInSendIdeal.nD GInSendIdeal.τ).loc GInSendIdeal.main_arg0)) (m ((c : Thread GInSendIdeal.nD GInSendIdeal.τ).loc GInSendIdeal.main_arg1)) : FVec Ideal ⟨2, ![1024, 13312]⟩ .f32), ?_, ?_⟩
  · refine (θ_run _ _ _).mono (fun r h c => ?_) (Gen.run_main m g (ok m))
    exact ⟨((h c).1 2).trans (final2 m (ok m) c), ((h c).1 0).trans (((Gen.dats m (ok m) 0 c).arrAt_in 0 rfl _).trans ((Gen.A_eq m (ok m) c 0).trans (Gen.V_main_arg0 m c))), ((h c).1 1).trans (((Gen.dats m (ok m) 0 c).arrAt_in 1 rfl _).trans ((Gen.A_eq m (ok m) c 1).trans (Gen.V_main_arg1 m c)))⟩
  · refine (θ_run _ _ _).mono (fun r h c => ?_) (GInSendRefIdeal.Hand.run_math m' g')
    obtain ⟨e0, e1⟩ := hag c
    obtain ⟨h0, ha⟩ := h c
    refine ⟨?_, ha⟩
    · beta_reduce; rw [← e0, ← e1]; exact h0

/-- The reference runs and leaves its arguments and every counter as they were. -/
theorem ref_frame : Cert.quiescent_GInSendRefIdeal := by
  intro m g _
  exact (θ_run _ _ _).mono (fun r h => ⟨fun c => (h c).2, sem_eq_zero_of_no_sems (by decide) r.2⟩) (GInSendRefIdeal.Hand.run_math m g)

end Cert.GInSendIdeal.Hand

end
-- ==== Proof.GInKeepProd.lean ====
/- The gradient at the mixers' input weight, the rows that this core sums, with what landed: kernel and reference both are one product with the transposed left factor. -/
module

public import proofs.«01_k».proof.Defs
public import proofs.«01_k».proof.Proof.ProdMath
public import proofs.«01_k».proof.Proof.Gen.GInKeep.Frame
public import proofs.«01_k».proof.Proof.Gen.GInKeepIdeal.Frame
public import proofs.«01_k».proof.Proof.Gen.GInKeepRefIdeal.Run
public import Idealize.ShloMosaic.Lib.Tactic.CleanTypes
public import Idealize.ShloMosaic.Lib.Claim
public import Idealize.ShloMosaic.Lib.Pipeline.Covers

@[expose] public section

set_option maxRecDepth 16384

noncomputable section

namespace Cert.GInKeep.Hand

open Cert.GInKeep Cert.GInKeep.Gen Idealize.ShloMosaic Idealize.ShloMosaic.TcCoe Idealize.SL.Sem

/-- The table that holds a zero. -/
def table : pre0.Contents (Elt Bits) | 0 => fun _ => (0#32 : BitVec 32)

/-- The place that the kernel reads is zero. -/
theorem tbl_eq (m : (ℓ : Loc nD τ sig) → Buf (Elt Bits) ℓ) : tbl m = table := by
  funext j
  obtain rfl : j = 0 := Subsingleton.elim (α := Fin 1) j 0
  funext i
  show StableHlo.after hostOps0 _ (Proc.devRef .tc main_v0) i = _
  entry_read
  pointwise [table]

/-- So every block lies inside its array. -/
theorem ok (m : (ℓ : Loc nD τ sig) → Buf (Elt Bits) ℓ) : Ok m := by
  show ok0 (tbl m)
  rw [tbl_eq]
  decide +kernel

end Cert.GInKeep.Hand

namespace Cert.GInKeepIdeal.Hand

open Cert.GInKeepIdeal Cert.GInKeepIdeal.Gen Cert.ProdMath Idealize.ShloMosaic Idealize.ShloMosaic.TcCoe Idealize.SL.Sem

/-- The table that holds a zero. -/
def table : pre0.Contents (Elt Ideal) | 0 => fun _ => (0#32 : BitVec 32)

/-- The place that the kernel reads is zero. -/
theorem tbl_eq (m : (ℓ : Loc nD τ sig) → Buf (Elt Ideal) ℓ) : tbl m = table := by
  funext j
  obtain rfl : j = 0 := Subsingleton.elim (α := Fin 1) j 0
  funext i
  show StableHlo.after hostOps0 _ (Proc.devRef .tc main_v0) i = _
  entry_read
  pointwise [table]

/-- So every block lies inside its array. -/
theorem ok (m : (ℓ : Loc nD τ sig) → Buf (Elt Ideal) ℓ) : Ok m := by
  show ok0 (tbl m)
  rw [tbl_eq]
  decide +kernel

variable (m : (ℓ : Loc nD τ sig) → Buf (Elt Ideal) ℓ)

/-- Which block of its array each window holds at grid point `t`. -/
theorem idx_val (hO : Ok m) : ∀ t : Fin (cfgM m hO).N, ((cfgM m hO).win 0).index t = ![0, 0] ∧ ((cfgM m hO).win 1).index t = ![0, t.val] ∧ ((cfgM m hO).win 2).index t = ![0, t.val] ∧ ((cfgM m hO).win 3).index t = ![0, t.val] := by
  have h : ∀ t : Fin grid0.N, cc0_transform_0 inb_S1_S1_0 numel1_S1 (tbl m) (grid0.coords t) = ![0, 0] ∧ cc0_transform_1 (grid0.coords t) = ![0, t.val] ∧ cc0_transform_2 (grid0.coords t) = ![0, t.val] ∧ cc0_transform_3 (grid0.coords t) = ![0, t.val] := by
    rw [tbl_eq]; decide +kernel
  exact h

/-- One element of the stored block. -/
theorem k0_pay1_at (a : FVec Ideal ⟨2, ![4096, 1024]⟩ .bf16) (b : FVec Ideal ⟨2, ![4096, 512]⟩ .bf16) (d : FVec Ideal ⟨2, ![1024, 512]⟩ .f32) (r : Fin 1024) (l : Fin 512) :
    k0_pay1 (F := Ideal) a b d (ix2 r l) = (∑ x : Fin 4096, a (ix2 x r) * b (ix2 x l)) + d (ix2 r l) := by
  pointwise [k0_pay1]

section Blocks
variable (hO : Ok m) (c : Dev nD) (t : Fin (cfgM m hO).N)

/-- The first block's columns are columns of the first argument. -/
theorem blk0 (x : Fin 4096) (r : Fin 1024) (R : Fin 2048) (hR : R.val = 0 + r.val) : iblk m hO c 0 t (ix2 x r) = m ((c : Thread nD τ).loc main_arg0) (ix2 x R) := by
  rw [← V_main_arg0 m c]
  blk_point [iblk, idx_val m hO t]
/-- The second block's columns are columns of the second argument. -/
theorem blk1 (x : Fin 4096) (l : Fin 512) (C : Fin 13312) (hC : C.val = t.val * 512 + l.val) : iblk m hO c 1 t (ix2 x l) = m ((c : Thread nD τ).loc main_arg1) (ix2 x C) := by
  rw [← V_main_arg1 m c]
  blk_point [iblk, idx_val m hO t]
/-- The third block is a block of the third argument. -/
theorem blk2 (r : Fin 1024) (l : Fin 512) (R : Fin 1024) (C : Fin 13312) (hR : R.val = r.val) (hC : C.val = t.val * 512 + l.val) : iblk m hO c 2 t (ix2 r l) = m ((c : Thread nD τ).loc main_arg2) (ix2 R C) := by
  rw [← V_main_arg2 m c]
  blk_point [iblk, idx_val m hO t]

end Blocks

/-- A row of a block is a row of the result. -/
theorem row_lt (hO : Ok m) (t : Fin (cfgM m hO).N) (r : Fin 1024) : r.val < 1024 := by
  have := lt_of_lt_of_eq t.isLt N_0; omega
/-- A lane of a block is a lane of the result. -/
theorem col_lt (hO : Ok m) (t : Fin (cfgM m hO).N) (l : Fin 512) : t.val * 512 + l.val < 13312 := by
  have := lt_of_lt_of_eq t.isLt N_0; omega

/-- What the stores of one grid point leave of the result. -/
theorem point3 (hO : Ok m) (c : Dev nD) (t : Fin (cfgM m hO).N) (r : Fin 1024) (l : Fin 512) :
    k0_pay1 (F := Ideal) (iblk m hO c 0 t) (iblk m hO c 1 t) (iblk m hO c 2 t) (ix2 r l) = (Padd (Ptn 0 0 (by decide) (by decide) (m ((c : Thread nD τ).loc main_arg0)) (m ((c : Thread nD τ).loc main_arg1)) : FVec Ideal ⟨2, ![1024, 13312]⟩ .f32) (m ((c : Thread nD τ).loc main_arg2))) (ix2 (n0 := 1024) (n1 := 13312) ⟨_, row_lt m hO t r⟩ ⟨_, col_lt m hO t l⟩) := by
  refine (k0_pay1_at _ _ _ _ _).trans ?_
  exact congrArg₂ (fun p q : EReal => p + q) (Finset.sum_congr rfl fun x _ => congrArg₂ (fun p q : EReal => p * q) (blk0 m hO c t x r _ rfl) (blk1 m hO c t x l _ (Nat.zero_add _))) (blk2 m hO c t r l _ _ rfl rfl)

/-- One grid point stores what the product of its blocks is. -/
theorem out_eq (c : Dev nD) (i : grid0.Coords) (arg4 : Memref sig .tc .vmem S4096x1024 .bf16) (harg4 : arg4.IsWhole) (arg5 : Memref sig .tc .vmem S4096x512 .bf16) (harg5 : arg5.IsWhole) (arg6 : Memref sig .tc .vmem S1024x512 .f32) (harg6 : arg6.IsWhole) (arg7 : Memref sig .tc .vmem S1024x512 .bf16) (harg7 : arg7.IsWhole) (x0 : Vec Ideal S4096x1024 .bf16) (x1 : Vec Ideal S4096x512 .bf16) (x2 : Vec Ideal S1024x512 .f32) (xt0 : TbBuf0 (F := Ideal) c tbM0_0) :
    out0_A_3 c i arg4 harg4 arg5 harg5 arg6 harg6 arg7 harg7 x0 x1 x2 xt0 = k0_pay1 x0 x1 x2 := by
  unfold out0_A_3
  frame_out

/-- The stored blocks cover the result. -/
theorem covers3 (hO : Ok m) : ((cfgM m hO).win 3).Covers := by
  have h : ∀ β : (a : Fin 2) → Fin ((S1024x13312.size a + S1024x512.size a - 1) / S1024x512.size a), ∃ t : Fin grid0.N, ∀ a, (![0, t.val] : Fin 2 → ℕ) a = β a := by decide +kernel
  exact Pipeline.Window.covers_of_index_surj _ rfl (show ∀ a : Fin 2, 0 < S1024x512.size a by decide) fun β => (h β).imp fun t ht a => (congrFun (idx_val m hO t).2.2.2 a).trans (ht a)

/-- The result's array after the last grid point. -/
theorem final3 (hO : Ok m) (c : Dev nD) : (dats m hO 0 c).arrAt 3 (cfgM m hO).N = Padd (Ptn 0 0 (by decide) (by decide) (m ((c : Thread nD τ).loc main_arg0)) (m ((c : Thread nD τ).loc main_arg1)) : FVec Ideal ⟨2, ![1024, 13312]⟩ .f32) (m ((c : Thread nD τ).loc main_arg2)) := by
  refine (dats m hO 0 c).arrAt_eq_of_covers 3 _ (covers3 m hO) fun t hf (y : Shape.Idx ⟨2, ![1024, 512]⟩) => ?_
  blk_simp
  rw [after0_3]
  refine (congrFun (out_eq _ _ _ _ _ _ _ _ _ _ _ _ _ _) y).trans ?_
  refine (congrArg _ (eq_ix2 (n0 := 1024) (n1 := 512) y)).trans ((point3 m hO c t (y 0) (y 1)).trans ?_)
  exact congrArg (Padd (Ptn 0 0 (by decide) (by decide) (m ((c : Thread nD τ).loc main_arg0)) (m ((c : Thread nD τ).loc main_arg1)) : FVec Ideal ⟨2, ![1024, 13312]⟩ .f32) (m ((c : Thread nD τ).loc main_arg2))) (show ix2 (n0 := 1024) (n1 := 13312) ⟨_, row_lt m hO t (y 0)⟩ ⟨_, col_lt m hO t (y 1)⟩ = _ by blk_ext [idx_val m hO t])

end Cert.GInKeepIdeal.Hand

namespace Cert.GInKeepRefIdeal.Hand

open Cert.GInKeepRefIdeal Cert.GInKeepRefIdeal.Gen Cert.ProdMath Idealize.ShloMosaic Idealize.ShloMosaic.TcCoe Idealize.SL.Sem

/-- The reference ends with its result at the same function of the arguments, which it leaves as they were. -/
theorem run_math (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v8) = Padd (Ptn 0 0 (by decide) (by decide) (m ((c : Thread nD τ).loc main_arg0)) (m ((c : Thread nD τ).loc main_arg1)) : FVec Ideal ⟨2, ![1024, 13312]⟩ .f32) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run _ _ _).mono (fun r h c => ⟨(h c).1.trans ?_, (h c).2⟩) (Cert.GInKeepRefIdeal.Value.run m ρ)
  all_goals clear h r
  all_goals generalize m ((c : Thread nD τ).loc main_arg0) = a
  all_goals generalize m ((c : Thread nD τ).loc main_arg1) = b
  all_goals generalize m ((c : Thread nD τ).loc main_arg2) = d
  all_goals revert a b d
  all_goals clean_types
  · intro (a : FVec Ideal ⟨2, ![4096, 2048]⟩ .bf16) (b : FVec Ideal ⟨2, ![4096, 13312]⟩ .bf16) (d : FVec Ideal ⟨2, ![1024, 13312]⟩ .f32)
    refine funext fun j => ?_
    idx_vars j
    pointwise [Padd, Ptn, tn]
    exact congrArg (fun p : EReal => p + _) (Finset.sum_congr rfl fun x _ => mul_comm _ _)

end Cert.GInKeepRefIdeal.Hand

namespace Cert.GInKeepIdeal.Hand

open Cert.ProdMath Idealize.ShloMosaic Idealize.ShloMosaic.TcCoe Idealize.SL.Sem

/-- Kernel and reference, run from memories that agree on the arguments, end with equal results. -/
theorem algebraic : Cert.algebraic_GInKeepIdeal_GInKeepRefIdeal := by
  intro m g m' g' _ hag
  refine ⟨fun c => Padd (Ptn 0 0 (by decide) (by decide) (m ((c : Thread GInKeepIdeal.nD GInKeepIdeal.τ).loc GInKeepIdeal.main_arg0)) (m ((c : Thread GInKeepIdeal.nD GInKeepIdeal.τ).loc GInKeepIdeal.main_arg1)) : FVec Ideal ⟨2, ![1024, 13312]⟩ .f32) (m ((c : Thread GInKeepIdeal.nD GInKeepIdeal.τ).loc GInKeepIdeal.main_arg2)), ?_, ?_⟩
  · refine (θ_run _ _ _).mono (fun r h c => ?_) (Gen.run_main m g (ok m))
    exact ⟨((h c).1 3).trans (final3 m (ok m) c), ((h c).1 0).trans (((Gen.dats m (ok m) 0 c).arrAt_in 0 rfl _).trans ((Gen.A_eq m (ok m) c 0).trans (Gen.V_main_arg0 m c))), ((h c).1 1).trans (((Gen.dats m (ok m) 0 c).arrAt_in 1 rfl _).trans ((Gen.A_eq m (ok m) c 1).trans (Gen.V_main_arg1 m c))), ((h c).1 2).trans (((Gen.dats m (ok m) 0 c).arrAt_in 2 rfl _).trans ((Gen.A_eq m (ok m) c 2).trans (Gen.V_main_arg2 m c)))⟩
  · refine (θ_run _ _ _).mono (fun r h c => ?_) (GInKeepRefIdeal.Hand.run_math m' g')
    obtain ⟨e0, e1, e2⟩ := hag c
    obtain ⟨h0, ha⟩ := h c
    refine ⟨?_, ha⟩
    · beta_reduce; rw [← e0, ← e1, ← e2]; exact h0

/-- The reference runs and leaves its arguments and every counter as they were. -/
theorem ref_frame : Cert.quiescent_GInKeepRefIdeal := by
  intro m g _
  exact (θ_run _ _ _).mono (fun r h => ⟨fun c => (h c).2, sem_eq_zero_of_no_sems (by decide) r.2⟩) (GInKeepRefIdeal.Hand.run_math m g)

end Cert.GInKeepIdeal.Hand

end
-- ==== Proof.SmallPack.lean ====
/- The eight small weights laid one after the other in one array, and taken out of it again; one step of the optimiser, an array at a time. -/
module

public import proofs.«01_k».proof.Proof.Gen.SmallIdeal.Frame
public import Idealize.ShloMosaic.Lib.Tactic.CleanTypes
public import Idealize.ShloMosaic.Lib.Claim
public import Idealize.ShloMosaic.Lib.StableHlo.RunRead
public import Idealize.ShloMosaic.Lib.Pipeline.ValueKit
public import Idealize.ShloMosaic.Lib.Pointwise

@[expose] public section

set_option maxRecDepth 16384

noncomputable section

namespace Cert.SmallMath

open Idealize.ShloMosaic

variable {S : Shape}

/-- The first moment after a step. -/
def newM (g mu : FVec Ideal S .f32) : FVec Ideal S .f32 :=
  addf (mulf (broadcast S (Scalar.ofBits (F := Ideal) .f32 0x3F666666#32)) mu) (mulf (broadcast S (Scalar.ofBits (F := Ideal) .f32 0x3DCCCCCD#32)) g)

/-- The second moment after a step. -/
def newV (g nu : FVec Ideal S .f32) : FVec Ideal S .f32 :=
  addf (mulf (broadcast S (Scalar.ofBits (F := Ideal) .f32 0x3F7FBE77#32)) nu) (mulf (broadcast S (Scalar.ofBits (F := Ideal) .f32 0x3A83126F#32)) (mulf g g))

/-- What a step adds to the weights. -/
def delta (w g mu nu : FVec Ideal S .f32) : FVec Ideal S .f32 :=
  mulf (broadcast S (Scalar.ofBits (F := Ideal) .f32 0xBA83126F#32))
    (addf (divf (divf (newM g mu) (broadcast S (Scalar.ofBits (F := Ideal) .f32 0x3F26BD02#32)))
        (addf (sqrt (divf (newV g nu) (broadcast S (Scalar.ofBits (F := Ideal) .f32 0x3C231ACC#32)))) (broadcast S (Scalar.ofBits (F := Ideal) .f32 0x322BCC77#32))))
      (mulf (broadcast S (Scalar.ofBits (F := Ideal) .f32 0x3C23D70A#32)) w))

/-- Two places of a two-dimensional array are the same when their coordinates are. -/
theorem ix2_ext {n0 n1 : ℕ} {i i' : Fin n0} {j j' : Fin n1} (h : i.val = i'.val) (h' : j.val = j'.val) : ix2 i j = ix2 i' j' := by
  rw [Fin.ext h, Fin.ext h']

/-- Two places of a three-dimensional array are the same when their coordinates are. -/
theorem ix3_ext {n0 n1 n2 : ℕ} {i i' : Fin n0} {j j' : Fin n1} {k k' : Fin n2} (h : i.val = i'.val) (h' : j.val = j'.val) (h'' : k.val = k'.val) : ix3 i j k = ix3 i' j' k' := by
  rw [Fin.ext h, Fin.ext h', Fin.ext h'']

/-- Equal arrays give equal steps. -/
theorem delta_congr {w w' g g' mu mu' nu nu' : FVec Ideal S .f32} (hw : w = w') (hg : g = g') (hm : mu = mu') (hn : nu = nu') : delta w g mu nu = delta w' g' mu' nu' := by
  rw [hw, hg, hm, hn]

/-- Equal arrays give equal first moments. -/
theorem newM_congr {g g' mu mu' : FVec Ideal S .f32} (hg : g = g') (hm : mu = mu') : newM g mu = newM g' mu' := by
  rw [hg, hm]

/-- Equal arrays give equal second moments. -/
theorem newV_congr {g g' nu nu' : FVec Ideal S .f32} (hg : g = g') (hn : nu = nu') : newV g nu = newV g' nu' := by
  rw [hg, hn]

end Cert.SmallMath

namespace Cert.SmallIdeal.Hand

open Cert.SmallIdeal Cert.SmallIdeal.Gen Cert.SmallMath Idealize.ShloMosaic Idealize.ShloMosaic.TcCoe Idealize.SL.Sem

/-- Eight arrays, flattened and laid one after the other. -/
def line (a : FVec Ideal S4x2048 .f32) (b : FVec Ideal S4x4096 .f32) (k : FVec Ideal S4x3x512 .f32) (q r : FVec Ideal S4x128 .f32) (d e f : FVec Ideal S4x2048 .f32) : FVec Ideal S56320 .f32 :=
  concatenate S56320 0 [⟨S8192, shapeCast S8192 a shapeCasts_S4x2048_S8192⟩, ⟨S16384, shapeCast S16384 b shapeCasts_S4x4096_S16384⟩, ⟨S6144, shapeCast S6144 k shapeCasts_S4x3x512_S6144⟩, ⟨S512, shapeCast S512 q shapeCasts_S4x128_S512⟩, ⟨S512, shapeCast S512 r shapeCasts_S4x128_S512⟩, ⟨S8192, shapeCast S8192 d shapeCasts_S4x2048_S8192⟩, ⟨S8192, shapeCast S8192 e shapeCasts_S4x2048_S8192⟩, ⟨S8192, shapeCast S8192 f shapeCasts_S4x2048_S8192⟩] concatenates_S8192_S16384_S6144_S512_S512_S8192_S8192_S8192_S56320_d0

/-- The line, cut into rows of 128 lanes. -/
def pack (a : FVec Ideal S4x2048 .f32) (b : FVec Ideal S4x4096 .f32) (k : FVec Ideal S4x3x512 .f32) (q r : FVec Ideal S4x128 .f32) (d e f : FVec Ideal S4x2048 .f32) : FVec Ideal S440x128 .f32 :=
  shapeCast S440x128 (line a b k q r d e f) shapeCasts_S56320_S440x128

/-- The first array, taken out of the packed one. -/
def un0 (p : FVec Ideal S440x128 .f32) : FVec Ideal S4x2048 .f32 :=
  shapeCast S4x2048 (extractStridedSlice S8192 ![0] (shapeCast S56320 p shapeCasts_S440x128_S56320) slices_S56320_S8192_0) shapeCasts_S8192_S4x2048

/-- The second array, taken out of the packed one. -/
def un1 (p : FVec Ideal S440x128 .f32) : FVec Ideal S4x4096 .f32 :=
  shapeCast S4x4096 (extractStridedSlice S16384 ![8192] (shapeCast S56320 p shapeCasts_S440x128_S56320) slices_S56320_S16384_8192) shapeCasts_S16384_S4x4096

/-- The third array, taken out of the packed one. -/
def un2 (p : FVec Ideal S440x128 .f32) : FVec Ideal S4x3x512 .f32 :=
  shapeCast S4x3x512 (extractStridedSlice S6144 ![24576] (shapeCast S56320 p shapeCasts_S440x128_S56320) slices_S56320_S6144_24576) shapeCasts_S6144_S4x3x512

/-- The fourth array, taken out of the packed one. -/
def un3 (p : FVec Ideal S440x128 .f32) : FVec Ideal S4x128 .f32 :=
  shapeCast S4x128 (extractStridedSlice S512 ![30720] (shapeCast S56320 p shapeCasts_S440x128_S56320) slices_S56320_S512_30720) shapeCasts_S512_S4x128

/-- The fifth array, taken out of the packed one. -/
def un4 (p : FVec Ideal S440x128 .f32) : FVec Ideal S4x128 .f32 :=
  shapeCast S4x128 (extractStridedSlice S512 ![31232] (shapeCast S56320 p shapeCasts_S440x128_S56320) slices_S56320_S512_31232) shapeCasts_S512_S4x128

/-- The sixth array, taken out of the packed one. -/
def un5 (p : FVec Ideal S440x128 .f32) : FVec Ideal S4x2048 .f32 :=
  shapeCast S4x2048 (extractStridedSlice S8192 ![31744] (shapeCast S56320 p shapeCasts_S440x128_S56320) slices_S56320_S8192_31744) shapeCasts_S8192_S4x2048

/-- The seventh array, taken out of the packed one. -/
def un6 (p : FVec Ideal S440x128 .f32) : FVec Ideal S4x2048 .f32 :=
  shapeCast S4x2048 (extractStridedSlice S8192 ![39936] (shapeCast S56320 p shapeCasts_S440x128_S56320) slices_S56320_S8192_39936) shapeCasts_S8192_S4x2048

/-- The eighth array, taken out of the packed one. -/
def un7 (p : FVec Ideal S440x128 .f32) : FVec Ideal S4x2048 .f32 :=
  shapeCast S4x2048 (extractStridedSlice S8192 ![48128] (shapeCast S56320 p shapeCasts_S440x128_S56320) slices_S56320_S8192_48128) shapeCasts_S8192_S4x2048

section Unpack
variable (a : FVec Ideal S4x2048 .f32) (b : FVec Ideal S4x4096 .f32) (k : FVec Ideal S4x3x512 .f32) (q r : FVec Ideal S4x128 .f32) (d e f : FVec Ideal S4x2048 .f32)

/-- The first array comes out of the packed one as it went in. -/
theorem un0_pack : un0 (pack a b k q r d e f) = a := by
  funext j; idx_vars j; pointwise [un0, pack, line]
  repeat first | rw [dif_pos (by omega)] | rw [dif_neg (by omega)]

/-- The second array comes out of the packed one as it went in. -/
theorem un1_pack : un1 (pack a b k q r d e f) = b := by
  funext j; idx_vars j; pointwise [un1, pack, line]
  repeat first | rw [dif_pos (by omega)] | rw [dif_neg (by omega)]

/-- The third array comes out of the packed one as it went in. -/
theorem un2_pack : un2 (pack a b k q r d e f) = k := by
  funext j; idx_vars j; pointwise [un2, pack, line]
  repeat first | rw [dif_pos (by omega)] | rw [dif_neg (by omega)]
  exact congrArg k (ix3_ext (by dsimp only; omega) (by dsimp only; omega) (by dsimp only; omega))

/-- The fourth array comes out of the packed one as it went in. -/
theorem un3_pack : un3 (pack a b k q r d e f) = q := by
  funext j; idx_vars j; pointwise [un3, pack, line]
  repeat first | rw [dif_pos (by omega)] | rw [dif_neg (by omega)]
  exact congrArg q (ix2_ext (by dsimp only; omega) (by dsimp only; omega))

/-- The fifth array comes out of the packed one as it went in. -/
theorem un4_pack : un4 (pack a b k q r d e f) = r := by
  funext j; idx_vars j; pointwise [un4, pack, line]
  repeat first | rw [dif_pos (by omega)] | rw [dif_neg (by omega)]
  exact congrArg r (ix2_ext (by dsimp only; omega) (by dsimp only; omega))

/-- The sixth array comes out of the packed one as it went in. -/
theorem un5_pack : un5 (pack a b k q r d e f) = d := by
  funext j; idx_vars j; pointwise [un5, pack, line]
  repeat first | rw [dif_pos (by omega)] | rw [dif_neg (by omega)]
  exact congrArg d (ix2_ext (by dsimp only; omega) (by dsimp only; omega))

/-- The seventh array comes out of the packed one as it went in. -/
theorem un6_pack : un6 (pack a b k q r d e f) = e := by
  funext j; idx_vars j; pointwise [un6, pack, line]
  repeat first | rw [dif_pos (by omega)] | rw [dif_neg (by omega)]
  exact congrArg e (ix2_ext (by dsimp only; omega) (by dsimp only; omega))

/-- The eighth array comes out of the packed one as it went in. -/
theorem un7_pack : un7 (pack a b k q r d e f) = f := by
  funext j; idx_vars j; pointwise [un7, pack, line]
  repeat first | rw [dif_pos (by omega)] | rw [dif_neg (by omega)]
  exact congrArg f (ix2_ext (by dsimp only; omega) (by dsimp only; omega))

end Unpack

/-- Padding a line by nothing changes nothing. -/
theorem pad_zero (x : FVec Ideal S56320 .f32) (z : FVec Ideal S_ .f32) : pad S56320 ![0] ![0] ![0] x z pads_S56320_S56320_000 h_S_ = x := by
  funext i
  pointwise

/-- The padded line in rows is the line in rows. -/
theorem pad_rows (x : FVec Ideal S56320 .f32) (z : FVec Ideal S_ .f32) :
    (shapeCast S440x128 (pad S56320 ![0] ![0] ![0] x z pads_S56320_S56320_000 h_S_) shapeCasts_S56320_S440x128 : FVec Ideal S440x128 .f32) = shapeCast S440x128 x shapeCasts_S56320_S440x128 :=
  congrArg (fun x : FVec Ideal S56320 .f32 => (shapeCast S440x128 x shapeCasts_S56320_S440x128 : FVec Ideal S440x128 .f32)) (pad_zero x z)

section Reads
variable (m : (ℓ : Loc nD τ sig) → Buf (Elt Ideal) ℓ) (c : Dev nD)

/-- The weights, packed. -/
def pack_w : FVec Ideal S440x128 .f32 := pack (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-- The gradients, packed. -/
def pack_g : FVec Ideal S440x128 .f32 := pack (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))

/-- The first moments, packed. -/
def pack_mu : FVec Ideal S440x128 .f32 := pack (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23))

/-- The second moments, packed. -/
def pack_nu : FVec Ideal S440x128 .f32 := pack (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31))

/-- The kernel finds the weights packed. -/
theorem read_w : V m c main_v10 = pack_w m c := by
  show StableHlo.after (hostOps0 ++ (hostOps0_1 ++ (hostOps0_2 ++ (hostOps0_3 ++ (hostOps0_4 ++ (hostOps0_5 ++ (hostOps0_6 ++ (hostOps0_7 ++ (hostOps0_8 ++ []))))))))) _ _ = _
  after_reads_simp
  exact pad_rows _ _

/-- The kernel finds the gradients packed. -/
theorem read_g : V m c main_v21 = pack_g m c := by
  show StableHlo.after (hostOps0 ++ (hostOps0_1 ++ (hostOps0_2 ++ (hostOps0_3 ++ (hostOps0_4 ++ (hostOps0_5 ++ (hostOps0_6 ++ (hostOps0_7 ++ (hostOps0_8 ++ []))))))))) _ _ = _
  after_reads_simp
  exact pad_rows _ _

set_option maxHeartbeats 4000000 in
/-- The kernel finds the first moments packed. -/
theorem read_mu : V m c main_v32 = pack_mu m c := by
  show StableHlo.after (hostOps0 ++ (hostOps0_1 ++ (hostOps0_2 ++ (hostOps0_3 ++ (hostOps0_4 ++ (hostOps0_5 ++ (hostOps0_6 ++ (hostOps0_7 ++ (hostOps0_8 ++ []))))))))) _ _ = _
  after_reads_simp
  exact pad_rows _ _

set_option maxHeartbeats 4000000 in
/-- The kernel finds the second moments packed. -/
theorem read_nu : V m c main_v43 = pack_nu m c := by
  show StableHlo.after (hostOps0 ++ (hostOps0_1 ++ (hostOps0_2 ++ (hostOps0_3 ++ (hostOps0_4 ++ (hostOps0_5 ++ (hostOps0_6 ++ (hostOps0_7 ++ (hostOps0_8 ++ []))))))))) _ _ = _
  after_reads_simp
  exact pad_rows _ _

end Reads

end Cert.SmallIdeal.Hand

end
-- ==== Proof.SmallKernel.lean ====
/- The optimiser's kernel on the packed arrays, and its results taken apart again. -/
module

public import proofs.«01_k».proof.Proof.SmallPack
public import Idealize.ShloMosaic.Lib.Tactic.CleanTypes
public import Idealize.ShloMosaic.Lib.Claim
public import Idealize.ShloMosaic.Lib.StableHlo.RunRead
public import Idealize.ShloMosaic.Lib.Pipeline.ValueKit
public import Idealize.ShloMosaic.Lib.Pointwise

@[expose] public section

set_option maxRecDepth 16384

noncomputable section

namespace Cert.SmallIdeal.Hand

open Cert.SmallIdeal Cert.SmallIdeal.Gen Cert.SmallMath Idealize.ShloMosaic Idealize.ShloMosaic.TcCoe Idealize.SL.Sem

variable (m : (ℓ : Loc nD τ sig) → Buf (Elt Ideal) ℓ)

/-- Each window holds its whole array. -/
theorem idx_val : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] :=
  (by decide +kernel : ∀ t : Fin grid0.N, _)

/-- What the kernel stores as the step is the step. -/
theorem pay4 (w g mu nu : FVec Ideal S440x128 .f32) : k0_pay4 (F := Ideal) w g mu nu = delta w g mu nu := by
  funext i; idx_vars i; pointwise [k0_pay4, k0_pay3, k0_pay2, k0_pay1, delta, newM, newV]

/-- What the kernel stores as the first moment is the first moment. -/
theorem pay2 (g mu : FVec Ideal S440x128 .f32) : k0_pay2 (F := Ideal) g mu = newM g mu := by
  funext i; idx_vars i; pointwise [k0_pay2, k0_pay1, newM]

/-- What the kernel stores as the second moment is the second moment. -/
theorem pay3 (g nu : FVec Ideal S440x128 .f32) : k0_pay3 (F := Ideal) g nu = newV g nu := by
  funext i; idx_vars i; pointwise [k0_pay3, k0_pay1, newV]

section Blocks
variable (c : Dev nD) (t : Fin cfg0.N)

/-- Block 0 is the whole of its array. -/
theorem blk0 : iblk m c 0 t = pack_w m c := by
  rw [← read_w m c]
  funext (y : S440x128.Idx)
  idx_vars y
  blk_point [iblk, idx_val t]

/-- Block 1 is the whole of its array. -/
theorem blk1 : iblk m c 1 t = pack_g m c := by
  rw [← read_g m c]
  funext (y : S440x128.Idx)
  idx_vars y
  blk_point [iblk, idx_val t]

/-- Block 2 is the whole of its array. -/
theorem blk2 : iblk m c 2 t = pack_mu m c := by
  rw [← read_mu m c]
  funext (y : S440x128.Idx)
  idx_vars y
  blk_point [iblk, idx_val t]

/-- Block 3 is the whole of its array. -/
theorem blk3 : iblk m c 3 t = pack_nu m c := by
  rw [← read_nu m c]
  funext (y : S440x128.Idx)
  idx_vars y
  blk_point [iblk, idx_val t]

end Blocks

/-- The array of window 4 after the last grid point. -/
theorem final4 (c : Dev nD) : (dats m 0 c).arrAt 4 (cfgs 0).N = delta (pack_w m c) (pack_g m c) (pack_mu m c) (pack_nu m c) := by
  refine (dats m 0 c).arrAt_eq_of_covers 4 _ (by decide +kernel) fun t hf y => ?_
  blk_simp
  rw [after0_4, blk0, blk1, blk2, blk3]
  frame_out
  rw [pay4]
  refine congrArg (delta (pack_w m c) (pack_g m c) (pack_mu m c) (pack_nu m c)) ?_
  blk_ext [idx_val t]

/-- The array of window 5 after the last grid point. -/
theorem final5 (c : Dev nD) : (dats m 0 c).arrAt 5 (cfgs 0).N = newM (pack_g m c) (pack_mu m c) := by
  refine (dats m 0 c).arrAt_eq_of_covers 5 _ (by decide +kernel) fun t hf y => ?_
  blk_simp
  rw [after0_5, blk0, blk1, blk2, blk3]
  frame_out
  rw [pay2]
  refine congrArg (newM (pack_g m c) (pack_mu m c)) ?_
  blk_ext [idx_val t]

/-- The array of window 6 after the last grid point. -/
theorem final6 (c : Dev nD) : (dats m 0 c).arrAt 6 (cfgs 0).N = newV (pack_g m c) (pack_nu m c) := by
  refine (dats m 0 c).arrAt_eq_of_covers 6 _ (by decide +kernel) fun t hf y => ?_
  blk_simp
  rw [after0_6, blk0, blk1, blk2, blk3]
  frame_out
  rw [pay3]
  refine congrArg (newV (pack_g m c) (pack_nu m c)) ?_
  blk_ext [idx_val t]

end Cert.SmallIdeal.Hand

end
-- ==== Proof.SmallTail.lean ====
/- What the lines after the kernel read out of its three packed results. -/
module

public import proofs.«01_k».proof.Proof.SmallPack
public import Idealize.ShloMosaic.Lib.Tactic.CleanTypes
public import Idealize.ShloMosaic.Lib.Claim
public import Idealize.ShloMosaic.Lib.StableHlo.RunRead
public import Idealize.ShloMosaic.Lib.Pipeline.ValueKit
public import Idealize.ShloMosaic.Lib.Pointwise

@[expose] public section

set_option maxRecDepth 16384

noncomputable section

namespace Cert.SmallIdeal.Hand

open Cert.SmallIdeal Cert.SmallIdeal.Gen Cert.SmallMath Idealize.ShloMosaic Idealize.ShloMosaic.TcCoe Idealize.SL.Sem

section Tail
variable (W : Valuation τ sig (Elt Ideal))

/-- Result 0 is the first array of packed result 0. -/
theorem tail47 : StableHlo.after hostOps1 W (Proc.devRef .tc main_v47) = un0 (W (Proc.devRef .tc main_v44_0)) := by
  after_reads_simp
  rfl

/-- Result 1 is the second array of packed result 0. -/
theorem tail49 : StableHlo.after hostOps1 W (Proc.devRef .tc main_v49) = un1 (W (Proc.devRef .tc main_v44_0)) := by
  after_reads_simp
  rfl

/-- Result 2 is the third array of packed result 0. -/
theorem tail51 : StableHlo.after hostOps1 W (Proc.devRef .tc main_v51) = un2 (W (Proc.devRef .tc main_v44_0)) := by
  after_reads_simp
  rfl

/-- Result 3 is the fourth array of packed result 0. -/
theorem tail53 : StableHlo.after hostOps1 W (Proc.devRef .tc main_v53) = un3 (W (Proc.devRef .tc main_v44_0)) := by
  after_reads_simp
  rfl

/-- Result 4 is the fifth array of packed result 0. -/
theorem tail55 : StableHlo.after hostOps1 W (Proc.devRef .tc main_v55) = un4 (W (Proc.devRef .tc main_v44_0)) := by
  after_reads_simp
  rfl

/-- Result 5 is the sixth array of packed result 0. -/
theorem tail57 : StableHlo.after hostOps1 W (Proc.devRef .tc main_v57) = un5 (W (Proc.devRef .tc main_v44_0)) := by
  after_reads_simp
  rfl

/-- Result 6 is the seventh array of packed result 0. -/
theorem tail59 : StableHlo.after hostOps1 W (Proc.devRef .tc main_v59) = un6 (W (Proc.devRef .tc main_v44_0)) := by
  after_reads_simp
  rfl

/-- Result 7 is the eighth array of packed result 0. -/
theorem tail61 : StableHlo.after hostOps1 W (Proc.devRef .tc main_v61) = un7 (W (Proc.devRef .tc main_v44_0)) := by
  after_reads_simp
  rfl

/-- Result 8 is the first array of packed result 1. -/
theorem tail64 : StableHlo.after hostOps1 W (Proc.devRef .tc main_v64) = un0 (W (Proc.devRef .tc main_v44_1)) := by
  after_reads_simp
  rfl

/-- Result 9 is the second array of packed result 1. -/
theorem tail66 : StableHlo.after hostOps1 W (Proc.devRef .tc main_v66) = un1 (W (Proc.devRef .tc main_v44_1)) := by
  after_reads_simp
  rfl

/-- Result 10 is the third array of packed result 1. -/
theorem tail68 : StableHlo.after hostOps1 W (Proc.devRef .tc main_v68) = un2 (W (Proc.devRef .tc main_v44_1)) := by
  after_reads_simp
  rfl

/-- Result 11 is the fourth array of packed result 1. -/
theorem tail70 : StableHlo.after hostOps1 W (Proc.devRef .tc main_v70) = un3 (W (Proc.devRef .tc main_v44_1)) := by
  after_reads_simp
  rfl

/-- Result 12 is the fifth array of packed result 1. -/
theorem tail72 : StableHlo.after hostOps1 W (Proc.devRef .tc main_v72) = un4 (W (Proc.devRef .tc main_v44_1)) := by
  after_reads_simp
  rfl

/-- Result 13 is the sixth array of packed result 1. -/
theorem tail74 : StableHlo.after hostOps1 W (Proc.devRef .tc main_v74) = un5 (W (Proc.devRef .tc main_v44_1)) := by
  after_reads_simp
  rfl

/-- Result 14 is the seventh array of packed result 1. -/
theorem tail76 : StableHlo.after hostOps1 W (Proc.devRef .tc main_v76) = un6 (W (Proc.devRef .tc main_v44_1)) := by
  after_reads_simp
  rfl

/-- Result 15 is the eighth array of packed result 1. -/
theorem tail78 : StableHlo.after hostOps1 W (Proc.devRef .tc main_v78) = un7 (W (Proc.devRef .tc main_v44_1)) := by
  after_reads_simp
  rfl

/-- Result 16 is the first array of packed result 2. -/
theorem tail81 : StableHlo.after hostOps1 W (Proc.devRef .tc main_v81) = un0 (W (Proc.devRef .tc main_v44_2)) := by
  after_reads_simp
  rfl

/-- Result 17 is the second array of packed result 2. -/
theorem tail83 : StableHlo.after hostOps1 W (Proc.devRef .tc main_v83) = un1 (W (Proc.devRef .tc main_v44_2)) := by
  after_reads_simp
  rfl

/-- Result 18 is the third array of packed result 2. -/
theorem tail85 : StableHlo.after hostOps1 W (Proc.devRef .tc main_v85) = un2 (W (Proc.devRef .tc main_v44_2)) := by
  after_reads_simp
  rfl

/-- Result 19 is the fourth array of packed result 2. -/
theorem tail87 : StableHlo.after hostOps1 W (Proc.devRef .tc main_v87) = un3 (W (Proc.devRef .tc main_v44_2)) := by
  after_reads_simp
  rfl

/-- Result 20 is the fifth array of packed result 2. -/
theorem tail89 : StableHlo.after hostOps1 W (Proc.devRef .tc main_v89) = un4 (W (Proc.devRef .tc main_v44_2)) := by
  after_reads_simp
  rfl

/-- Result 21 is the sixth array of packed result 2. -/
theorem tail91 : StableHlo.after hostOps1 W (Proc.devRef .tc main_v91) = un5 (W (Proc.devRef .tc main_v44_2)) := by
  after_reads_simp
  rfl

/-- Result 22 is the seventh array of packed result 2. -/
theorem tail93 : StableHlo.after hostOps1 W (Proc.devRef .tc main_v93) = un6 (W (Proc.devRef .tc main_v44_2)) := by
  after_reads_simp
  rfl

/-- Result 23 is the eighth array of packed result 2. -/
theorem tail95 : StableHlo.after hostOps1 W (Proc.devRef .tc main_v95) = un7 (W (Proc.devRef .tc main_v44_2)) := by
  after_reads_simp
  rfl

end Tail

end Cert.SmallIdeal.Hand

end
-- ==== Proof.SmallRun.lean ====
/- What the optimiser's kernel ends with, as functions of its arguments. -/
module

public import proofs.«01_k».proof.Proof.SmallKernel
public import proofs.«01_k».proof.Proof.SmallTail
public import Idealize.ShloMosaic.Lib.Tactic.CleanTypes
public import Idealize.ShloMosaic.Lib.Claim
public import Idealize.ShloMosaic.Lib.StableHlo.RunRead
public import Idealize.ShloMosaic.Lib.Pipeline.ValueKit
public import Idealize.ShloMosaic.Lib.Pointwise

@[expose] public section

set_option maxRecDepth 16384

noncomputable section

namespace Cert.SmallIdeal.Hand

open Cert.SmallIdeal Cert.SmallIdeal.Gen Cert.SmallMath Idealize.ShloMosaic Idealize.ShloMosaic.TcCoe Idealize.SL.Sem

variable (m : (ℓ : Loc nD τ sig) → Buf (Elt Ideal) ℓ) (c : Dev nD)

/-- The step of the packed arrays, at the first: the step of the first arrays. -/
theorem at0_0 : un0 (delta (pack_w m c) (pack_g m c) (pack_mu m c) (pack_nu m c)) = delta (m ((c : Thread nD τ).loc main_arg0)) (m ((c : Thread nD τ).loc main_arg8)) (m ((c : Thread nD τ).loc main_arg16)) (m ((c : Thread nD τ).loc main_arg24)) := by
  show delta (un0 (pack_w m c)) (un0 (pack_g m c)) (un0 (pack_mu m c)) (un0 (pack_nu m c)) = _
  exact delta_congr (un0_pack _ _ _ _ _ _ _ _) (un0_pack _ _ _ _ _ _ _ _) (un0_pack _ _ _ _ _ _ _ _) (un0_pack _ _ _ _ _ _ _ _)

/-- The step of the packed arrays, at the second: the step of the second arrays. -/
theorem at0_1 : un1 (delta (pack_w m c) (pack_g m c) (pack_mu m c) (pack_nu m c)) = delta (m ((c : Thread nD τ).loc main_arg1)) (m ((c : Thread nD τ).loc main_arg9)) (m ((c : Thread nD τ).loc main_arg17)) (m ((c : Thread nD τ).loc main_arg25)) := by
  show delta (un1 (pack_w m c)) (un1 (pack_g m c)) (un1 (pack_mu m c)) (un1 (pack_nu m c)) = _
  exact delta_congr (un1_pack _ _ _ _ _ _ _ _) (un1_pack _ _ _ _ _ _ _ _) (un1_pack _ _ _ _ _ _ _ _) (un1_pack _ _ _ _ _ _ _ _)

/-- The step of the packed arrays, at the third: the step of the third arrays. -/
theorem at0_2 : un2 (delta (pack_w m c) (pack_g m c) (pack_mu m c) (pack_nu m c)) = delta (m ((c : Thread nD τ).loc main_arg2)) (m ((c : Thread nD τ).loc main_arg10)) (m ((c : Thread nD τ).loc main_arg18)) (m ((c : Thread nD τ).loc main_arg26)) := by
  show delta (un2 (pack_w m c)) (un2 (pack_g m c)) (un2 (pack_mu m c)) (un2 (pack_nu m c)) = _
  exact delta_congr (un2_pack _ _ _ _ _ _ _ _) (un2_pack _ _ _ _ _ _ _ _) (un2_pack _ _ _ _ _ _ _ _) (un2_pack _ _ _ _ _ _ _ _)

/-- The step of the packed arrays, at the fourth: the step of the fourth arrays. -/
theorem at0_3 : un3 (delta (pack_w m c) (pack_g m c) (pack_mu m c) (pack_nu m c)) = delta (m ((c : Thread nD τ).loc main_arg3)) (m ((c : Thread nD τ).loc main_arg11)) (m ((c : Thread nD τ).loc main_arg19)) (m ((c : Thread nD τ).loc main_arg27)) := by
  show delta (un3 (pack_w m c)) (un3 (pack_g m c)) (un3 (pack_mu m c)) (un3 (pack_nu m c)) = _
  exact delta_congr (un3_pack _ _ _ _ _ _ _ _) (un3_pack _ _ _ _ _ _ _ _) (un3_pack _ _ _ _ _ _ _ _) (un3_pack _ _ _ _ _ _ _ _)

/-- The step of the packed arrays, at the fifth: the step of the fifth arrays. -/
theorem at0_4 : un4 (delta (pack_w m c) (pack_g m c) (pack_mu m c) (pack_nu m c)) = delta (m ((c : Thread nD τ).loc main_arg4)) (m ((c : Thread nD τ).loc main_arg12)) (m ((c : Thread nD τ).loc main_arg20)) (m ((c : Thread nD τ).loc main_arg28)) := by
  show delta (un4 (pack_w m c)) (un4 (pack_g m c)) (un4 (pack_mu m c)) (un4 (pack_nu m c)) = _
  exact delta_congr (un4_pack _ _ _ _ _ _ _ _) (un4_pack _ _ _ _ _ _ _ _) (un4_pack _ _ _ _ _ _ _ _) (un4_pack _ _ _ _ _ _ _ _)

/-- The step of the packed arrays, at the sixth: the step of the sixth arrays. -/
theorem at0_5 : un5 (delta (pack_w m c) (pack_g m c) (pack_mu m c) (pack_nu m c)) = delta (m ((c : Thread nD τ).loc main_arg5)) (m ((c : Thread nD τ).loc main_arg13)) (m ((c : Thread nD τ).loc main_arg21)) (m ((c : Thread nD τ).loc main_arg29)) := by
  show delta (un5 (pack_w m c)) (un5 (pack_g m c)) (un5 (pack_mu m c)) (un5 (pack_nu m c)) = _
  exact delta_congr (un5_pack _ _ _ _ _ _ _ _) (un5_pack _ _ _ _ _ _ _ _) (un5_pack _ _ _ _ _ _ _ _) (un5_pack _ _ _ _ _ _ _ _)

/-- The step of the packed arrays, at the seventh: the step of the seventh arrays. -/
theorem at0_6 : un6 (delta (pack_w m c) (pack_g m c) (pack_mu m c) (pack_nu m c)) = delta (m ((c : Thread nD τ).loc main_arg6)) (m ((c : Thread nD τ).loc main_arg14)) (m ((c : Thread nD τ).loc main_arg22)) (m ((c : Thread nD τ).loc main_arg30)) := by
  show delta (un6 (pack_w m c)) (un6 (pack_g m c)) (un6 (pack_mu m c)) (un6 (pack_nu m c)) = _
  exact delta_congr (un6_pack _ _ _ _ _ _ _ _) (un6_pack _ _ _ _ _ _ _ _) (un6_pack _ _ _ _ _ _ _ _) (un6_pack _ _ _ _ _ _ _ _)

/-- The step of the packed arrays, at the eighth: the step of the eighth arrays. -/
theorem at0_7 : un7 (delta (pack_w m c) (pack_g m c) (pack_mu m c) (pack_nu m c)) = delta (m ((c : Thread nD τ).loc main_arg7)) (m ((c : Thread nD τ).loc main_arg15)) (m ((c : Thread nD τ).loc main_arg23)) (m ((c : Thread nD τ).loc main_arg31)) := by
  show delta (un7 (pack_w m c)) (un7 (pack_g m c)) (un7 (pack_mu m c)) (un7 (pack_nu m c)) = _
  exact delta_congr (un7_pack _ _ _ _ _ _ _ _) (un7_pack _ _ _ _ _ _ _ _) (un7_pack _ _ _ _ _ _ _ _) (un7_pack _ _ _ _ _ _ _ _)

/-- The first moment of the packed arrays, at the first: the first moment of the first arrays. -/
theorem at1_0 : un0 (newM (pack_g m c) (pack_mu m c)) = newM (m ((c : Thread nD τ).loc main_arg8)) (m ((c : Thread nD τ).loc main_arg16)) := by
  show newM (un0 (pack_g m c)) (un0 (pack_mu m c)) = _
  exact newM_congr (un0_pack _ _ _ _ _ _ _ _) (un0_pack _ _ _ _ _ _ _ _)

/-- The first moment of the packed arrays, at the second: the first moment of the second arrays. -/
theorem at1_1 : un1 (newM (pack_g m c) (pack_mu m c)) = newM (m ((c : Thread nD τ).loc main_arg9)) (m ((c : Thread nD τ).loc main_arg17)) := by
  show newM (un1 (pack_g m c)) (un1 (pack_mu m c)) = _
  exact newM_congr (un1_pack _ _ _ _ _ _ _ _) (un1_pack _ _ _ _ _ _ _ _)

/-- The first moment of the packed arrays, at the third: the first moment of the third arrays. -/
theorem at1_2 : un2 (newM (pack_g m c) (pack_mu m c)) = newM (m ((c : Thread nD τ).loc main_arg10)) (m ((c : Thread nD τ).loc main_arg18)) := by
  show newM (un2 (pack_g m c)) (un2 (pack_mu m c)) = _
  exact newM_congr (un2_pack _ _ _ _ _ _ _ _) (un2_pack _ _ _ _ _ _ _ _)

/-- The first moment of the packed arrays, at the fourth: the first moment of the fourth arrays. -/
theorem at1_3 : un3 (newM (pack_g m c) (pack_mu m c)) = newM (m ((c : Thread nD τ).loc main_arg11)) (m ((c : Thread nD τ).loc main_arg19)) := by
  show newM (un3 (pack_g m c)) (un3 (pack_mu m c)) = _
  exact newM_congr (un3_pack _ _ _ _ _ _ _ _) (un3_pack _ _ _ _ _ _ _ _)

/-- The first moment of the packed arrays, at the fifth: the first moment of the fifth arrays. -/
theorem at1_4 : un4 (newM (pack_g m c) (pack_mu m c)) = newM (m ((c : Thread nD τ).loc main_arg12)) (m ((c : Thread nD τ).loc main_arg20)) := by
  show newM (un4 (pack_g m c)) (un4 (pack_mu m c)) = _
  exact newM_congr (un4_pack _ _ _ _ _ _ _ _) (un4_pack _ _ _ _ _ _ _ _)

/-- The first moment of the packed arrays, at the sixth: the first moment of the sixth arrays. -/
theorem at1_5 : un5 (newM (pack_g m c) (pack_mu m c)) = newM (m ((c : Thread nD τ).loc main_arg13)) (m ((c : Thread nD τ).loc main_arg21)) := by
  show newM (un5 (pack_g m c)) (un5 (pack_mu m c)) = _
  exact newM_congr (un5_pack _ _ _ _ _ _ _ _) (un5_pack _ _ _ _ _ _ _ _)

/-- The first moment of the packed arrays, at the seventh: the first moment of the seventh arrays. -/
theorem at1_6 : un6 (newM (pack_g m c) (pack_mu m c)) = newM (m ((c : Thread nD τ).loc main_arg14)) (m ((c : Thread nD τ).loc main_arg22)) := by
  show newM (un6 (pack_g m c)) (un6 (pack_mu m c)) = _
  exact newM_congr (un6_pack _ _ _ _ _ _ _ _) (un6_pack _ _ _ _ _ _ _ _)

/-- The first moment of the packed arrays, at the eighth: the first moment of the eighth arrays. -/
theorem at1_7 : un7 (newM (pack_g m c) (pack_mu m c)) = newM (m ((c : Thread nD τ).loc main_arg15)) (m ((c : Thread nD τ).loc main_arg23)) := by
  show newM (un7 (pack_g m c)) (un7 (pack_mu m c)) = _
  exact newM_congr (un7_pack _ _ _ _ _ _ _ _) (un7_pack _ _ _ _ _ _ _ _)

/-- The second moment of the packed arrays, at the first: the second moment of the first arrays. -/
theorem at2_0 : un0 (newV (pack_g m c) (pack_nu m c)) = newV (m ((c : Thread nD τ).loc main_arg8)) (m ((c : Thread nD τ).loc main_arg24)) := by
  show newV (un0 (pack_g m c)) (un0 (pack_nu m c)) = _
  exact newV_congr (un0_pack _ _ _ _ _ _ _ _) (un0_pack _ _ _ _ _ _ _ _)

/-- The second moment of the packed arrays, at the second: the second moment of the second arrays. -/
theorem at2_1 : un1 (newV (pack_g m c) (pack_nu m c)) = newV (m ((c : Thread nD τ).loc main_arg9)) (m ((c : Thread nD τ).loc main_arg25)) := by
  show newV (un1 (pack_g m c)) (un1 (pack_nu m c)) = _
  exact newV_congr (un1_pack _ _ _ _ _ _ _ _) (un1_pack _ _ _ _ _ _ _ _)

/-- The second moment of the packed arrays, at the third: the second moment of the third arrays. -/
theorem at2_2 : un2 (newV (pack_g m c) (pack_nu m c)) = newV (m ((c : Thread nD τ).loc main_arg10)) (m ((c : Thread nD τ).loc main_arg26)) := by
  show newV (un2 (pack_g m c)) (un2 (pack_nu m c)) = _
  exact newV_congr (un2_pack _ _ _ _ _ _ _ _) (un2_pack _ _ _ _ _ _ _ _)

/-- The second moment of the packed arrays, at the fourth: the second moment of the fourth arrays. -/
theorem at2_3 : un3 (newV (pack_g m c) (pack_nu m c)) = newV (m ((c : Thread nD τ).loc main_arg11)) (m ((c : Thread nD τ).loc main_arg27)) := by
  show newV (un3 (pack_g m c)) (un3 (pack_nu m c)) = _
  exact newV_congr (un3_pack _ _ _ _ _ _ _ _) (un3_pack _ _ _ _ _ _ _ _)

/-- The second moment of the packed arrays, at the fifth: the second moment of the fifth arrays. -/
theorem at2_4 : un4 (newV (pack_g m c) (pack_nu m c)) = newV (m ((c : Thread nD τ).loc main_arg12)) (m ((c : Thread nD τ).loc main_arg28)) := by
  show newV (un4 (pack_g m c)) (un4 (pack_nu m c)) = _
  exact newV_congr (un4_pack _ _ _ _ _ _ _ _) (un4_pack _ _ _ _ _ _ _ _)

/-- The second moment of the packed arrays, at the sixth: the second moment of the sixth arrays. -/
theorem at2_5 : un5 (newV (pack_g m c) (pack_nu m c)) = newV (m ((c : Thread nD τ).loc main_arg13)) (m ((c : Thread nD τ).loc main_arg29)) := by
  show newV (un5 (pack_g m c)) (un5 (pack_nu m c)) = _
  exact newV_congr (un5_pack _ _ _ _ _ _ _ _) (un5_pack _ _ _ _ _ _ _ _)

/-- The second moment of the packed arrays, at the seventh: the second moment of the seventh arrays. -/
theorem at2_6 : un6 (newV (pack_g m c) (pack_nu m c)) = newV (m ((c : Thread nD τ).loc main_arg14)) (m ((c : Thread nD τ).loc main_arg30)) := by
  show newV (un6 (pack_g m c)) (un6 (pack_nu m c)) = _
  exact newV_congr (un6_pack _ _ _ _ _ _ _ _) (un6_pack _ _ _ _ _ _ _ _)

/-- The second moment of the packed arrays, at the eighth: the second moment of the eighth arrays. -/
theorem at2_7 : un7 (newV (pack_g m c) (pack_nu m c)) = newV (m ((c : Thread nD τ).loc main_arg15)) (m ((c : Thread nD τ).loc main_arg31)) := by
  show newV (un7 (pack_g m c)) (un7 (pack_nu m c)) = _
  exact newV_congr (un7_pack _ _ _ _ _ _ _ _) (un7_pack _ _ _ _ _ _ _ _)

/-- What the kernel leaves, before the lines that take it apart. -/
def X : Valuation τ sig (Elt Ideal) := Pipeline.withArrays (cfgs 0).spec c (V0 m c) fun w => (dats m 0 c).arrAt w (cfgs 0).N

/-- Packed result 0 is the step of the packed arrays. -/
theorem X_0 : X m c (Proc.devRef .tc main_v44_0) = delta (pack_w m c) (pack_g m c) (pack_mu m c) (pack_nu m c) :=
  (Pipeline.withArrays_arr (cfgs 0).spec launch0.win.arr_inj c (V0 m c) (fun w => (dats m 0 c).arrAt w (cfgs 0).N) 4).trans (final4 m c)

/-- Packed result 1 is the first moment of the packed arrays. -/
theorem X_1 : X m c (Proc.devRef .tc main_v44_1) = newM (pack_g m c) (pack_mu m c) :=
  (Pipeline.withArrays_arr (cfgs 0).spec launch0.win.arr_inj c (V0 m c) (fun w => (dats m 0 c).arrAt w (cfgs 0).N) 5).trans (final5 m c)

/-- Packed result 2 is the second moment of the packed arrays. -/
theorem X_2 : X m c (Proc.devRef .tc main_v44_2) = newV (pack_g m c) (pack_nu m c) :=
  (Pipeline.withArrays_arr (cfgs 0).spec launch0.win.arr_inj c (V0 m c) (fun w => (dats m 0 c).arrAt w (cfgs 0).N) 6).trans (final6 m c)

/-- The lines after the kernel, run from what it leaves. -/
theorem tail_eq (b : Ref sig .tc) : Pipeline.afterTail₀ cfgs (dats m) 0 (V0 m) [hostOps1] c b = StableHlo.after hostOps1 (X m c) (Proc.devRef .tc b) := by
  show StableHlo.after (hostOps1 ++ []) _ _ = _
  rw [List.append_nil]
  rfl

/-- The kernel ends with its results at these functions of the arguments, which it leaves as they were. -/
theorem run_math (ρ : Dev nD → PrngReg) : θ_run defs (onTc (τ := τ) (main (F := Ideal))) ⟨m, fun _ => 0, ρ⟩ fun r => ∀ c : Dev nD,
      r.2.mem ((c.tc : Thread nD τ).loc main_v47) = delta (m ((c : Thread nD τ).loc main_arg0)) (m ((c : Thread nD τ).loc main_arg8)) (m ((c : Thread nD τ).loc main_arg16)) (m ((c : Thread nD τ).loc main_arg24))
      ∧ r.2.mem ((c.tc : Thread nD τ).loc main_v49) = delta (m ((c : Thread nD τ).loc main_arg1)) (m ((c : Thread nD τ).loc main_arg9)) (m ((c : Thread nD τ).loc main_arg17)) (m ((c : Thread nD τ).loc main_arg25))
      ∧ r.2.mem ((c.tc : Thread nD τ).loc main_v51) = delta (m ((c : Thread nD τ).loc main_arg2)) (m ((c : Thread nD τ).loc main_arg10)) (m ((c : Thread nD τ).loc main_arg18)) (m ((c : Thread nD τ).loc main_arg26))
      ∧ r.2.mem ((c.tc : Thread nD τ).loc main_v53) = delta (m ((c : Thread nD τ).loc main_arg3)) (m ((c : Thread nD τ).loc main_arg11)) (m ((c : Thread nD τ).loc main_arg19)) (m ((c : Thread nD τ).loc main_arg27))
      ∧ r.2.mem ((c.tc : Thread nD τ).loc main_v55) = delta (m ((c : Thread nD τ).loc main_arg4)) (m ((c : Thread nD τ).loc main_arg12)) (m ((c : Thread nD τ).loc main_arg20)) (m ((c : Thread nD τ).loc main_arg28))
      ∧ r.2.mem ((c.tc : Thread nD τ).loc main_v57) = delta (m ((c : Thread nD τ).loc main_arg5)) (m ((c : Thread nD τ).loc main_arg13)) (m ((c : Thread nD τ).loc main_arg21)) (m ((c : Thread nD τ).loc main_arg29))
      ∧ r.2.mem ((c.tc : Thread nD τ).loc main_v59) = delta (m ((c : Thread nD τ).loc main_arg6)) (m ((c : Thread nD τ).loc main_arg14)) (m ((c : Thread nD τ).loc main_arg22)) (m ((c : Thread nD τ).loc main_arg30))
      ∧ r.2.mem ((c.tc : Thread nD τ).loc main_v61) = delta (m ((c : Thread nD τ).loc main_arg7)) (m ((c : Thread nD τ).loc main_arg15)) (m ((c : Thread nD τ).loc main_arg23)) (m ((c : Thread nD τ).loc main_arg31))
      ∧ r.2.mem ((c.tc : Thread nD τ).loc main_v64) = newM (m ((c : Thread nD τ).loc main_arg8)) (m ((c : Thread nD τ).loc main_arg16))
      ∧ r.2.mem ((c.tc : Thread nD τ).loc main_v66) = newM (m ((c : Thread nD τ).loc main_arg9)) (m ((c : Thread nD τ).loc main_arg17))
      ∧ r.2.mem ((c.tc : Thread nD τ).loc main_v68) = newM (m ((c : Thread nD τ).loc main_arg10)) (m ((c : Thread nD τ).loc main_arg18))
      ∧ r.2.mem ((c.tc : Thread nD τ).loc main_v70) = newM (m ((c : Thread nD τ).loc main_arg11)) (m ((c : Thread nD τ).loc main_arg19))
      ∧ r.2.mem ((c.tc : Thread nD τ).loc main_v72) = newM (m ((c : Thread nD τ).loc main_arg12)) (m ((c : Thread nD τ).loc main_arg20))
      ∧ r.2.mem ((c.tc : Thread nD τ).loc main_v74) = newM (m ((c : Thread nD τ).loc main_arg13)) (m ((c : Thread nD τ).loc main_arg21))
      ∧ r.2.mem ((c.tc : Thread nD τ).loc main_v76) = newM (m ((c : Thread nD τ).loc main_arg14)) (m ((c : Thread nD τ).loc main_arg22))
      ∧ r.2.mem ((c.tc : Thread nD τ).loc main_v78) = newM (m ((c : Thread nD τ).loc main_arg15)) (m ((c : Thread nD τ).loc main_arg23))
      ∧ r.2.mem ((c.tc : Thread nD τ).loc main_v81) = newV (m ((c : Thread nD τ).loc main_arg8)) (m ((c : Thread nD τ).loc main_arg24))
      ∧ r.2.mem ((c.tc : Thread nD τ).loc main_v83) = newV (m ((c : Thread nD τ).loc main_arg9)) (m ((c : Thread nD τ).loc main_arg25))
      ∧ r.2.mem ((c.tc : Thread nD τ).loc main_v85) = newV (m ((c : Thread nD τ).loc main_arg10)) (m ((c : Thread nD τ).loc main_arg26))
      ∧ r.2.mem ((c.tc : Thread nD τ).loc main_v87) = newV (m ((c : Thread nD τ).loc main_arg11)) (m ((c : Thread nD τ).loc main_arg27))
      ∧ r.2.mem ((c.tc : Thread nD τ).loc main_v89) = newV (m ((c : Thread nD τ).loc main_arg12)) (m ((c : Thread nD τ).loc main_arg28))
      ∧ r.2.mem ((c.tc : Thread nD τ).loc main_v91) = newV (m ((c : Thread nD τ).loc main_arg13)) (m ((c : Thread nD τ).loc main_arg29))
      ∧ r.2.mem ((c.tc : Thread nD τ).loc main_v93) = newV (m ((c : Thread nD τ).loc main_arg14)) (m ((c : Thread nD τ).loc main_arg30))
      ∧ r.2.mem ((c.tc : Thread nD τ).loc main_v95) = newV (m ((c : Thread nD τ).loc main_arg15)) (m ((c : Thread nD τ).loc main_arg31))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31) := by
  refine (θ_run _ _ _).mono (fun r hh c => ?_) (θ_run_and (run_main m ρ) (unchanged m ρ))
  obtain ⟨h, ha⟩ := hh
  exact ⟨((h c).2 main_v47 (Pipeline.mem_restRefs_of main_v47 (by decide) (by decide))).trans ((tail_eq m c main_v47).trans ((tail47 (X m c)).trans ((congrArg un0 (X_0 m c)).trans (at0_0 m c)))),
    ((h c).2 main_v49 (Pipeline.mem_restRefs_of main_v49 (by decide) (by decide))).trans ((tail_eq m c main_v49).trans ((tail49 (X m c)).trans ((congrArg un1 (X_0 m c)).trans (at0_1 m c)))),
    ((h c).2 main_v51 (Pipeline.mem_restRefs_of main_v51 (by decide) (by decide))).trans ((tail_eq m c main_v51).trans ((tail51 (X m c)).trans ((congrArg un2 (X_0 m c)).trans (at0_2 m c)))),
    ((h c).2 main_v53 (Pipeline.mem_restRefs_of main_v53 (by decide) (by decide))).trans ((tail_eq m c main_v53).trans ((tail53 (X m c)).trans ((congrArg un3 (X_0 m c)).trans (at0_3 m c)))),
    ((h c).2 main_v55 (Pipeline.mem_restRefs_of main_v55 (by decide) (by decide))).trans ((tail_eq m c main_v55).trans ((tail55 (X m c)).trans ((congrArg un4 (X_0 m c)).trans (at0_4 m c)))),
    ((h c).2 main_v57 (Pipeline.mem_restRefs_of main_v57 (by decide) (by decide))).trans ((tail_eq m c main_v57).trans ((tail57 (X m c)).trans ((congrArg un5 (X_0 m c)).trans (at0_5 m c)))),
    ((h c).2 main_v59 (Pipeline.mem_restRefs_of main_v59 (by decide) (by decide))).trans ((tail_eq m c main_v59).trans ((tail59 (X m c)).trans ((congrArg un6 (X_0 m c)).trans (at0_6 m c)))),
    ((h c).2 main_v61 (Pipeline.mem_restRefs_of main_v61 (by decide) (by decide))).trans ((tail_eq m c main_v61).trans ((tail61 (X m c)).trans ((congrArg un7 (X_0 m c)).trans (at0_7 m c)))),
    ((h c).2 main_v64 (Pipeline.mem_restRefs_of main_v64 (by decide) (by decide))).trans ((tail_eq m c main_v64).trans ((tail64 (X m c)).trans ((congrArg un0 (X_1 m c)).trans (at1_0 m c)))),
    ((h c).2 main_v66 (Pipeline.mem_restRefs_of main_v66 (by decide) (by decide))).trans ((tail_eq m c main_v66).trans ((tail66 (X m c)).trans ((congrArg un1 (X_1 m c)).trans (at1_1 m c)))),
    ((h c).2 main_v68 (Pipeline.mem_restRefs_of main_v68 (by decide) (by decide))).trans ((tail_eq m c main_v68).trans ((tail68 (X m c)).trans ((congrArg un2 (X_1 m c)).trans (at1_2 m c)))),
    ((h c).2 main_v70 (Pipeline.mem_restRefs_of main_v70 (by decide) (by decide))).trans ((tail_eq m c main_v70).trans ((tail70 (X m c)).trans ((congrArg un3 (X_1 m c)).trans (at1_3 m c)))),
    ((h c).2 main_v72 (Pipeline.mem_restRefs_of main_v72 (by decide) (by decide))).trans ((tail_eq m c main_v72).trans ((tail72 (X m c)).trans ((congrArg un4 (X_1 m c)).trans (at1_4 m c)))),
    ((h c).2 main_v74 (Pipeline.mem_restRefs_of main_v74 (by decide) (by decide))).trans ((tail_eq m c main_v74).trans ((tail74 (X m c)).trans ((congrArg un5 (X_1 m c)).trans (at1_5 m c)))),
    ((h c).2 main_v76 (Pipeline.mem_restRefs_of main_v76 (by decide) (by decide))).trans ((tail_eq m c main_v76).trans ((tail76 (X m c)).trans ((congrArg un6 (X_1 m c)).trans (at1_6 m c)))),
    ((h c).2 main_v78 (Pipeline.mem_restRefs_of main_v78 (by decide) (by decide))).trans ((tail_eq m c main_v78).trans ((tail78 (X m c)).trans ((congrArg un7 (X_1 m c)).trans (at1_7 m c)))),
    ((h c).2 main_v81 (Pipeline.mem_restRefs_of main_v81 (by decide) (by decide))).trans ((tail_eq m c main_v81).trans ((tail81 (X m c)).trans ((congrArg un0 (X_2 m c)).trans (at2_0 m c)))),
    ((h c).2 main_v83 (Pipeline.mem_restRefs_of main_v83 (by decide) (by decide))).trans ((tail_eq m c main_v83).trans ((tail83 (X m c)).trans ((congrArg un1 (X_2 m c)).trans (at2_1 m c)))),
    ((h c).2 main_v85 (Pipeline.mem_restRefs_of main_v85 (by decide) (by decide))).trans ((tail_eq m c main_v85).trans ((tail85 (X m c)).trans ((congrArg un2 (X_2 m c)).trans (at2_2 m c)))),
    ((h c).2 main_v87 (Pipeline.mem_restRefs_of main_v87 (by decide) (by decide))).trans ((tail_eq m c main_v87).trans ((tail87 (X m c)).trans ((congrArg un3 (X_2 m c)).trans (at2_3 m c)))),
    ((h c).2 main_v89 (Pipeline.mem_restRefs_of main_v89 (by decide) (by decide))).trans ((tail_eq m c main_v89).trans ((tail89 (X m c)).trans ((congrArg un4 (X_2 m c)).trans (at2_4 m c)))),
    ((h c).2 main_v91 (Pipeline.mem_restRefs_of main_v91 (by decide) (by decide))).trans ((tail_eq m c main_v91).trans ((tail91 (X m c)).trans ((congrArg un5 (X_2 m c)).trans (at2_5 m c)))),
    ((h c).2 main_v93 (Pipeline.mem_restRefs_of main_v93 (by decide) (by decide))).trans ((tail_eq m c main_v93).trans ((tail93 (X m c)).trans ((congrArg un6 (X_2 m c)).trans (at2_6 m c)))),
    ((h c).2 main_v95 (Pipeline.mem_restRefs_of main_v95 (by decide) (by decide))).trans ((tail_eq m c main_v95).trans ((tail95 (X m c)).trans ((congrArg un7 (X_2 m c)).trans (at2_7 m c)))),
    ha c⟩

end Cert.SmallIdeal.Hand

end
-- ==== Proof.SmallClaim.lean ====
/- The optimiser's step on the eight small weights: kernel and reference are the same step of each weight. -/
module

public import proofs.«01_k».proof.Defs
public import proofs.«01_k».proof.Proof.SmallRun
public import proofs.«01_k».proof.Proof.Gen.SmallRefIdeal.Run
public import Idealize.ShloMosaic.Lib.Tactic.CleanTypes
public import Idealize.ShloMosaic.Lib.Claim
public import Idealize.ShloMosaic.Lib.StableHlo.RunRead
public import Idealize.ShloMosaic.Lib.Pipeline.ValueKit
public import Idealize.ShloMosaic.Lib.Pointwise

@[expose] public section

set_option maxRecDepth 16384

noncomputable section

namespace Cert.SmallRefIdeal.Hand

open Cert.SmallRefIdeal Cert.SmallRefIdeal.Gen Cert.SmallMath Idealize.ShloMosaic Idealize.ShloMosaic.TcCoe Idealize.SL.Sem

/-- The reference ends with its results at the same functions of the arguments, which it leaves as they were. -/
theorem run_math (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v23) = delta (m ((c : Thread nD τ).loc main_arg0)) (m ((c : Thread nD τ).loc main_arg8)) (m ((c : Thread nD τ).loc main_arg16)) (m ((c : Thread nD τ).loc main_arg24))
      ∧ r.2.mem ((c.tc : Thread nD τ).loc main_v47) = delta (m ((c : Thread nD τ).loc main_arg1)) (m ((c : Thread nD τ).loc main_arg9)) (m ((c : Thread nD τ).loc main_arg17)) (m ((c : Thread nD τ).loc main_arg25))
      ∧ r.2.mem ((c.tc : Thread nD τ).loc main_v71) = delta (m ((c : Thread nD τ).loc main_arg2)) (m ((c : Thread nD τ).loc main_arg10)) (m ((c : Thread nD τ).loc main_arg18)) (m ((c : Thread nD τ).loc main_arg26))
      ∧ r.2.mem ((c.tc : Thread nD τ).loc main_v95) = delta (m ((c : Thread nD τ).loc main_arg3)) (m ((c : Thread nD τ).loc main_arg11)) (m ((c : Thread nD τ).loc main_arg19)) (m ((c : Thread nD τ).loc main_arg27))
      ∧ r.2.mem ((c.tc : Thread nD τ).loc main_v119) = delta (m ((c : Thread nD τ).loc main_arg4)) (m ((c : Thread nD τ).loc main_arg12)) (m ((c : Thread nD τ).loc main_arg20)) (m ((c : Thread nD τ).loc main_arg28))
      ∧ r.2.mem ((c.tc : Thread nD τ).loc main_v143) = delta (m ((c : Thread nD τ).loc main_arg5)) (m ((c : Thread nD τ).loc main_arg13)) (m ((c : Thread nD τ).loc main_arg21)) (m ((c : Thread nD τ).loc main_arg29))
      ∧ r.2.mem ((c.tc : Thread nD τ).loc main_v167) = delta (m ((c : Thread nD τ).loc main_arg6)) (m ((c : Thread nD τ).loc main_arg14)) (m ((c : Thread nD τ).loc main_arg22)) (m ((c : Thread nD τ).loc main_arg30))
      ∧ r.2.mem ((c.tc : Thread nD τ).loc main_v191) = delta (m ((c : Thread nD τ).loc main_arg7)) (m ((c : Thread nD τ).loc main_arg15)) (m ((c : Thread nD τ).loc main_arg23)) (m ((c : Thread nD τ).loc main_arg31))
      ∧ r.2.mem ((c.tc : Thread nD τ).loc main_v4) = newM (m ((c : Thread nD τ).loc main_arg8)) (m ((c : Thread nD τ).loc main_arg16))
      ∧ r.2.mem ((c.tc : Thread nD τ).loc main_v28) = newM (m ((c : Thread nD τ).loc main_arg9)) (m ((c : Thread nD τ).loc main_arg17))
      ∧ r.2.mem ((c.tc : Thread nD τ).loc main_v52) = newM (m ((c : Thread nD τ).loc main_arg10)) (m ((c : Thread nD τ).loc main_arg18))
      ∧ r.2.mem ((c.tc : Thread nD τ).loc main_v76) = newM (m ((c : Thread nD τ).loc main_arg11)) (m ((c : Thread nD τ).loc main_arg19))
      ∧ r.2.mem ((c.tc : Thread nD τ).loc main_v100) = newM (m ((c : Thread nD τ).loc main_arg12)) (m ((c : Thread nD τ).loc main_arg20))
      ∧ r.2.mem ((c.tc : Thread nD τ).loc main_v124) = newM (m ((c : Thread nD τ).loc main_arg13)) (m ((c : Thread nD τ).loc main_arg21))
      ∧ r.2.mem ((c.tc : Thread nD τ).loc main_v148) = newM (m ((c : Thread nD τ).loc main_arg14)) (m ((c : Thread nD τ).loc main_arg22))
      ∧ r.2.mem ((c.tc : Thread nD τ).loc main_v172) = newM (m ((c : Thread nD τ).loc main_arg15)) (m ((c : Thread nD τ).loc main_arg23))
      ∧ r.2.mem ((c.tc : Thread nD τ).loc main_v10) = newV (m ((c : Thread nD τ).loc main_arg8)) (m ((c : Thread nD τ).loc main_arg24))
      ∧ r.2.mem ((c.tc : Thread nD τ).loc main_v34) = newV (m ((c : Thread nD τ).loc main_arg9)) (m ((c : Thread nD τ).loc main_arg25))
      ∧ r.2.mem ((c.tc : Thread nD τ).loc main_v58) = newV (m ((c : Thread nD τ).loc main_arg10)) (m ((c : Thread nD τ).loc main_arg26))
      ∧ r.2.mem ((c.tc : Thread nD τ).loc main_v82) = newV (m ((c : Thread nD τ).loc main_arg11)) (m ((c : Thread nD τ).loc main_arg27))
      ∧ r.2.mem ((c.tc : Thread nD τ).loc main_v106) = newV (m ((c : Thread nD τ).loc main_arg12)) (m ((c : Thread nD τ).loc main_arg28))
      ∧ r.2.mem ((c.tc : Thread nD τ).loc main_v130) = newV (m ((c : Thread nD τ).loc main_arg13)) (m ((c : Thread nD τ).loc main_arg29))
      ∧ r.2.mem ((c.tc : Thread nD τ).loc main_v154) = newV (m ((c : Thread nD τ).loc main_arg14)) (m ((c : Thread nD τ).loc main_arg30))
      ∧ r.2.mem ((c.tc : Thread nD τ).loc main_v178) = newV (m ((c : Thread nD τ).loc main_arg15)) (m ((c : Thread nD τ).loc main_arg31))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31) := by
  refine (θ_run _ _ _).mono (fun r h c => ?_) (Cert.SmallRefIdeal.Value.run m ρ)
  obtain ⟨h0, h1, h2, h3, h4, h5, h6, h7, h8, h9, h10, h11, h12, h13, h14, h15, h16, h17, h18, h19, h20, h21, h22, h23, ha⟩ := h c
  exact ⟨h0.trans rfl, h1.trans rfl, h2.trans rfl, h3.trans rfl, h4.trans rfl, h5.trans rfl, h6.trans rfl, h7.trans rfl, h8.trans rfl, h9.trans rfl, h10.trans rfl, h11.trans rfl, h12.trans rfl, h13.trans rfl, h14.trans rfl, h15.trans rfl, h16.trans rfl, h17.trans rfl, h18.trans rfl, h19.trans rfl, h20.trans rfl, h21.trans rfl, h22.trans rfl, h23.trans rfl, ha⟩

end Cert.SmallRefIdeal.Hand

namespace Cert.SmallIdeal.Hand

open Cert.SmallMath Idealize.ShloMosaic Idealize.ShloMosaic.TcCoe Idealize.SL.Sem

/-- Kernel and reference, run from memories that agree on the arguments, end with equal results. -/
theorem algebraic : Cert.algebraic_SmallIdeal_SmallRefIdeal := by
  intro m g m' g' _ hag
  refine ⟨fun c => delta (m ((c : Thread SmallIdeal.nD SmallIdeal.τ).loc SmallIdeal.main_arg0)) (m ((c : Thread SmallIdeal.nD SmallIdeal.τ).loc SmallIdeal.main_arg8)) (m ((c : Thread SmallIdeal.nD SmallIdeal.τ).loc SmallIdeal.main_arg16)) (m ((c : Thread SmallIdeal.nD SmallIdeal.τ).loc SmallIdeal.main_arg24)),
    fun c => delta (m ((c : Thread SmallIdeal.nD SmallIdeal.τ).loc SmallIdeal.main_arg1)) (m ((c : Thread SmallIdeal.nD SmallIdeal.τ).loc SmallIdeal.main_arg9)) (m ((c : Thread SmallIdeal.nD SmallIdeal.τ).loc SmallIdeal.main_arg17)) (m ((c : Thread SmallIdeal.nD SmallIdeal.τ).loc SmallIdeal.main_arg25)),
    fun c => delta (m ((c : Thread SmallIdeal.nD SmallIdeal.τ).loc SmallIdeal.main_arg2)) (m ((c : Thread SmallIdeal.nD SmallIdeal.τ).loc SmallIdeal.main_arg10)) (m ((c : Thread SmallIdeal.nD SmallIdeal.τ).loc SmallIdeal.main_arg18)) (m ((c : Thread SmallIdeal.nD SmallIdeal.τ).loc SmallIdeal.main_arg26)),
    fun c => delta (m ((c : Thread SmallIdeal.nD SmallIdeal.τ).loc SmallIdeal.main_arg3)) (m ((c : Thread SmallIdeal.nD SmallIdeal.τ).loc SmallIdeal.main_arg11)) (m ((c : Thread SmallIdeal.nD SmallIdeal.τ).loc SmallIdeal.main_arg19)) (m ((c : Thread SmallIdeal.nD SmallIdeal.τ).loc SmallIdeal.main_arg27)),
    fun c => delta (m ((c : Thread SmallIdeal.nD SmallIdeal.τ).loc SmallIdeal.main_arg4)) (m ((c : Thread SmallIdeal.nD SmallIdeal.τ).loc SmallIdeal.main_arg12)) (m ((c : Thread SmallIdeal.nD SmallIdeal.τ).loc SmallIdeal.main_arg20)) (m ((c : Thread SmallIdeal.nD SmallIdeal.τ).loc SmallIdeal.main_arg28)),
    fun c => delta (m ((c : Thread SmallIdeal.nD SmallIdeal.τ).loc SmallIdeal.main_arg5)) (m ((c : Thread SmallIdeal.nD SmallIdeal.τ).loc SmallIdeal.main_arg13)) (m ((c : Thread SmallIdeal.nD SmallIdeal.τ).loc SmallIdeal.main_arg21)) (m ((c : Thread SmallIdeal.nD SmallIdeal.τ).loc SmallIdeal.main_arg29)),
    fun c => delta (m ((c : Thread SmallIdeal.nD SmallIdeal.τ).loc SmallIdeal.main_arg6)) (m ((c : Thread SmallIdeal.nD SmallIdeal.τ).loc SmallIdeal.main_arg14)) (m ((c : Thread SmallIdeal.nD SmallIdeal.τ).loc SmallIdeal.main_arg22)) (m ((c : Thread SmallIdeal.nD SmallIdeal.τ).loc SmallIdeal.main_arg30)),
    fun c => delta (m ((c : Thread SmallIdeal.nD SmallIdeal.τ).loc SmallIdeal.main_arg7)) (m ((c : Thread SmallIdeal.nD SmallIdeal.τ).loc SmallIdeal.main_arg15)) (m ((c : Thread SmallIdeal.nD SmallIdeal.τ).loc SmallIdeal.main_arg23)) (m ((c : Thread SmallIdeal.nD SmallIdeal.τ).loc SmallIdeal.main_arg31)),
    fun c => newM (m ((c : Thread SmallIdeal.nD SmallIdeal.τ).loc SmallIdeal.main_arg8)) (m ((c : Thread SmallIdeal.nD SmallIdeal.τ).loc SmallIdeal.main_arg16)),
    fun c => newM (m ((c : Thread SmallIdeal.nD SmallIdeal.τ).loc SmallIdeal.main_arg9)) (m ((c : Thread SmallIdeal.nD SmallIdeal.τ).loc SmallIdeal.main_arg17)),
    fun c => newM (m ((c : Thread SmallIdeal.nD SmallIdeal.τ).loc SmallIdeal.main_arg10)) (m ((c : Thread SmallIdeal.nD SmallIdeal.τ).loc SmallIdeal.main_arg18)),
    fun c => newM (m ((c : Thread SmallIdeal.nD SmallIdeal.τ).loc SmallIdeal.main_arg11)) (m ((c : Thread SmallIdeal.nD SmallIdeal.τ).loc SmallIdeal.main_arg19)),
    fun c => newM (m ((c : Thread SmallIdeal.nD SmallIdeal.τ).loc SmallIdeal.main_arg12)) (m ((c : Thread SmallIdeal.nD SmallIdeal.τ).loc SmallIdeal.main_arg20)),
    fun c => newM (m ((c : Thread SmallIdeal.nD SmallIdeal.τ).loc SmallIdeal.main_arg13)) (m ((c : Thread SmallIdeal.nD SmallIdeal.τ).loc SmallIdeal.main_arg21)),
    fun c => newM (m ((c : Thread SmallIdeal.nD SmallIdeal.τ).loc SmallIdeal.main_arg14)) (m ((c : Thread SmallIdeal.nD SmallIdeal.τ).loc SmallIdeal.main_arg22)),
    fun c => newM (m ((c : Thread SmallIdeal.nD SmallIdeal.τ).loc SmallIdeal.main_arg15)) (m ((c : Thread SmallIdeal.nD SmallIdeal.τ).loc SmallIdeal.main_arg23)),
    fun c => newV (m ((c : Thread SmallIdeal.nD SmallIdeal.τ).loc SmallIdeal.main_arg8)) (m ((c : Thread SmallIdeal.nD SmallIdeal.τ).loc SmallIdeal.main_arg24)),
    fun c => newV (m ((c : Thread SmallIdeal.nD SmallIdeal.τ).loc SmallIdeal.main_arg9)) (m ((c : Thread SmallIdeal.nD SmallIdeal.τ).loc SmallIdeal.main_arg25)),
    fun c => newV (m ((c : Thread SmallIdeal.nD SmallIdeal.τ).loc SmallIdeal.main_arg10)) (m ((c : Thread SmallIdeal.nD SmallIdeal.τ).loc SmallIdeal.main_arg26)),
    fun c => newV (m ((c : Thread SmallIdeal.nD SmallIdeal.τ).loc SmallIdeal.main_arg11)) (m ((c : Thread SmallIdeal.nD SmallIdeal.τ).loc SmallIdeal.main_arg27)),
    fun c => newV (m ((c : Thread SmallIdeal.nD SmallIdeal.τ).loc SmallIdeal.main_arg12)) (m ((c : Thread SmallIdeal.nD SmallIdeal.τ).loc SmallIdeal.main_arg28)),
    fun c => newV (m ((c : Thread SmallIdeal.nD SmallIdeal.τ).loc SmallIdeal.main_arg13)) (m ((c : Thread SmallIdeal.nD SmallIdeal.τ).loc SmallIdeal.main_arg29)),
    fun c => newV (m ((c : Thread SmallIdeal.nD SmallIdeal.τ).loc SmallIdeal.main_arg14)) (m ((c : Thread SmallIdeal.nD SmallIdeal.τ).loc SmallIdeal.main_arg30)),
    fun c => newV (m ((c : Thread SmallIdeal.nD SmallIdeal.τ).loc SmallIdeal.main_arg15)) (m ((c : Thread SmallIdeal.nD SmallIdeal.τ).loc SmallIdeal.main_arg31)), ?_, ?_⟩
  · exact SmallIdeal.Hand.run_math m g
  · refine (θ_run _ _ _).mono (fun r h c => ?_) (SmallRefIdeal.Hand.run_math m' g')
    obtain ⟨e0, e1, e2, e3, e4, e5, e6, e7, e8, e9, e10, e11, e12, e13, e14, e15, e16, e17, e18, e19, e20, e21, e22, e23, e24, e25, e26, e27, e28, e29, e30, e31⟩ := hag c
    obtain ⟨h0, h1, h2, h3, h4, h5, h6, h7, h8, h9, h10, h11, h12, h13, h14, h15, h16, h17, h18, h19, h20, h21, h22, h23, ha⟩ := h c
    exact ⟨h0.trans (delta_congr e0 e8 e16 e24), h1.trans (delta_congr e1 e9 e17 e25), h2.trans (delta_congr e2 e10 e18 e26), h3.trans (delta_congr e3 e11 e19 e27), h4.trans (delta_congr e4 e12 e20 e28), h5.trans (delta_congr e5 e13 e21 e29), h6.trans (delta_congr e6 e14 e22 e30), h7.trans (delta_congr e7 e15 e23 e31), h8.trans (newM_congr e8 e16), h9.trans (newM_congr e9 e17), h10.trans (newM_congr e10 e18), h11.trans (newM_congr e11 e19), h12.trans (newM_congr e12 e20), h13.trans (newM_congr e13 e21), h14.trans (newM_congr e14 e22), h15.trans (newM_congr e15 e23), h16.trans (newV_congr e8 e24), h17.trans (newV_congr e9 e25), h18.trans (newV_congr e10 e26), h19.trans (newV_congr e11 e27), h20.trans (newV_congr e12 e28), h21.trans (newV_congr e13 e29), h22.trans (newV_congr e14 e30), h23.trans (newV_congr e15 e31), ha⟩

/-- The reference runs and leaves its arguments and every counter as they were. -/
theorem ref_frame : Cert.quiescent_SmallRefIdeal := by
  intro m g _
  refine (θ_run _ _ _).mono (fun r h => ⟨fun c => ?_, sem_eq_zero_of_no_sems (by decide) r.2⟩) (SmallRefIdeal.Hand.run_math m g)
  obtain ⟨h0, h1, h2, h3, h4, h5, h6, h7, h8, h9, h10, h11, h12, h13, h14, h15, h16, h17, h18, h19, h20, h21, h22, h23, ha⟩ := h c
  exact ha

end Cert.SmallIdeal.Hand

end
-- ==== Proof.StepMath.lean ====
/- One step of the optimiser at one place of an array, and an array of four layers of which the first is replaced. -/
module

public import proofs.«01_k».proof.Proof.SmallPack

@[expose] public section

set_option maxRecDepth 16384

noncomputable section

namespace Cert.SmallMath

open Idealize.ShloMosaic

variable {S : Shape}

/-- A step at one place of an array and at another place of another is the same when the arrays agree there. -/
theorem delta_at {S' : Shape} (w g mu nu : FVec Ideal S .f32) (w' g' mu' nu' : FVec Ideal S' .f32) (i : S.Idx) (i' : S'.Idx)
    (hw : w i = w' i') (hg : g i = g' i') (hm : mu i = mu' i') (hn : nu i = nu' i') : delta w g mu nu i = delta w' g' mu' nu' i' := by
  pointwise [delta, newM, newV]
  rw [hw, hg, hm, hn]

/-- The same of the first moments. -/
theorem newM_at {S' : Shape} (g mu : FVec Ideal S .f32) (g' mu' : FVec Ideal S' .f32) (i : S.Idx) (i' : S'.Idx)
    (hg : g i = g' i') (hm : mu i = mu' i') : newM g mu i = newM g' mu' i' := by
  pointwise [newM]
  rw [hg, hm]

/-- The same of the second moments. -/
theorem newV_at {S' : Shape} (g nu : FVec Ideal S .f32) (g' nu' : FVec Ideal S' .f32) (i : S.Idx) (i' : S'.Idx)
    (hg : g i = g' i') (hn : nu i = nu' i') : newV g nu i = newV g' nu' i' := by
  pointwise [newV]
  rw [hg, hn]

variable {n k h : ℕ}

/-- The first of the layers. -/
def top (a : FVec Ideal ⟨3, ![4, n, k]⟩ .f32) : FVec Ideal ⟨2, ![n, k]⟩ .f32 :=
  fun j => a (ix3 (n0 := 4) (n1 := n) (n2 := k) 0 (j 0) (j 1))

/-- The layers with the first one replaced. -/
def over (a : FVec Ideal ⟨2, ![n, k]⟩ .f32) (rest : FVec Ideal ⟨3, ![4, n, k]⟩ .f32) : FVec Ideal ⟨3, ![4, n, k]⟩ .f32 :=
  fun j => if (j 0).val = 0 then a (ix2 (n0 := n) (n1 := k) (j 1) (j 2)) else rest j

/-- Two arrays, one below the other. -/
def halves (e : n = h + h) (a b : FVec Ideal ⟨2, ![h, k]⟩ .f32) : FVec Ideal ⟨2, ![n, k]⟩ .f32 :=
  fun j => if l : (j 0).val < h then a (ix2 (n0 := h) (n1 := k) ⟨_, l⟩ (j 1)) else b (ix2 (n0 := h) (n1 := k) ⟨(j 0).val - h, by have : (j 0).val < n := (j 0).isLt; omega⟩ (j 1))

/-- The new layer is the first one. -/
theorem over_top (a : FVec Ideal ⟨2, ![n, k]⟩ .f32) (rest : FVec Ideal ⟨3, ![4, n, k]⟩ .f32) (j : (⟨3, ![4, n, k]⟩ : Shape).Idx) (R : Fin n) (C : Fin k)
    (h0 : (j 0).val = 0) (h1 : (j 1).val = R.val) (h2 : (j 2).val = C.val) : over a rest j = a (ix2 R C) := by
  unfold over
  rw [if_pos h0]
  exact congrArg a (ix2_ext h1 h2)

/-- The other layers are as they were. -/
theorem over_rest (a : FVec Ideal ⟨2, ![n, k]⟩ .f32) (rest : FVec Ideal ⟨3, ![4, n, k]⟩ .f32) (j : (⟨3, ![4, n, k]⟩ : Shape).Idx)
    (h0 : (j 0).val ≠ 0) : over a rest j = rest j := by
  unfold over
  rw [if_neg h0]

/-- Being in a block only depends on the block's number. -/
theorem between {x y s z j : Nat} (e : x = y) (h : y * s ≤ j ∧ j < y * s + z) : x * s ≤ j ∧ j < x * s + z := e ▸ h

/-- A row of the upper array. -/
theorem halves_up (e : n = h + h) (a b : FVec Ideal ⟨2, ![h, k]⟩ .f32) (R : Fin n) (C : Fin k) (r : Fin h) (hr : R.val = r.val) : halves e a b (ix2 R C) = a (ix2 r C) := by
  unfold halves
  have l : R.val < h := by omega
  rw [dif_pos (show ((ix2 (n0 := n) (n1 := k) R C) 0).val < h from l)]
  exact congrArg a (ix2_ext hr rfl)

/-- A row of the lower array. -/
theorem halves_down (e : n = h + h) (a b : FVec Ideal ⟨2, ![h, k]⟩ .f32) (R : Fin n) (C : Fin k) (r : Fin h) (hr : R.val = h + r.val) : halves e a b (ix2 R C) = b (ix2 r C) := by
  unfold halves
  have l : ¬ R.val < h := by omega
  rw [dif_neg (show ¬ ((ix2 (n0 := n) (n1 := k) R C) 0).val < h from l)]
  exact congrArg b (ix2_ext (by show R.val - h = r.val; omega) rfl)

end Cert.SmallMath

namespace Cert.SmallMath

open Idealize.ShloMosaic Idealize.ShloMosaic.TcCoe Idealize.SL.Sem Idealize.ShloMosaic.Pipeline

variable {nD : Nat} {τ : Topo} {sig : RefSig} {Val : EltTy → Type}
variable {Ix : Type} [DecidableEq Ix] {Name : Type} [DecidableEq Name] {U : Type} [Idealize.SL.RA.URA U] {Lvl : Type}
variable {Λ₀ : Idealize.SL.Sem.Labels} {cfg : Cfg sig Λ₀} {c : Dev nD}

/-- An array of which the grid writes a part ends with what is written there, and elsewhere with what it held. -/
theorem arrAt_part (dat : Dat τ Val Ix Name U Lvl cfg c) (w : Fin cfg.W) (G : Buf Val ((cfg.win w).arr.view.loc (c.tc : Thread nD τ)))
    (hG : ∀ t, (cfg.win w).flush t = true → ∀ y : ((cfg.win w).xblock (cfg.grid.coords t)).Idx,
      _root_.cast (congrArg Val ((cfg.win w).blk t).view.elt_eq.symm) (dat.after w t ((cfg.win w).xinj (cfg.grid.coords t) y))
        = G (((cfg.win w).blk t).view.emb y))
    (hA : ∀ i : ((cfg.win w).arr.view.loc (c.tc : Thread nD τ)).2.ty.Idx, (∃ t : Fin cfg.N, (cfg.win w).flush t = true ∧ i ∈ ((cfg.win w).blk t).view.set) ∨ dat.A w i = G i) :
    dat.arrAt w cfg.N = G := by
  funext i
  by_cases h : ∃ t : Fin cfg.N, (cfg.win w).flush t = true ∧ i ∈ ((cfg.win w).blk t).view.set
  · obtain ⟨t, hf, hi⟩ := h
    exact dat.arrAt_forall_of_flushed w (fun i v => v = G i) hG cfg.N t i t.isLt hf hi
  · exact (dat.arrAt_apply_of_forall_not_mem w cfg.N i fun t _ hf hi => h ⟨t, hf, hi⟩).trans ((hA i).resolve_left h)

end Cert.SmallMath

end
-- ==== Proof.UUpStep.lean ====
/- The optimiser's call on the first layer of the MLP's first weight: kernel and reference both take the gradient from its two halves and replace the first layer of each result. -/
module

public import proofs.«01_k».proof.Defs
public import proofs.«01_k».proof.Proof.StepMath
public import proofs.«01_k».proof.Proof.Gen.UUp.Frame
public import proofs.«01_k».proof.Proof.Gen.UUpIdeal.Frame
public import proofs.«01_k».proof.Proof.Gen.UUpRefIdeal.Run
public import Idealize.ShloMosaic.Lib.Tactic.CleanTypes
public import Idealize.ShloMosaic.Lib.Claim
public import Idealize.ShloMosaic.Lib.Pipeline.Covers

@[expose] public section

set_option maxRecDepth 16384

noncomputable section

namespace Cert.UUp.Hand

open Cert.UUp Cert.UUp.Gen Idealize.ShloMosaic Idealize.ShloMosaic.TcCoe Idealize.SL.Sem

/-- The table that holds a zero. -/
def table : pre0.Contents (Elt Bits) | 0 => fun _ => (0#32 : BitVec 32)

/-- The place that the kernel reads is zero. -/
theorem tbl_eq (m : (ℓ : Loc nD τ sig) → Buf (Elt Bits) ℓ) : tbl m = table := by
  funext j
  obtain rfl : j = 0 := Subsingleton.elim (α := Fin 1) j 0
  funext i
  show StableHlo.after hostOps0 _ (Proc.devRef .tc main_v0) i = _
  after_reads_simp
  rfl

/-- So every block lies inside its array. -/
theorem ok (m : (ℓ : Loc nD τ sig) → Buf (Elt Bits) ℓ) : Ok m := by
  show ok0 (tbl m)
  rw [tbl_eq]
  decide +kernel

end Cert.UUp.Hand

namespace Cert.UUpIdeal.Hand

open Cert.UUpIdeal Cert.UUpIdeal.Gen Cert.SmallMath Idealize.ShloMosaic Idealize.ShloMosaic.TcCoe Idealize.SL.Sem

/-- The table that holds a zero. -/
def table : pre0.Contents (Elt Ideal) | 0 => fun _ => (0#32 : BitVec 32)

/-- The place that the kernel reads is zero. -/
theorem tbl_eq (m : (ℓ : Loc nD τ sig) → Buf (Elt Ideal) ℓ) : tbl m = table := by
  funext j
  obtain rfl : j = 0 := Subsingleton.elim (α := Fin 1) j 0
  funext i
  show StableHlo.after hostOps0 _ (Proc.devRef .tc main_v0) i = _
  after_reads_simp
  rfl

/-- So every block lies inside its array. -/
theorem ok (m : (ℓ : Loc nD τ sig) → Buf (Elt Ideal) ℓ) : Ok m := by
  show ok0 (tbl m)
  rw [tbl_eq]
  decide +kernel

variable (m : (ℓ : Loc nD τ sig) → Buf (Elt Ideal) ℓ)

/-- Which block of its array each window of whole layers holds at grid point `t`. -/
theorem idx_val (hO : Ok m) : ∀ t : Fin (cfgM m hO).N, ((cfgM m hO).win 0).index t = ![0, t.val, 0] ∧ ((cfgM m hO).win 1).index t = ![0, t.val, 0] ∧ ((cfgM m hO).win 2).index t = ![0, t.val, 0]
    ∧ ((cfgM m hO).win 5).index t = ![0, t.val, 0] ∧ ((cfgM m hO).win 6).index t = ![0, t.val, 0] ∧ ((cfgM m hO).win 7).index t = ![0, t.val, 0] ∧ ((cfgM m hO).win 8).index t = ![0, t.val, 0] := by
  have h : ∀ t : Fin grid0.N, cc0_transform_0 (grid0.coords t) = ![0, t.val, 0] ∧ cc0_transform_1 (grid0.coords t) = ![0, t.val, 0] ∧ cc0_transform_2 (grid0.coords t) = ![0, t.val, 0]
    ∧ cc0_transform_9 (grid0.coords t) = ![0, t.val, 0] ∧ cc0_transform_10 (grid0.coords t) = ![0, t.val, 0] ∧ cc0_transform_11 (grid0.coords t) = ![0, t.val, 0] ∧ cc0_transform_12 (grid0.coords t) = ![0, t.val, 0] := by
    decide +kernel
  exact h

/-- Which block of the device's own half of the gradient is held while that half is stepped. -/
theorem idx_mine (hO : Ok m) : ∀ t : Fin (cfgM m hO).N, t.val < 4 → ((cfgM m hO).win 3).index t = ![t.val, 0] := by
  have h : ∀ t : Fin grid0.N, t.val < 4 → cc0_transform_3 inb_S1_S1_0 numel1_S1 (tbl m) (grid0.coords t) = ![t.val, 0] := by
    rw [tbl_eq]; decide +kernel
  exact h

/-- Which block of the other core's half of the gradient is held while that half is stepped. -/
theorem idx_sibling (hO : Ok m) : ∀ t : Fin (cfgM m hO).N, ¬ t.val < 4 → ((cfgM m hO).win 4).index t = ![t.val - 4, 0] := by
  have h : ∀ t : Fin grid0.N, ¬ t.val < 4 → cc0_transform_4 inb_S1_S1_0 numel1_S1 (tbl m) (grid0.coords t) = ![t.val - 4, 0] := by
    rw [tbl_eq]; decide +kernel
  exact h

/-- Which half the kernel takes the block of the gradient from. -/
theorem pick (a b : FVec Ideal ⟨2, ![256, 2048]⟩ .f32) : ∀ t : Fin grid0.N, k0_pay6 (F := Ideal) (grid0.coords t) (0#32 : BitVec 32) a b = if t.val < 4 then a else b := by
  intro t
  rcases fin_N0 t with rfl | rfl | rfl | rfl | rfl | rfl | rfl | rfl <;> rfl

/-- The first half of the grid takes the device's own half. -/
theorem pick_mine (a b : FVec Ideal ⟨2, ![256, 2048]⟩ .f32) (t : Fin grid0.N) (ht : t.val < 4) : k0_pay6 (F := Ideal) (grid0.coords t) (0#32 : BitVec 32) a b = a :=
  (pick a b t).trans (if_pos ht)

/-- The second half of the grid takes the other core's half. -/
theorem pick_sibling (a b : FVec Ideal ⟨2, ![256, 2048]⟩ .f32) (t : Fin grid0.N) (ht : ¬ t.val < 4) : k0_pay6 (F := Ideal) (grid0.coords t) (0#32 : BitVec 32) a b = b :=
  (pick a b t).trans (if_neg ht)

/-- The stored block of the gradient. -/
theorem pay7 (i : grid0.Coords) (x : Elt Ideal .i32) (a b : FVec Ideal ⟨2, ![256, 2048]⟩ .f32) (y : Shape.Idx ⟨3, ![1, 256, 2048]⟩) : k0_pay7 (F := Ideal) i x a b y = k0_pay6 (F := Ideal) i x a b (ix2 (n0 := 256) (n1 := 2048) (y 1) (y 2)) := by
  unfold k0_pay7
  generalize k0_pay6 (F := Ideal) i x a b = g
  idx_vars y
  pointwise []

/-- A block of one layer, as an array of two axes. -/
def flat (a : FVec Ideal ⟨3, ![1, 256, 2048]⟩ .f32) : FVec Ideal ⟨2, ![256, 2048]⟩ .f32 := fun j => a (ix3 (n0 := 1) (n1 := 256) (n2 := 2048) 0 (j 0) (j 1))

/-- The stored block of the step. -/
theorem pay3 (g : FVec Ideal ⟨2, ![256, 2048]⟩ .f32) (w mu nu : FVec Ideal ⟨3, ![1, 256, 2048]⟩ .f32) (y : Shape.Idx ⟨3, ![1, 256, 2048]⟩) :
    k0_pay3 (F := Ideal) g (k0_pay8 w) (k0_pay9 mu) (k0_pay10 nu) k0_pay11 y = delta (flat w) g (flat mu) (flat nu) (ix2 (n0 := 256) (n1 := 2048) (y 1) (y 2)) := by
  idx_vars y
  pointwise [k0_pay3, k0_pay2, k0_pay1, k0_pay8, k0_pay9, k0_pay10, k0_pay11, delta, newM, newV, flat]

/-- The stored block of the first moment. -/
theorem pay4 (g : FVec Ideal ⟨2, ![256, 2048]⟩ .f32) (mu : FVec Ideal ⟨3, ![1, 256, 2048]⟩ .f32) (y : Shape.Idx ⟨3, ![1, 256, 2048]⟩) :
    k0_pay4 (F := Ideal) g (k0_pay9 mu) k0_pay11 y = newM g (flat mu) (ix2 (n0 := 256) (n1 := 2048) (y 1) (y 2)) := by
  idx_vars y
  pointwise [k0_pay4, k0_pay1, k0_pay9, k0_pay11, newM, flat]

/-- The stored block of the second moment. -/
theorem pay5 (g : FVec Ideal ⟨2, ![256, 2048]⟩ .f32) (nu : FVec Ideal ⟨3, ![1, 256, 2048]⟩ .f32) (y : Shape.Idx ⟨3, ![1, 256, 2048]⟩) :
    k0_pay5 (F := Ideal) g (k0_pay10 nu) y = newV g (flat nu) (ix2 (n0 := 256) (n1 := 2048) (y 1) (y 2)) := by
  idx_vars y
  pointwise [k0_pay5, k0_pay2, k0_pay10, newV, flat]

/-- A row of a block is a row of its layer. -/
theorem row_lt (hO : Ok m) (t : Fin (cfgM m hO).N) (r : Fin 256) : (t.val) * 256 + r.val < 2048 := by
  have := lt_of_lt_of_eq t.isLt N_0; omega
/-- A lane of a block is a lane of its layer. -/
theorem col_lt (hO : Ok m) (t : Fin (cfgM m hO).N) (l : Fin 2048) : (0) * 2048 + l.val < 2048 := by
  have := lt_of_lt_of_eq t.isLt N_0; omega

/-- The place in the layer of a place in a block. -/
def at_ (hO : Ok m) (t : Fin (cfgM m hO).N) (r : Fin 256) (l : Fin 2048) : Shape.Idx ⟨2, ![2048, 2048]⟩ := ix2 (n0 := 2048) (n1 := 2048) ⟨_, row_lt m hO t r⟩ ⟨_, col_lt m hO t l⟩

section Blocks
variable (hO : Ok m) (c : Dev nD) (t : Fin (cfgM m hO).N)

/-- The block of the weight is a block of its first layer. -/
theorem blk0 (r : Fin 256) (l : Fin 2048) : flat (iblk m hO c 0 t) (ix2 (n0 := 256) (n1 := 2048) r l) = top (m (c.tc.loc main_arg0) : FVec Ideal ⟨3, ![4, 2048, 2048]⟩ .f32) (at_ m hO t r l) := by
  rw [← V_main_arg0 m c]
  show iblk m hO c 0 t (ix3 (n0 := 1) (n1 := 256) (n2 := 2048) 0 r l) = (V m c main_arg0) (ix3 (n0 := 4) (n1 := 2048) (n2 := 2048) 0 ⟨_, row_lt m hO t r⟩ ⟨_, col_lt m hO t l⟩)
  blk_point [iblk, idx_val m hO t]

/-- The block of the first moment is a block of its first layer. -/
theorem blk1 (r : Fin 256) (l : Fin 2048) : flat (iblk m hO c 1 t) (ix2 (n0 := 256) (n1 := 2048) r l) = top (m (c.tc.loc main_arg1) : FVec Ideal ⟨3, ![4, 2048, 2048]⟩ .f32) (at_ m hO t r l) := by
  rw [← V_main_arg1 m c]
  show iblk m hO c 1 t (ix3 (n0 := 1) (n1 := 256) (n2 := 2048) 0 r l) = (V m c main_arg1) (ix3 (n0 := 4) (n1 := 2048) (n2 := 2048) 0 ⟨_, row_lt m hO t r⟩ ⟨_, col_lt m hO t l⟩)
  blk_point [iblk, idx_val m hO t]

/-- The block of the second moment is a block of its first layer. -/
theorem blk2 (r : Fin 256) (l : Fin 2048) : flat (iblk m hO c 2 t) (ix2 (n0 := 256) (n1 := 2048) r l) = top (m (c.tc.loc main_arg2) : FVec Ideal ⟨3, ![4, 2048, 2048]⟩ .f32) (at_ m hO t r l) := by
  rw [← V_main_arg2 m c]
  show iblk m hO c 2 t (ix3 (n0 := 1) (n1 := 256) (n2 := 2048) 0 r l) = (V m c main_arg2) (ix3 (n0 := 4) (n1 := 2048) (n2 := 2048) 0 ⟨_, row_lt m hO t r⟩ ⟨_, col_lt m hO t l⟩)
  blk_point [iblk, idx_val m hO t]

/-- The block of the device's own half is rows of it. -/
theorem blk3 (ht : t.val < 4) (r : Fin 256) (l : Fin 2048) (R : Fin 1024) (C : Fin 2048) (hR : R.val = (t.val) * 256 + r.val) (hC : C.val = (0) * 2048 + l.val) : iblk m hO c 3 t (ix2 r l) = m (c.tc.loc main_arg3) (ix2 R C) := by
  rw [← V_main_arg3 m c]
  blk_point [iblk, idx_mine m hO t ht]
/-- The block of the other core's half is rows of it. -/
theorem blk4 (ht : ¬ t.val < 4) (r : Fin 256) (l : Fin 2048) (R : Fin 1024) (C : Fin 2048) (hR : R.val = (t.val - 4) * 256 + r.val) (hC : C.val = (0) * 2048 + l.val) : iblk m hO c 4 t (ix2 r l) = m (c.tc.loc main_arg4) (ix2 R C) := by
  rw [← V_main_arg4 m c]
  blk_point [iblk, idx_sibling m hO t ht]

/-- The whole gradient. -/
def grad (c : Dev nD) : FVec Ideal ⟨2, ![2048, 2048]⟩ .f32 := halves (n := 2048) (k := 2048) (h := 1024) (by decide) (m (c.tc.loc main_arg3)) (m (c.tc.loc main_arg4))

/-- The block that the kernel picks is a block of the whole gradient. -/
theorem picked (r : Fin 256) (l : Fin 2048) : k0_pay6 (F := Ideal) (grid0.coords t) (0#32 : BitVec 32) (iblk m hO c 3 t) (iblk m hO c 4 t) (ix2 (n0 := 256) (n1 := 2048) r l) = grad m c (at_ m hO t r l) := by
  have hN := lt_of_lt_of_eq t.isLt N_0
  by_cases ht : t.val < 4
  · refine (congrFun (pick_mine _ _ t ht) _).trans ?_
    refine (blk3 m hO c t ht r l ⟨(t.val) * 256 + r.val, by omega⟩ ⟨_, col_lt m hO t l⟩ rfl rfl).trans ?_
    exact (halves_up (n := 2048) (k := 2048) (h := 1024) (by decide) _ _ _ _ _ rfl).symm
  · refine (congrFun (pick_sibling _ _ t ht) _).trans ?_
    refine (blk4 m hO c t ht r l ⟨(t.val - 4) * 256 + r.val, by omega⟩ ⟨_, col_lt m hO t l⟩ rfl rfl).trans ?_
    exact (halves_down (n := 2048) (k := 2048) (h := 1024) (by decide) _ _ _ _ _ (show (t.val) * 256 + r.val = 1024 + ((t.val - 4) * 256 + r.val) by omega)).symm

end Blocks

section Outs
variable (c : Dev nD) (i : grid0.Coords) (arg3 : Memref sig .tc .vmem S1x256x2048 .f32) (harg3 : arg3.IsWhole) (arg4 : Memref sig .tc .vmem S1x256x2048 .f32) (harg4 : arg4.IsWhole) (arg5 : Memref sig .tc .vmem S1x256x2048 .f32) (harg5 : arg5.IsWhole) (arg6 : Memref sig .tc .vmem S256x2048 .f32) (harg6 : arg6.IsWhole) (arg7 : Memref sig .tc .vmem S256x2048 .f32) (harg7 : arg7.IsWhole) (arg12 : Memref sig .tc .vmem S1x256x2048 .f32) (harg12 : arg12.IsWhole) (arg13 : Memref sig .tc .vmem S1x256x2048 .f32) (harg13 : arg13.IsWhole) (arg14 : Memref sig .tc .vmem S1x256x2048 .f32) (harg14 : arg14.IsWhole) (arg15 : Memref sig .tc .vmem S1x256x2048 .f32) (harg15 : arg15.IsWhole) (x0 x1 x2 : Vec Ideal S1x256x2048 .f32) (x3 x4 : Vec Ideal S256x2048 .f32) (xt0 : TbBuf0 (F := Ideal) c tbM0_0) (hx : xt0 = table 0)
include hx

/-- One grid point stores this of the gradient. -/
theorem out_eq5 : out0_A_5 c i arg3 harg3 arg4 harg4 arg5 harg5 arg6 harg6 arg7 harg7 arg12 harg12 arg13 harg13 arg14 harg14 arg15 harg15 x0 x1 x2 x3 x4 xt0 = k0_pay7 i (0#32 : BitVec 32) x3 x4 := by
  subst hx
  unfold out0_A_5
  frame_out
  rfl

/-- One grid point stores this of the step. -/
theorem out_eq6 : out0_A_6 c i arg3 harg3 arg4 harg4 arg5 harg5 arg6 harg6 arg7 harg7 arg12 harg12 arg13 harg13 arg14 harg14 arg15 harg15 x0 x1 x2 x3 x4 xt0 = k0_pay3 (k0_pay6 i (0#32 : BitVec 32) x3 x4) (k0_pay8 x0) (k0_pay9 x1) (k0_pay10 x2) k0_pay11 := by
  subst hx
  unfold out0_A_6
  frame_out
  rfl

/-- One grid point stores this of the first moment. -/
theorem out_eq7 : out0_A_7 c i arg3 harg3 arg4 harg4 arg5 harg5 arg6 harg6 arg7 harg7 arg12 harg12 arg13 harg13 arg14 harg14 arg15 harg15 x0 x1 x2 x3 x4 xt0 = k0_pay4 (k0_pay6 i (0#32 : BitVec 32) x3 x4) (k0_pay9 x1) k0_pay11 := by
  subst hx
  unfold out0_A_7
  frame_out
  rfl

/-- One grid point stores this of the second moment. -/
theorem out_eq8 : out0_A_8 c i arg3 harg3 arg4 harg4 arg5 harg5 arg6 harg6 arg7 harg7 arg12 harg12 arg13 harg13 arg14 harg14 arg15 harg15 x0 x1 x2 x3 x4 xt0 = k0_pay5 (k0_pay6 i (0#32 : BitVec 32) x3 x4) (k0_pay10 x2) := by
  subst hx
  unfold out0_A_8
  frame_out
  rfl

end Outs

/-- A place of the first layer lies in the block of its rows and lanes. -/
theorem within (i : Shape.Idx ⟨3, ![4, 2048, 2048]⟩) (h0 : (i 0).val = 0) : (i 1).val / 256 * 1 + (i 2).val / 2048 < grid0.N ∧ (0 * 1 ≤ (i 0).val ∧ (i 0).val < 0 * 1 + 1)
    ∧ (((i 1).val / 256 * 1 + (i 2).val / 2048) * 256 ≤ (i 1).val ∧ (i 1).val < ((i 1).val / 256 * 1 + (i 2).val / 2048) * 256 + 256) ∧ (0 * 2048 ≤ (i 2).val ∧ (i 2).val < 0 * 2048 + 2048) := by
  have h1 : (i 1).val < 2048 := (i 1).isLt
  have h2 : (i 2).val < 2048 := (i 2).isLt
  rw [N_0]
  omega

/-- What grid point `t` leaves of the gradient in its block. -/
theorem after5 (hO : Ok m) (c : Dev nD) (t : Fin (cfgM m hO).N) : (dats m hO 0 c).after 5 t = k0_pay7 (F := Ideal) (grid0.coords t) (0#32 : BitVec 32) (iblk m hO c 3 t) (iblk m hO c 4 t) := by
  rw [after0_5]
  dsimp only [outsAt0]
  exact out_eq5 _ _ _ _ _ _ _ _ _ _ _ _ _ _ _ _ _ _ _ _ _ _ _ _ _ _ (congrFun (tbl_eq m) 0)

/-- The result of the gradient: its first layer replaced. -/
def res5 (c : Dev nD) : FVec Ideal ⟨3, ![4, 2048, 2048]⟩ .f32 := over (grad m c) (m (c.tc.loc main_arg5))

/-- The array of the gradient starts as a copy of its argument. -/
theorem start5 (hO : Ok m) (c : Dev nD) : (dats m hO 0 c).A 5 = m (c.tc.loc main_arg5) := by
  rw [A_eq]
  show StableHlo.after hostOps0 _ (Proc.devRef .tc main_v3_0) = _
  after_reads_simp
  rfl

/-- The array of the gradient after the last grid point. -/
theorem final5 (hO : Ok m) (c : Dev nD) : (dats m hO 0 c).arrAt 5 (cfgM m hO).N = res5 m c := by
  refine arrAt_part (dats m hO 0 c) 5 (res5 m c) (fun t hf (y : Shape.Idx ⟨3, ![1, 256, 2048]⟩) => ?_) fun (i : Shape.Idx ⟨3, ![4, 2048, 2048]⟩) => ?_
  · blk_simp
    refine (congrFun (after5 m hO c t) y).trans ?_
    refine ((pay7 _ _ _ _ _).trans (picked m hO c t _ _)).trans (over_top _ _ _ _ _ ?_ ?_ ?_).symm
    all_goals blk_simp [idx_val m hO t]
    all_goals first | rfl | (have := (y 0).isLt; omega)
  · by_cases h0 : (i 0).val = 0
    · refine .inl ?_
      obtain ⟨hN, b0, b1, b2⟩ := within i h0
      obtain ⟨t, -, hf, e⟩ := Pipeline.Window.exists_flush_same_index ((cfgM m hO).win 5) rfl (⟨_, hN⟩ : Fin (cfgM m hO).N)
      refine ⟨t, hf, ?_⟩
      have e2 := e.trans (idx_val m hO _).2.2.2.1
      refine (((cfgM m hO).win 5).emb_mem_blk_iff t i rfl).mpr fun (a : Fin 3) => ?_
      refine between (congrFun e2 a) ?_
      fin_cases a
      exacts [b0, b1, b2]
    · exact .inr ((congrFun (start5 m hO c) i).trans (over_rest _ _ _ h0).symm)

/-- What grid point `t` leaves of the step in its block. -/
theorem after6 (hO : Ok m) (c : Dev nD) (t : Fin (cfgM m hO).N) : (dats m hO 0 c).after 6 t = k0_pay3 (k0_pay6 (F := Ideal) (grid0.coords t) (0#32 : BitVec 32) (iblk m hO c 3 t) (iblk m hO c 4 t)) (k0_pay8 (iblk m hO c 0 t)) (k0_pay9 (iblk m hO c 1 t)) (k0_pay10 (iblk m hO c 2 t)) k0_pay11 := by
  rw [after0_6]
  dsimp only [outsAt0]
  exact out_eq6 _ _ _ _ _ _ _ _ _ _ _ _ _ _ _ _ _ _ _ _ _ _ _ _ _ _ (congrFun (tbl_eq m) 0)

/-- The result of the step: its first layer replaced. -/
def res6 (c : Dev nD) : FVec Ideal ⟨3, ![4, 2048, 2048]⟩ .f32 := over (delta (top (m (c.tc.loc main_arg0))) (grad m c) (top (m (c.tc.loc main_arg1))) (top (m (c.tc.loc main_arg2)))) (m (c.tc.loc main_arg6))

/-- The array of the step starts as a copy of its argument. -/
theorem start6 (hO : Ok m) (c : Dev nD) : (dats m hO 0 c).A 6 = m (c.tc.loc main_arg6) := by
  rw [A_eq]
  show StableHlo.after hostOps0 _ (Proc.devRef .tc main_v3_1) = _
  after_reads_simp
  rfl

/-- The array of the step after the last grid point. -/
theorem final6 (hO : Ok m) (c : Dev nD) : (dats m hO 0 c).arrAt 6 (cfgM m hO).N = res6 m c := by
  refine arrAt_part (dats m hO 0 c) 6 (res6 m c) (fun t hf (y : Shape.Idx ⟨3, ![1, 256, 2048]⟩) => ?_) fun (i : Shape.Idx ⟨3, ![4, 2048, 2048]⟩) => ?_
  · blk_simp
    refine (congrFun (after6 m hO c t) y).trans ?_
    refine ((pay3 _ _ _ _ _).trans (delta_at _ _ _ _ _ _ _ _ _ _ (blk0 m hO c t _ _) (picked m hO c t _ _) (blk1 m hO c t _ _) (blk2 m hO c t _ _))).trans (over_top _ _ _ _ _ ?_ ?_ ?_).symm
    all_goals blk_simp [idx_val m hO t]
    all_goals first | rfl | (have := (y 0).isLt; omega)
  · by_cases h0 : (i 0).val = 0
    · refine .inl ?_
      obtain ⟨hN, b0, b1, b2⟩ := within i h0
      obtain ⟨t, -, hf, e⟩ := Pipeline.Window.exists_flush_same_index ((cfgM m hO).win 6) rfl (⟨_, hN⟩ : Fin (cfgM m hO).N)
      refine ⟨t, hf, ?_⟩
      have e2 := e.trans (idx_val m hO _).2.2.2.2.1
      refine (((cfgM m hO).win 6).emb_mem_blk_iff t i rfl).mpr fun (a : Fin 3) => ?_
      refine between (congrFun e2 a) ?_
      fin_cases a
      exacts [b0, b1, b2]
    · exact .inr ((congrFun (start6 m hO c) i).trans (over_rest _ _ _ h0).symm)

/-- What grid point `t` leaves of the first moment in its block. -/
theorem after7 (hO : Ok m) (c : Dev nD) (t : Fin (cfgM m hO).N) : (dats m hO 0 c).after 7 t = k0_pay4 (k0_pay6 (F := Ideal) (grid0.coords t) (0#32 : BitVec 32) (iblk m hO c 3 t) (iblk m hO c 4 t)) (k0_pay9 (iblk m hO c 1 t)) k0_pay11 := by
  rw [after0_7]
  dsimp only [outsAt0]
  exact out_eq7 _ _ _ _ _ _ _ _ _ _ _ _ _ _ _ _ _ _ _ _ _ _ _ _ _ _ (congrFun (tbl_eq m) 0)

/-- The result of the first moment: its first layer replaced. -/
def res7 (c : Dev nD) : FVec Ideal ⟨3, ![4, 2048, 2048]⟩ .f32 := over (newM (grad m c) (top (m (c.tc.loc main_arg1)))) (m (c.tc.loc main_arg7))

/-- The array of the first moment starts as a copy of its argument. -/
theorem start7 (hO : Ok m) (c : Dev nD) : (dats m hO 0 c).A 7 = m (c.tc.loc main_arg7) := by
  rw [A_eq]
  show StableHlo.after hostOps0 _ (Proc.devRef .tc main_v3_2) = _
  after_reads_simp
  rfl

/-- The array of the first moment after the last grid point. -/
theorem final7 (hO : Ok m) (c : Dev nD) : (dats m hO 0 c).arrAt 7 (cfgM m hO).N = res7 m c := by
  refine arrAt_part (dats m hO 0 c) 7 (res7 m c) (fun t hf (y : Shape.Idx ⟨3, ![1, 256, 2048]⟩) => ?_) fun (i : Shape.Idx ⟨3, ![4, 2048, 2048]⟩) => ?_
  · blk_simp
    refine (congrFun (after7 m hO c t) y).trans ?_
    refine ((pay4 _ _ _).trans (newM_at _ _ _ _ _ _ (picked m hO c t _ _) (blk1 m hO c t _ _))).trans (over_top _ _ _ _ _ ?_ ?_ ?_).symm
    all_goals blk_simp [idx_val m hO t]
    all_goals first | rfl | (have := (y 0).isLt; omega)
  · by_cases h0 : (i 0).val = 0
    · refine .inl ?_
      obtain ⟨hN, b0, b1, b2⟩ := within i h0
      obtain ⟨t, -, hf, e⟩ := Pipeline.Window.exists_flush_same_index ((cfgM m hO).win 7) rfl (⟨_, hN⟩ : Fin (cfgM m hO).N)
      refine ⟨t, hf, ?_⟩
      have e2 := e.trans (idx_val m hO _).2.2.2.2.2.1
      refine (((cfgM m hO).win 7).emb_mem_blk_iff t i rfl).mpr fun (a : Fin 3) => ?_
      refine between (congrFun e2 a) ?_
      fin_cases a
      exacts [b0, b1, b2]
    · exact .inr ((congrFun (start7 m hO c) i).trans (over_rest _ _ _ h0).symm)

/-- What grid point `t` leaves of the second moment in its block. -/
theorem after8 (hO : Ok m) (c : Dev nD) (t : Fin (cfgM m hO).N) : (dats m hO 0 c).after 8 t = k0_pay5 (k0_pay6 (F := Ideal) (grid0.coords t) (0#32 : BitVec 32) (iblk m hO c 3 t) (iblk m hO c 4 t)) (k0_pay10 (iblk m hO c 2 t)) := by
  rw [after0_8]
  dsimp only [outsAt0]
  exact out_eq8 _ _ _ _ _ _ _ _ _ _ _ _ _ _ _ _ _ _ _ _ _ _ _ _ _ _ (congrFun (tbl_eq m) 0)

/-- The result of the second moment: its first layer replaced. -/
def res8 (c : Dev nD) : FVec Ideal ⟨3, ![4, 2048, 2048]⟩ .f32 := over (newV (grad m c) (top (m (c.tc.loc main_arg2)))) (m (c.tc.loc main_arg8))

/-- The array of the second moment starts as a copy of its argument. -/
theorem start8 (hO : Ok m) (c : Dev nD) : (dats m hO 0 c).A 8 = m (c.tc.loc main_arg8) := by
  rw [A_eq]
  show StableHlo.after hostOps0 _ (Proc.devRef .tc main_v3_3) = _
  after_reads_simp
  rfl

/-- The array of the second moment after the last grid point. -/
theorem final8 (hO : Ok m) (c : Dev nD) : (dats m hO 0 c).arrAt 8 (cfgM m hO).N = res8 m c := by
  refine arrAt_part (dats m hO 0 c) 8 (res8 m c) (fun t hf (y : Shape.Idx ⟨3, ![1, 256, 2048]⟩) => ?_) fun (i : Shape.Idx ⟨3, ![4, 2048, 2048]⟩) => ?_
  · blk_simp
    refine (congrFun (after8 m hO c t) y).trans ?_
    refine ((pay5 _ _ _).trans (newV_at _ _ _ _ _ _ (picked m hO c t _ _) (blk2 m hO c t _ _))).trans (over_top _ _ _ _ _ ?_ ?_ ?_).symm
    all_goals blk_simp [idx_val m hO t]
    all_goals first | rfl | (have := (y 0).isLt; omega)
  · by_cases h0 : (i 0).val = 0
    · refine .inl ?_
      obtain ⟨hN, b0, b1, b2⟩ := within i h0
      obtain ⟨t, -, hf, e⟩ := Pipeline.Window.exists_flush_same_index ((cfgM m hO).win 8) rfl (⟨_, hN⟩ : Fin (cfgM m hO).N)
      refine ⟨t, hf, ?_⟩
      have e2 := e.trans (idx_val m hO _).2.2.2.2.2.2
      refine (((cfgM m hO).win 8).emb_mem_blk_iff t i rfl).mpr fun (a : Fin 3) => ?_
      refine between (congrFun e2 a) ?_
      fin_cases a
      exacts [b0, b1, b2]
    · exact .inr ((congrFun (start8 m hO c) i).trans (over_rest _ _ _ h0).symm)

end Cert.UUpIdeal.Hand

namespace Cert.UUpRefIdeal.Hand

open Cert.UUpRefIdeal Cert.UUpRefIdeal.Gen Cert.SmallMath Idealize.ShloMosaic Idealize.ShloMosaic.TcCoe Idealize.SL.Sem

/-- The reference's line that puts the two halves together. -/
theorem halves_eq (a b : FVec Ideal ⟨2, ![1024, 2048]⟩ .f32) : concatenate S2048x2048 0 [⟨S1024x2048, a⟩, ⟨S1024x2048, b⟩] concatenates_S1024x2048_S1024x2048_S2048x2048_d0 = halves (n := 2048) (k := 2048) (h := 1024) (by decide) a b := by
  funext (j : Shape.Idx ⟨2, ![2048, 2048]⟩)
  have hj : (j 0).val < 2048 := (j 0).isLt
  by_cases l : (j 0).val < 1024
  · refine (concatenate_pair_apply_left 0 a b _ j rfl (ix2 (n0 := 1024) (n1 := 2048) ⟨_, l⟩ (j 1)) (fun x => by fin_cases x <;> rfl)).trans ?_
    unfold halves; rw [dif_pos l]
  · refine (concatenate_pair_apply_right 0 a b _ j rfl rfl (ix2 (n0 := 1024) (n1 := 2048) ⟨(j 0).val - 1024, by omega⟩ (j 1)) (fun x hx => by fin_cases x <;> first | rfl | exact absurd rfl hx) (show (j 0).val - 1024 + 1024 = (j 0).val by omega)).trans ?_
    unfold halves; rw [dif_neg l]

/-- The reference's line that takes the first layer. -/
theorem top_eq (a : FVec Ideal ⟨3, ![4, 2048, 2048]⟩ .f32) : shapeCast S2048x2048 (extractStridedSlice S1x2048x2048 ![0, 0, 0] a slices_S4x2048x2048_S1x2048x2048_0_0_0) shapeCasts_S1x2048x2048_S2048x2048 = top a := by
  funext (j : Shape.Idx ⟨2, ![2048, 2048]⟩)
  idx_vars j
  pointwise [top]

/-- The reference's line that puts the new first layer before the others. -/
theorem over_eq (a : FVec Ideal ⟨2, ![2048, 2048]⟩ .f32) (rest : FVec Ideal ⟨3, ![4, 2048, 2048]⟩ .f32) : concatenate S4x2048x2048 0 [⟨S1x2048x2048, (broadcastInDim S1x2048x2048 ![1, 2] bcast_S2048x2048_S1x2048x2048_1_2 a)⟩, ⟨S3x2048x2048, (extractStridedSlice S3x2048x2048 ![1, 0, 0] rest slices_S4x2048x2048_S3x2048x2048_1_0_0)⟩] concatenates_S1x2048x2048_S3x2048x2048_S4x2048x2048_d0 = over a rest := by
  funext (j : Shape.Idx ⟨3, ![4, 2048, 2048]⟩)
  have hj : (j 0).val < 4 := (j 0).isLt
  by_cases l : (j 0).val = 0
  · refine (concatenate_pair_apply_left (s₁ := S1x2048x2048) (s₂ := S3x2048x2048) 0 _ _ _ j rfl (ix3 (n0 := 1) (n1 := 2048) (n2 := 2048) 0 (j 1) (j 2)) (fun x => by fin_cases x <;> first | rfl | exact l.symm)).trans ?_
    refine Eq.trans ?_ (over_top a rest j (j 1) (j 2) l rfl rfl).symm
    pointwise []
  · refine (concatenate_pair_apply_right (s₁ := S1x2048x2048) (s₂ := S3x2048x2048) 0 _ _ _ j rfl rfl (ix3 (n0 := 3) (n1 := 2048) (n2 := 2048) ⟨(j 0).val - 1, by omega⟩ (j 1) (j 2)) (fun x hx => by fin_cases x <;> first | rfl | exact absurd rfl hx) (show (j 0).val - 1 + 1 = (j 0).val by omega)).trans ?_
    refine Eq.trans ?_ (over_rest a rest j l).symm
    refine (extractStridedSlice_apply _ _ _ _ j ?_).trans rfl
    intro x
    fin_cases x
    · show (j 0).val = 1 + ((j 0).val - 1); omega
    · exact (Nat.zero_add _).symm
    · exact (Nat.zero_add _).symm

/-- The reference ends with its results at the same functions of the arguments, which it leaves as they were. -/
theorem run_math (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem (c.tc.loc main_v33) = (over (halves (n := 2048) (k := 2048) (h := 1024) (by decide) (m (c.tc.loc main_arg3)) (m (c.tc.loc main_arg4))) (m (c.tc.loc main_arg5)) : FVec Ideal ⟨3, ![4, 2048, 2048]⟩ .f32)
      ∧ r.2.mem (c.tc.loc main_v36) = (over (delta (top (m (c.tc.loc main_arg0))) (halves (n := 2048) (k := 2048) (h := 1024) (by decide) (m (c.tc.loc main_arg3)) (m (c.tc.loc main_arg4))) (top (m (c.tc.loc main_arg1))) (top (m (c.tc.loc main_arg2)))) (m (c.tc.loc main_arg6)) : FVec Ideal ⟨3, ![4, 2048, 2048]⟩ .f32)
      ∧ r.2.mem (c.tc.loc main_v39) = (over (newM (halves (n := 2048) (k := 2048) (h := 1024) (by decide) (m (c.tc.loc main_arg3)) (m (c.tc.loc main_arg4))) (top (m (c.tc.loc main_arg1)))) (m (c.tc.loc main_arg7)) : FVec Ideal ⟨3, ![4, 2048, 2048]⟩ .f32)
      ∧ r.2.mem (c.tc.loc main_v42) = (over (newV (halves (n := 2048) (k := 2048) (h := 1024) (by decide) (m (c.tc.loc main_arg3)) (m (c.tc.loc main_arg4))) (top (m (c.tc.loc main_arg2)))) (m (c.tc.loc main_arg8)) : FVec Ideal ⟨3, ![4, 2048, 2048]⟩ .f32)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)
      ∧ r.2.mem (c.tc.loc main_arg8) = m (c.tc.loc main_arg8) := by
  refine (θ_run _ _ _).mono (fun r h c => ?_) (Cert.UUpRefIdeal.Value.run m ρ)
  obtain ⟨h0, h1, h2, h3, ha⟩ := h c
  refine ⟨h0.trans ?_, h1.trans ?_, h2.trans ?_, h3.trans ?_, ha⟩
  all_goals clear h0 h1 h2 h3 ha h r
  · exact (over_eq _ _).trans (congrArg (fun g => over g _) (halves_eq _ _))
  · refine (over_eq _ _).trans (congrArg (fun g => over g _) ?_)
    simp only [halves_eq, top_eq]
    rfl
  · refine (over_eq _ _).trans (congrArg (fun g => over g _) ?_)
    simp only [halves_eq, top_eq]
    rfl
  · refine (over_eq _ _).trans (congrArg (fun g => over g _) ?_)
    simp only [halves_eq, top_eq]
    rfl

end Cert.UUpRefIdeal.Hand

namespace Cert.UUpIdeal.Hand

open Cert.SmallMath Idealize.ShloMosaic Idealize.ShloMosaic.TcCoe Idealize.SL.Sem

/-- Kernel and reference, run from memories that agree on the arguments, end with equal results. -/
theorem algebraic : Cert.algebraic_UUpIdeal_UUpRefIdeal := by
  intro m g m' g' _ hag
  refine ⟨fun c => res5 m c, fun c => res6 m c, fun c => res7 m c, fun c => res8 m c, ?_, ?_⟩
  · refine (θ_run _ _ _).mono (fun r h c => ?_) ((θ_run_and (Gen.run_main m g (ok m)) (Gen.unchanged m g (ok m))))
    exact ⟨((h.1 c).1 5).trans (final5 m (ok m) c), ((h.1 c).1 6).trans (final6 m (ok m) c), ((h.1 c).1 7).trans (final7 m (ok m) c), ((h.1 c).1 8).trans (final8 m (ok m) c), h.2 c⟩
  · refine (θ_run _ _ _).mono (fun r h c => ?_) (UUpRefIdeal.Hand.run_math m' g')
    obtain ⟨e0, e1, e2, e3, e4, e5, e6, e7, e8⟩ := hag c
    obtain ⟨h0, h1, h2, h3, ha⟩ := h c
    refine ⟨?_, ?_, ?_, ?_, ha⟩
    · beta_reduce; unfold res5 grad; rw [← e3, ← e4, ← e5]; exact h0
    · beta_reduce; unfold res6 grad; rw [← e0, ← e1, ← e2, ← e3, ← e4, ← e6]; exact h1
    · beta_reduce; unfold res7 grad; rw [← e1, ← e3, ← e4, ← e7]; exact h2
    · beta_reduce; unfold res8 grad; rw [← e2, ← e3, ← e4, ← e8]; exact h3

/-- The reference runs and leaves its arguments and every counter as they were. -/
theorem ref_frame : Cert.quiescent_UUpRefIdeal := by
  intro m g _
  exact (θ_run _ _ _).mono (fun r h => ⟨fun c => (h c).2.2.2.2, sem_eq_zero_of_no_sems (by decide) r.2⟩) (UUpRefIdeal.Hand.run_math m g)

end Cert.UUpIdeal.Hand

end
-- ==== Proof.UInStep.lean ====
/- The optimiser's call on the first layer of the joint projection: kernel and reference both take the gradient from its two halves and replace the first layer of each result. -/
module

public import proofs.«01_k».proof.Defs
public import proofs.«01_k».proof.Proof.StepMath
public import proofs.«01_k».proof.Proof.Gen.UIn.Frame
public import proofs.«01_k».proof.Proof.Gen.UInIdeal.Frame
public import proofs.«01_k».proof.Proof.Gen.UInRefIdeal.Run
public import Idealize.ShloMosaic.Lib.Tactic.CleanTypes
public import Idealize.ShloMosaic.Lib.Claim
public import Idealize.ShloMosaic.Lib.Pipeline.Covers

@[expose] public section

set_option maxRecDepth 16384

noncomputable section

namespace Cert.UIn.Hand

open Cert.UIn Cert.UIn.Gen Idealize.ShloMosaic Idealize.ShloMosaic.TcCoe Idealize.SL.Sem

/-- The table that holds a zero. -/
def table : pre0.Contents (Elt Bits) | 0 => fun _ => (0#32 : BitVec 32)

/-- The place that the kernel reads is zero. -/
theorem tbl_eq (m : (ℓ : Loc nD τ sig) → Buf (Elt Bits) ℓ) : tbl m = table := by
  funext j
  obtain rfl : j = 0 := Subsingleton.elim (α := Fin 1) j 0
  funext i
  show StableHlo.after hostOps0 _ (Proc.devRef .tc main_v0) i = _
  after_reads_simp
  rfl

/-- So every block lies inside its array. -/
theorem ok (m : (ℓ : Loc nD τ sig) → Buf (Elt Bits) ℓ) : Ok m := by
  show ok0 (tbl m)
  rw [tbl_eq]
  decide +kernel

end Cert.UIn.Hand

namespace Cert.UInIdeal.Hand

open Cert.UInIdeal Cert.UInIdeal.Gen Cert.SmallMath Idealize.ShloMosaic Idealize.ShloMosaic.TcCoe Idealize.SL.Sem

/-- The table that holds a zero. -/
def table : pre0.Contents (Elt Ideal) | 0 => fun _ => (0#32 : BitVec 32)

/-- The place that the kernel reads is zero. -/
theorem tbl_eq (m : (ℓ : Loc nD τ sig) → Buf (Elt Ideal) ℓ) : tbl m = table := by
  funext j
  obtain rfl : j = 0 := Subsingleton.elim (α := Fin 1) j 0
  funext i
  show StableHlo.after hostOps0 _ (Proc.devRef .tc main_v0) i = _
  after_reads_simp
  rfl

/-- So every block lies inside its array. -/
theorem ok (m : (ℓ : Loc nD τ sig) → Buf (Elt Ideal) ℓ) : Ok m := by
  show ok0 (tbl m)
  rw [tbl_eq]
  decide +kernel

variable (m : (ℓ : Loc nD τ sig) → Buf (Elt Ideal) ℓ)

/-- Which block of its array each window of whole layers holds at grid point `t`. -/
theorem idx_val (hO : Ok m) : ∀ t : Fin (cfgM m hO).N, ((cfgM m hO).win 0).index t = ![0, t.val / 2, t.val % 2] ∧ ((cfgM m hO).win 1).index t = ![0, t.val / 2, t.val % 2] ∧ ((cfgM m hO).win 2).index t = ![0, t.val / 2, t.val % 2]
    ∧ ((cfgM m hO).win 5).index t = ![0, t.val / 2, t.val % 2] ∧ ((cfgM m hO).win 6).index t = ![0, t.val / 2, t.val % 2] ∧ ((cfgM m hO).win 7).index t = ![0, t.val / 2, t.val % 2] ∧ ((cfgM m hO).win 8).index t = ![0, t.val / 2, t.val % 2] := by
  have h : ∀ t : Fin grid0.N, cc0_transform_0 (grid0.coords t) = ![0, t.val / 2, t.val % 2] ∧ cc0_transform_1 (grid0.coords t) = ![0, t.val / 2, t.val % 2] ∧ cc0_transform_2 (grid0.coords t) = ![0, t.val / 2, t.val % 2]
    ∧ cc0_transform_9 (grid0.coords t) = ![0, t.val / 2, t.val % 2] ∧ cc0_transform_10 (grid0.coords t) = ![0, t.val / 2, t.val % 2] ∧ cc0_transform_11 (grid0.coords t) = ![0, t.val / 2, t.val % 2] ∧ cc0_transform_12 (grid0.coords t) = ![0, t.val / 2, t.val % 2] := by
    decide +kernel
  exact h

/-- Which block of the device's own half of the gradient is held while that half is stepped. -/
theorem idx_mine (hO : Ok m) : ∀ t : Fin (cfgM m hO).N, t.val < 8 → ((cfgM m hO).win 3).index t = ![t.val / 2, t.val % 2] := by
  have h : ∀ t : Fin grid0.N, t.val < 8 → cc0_transform_3 inb_S1_S1_0 numel1_S1 (tbl m) (grid0.coords t) = ![t.val / 2, t.val % 2] := by
    rw [tbl_eq]; decide +kernel
  exact h

/-- Which block of the other core's half of the gradient is held while that half is stepped. -/
theorem idx_sibling (hO : Ok m) : ∀ t : Fin (cfgM m hO).N, ¬ t.val < 8 → ((cfgM m hO).win 4).index t = ![t.val / 2 - 4, t.val % 2] := by
  have h : ∀ t : Fin grid0.N, ¬ t.val < 8 → cc0_transform_4 inb_S1_S1_0 numel1_S1 (tbl m) (grid0.coords t) = ![t.val / 2 - 4, t.val % 2] := by
    rw [tbl_eq]; decide +kernel
  exact h

/-- Which half the kernel takes the block of the gradient from. -/
theorem pick (a b : FVec Ideal ⟨2, ![256, 1664]⟩ .f32) : ∀ t : Fin grid0.N, k0_pay6 (F := Ideal) (grid0.coords t) (0#32 : BitVec 32) a b = if t.val < 8 then a else b := by
  intro t
  rcases fin_N0 t with rfl | rfl | rfl | rfl | rfl | rfl | rfl | rfl | rfl | rfl | rfl | rfl | rfl | rfl | rfl | rfl <;> rfl

/-- The first half of the grid takes the device's own half. -/
theorem pick_mine (a b : FVec Ideal ⟨2, ![256, 1664]⟩ .f32) (t : Fin grid0.N) (ht : t.val < 8) : k0_pay6 (F := Ideal) (grid0.coords t) (0#32 : BitVec 32) a b = a :=
  (pick a b t).trans (if_pos ht)

/-- The second half of the grid takes the other core's half. -/
theorem pick_sibling (a b : FVec Ideal ⟨2, ![256, 1664]⟩ .f32) (t : Fin grid0.N) (ht : ¬ t.val < 8) : k0_pay6 (F := Ideal) (grid0.coords t) (0#32 : BitVec 32) a b = b :=
  (pick a b t).trans (if_neg ht)

/-- The stored block of the gradient. -/
theorem pay7 (i : grid0.Coords) (x : Elt Ideal .i32) (a b : FVec Ideal ⟨2, ![256, 1664]⟩ .f32) (y : Shape.Idx ⟨3, ![1, 256, 1664]⟩) : k0_pay7 (F := Ideal) i x a b y = k0_pay6 (F := Ideal) i x a b (ix2 (n0 := 256) (n1 := 1664) (y 1) (y 2)) := by
  unfold k0_pay7
  generalize k0_pay6 (F := Ideal) i x a b = g
  idx_vars y
  pointwise []

/-- A block of one layer, as an array of two axes. -/
def flat (a : FVec Ideal ⟨3, ![1, 256, 1664]⟩ .f32) : FVec Ideal ⟨2, ![256, 1664]⟩ .f32 := fun j => a (ix3 (n0 := 1) (n1 := 256) (n2 := 1664) 0 (j 0) (j 1))

/-- The stored block of the step. -/
theorem pay3 (g : FVec Ideal ⟨2, ![256, 1664]⟩ .f32) (w mu nu : FVec Ideal ⟨3, ![1, 256, 1664]⟩ .f32) (y : Shape.Idx ⟨3, ![1, 256, 1664]⟩) :
    k0_pay3 (F := Ideal) g (k0_pay8 w) (k0_pay9 mu) (k0_pay10 nu) k0_pay11 y = delta (flat w) g (flat mu) (flat nu) (ix2 (n0 := 256) (n1 := 1664) (y 1) (y 2)) := by
  idx_vars y
  pointwise [k0_pay3, k0_pay2, k0_pay1, k0_pay8, k0_pay9, k0_pay10, k0_pay11, delta, newM, newV, flat]

/-- The stored block of the first moment. -/
theorem pay4 (g : FVec Ideal ⟨2, ![256, 1664]⟩ .f32) (mu : FVec Ideal ⟨3, ![1, 256, 1664]⟩ .f32) (y : Shape.Idx ⟨3, ![1, 256, 1664]⟩) :
    k0_pay4 (F := Ideal) g (k0_pay9 mu) k0_pay11 y = newM g (flat mu) (ix2 (n0 := 256) (n1 := 1664) (y 1) (y 2)) := by
  idx_vars y
  pointwise [k0_pay4, k0_pay1, k0_pay9, k0_pay11, newM, flat]

/-- The stored block of the second moment. -/
theorem pay5 (g : FVec Ideal ⟨2, ![256, 1664]⟩ .f32) (nu : FVec Ideal ⟨3, ![1, 256, 1664]⟩ .f32) (y : Shape.Idx ⟨3, ![1, 256, 1664]⟩) :
    k0_pay5 (F := Ideal) g (k0_pay10 nu) y = newV g (flat nu) (ix2 (n0 := 256) (n1 := 1664) (y 1) (y 2)) := by
  idx_vars y
  pointwise [k0_pay5, k0_pay2, k0_pay10, newV, flat]

/-- A row of a block is a row of its layer. -/
theorem row_lt (hO : Ok m) (t : Fin (cfgM m hO).N) (r : Fin 256) : (t.val / 2) * 256 + r.val < 2048 := by
  have := lt_of_lt_of_eq t.isLt N_0; omega
/-- A lane of a block is a lane of its layer. -/
theorem col_lt (hO : Ok m) (t : Fin (cfgM m hO).N) (l : Fin 1664) : (t.val % 2) * 1664 + l.val < 3328 := by
  have := lt_of_lt_of_eq t.isLt N_0; omega

/-- The place in the layer of a place in a block. -/
def at_ (hO : Ok m) (t : Fin (cfgM m hO).N) (r : Fin 256) (l : Fin 1664) : Shape.Idx ⟨2, ![2048, 3328]⟩ := ix2 (n0 := 2048) (n1 := 3328) ⟨_, row_lt m hO t r⟩ ⟨_, col_lt m hO t l⟩

section Blocks
variable (hO : Ok m) (c : Dev nD) (t : Fin (cfgM m hO).N)

/-- The block of the weight is a block of its first layer. -/
theorem blk0 (r : Fin 256) (l : Fin 1664) : flat (iblk m hO c 0 t) (ix2 (n0 := 256) (n1 := 1664) r l) = top (m (c.tc.loc main_arg0) : FVec Ideal ⟨3, ![4, 2048, 3328]⟩ .f32) (at_ m hO t r l) := by
  rw [← V_main_arg0 m c]
  show iblk m hO c 0 t (ix3 (n0 := 1) (n1 := 256) (n2 := 1664) 0 r l) = (V m c main_arg0) (ix3 (n0 := 4) (n1 := 2048) (n2 := 3328) 0 ⟨_, row_lt m hO t r⟩ ⟨_, col_lt m hO t l⟩)
  blk_point [iblk, idx_val m hO t]

/-- The block of the first moment is a block of its first layer. -/
theorem blk1 (r : Fin 256) (l : Fin 1664) : flat (iblk m hO c 1 t) (ix2 (n0 := 256) (n1 := 1664) r l) = top (m (c.tc.loc main_arg1) : FVec Ideal ⟨3, ![4, 2048, 3328]⟩ .f32) (at_ m hO t r l) := by
  rw [← V_main_arg1 m c]
  show iblk m hO c 1 t (ix3 (n0 := 1) (n1 := 256) (n2 := 1664) 0 r l) = (V m c main_arg1) (ix3 (n0 := 4) (n1 := 2048) (n2 := 3328) 0 ⟨_, row_lt m hO t r⟩ ⟨_, col_lt m hO t l⟩)
  blk_point [iblk, idx_val m hO t]

/-- The block of the second moment is a block of its first layer. -/
theorem blk2 (r : Fin 256) (l : Fin 1664) : flat (iblk m hO c 2 t) (ix2 (n0 := 256) (n1 := 1664) r l) = top (m (c.tc.loc main_arg2) : FVec Ideal ⟨3, ![4, 2048, 3328]⟩ .f32) (at_ m hO t r l) := by
  rw [← V_main_arg2 m c]
  show iblk m hO c 2 t (ix3 (n0 := 1) (n1 := 256) (n2 := 1664) 0 r l) = (V m c main_arg2) (ix3 (n0 := 4) (n1 := 2048) (n2 := 3328) 0 ⟨_, row_lt m hO t r⟩ ⟨_, col_lt m hO t l⟩)
  blk_point [iblk, idx_val m hO t]

/-- The block of the device's own half is rows of it. -/
theorem blk3 (ht : t.val < 8) (r : Fin 256) (l : Fin 1664) (R : Fin 1024) (C : Fin 3328) (hR : R.val = (t.val / 2) * 256 + r.val) (hC : C.val = (t.val % 2) * 1664 + l.val) : iblk m hO c 3 t (ix2 r l) = m (c.tc.loc main_arg3) (ix2 R C) := by
  rw [← V_main_arg3 m c]
  blk_point [iblk, idx_mine m hO t ht]
/-- The block of the other core's half is rows of it. -/
theorem blk4 (ht : ¬ t.val < 8) (r : Fin 256) (l : Fin 1664) (R : Fin 1024) (C : Fin 3328) (hR : R.val = (t.val / 2 - 4) * 256 + r.val) (hC : C.val = (t.val % 2) * 1664 + l.val) : iblk m hO c 4 t (ix2 r l) = m (c.tc.loc main_arg4) (ix2 R C) := by
  rw [← V_main_arg4 m c]
  blk_point [iblk, idx_sibling m hO t ht]

/-- The whole gradient. -/
def grad (c : Dev nD) : FVec Ideal ⟨2, ![2048, 3328]⟩ .f32 := halves (n := 2048) (k := 3328) (h := 1024) (by decide) (m (c.tc.loc main_arg3)) (m (c.tc.loc main_arg4))

/-- The block that the kernel picks is a block of the whole gradient. -/
theorem picked (r : Fin 256) (l : Fin 1664) : k0_pay6 (F := Ideal) (grid0.coords t) (0#32 : BitVec 32) (iblk m hO c 3 t) (iblk m hO c 4 t) (ix2 (n0 := 256) (n1 := 1664) r l) = grad m c (at_ m hO t r l) := by
  have hN := lt_of_lt_of_eq t.isLt N_0
  by_cases ht : t.val < 8
  · refine (congrFun (pick_mine _ _ t ht) _).trans ?_
    refine (blk3 m hO c t ht r l ⟨(t.val / 2) * 256 + r.val, by omega⟩ ⟨_, col_lt m hO t l⟩ rfl rfl).trans ?_
    exact (halves_up (n := 2048) (k := 3328) (h := 1024) (by decide) _ _ _ _ _ rfl).symm
  · refine (congrFun (pick_sibling _ _ t ht) _).trans ?_
    refine (blk4 m hO c t ht r l ⟨(t.val / 2 - 4) * 256 + r.val, by omega⟩ ⟨_, col_lt m hO t l⟩ rfl rfl).trans ?_
    exact (halves_down (n := 2048) (k := 3328) (h := 1024) (by decide) _ _ _ _ _ (show (t.val / 2) * 256 + r.val = 1024 + ((t.val / 2 - 4) * 256 + r.val) by omega)).symm

end Blocks

section Outs
variable (c : Dev nD) (i : grid0.Coords) (arg3 : Memref sig .tc .vmem S1x256x1664 .f32) (harg3 : arg3.IsWhole) (arg4 : Memref sig .tc .vmem S1x256x1664 .f32) (harg4 : arg4.IsWhole) (arg5 : Memref sig .tc .vmem S1x256x1664 .f32) (harg5 : arg5.IsWhole) (arg6 : Memref sig .tc .vmem S256x1664 .f32) (harg6 : arg6.IsWhole) (arg7 : Memref sig .tc .vmem S256x1664 .f32) (harg7 : arg7.IsWhole) (arg12 : Memref sig .tc .vmem S1x256x1664 .f32) (harg12 : arg12.IsWhole) (arg13 : Memref sig .tc .vmem S1x256x1664 .f32) (harg13 : arg13.IsWhole) (arg14 : Memref sig .tc .vmem S1x256x1664 .f32) (harg14 : arg14.IsWhole) (arg15 : Memref sig .tc .vmem S1x256x1664 .f32) (harg15 : arg15.IsWhole) (x0 x1 x2 : Vec Ideal S1x256x1664 .f32) (x3 x4 : Vec Ideal S256x1664 .f32) (xt0 : TbBuf0 (F := Ideal) c tbM0_0) (hx : xt0 = table 0)
include hx

/-- One grid point stores this of the gradient. -/
theorem out_eq5 : out0_A_5 c i arg3 harg3 arg4 harg4 arg5 harg5 arg6 harg6 arg7 harg7 arg12 harg12 arg13 harg13 arg14 harg14 arg15 harg15 x0 x1 x2 x3 x4 xt0 = k0_pay7 i (0#32 : BitVec 32) x3 x4 := by
  subst hx
  unfold out0_A_5
  frame_out
  rfl

/-- One grid point stores this of the step. -/
theorem out_eq6 : out0_A_6 c i arg3 harg3 arg4 harg4 arg5 harg5 arg6 harg6 arg7 harg7 arg12 harg12 arg13 harg13 arg14 harg14 arg15 harg15 x0 x1 x2 x3 x4 xt0 = k0_pay3 (k0_pay6 i (0#32 : BitVec 32) x3 x4) (k0_pay8 x0) (k0_pay9 x1) (k0_pay10 x2) k0_pay11 := by
  subst hx
  unfold out0_A_6
  frame_out
  rfl

/-- One grid point stores this of the first moment. -/
theorem out_eq7 : out0_A_7 c i arg3 harg3 arg4 harg4 arg5 harg5 arg6 harg6 arg7 harg7 arg12 harg12 arg13 harg13 arg14 harg14 arg15 harg15 x0 x1 x2 x3 x4 xt0 = k0_pay4 (k0_pay6 i (0#32 : BitVec 32) x3 x4) (k0_pay9 x1) k0_pay11 := by
  subst hx
  unfold out0_A_7
  frame_out
  rfl

/-- One grid point stores this of the second moment. -/
theorem out_eq8 : out0_A_8 c i arg3 harg3 arg4 harg4 arg5 harg5 arg6 harg6 arg7 harg7 arg12 harg12 arg13 harg13 arg14 harg14 arg15 harg15 x0 x1 x2 x3 x4 xt0 = k0_pay5 (k0_pay6 i (0#32 : BitVec 32) x3 x4) (k0_pay10 x2) := by
  subst hx
  unfold out0_A_8
  frame_out
  rfl

end Outs

/-- A place of the first layer lies in the block of its rows and lanes. -/
theorem within (i : Shape.Idx ⟨3, ![4, 2048, 3328]⟩) (h0 : (i 0).val = 0) : (i 1).val / 256 * 2 + (i 2).val / 1664 < grid0.N ∧ (0 * 1 ≤ (i 0).val ∧ (i 0).val < 0 * 1 + 1)
    ∧ ((((i 1).val / 256 * 2 + (i 2).val / 1664) / 2) * 256 ≤ (i 1).val ∧ (i 1).val < (((i 1).val / 256 * 2 + (i 2).val / 1664) / 2) * 256 + 256) ∧ ((((i 1).val / 256 * 2 + (i 2).val / 1664) % 2) * 1664 ≤ (i 2).val ∧ (i 2).val < (((i 1).val / 256 * 2 + (i 2).val / 1664) % 2) * 1664 + 1664) := by
  have h1 : (i 1).val < 2048 := (i 1).isLt
  have h2 : (i 2).val < 3328 := (i 2).isLt
  rw [N_0]
  omega

/-- What grid point `t` leaves of the gradient in its block. -/
theorem after5 (hO : Ok m) (c : Dev nD) (t : Fin (cfgM m hO).N) : (dats m hO 0 c).after 5 t = k0_pay7 (F := Ideal) (grid0.coords t) (0#32 : BitVec 32) (iblk m hO c 3 t) (iblk m hO c 4 t) := by
  rw [after0_5]
  dsimp only [outsAt0]
  exact out_eq5 _ _ _ _ _ _ _ _ _ _ _ _ _ _ _ _ _ _ _ _ _ _ _ _ _ _ (congrFun (tbl_eq m) 0)

/-- The result of the gradient: its first layer replaced. -/
def res5 (c : Dev nD) : FVec Ideal ⟨3, ![4, 2048, 3328]⟩ .f32 := over (grad m c) (m (c.tc.loc main_arg5))

/-- The array of the gradient starts as a copy of its argument. -/
theorem start5 (hO : Ok m) (c : Dev nD) : (dats m hO 0 c).A 5 = m (c.tc.loc main_arg5) := by
  rw [A_eq]
  show StableHlo.after hostOps0 _ (Proc.devRef .tc main_v3_0) = _
  after_reads_simp
  rfl

/-- The array of the gradient after the last grid point. -/
theorem final5 (hO : Ok m) (c : Dev nD) : (dats m hO 0 c).arrAt 5 (cfgM m hO).N = res5 m c := by
  refine arrAt_part (dats m hO 0 c) 5 (res5 m c) (fun t hf (y : Shape.Idx ⟨3, ![1, 256, 1664]⟩) => ?_) fun (i : Shape.Idx ⟨3, ![4, 2048, 3328]⟩) => ?_
  · blk_simp
    refine (congrFun (after5 m hO c t) y).trans ?_
    refine ((pay7 _ _ _ _ _).trans (picked m hO c t _ _)).trans (over_top _ _ _ _ _ ?_ ?_ ?_).symm
    all_goals blk_simp [idx_val m hO t]
    all_goals first | rfl | (have := (y 0).isLt; omega)
  · by_cases h0 : (i 0).val = 0
    · refine .inl ?_
      obtain ⟨hN, b0, b1, b2⟩ := within i h0
      obtain ⟨t, -, hf, e⟩ := Pipeline.Window.exists_flush_same_index ((cfgM m hO).win 5) rfl (⟨_, hN⟩ : Fin (cfgM m hO).N)
      refine ⟨t, hf, ?_⟩
      have e2 := e.trans (idx_val m hO _).2.2.2.1
      refine (((cfgM m hO).win 5).emb_mem_blk_iff t i rfl).mpr fun (a : Fin 3) => ?_
      refine between (congrFun e2 a) ?_
      fin_cases a
      exacts [b0, b1, b2]
    · exact .inr ((congrFun (start5 m hO c) i).trans (over_rest _ _ _ h0).symm)

/-- What grid point `t` leaves of the step in its block. -/
theorem after6 (hO : Ok m) (c : Dev nD) (t : Fin (cfgM m hO).N) : (dats m hO 0 c).after 6 t = k0_pay3 (k0_pay6 (F := Ideal) (grid0.coords t) (0#32 : BitVec 32) (iblk m hO c 3 t) (iblk m hO c 4 t)) (k0_pay8 (iblk m hO c 0 t)) (k0_pay9 (iblk m hO c 1 t)) (k0_pay10 (iblk m hO c 2 t)) k0_pay11 := by
  rw [after0_6]
  dsimp only [outsAt0]
  exact out_eq6 _ _ _ _ _ _ _ _ _ _ _ _ _ _ _ _ _ _ _ _ _ _ _ _ _ _ (congrFun (tbl_eq m) 0)

/-- The result of the step: its first layer replaced. -/
def res6 (c : Dev nD) : FVec Ideal ⟨3, ![4, 2048, 3328]⟩ .f32 := over (delta (top (m (c.tc.loc main_arg0))) (grad m c) (top (m (c.tc.loc main_arg1))) (top (m (c.tc.loc main_arg2)))) (m (c.tc.loc main_arg6))

/-- The array of the step starts as a copy of its argument. -/
theorem start6 (hO : Ok m) (c : Dev nD) : (dats m hO 0 c).A 6 = m (c.tc.loc main_arg6) := by
  rw [A_eq]
  show StableHlo.after hostOps0 _ (Proc.devRef .tc main_v3_1) = _
  after_reads_simp
  rfl

/-- The array of the step after the last grid point. -/
theorem final6 (hO : Ok m) (c : Dev nD) : (dats m hO 0 c).arrAt 6 (cfgM m hO).N = res6 m c := by
  refine arrAt_part (dats m hO 0 c) 6 (res6 m c) (fun t hf (y : Shape.Idx ⟨3, ![1, 256, 1664]⟩) => ?_) fun (i : Shape.Idx ⟨3, ![4, 2048, 3328]⟩) => ?_
  · blk_simp
    refine (congrFun (after6 m hO c t) y).trans ?_
    refine ((pay3 _ _ _ _ _).trans (delta_at _ _ _ _ _ _ _ _ _ _ (blk0 m hO c t _ _) (picked m hO c t _ _) (blk1 m hO c t _ _) (blk2 m hO c t _ _))).trans (over_top _ _ _ _ _ ?_ ?_ ?_).symm
    all_goals blk_simp [idx_val m hO t]
    all_goals first | rfl | (have := (y 0).isLt; omega)
  · by_cases h0 : (i 0).val = 0
    · refine .inl ?_
      obtain ⟨hN, b0, b1, b2⟩ := within i h0
      obtain ⟨t, -, hf, e⟩ := Pipeline.Window.exists_flush_same_index ((cfgM m hO).win 6) rfl (⟨_, hN⟩ : Fin (cfgM m hO).N)
      refine ⟨t, hf, ?_⟩
      have e2 := e.trans (idx_val m hO _).2.2.2.2.1
      refine (((cfgM m hO).win 6).emb_mem_blk_iff t i rfl).mpr fun (a : Fin 3) => ?_
      refine between (congrFun e2 a) ?_
      fin_cases a
      exacts [b0, b1, b2]
    · exact .inr ((congrFun (start6 m hO c) i).trans (over_rest _ _ _ h0).symm)

/-- What grid point `t` leaves of the first moment in its block. -/
theorem after7 (hO : Ok m) (c : Dev nD) (t : Fin (cfgM m hO).N) : (dats m hO 0 c).after 7 t = k0_pay4 (k0_pay6 (F := Ideal) (grid0.coords t) (0#32 : BitVec 32) (iblk m hO c 3 t) (iblk m hO c 4 t)) (k0_pay9 (iblk m hO c 1 t)) k0_pay11 := by
  rw [after0_7]
  dsimp only [outsAt0]
  exact out_eq7 _ _ _ _ _ _ _ _ _ _ _ _ _ _ _ _ _ _ _ _ _ _ _ _ _ _ (congrFun (tbl_eq m) 0)

/-- The result of the first moment: its first layer replaced. -/
def res7 (c : Dev nD) : FVec Ideal ⟨3, ![4, 2048, 3328]⟩ .f32 := over (newM (grad m c) (top (m (c.tc.loc main_arg1)))) (m (c.tc.loc main_arg7))

/-- The array of the first moment starts as a copy of its argument. -/
theorem start7 (hO : Ok m) (c : Dev nD) : (dats m hO 0 c).A 7 = m (c.tc.loc main_arg7) := by
  rw [A_eq]
  show StableHlo.after hostOps0 _ (Proc.devRef .tc main_v3_2) = _
  after_reads_simp
  rfl

/-- The array of the first moment after the last grid point. -/
theorem final7 (hO : Ok m) (c : Dev nD) : (dats m hO 0 c).arrAt 7 (cfgM m hO).N = res7 m c := by
  refine arrAt_part (dats m hO 0 c) 7 (res7 m c) (fun t hf (y : Shape.Idx ⟨3, ![1, 256, 1664]⟩) => ?_) fun (i : Shape.Idx ⟨3, ![4, 2048, 3328]⟩) => ?_
  · blk_simp
    refine (congrFun (after7 m hO c t) y).trans ?_
    refine ((pay4 _ _ _).trans (newM_at _ _ _ _ _ _ (picked m hO c t _ _) (blk1 m hO c t _ _))).trans (over_top _ _ _ _ _ ?_ ?_ ?_).symm
    all_goals blk_simp [idx_val m hO t]
    all_goals first | rfl | (have := (y 0).isLt; omega)
  · by_cases h0 : (i 0).val = 0
    · refine .inl ?_
      obtain ⟨hN, b0, b1, b2⟩ := within i h0
      obtain ⟨t, -, hf, e⟩ := Pipeline.Window.exists_flush_same_index ((cfgM m hO).win 7) rfl (⟨_, hN⟩ : Fin (cfgM m hO).N)
      refine ⟨t, hf, ?_⟩
      have e2 := e.trans (idx_val m hO _).2.2.2.2.2.1
      refine (((cfgM m hO).win 7).emb_mem_blk_iff t i rfl).mpr fun (a : Fin 3) => ?_
      refine between (congrFun e2 a) ?_
      fin_cases a
      exacts [b0, b1, b2]
    · exact .inr ((congrFun (start7 m hO c) i).trans (over_rest _ _ _ h0).symm)

/-- What grid point `t` leaves of the second moment in its block. -/
theorem after8 (hO : Ok m) (c : Dev nD) (t : Fin (cfgM m hO).N) : (dats m hO 0 c).after 8 t = k0_pay5 (k0_pay6 (F := Ideal) (grid0.coords t) (0#32 : BitVec 32) (iblk m hO c 3 t) (iblk m hO c 4 t)) (k0_pay10 (iblk m hO c 2 t)) := by
  rw [after0_8]
  dsimp only [outsAt0]
  exact out_eq8 _ _ _ _ _ _ _ _ _ _ _ _ _ _ _ _ _ _ _ _ _ _ _ _ _ _ (congrFun (tbl_eq m) 0)

/-- The result of the second moment: its first layer replaced. -/
def res8 (c : Dev nD) : FVec Ideal ⟨3, ![4, 2048, 3328]⟩ .f32 := over (newV (grad m c) (top (m (c.tc.loc main_arg2)))) (m (c.tc.loc main_arg8))

/-- The array of the second moment starts as a copy of its argument. -/
theorem start8 (hO : Ok m) (c : Dev nD) : (dats m hO 0 c).A 8 = m (c.tc.loc main_arg8) := by
  rw [A_eq]
  show StableHlo.after hostOps0 _ (Proc.devRef .tc main_v3_3) = _
  after_reads_simp
  rfl

/-- The array of the second moment after the last grid point. -/
theorem final8 (hO : Ok m) (c : Dev nD) : (dats m hO 0 c).arrAt 8 (cfgM m hO).N = res8 m c := by
  refine arrAt_part (dats m hO 0 c) 8 (res8 m c) (fun t hf (y : Shape.Idx ⟨3, ![1, 256, 1664]⟩) => ?_) fun (i : Shape.Idx ⟨3, ![4, 2048, 3328]⟩) => ?_
  · blk_simp
    refine (congrFun (after8 m hO c t) y).trans ?_
    refine ((pay5 _ _ _).trans (newV_at _ _ _ _ _ _ (picked m hO c t _ _) (blk2 m hO c t _ _))).trans (over_top _ _ _ _ _ ?_ ?_ ?_).symm
    all_goals blk_simp [idx_val m hO t]
    all_goals first | rfl | (have := (y 0).isLt; omega)
  · by_cases h0 : (i 0).val = 0
    · refine .inl ?_
      obtain ⟨hN, b0, b1, b2⟩ := within i h0
      obtain ⟨t, -, hf, e⟩ := Pipeline.Window.exists_flush_same_index ((cfgM m hO).win 8) rfl (⟨_, hN⟩ : Fin (cfgM m hO).N)
      refine ⟨t, hf, ?_⟩
      have e2 := e.trans (idx_val m hO _).2.2.2.2.2.2
      refine (((cfgM m hO).win 8).emb_mem_blk_iff t i rfl).mpr fun (a : Fin 3) => ?_
      refine between (congrFun e2 a) ?_
      fin_cases a
      exacts [b0, b1, b2]
    · exact .inr ((congrFun (start8 m hO c) i).trans (over_rest _ _ _ h0).symm)

end Cert.UInIdeal.Hand

namespace Cert.UInRefIdeal.Hand

open Cert.UInRefIdeal Cert.UInRefIdeal.Gen Cert.SmallMath Idealize.ShloMosaic Idealize.ShloMosaic.TcCoe Idealize.SL.Sem

/-- The reference's line that puts the two halves together. -/
theorem halves_eq (a b : FVec Ideal ⟨2, ![1024, 3328]⟩ .f32) : concatenate S2048x3328 0 [⟨S1024x3328, a⟩, ⟨S1024x3328, b⟩] concatenates_S1024x3328_S1024x3328_S2048x3328_d0 = halves (n := 2048) (k := 3328) (h := 1024) (by decide) a b := by
  funext (j : Shape.Idx ⟨2, ![2048, 3328]⟩)
  have hj : (j 0).val < 2048 := (j 0).isLt
  by_cases l : (j 0).val < 1024
  · refine (concatenate_pair_apply_left 0 a b _ j rfl (ix2 (n0 := 1024) (n1 := 3328) ⟨_, l⟩ (j 1)) (fun x => by fin_cases x <;> rfl)).trans ?_
    unfold halves; rw [dif_pos l]
  · refine (concatenate_pair_apply_right 0 a b _ j rfl rfl (ix2 (n0 := 1024) (n1 := 3328) ⟨(j 0).val - 1024, by omega⟩ (j 1)) (fun x hx => by fin_cases x <;> first | rfl | exact absurd rfl hx) (show (j 0).val - 1024 + 1024 = (j 0).val by omega)).trans ?_
    unfold halves; rw [dif_neg l]

/-- The reference's line that takes the first layer. -/
theorem top_eq (a : FVec Ideal ⟨3, ![4, 2048, 3328]⟩ .f32) : shapeCast S2048x3328 (extractStridedSlice S1x2048x3328 ![0, 0, 0] a slices_S4x2048x3328_S1x2048x3328_0_0_0) shapeCasts_S1x2048x3328_S2048x3328 = top a := by
  funext (j : Shape.Idx ⟨2, ![2048, 3328]⟩)
  idx_vars j
  pointwise [top]

/-- The reference's line that puts the new first layer before the others. -/
theorem over_eq (a : FVec Ideal ⟨2, ![2048, 3328]⟩ .f32) (rest : FVec Ideal ⟨3, ![4, 2048, 3328]⟩ .f32) : concatenate S4x2048x3328 0 [⟨S1x2048x3328, (broadcastInDim S1x2048x3328 ![1, 2] bcast_S2048x3328_S1x2048x3328_1_2 a)⟩, ⟨S3x2048x3328, (extractStridedSlice S3x2048x3328 ![1, 0, 0] rest slices_S4x2048x3328_S3x2048x3328_1_0_0)⟩] concatenates_S1x2048x3328_S3x2048x3328_S4x2048x3328_d0 = over a rest := by
  funext (j : Shape.Idx ⟨3, ![4, 2048, 3328]⟩)
  have hj : (j 0).val < 4 := (j 0).isLt
  by_cases l : (j 0).val = 0
  · refine (concatenate_pair_apply_left (s₁ := S1x2048x3328) (s₂ := S3x2048x3328) 0 _ _ _ j rfl (ix3 (n0 := 1) (n1 := 2048) (n2 := 3328) 0 (j 1) (j 2)) (fun x => by fin_cases x <;> first | rfl | exact l.symm)).trans ?_
    refine Eq.trans ?_ (over_top a rest j (j 1) (j 2) l rfl rfl).symm
    pointwise []
  · refine (concatenate_pair_apply_right (s₁ := S1x2048x3328) (s₂ := S3x2048x3328) 0 _ _ _ j rfl rfl (ix3 (n0 := 3) (n1 := 2048) (n2 := 3328) ⟨(j 0).val - 1, by omega⟩ (j 1) (j 2)) (fun x hx => by fin_cases x <;> first | rfl | exact absurd rfl hx) (show (j 0).val - 1 + 1 = (j 0).val by omega)).trans ?_
    refine Eq.trans ?_ (over_rest a rest j l).symm
    refine (extractStridedSlice_apply _ _ _ _ j ?_).trans rfl
    intro x
    fin_cases x
    · show (j 0).val = 1 + ((j 0).val - 1); omega
    · exact (Nat.zero_add _).symm
    · exact (Nat.zero_add _).symm

/-- The reference ends with its results at the same functions of the arguments, which it leaves as they were. -/
theorem run_math (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem (c.tc.loc main_v33) = (over (halves (n := 2048) (k := 3328) (h := 1024) (by decide) (m (c.tc.loc main_arg3)) (m (c.tc.loc main_arg4))) (m (c.tc.loc main_arg5)) : FVec Ideal ⟨3, ![4, 2048, 3328]⟩ .f32)
      ∧ r.2.mem (c.tc.loc main_v36) = (over (delta (top (m (c.tc.loc main_arg0))) (halves (n := 2048) (k := 3328) (h := 1024) (by decide) (m (c.tc.loc main_arg3)) (m (c.tc.loc main_arg4))) (top (m (c.tc.loc main_arg1))) (top (m (c.tc.loc main_arg2)))) (m (c.tc.loc main_arg6)) : FVec Ideal ⟨3, ![4, 2048, 3328]⟩ .f32)
      ∧ r.2.mem (c.tc.loc main_v39) = (over (newM (halves (n := 2048) (k := 3328) (h := 1024) (by decide) (m (c.tc.loc main_arg3)) (m (c.tc.loc main_arg4))) (top (m (c.tc.loc main_arg1)))) (m (c.tc.loc main_arg7)) : FVec Ideal ⟨3, ![4, 2048, 3328]⟩ .f32)
      ∧ r.2.mem (c.tc.loc main_v42) = (over (newV (halves (n := 2048) (k := 3328) (h := 1024) (by decide) (m (c.tc.loc main_arg3)) (m (c.tc.loc main_arg4))) (top (m (c.tc.loc main_arg2)))) (m (c.tc.loc main_arg8)) : FVec Ideal ⟨3, ![4, 2048, 3328]⟩ .f32)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)
      ∧ r.2.mem (c.tc.loc main_arg8) = m (c.tc.loc main_arg8) := by
  refine (θ_run _ _ _).mono (fun r h c => ?_) (Cert.UInRefIdeal.Value.run m ρ)
  obtain ⟨h0, h1, h2, h3, ha⟩ := h c
  refine ⟨h0.trans ?_, h1.trans ?_, h2.trans ?_, h3.trans ?_, ha⟩
  all_goals clear h0 h1 h2 h3 ha h r
  · exact (over_eq _ _).trans (congrArg (fun g => over g _) (halves_eq _ _))
  · refine (over_eq _ _).trans (congrArg (fun g => over g _) ?_)
    simp only [halves_eq, top_eq]
    rfl
  · refine (over_eq _ _).trans (congrArg (fun g => over g _) ?_)
    simp only [halves_eq, top_eq]
    rfl
  · refine (over_eq _ _).trans (congrArg (fun g => over g _) ?_)
    simp only [halves_eq, top_eq]
    rfl

end Cert.UInRefIdeal.Hand

namespace Cert.UInIdeal.Hand

open Cert.SmallMath Idealize.ShloMosaic Idealize.ShloMosaic.TcCoe Idealize.SL.Sem

/-- Kernel and reference, run from memories that agree on the arguments, end with equal results. -/
theorem algebraic : Cert.algebraic_UInIdeal_UInRefIdeal := by
  intro m g m' g' _ hag
  refine ⟨fun c => res5 m c, fun c => res6 m c, fun c => res7 m c, fun c => res8 m c, ?_, ?_⟩
  · refine (θ_run _ _ _).mono (fun r h c => ?_) ((θ_run_and (Gen.run_main m g (ok m)) (Gen.unchanged m g (ok m))))
    exact ⟨((h.1 c).1 5).trans (final5 m (ok m) c), ((h.1 c).1 6).trans (final6 m (ok m) c), ((h.1 c).1 7).trans (final7 m (ok m) c), ((h.1 c).1 8).trans (final8 m (ok m) c), h.2 c⟩
  · refine (θ_run _ _ _).mono (fun r h c => ?_) (UInRefIdeal.Hand.run_math m' g')
    obtain ⟨e0, e1, e2, e3, e4, e5, e6, e7, e8⟩ := hag c
    obtain ⟨h0, h1, h2, h3, ha⟩ := h c
    refine ⟨?_, ?_, ?_, ?_, ha⟩
    · beta_reduce; unfold res5 grad; rw [← e3, ← e4, ← e5]; exact h0
    · beta_reduce; unfold res6 grad; rw [← e0, ← e1, ← e2, ← e3, ← e4, ← e6]; exact h1
    · beta_reduce; unfold res7 grad; rw [← e1, ← e3, ← e4, ← e7]; exact h2
    · beta_reduce; unfold res8 grad; rw [← e2, ← e3, ← e4, ← e8]; exact h3

/-- The reference runs and leaves its arguments and every counter as they were. -/
theorem ref_frame : Cert.quiescent_UInRefIdeal := by
  intro m g _
  exact (θ_run _ _ _).mono (fun r h => ⟨fun c => (h c).2.2.2.2, sem_eq_zero_of_no_sems (by decide) r.2⟩) (UInRefIdeal.Hand.run_math m g)

end Cert.UInIdeal.Hand

end
-- ==== Proof.StepSide.lean ====
/- Two arrays put side by side. -/
module

public import proofs.«01_k».proof.Proof.StepMath

@[expose] public section

noncomputable section

namespace Cert.SmallMath

open Idealize.ShloMosaic

variable {n k h : ℕ}

/-- Two arrays, the second one to the right of the first. -/
def beside (e : n = h + h) (a b : FVec Ideal ⟨2, ![k, h]⟩ .f32) : FVec Ideal ⟨2, ![k, n]⟩ .f32 := fun j =>
  if l : (j 1).val < h then a (ix2 (n0 := k) (n1 := h) (j 0) ⟨(j 1).val, l⟩)
  else b (ix2 (n0 := k) (n1 := h) (j 0) ⟨(j 1).val - h, by have : (j 1).val < n := (j 1).isLt; omega⟩)

/-- A place in the left array. -/
theorem beside_left (e : n = h + h) (a b : FVec Ideal ⟨2, ![k, h]⟩ .f32) (R : Fin k) (C : Fin n) (c : Fin h) (hc : C.val = c.val) : beside e a b (ix2 R C) = a (ix2 R c) := by
  unfold beside
  have l : C.val < h := by omega
  rw [dif_pos (show ((ix2 (n0 := k) (n1 := n) R C) 1).val < h from l)]
  exact congrArg a (ix2_ext rfl hc)

/-- A place in the right array. -/
theorem beside_right (e : n = h + h) (a b : FVec Ideal ⟨2, ![k, h]⟩ .f32) (R : Fin k) (C : Fin n) (c : Fin h) (hc : C.val = h + c.val) : beside e a b (ix2 R C) = b (ix2 R c) := by
  unfold beside
  have l : ¬ C.val < h := by omega
  rw [dif_neg (show ¬ ((ix2 (n0 := k) (n1 := n) R C) 1).val < h from l)]
  exact congrArg b (ix2_ext rfl (by show C.val - h = c.val; omega))

end Cert.SmallMath

end
-- ==== Proof.UMergeStep.lean ====
/- The optimiser's call on the first layer of the weight that merges the two branches: kernel and reference both take the gradient from its two halves and replace the first layer of each result. -/
module

public import proofs.«01_k».proof.Defs
public import proofs.«01_k».proof.Proof.StepMath
public import proofs.«01_k».proof.Proof.StepSide
public import proofs.«01_k».proof.Proof.Gen.UMerge.Frame
public import proofs.«01_k».proof.Proof.Gen.UMergeIdeal.Frame
public import proofs.«01_k».proof.Proof.Gen.UMergeRefIdeal.Run
public import Idealize.ShloMosaic.Lib.Tactic.CleanTypes
public import Idealize.ShloMosaic.Lib.Claim
public import Idealize.ShloMosaic.Lib.Pipeline.Covers

@[expose] public section

set_option maxRecDepth 16384

noncomputable section

namespace Cert.UMerge.Hand

open Cert.UMerge Cert.UMerge.Gen Idealize.ShloMosaic Idealize.ShloMosaic.TcCoe Idealize.SL.Sem

/-- The table that holds a zero. -/
def table : pre0.Contents (Elt Bits) | 0 => fun _ => (0#32 : BitVec 32)

/-- The place that the kernel reads is zero. -/
theorem tbl_eq (m : (ℓ : Loc nD τ sig) → Buf (Elt Bits) ℓ) : tbl m = table := by
  funext j
  obtain rfl : j = 0 := Subsingleton.elim (α := Fin 1) j 0
  funext i
  show StableHlo.after hostOps0 _ (Proc.devRef .tc main_v0) i = _
  after_reads_simp
  rfl

/-- So every block lies inside its array. -/
theorem ok (m : (ℓ : Loc nD τ sig) → Buf (Elt Bits) ℓ) : Ok m := by
  show ok0 (tbl m)
  rw [tbl_eq]
  decide +kernel

end Cert.UMerge.Hand

namespace Cert.UMergeIdeal.Hand

open Cert.UMergeIdeal Cert.UMergeIdeal.Gen Cert.SmallMath Idealize.ShloMosaic Idealize.ShloMosaic.TcCoe Idealize.SL.Sem

/-- The table that holds a zero. -/
def table : pre0.Contents (Elt Ideal) | 0 => fun _ => (0#32 : BitVec 32)

/-- The place that the kernel reads is zero. -/
theorem tbl_eq (m : (ℓ : Loc nD τ sig) → Buf (Elt Ideal) ℓ) : tbl m = table := by
  funext j
  obtain rfl : j = 0 := Subsingleton.elim (α := Fin 1) j 0
  funext i
  show StableHlo.after hostOps0 _ (Proc.devRef .tc main_v0) i = _
  after_reads_simp
  rfl

/-- So every block lies inside its array. -/
theorem ok (m : (ℓ : Loc nD τ sig) → Buf (Elt Ideal) ℓ) : Ok m := by
  show ok0 (tbl m)
  rw [tbl_eq]
  decide +kernel

variable (m : (ℓ : Loc nD τ sig) → Buf (Elt Ideal) ℓ)

/-- Which block of its array each window of whole layers holds at grid point `t`. -/
theorem idx_val (hO : Ok m) : ∀ t : Fin (cfgM m hO).N, ((cfgM m hO).win 0).index t = ![0, t.val / 2, t.val % 2] ∧ ((cfgM m hO).win 1).index t = ![0, t.val / 2, t.val % 2] ∧ ((cfgM m hO).win 2).index t = ![0, t.val / 2, t.val % 2]
    ∧ ((cfgM m hO).win 5).index t = ![0, t.val / 2, t.val % 2] ∧ ((cfgM m hO).win 6).index t = ![0, t.val / 2, t.val % 2] ∧ ((cfgM m hO).win 7).index t = ![0, t.val / 2, t.val % 2] ∧ ((cfgM m hO).win 8).index t = ![0, t.val / 2, t.val % 2] := by
  have h : ∀ t : Fin grid0.N, cc0_transform_0 (grid0.coords t) = ![0, t.val / 2, t.val % 2] ∧ cc0_transform_1 (grid0.coords t) = ![0, t.val / 2, t.val % 2] ∧ cc0_transform_2 (grid0.coords t) = ![0, t.val / 2, t.val % 2]
    ∧ cc0_transform_9 (grid0.coords t) = ![0, t.val / 2, t.val % 2] ∧ cc0_transform_10 (grid0.coords t) = ![0, t.val / 2, t.val % 2] ∧ cc0_transform_11 (grid0.coords t) = ![0, t.val / 2, t.val % 2] ∧ cc0_transform_12 (grid0.coords t) = ![0, t.val / 2, t.val % 2] := by
    decide +kernel
  exact h

/-- Which block of the device's own half of the gradient is held while that half is stepped. -/
theorem idx_mine (hO : Ok m) : ∀ t : Fin (cfgM m hO).N, t.val % 2 = 0 → ((cfgM m hO).win 3).index t = ![t.val / 2, 0] := by
  have h : ∀ t : Fin grid0.N, t.val % 2 = 0 → cc0_transform_3 inb_S1_S1_0 numel1_S1 (tbl m) (grid0.coords t) = ![t.val / 2, 0] := by
    rw [tbl_eq]; decide +kernel
  exact h

/-- Which block of the other core's half of the gradient is held while that half is stepped. -/
theorem idx_sibling (hO : Ok m) : ∀ t : Fin (cfgM m hO).N, ¬ t.val % 2 = 0 → ((cfgM m hO).win 4).index t = ![t.val / 2, 0] := by
  have h : ∀ t : Fin grid0.N, ¬ t.val % 2 = 0 → cc0_transform_4 inb_S1_S1_0 numel1_S1 (tbl m) (grid0.coords t) = ![t.val / 2, 0] := by
    rw [tbl_eq]; decide +kernel
  exact h

/-- Which half the kernel takes the block of the gradient from. -/
theorem pick (a b : FVec Ideal ⟨2, ![512, 1024]⟩ .f32) : ∀ t : Fin grid0.N, k0_pay6 (F := Ideal) (grid0.coords t) (0#32 : BitVec 32) a b = if t.val % 2 = 0 then a else b := by
  intro t
  rcases fin_N0 t with rfl | rfl <;> rfl

/-- The even points of the grid take the device's own half. -/
theorem pick_mine (a b : FVec Ideal ⟨2, ![512, 1024]⟩ .f32) (t : Fin grid0.N) (ht : t.val % 2 = 0) : k0_pay6 (F := Ideal) (grid0.coords t) (0#32 : BitVec 32) a b = a :=
  (pick a b t).trans (if_pos ht)

/-- The odd points of the grid take the other core's half. -/
theorem pick_sibling (a b : FVec Ideal ⟨2, ![512, 1024]⟩ .f32) (t : Fin grid0.N) (ht : ¬ t.val % 2 = 0) : k0_pay6 (F := Ideal) (grid0.coords t) (0#32 : BitVec 32) a b = b :=
  (pick a b t).trans (if_neg ht)

/-- The stored block of the gradient. -/
theorem pay7 (i : grid0.Coords) (x : Elt Ideal .i32) (a b : FVec Ideal ⟨2, ![512, 1024]⟩ .f32) (y : Shape.Idx ⟨3, ![1, 512, 1024]⟩) : k0_pay7 (F := Ideal) i x a b y = k0_pay6 (F := Ideal) i x a b (ix2 (n0 := 512) (n1 := 1024) (y 1) (y 2)) := by
  unfold k0_pay7
  generalize k0_pay6 (F := Ideal) i x a b = g
  idx_vars y
  pointwise []

/-- A block of one layer, as an array of two axes. -/
def flat (a : FVec Ideal ⟨3, ![1, 512, 1024]⟩ .f32) : FVec Ideal ⟨2, ![512, 1024]⟩ .f32 := fun j => a (ix3 (n0 := 1) (n1 := 512) (n2 := 1024) 0 (j 0) (j 1))

/-- The stored block of the step. -/
theorem pay3 (g : FVec Ideal ⟨2, ![512, 1024]⟩ .f32) (w mu nu : FVec Ideal ⟨3, ![1, 512, 1024]⟩ .f32) (y : Shape.Idx ⟨3, ![1, 512, 1024]⟩) :
    k0_pay3 (F := Ideal) g (k0_pay8 w) (k0_pay9 mu) (k0_pay10 nu) k0_pay11 y = delta (flat w) g (flat mu) (flat nu) (ix2 (n0 := 512) (n1 := 1024) (y 1) (y 2)) := by
  idx_vars y
  pointwise [k0_pay3, k0_pay2, k0_pay1, k0_pay8, k0_pay9, k0_pay10, k0_pay11, delta, newM, newV, flat]

/-- The stored block of the first moment. -/
theorem pay4 (g : FVec Ideal ⟨2, ![512, 1024]⟩ .f32) (mu : FVec Ideal ⟨3, ![1, 512, 1024]⟩ .f32) (y : Shape.Idx ⟨3, ![1, 512, 1024]⟩) :
    k0_pay4 (F := Ideal) g (k0_pay9 mu) k0_pay11 y = newM g (flat mu) (ix2 (n0 := 512) (n1 := 1024) (y 1) (y 2)) := by
  idx_vars y
  pointwise [k0_pay4, k0_pay1, k0_pay9, k0_pay11, newM, flat]

/-- The stored block of the second moment. -/
theorem pay5 (g : FVec Ideal ⟨2, ![512, 1024]⟩ .f32) (nu : FVec Ideal ⟨3, ![1, 512, 1024]⟩ .f32) (y : Shape.Idx ⟨3, ![1, 512, 1024]⟩) :
    k0_pay5 (F := Ideal) g (k0_pay10 nu) y = newV g (flat nu) (ix2 (n0 := 512) (n1 := 1024) (y 1) (y 2)) := by
  idx_vars y
  pointwise [k0_pay5, k0_pay2, k0_pay10, newV, flat]

/-- A row of a block is a row of its layer. -/
theorem row_lt (hO : Ok m) (t : Fin (cfgM m hO).N) (r : Fin 512) : (t.val / 2) * 512 + r.val < 512 := by
  have := lt_of_lt_of_eq t.isLt N_0; omega
/-- A lane of a block is a lane of its layer. -/
theorem col_lt (hO : Ok m) (t : Fin (cfgM m hO).N) (l : Fin 1024) : (t.val % 2) * 1024 + l.val < 2048 := by
  have := lt_of_lt_of_eq t.isLt N_0; omega

/-- The place in the layer of a place in a block. -/
def at_ (hO : Ok m) (t : Fin (cfgM m hO).N) (r : Fin 512) (l : Fin 1024) : Shape.Idx ⟨2, ![512, 2048]⟩ := ix2 (n0 := 512) (n1 := 2048) ⟨_, row_lt m hO t r⟩ ⟨_, col_lt m hO t l⟩

section Blocks
variable (hO : Ok m) (c : Dev nD) (t : Fin (cfgM m hO).N)

/-- The block of the weight is a block of its first layer. -/
theorem blk0 (r : Fin 512) (l : Fin 1024) : flat (iblk m hO c 0 t) (ix2 (n0 := 512) (n1 := 1024) r l) = top (m (c.tc.loc main_arg0) : FVec Ideal ⟨3, ![4, 512, 2048]⟩ .f32) (at_ m hO t r l) := by
  rw [← V_main_arg0 m c]
  show iblk m hO c 0 t (ix3 (n0 := 1) (n1 := 512) (n2 := 1024) 0 r l) = (V m c main_arg0) (ix3 (n0 := 4) (n1 := 512) (n2 := 2048) 0 ⟨_, row_lt m hO t r⟩ ⟨_, col_lt m hO t l⟩)
  blk_point [iblk, idx_val m hO t]

/-- The block of the first moment is a block of its first layer. -/
theorem blk1 (r : Fin 512) (l : Fin 1024) : flat (iblk m hO c 1 t) (ix2 (n0 := 512) (n1 := 1024) r l) = top (m (c.tc.loc main_arg1) : FVec Ideal ⟨3, ![4, 512, 2048]⟩ .f32) (at_ m hO t r l) := by
  rw [← V_main_arg1 m c]
  show iblk m hO c 1 t (ix3 (n0 := 1) (n1 := 512) (n2 := 1024) 0 r l) = (V m c main_arg1) (ix3 (n0 := 4) (n1 := 512) (n2 := 2048) 0 ⟨_, row_lt m hO t r⟩ ⟨_, col_lt m hO t l⟩)
  blk_point [iblk, idx_val m hO t]

/-- The block of the second moment is a block of its first layer. -/
theorem blk2 (r : Fin 512) (l : Fin 1024) : flat (iblk m hO c 2 t) (ix2 (n0 := 512) (n1 := 1024) r l) = top (m (c.tc.loc main_arg2) : FVec Ideal ⟨3, ![4, 512, 2048]⟩ .f32) (at_ m hO t r l) := by
  rw [← V_main_arg2 m c]
  show iblk m hO c 2 t (ix3 (n0 := 1) (n1 := 512) (n2 := 1024) 0 r l) = (V m c main_arg2) (ix3 (n0 := 4) (n1 := 512) (n2 := 2048) 0 ⟨_, row_lt m hO t r⟩ ⟨_, col_lt m hO t l⟩)
  blk_point [iblk, idx_val m hO t]

/-- The block of the device's own half is lanes of it. -/
theorem blk3 (ht : t.val % 2 = 0) (r : Fin 512) (l : Fin 1024) (R : Fin 512) (C : Fin 1024) (hR : R.val = (t.val / 2) * 512 + r.val) (hC : C.val = l.val) : iblk m hO c 3 t (ix2 r l) = m (c.tc.loc main_arg3) (ix2 R C) := by
  rw [← V_main_arg3 m c]
  blk_point [iblk, idx_mine m hO t ht]
/-- The block of the other core's half is lanes of it. -/
theorem blk4 (ht : ¬ t.val % 2 = 0) (r : Fin 512) (l : Fin 1024) (R : Fin 512) (C : Fin 1024) (hR : R.val = (t.val / 2) * 512 + r.val) (hC : C.val = l.val) : iblk m hO c 4 t (ix2 r l) = m (c.tc.loc main_arg4) (ix2 R C) := by
  rw [← V_main_arg4 m c]
  blk_point [iblk, idx_sibling m hO t ht]

/-- The whole gradient. -/
def grad (c : Dev nD) : FVec Ideal ⟨2, ![512, 2048]⟩ .f32 := beside (n := 2048) (k := 512) (h := 1024) (by decide) (m (c.tc.loc main_arg3)) (m (c.tc.loc main_arg4))

/-- The block that the kernel picks is a block of the whole gradient. -/
theorem picked (r : Fin 512) (l : Fin 1024) : k0_pay6 (F := Ideal) (grid0.coords t) (0#32 : BitVec 32) (iblk m hO c 3 t) (iblk m hO c 4 t) (ix2 (n0 := 512) (n1 := 1024) r l) = grad m c (at_ m hO t r l) := by
  have hN := lt_of_lt_of_eq t.isLt N_0
  by_cases ht : t.val % 2 = 0
  · refine (congrFun (pick_mine _ _ t ht) _).trans ?_
    refine (blk3 m hO c t ht r l ⟨_, row_lt m hO t r⟩ l rfl rfl).trans ?_
    exact (beside_left (n := 2048) (k := 512) (h := 1024) (by decide) _ _ _ _ _ (show (t.val % 2) * 1024 + l.val = l.val by omega)).symm
  · refine (congrFun (pick_sibling _ _ t ht) _).trans ?_
    refine (blk4 m hO c t ht r l ⟨_, row_lt m hO t r⟩ l rfl rfl).trans ?_
    exact (beside_right (n := 2048) (k := 512) (h := 1024) (by decide) _ _ _ _ _ (show (t.val % 2) * 1024 + l.val = 1024 + l.val by omega)).symm

end Blocks

section Outs
variable (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S512x1024 .f32) (harg6 : arg6.IsWhole) (arg7 : Memref sig .tc .vmem S512x1024 .f32) (harg7 : arg7.IsWhole) (arg12 : Memref sig .tc .vmem S1x512x1024 .f32) (harg12 : arg12.IsWhole) (arg13 : Memref sig .tc .vmem S1x512x1024 .f32) (harg13 : arg13.IsWhole) (arg14 : Memref sig .tc .vmem S1x512x1024 .f32) (harg14 : arg14.IsWhole) (arg15 : Memref sig .tc .vmem S1x512x1024 .f32) (harg15 : arg15.IsWhole) (x0 x1 x2 : Vec Ideal S1x512x1024 .f32) (x3 x4 : Vec Ideal S512x1024 .f32) (xt0 : TbBuf0 (F := Ideal) c tbM0_0) (hx : xt0 = table 0)
include hx

/-- One grid point stores this of the gradient. -/
theorem out_eq5 : out0_A_5 c i arg3 harg3 arg4 harg4 arg5 harg5 arg6 harg6 arg7 harg7 arg12 harg12 arg13 harg13 arg14 harg14 arg15 harg15 x0 x1 x2 x3 x4 xt0 = k0_pay7 i (0#32 : BitVec 32) x3 x4 := by
  subst hx
  unfold out0_A_5
  frame_out
  rfl

/-- One grid point stores this of the step. -/
theorem out_eq6 : out0_A_6 c i arg3 harg3 arg4 harg4 arg5 harg5 arg6 harg6 arg7 harg7 arg12 harg12 arg13 harg13 arg14 harg14 arg15 harg15 x0 x1 x2 x3 x4 xt0 = k0_pay3 (k0_pay6 i (0#32 : BitVec 32) x3 x4) (k0_pay8 x0) (k0_pay9 x1) (k0_pay10 x2) k0_pay11 := by
  subst hx
  unfold out0_A_6
  frame_out
  rfl

/-- One grid point stores this of the first moment. -/
theorem out_eq7 : out0_A_7 c i arg3 harg3 arg4 harg4 arg5 harg5 arg6 harg6 arg7 harg7 arg12 harg12 arg13 harg13 arg14 harg14 arg15 harg15 x0 x1 x2 x3 x4 xt0 = k0_pay4 (k0_pay6 i (0#32 : BitVec 32) x3 x4) (k0_pay9 x1) k0_pay11 := by
  subst hx
  unfold out0_A_7
  frame_out
  rfl

/-- One grid point stores this of the second moment. -/
theorem out_eq8 : out0_A_8 c i arg3 harg3 arg4 harg4 arg5 harg5 arg6 harg6 arg7 harg7 arg12 harg12 arg13 harg13 arg14 harg14 arg15 harg15 x0 x1 x2 x3 x4 xt0 = k0_pay5 (k0_pay6 i (0#32 : BitVec 32) x3 x4) (k0_pay10 x2) := by
  subst hx
  unfold out0_A_8
  frame_out
  rfl

end Outs

/-- A place of the first layer lies in the block of its rows and lanes. -/
theorem within (i : Shape.Idx ⟨3, ![4, 512, 2048]⟩) (h0 : (i 0).val = 0) : (i 1).val / 512 * 2 + (i 2).val / 1024 < grid0.N ∧ (0 * 1 ≤ (i 0).val ∧ (i 0).val < 0 * 1 + 1)
    ∧ ((((i 1).val / 512 * 2 + (i 2).val / 1024) / 2) * 512 ≤ (i 1).val ∧ (i 1).val < (((i 1).val / 512 * 2 + (i 2).val / 1024) / 2) * 512 + 512) ∧ ((((i 1).val / 512 * 2 + (i 2).val / 1024) % 2) * 1024 ≤ (i 2).val ∧ (i 2).val < (((i 1).val / 512 * 2 + (i 2).val / 1024) % 2) * 1024 + 1024) := by
  have h1 : (i 1).val < 512 := (i 1).isLt
  have h2 : (i 2).val < 2048 := (i 2).isLt
  rw [N_0]
  omega

/-- What grid point `t` leaves of the gradient in its block. -/
theorem after5 (hO : Ok m) (c : Dev nD) (t : Fin (cfgM m hO).N) : (dats m hO 0 c).after 5 t = k0_pay7 (F := Ideal) (grid0.coords t) (0#32 : BitVec 32) (iblk m hO c 3 t) (iblk m hO c 4 t) := by
  rw [after0_5]
  dsimp only [outsAt0]
  exact out_eq5 _ _ _ _ _ _ _ _ _ _ _ _ _ _ _ _ _ _ _ _ _ _ _ _ _ _ (congrFun (tbl_eq m) 0)

/-- The result of the gradient: its first layer replaced. -/
def res5 (c : Dev nD) : FVec Ideal ⟨3, ![4, 512, 2048]⟩ .f32 := over (grad m c) (m (c.tc.loc main_arg5))

/-- The array of the gradient starts as a copy of its argument. -/
theorem start5 (hO : Ok m) (c : Dev nD) : (dats m hO 0 c).A 5 = m (c.tc.loc main_arg5) := by
  rw [A_eq]
  show StableHlo.after hostOps0 _ (Proc.devRef .tc main_v3_0) = _
  after_reads_simp
  rfl

/-- The array of the gradient after the last grid point. -/
theorem final5 (hO : Ok m) (c : Dev nD) : (dats m hO 0 c).arrAt 5 (cfgM m hO).N = res5 m c := by
  refine arrAt_part (dats m hO 0 c) 5 (res5 m c) (fun t hf (y : Shape.Idx ⟨3, ![1, 512, 1024]⟩) => ?_) fun (i : Shape.Idx ⟨3, ![4, 512, 2048]⟩) => ?_
  · blk_simp
    refine (congrFun (after5 m hO c t) y).trans ?_
    refine ((pay7 _ _ _ _ _).trans (picked m hO c t _ _)).trans (over_top _ _ _ _ _ ?_ ?_ ?_).symm
    all_goals blk_simp [idx_val m hO t]
    all_goals first | rfl | (have := (y 0).isLt; omega)
  · by_cases h0 : (i 0).val = 0
    · refine .inl ?_
      obtain ⟨hN, b0, b1, b2⟩ := within i h0
      obtain ⟨t, -, hf, e⟩ := Pipeline.Window.exists_flush_same_index ((cfgM m hO).win 5) rfl (⟨_, hN⟩ : Fin (cfgM m hO).N)
      refine ⟨t, hf, ?_⟩
      have e2 := e.trans (idx_val m hO _).2.2.2.1
      refine (((cfgM m hO).win 5).emb_mem_blk_iff t i rfl).mpr fun (a : Fin 3) => ?_
      refine between (congrFun e2 a) ?_
      fin_cases a
      exacts [b0, b1, b2]
    · exact .inr ((congrFun (start5 m hO c) i).trans (over_rest _ _ _ h0).symm)

/-- What grid point `t` leaves of the step in its block. -/
theorem after6 (hO : Ok m) (c : Dev nD) (t : Fin (cfgM m hO).N) : (dats m hO 0 c).after 6 t = k0_pay3 (k0_pay6 (F := Ideal) (grid0.coords t) (0#32 : BitVec 32) (iblk m hO c 3 t) (iblk m hO c 4 t)) (k0_pay8 (iblk m hO c 0 t)) (k0_pay9 (iblk m hO c 1 t)) (k0_pay10 (iblk m hO c 2 t)) k0_pay11 := by
  rw [after0_6]
  dsimp only [outsAt0]
  exact out_eq6 _ _ _ _ _ _ _ _ _ _ _ _ _ _ _ _ _ _ _ _ _ _ _ _ _ _ (congrFun (tbl_eq m) 0)

/-- The result of the step: its first layer replaced. -/
def res6 (c : Dev nD) : FVec Ideal ⟨3, ![4, 512, 2048]⟩ .f32 := over (delta (top (m (c.tc.loc main_arg0))) (grad m c) (top (m (c.tc.loc main_arg1))) (top (m (c.tc.loc main_arg2)))) (m (c.tc.loc main_arg6))

/-- The array of the step starts as a copy of its argument. -/
theorem start6 (hO : Ok m) (c : Dev nD) : (dats m hO 0 c).A 6 = m (c.tc.loc main_arg6) := by
  rw [A_eq]
  show StableHlo.after hostOps0 _ (Proc.devRef .tc main_v3_1) = _
  after_reads_simp
  rfl

/-- The array of the step after the last grid point. -/
theorem final6 (hO : Ok m) (c : Dev nD) : (dats m hO 0 c).arrAt 6 (cfgM m hO).N = res6 m c := by
  refine arrAt_part (dats m hO 0 c) 6 (res6 m c) (fun t hf (y : Shape.Idx ⟨3, ![1, 512, 1024]⟩) => ?_) fun (i : Shape.Idx ⟨3, ![4, 512, 2048]⟩) => ?_
  · blk_simp
    refine (congrFun (after6 m hO c t) y).trans ?_
    refine ((pay3 _ _ _ _ _).trans (delta_at _ _ _ _ _ _ _ _ _ _ (blk0 m hO c t _ _) (picked m hO c t _ _) (blk1 m hO c t _ _) (blk2 m hO c t _ _))).trans (over_top _ _ _ _ _ ?_ ?_ ?_).symm
    all_goals blk_simp [idx_val m hO t]
    all_goals first | rfl | (have := (y 0).isLt; omega)
  · by_cases h0 : (i 0).val = 0
    · refine .inl ?_
      obtain ⟨hN, b0, b1, b2⟩ := within i h0
      obtain ⟨t, -, hf, e⟩ := Pipeline.Window.exists_flush_same_index ((cfgM m hO).win 6) rfl (⟨_, hN⟩ : Fin (cfgM m hO).N)
      refine ⟨t, hf, ?_⟩
      have e2 := e.trans (idx_val m hO _).2.2.2.2.1
      refine (((cfgM m hO).win 6).emb_mem_blk_iff t i rfl).mpr fun (a : Fin 3) => ?_
      refine between (congrFun e2 a) ?_
      fin_cases a
      exacts [b0, b1, b2]
    · exact .inr ((congrFun (start6 m hO c) i).trans (over_rest _ _ _ h0).symm)

/-- What grid point `t` leaves of the first moment in its block. -/
theorem after7 (hO : Ok m) (c : Dev nD) (t : Fin (cfgM m hO).N) : (dats m hO 0 c).after 7 t = k0_pay4 (k0_pay6 (F := Ideal) (grid0.coords t) (0#32 : BitVec 32) (iblk m hO c 3 t) (iblk m hO c 4 t)) (k0_pay9 (iblk m hO c 1 t)) k0_pay11 := by
  rw [after0_7]
  dsimp only [outsAt0]
  exact out_eq7 _ _ _ _ _ _ _ _ _ _ _ _ _ _ _ _ _ _ _ _ _ _ _ _ _ _ (congrFun (tbl_eq m) 0)

/-- The result of the first moment: its first layer replaced. -/
def res7 (c : Dev nD) : FVec Ideal ⟨3, ![4, 512, 2048]⟩ .f32 := over (newM (grad m c) (top (m (c.tc.loc main_arg1)))) (m (c.tc.loc main_arg7))

/-- The array of the first moment starts as a copy of its argument. -/
theorem start7 (hO : Ok m) (c : Dev nD) : (dats m hO 0 c).A 7 = m (c.tc.loc main_arg7) := by
  rw [A_eq]
  show StableHlo.after hostOps0 _ (Proc.devRef .tc main_v3_2) = _
  after_reads_simp
  rfl

/-- The array of the first moment after the last grid point. -/
theorem final7 (hO : Ok m) (c : Dev nD) : (dats m hO 0 c).arrAt 7 (cfgM m hO).N = res7 m c := by
  refine arrAt_part (dats m hO 0 c) 7 (res7 m c) (fun t hf (y : Shape.Idx ⟨3, ![1, 512, 1024]⟩) => ?_) fun (i : Shape.Idx ⟨3, ![4, 512, 2048]⟩) => ?_
  · blk_simp
    refine (congrFun (after7 m hO c t) y).trans ?_
    refine ((pay4 _ _ _).trans (newM_at _ _ _ _ _ _ (picked m hO c t _ _) (blk1 m hO c t _ _))).trans (over_top _ _ _ _ _ ?_ ?_ ?_).symm
    all_goals blk_simp [idx_val m hO t]
    all_goals first | rfl | (have := (y 0).isLt; omega)
  · by_cases h0 : (i 0).val = 0
    · refine .inl ?_
      obtain ⟨hN, b0, b1, b2⟩ := within i h0
      obtain ⟨t, -, hf, e⟩ := Pipeline.Window.exists_flush_same_index ((cfgM m hO).win 7) rfl (⟨_, hN⟩ : Fin (cfgM m hO).N)
      refine ⟨t, hf, ?_⟩
      have e2 := e.trans (idx_val m hO _).2.2.2.2.2.1
      refine (((cfgM m hO).win 7).emb_mem_blk_iff t i rfl).mpr fun (a : Fin 3) => ?_
      refine between (congrFun e2 a) ?_
      fin_cases a
      exacts [b0, b1, b2]
    · exact .inr ((congrFun (start7 m hO c) i).trans (over_rest _ _ _ h0).symm)

/-- What grid point `t` leaves of the second moment in its block. -/
theorem after8 (hO : Ok m) (c : Dev nD) (t : Fin (cfgM m hO).N) : (dats m hO 0 c).after 8 t = k0_pay5 (k0_pay6 (F := Ideal) (grid0.coords t) (0#32 : BitVec 32) (iblk m hO c 3 t) (iblk m hO c 4 t)) (k0_pay10 (iblk m hO c 2 t)) := by
  rw [after0_8]
  dsimp only [outsAt0]
  exact out_eq8 _ _ _ _ _ _ _ _ _ _ _ _ _ _ _ _ _ _ _ _ _ _ _ _ _ _ (congrFun (tbl_eq m) 0)

/-- The result of the second moment: its first layer replaced. -/
def res8 (c : Dev nD) : FVec Ideal ⟨3, ![4, 512, 2048]⟩ .f32 := over (newV (grad m c) (top (m (c.tc.loc main_arg2)))) (m (c.tc.loc main_arg8))

/-- The array of the second moment starts as a copy of its argument. -/
theorem start8 (hO : Ok m) (c : Dev nD) : (dats m hO 0 c).A 8 = m (c.tc.loc main_arg8) := by
  rw [A_eq]
  show StableHlo.after hostOps0 _ (Proc.devRef .tc main_v3_3) = _
  after_reads_simp
  rfl

/-- The array of the second moment after the last grid point. -/
theorem final8 (hO : Ok m) (c : Dev nD) : (dats m hO 0 c).arrAt 8 (cfgM m hO).N = res8 m c := by
  refine arrAt_part (dats m hO 0 c) 8 (res8 m c) (fun t hf (y : Shape.Idx ⟨3, ![1, 512, 1024]⟩) => ?_) fun (i : Shape.Idx ⟨3, ![4, 512, 2048]⟩) => ?_
  · blk_simp
    refine (congrFun (after8 m hO c t) y).trans ?_
    refine ((pay5 _ _ _).trans (newV_at _ _ _ _ _ _ (picked m hO c t _ _) (blk2 m hO c t _ _))).trans (over_top _ _ _ _ _ ?_ ?_ ?_).symm
    all_goals blk_simp [idx_val m hO t]
    all_goals first | rfl | (have := (y 0).isLt; omega)
  · by_cases h0 : (i 0).val = 0
    · refine .inl ?_
      obtain ⟨hN, b0, b1, b2⟩ := within i h0
      obtain ⟨t, -, hf, e⟩ := Pipeline.Window.exists_flush_same_index ((cfgM m hO).win 8) rfl (⟨_, hN⟩ : Fin (cfgM m hO).N)
      refine ⟨t, hf, ?_⟩
      have e2 := e.trans (idx_val m hO _).2.2.2.2.2.2
      refine (((cfgM m hO).win 8).emb_mem_blk_iff t i rfl).mpr fun (a : Fin 3) => ?_
      refine between (congrFun e2 a) ?_
      fin_cases a
      exacts [b0, b1, b2]
    · exact .inr ((congrFun (start8 m hO c) i).trans (over_rest _ _ _ h0).symm)

end Cert.UMergeIdeal.Hand

namespace Cert.UMergeRefIdeal.Hand

open Cert.UMergeRefIdeal Cert.UMergeRefIdeal.Gen Cert.SmallMath Idealize.ShloMosaic Idealize.ShloMosaic.TcCoe Idealize.SL.Sem

/-- The reference's line that puts the two halves together. -/
theorem beside_eq (a b : FVec Ideal ⟨2, ![512, 1024]⟩ .f32) : concatenate S512x2048 1 [⟨S512x1024, a⟩, ⟨S512x1024, b⟩] concatenates_S512x1024_S512x1024_S512x2048_d1 = beside (n := 2048) (k := 512) (h := 1024) (by decide) a b := by
  funext (j : Shape.Idx ⟨2, ![512, 2048]⟩)
  have hj : (j 1).val < 2048 := (j 1).isLt
  by_cases l : (j 1).val < 1024
  · refine (concatenate_pair_apply_left 1 a b _ j rfl (ix2 (n0 := 512) (n1 := 1024) (j 0) ⟨_, l⟩) (fun x => by fin_cases x <;> rfl)).trans ?_
    unfold beside; rw [dif_pos l]
  · refine (concatenate_pair_apply_right 1 a b _ j rfl rfl (ix2 (n0 := 512) (n1 := 1024) (j 0) ⟨(j 1).val - 1024, by omega⟩) (fun x hx => by fin_cases x <;> first | rfl | exact absurd rfl hx) (show (j 1).val - 1024 + 1024 = (j 1).val by omega)).trans ?_
    unfold beside; rw [dif_neg l]

/-- The reference's line that takes the first layer. -/
theorem top_eq (a : FVec Ideal ⟨3, ![4, 512, 2048]⟩ .f32) : shapeCast S512x2048 (extractStridedSlice S1x512x2048 ![0, 0, 0] a slices_S4x512x2048_S1x512x2048_0_0_0) shapeCasts_S1x512x2048_S512x2048 = top a := by
  funext (j : Shape.Idx ⟨2, ![512, 2048]⟩)
  idx_vars j
  pointwise [top]

/-- The reference's line that puts the new first layer before the others. -/
theorem over_eq (a : FVec Ideal ⟨2, ![512, 2048]⟩ .f32) (rest : FVec Ideal ⟨3, ![4, 512, 2048]⟩ .f32) : concatenate S4x512x2048 0 [⟨S1x512x2048, (broadcastInDim S1x512x2048 ![1, 2] bcast_S512x2048_S1x512x2048_1_2 a)⟩, ⟨S3x512x2048, (extractStridedSlice S3x512x2048 ![1, 0, 0] rest slices_S4x512x2048_S3x512x2048_1_0_0)⟩] concatenates_S1x512x2048_S3x512x2048_S4x512x2048_d0 = over a rest := by
  funext (j : Shape.Idx ⟨3, ![4, 512, 2048]⟩)
  have hj : (j 0).val < 4 := (j 0).isLt
  by_cases l : (j 0).val = 0
  · refine (concatenate_pair_apply_left (s₁ := S1x512x2048) (s₂ := S3x512x2048) 0 _ _ _ j rfl (ix3 (n0 := 1) (n1 := 512) (n2 := 2048) 0 (j 1) (j 2)) (fun x => by fin_cases x <;> first | rfl | exact l.symm)).trans ?_
    refine Eq.trans ?_ (over_top a rest j (j 1) (j 2) l rfl rfl).symm
    pointwise []
  · refine (concatenate_pair_apply_right (s₁ := S1x512x2048) (s₂ := S3x512x2048) 0 _ _ _ j rfl rfl (ix3 (n0 := 3) (n1 := 512) (n2 := 2048) ⟨(j 0).val - 1, by omega⟩ (j 1) (j 2)) (fun x hx => by fin_cases x <;> first | rfl | exact absurd rfl hx) (show (j 0).val - 1 + 1 = (j 0).val by omega)).trans ?_
    refine Eq.trans ?_ (over_rest a rest j l).symm
    refine (extractStridedSlice_apply _ _ _ _ j ?_).trans rfl
    intro x
    fin_cases x
    · show (j 0).val = 1 + ((j 0).val - 1); omega
    · exact (Nat.zero_add _).symm
    · exact (Nat.zero_add _).symm

/-- The reference ends with its results at the same functions of the arguments, which it leaves as they were. -/
theorem run_math (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem (c.tc.loc main_v33) = (over (beside (n := 2048) (k := 512) (h := 1024) (by decide) (m (c.tc.loc main_arg3)) (m (c.tc.loc main_arg4))) (m (c.tc.loc main_arg5)) : FVec Ideal ⟨3, ![4, 512, 2048]⟩ .f32)
      ∧ r.2.mem (c.tc.loc main_v36) = (over (delta (top (m (c.tc.loc main_arg0))) (beside (n := 2048) (k := 512) (h := 1024) (by decide) (m (c.tc.loc main_arg3)) (m (c.tc.loc main_arg4))) (top (m (c.tc.loc main_arg1))) (top (m (c.tc.loc main_arg2)))) (m (c.tc.loc main_arg6)) : FVec Ideal ⟨3, ![4, 512, 2048]⟩ .f32)
      ∧ r.2.mem (c.tc.loc main_v39) = (over (newM (beside (n := 2048) (k := 512) (h := 1024) (by decide) (m (c.tc.loc main_arg3)) (m (c.tc.loc main_arg4))) (top (m (c.tc.loc main_arg1)))) (m (c.tc.loc main_arg7)) : FVec Ideal ⟨3, ![4, 512, 2048]⟩ .f32)
      ∧ r.2.mem (c.tc.loc main_v42) = (over (newV (beside (n := 2048) (k := 512) (h := 1024) (by decide) (m (c.tc.loc main_arg3)) (m (c.tc.loc main_arg4))) (top (m (c.tc.loc main_arg2)))) (m (c.tc.loc main_arg8)) : FVec Ideal ⟨3, ![4, 512, 2048]⟩ .f32)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)
      ∧ r.2.mem (c.tc.loc main_arg8) = m (c.tc.loc main_arg8) := by
  refine (θ_run _ _ _).mono (fun r h c => ?_) (Cert.UMergeRefIdeal.Value.run m ρ)
  obtain ⟨h0, h1, h2, h3, ha⟩ := h c
  refine ⟨h0.trans ?_, h1.trans ?_, h2.trans ?_, h3.trans ?_, ha⟩
  all_goals clear h0 h1 h2 h3 ha h r
  · exact (over_eq _ _).trans (congrArg (fun g => over g _) (beside_eq _ _))
  · refine (over_eq _ _).trans (congrArg (fun g => over g _) ?_)
    simp only [beside_eq, top_eq]
    rfl
  · refine (over_eq _ _).trans (congrArg (fun g => over g _) ?_)
    simp only [beside_eq, top_eq]
    rfl
  · refine (over_eq _ _).trans (congrArg (fun g => over g _) ?_)
    simp only [beside_eq, top_eq]
    rfl

end Cert.UMergeRefIdeal.Hand

namespace Cert.UMergeIdeal.Hand

open Cert.SmallMath Idealize.ShloMosaic Idealize.ShloMosaic.TcCoe Idealize.SL.Sem

/-- Kernel and reference, run from memories that agree on the arguments, end with equal results. -/
theorem algebraic : Cert.algebraic_UMergeIdeal_UMergeRefIdeal := by
  intro m g m' g' _ hag
  refine ⟨fun c => res5 m c, fun c => res6 m c, fun c => res7 m c, fun c => res8 m c, ?_, ?_⟩
  · refine (θ_run _ _ _).mono (fun r h c => ?_) ((θ_run_and (Gen.run_main m g (ok m)) (Gen.unchanged m g (ok m))))
    exact ⟨((h.1 c).1 5).trans (final5 m (ok m) c), ((h.1 c).1 6).trans (final6 m (ok m) c), ((h.1 c).1 7).trans (final7 m (ok m) c), ((h.1 c).1 8).trans (final8 m (ok m) c), h.2 c⟩
  · refine (θ_run _ _ _).mono (fun r h c => ?_) (UMergeRefIdeal.Hand.run_math m' g')
    obtain ⟨e0, e1, e2, e3, e4, e5, e6, e7, e8⟩ := hag c
    obtain ⟨h0, h1, h2, h3, ha⟩ := h c
    refine ⟨?_, ?_, ?_, ?_, ha⟩
    · beta_reduce; unfold res5 grad; rw [← e3, ← e4, ← e5]; exact h0
    · beta_reduce; unfold res6 grad; rw [← e0, ← e1, ← e2, ← e3, ← e4, ← e6]; exact h1
    · beta_reduce; unfold res7 grad; rw [← e1, ← e3, ← e4, ← e7]; exact h2
    · beta_reduce; unfold res8 grad; rw [← e2, ← e3, ← e4, ← e8]; exact h3

/-- The reference runs and leaves its arguments and every counter as they were. -/
theorem ref_frame : Cert.quiescent_UMergeRefIdeal := by
  intro m g _
  exact (θ_run _ _ _).mono (fun r h => ⟨fun c => (h c).2.2.2.2, sem_eq_zero_of_no_sems (by decide) r.2⟩) (UMergeRefIdeal.Hand.run_math m g)

end Cert.UMergeIdeal.Hand

end
-- ==== Proof.UOutConvStep.lean ====
/- The optimiser's call on the first layer of the convolution's last weight: kernel and reference both take the gradient from its two halves and replace the first layer of each result. -/
module

public import proofs.«01_k».proof.Defs
public import proofs.«01_k».proof.Proof.StepMath
public import proofs.«01_k».proof.Proof.StepSide
public import proofs.«01_k».proof.Proof.Gen.UOutConv.Frame
public import proofs.«01_k».proof.Proof.Gen.UOutConvIdeal.Frame
public import proofs.«01_k».proof.Proof.Gen.UOutConvRefIdeal.Run
public import Idealize.ShloMosaic.Lib.Tactic.CleanTypes
public import Idealize.ShloMosaic.Lib.Claim
public import Idealize.ShloMosaic.Lib.Pipeline.Covers

@[expose] public section

set_option maxRecDepth 16384

noncomputable section

namespace Cert.UOutConv.Hand

open Cert.UOutConv Cert.UOutConv.Gen Idealize.ShloMosaic Idealize.ShloMosaic.TcCoe Idealize.SL.Sem

/-- The table that holds a zero. -/
def table : pre0.Contents (Elt Bits) | 0 => fun _ => (0#32 : BitVec 32)

/-- The place that the kernel reads is zero. -/
theorem tbl_eq (m : (ℓ : Loc nD τ sig) → Buf (Elt Bits) ℓ) : tbl m = table := by
  funext j
  obtain rfl : j = 0 := Subsingleton.elim (α := Fin 1) j 0
  funext i
  show StableHlo.after hostOps0 _ (Proc.devRef .tc main_v0) i = _
  after_reads_simp
  rfl

/-- So every block lies inside its array. -/
theorem ok (m : (ℓ : Loc nD τ sig) → Buf (Elt Bits) ℓ) : Ok m := by
  show ok0 (tbl m)
  rw [tbl_eq]
  decide +kernel

end Cert.UOutConv.Hand

namespace Cert.UOutConvIdeal.Hand

open Cert.UOutConvIdeal Cert.UOutConvIdeal.Gen Cert.SmallMath Idealize.ShloMosaic Idealize.ShloMosaic.TcCoe Idealize.SL.Sem

/-- The table that holds a zero. -/
def table : pre0.Contents (Elt Ideal) | 0 => fun _ => (0#32 : BitVec 32)

/-- The place that the kernel reads is zero. -/
theorem tbl_eq (m : (ℓ : Loc nD τ sig) → Buf (Elt Ideal) ℓ) : tbl m = table := by
  funext j
  obtain rfl : j = 0 := Subsingleton.elim (α := Fin 1) j 0
  funext i
  show StableHlo.after hostOps0 _ (Proc.devRef .tc main_v0) i = _
  after_reads_simp
  rfl

/-- So every block lies inside its array. -/
theorem ok (m : (ℓ : Loc nD τ sig) → Buf (Elt Ideal) ℓ) : Ok m := by
  show ok0 (tbl m)
  rw [tbl_eq]
  decide +kernel

variable (m : (ℓ : Loc nD τ sig) → Buf (Elt Ideal) ℓ)

/-- Which block of its array each window of whole layers holds at grid point `t`. -/
theorem idx_val (hO : Ok m) : ∀ t : Fin (cfgM m hO).N, ((cfgM m hO).win 0).index t = ![0, t.val / 2, t.val % 2] ∧ ((cfgM m hO).win 1).index t = ![0, t.val / 2, t.val % 2] ∧ ((cfgM m hO).win 2).index t = ![0, t.val / 2, t.val % 2]
    ∧ ((cfgM m hO).win 5).index t = ![0, t.val / 2, t.val % 2] ∧ ((cfgM m hO).win 6).index t = ![0, t.val / 2, t.val % 2] ∧ ((cfgM m hO).win 7).index t = ![0, t.val / 2, t.val % 2] ∧ ((cfgM m hO).win 8).index t = ![0, t.val / 2, t.val % 2] := by
  have h : ∀ t : Fin grid0.N, cc0_transform_0 (grid0.coords t) = ![0, t.val / 2, t.val % 2] ∧ cc0_transform_1 (grid0.coords t) = ![0, t.val / 2, t.val % 2] ∧ cc0_transform_2 (grid0.coords t) = ![0, t.val / 2, t.val % 2]
    ∧ cc0_transform_9 (grid0.coords t) = ![0, t.val / 2, t.val % 2] ∧ cc0_transform_10 (grid0.coords t) = ![0, t.val / 2, t.val % 2] ∧ cc0_transform_11 (grid0.coords t) = ![0, t.val / 2, t.val % 2] ∧ cc0_transform_12 (grid0.coords t) = ![0, t.val / 2, t.val % 2] := by
    decide +kernel
  exact h

/-- Which block of the device's own half of the gradient is held while that half is stepped. -/
theorem idx_mine (hO : Ok m) : ∀ t : Fin (cfgM m hO).N, t.val % 2 = 0 → ((cfgM m hO).win 3).index t = ![t.val / 2, 0] := by
  have h : ∀ t : Fin grid0.N, t.val % 2 = 0 → cc0_transform_3 inb_S1_S1_0 numel1_S1 (tbl m) (grid0.coords t) = ![t.val / 2, 0] := by
    rw [tbl_eq]; decide +kernel
  exact h

/-- Which block of the other core's half of the gradient is held while that half is stepped. -/
theorem idx_sibling (hO : Ok m) : ∀ t : Fin (cfgM m hO).N, ¬ t.val % 2 = 0 → ((cfgM m hO).win 4).index t = ![t.val / 2, 0] := by
  have h : ∀ t : Fin grid0.N, ¬ t.val % 2 = 0 → cc0_transform_4 inb_S1_S1_0 numel1_S1 (tbl m) (grid0.coords t) = ![t.val / 2, 0] := by
    rw [tbl_eq]; decide +kernel
  exact h

/-- Which half the kernel takes the block of the gradient from. -/
theorem pick (a b : FVec Ideal ⟨2, ![512, 1024]⟩ .f32) : ∀ t : Fin grid0.N, k0_pay6 (F := Ideal) (grid0.coords t) (0#32 : BitVec 32) a b = if t.val % 2 = 0 then a else b := by
  intro t
  rcases fin_N0 t with rfl | rfl <;> rfl

/-- The even points of the grid take the device's own half. -/
theorem pick_mine (a b : FVec Ideal ⟨2, ![512, 1024]⟩ .f32) (t : Fin grid0.N) (ht : t.val % 2 = 0) : k0_pay6 (F := Ideal) (grid0.coords t) (0#32 : BitVec 32) a b = a :=
  (pick a b t).trans (if_pos ht)

/-- The odd points of the grid take the other core's half. -/
theorem pick_sibling (a b : FVec Ideal ⟨2, ![512, 1024]⟩ .f32) (t : Fin grid0.N) (ht : ¬ t.val % 2 = 0) : k0_pay6 (F := Ideal) (grid0.coords t) (0#32 : BitVec 32) a b = b :=
  (pick a b t).trans (if_neg ht)

/-- The stored block of the gradient. -/
theorem pay7 (i : grid0.Coords) (x : Elt Ideal .i32) (a b : FVec Ideal ⟨2, ![512, 1024]⟩ .f32) (y : Shape.Idx ⟨3, ![1, 512, 1024]⟩) : k0_pay7 (F := Ideal) i x a b y = k0_pay6 (F := Ideal) i x a b (ix2 (n0 := 512) (n1 := 1024) (y 1) (y 2)) := by
  unfold k0_pay7
  generalize k0_pay6 (F := Ideal) i x a b = g
  idx_vars y
  pointwise []

/-- A block of one layer, as an array of two axes. -/
def flat (a : FVec Ideal ⟨3, ![1, 512, 1024]⟩ .f32) : FVec Ideal ⟨2, ![512, 1024]⟩ .f32 := fun j => a (ix3 (n0 := 1) (n1 := 512) (n2 := 1024) 0 (j 0) (j 1))

/-- The stored block of the step. -/
theorem pay3 (g : FVec Ideal ⟨2, ![512, 1024]⟩ .f32) (w mu nu : FVec Ideal ⟨3, ![1, 512, 1024]⟩ .f32) (y : Shape.Idx ⟨3, ![1, 512, 1024]⟩) :
    k0_pay3 (F := Ideal) g (k0_pay8 w) (k0_pay9 mu) (k0_pay10 nu) k0_pay11 y = delta (flat w) g (flat mu) (flat nu) (ix2 (n0 := 512) (n1 := 1024) (y 1) (y 2)) := by
  idx_vars y
  pointwise [k0_pay3, k0_pay2, k0_pay1, k0_pay8, k0_pay9, k0_pay10, k0_pay11, delta, newM, newV, flat]

/-- The stored block of the first moment. -/
theorem pay4 (g : FVec Ideal ⟨2, ![512, 1024]⟩ .f32) (mu : FVec Ideal ⟨3, ![1, 512, 1024]⟩ .f32) (y : Shape.Idx ⟨3, ![1, 512, 1024]⟩) :
    k0_pay4 (F := Ideal) g (k0_pay9 mu) k0_pay11 y = newM g (flat mu) (ix2 (n0 := 512) (n1 := 1024) (y 1) (y 2)) := by
  idx_vars y
  pointwise [k0_pay4, k0_pay1, k0_pay9, k0_pay11, newM, flat]

/-- The stored block of the second moment. -/
theorem pay5 (g : FVec Ideal ⟨2, ![512, 1024]⟩ .f32) (nu : FVec Ideal ⟨3, ![1, 512, 1024]⟩ .f32) (y : Shape.Idx ⟨3, ![1, 512, 1024]⟩) :
    k0_pay5 (F := Ideal) g (k0_pay10 nu) y = newV g (flat nu) (ix2 (n0 := 512) (n1 := 1024) (y 1) (y 2)) := by
  idx_vars y
  pointwise [k0_pay5, k0_pay2, k0_pay10, newV, flat]

/-- A row of a block is a row of its layer. -/
theorem row_lt (hO : Ok m) (t : Fin (cfgM m hO).N) (r : Fin 512) : (t.val / 2) * 512 + r.val < 512 := by
  have := lt_of_lt_of_eq t.isLt N_0; omega
/-- A lane of a block is a lane of its layer. -/
theorem col_lt (hO : Ok m) (t : Fin (cfgM m hO).N) (l : Fin 1024) : (t.val % 2) * 1024 + l.val < 2048 := by
  have := lt_of_lt_of_eq t.isLt N_0; omega

/-- The place in the layer of a place in a block. -/
def at_ (hO : Ok m) (t : Fin (cfgM m hO).N) (r : Fin 512) (l : Fin 1024) : Shape.Idx ⟨2, ![512, 2048]⟩ := ix2 (n0 := 512) (n1 := 2048) ⟨_, row_lt m hO t r⟩ ⟨_, col_lt m hO t l⟩

section Blocks
variable (hO : Ok m) (c : Dev nD) (t : Fin (cfgM m hO).N)

/-- The block of the weight is a block of its first layer. -/
theorem blk0 (r : Fin 512) (l : Fin 1024) : flat (iblk m hO c 0 t) (ix2 (n0 := 512) (n1 := 1024) r l) = top (m (c.tc.loc main_arg0) : FVec Ideal ⟨3, ![4, 512, 2048]⟩ .f32) (at_ m hO t r l) := by
  rw [← V_main_arg0 m c]
  show iblk m hO c 0 t (ix3 (n0 := 1) (n1 := 512) (n2 := 1024) 0 r l) = (V m c main_arg0) (ix3 (n0 := 4) (n1 := 512) (n2 := 2048) 0 ⟨_, row_lt m hO t r⟩ ⟨_, col_lt m hO t l⟩)
  blk_point [iblk, idx_val m hO t]

/-- The block of the first moment is a block of its first layer. -/
theorem blk1 (r : Fin 512) (l : Fin 1024) : flat (iblk m hO c 1 t) (ix2 (n0 := 512) (n1 := 1024) r l) = top (m (c.tc.loc main_arg1) : FVec Ideal ⟨3, ![4, 512, 2048]⟩ .f32) (at_ m hO t r l) := by
  rw [← V_main_arg1 m c]
  show iblk m hO c 1 t (ix3 (n0 := 1) (n1 := 512) (n2 := 1024) 0 r l) = (V m c main_arg1) (ix3 (n0 := 4) (n1 := 512) (n2 := 2048) 0 ⟨_, row_lt m hO t r⟩ ⟨_, col_lt m hO t l⟩)
  blk_point [iblk, idx_val m hO t]

/-- The block of the second moment is a block of its first layer. -/
theorem blk2 (r : Fin 512) (l : Fin 1024) : flat (iblk m hO c 2 t) (ix2 (n0 := 512) (n1 := 1024) r l) = top (m (c.tc.loc main_arg2) : FVec Ideal ⟨3, ![4, 512, 2048]⟩ .f32) (at_ m hO t r l) := by
  rw [← V_main_arg2 m c]
  show iblk m hO c 2 t (ix3 (n0 := 1) (n1 := 512) (n2 := 1024) 0 r l) = (V m c main_arg2) (ix3 (n0 := 4) (n1 := 512) (n2 := 2048) 0 ⟨_, row_lt m hO t r⟩ ⟨_, col_lt m hO t l⟩)
  blk_point [iblk, idx_val m hO t]

/-- The block of the device's own half is lanes of it. -/
theorem blk3 (ht : t.val % 2 = 0) (r : Fin 512) (l : Fin 1024) (R : Fin 512) (C : Fin 1024) (hR : R.val = (t.val / 2) * 512 + r.val) (hC : C.val = l.val) : iblk m hO c 3 t (ix2 r l) = m (c.tc.loc main_arg3) (ix2 R C) := by
  rw [← V_main_arg3 m c]
  blk_point [iblk, idx_mine m hO t ht]
/-- The block of the other core's half is lanes of it. -/
theorem blk4 (ht : ¬ t.val % 2 = 0) (r : Fin 512) (l : Fin 1024) (R : Fin 512) (C : Fin 1024) (hR : R.val = (t.val / 2) * 512 + r.val) (hC : C.val = l.val) : iblk m hO c 4 t (ix2 r l) = m (c.tc.loc main_arg4) (ix2 R C) := by
  rw [← V_main_arg4 m c]
  blk_point [iblk, idx_sibling m hO t ht]

/-- The whole gradient. -/
def grad (c : Dev nD) : FVec Ideal ⟨2, ![512, 2048]⟩ .f32 := beside (n := 2048) (k := 512) (h := 1024) (by decide) (m (c.tc.loc main_arg3)) (m (c.tc.loc main_arg4))

/-- The block that the kernel picks is a block of the whole gradient. -/
theorem picked (r : Fin 512) (l : Fin 1024) : k0_pay6 (F := Ideal) (grid0.coords t) (0#32 : BitVec 32) (iblk m hO c 3 t) (iblk m hO c 4 t) (ix2 (n0 := 512) (n1 := 1024) r l) = grad m c (at_ m hO t r l) := by
  have hN := lt_of_lt_of_eq t.isLt N_0
  by_cases ht : t.val % 2 = 0
  · refine (congrFun (pick_mine _ _ t ht) _).trans ?_
    refine (blk3 m hO c t ht r l ⟨_, row_lt m hO t r⟩ l rfl rfl).trans ?_
    exact (beside_left (n := 2048) (k := 512) (h := 1024) (by decide) _ _ _ _ _ (show (t.val % 2) * 1024 + l.val = l.val by omega)).symm
  · refine (congrFun (pick_sibling _ _ t ht) _).trans ?_
    refine (blk4 m hO c t ht r l ⟨_, row_lt m hO t r⟩ l rfl rfl).trans ?_
    exact (beside_right (n := 2048) (k := 512) (h := 1024) (by decide) _ _ _ _ _ (show (t.val % 2) * 1024 + l.val = 1024 + l.val by omega)).symm

end Blocks

section Outs
variable (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S512x1024 .f32) (harg6 : arg6.IsWhole) (arg7 : Memref sig .tc .vmem S512x1024 .f32) (harg7 : arg7.IsWhole) (arg12 : Memref sig .tc .vmem S1x512x1024 .f32) (harg12 : arg12.IsWhole) (arg13 : Memref sig .tc .vmem S1x512x1024 .f32) (harg13 : arg13.IsWhole) (arg14 : Memref sig .tc .vmem S1x512x1024 .f32) (harg14 : arg14.IsWhole) (arg15 : Memref sig .tc .vmem S1x512x1024 .f32) (harg15 : arg15.IsWhole) (x0 x1 x2 : Vec Ideal S1x512x1024 .f32) (x3 x4 : Vec Ideal S512x1024 .f32) (xt0 : TbBuf0 (F := Ideal) c tbM0_0) (hx : xt0 = table 0)
include hx

/-- One grid point stores this of the gradient. -/
theorem out_eq5 : out0_A_5 c i arg3 harg3 arg4 harg4 arg5 harg5 arg6 harg6 arg7 harg7 arg12 harg12 arg13 harg13 arg14 harg14 arg15 harg15 x0 x1 x2 x3 x4 xt0 = k0_pay7 i (0#32 : BitVec 32) x3 x4 := by
  subst hx
  unfold out0_A_5
  frame_out
  rfl

/-- One grid point stores this of the step. -/
theorem out_eq6 : out0_A_6 c i arg3 harg3 arg4 harg4 arg5 harg5 arg6 harg6 arg7 harg7 arg12 harg12 arg13 harg13 arg14 harg14 arg15 harg15 x0 x1 x2 x3 x4 xt0 = k0_pay3 (k0_pay6 i (0#32 : BitVec 32) x3 x4) (k0_pay8 x0) (k0_pay9 x1) (k0_pay10 x2) k0_pay11 := by
  subst hx
  unfold out0_A_6
  frame_out
  rfl

/-- One grid point stores this of the first moment. -/
theorem out_eq7 : out0_A_7 c i arg3 harg3 arg4 harg4 arg5 harg5 arg6 harg6 arg7 harg7 arg12 harg12 arg13 harg13 arg14 harg14 arg15 harg15 x0 x1 x2 x3 x4 xt0 = k0_pay4 (k0_pay6 i (0#32 : BitVec 32) x3 x4) (k0_pay9 x1) k0_pay11 := by
  subst hx
  unfold out0_A_7
  frame_out
  rfl

/-- One grid point stores this of the second moment. -/
theorem out_eq8 : out0_A_8 c i arg3 harg3 arg4 harg4 arg5 harg5 arg6 harg6 arg7 harg7 arg12 harg12 arg13 harg13 arg14 harg14 arg15 harg15 x0 x1 x2 x3 x4 xt0 = k0_pay5 (k0_pay6 i (0#32 : BitVec 32) x3 x4) (k0_pay10 x2) := by
  subst hx
  unfold out0_A_8
  frame_out
  rfl

end Outs

/-- A place of the first layer lies in the block of its rows and lanes. -/
theorem within (i : Shape.Idx ⟨3, ![4, 512, 2048]⟩) (h0 : (i 0).val = 0) : (i 1).val / 512 * 2 + (i 2).val / 1024 < grid0.N ∧ (0 * 1 ≤ (i 0).val ∧ (i 0).val < 0 * 1 + 1)
    ∧ ((((i 1).val / 512 * 2 + (i 2).val / 1024) / 2) * 512 ≤ (i 1).val ∧ (i 1).val < (((i 1).val / 512 * 2 + (i 2).val / 1024) / 2) * 512 + 512) ∧ ((((i 1).val / 512 * 2 + (i 2).val / 1024) % 2) * 1024 ≤ (i 2).val ∧ (i 2).val < (((i 1).val / 512 * 2 + (i 2).val / 1024) % 2) * 1024 + 1024) := by
  have h1 : (i 1).val < 512 := (i 1).isLt
  have h2 : (i 2).val < 2048 := (i 2).isLt
  rw [N_0]
  omega

/-- What grid point `t` leaves of the gradient in its block. -/
theorem after5 (hO : Ok m) (c : Dev nD) (t : Fin (cfgM m hO).N) : (dats m hO 0 c).after 5 t = k0_pay7 (F := Ideal) (grid0.coords t) (0#32 : BitVec 32) (iblk m hO c 3 t) (iblk m hO c 4 t) := by
  rw [after0_5]
  dsimp only [outsAt0]
  exact out_eq5 _ _ _ _ _ _ _ _ _ _ _ _ _ _ _ _ _ _ _ _ _ _ _ _ _ _ (congrFun (tbl_eq m) 0)

/-- The result of the gradient: its first layer replaced. -/
def res5 (c : Dev nD) : FVec Ideal ⟨3, ![4, 512, 2048]⟩ .f32 := over (grad m c) (m (c.tc.loc main_arg5))

/-- The array of the gradient starts as a copy of its argument. -/
theorem start5 (hO : Ok m) (c : Dev nD) : (dats m hO 0 c).A 5 = m (c.tc.loc main_arg5) := by
  rw [A_eq]
  show StableHlo.after hostOps0 _ (Proc.devRef .tc main_v3_0) = _
  after_reads_simp
  rfl

/-- The array of the gradient after the last grid point. -/
theorem final5 (hO : Ok m) (c : Dev nD) : (dats m hO 0 c).arrAt 5 (cfgM m hO).N = res5 m c := by
  refine arrAt_part (dats m hO 0 c) 5 (res5 m c) (fun t hf (y : Shape.Idx ⟨3, ![1, 512, 1024]⟩) => ?_) fun (i : Shape.Idx ⟨3, ![4, 512, 2048]⟩) => ?_
  · blk_simp
    refine (congrFun (after5 m hO c t) y).trans ?_
    refine ((pay7 _ _ _ _ _).trans (picked m hO c t _ _)).trans (over_top _ _ _ _ _ ?_ ?_ ?_).symm
    all_goals blk_simp [idx_val m hO t]
    all_goals first | rfl | (have := (y 0).isLt; omega)
  · by_cases h0 : (i 0).val = 0
    · refine .inl ?_
      obtain ⟨hN, b0, b1, b2⟩ := within i h0
      obtain ⟨t, -, hf, e⟩ := Pipeline.Window.exists_flush_same_index ((cfgM m hO).win 5) rfl (⟨_, hN⟩ : Fin (cfgM m hO).N)
      refine ⟨t, hf, ?_⟩
      have e2 := e.trans (idx_val m hO _).2.2.2.1
      refine (((cfgM m hO).win 5).emb_mem_blk_iff t i rfl).mpr fun (a : Fin 3) => ?_
      refine between (congrFun e2 a) ?_
      fin_cases a
      exacts [b0, b1, b2]
    · exact .inr ((congrFun (start5 m hO c) i).trans (over_rest _ _ _ h0).symm)

/-- What grid point `t` leaves of the step in its block. -/
theorem after6 (hO : Ok m) (c : Dev nD) (t : Fin (cfgM m hO).N) : (dats m hO 0 c).after 6 t = k0_pay3 (k0_pay6 (F := Ideal) (grid0.coords t) (0#32 : BitVec 32) (iblk m hO c 3 t) (iblk m hO c 4 t)) (k0_pay8 (iblk m hO c 0 t)) (k0_pay9 (iblk m hO c 1 t)) (k0_pay10 (iblk m hO c 2 t)) k0_pay11 := by
  rw [after0_6]
  dsimp only [outsAt0]
  exact out_eq6 _ _ _ _ _ _ _ _ _ _ _ _ _ _ _ _ _ _ _ _ _ _ _ _ _ _ (congrFun (tbl_eq m) 0)

/-- The result of the step: its first layer replaced. -/
def res6 (c : Dev nD) : FVec Ideal ⟨3, ![4, 512, 2048]⟩ .f32 := over (delta (top (m (c.tc.loc main_arg0))) (grad m c) (top (m (c.tc.loc main_arg1))) (top (m (c.tc.loc main_arg2)))) (m (c.tc.loc main_arg6))

/-- The array of the step starts as a copy of its argument. -/
theorem start6 (hO : Ok m) (c : Dev nD) : (dats m hO 0 c).A 6 = m (c.tc.loc main_arg6) := by
  rw [A_eq]
  show StableHlo.after hostOps0 _ (Proc.devRef .tc main_v3_1) = _
  after_reads_simp
  rfl

/-- The array of the step after the last grid point. -/
theorem final6 (hO : Ok m) (c : Dev nD) : (dats m hO 0 c).arrAt 6 (cfgM m hO).N = res6 m c := by
  refine arrAt_part (dats m hO 0 c) 6 (res6 m c) (fun t hf (y : Shape.Idx ⟨3, ![1, 512, 1024]⟩) => ?_) fun (i : Shape.Idx ⟨3, ![4, 512, 2048]⟩) => ?_
  · blk_simp
    refine (congrFun (after6 m hO c t) y).trans ?_
    refine ((pay3 _ _ _ _ _).trans (delta_at _ _ _ _ _ _ _ _ _ _ (blk0 m hO c t _ _) (picked m hO c t _ _) (blk1 m hO c t _ _) (blk2 m hO c t _ _))).trans (over_top _ _ _ _ _ ?_ ?_ ?_).symm
    all_goals blk_simp [idx_val m hO t]
    all_goals first | rfl | (have := (y 0).isLt; omega)
  · by_cases h0 : (i 0).val = 0
    · refine .inl ?_
      obtain ⟨hN, b0, b1, b2⟩ := within i h0
      obtain ⟨t, -, hf, e⟩ := Pipeline.Window.exists_flush_same_index ((cfgM m hO).win 6) rfl (⟨_, hN⟩ : Fin (cfgM m hO).N)
      refine ⟨t, hf, ?_⟩
      have e2 := e.trans (idx_val m hO _).2.2.2.2.1
      refine (((cfgM m hO).win 6).emb_mem_blk_iff t i rfl).mpr fun (a : Fin 3) => ?_
      refine between (congrFun e2 a) ?_
      fin_cases a
      exacts [b0, b1, b2]
    · exact .inr ((congrFun (start6 m hO c) i).trans (over_rest _ _ _ h0).symm)

/-- What grid point `t` leaves of the first moment in its block. -/
theorem after7 (hO : Ok m) (c : Dev nD) (t : Fin (cfgM m hO).N) : (dats m hO 0 c).after 7 t = k0_pay4 (k0_pay6 (F := Ideal) (grid0.coords t) (0#32 : BitVec 32) (iblk m hO c 3 t) (iblk m hO c 4 t)) (k0_pay9 (iblk m hO c 1 t)) k0_pay11 := by
  rw [after0_7]
  dsimp only [outsAt0]
  exact out_eq7 _ _ _ _ _ _ _ _ _ _ _ _ _ _ _ _ _ _ _ _ _ _ _ _ _ _ (congrFun (tbl_eq m) 0)

/-- The result of the first moment: its first layer replaced. -/
def res7 (c : Dev nD) : FVec Ideal ⟨3, ![4, 512, 2048]⟩ .f32 := over (newM (grad m c) (top (m (c.tc.loc main_arg1)))) (m (c.tc.loc main_arg7))

/-- The array of the first moment starts as a copy of its argument. -/
theorem start7 (hO : Ok m) (c : Dev nD) : (dats m hO 0 c).A 7 = m (c.tc.loc main_arg7) := by
  rw [A_eq]
  show StableHlo.after hostOps0 _ (Proc.devRef .tc main_v3_2) = _
  after_reads_simp
  rfl

/-- The array of the first moment after the last grid point. -/
theorem final7 (hO : Ok m) (c : Dev nD) : (dats m hO 0 c).arrAt 7 (cfgM m hO).N = res7 m c := by
  refine arrAt_part (dats m hO 0 c) 7 (res7 m c) (fun t hf (y : Shape.Idx ⟨3, ![1, 512, 1024]⟩) => ?_) fun (i : Shape.Idx ⟨3, ![4, 512, 2048]⟩) => ?_
  · blk_simp
    refine (congrFun (after7 m hO c t) y).trans ?_
    refine ((pay4 _ _ _).trans (newM_at _ _ _ _ _ _ (picked m hO c t _ _) (blk1 m hO c t _ _))).trans (over_top _ _ _ _ _ ?_ ?_ ?_).symm
    all_goals blk_simp [idx_val m hO t]
    all_goals first | rfl | (have := (y 0).isLt; omega)
  · by_cases h0 : (i 0).val = 0
    · refine .inl ?_
      obtain ⟨hN, b0, b1, b2⟩ := within i h0
      obtain ⟨t, -, hf, e⟩ := Pipeline.Window.exists_flush_same_index ((cfgM m hO).win 7) rfl (⟨_, hN⟩ : Fin (cfgM m hO).N)
      refine ⟨t, hf, ?_⟩
      have e2 := e.trans (idx_val m hO _).2.2.2.2.2.1
      refine (((cfgM m hO).win 7).emb_mem_blk_iff t i rfl).mpr fun (a : Fin 3) => ?_
      refine between (congrFun e2 a) ?_
      fin_cases a
      exacts [b0, b1, b2]
    · exact .inr ((congrFun (start7 m hO c) i).trans (over_rest _ _ _ h0).symm)

/-- What grid point `t` leaves of the second moment in its block. -/
theorem after8 (hO : Ok m) (c : Dev nD) (t : Fin (cfgM m hO).N) : (dats m hO 0 c).after 8 t = k0_pay5 (k0_pay6 (F := Ideal) (grid0.coords t) (0#32 : BitVec 32) (iblk m hO c 3 t) (iblk m hO c 4 t)) (k0_pay10 (iblk m hO c 2 t)) := by
  rw [after0_8]
  dsimp only [outsAt0]
  exact out_eq8 _ _ _ _ _ _ _ _ _ _ _ _ _ _ _ _ _ _ _ _ _ _ _ _ _ _ (congrFun (tbl_eq m) 0)

/-- The result of the second moment: its first layer replaced. -/
def res8 (c : Dev nD) : FVec Ideal ⟨3, ![4, 512, 2048]⟩ .f32 := over (newV (grad m c) (top (m (c.tc.loc main_arg2)))) (m (c.tc.loc main_arg8))

/-- The array of the second moment starts as a copy of its argument. -/
theorem start8 (hO : Ok m) (c : Dev nD) : (dats m hO 0 c).A 8 = m (c.tc.loc main_arg8) := by
  rw [A_eq]
  show StableHlo.after hostOps0 _ (Proc.devRef .tc main_v3_3) = _
  after_reads_simp
  rfl

/-- The array of the second moment after the last grid point. -/
theorem final8 (hO : Ok m) (c : Dev nD) : (dats m hO 0 c).arrAt 8 (cfgM m hO).N = res8 m c := by
  refine arrAt_part (dats m hO 0 c) 8 (res8 m c) (fun t hf (y : Shape.Idx ⟨3, ![1, 512, 1024]⟩) => ?_) fun (i : Shape.Idx ⟨3, ![4, 512, 2048]⟩) => ?_
  · blk_simp
    refine (congrFun (after8 m hO c t) y).trans ?_
    refine ((pay5 _ _ _).trans (newV_at _ _ _ _ _ _ (picked m hO c t _ _) (blk2 m hO c t _ _))).trans (over_top _ _ _ _ _ ?_ ?_ ?_).symm
    all_goals blk_simp [idx_val m hO t]
    all_goals first | rfl | (have := (y 0).isLt; omega)
  · by_cases h0 : (i 0).val = 0
    · refine .inl ?_
      obtain ⟨hN, b0, b1, b2⟩ := within i h0
      obtain ⟨t, -, hf, e⟩ := Pipeline.Window.exists_flush_same_index ((cfgM m hO).win 8) rfl (⟨_, hN⟩ : Fin (cfgM m hO).N)
      refine ⟨t, hf, ?_⟩
      have e2 := e.trans (idx_val m hO _).2.2.2.2.2.2
      refine (((cfgM m hO).win 8).emb_mem_blk_iff t i rfl).mpr fun (a : Fin 3) => ?_
      refine between (congrFun e2 a) ?_
      fin_cases a
      exacts [b0, b1, b2]
    · exact .inr ((congrFun (start8 m hO c) i).trans (over_rest _ _ _ h0).symm)

end Cert.UOutConvIdeal.Hand

namespace Cert.UOutConvRefIdeal.Hand

open Cert.UOutConvRefIdeal Cert.UOutConvRefIdeal.Gen Cert.SmallMath Idealize.ShloMosaic Idealize.ShloMosaic.TcCoe Idealize.SL.Sem

/-- The reference's line that puts the two halves together. -/
theorem beside_eq (a b : FVec Ideal ⟨2, ![512, 1024]⟩ .f32) : concatenate S512x2048 1 [⟨S512x1024, a⟩, ⟨S512x1024, b⟩] concatenates_S512x1024_S512x1024_S512x2048_d1 = beside (n := 2048) (k := 512) (h := 1024) (by decide) a b := by
  funext (j : Shape.Idx ⟨2, ![512, 2048]⟩)
  have hj : (j 1).val < 2048 := (j 1).isLt
  by_cases l : (j 1).val < 1024
  · refine (concatenate_pair_apply_left 1 a b _ j rfl (ix2 (n0 := 512) (n1 := 1024) (j 0) ⟨_, l⟩) (fun x => by fin_cases x <;> rfl)).trans ?_
    unfold beside; rw [dif_pos l]
  · refine (concatenate_pair_apply_right 1 a b _ j rfl rfl (ix2 (n0 := 512) (n1 := 1024) (j 0) ⟨(j 1).val - 1024, by omega⟩) (fun x hx => by fin_cases x <;> first | rfl | exact absurd rfl hx) (show (j 1).val - 1024 + 1024 = (j 1).val by omega)).trans ?_
    unfold beside; rw [dif_neg l]

/-- The reference's line that takes the first layer. -/
theorem top_eq (a : FVec Ideal ⟨3, ![4, 512, 2048]⟩ .f32) : shapeCast S512x2048 (extractStridedSlice S1x512x2048 ![0, 0, 0] a slices_S4x512x2048_S1x512x2048_0_0_0) shapeCasts_S1x512x2048_S512x2048 = top a := by
  funext (j : Shape.Idx ⟨2, ![512, 2048]⟩)
  idx_vars j
  pointwise [top]

/-- The reference's line that puts the new first layer before the others. -/
theorem over_eq (a : FVec Ideal ⟨2, ![512, 2048]⟩ .f32) (rest : FVec Ideal ⟨3, ![4, 512, 2048]⟩ .f32) : concatenate S4x512x2048 0 [⟨S1x512x2048, (broadcastInDim S1x512x2048 ![1, 2] bcast_S512x2048_S1x512x2048_1_2 a)⟩, ⟨S3x512x2048, (extractStridedSlice S3x512x2048 ![1, 0, 0] rest slices_S4x512x2048_S3x512x2048_1_0_0)⟩] concatenates_S1x512x2048_S3x512x2048_S4x512x2048_d0 = over a rest := by
  funext (j : Shape.Idx ⟨3, ![4, 512, 2048]⟩)
  have hj : (j 0).val < 4 := (j 0).isLt
  by_cases l : (j 0).val = 0
  · refine (concatenate_pair_apply_left (s₁ := S1x512x2048) (s₂ := S3x512x2048) 0 _ _ _ j rfl (ix3 (n0 := 1) (n1 := 512) (n2 := 2048) 0 (j 1) (j 2)) (fun x => by fin_cases x <;> first | rfl | exact l.symm)).trans ?_
    refine Eq.trans ?_ (over_top a rest j (j 1) (j 2) l rfl rfl).symm
    pointwise []
  · refine (concatenate_pair_apply_right (s₁ := S1x512x2048) (s₂ := S3x512x2048) 0 _ _ _ j rfl rfl (ix3 (n0 := 3) (n1 := 512) (n2 := 2048) ⟨(j 0).val - 1, by omega⟩ (j 1) (j 2)) (fun x hx => by fin_cases x <;> first | rfl | exact absurd rfl hx) (show (j 0).val - 1 + 1 = (j 0).val by omega)).trans ?_
    refine Eq.trans ?_ (over_rest a rest j l).symm
    refine (extractStridedSlice_apply _ _ _ _ j ?_).trans rfl
    intro x
    fin_cases x
    · show (j 0).val = 1 + ((j 0).val - 1); omega
    · exact (Nat.zero_add _).symm
    · exact (Nat.zero_add _).symm

/-- The reference ends with its results at the same functions of the arguments, which it leaves as they were. -/
theorem run_math (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem (c.tc.loc main_v33) = (over (beside (n := 2048) (k := 512) (h := 1024) (by decide) (m (c.tc.loc main_arg3)) (m (c.tc.loc main_arg4))) (m (c.tc.loc main_arg5)) : FVec Ideal ⟨3, ![4, 512, 2048]⟩ .f32)
      ∧ r.2.mem (c.tc.loc main_v36) = (over (delta (top (m (c.tc.loc main_arg0))) (beside (n := 2048) (k := 512) (h := 1024) (by decide) (m (c.tc.loc main_arg3)) (m (c.tc.loc main_arg4))) (top (m (c.tc.loc main_arg1))) (top (m (c.tc.loc main_arg2)))) (m (c.tc.loc main_arg6)) : FVec Ideal ⟨3, ![4, 512, 2048]⟩ .f32)
      ∧ r.2.mem (c.tc.loc main_v39) = (over (newM (beside (n := 2048) (k := 512) (h := 1024) (by decide) (m (c.tc.loc main_arg3)) (m (c.tc.loc main_arg4))) (top (m (c.tc.loc main_arg1)))) (m (c.tc.loc main_arg7)) : FVec Ideal ⟨3, ![4, 512, 2048]⟩ .f32)
      ∧ r.2.mem (c.tc.loc main_v42) = (over (newV (beside (n := 2048) (k := 512) (h := 1024) (by decide) (m (c.tc.loc main_arg3)) (m (c.tc.loc main_arg4))) (top (m (c.tc.loc main_arg2)))) (m (c.tc.loc main_arg8)) : FVec Ideal ⟨3, ![4, 512, 2048]⟩ .f32)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)
      ∧ r.2.mem (c.tc.loc main_arg8) = m (c.tc.loc main_arg8) := by
  refine (θ_run _ _ _).mono (fun r h c => ?_) (Cert.UOutConvRefIdeal.Value.run m ρ)
  obtain ⟨h0, h1, h2, h3, ha⟩ := h c
  refine ⟨h0.trans ?_, h1.trans ?_, h2.trans ?_, h3.trans ?_, ha⟩
  all_goals clear h0 h1 h2 h3 ha h r
  · exact (over_eq _ _).trans (congrArg (fun g => over g _) (beside_eq _ _))
  · refine (over_eq _ _).trans (congrArg (fun g => over g _) ?_)
    simp only [beside_eq, top_eq]
    rfl
  · refine (over_eq _ _).trans (congrArg (fun g => over g _) ?_)
    simp only [beside_eq, top_eq]
    rfl
  · refine (over_eq _ _).trans (congrArg (fun g => over g _) ?_)
    simp only [beside_eq, top_eq]
    rfl

end Cert.UOutConvRefIdeal.Hand

namespace Cert.UOutConvIdeal.Hand

open Cert.SmallMath Idealize.ShloMosaic Idealize.ShloMosaic.TcCoe Idealize.SL.Sem

/-- Kernel and reference, run from memories that agree on the arguments, end with equal results. -/
theorem algebraic : Cert.algebraic_UOutConvIdeal_UOutConvRefIdeal := by
  intro m g m' g' _ hag
  refine ⟨fun c => res5 m c, fun c => res6 m c, fun c => res7 m c, fun c => res8 m c, ?_, ?_⟩
  · refine (θ_run _ _ _).mono (fun r h c => ?_) ((θ_run_and (Gen.run_main m g (ok m)) (Gen.unchanged m g (ok m))))
    exact ⟨((h.1 c).1 5).trans (final5 m (ok m) c), ((h.1 c).1 6).trans (final6 m (ok m) c), ((h.1 c).1 7).trans (final7 m (ok m) c), ((h.1 c).1 8).trans (final8 m (ok m) c), h.2 c⟩
  · refine (θ_run _ _ _).mono (fun r h c => ?_) (UOutConvRefIdeal.Hand.run_math m' g')
    obtain ⟨e0, e1, e2, e3, e4, e5, e6, e7, e8⟩ := hag c
    obtain ⟨h0, h1, h2, h3, ha⟩ := h c
    refine ⟨?_, ?_, ?_, ?_, ha⟩
    · beta_reduce; unfold res5 grad; rw [← e3, ← e4, ← e5]; exact h0
    · beta_reduce; unfold res6 grad; rw [← e0, ← e1, ← e2, ← e3, ← e4, ← e6]; exact h1
    · beta_reduce; unfold res7 grad; rw [← e1, ← e3, ← e4, ← e7]; exact h2
    · beta_reduce; unfold res8 grad; rw [← e2, ← e3, ← e4, ← e8]; exact h3

/-- The reference runs and leaves its arguments and every counter as they were. -/
theorem ref_frame : Cert.quiescent_UOutConvRefIdeal := by
  intro m g _
  exact (θ_run _ _ _).mono (fun r h => ⟨fun c => (h c).2.2.2.2, sem_eq_zero_of_no_sems (by decide) r.2⟩) (UOutConvRefIdeal.Hand.run_math m g)

end Cert.UOutConvIdeal.Hand

end
-- ==== Proof.UOutAttnStep.lean ====
/- The optimiser's call on the first layer of the attention's last weight: kernel and reference both take the gradient from its two halves and replace the first layer of each result. -/
module

public import proofs.«01_k».proof.Defs
public import proofs.«01_k».proof.Proof.StepMath
public import proofs.«01_k».proof.Proof.StepSide
public import proofs.«01_k».proof.Proof.Gen.UOutAttn.Frame
public import proofs.«01_k».proof.Proof.Gen.UOutAttnIdeal.Frame
public import proofs.«01_k».proof.Proof.Gen.UOutAttnRefIdeal.Run
public import Idealize.ShloMosaic.Lib.Tactic.CleanTypes
public import Idealize.ShloMosaic.Lib.Claim
public import Idealize.ShloMosaic.Lib.Pipeline.Covers

@[expose] public section

set_option maxRecDepth 16384

noncomputable section

namespace Cert.UOutAttn.Hand

open Cert.UOutAttn Cert.UOutAttn.Gen Idealize.ShloMosaic Idealize.ShloMosaic.TcCoe Idealize.SL.Sem

/-- The table that holds a zero. -/
def table : pre0.Contents (Elt Bits) | 0 => fun _ => (0#32 : BitVec 32)

/-- The place that the kernel reads is zero. -/
theorem tbl_eq (m : (ℓ : Loc nD τ sig) → Buf (Elt Bits) ℓ) : tbl m = table := by
  funext j
  obtain rfl : j = 0 := Subsingleton.elim (α := Fin 1) j 0
  funext i
  show StableHlo.after hostOps0 _ (Proc.devRef .tc main_v0) i = _
  after_reads_simp
  rfl

/-- So every block lies inside its array. -/
theorem ok (m : (ℓ : Loc nD τ sig) → Buf (Elt Bits) ℓ) : Ok m := by
  show ok0 (tbl m)
  rw [tbl_eq]
  decide +kernel

end Cert.UOutAttn.Hand

namespace Cert.UOutAttnIdeal.Hand

open Cert.UOutAttnIdeal Cert.UOutAttnIdeal.Gen Cert.SmallMath Idealize.ShloMosaic Idealize.ShloMosaic.TcCoe Idealize.SL.Sem

/-- The table that holds a zero. -/
def table : pre0.Contents (Elt Ideal) | 0 => fun _ => (0#32 : BitVec 32)

/-- The place that the kernel reads is zero. -/
theorem tbl_eq (m : (ℓ : Loc nD τ sig) → Buf (Elt Ideal) ℓ) : tbl m = table := by
  funext j
  obtain rfl : j = 0 := Subsingleton.elim (α := Fin 1) j 0
  funext i
  show StableHlo.after hostOps0 _ (Proc.devRef .tc main_v0) i = _
  after_reads_simp
  rfl

/-- So every block lies inside its array. -/
theorem ok (m : (ℓ : Loc nD τ sig) → Buf (Elt Ideal) ℓ) : Ok m := by
  show ok0 (tbl m)
  rw [tbl_eq]
  decide +kernel

variable (m : (ℓ : Loc nD τ sig) → Buf (Elt Ideal) ℓ)

/-- Which block of its array each window of whole layers holds at grid point `t`. -/
theorem idx_val (hO : Ok m) : ∀ t : Fin (cfgM m hO).N, ((cfgM m hO).win 0).index t = ![0, t.val / 2, t.val % 2] ∧ ((cfgM m hO).win 1).index t = ![0, t.val / 2, t.val % 2] ∧ ((cfgM m hO).win 2).index t = ![0, t.val / 2, t.val % 2]
    ∧ ((cfgM m hO).win 5).index t = ![0, t.val / 2, t.val % 2] ∧ ((cfgM m hO).win 6).index t = ![0, t.val / 2, t.val % 2] ∧ ((cfgM m hO).win 7).index t = ![0, t.val / 2, t.val % 2] ∧ ((cfgM m hO).win 8).index t = ![0, t.val / 2, t.val % 2] := by
  have h : ∀ t : Fin grid0.N, cc0_transform_0 (grid0.coords t) = ![0, t.val / 2, t.val % 2] ∧ cc0_transform_1 (grid0.coords t) = ![0, t.val / 2, t.val % 2] ∧ cc0_transform_2 (grid0.coords t) = ![0, t.val / 2, t.val % 2]
    ∧ cc0_transform_9 (grid0.coords t) = ![0, t.val / 2, t.val % 2] ∧ cc0_transform_10 (grid0.coords t) = ![0, t.val / 2, t.val % 2] ∧ cc0_transform_11 (grid0.coords t) = ![0, t.val / 2, t.val % 2] ∧ cc0_transform_12 (grid0.coords t) = ![0, t.val / 2, t.val % 2] := by
    decide +kernel
  exact h

/-- Which block of the device's own half of the gradient is held while that half is stepped. -/
theorem idx_mine (hO : Ok m) : ∀ t : Fin (cfgM m hO).N, t.val % 2 = 0 → ((cfgM m hO).win 3).index t = ![t.val / 2, 0] := by
  have h : ∀ t : Fin grid0.N, t.val % 2 = 0 → cc0_transform_3 inb_S1_S1_0 numel1_S1 (tbl m) (grid0.coords t) = ![t.val / 2, 0] := by
    rw [tbl_eq]; decide +kernel
  exact h

/-- Which block of the other core's half of the gradient is held while that half is stepped. -/
theorem idx_sibling (hO : Ok m) : ∀ t : Fin (cfgM m hO).N, ¬ t.val % 2 = 0 → ((cfgM m hO).win 4).index t = ![t.val / 2, 0] := by
  have h : ∀ t : Fin grid0.N, ¬ t.val % 2 = 0 → cc0_transform_4 inb_S1_S1_0 numel1_S1 (tbl m) (grid0.coords t) = ![t.val / 2, 0] := by
    rw [tbl_eq]; decide +kernel
  exact h

/-- Which half the kernel takes the block of the gradient from. -/
theorem pick (a b : FVec Ideal ⟨2, ![512, 1024]⟩ .f32) : ∀ t : Fin grid0.N, k0_pay6 (F := Ideal) (grid0.coords t) (0#32 : BitVec 32) a b = if t.val % 2 = 0 then a else b := by
  intro t
  rcases fin_N0 t with rfl | rfl <;> rfl

/-- The even points of the grid take the device's own half. -/
theorem pick_mine (a b : FVec Ideal ⟨2, ![512, 1024]⟩ .f32) (t : Fin grid0.N) (ht : t.val % 2 = 0) : k0_pay6 (F := Ideal) (grid0.coords t) (0#32 : BitVec 32) a b = a :=
  (pick a b t).trans (if_pos ht)

/-- The odd points of the grid take the other core's half. -/
theorem pick_sibling (a b : FVec Ideal ⟨2, ![512, 1024]⟩ .f32) (t : Fin grid0.N) (ht : ¬ t.val % 2 = 0) : k0_pay6 (F := Ideal) (grid0.coords t) (0#32 : BitVec 32) a b = b :=
  (pick a b t).trans (if_neg ht)

/-- The stored block of the gradient. -/
theorem pay7 (i : grid0.Coords) (x : Elt Ideal .i32) (a b : FVec Ideal ⟨2, ![512, 1024]⟩ .f32) (y : Shape.Idx ⟨3, ![1, 512, 1024]⟩) : k0_pay7 (F := Ideal) i x a b y = k0_pay6 (F := Ideal) i x a b (ix2 (n0 := 512) (n1 := 1024) (y 1) (y 2)) := by
  unfold k0_pay7
  generalize k0_pay6 (F := Ideal) i x a b = g
  idx_vars y
  pointwise []

/-- A block of one layer, as an array of two axes. -/
def flat (a : FVec Ideal ⟨3, ![1, 512, 1024]⟩ .f32) : FVec Ideal ⟨2, ![512, 1024]⟩ .f32 := fun j => a (ix3 (n0 := 1) (n1 := 512) (n2 := 1024) 0 (j 0) (j 1))

/-- The stored block of the step. -/
theorem pay3 (g : FVec Ideal ⟨2, ![512, 1024]⟩ .f32) (w mu nu : FVec Ideal ⟨3, ![1, 512, 1024]⟩ .f32) (y : Shape.Idx ⟨3, ![1, 512, 1024]⟩) :
    k0_pay3 (F := Ideal) g (k0_pay8 w) (k0_pay9 mu) (k0_pay10 nu) k0_pay11 y = delta (flat w) g (flat mu) (flat nu) (ix2 (n0 := 512) (n1 := 1024) (y 1) (y 2)) := by
  idx_vars y
  pointwise [k0_pay3, k0_pay2, k0_pay1, k0_pay8, k0_pay9, k0_pay10, k0_pay11, delta, newM, newV, flat]

/-- The stored block of the first moment. -/
theorem pay4 (g : FVec Ideal ⟨2, ![512, 1024]⟩ .f32) (mu : FVec Ideal ⟨3, ![1, 512, 1024]⟩ .f32) (y : Shape.Idx ⟨3, ![1, 512, 1024]⟩) :
    k0_pay4 (F := Ideal) g (k0_pay9 mu) k0_pay11 y = newM g (flat mu) (ix2 (n0 := 512) (n1 := 1024) (y 1) (y 2)) := by
  idx_vars y
  pointwise [k0_pay4, k0_pay1, k0_pay9, k0_pay11, newM, flat]

/-- The stored block of the second moment. -/
theorem pay5 (g : FVec Ideal ⟨2, ![512, 1024]⟩ .f32) (nu : FVec Ideal ⟨3, ![1, 512, 1024]⟩ .f32) (y : Shape.Idx ⟨3, ![1, 512, 1024]⟩) :
    k0_pay5 (F := Ideal) g (k0_pay10 nu) y = newV g (flat nu) (ix2 (n0 := 512) (n1 := 1024) (y 1) (y 2)) := by
  idx_vars y
  pointwise [k0_pay5, k0_pay2, k0_pay10, newV, flat]

/-- A row of a block is a row of its layer. -/
theorem row_lt (hO : Ok m) (t : Fin (cfgM m hO).N) (r : Fin 512) : (t.val / 2) * 512 + r.val < 512 := by
  have := lt_of_lt_of_eq t.isLt N_0; omega
/-- A lane of a block is a lane of its layer. -/
theorem col_lt (hO : Ok m) (t : Fin (cfgM m hO).N) (l : Fin 1024) : (t.val % 2) * 1024 + l.val < 2048 := by
  have := lt_of_lt_of_eq t.isLt N_0; omega

/-- The place in the layer of a place in a block. -/
def at_ (hO : Ok m) (t : Fin (cfgM m hO).N) (r : Fin 512) (l : Fin 1024) : Shape.Idx ⟨2, ![512, 2048]⟩ := ix2 (n0 := 512) (n1 := 2048) ⟨_, row_lt m hO t r⟩ ⟨_, col_lt m hO t l⟩

section Blocks
variable (hO : Ok m) (c : Dev nD) (t : Fin (cfgM m hO).N)

/-- The block of the weight is a block of its first layer. -/
theorem blk0 (r : Fin 512) (l : Fin 1024) : flat (iblk m hO c 0 t) (ix2 (n0 := 512) (n1 := 1024) r l) = top (m (c.tc.loc main_arg0) : FVec Ideal ⟨3, ![4, 512, 2048]⟩ .f32) (at_ m hO t r l) := by
  rw [← V_main_arg0 m c]
  show iblk m hO c 0 t (ix3 (n0 := 1) (n1 := 512) (n2 := 1024) 0 r l) = (V m c main_arg0) (ix3 (n0 := 4) (n1 := 512) (n2 := 2048) 0 ⟨_, row_lt m hO t r⟩ ⟨_, col_lt m hO t l⟩)
  blk_point [iblk, idx_val m hO t]

/-- The block of the first moment is a block of its first layer. -/
theorem blk1 (r : Fin 512) (l : Fin 1024) : flat (iblk m hO c 1 t) (ix2 (n0 := 512) (n1 := 1024) r l) = top (m (c.tc.loc main_arg1) : FVec Ideal ⟨3, ![4, 512, 2048]⟩ .f32) (at_ m hO t r l) := by
  rw [← V_main_arg1 m c]
  show iblk m hO c 1 t (ix3 (n0 := 1) (n1 := 512) (n2 := 1024) 0 r l) = (V m c main_arg1) (ix3 (n0 := 4) (n1 := 512) (n2 := 2048) 0 ⟨_, row_lt m hO t r⟩ ⟨_, col_lt m hO t l⟩)
  blk_point [iblk, idx_val m hO t]

/-- The block of the second moment is a block of its first layer. -/
theorem blk2 (r : Fin 512) (l : Fin 1024) : flat (iblk m hO c 2 t) (ix2 (n0 := 512) (n1 := 1024) r l) = top (m (c.tc.loc main_arg2) : FVec Ideal ⟨3, ![4, 512, 2048]⟩ .f32) (at_ m hO t r l) := by
  rw [← V_main_arg2 m c]
  show iblk m hO c 2 t (ix3 (n0 := 1) (n1 := 512) (n2 := 1024) 0 r l) = (V m c main_arg2) (ix3 (n0 := 4) (n1 := 512) (n2 := 2048) 0 ⟨_, row_lt m hO t r⟩ ⟨_, col_lt m hO t l⟩)
  blk_point [iblk, idx_val m hO t]

/-- The block of the device's own half is lanes of it. -/
theorem blk3 (ht : t.val % 2 = 0) (r : Fin 512) (l : Fin 1024) (R : Fin 512) (C : Fin 1024) (hR : R.val = (t.val / 2) * 512 + r.val) (hC : C.val = l.val) : iblk m hO c 3 t (ix2 r l) = m (c.tc.loc main_arg3) (ix2 R C) := by
  rw [← V_main_arg3 m c]
  blk_point [iblk, idx_mine m hO t ht]
/-- The block of the other core's half is lanes of it. -/
theorem blk4 (ht : ¬ t.val % 2 = 0) (r : Fin 512) (l : Fin 1024) (R : Fin 512) (C : Fin 1024) (hR : R.val = (t.val / 2) * 512 + r.val) (hC : C.val = l.val) : iblk m hO c 4 t (ix2 r l) = m (c.tc.loc main_arg4) (ix2 R C) := by
  rw [← V_main_arg4 m c]
  blk_point [iblk, idx_sibling m hO t ht]

/-- The whole gradient. -/
def grad (c : Dev nD) : FVec Ideal ⟨2, ![512, 2048]⟩ .f32 := beside (n := 2048) (k := 512) (h := 1024) (by decide) (m (c.tc.loc main_arg3)) (m (c.tc.loc main_arg4))

/-- The block that the kernel picks is a block of the whole gradient. -/
theorem picked (r : Fin 512) (l : Fin 1024) : k0_pay6 (F := Ideal) (grid0.coords t) (0#32 : BitVec 32) (iblk m hO c 3 t) (iblk m hO c 4 t) (ix2 (n0 := 512) (n1 := 1024) r l) = grad m c (at_ m hO t r l) := by
  have hN := lt_of_lt_of_eq t.isLt N_0
  by_cases ht : t.val % 2 = 0
  · refine (congrFun (pick_mine _ _ t ht) _).trans ?_
    refine (blk3 m hO c t ht r l ⟨_, row_lt m hO t r⟩ l rfl rfl).trans ?_
    exact (beside_left (n := 2048) (k := 512) (h := 1024) (by decide) _ _ _ _ _ (show (t.val % 2) * 1024 + l.val = l.val by omega)).symm
  · refine (congrFun (pick_sibling _ _ t ht) _).trans ?_
    refine (blk4 m hO c t ht r l ⟨_, row_lt m hO t r⟩ l rfl rfl).trans ?_
    exact (beside_right (n := 2048) (k := 512) (h := 1024) (by decide) _ _ _ _ _ (show (t.val % 2) * 1024 + l.val = 1024 + l.val by omega)).symm

end Blocks

section Outs
variable (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S512x1024 .f32) (harg6 : arg6.IsWhole) (arg7 : Memref sig .tc .vmem S512x1024 .f32) (harg7 : arg7.IsWhole) (arg12 : Memref sig .tc .vmem S1x512x1024 .f32) (harg12 : arg12.IsWhole) (arg13 : Memref sig .tc .vmem S1x512x1024 .f32) (harg13 : arg13.IsWhole) (arg14 : Memref sig .tc .vmem S1x512x1024 .f32) (harg14 : arg14.IsWhole) (arg15 : Memref sig .tc .vmem S1x512x1024 .f32) (harg15 : arg15.IsWhole) (x0 x1 x2 : Vec Ideal S1x512x1024 .f32) (x3 x4 : Vec Ideal S512x1024 .f32) (xt0 : TbBuf0 (F := Ideal) c tbM0_0) (hx : xt0 = table 0)
include hx

/-- One grid point stores this of the gradient. -/
theorem out_eq5 : out0_A_5 c i arg3 harg3 arg4 harg4 arg5 harg5 arg6 harg6 arg7 harg7 arg12 harg12 arg13 harg13 arg14 harg14 arg15 harg15 x0 x1 x2 x3 x4 xt0 = k0_pay7 i (0#32 : BitVec 32) x3 x4 := by
  subst hx
  unfold out0_A_5
  frame_out
  rfl

/-- One grid point stores this of the step. -/
theorem out_eq6 : out0_A_6 c i arg3 harg3 arg4 harg4 arg5 harg5 arg6 harg6 arg7 harg7 arg12 harg12 arg13 harg13 arg14 harg14 arg15 harg15 x0 x1 x2 x3 x4 xt0 = k0_pay3 (k0_pay6 i (0#32 : BitVec 32) x3 x4) (k0_pay8 x0) (k0_pay9 x1) (k0_pay10 x2) k0_pay11 := by
  subst hx
  unfold out0_A_6
  frame_out
  rfl

/-- One grid point stores this of the first moment. -/
theorem out_eq7 : out0_A_7 c i arg3 harg3 arg4 harg4 arg5 harg5 arg6 harg6 arg7 harg7 arg12 harg12 arg13 harg13 arg14 harg14 arg15 harg15 x0 x1 x2 x3 x4 xt0 = k0_pay4 (k0_pay6 i (0#32 : BitVec 32) x3 x4) (k0_pay9 x1) k0_pay11 := by
  subst hx
  unfold out0_A_7
  frame_out
  rfl

/-- One grid point stores this of the second moment. -/
theorem out_eq8 : out0_A_8 c i arg3 harg3 arg4 harg4 arg5 harg5 arg6 harg6 arg7 harg7 arg12 harg12 arg13 harg13 arg14 harg14 arg15 harg15 x0 x1 x2 x3 x4 xt0 = k0_pay5 (k0_pay6 i (0#32 : BitVec 32) x3 x4) (k0_pay10 x2) := by
  subst hx
  unfold out0_A_8
  frame_out
  rfl

end Outs

/-- A place of the first layer lies in the block of its rows and lanes. -/
theorem within (i : Shape.Idx ⟨3, ![4, 512, 2048]⟩) (h0 : (i 0).val = 0) : (i 1).val / 512 * 2 + (i 2).val / 1024 < grid0.N ∧ (0 * 1 ≤ (i 0).val ∧ (i 0).val < 0 * 1 + 1)
    ∧ ((((i 1).val / 512 * 2 + (i 2).val / 1024) / 2) * 512 ≤ (i 1).val ∧ (i 1).val < (((i 1).val / 512 * 2 + (i 2).val / 1024) / 2) * 512 + 512) ∧ ((((i 1).val / 512 * 2 + (i 2).val / 1024) % 2) * 1024 ≤ (i 2).val ∧ (i 2).val < (((i 1).val / 512 * 2 + (i 2).val / 1024) % 2) * 1024 + 1024) := by
  have h1 : (i 1).val < 512 := (i 1).isLt
  have h2 : (i 2).val < 2048 := (i 2).isLt
  rw [N_0]
  omega

/-- What grid point `t` leaves of the gradient in its block. -/
theorem after5 (hO : Ok m) (c : Dev nD) (t : Fin (cfgM m hO).N) : (dats m hO 0 c).after 5 t = k0_pay7 (F := Ideal) (grid0.coords t) (0#32 : BitVec 32) (iblk m hO c 3 t) (iblk m hO c 4 t) := by
  rw [after0_5]
  dsimp only [outsAt0]
  exact out_eq5 _ _ _ _ _ _ _ _ _ _ _ _ _ _ _ _ _ _ _ _ _ _ _ _ _ _ (congrFun (tbl_eq m) 0)

/-- The result of the gradient: its first layer replaced. -/
def res5 (c : Dev nD) : FVec Ideal ⟨3, ![4, 512, 2048]⟩ .f32 := over (grad m c) (m (c.tc.loc main_arg5))

/-- The array of the gradient starts as a copy of its argument. -/
theorem start5 (hO : Ok m) (c : Dev nD) : (dats m hO 0 c).A 5 = m (c.tc.loc main_arg5) := by
  rw [A_eq]
  show StableHlo.after hostOps0 _ (Proc.devRef .tc main_v3_0) = _
  after_reads_simp
  rfl

/-- The array of the gradient after the last grid point. -/
theorem final5 (hO : Ok m) (c : Dev nD) : (dats m hO 0 c).arrAt 5 (cfgM m hO).N = res5 m c := by
  refine arrAt_part (dats m hO 0 c) 5 (res5 m c) (fun t hf (y : Shape.Idx ⟨3, ![1, 512, 1024]⟩) => ?_) fun (i : Shape.Idx ⟨3, ![4, 512, 2048]⟩) => ?_
  · blk_simp
    refine (congrFun (after5 m hO c t) y).trans ?_
    refine ((pay7 _ _ _ _ _).trans (picked m hO c t _ _)).trans (over_top _ _ _ _ _ ?_ ?_ ?_).symm
    all_goals blk_simp [idx_val m hO t]
    all_goals first | rfl | (have := (y 0).isLt; omega)
  · by_cases h0 : (i 0).val = 0
    · refine .inl ?_
      obtain ⟨hN, b0, b1, b2⟩ := within i h0
      obtain ⟨t, -, hf, e⟩ := Pipeline.Window.exists_flush_same_index ((cfgM m hO).win 5) rfl (⟨_, hN⟩ : Fin (cfgM m hO).N)
      refine ⟨t, hf, ?_⟩
      have e2 := e.trans (idx_val m hO _).2.2.2.1
      refine (((cfgM m hO).win 5).emb_mem_blk_iff t i rfl).mpr fun (a : Fin 3) => ?_
      refine between (congrFun e2 a) ?_
      fin_cases a
      exacts [b0, b1, b2]
    · exact .inr ((congrFun (start5 m hO c) i).trans (over_rest _ _ _ h0).symm)

/-- What grid point `t` leaves of the step in its block. -/
theorem after6 (hO : Ok m) (c : Dev nD) (t : Fin (cfgM m hO).N) : (dats m hO 0 c).after 6 t = k0_pay3 (k0_pay6 (F := Ideal) (grid0.coords t) (0#32 : BitVec 32) (iblk m hO c 3 t) (iblk m hO c 4 t)) (k0_pay8 (iblk m hO c 0 t)) (k0_pay9 (iblk m hO c 1 t)) (k0_pay10 (iblk m hO c 2 t)) k0_pay11 := by
  rw [after0_6]
  dsimp only [outsAt0]
  exact out_eq6 _ _ _ _ _ _ _ _ _ _ _ _ _ _ _ _ _ _ _ _ _ _ _ _ _ _ (congrFun (tbl_eq m) 0)

/-- The result of the step: its first layer replaced. -/
def res6 (c : Dev nD) : FVec Ideal ⟨3, ![4, 512, 2048]⟩ .f32 := over (delta (top (m (c.tc.loc main_arg0))) (grad m c) (top (m (c.tc.loc main_arg1))) (top (m (c.tc.loc main_arg2)))) (m (c.tc.loc main_arg6))

/-- The array of the step starts as a copy of its argument. -/
theorem start6 (hO : Ok m) (c : Dev nD) : (dats m hO 0 c).A 6 = m (c.tc.loc main_arg6) := by
  rw [A_eq]
  show StableHlo.after hostOps0 _ (Proc.devRef .tc main_v3_1) = _
  after_reads_simp
  rfl

/-- The array of the step after the last grid point. -/
theorem final6 (hO : Ok m) (c : Dev nD) : (dats m hO 0 c).arrAt 6 (cfgM m hO).N = res6 m c := by
  refine arrAt_part (dats m hO 0 c) 6 (res6 m c) (fun t hf (y : Shape.Idx ⟨3, ![1, 512, 1024]⟩) => ?_) fun (i : Shape.Idx ⟨3, ![4, 512, 2048]⟩) => ?_
  · blk_simp
    refine (congrFun (after6 m hO c t) y).trans ?_
    refine ((pay3 _ _ _ _ _).trans (delta_at _ _ _ _ _ _ _ _ _ _ (blk0 m hO c t _ _) (picked m hO c t _ _) (blk1 m hO c t _ _) (blk2 m hO c t _ _))).trans (over_top _ _ _ _ _ ?_ ?_ ?_).symm
    all_goals blk_simp [idx_val m hO t]
    all_goals first | rfl | (have := (y 0).isLt; omega)
  · by_cases h0 : (i 0).val = 0
    · refine .inl ?_
      obtain ⟨hN, b0, b1, b2⟩ := within i h0
      obtain ⟨t, -, hf, e⟩ := Pipeline.Window.exists_flush_same_index ((cfgM m hO).win 6) rfl (⟨_, hN⟩ : Fin (cfgM m hO).N)
      refine ⟨t, hf, ?_⟩
      have e2 := e.trans (idx_val m hO _).2.2.2.2.1
      refine (((cfgM m hO).win 6).emb_mem_blk_iff t i rfl).mpr fun (a : Fin 3) => ?_
      refine between (congrFun e2 a) ?_
      fin_cases a
      exacts [b0, b1, b2]
    · exact .inr ((congrFun (start6 m hO c) i).trans (over_rest _ _ _ h0).symm)

/-- What grid point `t` leaves of the first moment in its block. -/
theorem after7 (hO : Ok m) (c : Dev nD) (t : Fin (cfgM m hO).N) : (dats m hO 0 c).after 7 t = k0_pay4 (k0_pay6 (F := Ideal) (grid0.coords t) (0#32 : BitVec 32) (iblk m hO c 3 t) (iblk m hO c 4 t)) (k0_pay9 (iblk m hO c 1 t)) k0_pay11 := by
  rw [after0_7]
  dsimp only [outsAt0]
  exact out_eq7 _ _ _ _ _ _ _ _ _ _ _ _ _ _ _ _ _ _ _ _ _ _ _ _ _ _ (congrFun (tbl_eq m) 0)

/-- The result of the first moment: its first layer replaced. -/
def res7 (c : Dev nD) : FVec Ideal ⟨3, ![4, 512, 2048]⟩ .f32 := over (newM (grad m c) (top (m (c.tc.loc main_arg1)))) (m (c.tc.loc main_arg7))

/-- The array of the first moment starts as a copy of its argument. -/
theorem start7 (hO : Ok m) (c : Dev nD) : (dats m hO 0 c).A 7 = m (c.tc.loc main_arg7) := by
  rw [A_eq]
  show StableHlo.after hostOps0 _ (Proc.devRef .tc main_v3_2) = _
  after_reads_simp
  rfl

/-- The array of the first moment after the last grid point. -/
theorem final7 (hO : Ok m) (c : Dev nD) : (dats m hO 0 c).arrAt 7 (cfgM m hO).N = res7 m c := by
  refine arrAt_part (dats m hO 0 c) 7 (res7 m c) (fun t hf (y : Shape.Idx ⟨3, ![1, 512, 1024]⟩) => ?_) fun (i : Shape.Idx ⟨3, ![4, 512, 2048]⟩) => ?_
  · blk_simp
    refine (congrFun (after7 m hO c t) y).trans ?_
    refine ((pay4 _ _ _).trans (newM_at _ _ _ _ _ _ (picked m hO c t _ _) (blk1 m hO c t _ _))).trans (over_top _ _ _ _ _ ?_ ?_ ?_).symm
    all_goals blk_simp [idx_val m hO t]
    all_goals first | rfl | (have := (y 0).isLt; omega)
  · by_cases h0 : (i 0).val = 0
    · refine .inl ?_
      obtain ⟨hN, b0, b1, b2⟩ := within i h0
      obtain ⟨t, -, hf, e⟩ := Pipeline.Window.exists_flush_same_index ((cfgM m hO).win 7) rfl (⟨_, hN⟩ : Fin (cfgM m hO).N)
      refine ⟨t, hf, ?_⟩
      have e2 := e.trans (idx_val m hO _).2.2.2.2.2.1
      refine (((cfgM m hO).win 7).emb_mem_blk_iff t i rfl).mpr fun (a : Fin 3) => ?_
      refine between (congrFun e2 a) ?_
      fin_cases a
      exacts [b0, b1, b2]
    · exact .inr ((congrFun (start7 m hO c) i).trans (over_rest _ _ _ h0).symm)

/-- What grid point `t` leaves of the second moment in its block. -/
theorem after8 (hO : Ok m) (c : Dev nD) (t : Fin (cfgM m hO).N) : (dats m hO 0 c).after 8 t = k0_pay5 (k0_pay6 (F := Ideal) (grid0.coords t) (0#32 : BitVec 32) (iblk m hO c 3 t) (iblk m hO c 4 t)) (k0_pay10 (iblk m hO c 2 t)) := by
  rw [after0_8]
  dsimp only [outsAt0]
  exact out_eq8 _ _ _ _ _ _ _ _ _ _ _ _ _ _ _ _ _ _ _ _ _ _ _ _ _ _ (congrFun (tbl_eq m) 0)

/-- The result of the second moment: its first layer replaced. -/
def res8 (c : Dev nD) : FVec Ideal ⟨3, ![4, 512, 2048]⟩ .f32 := over (newV (grad m c) (top (m (c.tc.loc main_arg2)))) (m (c.tc.loc main_arg8))

/-- The array of the second moment starts as a copy of its argument. -/
theorem start8 (hO : Ok m) (c : Dev nD) : (dats m hO 0 c).A 8 = m (c.tc.loc main_arg8) := by
  rw [A_eq]
  show StableHlo.after hostOps0 _ (Proc.devRef .tc main_v3_3) = _
  after_reads_simp
  rfl

/-- The array of the second moment after the last grid point. -/
theorem final8 (hO : Ok m) (c : Dev nD) : (dats m hO 0 c).arrAt 8 (cfgM m hO).N = res8 m c := by
  refine arrAt_part (dats m hO 0 c) 8 (res8 m c) (fun t hf (y : Shape.Idx ⟨3, ![1, 512, 1024]⟩) => ?_) fun (i : Shape.Idx ⟨3, ![4, 512, 2048]⟩) => ?_
  · blk_simp
    refine (congrFun (after8 m hO c t) y).trans ?_
    refine ((pay5 _ _ _).trans (newV_at _ _ _ _ _ _ (picked m hO c t _ _) (blk2 m hO c t _ _))).trans (over_top _ _ _ _ _ ?_ ?_ ?_).symm
    all_goals blk_simp [idx_val m hO t]
    all_goals first | rfl | (have := (y 0).isLt; omega)
  · by_cases h0 : (i 0).val = 0
    · refine .inl ?_
      obtain ⟨hN, b0, b1, b2⟩ := within i h0
      obtain ⟨t, -, hf, e⟩ := Pipeline.Window.exists_flush_same_index ((cfgM m hO).win 8) rfl (⟨_, hN⟩ : Fin (cfgM m hO).N)
      refine ⟨t, hf, ?_⟩
      have e2 := e.trans (idx_val m hO _).2.2.2.2.2.2
      refine (((cfgM m hO).win 8).emb_mem_blk_iff t i rfl).mpr fun (a : Fin 3) => ?_
      refine between (congrFun e2 a) ?_
      fin_cases a
      exacts [b0, b1, b2]
    · exact .inr ((congrFun (start8 m hO c) i).trans (over_rest _ _ _ h0).symm)

end Cert.UOutAttnIdeal.Hand

namespace Cert.UOutAttnRefIdeal.Hand

open Cert.UOutAttnRefIdeal Cert.UOutAttnRefIdeal.Gen Cert.SmallMath Idealize.ShloMosaic Idealize.ShloMosaic.TcCoe Idealize.SL.Sem

/-- The reference's line that puts the two halves together. -/
theorem beside_eq (a b : FVec Ideal ⟨2, ![512, 1024]⟩ .f32) : concatenate S512x2048 1 [⟨S512x1024, a⟩, ⟨S512x1024, b⟩] concatenates_S512x1024_S512x1024_S512x2048_d1 = beside (n := 2048) (k := 512) (h := 1024) (by decide) a b := by
  funext (j : Shape.Idx ⟨2, ![512, 2048]⟩)
  have hj : (j 1).val < 2048 := (j 1).isLt
  by_cases l : (j 1).val < 1024
  · refine (concatenate_pair_apply_left 1 a b _ j rfl (ix2 (n0 := 512) (n1 := 1024) (j 0) ⟨_, l⟩) (fun x => by fin_cases x <;> rfl)).trans ?_
    unfold beside; rw [dif_pos l]
  · refine (concatenate_pair_apply_right 1 a b _ j rfl rfl (ix2 (n0 := 512) (n1 := 1024) (j 0) ⟨(j 1).val - 1024, by omega⟩) (fun x hx => by fin_cases x <;> first | rfl | exact absurd rfl hx) (show (j 1).val - 1024 + 1024 = (j 1).val by omega)).trans ?_
    unfold beside; rw [dif_neg l]

/-- The reference's line that takes the first layer. -/
theorem top_eq (a : FVec Ideal ⟨3, ![4, 512, 2048]⟩ .f32) : shapeCast S512x2048 (extractStridedSlice S1x512x2048 ![0, 0, 0] a slices_S4x512x2048_S1x512x2048_0_0_0) shapeCasts_S1x512x2048_S512x2048 = top a := by
  funext (j : Shape.Idx ⟨2, ![512, 2048]⟩)
  idx_vars j
  pointwise [top]

/-- The reference's line that puts the new first layer before the others. -/
theorem over_eq (a : FVec Ideal ⟨2, ![512, 2048]⟩ .f32) (rest : FVec Ideal ⟨3, ![4, 512, 2048]⟩ .f32) : concatenate S4x512x2048 0 [⟨S1x512x2048, (broadcastInDim S1x512x2048 ![1, 2] bcast_S512x2048_S1x512x2048_1_2 a)⟩, ⟨S3x512x2048, (extractStridedSlice S3x512x2048 ![1, 0, 0] rest slices_S4x512x2048_S3x512x2048_1_0_0)⟩] concatenates_S1x512x2048_S3x512x2048_S4x512x2048_d0 = over a rest := by
  funext (j : Shape.Idx ⟨3, ![4, 512, 2048]⟩)
  have hj : (j 0).val < 4 := (j 0).isLt
  by_cases l : (j 0).val = 0
  · refine (concatenate_pair_apply_left (s₁ := S1x512x2048) (s₂ := S3x512x2048) 0 _ _ _ j rfl (ix3 (n0 := 1) (n1 := 512) (n2 := 2048) 0 (j 1) (j 2)) (fun x => by fin_cases x <;> first | rfl | exact l.symm)).trans ?_
    refine Eq.trans ?_ (over_top a rest j (j 1) (j 2) l rfl rfl).symm
    pointwise []
  · refine (concatenate_pair_apply_right (s₁ := S1x512x2048) (s₂ := S3x512x2048) 0 _ _ _ j rfl rfl (ix3 (n0 := 3) (n1 := 512) (n2 := 2048) ⟨(j 0).val - 1, by omega⟩ (j 1) (j 2)) (fun x hx => by fin_cases x <;> first | rfl | exact absurd rfl hx) (show (j 0).val - 1 + 1 = (j 0).val by omega)).trans ?_
    refine Eq.trans ?_ (over_rest a rest j l).symm
    refine (extractStridedSlice_apply _ _ _ _ j ?_).trans rfl
    intro x
    fin_cases x
    · show (j 0).val = 1 + ((j 0).val - 1); omega
    · exact (Nat.zero_add _).symm
    · exact (Nat.zero_add _).symm

/-- The reference ends with its results at the same functions of the arguments, which it leaves as they were. -/
theorem run_math (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem (c.tc.loc main_v33) = (over (beside (n := 2048) (k := 512) (h := 1024) (by decide) (m (c.tc.loc main_arg3)) (m (c.tc.loc main_arg4))) (m (c.tc.loc main_arg5)) : FVec Ideal ⟨3, ![4, 512, 2048]⟩ .f32)
      ∧ r.2.mem (c.tc.loc main_v36) = (over (delta (top (m (c.tc.loc main_arg0))) (beside (n := 2048) (k := 512) (h := 1024) (by decide) (m (c.tc.loc main_arg3)) (m (c.tc.loc main_arg4))) (top (m (c.tc.loc main_arg1))) (top (m (c.tc.loc main_arg2)))) (m (c.tc.loc main_arg6)) : FVec Ideal ⟨3, ![4, 512, 2048]⟩ .f32)
      ∧ r.2.mem (c.tc.loc main_v39) = (over (newM (beside (n := 2048) (k := 512) (h := 1024) (by decide) (m (c.tc.loc main_arg3)) (m (c.tc.loc main_arg4))) (top (m (c.tc.loc main_arg1)))) (m (c.tc.loc main_arg7)) : FVec Ideal ⟨3, ![4, 512, 2048]⟩ .f32)
      ∧ r.2.mem (c.tc.loc main_v42) = (over (newV (beside (n := 2048) (k := 512) (h := 1024) (by decide) (m (c.tc.loc main_arg3)) (m (c.tc.loc main_arg4))) (top (m (c.tc.loc main_arg2)))) (m (c.tc.loc main_arg8)) : FVec Ideal ⟨3, ![4, 512, 2048]⟩ .f32)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)
      ∧ r.2.mem (c.tc.loc main_arg8) = m (c.tc.loc main_arg8) := by
  refine (θ_run _ _ _).mono (fun r h c => ?_) (Cert.UOutAttnRefIdeal.Value.run m ρ)
  obtain ⟨h0, h1, h2, h3, ha⟩ := h c
  refine ⟨h0.trans ?_, h1.trans ?_, h2.trans ?_, h3.trans ?_, ha⟩
  all_goals clear h0 h1 h2 h3 ha h r
  · exact (over_eq _ _).trans (congrArg (fun g => over g _) (beside_eq _ _))
  · refine (over_eq _ _).trans (congrArg (fun g => over g _) ?_)
    simp only [beside_eq, top_eq]
    rfl
  · refine (over_eq _ _).trans (congrArg (fun g => over g _) ?_)
    simp only [beside_eq, top_eq]
    rfl
  · refine (over_eq _ _).trans (congrArg (fun g => over g _) ?_)
    simp only [beside_eq, top_eq]
    rfl

end Cert.UOutAttnRefIdeal.Hand

namespace Cert.UOutAttnIdeal.Hand

open Cert.SmallMath Idealize.ShloMosaic Idealize.ShloMosaic.TcCoe Idealize.SL.Sem

/-- Kernel and reference, run from memories that agree on the arguments, end with equal results. -/
theorem algebraic : Cert.algebraic_UOutAttnIdeal_UOutAttnRefIdeal := by
  intro m g m' g' _ hag
  refine ⟨fun c => res5 m c, fun c => res6 m c, fun c => res7 m c, fun c => res8 m c, ?_, ?_⟩
  · refine (θ_run _ _ _).mono (fun r h c => ?_) ((θ_run_and (Gen.run_main m g (ok m)) (Gen.unchanged m g (ok m))))
    exact ⟨((h.1 c).1 5).trans (final5 m (ok m) c), ((h.1 c).1 6).trans (final6 m (ok m) c), ((h.1 c).1 7).trans (final7 m (ok m) c), ((h.1 c).1 8).trans (final8 m (ok m) c), h.2 c⟩
  · refine (θ_run _ _ _).mono (fun r h c => ?_) (UOutAttnRefIdeal.Hand.run_math m' g')
    obtain ⟨e0, e1, e2, e3, e4, e5, e6, e7, e8⟩ := hag c
    obtain ⟨h0, h1, h2, h3, ha⟩ := h c
    refine ⟨?_, ?_, ?_, ?_, ha⟩
    · beta_reduce; unfold res5 grad; rw [← e3, ← e4, ← e5]; exact h0
    · beta_reduce; unfold res6 grad; rw [← e0, ← e1, ← e2, ← e3, ← e4, ← e6]; exact h1
    · beta_reduce; unfold res7 grad; rw [← e1, ← e3, ← e4, ← e7]; exact h2
    · beta_reduce; unfold res8 grad; rw [← e2, ← e3, ← e4, ← e8]; exact h3

/-- The reference runs and leaves its arguments and every counter as they were. -/
theorem ref_frame : Cert.quiescent_UOutAttnRefIdeal := by
  intro m g _
  exact (θ_run _ _ _).mono (fun r h => ⟨fun c => (h c).2.2.2.2, sem_eq_zero_of_no_sems (by decide) r.2⟩) (UOutAttnRefIdeal.Hand.run_math m g)

end Cert.UOutAttnIdeal.Hand

end
-- ==== Proof.UDownStep.lean ====
/- The optimiser's call on the first layer of the MLP's second weight: kernel and reference both take the gradient from its two halves and replace the first layer of each result. -/
module

public import proofs.«01_k».proof.Defs
public import proofs.«01_k».proof.Proof.StepMath
public import proofs.«01_k».proof.Proof.StepSide
public import proofs.«01_k».proof.Proof.Gen.UDown.Frame
public import proofs.«01_k».proof.Proof.Gen.UDownIdeal.Frame
public import proofs.«01_k».proof.Proof.Gen.UDownRefIdeal.Run
public import Idealize.ShloMosaic.Lib.Tactic.CleanTypes
public import Idealize.ShloMosaic.Lib.Claim
public import Idealize.ShloMosaic.Lib.Pipeline.Covers

@[expose] public section

set_option maxRecDepth 16384

noncomputable section

namespace Cert.UDown.Hand

open Cert.UDown Cert.UDown.Gen Idealize.ShloMosaic Idealize.ShloMosaic.TcCoe Idealize.SL.Sem

/-- The table that holds a zero. -/
def table : pre0.Contents (Elt Bits) | 0 => fun _ => (0#32 : BitVec 32)

/-- The place that the kernel reads is zero. -/
theorem tbl_eq (m : (ℓ : Loc nD τ sig) → Buf (Elt Bits) ℓ) : tbl m = table := by
  funext j
  obtain rfl : j = 0 := Subsingleton.elim (α := Fin 1) j 0
  funext i
  show StableHlo.after hostOps0 _ (Proc.devRef .tc main_v0) i = _
  after_reads_simp
  rfl

/-- So every block lies inside its array. -/
theorem ok (m : (ℓ : Loc nD τ sig) → Buf (Elt Bits) ℓ) : Ok m := by
  show ok0 (tbl m)
  rw [tbl_eq]
  decide +kernel

end Cert.UDown.Hand

namespace Cert.UDownIdeal.Hand

open Cert.UDownIdeal Cert.UDownIdeal.Gen Cert.SmallMath Idealize.ShloMosaic Idealize.ShloMosaic.TcCoe Idealize.SL.Sem

/-- The table that holds a zero. -/
def table : pre0.Contents (Elt Ideal) | 0 => fun _ => (0#32 : BitVec 32)

/-- The place that the kernel reads is zero. -/
theorem tbl_eq (m : (ℓ : Loc nD τ sig) → Buf (Elt Ideal) ℓ) : tbl m = table := by
  funext j
  obtain rfl : j = 0 := Subsingleton.elim (α := Fin 1) j 0
  funext i
  show StableHlo.after hostOps0 _ (Proc.devRef .tc main_v0) i = _
  after_reads_simp
  rfl

/-- So every block lies inside its array. -/
theorem ok (m : (ℓ : Loc nD τ sig) → Buf (Elt Ideal) ℓ) : Ok m := by
  show ok0 (tbl m)
  rw [tbl_eq]
  decide +kernel

variable (m : (ℓ : Loc nD τ sig) → Buf (Elt Ideal) ℓ)

/-- Which block of its array each window of whole layers holds at grid point `t`. -/
theorem idx_val (hO : Ok m) : ∀ t : Fin (cfgM m hO).N, ((cfgM m hO).win 0).index t = ![0, t.val / 2, t.val % 2] ∧ ((cfgM m hO).win 1).index t = ![0, t.val / 2, t.val % 2] ∧ ((cfgM m hO).win 2).index t = ![0, t.val / 2, t.val % 2]
    ∧ ((cfgM m hO).win 5).index t = ![0, t.val / 2, t.val % 2] ∧ ((cfgM m hO).win 6).index t = ![0, t.val / 2, t.val % 2] ∧ ((cfgM m hO).win 7).index t = ![0, t.val / 2, t.val % 2] ∧ ((cfgM m hO).win 8).index t = ![0, t.val / 2, t.val % 2] := by
  have h : ∀ t : Fin grid0.N, cc0_transform_0 (grid0.coords t) = ![0, t.val / 2, t.val % 2] ∧ cc0_transform_1 (grid0.coords t) = ![0, t.val / 2, t.val % 2] ∧ cc0_transform_2 (grid0.coords t) = ![0, t.val / 2, t.val % 2]
    ∧ cc0_transform_9 (grid0.coords t) = ![0, t.val / 2, t.val % 2] ∧ cc0_transform_10 (grid0.coords t) = ![0, t.val / 2, t.val % 2] ∧ cc0_transform_11 (grid0.coords t) = ![0, t.val / 2, t.val % 2] ∧ cc0_transform_12 (grid0.coords t) = ![0, t.val / 2, t.val % 2] := by
    decide +kernel
  exact h

/-- Which block of the device's own half of the gradient is held while that half is stepped. -/
theorem idx_mine (hO : Ok m) : ∀ t : Fin (cfgM m hO).N, t.val % 2 = 0 → ((cfgM m hO).win 3).index t = ![t.val / 2, 0] := by
  have h : ∀ t : Fin grid0.N, t.val % 2 = 0 → cc0_transform_3 inb_S1_S1_0 numel1_S1 (tbl m) (grid0.coords t) = ![t.val / 2, 0] := by
    rw [tbl_eq]; decide +kernel
  exact h

/-- Which block of the other core's half of the gradient is held while that half is stepped. -/
theorem idx_sibling (hO : Ok m) : ∀ t : Fin (cfgM m hO).N, ¬ t.val % 2 = 0 → ((cfgM m hO).win 4).index t = ![t.val / 2, 0] := by
  have h : ∀ t : Fin grid0.N, ¬ t.val % 2 = 0 → cc0_transform_4 inb_S1_S1_0 numel1_S1 (tbl m) (grid0.coords t) = ![t.val / 2, 0] := by
    rw [tbl_eq]; decide +kernel
  exact h

/-- Which half the kernel takes the block of the gradient from. -/
theorem pick (a b : FVec Ideal ⟨2, ![512, 1024]⟩ .f32) : ∀ t : Fin grid0.N, k0_pay6 (F := Ideal) (grid0.coords t) (0#32 : BitVec 32) a b = if t.val % 2 = 0 then a else b := by
  intro t
  rcases fin_N0 t with rfl | rfl | rfl | rfl | rfl | rfl | rfl | rfl <;> rfl

/-- The even points of the grid take the device's own half. -/
theorem pick_mine (a b : FVec Ideal ⟨2, ![512, 1024]⟩ .f32) (t : Fin grid0.N) (ht : t.val % 2 = 0) : k0_pay6 (F := Ideal) (grid0.coords t) (0#32 : BitVec 32) a b = a :=
  (pick a b t).trans (if_pos ht)

/-- The odd points of the grid take the other core's half. -/
theorem pick_sibling (a b : FVec Ideal ⟨2, ![512, 1024]⟩ .f32) (t : Fin grid0.N) (ht : ¬ t.val % 2 = 0) : k0_pay6 (F := Ideal) (grid0.coords t) (0#32 : BitVec 32) a b = b :=
  (pick a b t).trans (if_neg ht)

/-- The stored block of the gradient. -/
theorem pay7 (i : grid0.Coords) (x : Elt Ideal .i32) (a b : FVec Ideal ⟨2, ![512, 1024]⟩ .f32) (y : Shape.Idx ⟨3, ![1, 512, 1024]⟩) : k0_pay7 (F := Ideal) i x a b y = k0_pay6 (F := Ideal) i x a b (ix2 (n0 := 512) (n1 := 1024) (y 1) (y 2)) := by
  unfold k0_pay7
  generalize k0_pay6 (F := Ideal) i x a b = g
  idx_vars y
  pointwise []

/-- A block of one layer, as an array of two axes. -/
def flat (a : FVec Ideal ⟨3, ![1, 512, 1024]⟩ .f32) : FVec Ideal ⟨2, ![512, 1024]⟩ .f32 := fun j => a (ix3 (n0 := 1) (n1 := 512) (n2 := 1024) 0 (j 0) (j 1))

/-- The stored block of the step. -/
theorem pay3 (g : FVec Ideal ⟨2, ![512, 1024]⟩ .f32) (w mu nu : FVec Ideal ⟨3, ![1, 512, 1024]⟩ .f32) (y : Shape.Idx ⟨3, ![1, 512, 1024]⟩) :
    k0_pay3 (F := Ideal) g (k0_pay8 w) (k0_pay9 mu) (k0_pay10 nu) k0_pay11 y = delta (flat w) g (flat mu) (flat nu) (ix2 (n0 := 512) (n1 := 1024) (y 1) (y 2)) := by
  idx_vars y
  pointwise [k0_pay3, k0_pay2, k0_pay1, k0_pay8, k0_pay9, k0_pay10, k0_pay11, delta, newM, newV, flat]

/-- The stored block of the first moment. -/
theorem pay4 (g : FVec Ideal ⟨2, ![512, 1024]⟩ .f32) (mu : FVec Ideal ⟨3, ![1, 512, 1024]⟩ .f32) (y : Shape.Idx ⟨3, ![1, 512, 1024]⟩) :
    k0_pay4 (F := Ideal) g (k0_pay9 mu) k0_pay11 y = newM g (flat mu) (ix2 (n0 := 512) (n1 := 1024) (y 1) (y 2)) := by
  idx_vars y
  pointwise [k0_pay4, k0_pay1, k0_pay9, k0_pay11, newM, flat]

/-- The stored block of the second moment. -/
theorem pay5 (g : FVec Ideal ⟨2, ![512, 1024]⟩ .f32) (nu : FVec Ideal ⟨3, ![1, 512, 1024]⟩ .f32) (y : Shape.Idx ⟨3, ![1, 512, 1024]⟩) :
    k0_pay5 (F := Ideal) g (k0_pay10 nu) y = newV g (flat nu) (ix2 (n0 := 512) (n1 := 1024) (y 1) (y 2)) := by
  idx_vars y
  pointwise [k0_pay5, k0_pay2, k0_pay10, newV, flat]

/-- A row of a block is a row of its layer. -/
theorem row_lt (hO : Ok m) (t : Fin (cfgM m hO).N) (r : Fin 512) : (t.val / 2) * 512 + r.val < 2048 := by
  have := lt_of_lt_of_eq t.isLt N_0; omega
/-- A lane of a block is a lane of its layer. -/
theorem col_lt (hO : Ok m) (t : Fin (cfgM m hO).N) (l : Fin 1024) : (t.val % 2) * 1024 + l.val < 2048 := by
  have := lt_of_lt_of_eq t.isLt N_0; omega

/-- The place in the layer of a place in a block. -/
def at_ (hO : Ok m) (t : Fin (cfgM m hO).N) (r : Fin 512) (l : Fin 1024) : Shape.Idx ⟨2, ![2048, 2048]⟩ := ix2 (n0 := 2048) (n1 := 2048) ⟨_, row_lt m hO t r⟩ ⟨_, col_lt m hO t l⟩

section Blocks
variable (hO : Ok m) (c : Dev nD) (t : Fin (cfgM m hO).N)

/-- The block of the weight is a block of its first layer. -/
theorem blk0 (r : Fin 512) (l : Fin 1024) : flat (iblk m hO c 0 t) (ix2 (n0 := 512) (n1 := 1024) r l) = top (m (c.tc.loc main_arg0) : FVec Ideal ⟨3, ![4, 2048, 2048]⟩ .f32) (at_ m hO t r l) := by
  rw [← V_main_arg0 m c]
  show iblk m hO c 0 t (ix3 (n0 := 1) (n1 := 512) (n2 := 1024) 0 r l) = (V m c main_arg0) (ix3 (n0 := 4) (n1 := 2048) (n2 := 2048) 0 ⟨_, row_lt m hO t r⟩ ⟨_, col_lt m hO t l⟩)
  blk_point [iblk, idx_val m hO t]

/-- The block of the first moment is a block of its first layer. -/
theorem blk1 (r : Fin 512) (l : Fin 1024) : flat (iblk m hO c 1 t) (ix2 (n0 := 512) (n1 := 1024) r l) = top (m (c.tc.loc main_arg1) : FVec Ideal ⟨3, ![4, 2048, 2048]⟩ .f32) (at_ m hO t r l) := by
  rw [← V_main_arg1 m c]
  show iblk m hO c 1 t (ix3 (n0 := 1) (n1 := 512) (n2 := 1024) 0 r l) = (V m c main_arg1) (ix3 (n0 := 4) (n1 := 2048) (n2 := 2048) 0 ⟨_, row_lt m hO t r⟩ ⟨_, col_lt m hO t l⟩)
  blk_point [iblk, idx_val m hO t]

/-- The block of the second moment is a block of its first layer. -/
theorem blk2 (r : Fin 512) (l : Fin 1024) : flat (iblk m hO c 2 t) (ix2 (n0 := 512) (n1 := 1024) r l) = top (m (c.tc.loc main_arg2) : FVec Ideal ⟨3, ![4, 2048, 2048]⟩ .f32) (at_ m hO t r l) := by
  rw [← V_main_arg2 m c]
  show iblk m hO c 2 t (ix3 (n0 := 1) (n1 := 512) (n2 := 1024) 0 r l) = (V m c main_arg2) (ix3 (n0 := 4) (n1 := 2048) (n2 := 2048) 0 ⟨_, row_lt m hO t r⟩ ⟨_, col_lt m hO t l⟩)
  blk_point [iblk, idx_val m hO t]

/-- The block of the device's own half is lanes of it. -/
theorem blk3 (ht : t.val % 2 = 0) (r : Fin 512) (l : Fin 1024) (R : Fin 2048) (C : Fin 1024) (hR : R.val = (t.val / 2) * 512 + r.val) (hC : C.val = l.val) : iblk m hO c 3 t (ix2 r l) = m (c.tc.loc main_arg3) (ix2 R C) := by
  rw [← V_main_arg3 m c]
  blk_point [iblk, idx_mine m hO t ht]
/-- The block of the other core's half is lanes of it. -/
theorem blk4 (ht : ¬ t.val % 2 = 0) (r : Fin 512) (l : Fin 1024) (R : Fin 2048) (C : Fin 1024) (hR : R.val = (t.val / 2) * 512 + r.val) (hC : C.val = l.val) : iblk m hO c 4 t (ix2 r l) = m (c.tc.loc main_arg4) (ix2 R C) := by
  rw [← V_main_arg4 m c]
  blk_point [iblk, idx_sibling m hO t ht]

/-- The whole gradient. -/
def grad (c : Dev nD) : FVec Ideal ⟨2, ![2048, 2048]⟩ .f32 := beside (n := 2048) (k := 2048) (h := 1024) (by decide) (m (c.tc.loc main_arg3)) (m (c.tc.loc main_arg4))

/-- The block that the kernel picks is a block of the whole gradient. -/
theorem picked (r : Fin 512) (l : Fin 1024) : k0_pay6 (F := Ideal) (grid0.coords t) (0#32 : BitVec 32) (iblk m hO c 3 t) (iblk m hO c 4 t) (ix2 (n0 := 512) (n1 := 1024) r l) = grad m c (at_ m hO t r l) := by
  have hN := lt_of_lt_of_eq t.isLt N_0
  by_cases ht : t.val % 2 = 0
  · refine (congrFun (pick_mine _ _ t ht) _).trans ?_
    refine (blk3 m hO c t ht r l ⟨_, row_lt m hO t r⟩ l rfl rfl).trans ?_
    exact (beside_left (n := 2048) (k := 2048) (h := 1024) (by decide) _ _ _ _ _ (show (t.val % 2) * 1024 + l.val = l.val by omega)).symm
  · refine (congrFun (pick_sibling _ _ t ht) _).trans ?_
    refine (blk4 m hO c t ht r l ⟨_, row_lt m hO t r⟩ l rfl rfl).trans ?_
    exact (beside_right (n := 2048) (k := 2048) (h := 1024) (by decide) _ _ _ _ _ (show (t.val % 2) * 1024 + l.val = 1024 + l.val by omega)).symm

end Blocks

section Outs
variable (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1x512x1024 .f32) (harg5 : arg5.IsWhole) (arg6 : Memref sig .tc .vmem S512x1024 .f32) (harg6 : arg6.IsWhole) (arg7 : Memref sig .tc .vmem S512x1024 .f32) (harg7 : arg7.IsWhole) (arg12 : Memref sig .tc .vmem S1x512x1024 .f32) (harg12 : arg12.IsWhole) (arg13 : Memref sig .tc .vmem S1x512x1024 .f32) (harg13 : arg13.IsWhole) (arg14 : Memref sig .tc .vmem S1x512x1024 .f32) (harg14 : arg14.IsWhole) (arg15 : Memref sig .tc .vmem S1x512x1024 .f32) (harg15 : arg15.IsWhole) (x0 x1 x2 : Vec Ideal S1x512x1024 .f32) (x3 x4 : Vec Ideal S512x1024 .f32) (xt0 : TbBuf0 (F := Ideal) c tbM0_0) (hx : xt0 = table 0)
include hx

/-- One grid point stores this of the gradient. -/
theorem out_eq5 : out0_A_5 c i arg3 harg3 arg4 harg4 arg5 harg5 arg6 harg6 arg7 harg7 arg12 harg12 arg13 harg13 arg14 harg14 arg15 harg15 x0 x1 x2 x3 x4 xt0 = k0_pay7 i (0#32 : BitVec 32) x3 x4 := by
  subst hx
  unfold out0_A_5
  frame_out
  rfl

/-- One grid point stores this of the step. -/
theorem out_eq6 : out0_A_6 c i arg3 harg3 arg4 harg4 arg5 harg5 arg6 harg6 arg7 harg7 arg12 harg12 arg13 harg13 arg14 harg14 arg15 harg15 x0 x1 x2 x3 x4 xt0 = k0_pay3 (k0_pay6 i (0#32 : BitVec 32) x3 x4) (k0_pay8 x0) (k0_pay9 x1) (k0_pay10 x2) k0_pay11 := by
  subst hx
  unfold out0_A_6
  frame_out
  rfl

/-- One grid point stores this of the first moment. -/
theorem out_eq7 : out0_A_7 c i arg3 harg3 arg4 harg4 arg5 harg5 arg6 harg6 arg7 harg7 arg12 harg12 arg13 harg13 arg14 harg14 arg15 harg15 x0 x1 x2 x3 x4 xt0 = k0_pay4 (k0_pay6 i (0#32 : BitVec 32) x3 x4) (k0_pay9 x1) k0_pay11 := by
  subst hx
  unfold out0_A_7
  frame_out
  rfl

/-- One grid point stores this of the second moment. -/
theorem out_eq8 : out0_A_8 c i arg3 harg3 arg4 harg4 arg5 harg5 arg6 harg6 arg7 harg7 arg12 harg12 arg13 harg13 arg14 harg14 arg15 harg15 x0 x1 x2 x3 x4 xt0 = k0_pay5 (k0_pay6 i (0#32 : BitVec 32) x3 x4) (k0_pay10 x2) := by
  subst hx
  unfold out0_A_8
  frame_out
  rfl

end Outs

/-- A place of the first layer lies in the block of its rows and lanes. -/
theorem within (i : Shape.Idx ⟨3, ![4, 2048, 2048]⟩) (h0 : (i 0).val = 0) : (i 1).val / 512 * 2 + (i 2).val / 1024 < grid0.N ∧ (0 * 1 ≤ (i 0).val ∧ (i 0).val < 0 * 1 + 1)
    ∧ ((((i 1).val / 512 * 2 + (i 2).val / 1024) / 2) * 512 ≤ (i 1).val ∧ (i 1).val < (((i 1).val / 512 * 2 + (i 2).val / 1024) / 2) * 512 + 512) ∧ ((((i 1).val / 512 * 2 + (i 2).val / 1024) % 2) * 1024 ≤ (i 2).val ∧ (i 2).val < (((i 1).val / 512 * 2 + (i 2).val / 1024) % 2) * 1024 + 1024) := by
  have h1 : (i 1).val < 2048 := (i 1).isLt
  have h2 : (i 2).val < 2048 := (i 2).isLt
  rw [N_0]
  omega

/-- What grid point `t` leaves of the gradient in its block. -/
theorem after5 (hO : Ok m) (c : Dev nD) (t : Fin (cfgM m hO).N) : (dats m hO 0 c).after 5 t = k0_pay7 (F := Ideal) (grid0.coords t) (0#32 : BitVec 32) (iblk m hO c 3 t) (iblk m hO c 4 t) := by
  rw [after0_5]
  dsimp only [outsAt0]
  exact out_eq5 _ _ _ _ _ _ _ _ _ _ _ _ _ _ _ _ _ _ _ _ _ _ _ _ _ _ (congrFun (tbl_eq m) 0)

/-- The result of the gradient: its first layer replaced. -/
def res5 (c : Dev nD) : FVec Ideal ⟨3, ![4, 2048, 2048]⟩ .f32 := over (grad m c) (m (c.tc.loc main_arg5))

/-- The array of the gradient starts as a copy of its argument. -/
theorem start5 (hO : Ok m) (c : Dev nD) : (dats m hO 0 c).A 5 = m (c.tc.loc main_arg5) := by
  rw [A_eq]
  show StableHlo.after hostOps0 _ (Proc.devRef .tc main_v3_0) = _
  after_reads_simp
  rfl

/-- The array of the gradient after the last grid point. -/
theorem final5 (hO : Ok m) (c : Dev nD) : (dats m hO 0 c).arrAt 5 (cfgM m hO).N = res5 m c := by
  refine arrAt_part (dats m hO 0 c) 5 (res5 m c) (fun t hf (y : Shape.Idx ⟨3, ![1, 512, 1024]⟩) => ?_) fun (i : Shape.Idx ⟨3, ![4, 2048, 2048]⟩) => ?_
  · blk_simp
    refine (congrFun (after5 m hO c t) y).trans ?_
    refine ((pay7 _ _ _ _ _).trans (picked m hO c t _ _)).trans (over_top _ _ _ _ _ ?_ ?_ ?_).symm
    all_goals blk_simp [idx_val m hO t]
    all_goals first | rfl | (have := (y 0).isLt; omega)
  · by_cases h0 : (i 0).val = 0
    · refine .inl ?_
      obtain ⟨hN, b0, b1, b2⟩ := within i h0
      obtain ⟨t, -, hf, e⟩ := Pipeline.Window.exists_flush_same_index ((cfgM m hO).win 5) rfl (⟨_, hN⟩ : Fin (cfgM m hO).N)
      refine ⟨t, hf, ?_⟩
      have e2 := e.trans (idx_val m hO _).2.2.2.1
      refine (((cfgM m hO).win 5).emb_mem_blk_iff t i rfl).mpr fun (a : Fin 3) => ?_
      refine between (congrFun e2 a) ?_
      fin_cases a
      exacts [b0, b1, b2]
    · exact .inr ((congrFun (start5 m hO c) i).trans (over_rest _ _ _ h0).symm)

/-- What grid point `t` leaves of the step in its block. -/
theorem after6 (hO : Ok m) (c : Dev nD) (t : Fin (cfgM m hO).N) : (dats m hO 0 c).after 6 t = k0_pay3 (k0_pay6 (F := Ideal) (grid0.coords t) (0#32 : BitVec 32) (iblk m hO c 3 t) (iblk m hO c 4 t)) (k0_pay8 (iblk m hO c 0 t)) (k0_pay9 (iblk m hO c 1 t)) (k0_pay10 (iblk m hO c 2 t)) k0_pay11 := by
  rw [after0_6]
  dsimp only [outsAt0]
  exact out_eq6 _ _ _ _ _ _ _ _ _ _ _ _ _ _ _ _ _ _ _ _ _ _ _ _ _ _ (congrFun (tbl_eq m) 0)

/-- The result of the step: its first layer replaced. -/
def res6 (c : Dev nD) : FVec Ideal ⟨3, ![4, 2048, 2048]⟩ .f32 := over (delta (top (m (c.tc.loc main_arg0))) (grad m c) (top (m (c.tc.loc main_arg1))) (top (m (c.tc.loc main_arg2)))) (m (c.tc.loc main_arg6))

/-- The array of the step starts as a copy of its argument. -/
theorem start6 (hO : Ok m) (c : Dev nD) : (dats m hO 0 c).A 6 = m (c.tc.loc main_arg6) := by
  rw [A_eq]
  show StableHlo.after hostOps0 _ (Proc.devRef .tc main_v3_1) = _
  after_reads_simp
  rfl

/-- The array of the step after the last grid point. -/
theorem final6 (hO : Ok m) (c : Dev nD) : (dats m hO 0 c).arrAt 6 (cfgM m hO).N = res6 m c := by
  refine arrAt_part (dats m hO 0 c) 6 (res6 m c) (fun t hf (y : Shape.Idx ⟨3, ![1, 512, 1024]⟩) => ?_) fun (i : Shape.Idx ⟨3, ![4, 2048, 2048]⟩) => ?_
  · blk_simp
    refine (congrFun (after6 m hO c t) y).trans ?_
    refine ((pay3 _ _ _ _ _).trans (delta_at _ _ _ _ _ _ _ _ _ _ (blk0 m hO c t _ _) (picked m hO c t _ _) (blk1 m hO c t _ _) (blk2 m hO c t _ _))).trans (over_top _ _ _ _ _ ?_ ?_ ?_).symm
    all_goals blk_simp [idx_val m hO t]
    all_goals first | rfl | (have := (y 0).isLt; omega)
  · by_cases h0 : (i 0).val = 0
    · refine .inl ?_
      obtain ⟨hN, b0, b1, b2⟩ := within i h0
      obtain ⟨t, -, hf, e⟩ := Pipeline.Window.exists_flush_same_index ((cfgM m hO).win 6) rfl (⟨_, hN⟩ : Fin (cfgM m hO).N)
      refine ⟨t, hf, ?_⟩
      have e2 := e.trans (idx_val m hO _).2.2.2.2.1
      refine (((cfgM m hO).win 6).emb_mem_blk_iff t i rfl).mpr fun (a : Fin 3) => ?_
      refine between (congrFun e2 a) ?_
      fin_cases a
      exacts [b0, b1, b2]
    · exact .inr ((congrFun (start6 m hO c) i).trans (over_rest _ _ _ h0).symm)

/-- What grid point `t` leaves of the first moment in its block. -/
theorem after7 (hO : Ok m) (c : Dev nD) (t : Fin (cfgM m hO).N) : (dats m hO 0 c).after 7 t = k0_pay4 (k0_pay6 (F := Ideal) (grid0.coords t) (0#32 : BitVec 32) (iblk m hO c 3 t) (iblk m hO c 4 t)) (k0_pay9 (iblk m hO c 1 t)) k0_pay11 := by
  rw [after0_7]
  dsimp only [outsAt0]
  exact out_eq7 _ _ _ _ _ _ _ _ _ _ _ _ _ _ _ _ _ _ _ _ _ _ _ _ _ _ (congrFun (tbl_eq m) 0)

/-- The result of the first moment: its first layer replaced. -/
def res7 (c : Dev nD) : FVec Ideal ⟨3, ![4, 2048, 2048]⟩ .f32 := over (newM (grad m c) (top (m (c.tc.loc main_arg1)))) (m (c.tc.loc main_arg7))

/-- The array of the first moment starts as a copy of its argument. -/
theorem start7 (hO : Ok m) (c : Dev nD) : (dats m hO 0 c).A 7 = m (c.tc.loc main_arg7) := by
  rw [A_eq]
  show StableHlo.after hostOps0 _ (Proc.devRef .tc main_v3_2) = _
  after_reads_simp
  rfl

/-- The array of the first moment after the last grid point. -/
theorem final7 (hO : Ok m) (c : Dev nD) : (dats m hO 0 c).arrAt 7 (cfgM m hO).N = res7 m c := by
  refine arrAt_part (dats m hO 0 c) 7 (res7 m c) (fun t hf (y : Shape.Idx ⟨3, ![1, 512, 1024]⟩) => ?_) fun (i : Shape.Idx ⟨3, ![4, 2048, 2048]⟩) => ?_
  · blk_simp
    refine (congrFun (after7 m hO c t) y).trans ?_
    refine ((pay4 _ _ _).trans (newM_at _ _ _ _ _ _ (picked m hO c t _ _) (blk1 m hO c t _ _))).trans (over_top _ _ _ _ _ ?_ ?_ ?_).symm
    all_goals blk_simp [idx_val m hO t]
    all_goals first | rfl | (have := (y 0).isLt; omega)
  · by_cases h0 : (i 0).val = 0
    · refine .inl ?_
      obtain ⟨hN, b0, b1, b2⟩ := within i h0
      obtain ⟨t, -, hf, e⟩ := Pipeline.Window.exists_flush_same_index ((cfgM m hO).win 7) rfl (⟨_, hN⟩ : Fin (cfgM m hO).N)
      refine ⟨t, hf, ?_⟩
      have e2 := e.trans (idx_val m hO _).2.2.2.2.2.1
      refine (((cfgM m hO).win 7).emb_mem_blk_iff t i rfl).mpr fun (a : Fin 3) => ?_
      refine between (congrFun e2 a) ?_
      fin_cases a
      exacts [b0, b1, b2]
    · exact .inr ((congrFun (start7 m hO c) i).trans (over_rest _ _ _ h0).symm)

/-- What grid point `t` leaves of the second moment in its block. -/
theorem after8 (hO : Ok m) (c : Dev nD) (t : Fin (cfgM m hO).N) : (dats m hO 0 c).after 8 t = k0_pay5 (k0_pay6 (F := Ideal) (grid0.coords t) (0#32 : BitVec 32) (iblk m hO c 3 t) (iblk m hO c 4 t)) (k0_pay10 (iblk m hO c 2 t)) := by
  rw [after0_8]
  dsimp only [outsAt0]
  exact out_eq8 _ _ _ _ _ _ _ _ _ _ _ _ _ _ _ _ _ _ _ _ _ _ _ _ _ _ (congrFun (tbl_eq m) 0)

/-- The result of the second moment: its first layer replaced. -/
def res8 (c : Dev nD) : FVec Ideal ⟨3, ![4, 2048, 2048]⟩ .f32 := over (newV (grad m c) (top (m (c.tc.loc main_arg2)))) (m (c.tc.loc main_arg8))

/-- The array of the second moment starts as a copy of its argument. -/
theorem start8 (hO : Ok m) (c : Dev nD) : (dats m hO 0 c).A 8 = m (c.tc.loc main_arg8) := by
  rw [A_eq]
  show StableHlo.after hostOps0 _ (Proc.devRef .tc main_v3_3) = _
  after_reads_simp
  rfl

/-- The array of the second moment after the last grid point. -/
theorem final8 (hO : Ok m) (c : Dev nD) : (dats m hO 0 c).arrAt 8 (cfgM m hO).N = res8 m c := by
  refine arrAt_part (dats m hO 0 c) 8 (res8 m c) (fun t hf (y : Shape.Idx ⟨3, ![1, 512, 1024]⟩) => ?_) fun (i : Shape.Idx ⟨3, ![4, 2048, 2048]⟩) => ?_
  · blk_simp
    refine (congrFun (after8 m hO c t) y).trans ?_
    refine ((pay5 _ _ _).trans (newV_at _ _ _ _ _ _ (picked m hO c t _ _) (blk2 m hO c t _ _))).trans (over_top _ _ _ _ _ ?_ ?_ ?_).symm
    all_goals blk_simp [idx_val m hO t]
    all_goals first | rfl | (have := (y 0).isLt; omega)
  · by_cases h0 : (i 0).val = 0
    · refine .inl ?_
      obtain ⟨hN, b0, b1, b2⟩ := within i h0
      obtain ⟨t, -, hf, e⟩ := Pipeline.Window.exists_flush_same_index ((cfgM m hO).win 8) rfl (⟨_, hN⟩ : Fin (cfgM m hO).N)
      refine ⟨t, hf, ?_⟩
      have e2 := e.trans (idx_val m hO _).2.2.2.2.2.2
      refine (((cfgM m hO).win 8).emb_mem_blk_iff t i rfl).mpr fun (a : Fin 3) => ?_
      refine between (congrFun e2 a) ?_
      fin_cases a
      exacts [b0, b1, b2]
    · exact .inr ((congrFun (start8 m hO c) i).trans (over_rest _ _ _ h0).symm)

end Cert.UDownIdeal.Hand

namespace Cert.UDownRefIdeal.Hand

open Cert.UDownRefIdeal Cert.UDownRefIdeal.Gen Cert.SmallMath Idealize.ShloMosaic Idealize.ShloMosaic.TcCoe Idealize.SL.Sem

/-- The reference's line that puts the two halves together. -/
theorem beside_eq (a b : FVec Ideal ⟨2, ![2048, 1024]⟩ .f32) : concatenate S2048x2048 1 [⟨S2048x1024, a⟩, ⟨S2048x1024, b⟩] concatenates_S2048x1024_S2048x1024_S2048x2048_d1 = beside (n := 2048) (k := 2048) (h := 1024) (by decide) a b := by
  funext (j : Shape.Idx ⟨2, ![2048, 2048]⟩)
  have hj : (j 1).val < 2048 := (j 1).isLt
  by_cases l : (j 1).val < 1024
  · refine (concatenate_pair_apply_left 1 a b _ j rfl (ix2 (n0 := 2048) (n1 := 1024) (j 0) ⟨_, l⟩) (fun x => by fin_cases x <;> rfl)).trans ?_
    unfold beside; rw [dif_pos l]
  · refine (concatenate_pair_apply_right 1 a b _ j rfl rfl (ix2 (n0 := 2048) (n1 := 1024) (j 0) ⟨(j 1).val - 1024, by omega⟩) (fun x hx => by fin_cases x <;> first | rfl | exact absurd rfl hx) (show (j 1).val - 1024 + 1024 = (j 1).val by omega)).trans ?_
    unfold beside; rw [dif_neg l]

/-- The reference's line that takes the first layer. -/
theorem top_eq (a : FVec Ideal ⟨3, ![4, 2048, 2048]⟩ .f32) : shapeCast S2048x2048 (extractStridedSlice S1x2048x2048 ![0, 0, 0] a slices_S4x2048x2048_S1x2048x2048_0_0_0) shapeCasts_S1x2048x2048_S2048x2048 = top a := by
  funext (j : Shape.Idx ⟨2, ![2048, 2048]⟩)
  idx_vars j
  pointwise [top]

/-- The reference's line that puts the new first layer before the others. -/
theorem over_eq (a : FVec Ideal ⟨2, ![2048, 2048]⟩ .f32) (rest : FVec Ideal ⟨3, ![4, 2048, 2048]⟩ .f32) : concatenate S4x2048x2048 0 [⟨S1x2048x2048, (broadcastInDim S1x2048x2048 ![1, 2] bcast_S2048x2048_S1x2048x2048_1_2 a)⟩, ⟨S3x2048x2048, (extractStridedSlice S3x2048x2048 ![1, 0, 0] rest slices_S4x2048x2048_S3x2048x2048_1_0_0)⟩] concatenates_S1x2048x2048_S3x2048x2048_S4x2048x2048_d0 = over a rest := by
  funext (j : Shape.Idx ⟨3, ![4, 2048, 2048]⟩)
  have hj : (j 0).val < 4 := (j 0).isLt
  by_cases l : (j 0).val = 0
  · refine (concatenate_pair_apply_left (s₁ := S1x2048x2048) (s₂ := S3x2048x2048) 0 _ _ _ j rfl (ix3 (n0 := 1) (n1 := 2048) (n2 := 2048) 0 (j 1) (j 2)) (fun x => by fin_cases x <;> first | rfl | exact l.symm)).trans ?_
    refine Eq.trans ?_ (over_top a rest j (j 1) (j 2) l rfl rfl).symm
    pointwise []
  · refine (concatenate_pair_apply_right (s₁ := S1x2048x2048) (s₂ := S3x2048x2048) 0 _ _ _ j rfl rfl (ix3 (n0 := 3) (n1 := 2048) (n2 := 2048) ⟨(j 0).val - 1, by omega⟩ (j 1) (j 2)) (fun x hx => by fin_cases x <;> first | rfl | exact absurd rfl hx) (show (j 0).val - 1 + 1 = (j 0).val by omega)).trans ?_
    refine Eq.trans ?_ (over_rest a rest j l).symm
    refine (extractStridedSlice_apply _ _ _ _ j ?_).trans rfl
    intro x
    fin_cases x
    · show (j 0).val = 1 + ((j 0).val - 1); omega
    · exact (Nat.zero_add _).symm
    · exact (Nat.zero_add _).symm

/-- The reference ends with its results at the same functions of the arguments, which it leaves as they were. -/
theorem run_math (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem (c.tc.loc main_v33) = (over (beside (n := 2048) (k := 2048) (h := 1024) (by decide) (m (c.tc.loc main_arg3)) (m (c.tc.loc main_arg4))) (m (c.tc.loc main_arg5)) : FVec Ideal ⟨3, ![4, 2048, 2048]⟩ .f32)
      ∧ r.2.mem (c.tc.loc main_v36) = (over (delta (top (m (c.tc.loc main_arg0))) (beside (n := 2048) (k := 2048) (h := 1024) (by decide) (m (c.tc.loc main_arg3)) (m (c.tc.loc main_arg4))) (top (m (c.tc.loc main_arg1))) (top (m (c.tc.loc main_arg2)))) (m (c.tc.loc main_arg6)) : FVec Ideal ⟨3, ![4, 2048, 2048]⟩ .f32)
      ∧ r.2.mem (c.tc.loc main_v39) = (over (newM (beside (n := 2048) (k := 2048) (h := 1024) (by decide) (m (c.tc.loc main_arg3)) (m (c.tc.loc main_arg4))) (top (m (c.tc.loc main_arg1)))) (m (c.tc.loc main_arg7)) : FVec Ideal ⟨3, ![4, 2048, 2048]⟩ .f32)
      ∧ r.2.mem (c.tc.loc main_v42) = (over (newV (beside (n := 2048) (k := 2048) (h := 1024) (by decide) (m (c.tc.loc main_arg3)) (m (c.tc.loc main_arg4))) (top (m (c.tc.loc main_arg2)))) (m (c.tc.loc main_arg8)) : FVec Ideal ⟨3, ![4, 2048, 2048]⟩ .f32)
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5)
      ∧ r.2.mem (c.tc.loc main_arg6) = m (c.tc.loc main_arg6)
      ∧ r.2.mem (c.tc.loc main_arg7) = m (c.tc.loc main_arg7)
      ∧ r.2.mem (c.tc.loc main_arg8) = m (c.tc.loc main_arg8) := by
  refine (θ_run _ _ _).mono (fun r h c => ?_) (Cert.UDownRefIdeal.Value.run m ρ)
  obtain ⟨h0, h1, h2, h3, ha⟩ := h c
  refine ⟨h0.trans ?_, h1.trans ?_, h2.trans ?_, h3.trans ?_, ha⟩
  all_goals clear h0 h1 h2 h3 ha h r
  · exact (over_eq _ _).trans (congrArg (fun g => over g _) (beside_eq _ _))
  · refine (over_eq _ _).trans (congrArg (fun g => over g _) ?_)
    simp only [beside_eq, top_eq]
    rfl
  · refine (over_eq _ _).trans (congrArg (fun g => over g _) ?_)
    simp only [beside_eq, top_eq]
    rfl
  · refine (over_eq _ _).trans (congrArg (fun g => over g _) ?_)
    simp only [beside_eq, top_eq]
    rfl

end Cert.UDownRefIdeal.Hand

namespace Cert.UDownIdeal.Hand

open Cert.SmallMath Idealize.ShloMosaic Idealize.ShloMosaic.TcCoe Idealize.SL.Sem

/-- Kernel and reference, run from memories that agree on the arguments, end with equal results. -/
theorem algebraic : Cert.algebraic_UDownIdeal_UDownRefIdeal := by
  intro m g m' g' _ hag
  refine ⟨fun c => res5 m c, fun c => res6 m c, fun c => res7 m c, fun c => res8 m c, ?_, ?_⟩
  · refine (θ_run _ _ _).mono (fun r h c => ?_) ((θ_run_and (Gen.run_main m g (ok m)) (Gen.unchanged m g (ok m))))
    exact ⟨((h.1 c).1 5).trans (final5 m (ok m) c), ((h.1 c).1 6).trans (final6 m (ok m) c), ((h.1 c).1 7).trans (final7 m (ok m) c), ((h.1 c).1 8).trans (final8 m (ok m) c), h.2 c⟩
  · refine (θ_run _ _ _).mono (fun r h c => ?_) (UDownRefIdeal.Hand.run_math m' g')
    obtain ⟨e0, e1, e2, e3, e4, e5, e6, e7, e8⟩ := hag c
    obtain ⟨h0, h1, h2, h3, ha⟩ := h c
    refine ⟨?_, ?_, ?_, ?_, ha⟩
    · beta_reduce; unfold res5 grad; rw [← e3, ← e4, ← e5]; exact h0
    · beta_reduce; unfold res6 grad; rw [← e0, ← e1, ← e2, ← e3, ← e4, ← e6]; exact h1
    · beta_reduce; unfold res7 grad; rw [← e1, ← e3, ← e4, ← e7]; exact h2
    · beta_reduce; unfold res8 grad; rw [← e2, ← e3, ← e4, ← e8]; exact h3

/-- The reference runs and leaves its arguments and every counter as they were. -/
theorem ref_frame : Cert.quiescent_UDownRefIdeal := by
  intro m g _
  exact (θ_run _ _ _).mono (fun r h => ⟨fun c => (h c).2.2.2.2, sem_eq_zero_of_no_sems (by decide) r.2⟩) (UDownRefIdeal.Hand.run_math m g)

end Cert.UDownIdeal.Hand

end
-- ==== Proof.lean ====
/- The claims of this certificate, put together: the gated short convolution's gradient, attention with its gradient, the products, and the optimiser's steps. -/
module

public import proofs.«01_k».proof.Proof.Gen.Conv.Frame
public import proofs.«01_k».proof.Proof.ConvClaim
public import proofs.«01_k».proof.Proof.Gen.Attn.Frame
public import proofs.«01_k».proof.Proof.AttnClaim
public import proofs.«01_k».proof.Proof.Gen.DAct.Frame
public import proofs.«01_k».proof.Proof.DActProd
public import proofs.«01_k».proof.Proof.Gen.DH2.Frame
public import proofs.«01_k».proof.Proof.DH2Prod
public import proofs.«01_k».proof.Proof.Gen.DMix.Frame
public import proofs.«01_k».proof.Proof.DMixProd
public import proofs.«01_k».proof.Proof.Gen.DA.Frame
public import proofs.«01_k».proof.Proof.DAProd
public import proofs.«01_k».proof.Proof.Gen.DO.Frame
public import proofs.«01_k».proof.Proof.DOProd
public import proofs.«01_k».proof.Proof.Gen.DH.Frame
public import proofs.«01_k».proof.Proof.DHProd
public import proofs.«01_k».proof.Proof.Gen.In.Frame
public import proofs.«01_k».proof.Proof.InProd
public import proofs.«01_k».proof.Proof.Gen.OutConv.Frame
public import proofs.«01_k».proof.Proof.OutConvProd
public import proofs.«01_k».proof.Proof.Gen.OutAttn.Frame
public import proofs.«01_k».proof.Proof.OutAttnProd
public import proofs.«01_k».proof.Proof.Gen.Merge.Frame
public import proofs.«01_k».proof.Proof.MergeProd
public import proofs.«01_k».proof.Proof.Gen.Up.Frame
public import proofs.«01_k».proof.Proof.UpProd
public import proofs.«01_k».proof.Proof.Gen.Down.Frame
public import proofs.«01_k».proof.Proof.DownProd
public import proofs.«01_k».proof.Proof.GUpSendProd
public import proofs.«01_k».proof.Proof.GUpKeepProd
public import proofs.«01_k».proof.Proof.GDownSendProd
public import proofs.«01_k».proof.Proof.GDownKeepProd
public import proofs.«01_k».proof.Proof.GOutConvSendProd
public import proofs.«01_k».proof.Proof.GOutConvKeepProd
public import proofs.«01_k».proof.Proof.GOutAttnSendProd
public import proofs.«01_k».proof.Proof.GOutAttnKeepProd
public import proofs.«01_k».proof.Proof.GMergeSendProd
public import proofs.«01_k».proof.Proof.GMergeKeepProd
public import proofs.«01_k».proof.Proof.GInSendProd
public import proofs.«01_k».proof.Proof.GInKeepProd
public import proofs.«01_k».proof.Proof.Gen.Small.Frame
public import proofs.«01_k».proof.Proof.SmallClaim
public import proofs.«01_k».proof.Proof.UUpStep
public import proofs.«01_k».proof.Proof.UInStep
public import proofs.«01_k».proof.Proof.UMergeStep
public import proofs.«01_k».proof.Proof.UOutConvStep
public import proofs.«01_k».proof.Proof.UOutAttnStep
public import proofs.«01_k».proof.Proof.UDownStep
public import Idealize.ShloMosaic.Adequacy
public import Idealize.ShloMosaic.Init

@[expose] public section

noncomputable section

namespace Cert.Proof

open Idealize.ShloMosaic Idealize.SL.Sem Cert.Conv

/-- All claims of this certificate. -/
theorem claim : Cert.Claim := ⟨Cert.Conv.Gen.facts, Cert.ConvIdeal.Gen.facts, Cert.ConvRefIdeal.Gen.facts,
  Cert.Attn.Gen.facts, Cert.AttnIdeal.Gen.facts, Cert.AttnRefIdeal.Gen.facts,
  Cert.DAct.Gen.facts, Cert.DActIdeal.Gen.facts, Cert.DActRefIdeal.Gen.facts,
  Cert.DH2.Gen.facts, Cert.DH2Ideal.Gen.facts, Cert.DH2RefIdeal.Gen.facts,
  Cert.DMix.Gen.facts, Cert.DMixIdeal.Gen.facts, Cert.DMixRefIdeal.Gen.facts,
  Cert.DA.Gen.facts, Cert.DAIdeal.Gen.facts, Cert.DARefIdeal.Gen.facts,
  Cert.DO.Gen.facts, Cert.DOIdeal.Gen.facts, Cert.DORefIdeal.Gen.facts,
  Cert.DH.Gen.facts, Cert.DHIdeal.Gen.facts, Cert.DHRefIdeal.Gen.facts,
  Cert.In.Gen.facts, Cert.InIdeal.Gen.facts, Cert.InRefIdeal.Gen.facts,
  Cert.OutConv.Gen.facts, Cert.OutConvIdeal.Gen.facts, Cert.OutConvRefIdeal.Gen.facts,
  Cert.OutAttn.Gen.facts, Cert.OutAttnIdeal.Gen.facts, Cert.OutAttnRefIdeal.Gen.facts,
  Cert.Merge.Gen.facts, Cert.MergeIdeal.Gen.facts, Cert.MergeRefIdeal.Gen.facts,
  Cert.Up.Gen.facts, Cert.UpIdeal.Gen.facts, Cert.UpRefIdeal.Gen.facts,
  Cert.Down.Gen.facts, Cert.DownIdeal.Gen.facts, Cert.DownRefIdeal.Gen.facts,
  Cert.GUpSend.Gen.facts, Cert.GUpSendIdeal.Gen.facts, Cert.GUpSendRefIdeal.Gen.facts,
  Cert.GUpKeep.Gen.facts, Cert.GUpKeepIdeal.Gen.facts, Cert.GUpKeepRefIdeal.Gen.facts,
  Cert.GDownSend.Gen.facts, Cert.GDownSendIdeal.Gen.facts, Cert.GDownSendRefIdeal.Gen.facts,
  Cert.GDownKeep.Gen.facts, Cert.GDownKeepIdeal.Gen.facts, Cert.GDownKeepRefIdeal.Gen.facts,
  Cert.GOutConvSend.Gen.facts, Cert.GOutConvSendIdeal.Gen.facts, Cert.GOutConvSendRefIdeal.Gen.facts,
  Cert.GOutConvKeep.Gen.facts, Cert.GOutConvKeepIdeal.Gen.facts, Cert.GOutConvKeepRefIdeal.Gen.facts,
  Cert.GOutAttnSend.Gen.facts, Cert.GOutAttnSendIdeal.Gen.facts, Cert.GOutAttnSendRefIdeal.Gen.facts,
  Cert.GOutAttnKeep.Gen.facts, Cert.GOutAttnKeepIdeal.Gen.facts, Cert.GOutAttnKeepRefIdeal.Gen.facts,
  Cert.GMergeSend.Gen.facts, Cert.GMergeSendIdeal.Gen.facts, Cert.GMergeSendRefIdeal.Gen.facts,
  Cert.GMergeKeep.Gen.facts, Cert.GMergeKeepIdeal.Gen.facts, Cert.GMergeKeepRefIdeal.Gen.facts,
  Cert.GInSend.Gen.facts, Cert.GInSendIdeal.Gen.facts, Cert.GInSendRefIdeal.Gen.facts,
  Cert.GInKeep.Gen.facts, Cert.GInKeepIdeal.Gen.facts, Cert.GInKeepRefIdeal.Gen.facts,
  Cert.Small.Gen.facts, Cert.SmallIdeal.Gen.facts, Cert.SmallRefIdeal.Gen.facts,
  Cert.UUp.Gen.facts, Cert.UUpIdeal.Gen.facts, Cert.UUpRefIdeal.Gen.facts,
  Cert.UIn.Gen.facts, Cert.UInIdeal.Gen.facts, Cert.UInRefIdeal.Gen.facts,
  Cert.UMerge.Gen.facts, Cert.UMergeIdeal.Gen.facts, Cert.UMergeRefIdeal.Gen.facts,
  Cert.UOutConv.Gen.facts, Cert.UOutConvIdeal.Gen.facts, Cert.UOutConvRefIdeal.Gen.facts,
  Cert.UOutAttn.Gen.facts, Cert.UOutAttnIdeal.Gen.facts, Cert.UOutAttnRefIdeal.Gen.facts,
  Cert.UDown.Gen.facts, Cert.UDownIdeal.Gen.facts, Cert.UDownRefIdeal.Gen.facts,
  Cert.Pre_attn_finite.Gen.facts,
  fun m ρ _ => Cert.Conv.Gen.frame m ρ, fun m ρ _ => Cert.ConvIdeal.Gen.frame m ρ, Cert.ConvIdeal.Hand.ref_frame,
  fun m ρ _ => Cert.Attn.Gen.frame m ρ, fun m ρ _ => Cert.AttnIdeal.Gen.frame m ρ, fun m ρ _ => Cert.AttnIdeal.Gen.frame m ρ,
  Cert.AttnIdeal.Hand.ref_frame, Cert.AttnIdeal.Hand.ref_frame_pre,
  fun m ρ _ => Cert.DAct.Gen.frame m ρ, fun m ρ _ => Cert.DActIdeal.Gen.frame m ρ, Cert.DActIdeal.Hand.ref_frame,
  fun m ρ _ => Cert.DH2.Gen.frame m ρ, fun m ρ _ => Cert.DH2Ideal.Gen.frame m ρ, Cert.DH2Ideal.Hand.ref_frame,
  fun m ρ _ => Cert.DMix.Gen.frame m ρ, fun m ρ _ => Cert.DMixIdeal.Gen.frame m ρ, Cert.DMixIdeal.Hand.ref_frame,
  fun m ρ _ => Cert.DA.Gen.frame m ρ, fun m ρ _ => Cert.DAIdeal.Gen.frame m ρ, Cert.DAIdeal.Hand.ref_frame,
  fun m ρ _ => Cert.DO.Gen.frame m ρ, fun m ρ _ => Cert.DOIdeal.Gen.frame m ρ, Cert.DOIdeal.Hand.ref_frame,
  fun m ρ _ => Cert.DH.Gen.frame m ρ, fun m ρ _ => Cert.DHIdeal.Gen.frame m ρ, Cert.DHIdeal.Hand.ref_frame,
  fun m ρ _ => Cert.In.Gen.frame m ρ, fun m ρ _ => Cert.InIdeal.Gen.frame m ρ, Cert.InIdeal.Hand.ref_frame,
  fun m ρ _ => Cert.OutConv.Gen.frame m ρ, fun m ρ _ => Cert.OutConvIdeal.Gen.frame m ρ, Cert.OutConvIdeal.Hand.ref_frame,
  fun m ρ _ => Cert.OutAttn.Gen.frame m ρ, fun m ρ _ => Cert.OutAttnIdeal.Gen.frame m ρ, Cert.OutAttnIdeal.Hand.ref_frame,
  fun m ρ _ => Cert.Merge.Gen.frame m ρ, fun m ρ _ => Cert.MergeIdeal.Gen.frame m ρ, Cert.MergeIdeal.Hand.ref_frame,
  fun m ρ _ => Cert.Up.Gen.frame m ρ, fun m ρ _ => Cert.UpIdeal.Gen.frame m ρ, Cert.UpIdeal.Hand.ref_frame,
  fun m ρ _ => Cert.Down.Gen.frame m ρ, fun m ρ _ => Cert.DownIdeal.Gen.frame m ρ, Cert.DownIdeal.Hand.ref_frame,
  fun m ρ _ => Cert.GUpSend.Gen.frame m ρ (Cert.GUpSend.Hand.ok m), fun m ρ _ => Cert.GUpSendIdeal.Gen.frame m ρ (Cert.GUpSendIdeal.Hand.ok m), Cert.GUpSendIdeal.Hand.ref_frame,
  fun m ρ _ => Cert.GUpKeep.Gen.frame m ρ (Cert.GUpKeep.Hand.ok m), fun m ρ _ => Cert.GUpKeepIdeal.Gen.frame m ρ (Cert.GUpKeepIdeal.Hand.ok m), Cert.GUpKeepIdeal.Hand.ref_frame,
  fun m ρ _ => Cert.GDownSend.Gen.frame m ρ (Cert.GDownSend.Hand.ok m), fun m ρ _ => Cert.GDownSendIdeal.Gen.frame m ρ (Cert.GDownSendIdeal.Hand.ok m), Cert.GDownSendIdeal.Hand.ref_frame,
  fun m ρ _ => Cert.GDownKeep.Gen.frame m ρ (Cert.GDownKeep.Hand.ok m), fun m ρ _ => Cert.GDownKeepIdeal.Gen.frame m ρ (Cert.GDownKeepIdeal.Hand.ok m), Cert.GDownKeepIdeal.Hand.ref_frame,
  fun m ρ _ => Cert.GOutConvSend.Gen.frame m ρ (Cert.GOutConvSend.Hand.ok m), fun m ρ _ => Cert.GOutConvSendIdeal.Gen.frame m ρ (Cert.GOutConvSendIdeal.Hand.ok m), Cert.GOutConvSendIdeal.Hand.ref_frame,
  fun m ρ _ => Cert.GOutConvKeep.Gen.frame m ρ (Cert.GOutConvKeep.Hand.ok m), fun m ρ _ => Cert.GOutConvKeepIdeal.Gen.frame m ρ (Cert.GOutConvKeepIdeal.Hand.ok m), Cert.GOutConvKeepIdeal.Hand.ref_frame,
  fun m ρ _ => Cert.GOutAttnSend.Gen.frame m ρ (Cert.GOutAttnSend.Hand.ok m), fun m ρ _ => Cert.GOutAttnSendIdeal.Gen.frame m ρ (Cert.GOutAttnSendIdeal.Hand.ok m), Cert.GOutAttnSendIdeal.Hand.ref_frame,
  fun m ρ _ => Cert.GOutAttnKeep.Gen.frame m ρ (Cert.GOutAttnKeep.Hand.ok m), fun m ρ _ => Cert.GOutAttnKeepIdeal.Gen.frame m ρ (Cert.GOutAttnKeepIdeal.Hand.ok m), Cert.GOutAttnKeepIdeal.Hand.ref_frame,
  fun m ρ _ => Cert.GMergeSend.Gen.frame m ρ (Cert.GMergeSend.Hand.ok m), fun m ρ _ => Cert.GMergeSendIdeal.Gen.frame m ρ (Cert.GMergeSendIdeal.Hand.ok m), Cert.GMergeSendIdeal.Hand.ref_frame,
  fun m ρ _ => Cert.GMergeKeep.Gen.frame m ρ (Cert.GMergeKeep.Hand.ok m), fun m ρ _ => Cert.GMergeKeepIdeal.Gen.frame m ρ (Cert.GMergeKeepIdeal.Hand.ok m), Cert.GMergeKeepIdeal.Hand.ref_frame,
  fun m ρ _ => Cert.GInSend.Gen.frame m ρ (Cert.GInSend.Hand.ok m), fun m ρ _ => Cert.GInSendIdeal.Gen.frame m ρ (Cert.GInSendIdeal.Hand.ok m), Cert.GInSendIdeal.Hand.ref_frame,
  fun m ρ _ => Cert.GInKeep.Gen.frame m ρ (Cert.GInKeep.Hand.ok m), fun m ρ _ => Cert.GInKeepIdeal.Gen.frame m ρ (Cert.GInKeepIdeal.Hand.ok m), Cert.GInKeepIdeal.Hand.ref_frame,
  fun m ρ _ => Cert.Small.Gen.frame m ρ, fun m ρ _ => Cert.SmallIdeal.Gen.frame m ρ, Cert.SmallIdeal.Hand.ref_frame,
  fun m ρ _ => Cert.UUp.Gen.frame m ρ (Cert.UUp.Hand.ok m), fun m ρ _ => Cert.UUpIdeal.Gen.frame m ρ (Cert.UUpIdeal.Hand.ok m), Cert.UUpIdeal.Hand.ref_frame,
  fun m ρ _ => Cert.UIn.Gen.frame m ρ (Cert.UIn.Hand.ok m), fun m ρ _ => Cert.UInIdeal.Gen.frame m ρ (Cert.UInIdeal.Hand.ok m), Cert.UInIdeal.Hand.ref_frame,
  fun m ρ _ => Cert.UMerge.Gen.frame m ρ (Cert.UMerge.Hand.ok m), fun m ρ _ => Cert.UMergeIdeal.Gen.frame m ρ (Cert.UMergeIdeal.Hand.ok m), Cert.UMergeIdeal.Hand.ref_frame,
  fun m ρ _ => Cert.UOutConv.Gen.frame m ρ (Cert.UOutConv.Hand.ok m), fun m ρ _ => Cert.UOutConvIdeal.Gen.frame m ρ (Cert.UOutConvIdeal.Hand.ok m), Cert.UOutConvIdeal.Hand.ref_frame,
  fun m ρ _ => Cert.UOutAttn.Gen.frame m ρ (Cert.UOutAttn.Hand.ok m), fun m ρ _ => Cert.UOutAttnIdeal.Gen.frame m ρ (Cert.UOutAttnIdeal.Hand.ok m), Cert.UOutAttnIdeal.Hand.ref_frame,
  fun m ρ _ => Cert.UDown.Gen.frame m ρ (Cert.UDown.Hand.ok m), fun m ρ _ => Cert.UDownIdeal.Gen.frame m ρ (Cert.UDownIdeal.Hand.ok m), Cert.UDownIdeal.Hand.ref_frame,
  trivial, Cert.ConvIdeal.Hand.algebraic, Cert.AttnIdeal.Hand.preserves, Cert.AttnIdeal.Hand.algebraic,
  trivial, Cert.DActIdeal.Hand.algebraic,
  trivial, Cert.DH2Ideal.Hand.algebraic,
  trivial, Cert.DMixIdeal.Hand.algebraic,
  trivial, Cert.DAIdeal.Hand.algebraic,
  trivial, Cert.DOIdeal.Hand.algebraic,
  trivial, Cert.DHIdeal.Hand.algebraic,
  trivial, Cert.InIdeal.Hand.algebraic,
  trivial, Cert.OutConvIdeal.Hand.algebraic,
  trivial, Cert.OutAttnIdeal.Hand.algebraic,
  trivial, Cert.MergeIdeal.Hand.algebraic,
  trivial, Cert.UpIdeal.Hand.algebraic,
  trivial, Cert.DownIdeal.Hand.algebraic,
  trivial, Cert.GUpSendIdeal.Hand.algebraic,
  trivial, Cert.GUpKeepIdeal.Hand.algebraic,
  trivial, Cert.GDownSendIdeal.Hand.algebraic,
  trivial, Cert.GDownKeepIdeal.Hand.algebraic,
  trivial, Cert.GOutConvSendIdeal.Hand.algebraic,
  trivial, Cert.GOutConvKeepIdeal.Hand.algebraic,
  trivial, Cert.GOutAttnSendIdeal.Hand.algebraic,
  trivial, Cert.GOutAttnKeepIdeal.Hand.algebraic,
  trivial, Cert.GMergeSendIdeal.Hand.algebraic,
  trivial, Cert.GMergeKeepIdeal.Hand.algebraic,
  trivial, Cert.GInSendIdeal.Hand.algebraic,
  trivial, Cert.GInKeepIdeal.Hand.algebraic,
  trivial, Cert.SmallIdeal.Hand.algebraic,
  trivial, Cert.UUpIdeal.Hand.algebraic,
  trivial, Cert.UInIdeal.Hand.algebraic,
  trivial, Cert.UMergeIdeal.Hand.algebraic,
  trivial, Cert.UOutConvIdeal.Hand.algebraic,
  trivial, Cert.UOutAttnIdeal.Hand.algebraic,
  trivial, Cert.UDownIdeal.Hand.algebraic⟩

end Cert.Proof

end
